-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenReferenceIdeal (m : (ℓ : Loc Cert.HiddenReferenceIdeal.nD Cert.HiddenReferenceIdeal.τ Cert.HiddenReferenceIdeal.sig) → Buf (Elt Ideal) ℓ) : Prop :=
  True

def Pre_MlpOut (m : (ℓ : Loc Cert.MlpOut.nD Cert.MlpOut.τ Cert.MlpOut.sig) → Buf (Elt Bits) ℓ) : Prop :=
  True

def Pre_MlpOutIdeal (m : (ℓ : Loc Cert.MlpOutIdeal.nD Cert.MlpOutIdeal.τ Cert.MlpOutIdeal.sig) → Buf (Elt Ideal) ℓ) : Prop :=
  True

def Pre_MlpOutReferenceIdeal (m : (ℓ : Loc Cert.MlpOutReferenceIdeal.nD Cert.MlpOutReferenceIdeal.τ Cert.MlpOutReferenceIdeal.sig) → Buf (Elt Ideal) ℓ) : Prop :=
  True

def Pre_MlpDx (m : (ℓ : Loc Cert.MlpDx.nD Cert.MlpDx.τ Cert.MlpDx.sig) → Buf (Elt Bits) ℓ) : Prop :=
  True

def Pre_MlpDxIdeal (m : (ℓ : Loc Cert.MlpDxIdeal.nD Cert.MlpDxIdeal.τ Cert.MlpDxIdeal.sig) → Buf (Elt Ideal) ℓ) : Prop :=
  True

def Pre_MlpDxReferenceIdeal (m : (ℓ : Loc Cert.MlpDxReferenceIdeal.nD Cert.MlpDxReferenceIdeal.τ Cert.MlpDxReferenceIdeal.sig) → Buf (Elt Ideal) ℓ) : Prop :=
  True

def Pre_GradW (m : (ℓ : Loc Cert.GradW.nD Cert.GradW.τ Cert.GradW.sig) → Buf (Elt Bits) ℓ) : Prop :=
  True

def Pre_GradWIdeal (m : (ℓ : Loc Cert.GradWIdeal.nD Cert.GradWIdeal.τ Cert.GradWIdeal.sig) → Buf (Elt Ideal) ℓ) : Prop :=
  True

def Pre_GradWReferenceIdeal (m : (ℓ : Loc Cert.GradWReferenceIdeal.nD Cert.GradWReferenceIdeal.τ Cert.GradWReferenceIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXReferenceIdeal (m : (ℓ : Loc Cert.GradXReferenceIdeal.nD Cert.GradXReferenceIdeal.τ Cert.GradXReferenceIdeal.sig) → Buf (Elt Ideal) ℓ) : Prop :=
  True

def Pre_InStep (m : (ℓ : Loc Cert.InStep.nD Cert.InStep.τ Cert.InStep.sig) → Buf (Elt Bits) ℓ) : Prop :=
  True

def Pre_InStepIdeal (m : (ℓ : Loc Cert.InStepIdeal.nD Cert.InStepIdeal.τ Cert.InStepIdeal.sig) → Buf (Elt Ideal) ℓ) : Prop :=
  True

def Pre_InStepReferenceIdeal (m : (ℓ : Loc Cert.InStepReferenceIdeal.nD Cert.InStepReferenceIdeal.τ Cert.InStepReferenceIdeal.sig) → Buf (Elt Ideal) ℓ) : Prop :=
  True

def Pre_MixDy (m : (ℓ : Loc Cert.MixDy.nD Cert.MixDy.τ Cert.MixDy.sig) → Buf (Elt Bits) ℓ) : Prop :=
  True

def Pre_MixDyIdeal (m : (ℓ : Loc Cert.MixDyIdeal.nD Cert.MixDyIdeal.τ Cert.MixDyIdeal.sig) → Buf (Elt Ideal) ℓ) : Prop :=
  True

def Pre_MixDyReferenceIdeal (m : (ℓ : Loc Cert.MixDyReferenceIdeal.nD Cert.MixDyReferenceIdeal.τ Cert.MixDyReferenceIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutReferenceIdeal (m : (ℓ : Loc Cert.GradOutReferenceIdeal.nD Cert.GradOutReferenceIdeal.τ Cert.GradOutReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_AdamW1 (m : (ℓ : Loc Cert.AdamW1.nD Cert.AdamW1.τ Cert.AdamW1.sig) → Buf (Elt Bits) ℓ) : Prop :=
  True

def Pre_AdamW1Ideal (m : (ℓ : Loc Cert.AdamW1Ideal.nD Cert.AdamW1Ideal.τ Cert.AdamW1Ideal.sig) → Buf (Elt Ideal) ℓ) : Prop :=
  True

def Pre_AdamW1ReferenceIdeal (m : (ℓ : Loc Cert.AdamW1ReferenceIdeal.nD Cert.AdamW1ReferenceIdeal.τ Cert.AdamW1ReferenceIdeal.sig) → Buf (Elt Ideal) ℓ) : Prop :=
  True

def Pre_AdamWin (m : (ℓ : Loc Cert.AdamWin.nD Cert.AdamWin.τ Cert.AdamWin.sig) → Buf (Elt Bits) ℓ) : Prop :=
  True

def Pre_AdamWinIdeal (m : (ℓ : Loc Cert.AdamWinIdeal.nD Cert.AdamWinIdeal.τ Cert.AdamWinIdeal.sig) → Buf (Elt Ideal) ℓ) : Prop :=
  True

def Pre_AdamWinReferenceIdeal (m : (ℓ : Loc Cert.AdamWinReferenceIdeal.nD Cert.AdamWinReferenceIdeal.τ Cert.AdamWinReferenceIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolReferenceIdeal (m : (ℓ : Loc Cert.AdamPoolReferenceIdeal.nD Cert.AdamPoolReferenceIdeal.τ Cert.AdamPoolReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2)
      ∧ r.2.mem ((c.tc : Thread Cert.Hidden.nD Cert.Hidden.τ).loc Cert.Hidden.main_arg3) = m ((c.tc : Thread Cert.Hidden.nD Cert.Hidden.τ).loc Cert.Hidden.main_arg3)
      ∧ r.2.mem ((c.tc : Thread Cert.Hidden.nD Cert.Hidden.τ).loc Cert.Hidden.main_arg4) = m ((c.tc : Thread Cert.Hidden.nD Cert.Hidden.τ).loc Cert.Hidden.main_arg4))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3)
      ∧ r.2.mem ((c.tc : Thread Cert.HiddenIdeal.nD Cert.HiddenIdeal.τ).loc Cert.HiddenIdeal.main_arg4) = m ((c.tc : Thread Cert.HiddenIdeal.nD Cert.HiddenIdeal.τ).loc Cert.HiddenIdeal.main_arg4))
      ∧ r.2.sem = fun _ => 0)

def quiescent_HiddenReferenceIdeal [hHiddenReferenceIdeal : Cert.HiddenReferenceIdeal.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1)
      ∧ r.2.mem ((c.tc : Thread Cert.HiddenReferenceIdeal.nD Cert.HiddenReferenceIdeal.τ).loc Cert.HiddenReferenceIdeal.main_arg2) = m ((c.tc : Thread Cert.HiddenReferenceIdeal.nD Cert.HiddenReferenceIdeal.τ).loc Cert.HiddenReferenceIdeal.main_arg2)
      ∧ r.2.mem ((c.tc : Thread Cert.HiddenReferenceIdeal.nD Cert.HiddenReferenceIdeal.τ).loc Cert.HiddenReferenceIdeal.main_arg3) = m ((c.tc : Thread Cert.HiddenReferenceIdeal.nD Cert.HiddenReferenceIdeal.τ).loc Cert.HiddenReferenceIdeal.main_arg3)
      ∧ r.2.mem ((c.tc : Thread Cert.HiddenReferenceIdeal.nD Cert.HiddenReferenceIdeal.τ).loc Cert.HiddenReferenceIdeal.main_arg4) = m ((c.tc : Thread Cert.HiddenReferenceIdeal.nD Cert.HiddenReferenceIdeal.τ).loc Cert.HiddenReferenceIdeal.main_arg4))
      ∧ r.2.sem = fun _ => 0)

def quiescent_MlpOut [hMlpOut : Cert.MlpOut.Facts] : Prop :=
  ∀ (m : (ℓ : Loc Cert.MlpOut.nD Cert.MlpOut.τ Cert.MlpOut.sig) → Buf (Elt Bits) ℓ) (g : Dev Cert.MlpOut.nD → PrngReg), Pre_MlpOut m →
    θ_run (Cert.MlpOut.defs (F := Bits)) (onTc (τ := Cert.MlpOut.τ) (Cert.MlpOut.main (F := Bits))) ⟨m, fun _ => 0, g⟩ (fun r => (∀ c : Dev Cert.MlpOut.nD,
      r.2.mem ((c.tc : Thread Cert.MlpOut.nD Cert.MlpOut.τ).loc Cert.MlpOut.main_arg0) = m ((c.tc : Thread Cert.MlpOut.nD Cert.MlpOut.τ).loc Cert.MlpOut.main_arg0)
      ∧ r.2.mem ((c.tc : Thread Cert.MlpOut.nD Cert.MlpOut.τ).loc Cert.MlpOut.main_arg1) = m ((c.tc : Thread Cert.MlpOut.nD Cert.MlpOut.τ).loc Cert.MlpOut.main_arg1))
      ∧ r.2.sem = fun _ => 0)

def quiescent_MlpOutIdeal [hMlpOutIdeal : Cert.MlpOutIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg), Pre_MlpOutIdeal m →
    θ_run (Cert.MlpOutIdeal.defs (F := Ideal)) (onTc (τ := Cert.MlpOutIdeal.τ) (Cert.MlpOutIdeal.main (F := Ideal))) ⟨m, fun _ => 0, g⟩ (fun r => (∀ c : Dev Cert.MlpOutIdeal.nD,
      r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
      ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1))
      ∧ r.2.sem = fun _ => 0)

def quiescent_MlpOutReferenceIdeal [hMlpOutReferenceIdeal : Cert.MlpOutReferenceIdeal.Facts] : Prop :=
  ∀ (m : (ℓ : Loc Cert.MlpOutReferenceIdeal.nD Cert.MlpOutReferenceIdeal.τ Cert.MlpOutReferenceIdeal.sig) → Buf (Elt Ideal) ℓ) (g : Dev Cert.MlpOutReferenceIdeal.nD → PrngReg), Pre_MlpOutReferenceIdeal m →
    θ_run (Cert.MlpOutReferenceIdeal.defs (F := Ideal)) (onTc (τ := Cert.MlpOutReferenceIdeal.τ) (Cert.MlpOutReferenceIdeal.main (F := Ideal))) ⟨m, fun _ => 0, g⟩ (fun r => (∀ c : Dev Cert.MlpOutReferenceIdeal.nD,
      r.2.mem ((c.tc : Thread Cert.MlpOutReferenceIdeal.nD Cert.MlpOutReferenceIdeal.τ).loc Cert.MlpOutReferenceIdeal.main_arg0) = m ((c.tc : Thread Cert.MlpOutReferenceIdeal.nD Cert.MlpOutReferenceIdeal.τ).loc Cert.MlpOutReferenceIdeal.main_arg0)
      ∧ r.2.mem ((c.tc : Thread Cert.MlpOutReferenceIdeal.nD Cert.MlpOutReferenceIdeal.τ).loc Cert.MlpOutReferenceIdeal.main_arg1) = m ((c.tc : Thread Cert.MlpOutReferenceIdeal.nD Cert.MlpOutReferenceIdeal.τ).loc Cert.MlpOutReferenceIdeal.main_arg1))
      ∧ r.2.sem = fun _ => 0)

def quiescent_MlpDx [hMlpDx : Cert.MlpDx.Facts] : Prop :=
  ∀ (m : (ℓ : Loc Cert.MlpDx.nD Cert.MlpDx.τ Cert.MlpDx.sig) → Buf (Elt Bits) ℓ) (g : Dev Cert.MlpDx.nD → PrngReg), Pre_MlpDx m →
    θ_run (Cert.MlpDx.defs (F := Bits)) (onTc (τ := Cert.MlpDx.τ) (Cert.MlpDx.main (F := Bits))) ⟨m, fun _ => 0, g⟩ (fun r => (∀ c : Dev Cert.MlpDx.nD,
      r.2.mem ((c.tc : Thread Cert.MlpDx.nD Cert.MlpDx.τ).loc Cert.MlpDx.main_arg0) = m ((c.tc : Thread Cert.MlpDx.nD Cert.MlpDx.τ).loc Cert.MlpDx.main_arg0)
      ∧ r.2.mem ((c.tc : Thread Cert.MlpDx.nD Cert.MlpDx.τ).loc Cert.MlpDx.main_arg1) = m ((c.tc : Thread Cert.MlpDx.nD Cert.MlpDx.τ).loc Cert.MlpDx.main_arg1)
      ∧ r.2.mem ((c.tc : Thread Cert.MlpDx.nD Cert.MlpDx.τ).loc Cert.MlpDx.main_arg2) = m ((c.tc : Thread Cert.MlpDx.nD Cert.MlpDx.τ).loc Cert.MlpDx.main_arg2))
      ∧ r.2.sem = fun _ => 0)

def quiescent_MlpDxIdeal [hMlpDxIdeal : Cert.MlpDxIdeal.Facts] : Prop :=
  ∀ (m : (ℓ : Loc Cert.MlpDxIdeal.nD Cert.MlpDxIdeal.τ Cert.MlpDxIdeal.sig) → Buf (Elt Ideal) ℓ) (g : Dev Cert.MlpDxIdeal.nD → PrngReg), Pre_MlpDxIdeal m →
    θ_run (Cert.MlpDxIdeal.defs (F := Ideal)) (onTc (τ := Cert.MlpDxIdeal.τ) (Cert.MlpDxIdeal.main (F := Ideal))) ⟨m, fun _ => 0, g⟩ (fun r => (∀ c : Dev Cert.MlpDxIdeal.nD,
      r.2.mem ((c.tc : Thread Cert.MlpDxIdeal.nD Cert.MlpDxIdeal.τ).loc Cert.MlpDxIdeal.main_arg0) = m ((c.tc : Thread Cert.MlpDxIdeal.nD Cert.MlpDxIdeal.τ).loc Cert.MlpDxIdeal.main_arg0)
      ∧ r.2.mem ((c.tc : Thread Cert.MlpDxIdeal.nD Cert.MlpDxIdeal.τ).loc Cert.MlpDxIdeal.main_arg1) = m ((c.tc : Thread Cert.MlpDxIdeal.nD Cert.MlpDxIdeal.τ).loc Cert.MlpDxIdeal.main_arg1)
      ∧ r.2.mem ((c.tc : Thread Cert.MlpDxIdeal.nD Cert.MlpDxIdeal.τ).loc Cert.MlpDxIdeal.main_arg2) = m ((c.tc : Thread Cert.MlpDxIdeal.nD Cert.MlpDxIdeal.τ).loc Cert.MlpDxIdeal.main_arg2))
      ∧ r.2.sem = fun _ => 0)

def quiescent_MlpDxReferenceIdeal [hMlpDxReferenceIdeal : Cert.MlpDxReferenceIdeal.Facts] : Prop :=
  ∀ (m : (ℓ : Loc Cert.MlpDxReferenceIdeal.nD Cert.MlpDxReferenceIdeal.τ Cert.MlpDxReferenceIdeal.sig) → Buf (Elt Ideal) ℓ) (g : Dev Cert.MlpDxReferenceIdeal.nD → PrngReg), Pre_MlpDxReferenceIdeal m →
    θ_run (Cert.MlpDxReferenceIdeal.defs (F := Ideal)) (onTc (τ := Cert.MlpDxReferenceIdeal.τ) (Cert.MlpDxReferenceIdeal.main (F := Ideal))) ⟨m, fun _ => 0, g⟩ (fun r => (∀ c : Dev Cert.MlpDxReferenceIdeal.nD,
      r.2.mem ((c.tc : Thread Cert.MlpDxReferenceIdeal.nD Cert.MlpDxReferenceIdeal.τ).loc Cert.MlpDxReferenceIdeal.main_arg0) = m ((c.tc : Thread Cert.MlpDxReferenceIdeal.nD Cert.MlpDxReferenceIdeal.τ).loc Cert.MlpDxReferenceIdeal.main_arg0)
      ∧ r.2.mem ((c.tc : Thread Cert.MlpDxReferenceIdeal.nD Cert.MlpDxReferenceIdeal.τ).loc Cert.MlpDxReferenceIdeal.main_arg1) = m ((c.tc : Thread Cert.MlpDxReferenceIdeal.nD Cert.MlpDxReferenceIdeal.τ).loc Cert.MlpDxReferenceIdeal.main_arg1)
      ∧ r.2.mem ((c.tc : Thread Cert.MlpDxReferenceIdeal.nD Cert.MlpDxReferenceIdeal.τ).loc Cert.MlpDxReferenceIdeal.main_arg2) = m ((c.tc : Thread Cert.MlpDxReferenceIdeal.nD Cert.MlpDxReferenceIdeal.τ).loc Cert.MlpDxReferenceIdeal.main_arg2))
      ∧ r.2.sem = fun _ => 0)

def quiescent_GradW [hGradW : Cert.GradW.Facts] : Prop :=
  ∀ (m : (ℓ : Loc Cert.GradW.nD Cert.GradW.τ Cert.GradW.sig) → Buf (Elt Bits) ℓ) (g : Dev Cert.GradW.nD → PrngReg), Pre_GradW m →
    θ_run (Cert.GradW.defs (F := Bits)) (onTc (τ := Cert.GradW.τ) (Cert.GradW.main (F := Bits))) ⟨m, fun _ => 0, g⟩ (fun r => (∀ c : Dev Cert.GradW.nD,
      r.2.mem ((c.tc : Thread Cert.GradW.nD Cert.GradW.τ).loc Cert.GradW.main_arg0) = m ((c.tc : Thread Cert.GradW.nD Cert.GradW.τ).loc Cert.GradW.main_arg0)
      ∧ r.2.mem ((c.tc : Thread Cert.GradW.nD Cert.GradW.τ).loc Cert.GradW.main_arg1) = m ((c.tc : Thread Cert.GradW.nD Cert.GradW.τ).loc Cert.GradW.main_arg1)
      ∧ r.2.mem ((c.tc : Thread Cert.GradW.nD Cert.GradW.τ).loc Cert.GradW.main_arg2) = m ((c.tc : Thread Cert.GradW.nD Cert.GradW.τ).loc Cert.GradW.main_arg2)
      ∧ r.2.mem ((c.tc : Thread Cert.GradW.nD Cert.GradW.τ).loc Cert.GradW.main_arg3) = m ((c.tc : Thread Cert.GradW.nD Cert.GradW.τ).loc Cert.GradW.main_arg3)
      ∧ r.2.mem ((c.tc : Thread Cert.GradW.nD Cert.GradW.τ).loc Cert.GradW.main_arg4) = m ((c.tc : Thread Cert.GradW.nD Cert.GradW.τ).loc Cert.GradW.main_arg4)
      ∧ r.2.mem ((c.tc : Thread Cert.GradW.nD Cert.GradW.τ).loc Cert.GradW.main_arg5) = m ((c.tc : Thread Cert.GradW.nD Cert.GradW.τ).loc Cert.GradW.main_arg5)
      ∧ r.2.mem ((c.tc : Thread Cert.GradW.nD Cert.GradW.τ).loc Cert.GradW.main_arg6) = m ((c.tc : Thread Cert.GradW.nD Cert.GradW.τ).loc Cert.GradW.main_arg6))
      ∧ r.2.sem = fun _ => 0)

def quiescent_GradWIdeal [hGradWIdeal : Cert.GradWIdeal.Facts] : Prop :=
  ∀ (m : (ℓ : Loc Cert.GradWIdeal.nD Cert.GradWIdeal.τ Cert.GradWIdeal.sig) → Buf (Elt Ideal) ℓ) (g : Dev Cert.GradWIdeal.nD → PrngReg), Pre_GradWIdeal m →
    θ_run (Cert.GradWIdeal.defs (F := Ideal)) (onTc (τ := Cert.GradWIdeal.τ) (Cert.GradWIdeal.main (F := Ideal))) ⟨m, fun _ => 0, g⟩ (fun r => (∀ c : Dev Cert.GradWIdeal.nD,
      r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
      ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1)
      ∧ r.2.mem ((c.tc : Thread Cert.GradWIdeal.nD Cert.GradWIdeal.τ).loc Cert.GradWIdeal.main_arg2) = m ((c.tc : Thread Cert.GradWIdeal.nD Cert.GradWIdeal.τ).loc Cert.GradWIdeal.main_arg2)
      ∧ r.2.mem ((c.tc : Thread Cert.GradWIdeal.nD Cert.GradWIdeal.τ).loc Cert.GradWIdeal.main_arg3) = m ((c.tc : Thread Cert.GradWIdeal.nD Cert.GradWIdeal.τ).loc Cert.GradWIdeal.main_arg3)
      ∧ r.2.mem ((c.tc : Thread Cert.GradWIdeal.nD Cert.GradWIdeal.τ).loc Cert.GradWIdeal.main_arg4) = m ((c.tc : Thread Cert.GradWIdeal.nD Cert.GradWIdeal.τ).loc Cert.GradWIdeal.main_arg4)
      ∧ r.2.mem ((c.tc : Thread Cert.GradWIdeal.nD Cert.GradWIdeal.τ).loc Cert.GradWIdeal.main_arg5) = m ((c.tc : Thread Cert.GradWIdeal.nD Cert.GradWIdeal.τ).loc Cert.GradWIdeal.main_arg5)
      ∧ r.2.mem ((c.tc : Thread Cert.GradWIdeal.nD Cert.GradWIdeal.τ).loc Cert.GradWIdeal.main_arg6) = m ((c.tc : Thread Cert.GradWIdeal.nD Cert.GradWIdeal.τ).loc Cert.GradWIdeal.main_arg6))
      ∧ r.2.sem = fun _ => 0)

def quiescent_GradWReferenceIdeal [hGradWReferenceIdeal : Cert.GradWReferenceIdeal.Facts] : Prop :=
  ∀ (m : (ℓ : Loc Cert.GradWReferenceIdeal.nD Cert.GradWReferenceIdeal.τ Cert.GradWReferenceIdeal.sig) → Buf (Elt Ideal) ℓ) (g : Dev Cert.GradWReferenceIdeal.nD → PrngReg), Pre_GradWReferenceIdeal m →
    θ_run (Cert.GradWReferenceIdeal.defs (F := Ideal)) (onTc (τ := Cert.GradWReferenceIdeal.τ) (Cert.GradWReferenceIdeal.main (F := Ideal))) ⟨m, fun _ => 0, g⟩ (fun r => (∀ c : Dev Cert.GradWReferenceIdeal.nD,
      r.2.mem ((c.tc : Thread Cert.GradWReferenceIdeal.nD Cert.GradWReferenceIdeal.τ).loc Cert.GradWReferenceIdeal.main_arg0) = m ((c.tc : Thread Cert.GradWReferenceIdeal.nD Cert.GradWReferenceIdeal.τ).loc Cert.GradWReferenceIdeal.main_arg0)
      ∧ r.2.mem ((c.tc : Thread Cert.GradWReferenceIdeal.nD Cert.GradWReferenceIdeal.τ).loc Cert.GradWReferenceIdeal.main_arg1) = m ((c.tc : Thread Cert.GradWReferenceIdeal.nD Cert.GradWReferenceIdeal.τ).loc Cert.GradWReferenceIdeal.main_arg1)
      ∧ r.2.mem ((c.tc : Thread Cert.GradWReferenceIdeal.nD Cert.GradWReferenceIdeal.τ).loc Cert.GradWReferenceIdeal.main_arg2) = m ((c.tc : Thread Cert.GradWReferenceIdeal.nD Cert.GradWReferenceIdeal.τ).loc Cert.GradWReferenceIdeal.main_arg2)
      ∧ r.2.mem ((c.tc : Thread Cert.GradWReferenceIdeal.nD Cert.GradWReferenceIdeal.τ).loc Cert.GradWReferenceIdeal.main_arg3) = m ((c.tc : Thread Cert.GradWReferenceIdeal.nD Cert.GradWReferenceIdeal.τ).loc Cert.GradWReferenceIdeal.main_arg3)
      ∧ r.2.mem ((c.tc : Thread Cert.GradWReferenceIdeal.nD Cert.GradWReferenceIdeal.τ).loc Cert.GradWReferenceIdeal.main_arg4) = m ((c.tc : Thread Cert.GradWReferenceIdeal.nD Cert.GradWReferenceIdeal.τ).loc Cert.GradWReferenceIdeal.main_arg4)
      ∧ r.2.mem ((c.tc : Thread Cert.GradWReferenceIdeal.nD Cert.GradWReferenceIdeal.τ).loc Cert.GradWReferenceIdeal.main_arg5) = m ((c.tc : Thread Cert.GradWReferenceIdeal.nD Cert.GradWReferenceIdeal.τ).loc Cert.GradWReferenceIdeal.main_arg5)
      ∧ r.2.mem ((c.tc : Thread Cert.GradWReferenceIdeal.nD Cert.GradWReferenceIdeal.τ).loc Cert.GradWReferenceIdeal.main_arg6) = m ((c.tc : Thread Cert.GradWReferenceIdeal.nD Cert.GradWReferenceIdeal.τ).loc Cert.GradWReferenceIdeal.main_arg6))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3)
      ∧ r.2.mem ((c.tc : Thread Cert.GradX.nD Cert.GradX.τ).loc Cert.GradX.main_arg4) = m ((c.tc : Thread Cert.GradX.nD Cert.GradX.τ).loc Cert.GradX.main_arg4)
      ∧ r.2.mem ((c.tc : Thread Cert.GradX.nD Cert.GradX.τ).loc Cert.GradX.main_arg5) = m ((c.tc : Thread Cert.GradX.nD Cert.GradX.τ).loc Cert.GradX.main_arg5)
      ∧ r.2.mem ((c.tc : Thread Cert.GradX.nD Cert.GradX.τ).loc Cert.GradX.main_arg6) = m ((c.tc : Thread Cert.GradX.nD Cert.GradX.τ).loc Cert.GradX.main_arg6)
      ∧ r.2.mem ((c.tc : Thread Cert.GradX.nD Cert.GradX.τ).loc Cert.GradX.main_arg7) = m ((c.tc : Thread Cert.GradX.nD Cert.GradX.τ).loc Cert.GradX.main_arg7)
      ∧ r.2.mem ((c.tc : Thread Cert.GradX.nD Cert.GradX.τ).loc Cert.GradX.main_arg8) = m ((c.tc : Thread Cert.GradX.nD Cert.GradX.τ).loc Cert.GradX.main_arg8))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
      ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4)
      ∧ r.2.mem ((c.tc : Thread Cert.GradXIdeal.nD Cert.GradXIdeal.τ).loc Cert.GradXIdeal.main_arg5) = m ((c.tc : Thread Cert.GradXIdeal.nD Cert.GradXIdeal.τ).loc Cert.GradXIdeal.main_arg5)
      ∧ r.2.mem ((c.tc : Thread Cert.GradXIdeal.nD Cert.GradXIdeal.τ).loc Cert.GradXIdeal.main_arg6) = m ((c.tc : Thread Cert.GradXIdeal.nD Cert.GradXIdeal.τ).loc Cert.GradXIdeal.main_arg6)
      ∧ r.2.mem ((c.tc : Thread Cert.GradXIdeal.nD Cert.GradXIdeal.τ).loc Cert.GradXIdeal.main_arg7) = m ((c.tc : Thread Cert.GradXIdeal.nD Cert.GradXIdeal.τ).loc Cert.GradXIdeal.main_arg7)
      ∧ r.2.mem ((c.tc : Thread Cert.GradXIdeal.nD Cert.GradXIdeal.τ).loc Cert.GradXIdeal.main_arg8) = m ((c.tc : Thread Cert.GradXIdeal.nD Cert.GradXIdeal.τ).loc Cert.GradXIdeal.main_arg8))
      ∧ r.2.sem = fun _ => 0)

def quiescent_GradXReferenceIdeal [hGradXReferenceIdeal : Cert.GradXReferenceIdeal.Facts] : Prop :=
  ∀ (m : (ℓ : Loc Cert.GradXReferenceIdeal.nD Cert.GradXReferenceIdeal.τ Cert.GradXReferenceIdeal.sig) → Buf (Elt Ideal) ℓ) (g : Dev Cert.GradXReferenceIdeal.nD → PrngReg), Pre_GradXReferenceIdeal m →
    θ_run (Cert.GradXReferenceIdeal.defs (F := Ideal)) (onTc (τ := Cert.GradXReferenceIdeal.τ) (Cert.GradXReferenceIdeal.main (F := Ideal))) ⟨m, fun _ => 0, g⟩ (fun r => (∀ c : Dev Cert.GradXReferenceIdeal.nD,
      r.2.mem ((c.tc : Thread Cert.GradXReferenceIdeal.nD Cert.GradXReferenceIdeal.τ).loc Cert.GradXReferenceIdeal.main_arg0) = m ((c.tc : Thread Cert.GradXReferenceIdeal.nD Cert.GradXReferenceIdeal.τ).loc Cert.GradXReferenceIdeal.main_arg0)
      ∧ r.2.mem ((c.tc : Thread Cert.GradXReferenceIdeal.nD Cert.GradXReferenceIdeal.τ).loc Cert.GradXReferenceIdeal.main_arg1) = m ((c.tc : Thread Cert.GradXReferenceIdeal.nD Cert.GradXReferenceIdeal.τ).loc Cert.GradXReferenceIdeal.main_arg1)
      ∧ r.2.mem ((c.tc : Thread Cert.GradXReferenceIdeal.nD Cert.GradXReferenceIdeal.τ).loc Cert.GradXReferenceIdeal.main_arg2) = m ((c.tc : Thread Cert.GradXReferenceIdeal.nD Cert.GradXReferenceIdeal.τ).loc Cert.GradXReferenceIdeal.main_arg2)
      ∧ r.2.mem ((c.tc : Thread Cert.GradXReferenceIdeal.nD Cert.GradXReferenceIdeal.τ).loc Cert.GradXReferenceIdeal.main_arg3) = m ((c.tc : Thread Cert.GradXReferenceIdeal.nD Cert.GradXReferenceIdeal.τ).loc Cert.GradXReferenceIdeal.main_arg3)
      ∧ r.2.mem ((c.tc : Thread Cert.GradXReferenceIdeal.nD Cert.GradXReferenceIdeal.τ).loc Cert.GradXReferenceIdeal.main_arg4) = m ((c.tc : Thread Cert.GradXReferenceIdeal.nD Cert.GradXReferenceIdeal.τ).loc Cert.GradXReferenceIdeal.main_arg4)
      ∧ r.2.mem ((c.tc : Thread Cert.GradXReferenceIdeal.nD Cert.GradXReferenceIdeal.τ).loc Cert.GradXReferenceIdeal.main_arg5) = m ((c.tc : Thread Cert.GradXReferenceIdeal.nD Cert.GradXReferenceIdeal.τ).loc Cert.GradXReferenceIdeal.main_arg5)
      ∧ r.2.mem ((c.tc : Thread Cert.GradXReferenceIdeal.nD Cert.GradXReferenceIdeal.τ).loc Cert.GradXReferenceIdeal.main_arg6) = m ((c.tc : Thread Cert.GradXReferenceIdeal.nD Cert.GradXReferenceIdeal.τ).loc Cert.GradXReferenceIdeal.main_arg6)
      ∧ r.2.mem ((c.tc : Thread Cert.GradXReferenceIdeal.nD Cert.GradXReferenceIdeal.τ).loc Cert.GradXReferenceIdeal.main_arg7) = m ((c.tc : Thread Cert.GradXReferenceIdeal.nD Cert.GradXReferenceIdeal.τ).loc Cert.GradXReferenceIdeal.main_arg7)
      ∧ r.2.mem ((c.tc : Thread Cert.GradXReferenceIdeal.nD Cert.GradXReferenceIdeal.τ).loc Cert.GradXReferenceIdeal.main_arg8) = m ((c.tc : Thread Cert.GradXReferenceIdeal.nD Cert.GradXReferenceIdeal.τ).loc Cert.GradXReferenceIdeal.main_arg8))
      ∧ r.2.sem = fun _ => 0)

def quiescent_InStep [hInStep : Cert.InStep.Facts] : Prop :=
  ∀ (m : (ℓ : Loc Cert.InStep.nD Cert.InStep.τ Cert.InStep.sig) → Buf (Elt Bits) ℓ) (g : Dev Cert.InStep.nD → PrngReg), Pre_InStep m →
    θ_run (Cert.InStep.defs (F := Bits)) (onTc (τ := Cert.InStep.τ) (Cert.InStep.main (F := Bits))) ⟨m, fun _ => 0, g⟩ (fun r => (∀ c : Dev Cert.InStep.nD,
      r.2.mem ((c.tc : Thread Cert.InStep.nD Cert.InStep.τ).loc Cert.InStep.main_arg0) = m ((c.tc : Thread Cert.InStep.nD Cert.InStep.τ).loc Cert.InStep.main_arg0)
      ∧ r.2.mem ((c.tc : Thread Cert.InStep.nD Cert.InStep.τ).loc Cert.InStep.main_arg1) = m ((c.tc : Thread Cert.InStep.nD Cert.InStep.τ).loc Cert.InStep.main_arg1)
      ∧ r.2.mem ((c.tc : Thread Cert.InStep.nD Cert.InStep.τ).loc Cert.InStep.main_arg2) = m ((c.tc : Thread Cert.InStep.nD Cert.InStep.τ).loc Cert.InStep.main_arg2)
      ∧ r.2.mem ((c.tc : Thread Cert.InStep.nD Cert.InStep.τ).loc Cert.InStep.main_arg3) = m ((c.tc : Thread Cert.InStep.nD Cert.InStep.τ).loc Cert.InStep.main_arg3)
      ∧ r.2.mem ((c.tc : Thread Cert.InStep.nD Cert.InStep.τ).loc Cert.InStep.main_arg4) = m ((c.tc : Thread Cert.InStep.nD Cert.InStep.τ).loc Cert.InStep.main_arg4)
      ∧ r.2.mem ((c.tc : Thread Cert.InStep.nD Cert.InStep.τ).loc Cert.InStep.main_arg5) = m ((c.tc : Thread Cert.InStep.nD Cert.InStep.τ).loc Cert.InStep.main_arg5)
      ∧ r.2.mem ((c.tc : Thread Cert.InStep.nD Cert.InStep.τ).loc Cert.InStep.main_arg6) = m ((c.tc : Thread Cert.InStep.nD Cert.InStep.τ).loc Cert.InStep.main_arg6))
      ∧ r.2.sem = fun _ => 0)

def quiescent_InStepIdeal [hInStepIdeal : Cert.InStepIdeal.Facts] : Prop :=
  ∀ (m : (ℓ : Loc Cert.InStepIdeal.nD Cert.InStepIdeal.τ Cert.InStepIdeal.sig) → Buf (Elt Ideal) ℓ) (g : Dev Cert.InStepIdeal.nD → PrngReg), Pre_InStepIdeal m →
    θ_run (Cert.InStepIdeal.defs (F := Ideal)) (onTc (τ := Cert.InStepIdeal.τ) (Cert.InStepIdeal.main (F := Ideal))) ⟨m, fun _ => 0, g⟩ (fun r => (∀ c : Dev Cert.InStepIdeal.nD,
      r.2.mem ((c.tc : Thread Cert.InStepIdeal.nD Cert.InStepIdeal.τ).loc Cert.InStepIdeal.main_arg0) = m ((c.tc : Thread Cert.InStepIdeal.nD Cert.InStepIdeal.τ).loc Cert.InStepIdeal.main_arg0)
      ∧ r.2.mem ((c.tc : Thread Cert.InStepIdeal.nD Cert.InStepIdeal.τ).loc Cert.InStepIdeal.main_arg1) = m ((c.tc : Thread Cert.InStepIdeal.nD Cert.InStepIdeal.τ).loc Cert.InStepIdeal.main_arg1)
      ∧ r.2.mem ((c.tc : Thread Cert.InStepIdeal.nD Cert.InStepIdeal.τ).loc Cert.InStepIdeal.main_arg2) = m ((c.tc : Thread Cert.InStepIdeal.nD Cert.InStepIdeal.τ).loc Cert.InStepIdeal.main_arg2)
      ∧ r.2.mem ((c.tc : Thread Cert.InStepIdeal.nD Cert.InStepIdeal.τ).loc Cert.InStepIdeal.main_arg3) = m ((c.tc : Thread Cert.InStepIdeal.nD Cert.InStepIdeal.τ).loc Cert.InStepIdeal.main_arg3)
      ∧ r.2.mem ((c.tc : Thread Cert.InStepIdeal.nD Cert.InStepIdeal.τ).loc Cert.InStepIdeal.main_arg4) = m ((c.tc : Thread Cert.InStepIdeal.nD Cert.InStepIdeal.τ).loc Cert.InStepIdeal.main_arg4)
      ∧ r.2.mem ((c.tc : Thread Cert.InStepIdeal.nD Cert.InStepIdeal.τ).loc Cert.InStepIdeal.main_arg5) = m ((c.tc : Thread Cert.InStepIdeal.nD Cert.InStepIdeal.τ).loc Cert.InStepIdeal.main_arg5)
      ∧ r.2.mem ((c.tc : Thread Cert.InStepIdeal.nD Cert.InStepIdeal.τ).loc Cert.InStepIdeal.main_arg6) = m ((c.tc : Thread Cert.InStepIdeal.nD Cert.InStepIdeal.τ).loc Cert.InStepIdeal.main_arg6))
      ∧ r.2.sem = fun _ => 0)

def quiescent_InStepReferenceIdeal [hInStepReferenceIdeal : Cert.InStepReferenceIdeal.Facts] : Prop :=
  ∀ (m : (ℓ : Loc Cert.InStepReferenceIdeal.nD Cert.InStepReferenceIdeal.τ Cert.InStepReferenceIdeal.sig) → Buf (Elt Ideal) ℓ) (g : Dev Cert.InStepReferenceIdeal.nD → PrngReg), Pre_InStepReferenceIdeal m →
    θ_run (Cert.InStepReferenceIdeal.defs (F := Ideal)) (onTc (τ := Cert.InStepReferenceIdeal.τ) (Cert.InStepReferenceIdeal.main (F := Ideal))) ⟨m, fun _ => 0, g⟩ (fun r => (∀ c : Dev Cert.InStepReferenceIdeal.nD,
      r.2.mem ((c.tc : Thread Cert.InStepReferenceIdeal.nD Cert.InStepReferenceIdeal.τ).loc Cert.InStepReferenceIdeal.main_arg0) = m ((c.tc : Thread Cert.InStepReferenceIdeal.nD Cert.InStepReferenceIdeal.τ).loc Cert.InStepReferenceIdeal.main_arg0)
      ∧ r.2.mem ((c.tc : Thread Cert.InStepReferenceIdeal.nD Cert.InStepReferenceIdeal.τ).loc Cert.InStepReferenceIdeal.main_arg1) = m ((c.tc : Thread Cert.InStepReferenceIdeal.nD Cert.InStepReferenceIdeal.τ).loc Cert.InStepReferenceIdeal.main_arg1)
      ∧ r.2.mem ((c.tc : Thread Cert.InStepReferenceIdeal.nD Cert.InStepReferenceIdeal.τ).loc Cert.InStepReferenceIdeal.main_arg2) = m ((c.tc : Thread Cert.InStepReferenceIdeal.nD Cert.InStepReferenceIdeal.τ).loc Cert.InStepReferenceIdeal.main_arg2)
      ∧ r.2.mem ((c.tc : Thread Cert.InStepReferenceIdeal.nD Cert.InStepReferenceIdeal.τ).loc Cert.InStepReferenceIdeal.main_arg3) = m ((c.tc : Thread Cert.InStepReferenceIdeal.nD Cert.InStepReferenceIdeal.τ).loc Cert.InStepReferenceIdeal.main_arg3)
      ∧ r.2.mem ((c.tc : Thread Cert.InStepReferenceIdeal.nD Cert.InStepReferenceIdeal.τ).loc Cert.InStepReferenceIdeal.main_arg4) = m ((c.tc : Thread Cert.InStepReferenceIdeal.nD Cert.InStepReferenceIdeal.τ).loc Cert.InStepReferenceIdeal.main_arg4)
      ∧ r.2.mem ((c.tc : Thread Cert.InStepReferenceIdeal.nD Cert.InStepReferenceIdeal.τ).loc Cert.InStepReferenceIdeal.main_arg5) = m ((c.tc : Thread Cert.InStepReferenceIdeal.nD Cert.InStepReferenceIdeal.τ).loc Cert.InStepReferenceIdeal.main_arg5)
      ∧ r.2.mem ((c.tc : Thread Cert.InStepReferenceIdeal.nD Cert.InStepReferenceIdeal.τ).loc Cert.InStepReferenceIdeal.main_arg6) = m ((c.tc : Thread Cert.InStepReferenceIdeal.nD Cert.InStepReferenceIdeal.τ).loc Cert.InStepReferenceIdeal.main_arg6))
      ∧ r.2.sem = fun _ => 0)

def quiescent_MixDy [hMixDy : Cert.MixDy.Facts] : Prop :=
  ∀ (m : (ℓ : Loc Cert.MixDy.nD Cert.MixDy.τ Cert.MixDy.sig) → Buf (Elt Bits) ℓ) (g : Dev Cert.MixDy.nD → PrngReg), Pre_MixDy m →
    θ_run (Cert.MixDy.defs (F := Bits)) (onTc (τ := Cert.MixDy.τ) (Cert.MixDy.main (F := Bits))) ⟨m, fun _ => 0, g⟩ (fun r => (∀ c : Dev Cert.MixDy.nD,
      r.2.mem ((c.tc : Thread Cert.MixDy.nD Cert.MixDy.τ).loc Cert.MixDy.main_arg0) = m ((c.tc : Thread Cert.MixDy.nD Cert.MixDy.τ).loc Cert.MixDy.main_arg0)
      ∧ r.2.mem ((c.tc : Thread Cert.MixDy.nD Cert.MixDy.τ).loc Cert.MixDy.main_arg1) = m ((c.tc : Thread Cert.MixDy.nD Cert.MixDy.τ).loc Cert.MixDy.main_arg1))
      ∧ r.2.sem = fun _ => 0)

def quiescent_MixDyIdeal [hMixDyIdeal : Cert.MixDyIdeal.Facts] : Prop :=
  ∀ (m : (ℓ : Loc Cert.MixDyIdeal.nD Cert.MixDyIdeal.τ Cert.MixDyIdeal.sig) → Buf (Elt Ideal) ℓ) (g : Dev Cert.MixDyIdeal.nD → PrngReg), Pre_MixDyIdeal m →
    θ_run (Cert.MixDyIdeal.defs (F := Ideal)) (onTc (τ := Cert.MixDyIdeal.τ) (Cert.MixDyIdeal.main (F := Ideal))) ⟨m, fun _ => 0, g⟩ (fun r => (∀ c : Dev Cert.MixDyIdeal.nD,
      r.2.mem ((c.tc : Thread Cert.MixDyIdeal.nD Cert.MixDyIdeal.τ).loc Cert.MixDyIdeal.main_arg0) = m ((c.tc : Thread Cert.MixDyIdeal.nD Cert.MixDyIdeal.τ).loc Cert.MixDyIdeal.main_arg0)
      ∧ r.2.mem ((c.tc : Thread Cert.MixDyIdeal.nD Cert.MixDyIdeal.τ).loc Cert.MixDyIdeal.main_arg1) = m ((c.tc : Thread Cert.MixDyIdeal.nD Cert.MixDyIdeal.τ).loc Cert.MixDyIdeal.main_arg1))
      ∧ r.2.sem = fun _ => 0)

def quiescent_MixDyReferenceIdeal [hMixDyReferenceIdeal : Cert.MixDyReferenceIdeal.Facts] : Prop :=
  ∀ (m : (ℓ : Loc Cert.MixDyReferenceIdeal.nD Cert.MixDyReferenceIdeal.τ Cert.MixDyReferenceIdeal.sig) → Buf (Elt Ideal) ℓ) (g : Dev Cert.MixDyReferenceIdeal.nD → PrngReg), Pre_MixDyReferenceIdeal m →
    θ_run (Cert.MixDyReferenceIdeal.defs (F := Ideal)) (onTc (τ := Cert.MixDyReferenceIdeal.τ) (Cert.MixDyReferenceIdeal.main (F := Ideal))) ⟨m, fun _ => 0, g⟩ (fun r => (∀ c : Dev Cert.MixDyReferenceIdeal.nD,
      r.2.mem ((c.tc : Thread Cert.MixDyReferenceIdeal.nD Cert.MixDyReferenceIdeal.τ).loc Cert.MixDyReferenceIdeal.main_arg0) = m ((c.tc : Thread Cert.MixDyReferenceIdeal.nD Cert.MixDyReferenceIdeal.τ).loc Cert.MixDyReferenceIdeal.main_arg0)
      ∧ r.2.mem ((c.tc : Thread Cert.MixDyReferenceIdeal.nD Cert.MixDyReferenceIdeal.τ).loc Cert.MixDyReferenceIdeal.main_arg1) = m ((c.tc : Thread Cert.MixDyReferenceIdeal.nD Cert.MixDyReferenceIdeal.τ).loc Cert.MixDyReferenceIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutReferenceIdeal [hGradOutReferenceIdeal : Cert.GradOutReferenceIdeal.Facts] : Prop :=
  ∀ (m : (ℓ : Loc Cert.GradOutReferenceIdeal.nD Cert.GradOutReferenceIdeal.τ Cert.GradOutReferenceIdeal.sig) → Buf (Elt Ideal) ℓ) (g : Dev Cert.GradOutReferenceIdeal.nD → PrngReg), Pre_GradOutReferenceIdeal m →
    θ_run (Cert.GradOutReferenceIdeal.defs (F := Ideal)) (onTc (τ := Cert.GradOutReferenceIdeal.τ) (Cert.GradOutReferenceIdeal.main (F := Ideal))) ⟨m, fun _ => 0, g⟩ (fun r => (∀ c : Dev Cert.GradOutReferenceIdeal.nD,
      r.2.mem ((c.tc : Thread Cert.GradOutReferenceIdeal.nD Cert.GradOutReferenceIdeal.τ).loc Cert.GradOutReferenceIdeal.main_arg0) = m ((c.tc : Thread Cert.GradOutReferenceIdeal.nD Cert.GradOutReferenceIdeal.τ).loc Cert.GradOutReferenceIdeal.main_arg0)
      ∧ r.2.mem ((c.tc : Thread Cert.GradOutReferenceIdeal.nD Cert.GradOutReferenceIdeal.τ).loc Cert.GradOutReferenceIdeal.main_arg1) = m ((c.tc : Thread Cert.GradOutReferenceIdeal.nD Cert.GradOutReferenceIdeal.τ).loc Cert.GradOutReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_AdamW1 [hAdamW1 : Cert.AdamW1.Facts] : Prop :=
  ∀ (m : (ℓ : Loc Cert.AdamW1.nD Cert.AdamW1.τ Cert.AdamW1.sig) → Buf (Elt Bits) ℓ) (g : Dev Cert.AdamW1.nD → PrngReg), Pre_AdamW1 m →
    θ_run (Cert.AdamW1.defs (F := Bits)) (onTc (τ := Cert.AdamW1.τ) (Cert.AdamW1.main (F := Bits))) ⟨m, fun _ => 0, g⟩ (fun r => (∀ c : Dev Cert.AdamW1.nD,
      r.2.mem ((c.tc : Thread Cert.AdamW1.nD Cert.AdamW1.τ).loc Cert.AdamW1.main_arg0) = m ((c.tc : Thread Cert.AdamW1.nD Cert.AdamW1.τ).loc Cert.AdamW1.main_arg0)
      ∧ r.2.mem ((c.tc : Thread Cert.AdamW1.nD Cert.AdamW1.τ).loc Cert.AdamW1.main_arg1) = m ((c.tc : Thread Cert.AdamW1.nD Cert.AdamW1.τ).loc Cert.AdamW1.main_arg1)
      ∧ r.2.mem ((c.tc : Thread Cert.AdamW1.nD Cert.AdamW1.τ).loc Cert.AdamW1.main_arg2) = m ((c.tc : Thread Cert.AdamW1.nD Cert.AdamW1.τ).loc Cert.AdamW1.main_arg2)
      ∧ r.2.mem ((c.tc : Thread Cert.AdamW1.nD Cert.AdamW1.τ).loc Cert.AdamW1.main_arg3) = m ((c.tc : Thread Cert.AdamW1.nD Cert.AdamW1.τ).loc Cert.AdamW1.main_arg3)
      ∧ r.2.mem ((c.tc : Thread Cert.AdamW1.nD Cert.AdamW1.τ).loc Cert.AdamW1.main_arg4) = m ((c.tc : Thread Cert.AdamW1.nD Cert.AdamW1.τ).loc Cert.AdamW1.main_arg4))
      ∧ r.2.sem = fun _ => 0)

def quiescent_AdamW1Ideal [hAdamW1Ideal : Cert.AdamW1Ideal.Facts] : Prop :=
  ∀ (m : (ℓ : Loc Cert.AdamW1Ideal.nD Cert.AdamW1Ideal.τ Cert.AdamW1Ideal.sig) → Buf (Elt Ideal) ℓ) (g : Dev Cert.AdamW1Ideal.nD → PrngReg), Pre_AdamW1Ideal m →
    θ_run (Cert.AdamW1Ideal.defs (F := Ideal)) (onTc (τ := Cert.AdamW1Ideal.τ) (Cert.AdamW1Ideal.main (F := Ideal))) ⟨m, fun _ => 0, g⟩ (fun r => (∀ c : Dev Cert.AdamW1Ideal.nD,
      r.2.mem ((c.tc : Thread Cert.AdamW1Ideal.nD Cert.AdamW1Ideal.τ).loc Cert.AdamW1Ideal.main_arg0) = m ((c.tc : Thread Cert.AdamW1Ideal.nD Cert.AdamW1Ideal.τ).loc Cert.AdamW1Ideal.main_arg0)
      ∧ r.2.mem ((c.tc : Thread Cert.AdamW1Ideal.nD Cert.AdamW1Ideal.τ).loc Cert.AdamW1Ideal.main_arg1) = m ((c.tc : Thread Cert.AdamW1Ideal.nD Cert.AdamW1Ideal.τ).loc Cert.AdamW1Ideal.main_arg1)
      ∧ r.2.mem ((c.tc : Thread Cert.AdamW1Ideal.nD Cert.AdamW1Ideal.τ).loc Cert.AdamW1Ideal.main_arg2) = m ((c.tc : Thread Cert.AdamW1Ideal.nD Cert.AdamW1Ideal.τ).loc Cert.AdamW1Ideal.main_arg2)
      ∧ r.2.mem ((c.tc : Thread Cert.AdamW1Ideal.nD Cert.AdamW1Ideal.τ).loc Cert.AdamW1Ideal.main_arg3) = m ((c.tc : Thread Cert.AdamW1Ideal.nD Cert.AdamW1Ideal.τ).loc Cert.AdamW1Ideal.main_arg3)
      ∧ r.2.mem ((c.tc : Thread Cert.AdamW1Ideal.nD Cert.AdamW1Ideal.τ).loc Cert.AdamW1Ideal.main_arg4) = m ((c.tc : Thread Cert.AdamW1Ideal.nD Cert.AdamW1Ideal.τ).loc Cert.AdamW1Ideal.main_arg4))
      ∧ r.2.sem = fun _ => 0)

def quiescent_AdamW1ReferenceIdeal [hAdamW1ReferenceIdeal : Cert.AdamW1ReferenceIdeal.Facts] : Prop :=
  ∀ (m : (ℓ : Loc Cert.AdamW1ReferenceIdeal.nD Cert.AdamW1ReferenceIdeal.τ Cert.AdamW1ReferenceIdeal.sig) → Buf (Elt Ideal) ℓ) (g : Dev Cert.AdamW1ReferenceIdeal.nD → PrngReg), Pre_AdamW1ReferenceIdeal m →
    θ_run (Cert.AdamW1ReferenceIdeal.defs (F := Ideal)) (onTc (τ := Cert.AdamW1ReferenceIdeal.τ) (Cert.AdamW1ReferenceIdeal.main (F := Ideal))) ⟨m, fun _ => 0, g⟩ (fun r => (∀ c : Dev Cert.AdamW1ReferenceIdeal.nD,
      r.2.mem ((c.tc : Thread Cert.AdamW1ReferenceIdeal.nD Cert.AdamW1ReferenceIdeal.τ).loc Cert.AdamW1ReferenceIdeal.main_arg0) = m ((c.tc : Thread Cert.AdamW1ReferenceIdeal.nD Cert.AdamW1ReferenceIdeal.τ).loc Cert.AdamW1ReferenceIdeal.main_arg0)
      ∧ r.2.mem ((c.tc : Thread Cert.AdamW1ReferenceIdeal.nD Cert.AdamW1ReferenceIdeal.τ).loc Cert.AdamW1ReferenceIdeal.main_arg1) = m ((c.tc : Thread Cert.AdamW1ReferenceIdeal.nD Cert.AdamW1ReferenceIdeal.τ).loc Cert.AdamW1ReferenceIdeal.main_arg1)
      ∧ r.2.mem ((c.tc : Thread Cert.AdamW1ReferenceIdeal.nD Cert.AdamW1ReferenceIdeal.τ).loc Cert.AdamW1ReferenceIdeal.main_arg2) = m ((c.tc : Thread Cert.AdamW1ReferenceIdeal.nD Cert.AdamW1ReferenceIdeal.τ).loc Cert.AdamW1ReferenceIdeal.main_arg2)
      ∧ r.2.mem ((c.tc : Thread Cert.AdamW1ReferenceIdeal.nD Cert.AdamW1ReferenceIdeal.τ).loc Cert.AdamW1ReferenceIdeal.main_arg3) = m ((c.tc : Thread Cert.AdamW1ReferenceIdeal.nD Cert.AdamW1ReferenceIdeal.τ).loc Cert.AdamW1ReferenceIdeal.main_arg3)
      ∧ r.2.mem ((c.tc : Thread Cert.AdamW1ReferenceIdeal.nD Cert.AdamW1ReferenceIdeal.τ).loc Cert.AdamW1ReferenceIdeal.main_arg4) = m ((c.tc : Thread Cert.AdamW1ReferenceIdeal.nD Cert.AdamW1ReferenceIdeal.τ).loc Cert.AdamW1ReferenceIdeal.main_arg4))
      ∧ r.2.sem = fun _ => 0)

def quiescent_AdamWin [hAdamWin : Cert.AdamWin.Facts] : Prop :=
  ∀ (m : (ℓ : Loc Cert.AdamWin.nD Cert.AdamWin.τ Cert.AdamWin.sig) → Buf (Elt Bits) ℓ) (g : Dev Cert.AdamWin.nD → PrngReg), Pre_AdamWin m →
    θ_run (Cert.AdamWin.defs (F := Bits)) (onTc (τ := Cert.AdamWin.τ) (Cert.AdamWin.main (F := Bits))) ⟨m, fun _ => 0, g⟩ (fun r => (∀ c : Dev Cert.AdamWin.nD,
      r.2.mem ((c.tc : Thread Cert.AdamWin.nD Cert.AdamWin.τ).loc Cert.AdamWin.main_arg0) = m ((c.tc : Thread Cert.AdamWin.nD Cert.AdamWin.τ).loc Cert.AdamWin.main_arg0)
      ∧ r.2.mem ((c.tc : Thread Cert.AdamWin.nD Cert.AdamWin.τ).loc Cert.AdamWin.main_arg1) = m ((c.tc : Thread Cert.AdamWin.nD Cert.AdamWin.τ).loc Cert.AdamWin.main_arg1)
      ∧ r.2.mem ((c.tc : Thread Cert.AdamWin.nD Cert.AdamWin.τ).loc Cert.AdamWin.main_arg2) = m ((c.tc : Thread Cert.AdamWin.nD Cert.AdamWin.τ).loc Cert.AdamWin.main_arg2)
      ∧ r.2.mem ((c.tc : Thread Cert.AdamWin.nD Cert.AdamWin.τ).loc Cert.AdamWin.main_arg3) = m ((c.tc : Thread Cert.AdamWin.nD Cert.AdamWin.τ).loc Cert.AdamWin.main_arg3)
      ∧ r.2.mem ((c.tc : Thread Cert.AdamWin.nD Cert.AdamWin.τ).loc Cert.AdamWin.main_arg4) = m ((c.tc : Thread Cert.AdamWin.nD Cert.AdamWin.τ).loc Cert.AdamWin.main_arg4))
      ∧ r.2.sem = fun _ => 0)

def quiescent_AdamWinIdeal [hAdamWinIdeal : Cert.AdamWinIdeal.Facts] : Prop :=
  ∀ (m : (ℓ : Loc Cert.AdamWinIdeal.nD Cert.AdamWinIdeal.τ Cert.AdamWinIdeal.sig) → Buf (Elt Ideal) ℓ) (g : Dev Cert.AdamWinIdeal.nD → PrngReg), Pre_AdamWinIdeal m →
    θ_run (Cert.AdamWinIdeal.defs (F := Ideal)) (onTc (τ := Cert.AdamWinIdeal.τ) (Cert.AdamWinIdeal.main (F := Ideal))) ⟨m, fun _ => 0, g⟩ (fun r => (∀ c : Dev Cert.AdamWinIdeal.nD,
      r.2.mem ((c.tc : Thread Cert.AdamWinIdeal.nD Cert.AdamWinIdeal.τ).loc Cert.AdamWinIdeal.main_arg0) = m ((c.tc : Thread Cert.AdamWinIdeal.nD Cert.AdamWinIdeal.τ).loc Cert.AdamWinIdeal.main_arg0)
      ∧ r.2.mem ((c.tc : Thread Cert.AdamWinIdeal.nD Cert.AdamWinIdeal.τ).loc Cert.AdamWinIdeal.main_arg1) = m ((c.tc : Thread Cert.AdamWinIdeal.nD Cert.AdamWinIdeal.τ).loc Cert.AdamWinIdeal.main_arg1)
      ∧ r.2.mem ((c.tc : Thread Cert.AdamWinIdeal.nD Cert.AdamWinIdeal.τ).loc Cert.AdamWinIdeal.main_arg2) = m ((c.tc : Thread Cert.AdamWinIdeal.nD Cert.AdamWinIdeal.τ).loc Cert.AdamWinIdeal.main_arg2)
      ∧ r.2.mem ((c.tc : Thread Cert.AdamWinIdeal.nD Cert.AdamWinIdeal.τ).loc Cert.AdamWinIdeal.main_arg3) = m ((c.tc : Thread Cert.AdamWinIdeal.nD Cert.AdamWinIdeal.τ).loc Cert.AdamWinIdeal.main_arg3)
      ∧ r.2.mem ((c.tc : Thread Cert.AdamWinIdeal.nD Cert.AdamWinIdeal.τ).loc Cert.AdamWinIdeal.main_arg4) = m ((c.tc : Thread Cert.AdamWinIdeal.nD Cert.AdamWinIdeal.τ).loc Cert.AdamWinIdeal.main_arg4))
      ∧ r.2.sem = fun _ => 0)

def quiescent_AdamWinReferenceIdeal [hAdamWinReferenceIdeal : Cert.AdamWinReferenceIdeal.Facts] : Prop :=
  ∀ (m : (ℓ : Loc Cert.AdamWinReferenceIdeal.nD Cert.AdamWinReferenceIdeal.τ Cert.AdamWinReferenceIdeal.sig) → Buf (Elt Ideal) ℓ) (g : Dev Cert.AdamWinReferenceIdeal.nD → PrngReg), Pre_AdamWinReferenceIdeal m →
    θ_run (Cert.AdamWinReferenceIdeal.defs (F := Ideal)) (onTc (τ := Cert.AdamWinReferenceIdeal.τ) (Cert.AdamWinReferenceIdeal.main (F := Ideal))) ⟨m, fun _ => 0, g⟩ (fun r => (∀ c : Dev Cert.AdamWinReferenceIdeal.nD,
      r.2.mem ((c.tc : Thread Cert.AdamWinReferenceIdeal.nD Cert.AdamWinReferenceIdeal.τ).loc Cert.AdamWinReferenceIdeal.main_arg0) = m ((c.tc : Thread Cert.AdamWinReferenceIdeal.nD Cert.AdamWinReferenceIdeal.τ).loc Cert.AdamWinReferenceIdeal.main_arg0)
      ∧ r.2.mem ((c.tc : Thread Cert.AdamWinReferenceIdeal.nD Cert.AdamWinReferenceIdeal.τ).loc Cert.AdamWinReferenceIdeal.main_arg1) = m ((c.tc : Thread Cert.AdamWinReferenceIdeal.nD Cert.AdamWinReferenceIdeal.τ).loc Cert.AdamWinReferenceIdeal.main_arg1)
      ∧ r.2.mem ((c.tc : Thread Cert.AdamWinReferenceIdeal.nD Cert.AdamWinReferenceIdeal.τ).loc Cert.AdamWinReferenceIdeal.main_arg2) = m ((c.tc : Thread Cert.AdamWinReferenceIdeal.nD Cert.AdamWinReferenceIdeal.τ).loc Cert.AdamWinReferenceIdeal.main_arg2)
      ∧ r.2.mem ((c.tc : Thread Cert.AdamWinReferenceIdeal.nD Cert.AdamWinReferenceIdeal.τ).loc Cert.AdamWinReferenceIdeal.main_arg3) = m ((c.tc : Thread Cert.AdamWinReferenceIdeal.nD Cert.AdamWinReferenceIdeal.τ).loc Cert.AdamWinReferenceIdeal.main_arg3)
      ∧ r.2.mem ((c.tc : Thread Cert.AdamWinReferenceIdeal.nD Cert.AdamWinReferenceIdeal.τ).loc Cert.AdamWinReferenceIdeal.main_arg4) = m ((c.tc : Thread Cert.AdamWinReferenceIdeal.nD Cert.AdamWinReferenceIdeal.τ).loc Cert.AdamWinReferenceIdeal.main_arg4))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3)
      ∧ r.2.mem ((c.tc : Thread Cert.AdamPool.nD Cert.AdamPool.τ).loc Cert.AdamPool.main_arg4) = m ((c.tc : Thread Cert.AdamPool.nD Cert.AdamPool.τ).loc Cert.AdamPool.main_arg4))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3)
      ∧ r.2.mem ((c.tc : Thread Cert.AdamPoolIdeal.nD Cert.AdamPoolIdeal.τ).loc Cert.AdamPoolIdeal.main_arg4) = m ((c.tc : Thread Cert.AdamPoolIdeal.nD Cert.AdamPoolIdeal.τ).loc Cert.AdamPoolIdeal.main_arg4))
      ∧ r.2.sem = fun _ => 0)

def quiescent_AdamPoolReferenceIdeal [hAdamPoolReferenceIdeal : Cert.AdamPoolReferenceIdeal.Facts] : Prop :=
  ∀ (m : (ℓ : Loc Cert.AdamPoolReferenceIdeal.nD Cert.AdamPoolReferenceIdeal.τ Cert.AdamPoolReferenceIdeal.sig) → Buf (Elt Ideal) ℓ) (g : Dev Cert.AdamPoolReferenceIdeal.nD → PrngReg), Pre_AdamPoolReferenceIdeal m →
    θ_run (Cert.AdamPoolReferenceIdeal.defs (F := Ideal)) (onTc (τ := Cert.AdamPoolReferenceIdeal.τ) (Cert.AdamPoolReferenceIdeal.main (F := Ideal))) ⟨m, fun _ => 0, g⟩ (fun r => (∀ c : Dev Cert.AdamPoolReferenceIdeal.nD,
      r.2.mem ((c.tc : Thread Cert.AdamPoolReferenceIdeal.nD Cert.AdamPoolReferenceIdeal.τ).loc Cert.AdamPoolReferenceIdeal.main_arg0) = m ((c.tc : Thread Cert.AdamPoolReferenceIdeal.nD Cert.AdamPoolReferenceIdeal.τ).loc Cert.AdamPoolReferenceIdeal.main_arg0)
      ∧ r.2.mem ((c.tc : Thread Cert.AdamPoolReferenceIdeal.nD Cert.AdamPoolReferenceIdeal.τ).loc Cert.AdamPoolReferenceIdeal.main_arg1) = m ((c.tc : Thread Cert.AdamPoolReferenceIdeal.nD Cert.AdamPoolReferenceIdeal.τ).loc Cert.AdamPoolReferenceIdeal.main_arg1)
      ∧ r.2.mem ((c.tc : Thread Cert.AdamPoolReferenceIdeal.nD Cert.AdamPoolReferenceIdeal.τ).loc Cert.AdamPoolReferenceIdeal.main_arg2) = m ((c.tc : Thread Cert.AdamPoolReferenceIdeal.nD Cert.AdamPoolReferenceIdeal.τ).loc Cert.AdamPoolReferenceIdeal.main_arg2)
      ∧ r.2.mem ((c.tc : Thread Cert.AdamPoolReferenceIdeal.nD Cert.AdamPoolReferenceIdeal.τ).loc Cert.AdamPoolReferenceIdeal.main_arg3) = m ((c.tc : Thread Cert.AdamPoolReferenceIdeal.nD Cert.AdamPoolReferenceIdeal.τ).loc Cert.AdamPoolReferenceIdeal.main_arg3)
      ∧ r.2.mem ((c.tc : Thread Cert.AdamPoolReferenceIdeal.nD Cert.AdamPoolReferenceIdeal.τ).loc Cert.AdamPoolReferenceIdeal.main_arg4) = m ((c.tc : Thread Cert.AdamPoolReferenceIdeal.nD Cert.AdamPoolReferenceIdeal.τ).loc Cert.AdamPoolReferenceIdeal.main_arg4))
      ∧ r.2.sem = fun _ => 0)

def preserves_Kernel_KernelIdeal : Prop :=
  True

def algebraic_KernelIdeal_ReferenceIdeal_on_pool_written [hKernelIdeal : Cert.KernelIdeal.Facts] [hReferenceIdeal : Cert.ReferenceIdeal.Facts] [hOn_pool_written : Cert.On_pool_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_1)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v3_1)) (v3 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 2048]⟩ : Shape).Idx, (Cert.On_pool_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v2_1) i = v0 c i)
          ∧ (∀ i : (⟨2, ![4096, 3072]⟩ : Shape).Idx, (Cert.On_pool_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v3_0) i = v1 c i)
          ∧ (∀ i : (⟨4, ![8, 4, 32, 256]⟩ : Shape).Idx, (Cert.On_pool_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v3_1) i = v2 c i)
          ∧ (∀ i : (⟨2, ![1, 1024]⟩ : Shape).Idx, (Cert.On_pool_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 i = 1#1 → r.2.mem ((c.tc : Thread Cert.KernelIdeal.nD Cert.KernelIdeal.τ).loc Cert.KernelIdeal.main_v3_2) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 2048]⟩ : Shape).Idx, (Cert.On_pool_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v188) i = v0 c i)
          ∧ (∀ i : (⟨2, ![4096, 3072]⟩ : Shape).Idx, (Cert.On_pool_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v191) i = v1 c i)
          ∧ (∀ i : (⟨4, ![8, 4, 32, 256]⟩ : Shape).Idx, (Cert.On_pool_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v194) i = v2 c i)
          ∧ (∀ i : (⟨2, ![1, 1024]⟩ : Shape).Idx, (Cert.On_pool_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 i = 1#1 → r.2.mem ((c.tc : Thread Cert.ReferenceIdeal.nD Cert.ReferenceIdeal.τ).loc Cert.ReferenceIdeal.main_v184) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Hidden_HiddenIdeal : Prop :=
  True

def algebraic_HiddenIdeal_HiddenReferenceIdeal [hHiddenIdeal : Cert.HiddenIdeal.Facts] [hHiddenReferenceIdeal : Cert.HiddenReferenceIdeal.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenReferenceIdeal.nD Cert.HiddenReferenceIdeal.τ Cert.HiddenReferenceIdeal.sig) → Buf (Elt Ideal) ℓ) (g' : Dev Cert.HiddenReferenceIdeal.nD → PrngReg), Pre_HiddenIdeal m →
    (∀ c : Dev Cert.HiddenIdeal.nD,
      m' ((c.tc : Thread Cert.HiddenReferenceIdeal.nD Cert.HiddenReferenceIdeal.τ).loc Cert.HiddenReferenceIdeal.main_arg0) = m ((c.tc : Thread Cert.HiddenIdeal.nD Cert.HiddenIdeal.τ).loc Cert.HiddenIdeal.main_arg0)
      ∧ m' ((c.tc : Thread Cert.HiddenReferenceIdeal.nD Cert.HiddenReferenceIdeal.τ).loc Cert.HiddenReferenceIdeal.main_arg1) = m ((c.tc : Thread Cert.HiddenIdeal.nD Cert.HiddenIdeal.τ).loc Cert.HiddenIdeal.main_arg1)
      ∧ m' ((c.tc : Thread Cert.HiddenReferenceIdeal.nD Cert.HiddenReferenceIdeal.τ).loc Cert.HiddenReferenceIdeal.main_arg2) = m ((c.tc : Thread Cert.HiddenIdeal.nD Cert.HiddenIdeal.τ).loc Cert.HiddenIdeal.main_arg2)
      ∧ m' ((c.tc : Thread Cert.HiddenReferenceIdeal.nD Cert.HiddenReferenceIdeal.τ).loc Cert.HiddenReferenceIdeal.main_arg3) = m ((c.tc : Thread Cert.HiddenIdeal.nD Cert.HiddenIdeal.τ).loc Cert.HiddenIdeal.main_arg3)
      ∧ m' ((c.tc : Thread Cert.HiddenReferenceIdeal.nD Cert.HiddenReferenceIdeal.τ).loc Cert.HiddenReferenceIdeal.main_arg4) = m ((c.tc : Thread Cert.HiddenIdeal.nD Cert.HiddenIdeal.τ).loc Cert.HiddenIdeal.main_arg4)) →
    ∃ (v0 : (c : Dev Cert.HiddenIdeal.nD) → Buf (Elt Ideal) ((c.tc : Thread Cert.HiddenIdeal.nD Cert.HiddenIdeal.τ).loc Cert.HiddenIdeal.main_v0_0)) (v1 : (c : Dev Cert.HiddenIdeal.nD) → Buf (Elt Ideal) ((c.tc : Thread Cert.HiddenIdeal.nD Cert.HiddenIdeal.τ).loc Cert.HiddenIdeal.main_v1)) (v2 : (c : Dev Cert.HiddenIdeal.nD) → Buf (Elt Ideal) ((c.tc : Thread Cert.HiddenIdeal.nD Cert.HiddenIdeal.τ).loc Cert.HiddenIdeal.main_v2)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v0_0) = v0 c
          ∧ r.2.mem ((c.tc : Thread Cert.HiddenIdeal.nD Cert.HiddenIdeal.τ).loc Cert.HiddenIdeal.main_v1) = v1 c
          ∧ r.2.mem ((c.tc : Thread Cert.HiddenIdeal.nD Cert.HiddenIdeal.τ).loc Cert.HiddenIdeal.main_v2) = v2 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
          ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3)
          ∧ r.2.mem ((c.tc : Thread Cert.HiddenIdeal.nD Cert.HiddenIdeal.τ).loc Cert.HiddenIdeal.main_arg4) = m ((c.tc : Thread Cert.HiddenIdeal.nD Cert.HiddenIdeal.τ).loc Cert.HiddenIdeal.main_arg4))
      ∧ θ_run (Cert.HiddenReferenceIdeal.defs (F := Ideal)) (onTc (τ := Cert.HiddenReferenceIdeal.τ) (Cert.HiddenReferenceIdeal.main (F := Ideal))) ⟨m', fun _ => 0, g'⟩ (fun r => ∀ c : Dev Cert.HiddenReferenceIdeal.nD,
          r.2.mem ((c.tc : Thread Cert.HiddenReferenceIdeal.nD Cert.HiddenReferenceIdeal.τ).loc Cert.HiddenReferenceIdeal.main_v24) = v0 c
          ∧ r.2.mem ((c.tc : Thread Cert.HiddenReferenceIdeal.nD Cert.HiddenReferenceIdeal.τ).loc Cert.HiddenReferenceIdeal.main_v25) = v1 c
          ∧ r.2.mem ((c.tc : Thread Cert.HiddenReferenceIdeal.nD Cert.HiddenReferenceIdeal.τ).loc Cert.HiddenReferenceIdeal.main_v27) = v2 c
          ∧ r.2.mem ((c.tc : Thread Cert.HiddenReferenceIdeal.nD Cert.HiddenReferenceIdeal.τ).loc Cert.HiddenReferenceIdeal.main_arg0) = m' ((c.tc : Thread Cert.HiddenReferenceIdeal.nD Cert.HiddenReferenceIdeal.τ).loc Cert.HiddenReferenceIdeal.main_arg0)
          ∧ r.2.mem ((c.tc : Thread Cert.HiddenReferenceIdeal.nD Cert.HiddenReferenceIdeal.τ).loc Cert.HiddenReferenceIdeal.main_arg1) = m' ((c.tc : Thread Cert.HiddenReferenceIdeal.nD Cert.HiddenReferenceIdeal.τ).loc Cert.HiddenReferenceIdeal.main_arg1)
          ∧ r.2.mem ((c.tc : Thread Cert.HiddenReferenceIdeal.nD Cert.HiddenReferenceIdeal.τ).loc Cert.HiddenReferenceIdeal.main_arg2) = m' ((c.tc : Thread Cert.HiddenReferenceIdeal.nD Cert.HiddenReferenceIdeal.τ).loc Cert.HiddenReferenceIdeal.main_arg2)
          ∧ r.2.mem ((c.tc : Thread Cert.HiddenReferenceIdeal.nD Cert.HiddenReferenceIdeal.τ).loc Cert.HiddenReferenceIdeal.main_arg3) = m' ((c.tc : Thread Cert.HiddenReferenceIdeal.nD Cert.HiddenReferenceIdeal.τ).loc Cert.HiddenReferenceIdeal.main_arg3)
          ∧ r.2.mem ((c.tc : Thread Cert.HiddenReferenceIdeal.nD Cert.HiddenReferenceIdeal.τ).loc Cert.HiddenReferenceIdeal.main_arg4) = m' ((c.tc : Thread Cert.HiddenReferenceIdeal.nD Cert.HiddenReferenceIdeal.τ).loc Cert.HiddenReferenceIdeal.main_arg4))

def preserves_MlpOut_MlpOutIdeal : Prop :=
  True

def algebraic_MlpOutIdeal_MlpOutReferenceIdeal [hMlpOutIdeal : Cert.MlpOutIdeal.Facts] [hMlpOutReferenceIdeal : Cert.MlpOutReferenceIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg)
    (m' : (ℓ : Loc Cert.MlpOutReferenceIdeal.nD Cert.MlpOutReferenceIdeal.τ Cert.MlpOutReferenceIdeal.sig) → Buf (Elt Ideal) ℓ) (g' : Dev Cert.MlpOutReferenceIdeal.nD → PrngReg), Pre_MlpOutIdeal m →
    (∀ c : Dev Cert.MlpOutIdeal.nD,
      m' ((c.tc : Thread Cert.MlpOutReferenceIdeal.nD Cert.MlpOutReferenceIdeal.τ).loc Cert.MlpOutReferenceIdeal.main_arg0) = m ((c.tc : Thread Cert.MlpOutIdeal.nD Cert.MlpOutIdeal.τ).loc Cert.MlpOutIdeal.main_arg0)
      ∧ m' ((c.tc : Thread Cert.MlpOutReferenceIdeal.nD Cert.MlpOutReferenceIdeal.τ).loc Cert.MlpOutReferenceIdeal.main_arg1) = m ((c.tc : Thread Cert.MlpOutIdeal.nD Cert.MlpOutIdeal.τ).loc Cert.MlpOutIdeal.main_arg1)) →
    ∃ (v0 : (c : Dev Cert.MlpOutIdeal.nD) → Buf (Elt Ideal) ((c.tc : Thread Cert.MlpOutIdeal.nD Cert.MlpOutIdeal.τ).loc Cert.MlpOutIdeal.main_v0)),
      θ_run (Cert.MlpOutIdeal.defs (F := Ideal)) (onTc (τ := Cert.MlpOutIdeal.τ) (Cert.MlpOutIdeal.main (F := Ideal))) ⟨m, fun _ => 0, g⟩ (fun r => ∀ c : Dev Cert.MlpOutIdeal.nD,
          r.2.mem ((c.tc : Thread Cert.MlpOutIdeal.nD Cert.MlpOutIdeal.τ).loc Cert.MlpOutIdeal.main_v0) = v0 c
          ∧ r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
          ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1))
      ∧ θ_run (Cert.MlpOutReferenceIdeal.defs (F := Ideal)) (onTc (τ := Cert.MlpOutReferenceIdeal.τ) (Cert.MlpOutReferenceIdeal.main (F := Ideal))) ⟨m', fun _ => 0, g'⟩ (fun r => ∀ c : Dev Cert.MlpOutReferenceIdeal.nD,
          r.2.mem ((c.tc : Thread Cert.MlpOutReferenceIdeal.nD Cert.MlpOutReferenceIdeal.τ).loc Cert.MlpOutReferenceIdeal.main_v4) = v0 c
          ∧ r.2.mem ((c.tc : Thread Cert.MlpOutReferenceIdeal.nD Cert.MlpOutReferenceIdeal.τ).loc Cert.MlpOutReferenceIdeal.main_arg0) = m' ((c.tc : Thread Cert.MlpOutReferenceIdeal.nD Cert.MlpOutReferenceIdeal.τ).loc Cert.MlpOutReferenceIdeal.main_arg0)
          ∧ r.2.mem ((c.tc : Thread Cert.MlpOutReferenceIdeal.nD Cert.MlpOutReferenceIdeal.τ).loc Cert.MlpOutReferenceIdeal.main_arg1) = m' ((c.tc : Thread Cert.MlpOutReferenceIdeal.nD Cert.MlpOutReferenceIdeal.τ).loc Cert.MlpOutReferenceIdeal.main_arg1))

def preserves_MlpDx_MlpDxIdeal : Prop :=
  True

def algebraic_MlpDxIdeal_MlpDxReferenceIdeal [hMlpDxIdeal : Cert.MlpDxIdeal.Facts] [hMlpDxReferenceIdeal : Cert.MlpDxReferenceIdeal.Facts] : Prop :=
  ∀ (m : (ℓ : Loc Cert.MlpDxIdeal.nD Cert.MlpDxIdeal.τ Cert.MlpDxIdeal.sig) → Buf (Elt Ideal) ℓ) (g : Dev Cert.MlpDxIdeal.nD → PrngReg)
    (m' : (ℓ : Loc Cert.MlpDxReferenceIdeal.nD Cert.MlpDxReferenceIdeal.τ Cert.MlpDxReferenceIdeal.sig) → Buf (Elt Ideal) ℓ) (g' : Dev Cert.MlpDxReferenceIdeal.nD → PrngReg), Pre_MlpDxIdeal m →
    (∀ c : Dev Cert.MlpDxIdeal.nD,
      m' ((c.tc : Thread Cert.MlpDxReferenceIdeal.nD Cert.MlpDxReferenceIdeal.τ).loc Cert.MlpDxReferenceIdeal.main_arg0) = m ((c.tc : Thread Cert.MlpDxIdeal.nD Cert.MlpDxIdeal.τ).loc Cert.MlpDxIdeal.main_arg0)
      ∧ m' ((c.tc : Thread Cert.MlpDxReferenceIdeal.nD Cert.MlpDxReferenceIdeal.τ).loc Cert.MlpDxReferenceIdeal.main_arg1) = m ((c.tc : Thread Cert.MlpDxIdeal.nD Cert.MlpDxIdeal.τ).loc Cert.MlpDxIdeal.main_arg1)
      ∧ m' ((c.tc : Thread Cert.MlpDxReferenceIdeal.nD Cert.MlpDxReferenceIdeal.τ).loc Cert.MlpDxReferenceIdeal.main_arg2) = m ((c.tc : Thread Cert.MlpDxIdeal.nD Cert.MlpDxIdeal.τ).loc Cert.MlpDxIdeal.main_arg2)) →
    ∃ (v0 : (c : Dev Cert.MlpDxIdeal.nD) → Buf (Elt Ideal) ((c.tc : Thread Cert.MlpDxIdeal.nD Cert.MlpDxIdeal.τ).loc Cert.MlpDxIdeal.main_v0)),
      θ_run (Cert.MlpDxIdeal.defs (F := Ideal)) (onTc (τ := Cert.MlpDxIdeal.τ) (Cert.MlpDxIdeal.main (F := Ideal))) ⟨m, fun _ => 0, g⟩ (fun r => ∀ c : Dev Cert.MlpDxIdeal.nD,
          r.2.mem ((c.tc : Thread Cert.MlpDxIdeal.nD Cert.MlpDxIdeal.τ).loc Cert.MlpDxIdeal.main_v0) = v0 c
          ∧ r.2.mem ((c.tc : Thread Cert.MlpDxIdeal.nD Cert.MlpDxIdeal.τ).loc Cert.MlpDxIdeal.main_arg0) = m ((c.tc : Thread Cert.MlpDxIdeal.nD Cert.MlpDxIdeal.τ).loc Cert.MlpDxIdeal.main_arg0)
          ∧ r.2.mem ((c.tc : Thread Cert.MlpDxIdeal.nD Cert.MlpDxIdeal.τ).loc Cert.MlpDxIdeal.main_arg1) = m ((c.tc : Thread Cert.MlpDxIdeal.nD Cert.MlpDxIdeal.τ).loc Cert.MlpDxIdeal.main_arg1)
          ∧ r.2.mem ((c.tc : Thread Cert.MlpDxIdeal.nD Cert.MlpDxIdeal.τ).loc Cert.MlpDxIdeal.main_arg2) = m ((c.tc : Thread Cert.MlpDxIdeal.nD Cert.MlpDxIdeal.τ).loc Cert.MlpDxIdeal.main_arg2))
      ∧ θ_run (Cert.MlpDxReferenceIdeal.defs (F := Ideal)) (onTc (τ := Cert.MlpDxReferenceIdeal.τ) (Cert.MlpDxReferenceIdeal.main (F := Ideal))) ⟨m', fun _ => 0, g'⟩ (fun r => ∀ c : Dev Cert.MlpDxReferenceIdeal.nD,
          r.2.mem ((c.tc : Thread Cert.MlpDxReferenceIdeal.nD Cert.MlpDxReferenceIdeal.τ).loc Cert.MlpDxReferenceIdeal.main_v6) = v0 c
          ∧ r.2.mem ((c.tc : Thread Cert.MlpDxReferenceIdeal.nD Cert.MlpDxReferenceIdeal.τ).loc Cert.MlpDxReferenceIdeal.main_arg0) = m' ((c.tc : Thread Cert.MlpDxReferenceIdeal.nD Cert.MlpDxReferenceIdeal.τ).loc Cert.MlpDxReferenceIdeal.main_arg0)
          ∧ r.2.mem ((c.tc : Thread Cert.MlpDxReferenceIdeal.nD Cert.MlpDxReferenceIdeal.τ).loc Cert.MlpDxReferenceIdeal.main_arg1) = m' ((c.tc : Thread Cert.MlpDxReferenceIdeal.nD Cert.MlpDxReferenceIdeal.τ).loc Cert.MlpDxReferenceIdeal.main_arg1)
          ∧ r.2.mem ((c.tc : Thread Cert.MlpDxReferenceIdeal.nD Cert.MlpDxReferenceIdeal.τ).loc Cert.MlpDxReferenceIdeal.main_arg2) = m' ((c.tc : Thread Cert.MlpDxReferenceIdeal.nD Cert.MlpDxReferenceIdeal.τ).loc Cert.MlpDxReferenceIdeal.main_arg2))

def preserves_GradW_GradWIdeal : Prop :=
  True

def algebraic_GradWIdeal_GradWReferenceIdeal [hGradWIdeal : Cert.GradWIdeal.Facts] [hGradWReferenceIdeal : Cert.GradWReferenceIdeal.Facts] : Prop :=
  ∀ (m : (ℓ : Loc Cert.GradWIdeal.nD Cert.GradWIdeal.τ Cert.GradWIdeal.sig) → Buf (Elt Ideal) ℓ) (g : Dev Cert.GradWIdeal.nD → PrngReg)
    (m' : (ℓ : Loc Cert.GradWReferenceIdeal.nD Cert.GradWReferenceIdeal.τ Cert.GradWReferenceIdeal.sig) → Buf (Elt Ideal) ℓ) (g' : Dev Cert.GradWReferenceIdeal.nD → PrngReg), Pre_GradWIdeal m →
    (∀ c : Dev Cert.GradWIdeal.nD,
      m' ((c.tc : Thread Cert.GradWReferenceIdeal.nD Cert.GradWReferenceIdeal.τ).loc Cert.GradWReferenceIdeal.main_arg0) = m ((c.tc : Thread Cert.GradWIdeal.nD Cert.GradWIdeal.τ).loc Cert.GradWIdeal.main_arg0)
      ∧ m' ((c.tc : Thread Cert.GradWReferenceIdeal.nD Cert.GradWReferenceIdeal.τ).loc Cert.GradWReferenceIdeal.main_arg1) = m ((c.tc : Thread Cert.GradWIdeal.nD Cert.GradWIdeal.τ).loc Cert.GradWIdeal.main_arg1)
      ∧ m' ((c.tc : Thread Cert.GradWReferenceIdeal.nD Cert.GradWReferenceIdeal.τ).loc Cert.GradWReferenceIdeal.main_arg2) = m ((c.tc : Thread Cert.GradWIdeal.nD Cert.GradWIdeal.τ).loc Cert.GradWIdeal.main_arg2)
      ∧ m' ((c.tc : Thread Cert.GradWReferenceIdeal.nD Cert.GradWReferenceIdeal.τ).loc Cert.GradWReferenceIdeal.main_arg3) = m ((c.tc : Thread Cert.GradWIdeal.nD Cert.GradWIdeal.τ).loc Cert.GradWIdeal.main_arg3)
      ∧ m' ((c.tc : Thread Cert.GradWReferenceIdeal.nD Cert.GradWReferenceIdeal.τ).loc Cert.GradWReferenceIdeal.main_arg4) = m ((c.tc : Thread Cert.GradWIdeal.nD Cert.GradWIdeal.τ).loc Cert.GradWIdeal.main_arg4)
      ∧ m' ((c.tc : Thread Cert.GradWReferenceIdeal.nD Cert.GradWReferenceIdeal.τ).loc Cert.GradWReferenceIdeal.main_arg5) = m ((c.tc : Thread Cert.GradWIdeal.nD Cert.GradWIdeal.τ).loc Cert.GradWIdeal.main_arg5)
      ∧ m' ((c.tc : Thread Cert.GradWReferenceIdeal.nD Cert.GradWReferenceIdeal.τ).loc Cert.GradWReferenceIdeal.main_arg6) = m ((c.tc : Thread Cert.GradWIdeal.nD Cert.GradWIdeal.τ).loc Cert.GradWIdeal.main_arg6)) →
    ∃ (v0 : (c : Dev Cert.GradWIdeal.nD) → Buf (Elt Ideal) ((c.tc : Thread Cert.GradWIdeal.nD Cert.GradWIdeal.τ).loc Cert.GradWIdeal.main_v0_0)),
      θ_run (Cert.GradWIdeal.defs (F := Ideal)) (onTc (τ := Cert.GradWIdeal.τ) (Cert.GradWIdeal.main (F := Ideal))) ⟨m, fun _ => 0, g⟩ (fun r => ∀ c : Dev Cert.GradWIdeal.nD,
          r.2.mem ((c.tc : Thread Cert.GradWIdeal.nD Cert.GradWIdeal.τ).loc Cert.GradWIdeal.main_v0_0) = v0 c
          ∧ r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
          ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1)
          ∧ r.2.mem ((c.tc : Thread Cert.GradWIdeal.nD Cert.GradWIdeal.τ).loc Cert.GradWIdeal.main_arg2) = m ((c.tc : Thread Cert.GradWIdeal.nD Cert.GradWIdeal.τ).loc Cert.GradWIdeal.main_arg2)
          ∧ r.2.mem ((c.tc : Thread Cert.GradWIdeal.nD Cert.GradWIdeal.τ).loc Cert.GradWIdeal.main_arg3) = m ((c.tc : Thread Cert.GradWIdeal.nD Cert.GradWIdeal.τ).loc Cert.GradWIdeal.main_arg3)
          ∧ r.2.mem ((c.tc : Thread Cert.GradWIdeal.nD Cert.GradWIdeal.τ).loc Cert.GradWIdeal.main_arg4) = m ((c.tc : Thread Cert.GradWIdeal.nD Cert.GradWIdeal.τ).loc Cert.GradWIdeal.main_arg4)
          ∧ r.2.mem ((c.tc : Thread Cert.GradWIdeal.nD Cert.GradWIdeal.τ).loc Cert.GradWIdeal.main_arg5) = m ((c.tc : Thread Cert.GradWIdeal.nD Cert.GradWIdeal.τ).loc Cert.GradWIdeal.main_arg5)
          ∧ r.2.mem ((c.tc : Thread Cert.GradWIdeal.nD Cert.GradWIdeal.τ).loc Cert.GradWIdeal.main_arg6) = m ((c.tc : Thread Cert.GradWIdeal.nD Cert.GradWIdeal.τ).loc Cert.GradWIdeal.main_arg6))
      ∧ θ_run (Cert.GradWReferenceIdeal.defs (F := Ideal)) (onTc (τ := Cert.GradWReferenceIdeal.τ) (Cert.GradWReferenceIdeal.main (F := Ideal))) ⟨m', fun _ => 0, g'⟩ (fun r => ∀ c : Dev Cert.GradWReferenceIdeal.nD,
          r.2.mem ((c.tc : Thread Cert.GradWReferenceIdeal.nD Cert.GradWReferenceIdeal.τ).loc Cert.GradWReferenceIdeal.main_v10) = v0 c
          ∧ r.2.mem ((c.tc : Thread Cert.GradWReferenceIdeal.nD Cert.GradWReferenceIdeal.τ).loc Cert.GradWReferenceIdeal.main_arg0) = m' ((c.tc : Thread Cert.GradWReferenceIdeal.nD Cert.GradWReferenceIdeal.τ).loc Cert.GradWReferenceIdeal.main_arg0)
          ∧ r.2.mem ((c.tc : Thread Cert.GradWReferenceIdeal.nD Cert.GradWReferenceIdeal.τ).loc Cert.GradWReferenceIdeal.main_arg1) = m' ((c.tc : Thread Cert.GradWReferenceIdeal.nD Cert.GradWReferenceIdeal.τ).loc Cert.GradWReferenceIdeal.main_arg1)
          ∧ r.2.mem ((c.tc : Thread Cert.GradWReferenceIdeal.nD Cert.GradWReferenceIdeal.τ).loc Cert.GradWReferenceIdeal.main_arg2) = m' ((c.tc : Thread Cert.GradWReferenceIdeal.nD Cert.GradWReferenceIdeal.τ).loc Cert.GradWReferenceIdeal.main_arg2)
          ∧ r.2.mem ((c.tc : Thread Cert.GradWReferenceIdeal.nD Cert.GradWReferenceIdeal.τ).loc Cert.GradWReferenceIdeal.main_arg3) = m' ((c.tc : Thread Cert.GradWReferenceIdeal.nD Cert.GradWReferenceIdeal.τ).loc Cert.GradWReferenceIdeal.main_arg3)
          ∧ r.2.mem ((c.tc : Thread Cert.GradWReferenceIdeal.nD Cert.GradWReferenceIdeal.τ).loc Cert.GradWReferenceIdeal.main_arg4) = m' ((c.tc : Thread Cert.GradWReferenceIdeal.nD Cert.GradWReferenceIdeal.τ).loc Cert.GradWReferenceIdeal.main_arg4)
          ∧ r.2.mem ((c.tc : Thread Cert.GradWReferenceIdeal.nD Cert.GradWReferenceIdeal.τ).loc Cert.GradWReferenceIdeal.main_arg5) = m' ((c.tc : Thread Cert.GradWReferenceIdeal.nD Cert.GradWReferenceIdeal.τ).loc Cert.GradWReferenceIdeal.main_arg5)
          ∧ r.2.mem ((c.tc : Thread Cert.GradWReferenceIdeal.nD Cert.GradWReferenceIdeal.τ).loc Cert.GradWReferenceIdeal.main_arg6) = m' ((c.tc : Thread Cert.GradWReferenceIdeal.nD Cert.GradWReferenceIdeal.τ).loc Cert.GradWReferenceIdeal.main_arg6))

def preserves_GradX_GradXIdeal : Prop :=
  True

def algebraic_GradXIdeal_GradXReferenceIdeal [hGradXIdeal : Cert.GradXIdeal.Facts] [hGradXReferenceIdeal : Cert.GradXReferenceIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXReferenceIdeal.nD Cert.GradXReferenceIdeal.τ Cert.GradXReferenceIdeal.sig) → Buf (Elt Ideal) ℓ) (g' : Dev Cert.GradXReferenceIdeal.nD → PrngReg), Pre_GradXIdeal m →
    (∀ c : Dev Cert.GradXIdeal.nD,
      m' ((c.tc : Thread Cert.GradXReferenceIdeal.nD Cert.GradXReferenceIdeal.τ).loc Cert.GradXReferenceIdeal.main_arg0) = m ((c.tc : Thread Cert.GradXIdeal.nD Cert.GradXIdeal.τ).loc Cert.GradXIdeal.main_arg0)
      ∧ m' ((c.tc : Thread Cert.GradXReferenceIdeal.nD Cert.GradXReferenceIdeal.τ).loc Cert.GradXReferenceIdeal.main_arg1) = m ((c.tc : Thread Cert.GradXIdeal.nD Cert.GradXIdeal.τ).loc Cert.GradXIdeal.main_arg1)
      ∧ m' ((c.tc : Thread Cert.GradXReferenceIdeal.nD Cert.GradXReferenceIdeal.τ).loc Cert.GradXReferenceIdeal.main_arg2) = m ((c.tc : Thread Cert.GradXIdeal.nD Cert.GradXIdeal.τ).loc Cert.GradXIdeal.main_arg2)
      ∧ m' ((c.tc : Thread Cert.GradXReferenceIdeal.nD Cert.GradXReferenceIdeal.τ).loc Cert.GradXReferenceIdeal.main_arg3) = m ((c.tc : Thread Cert.GradXIdeal.nD Cert.GradXIdeal.τ).loc Cert.GradXIdeal.main_arg3)
      ∧ m' ((c.tc : Thread Cert.GradXReferenceIdeal.nD Cert.GradXReferenceIdeal.τ).loc Cert.GradXReferenceIdeal.main_arg4) = m ((c.tc : Thread Cert.GradXIdeal.nD Cert.GradXIdeal.τ).loc Cert.GradXIdeal.main_arg4)
      ∧ m' ((c.tc : Thread Cert.GradXReferenceIdeal.nD Cert.GradXReferenceIdeal.τ).loc Cert.GradXReferenceIdeal.main_arg5) = m ((c.tc : Thread Cert.GradXIdeal.nD Cert.GradXIdeal.τ).loc Cert.GradXIdeal.main_arg5)
      ∧ m' ((c.tc : Thread Cert.GradXReferenceIdeal.nD Cert.GradXReferenceIdeal.τ).loc Cert.GradXReferenceIdeal.main_arg6) = m ((c.tc : Thread Cert.GradXIdeal.nD Cert.GradXIdeal.τ).loc Cert.GradXIdeal.main_arg6)
      ∧ m' ((c.tc : Thread Cert.GradXReferenceIdeal.nD Cert.GradXReferenceIdeal.τ).loc Cert.GradXReferenceIdeal.main_arg7) = m ((c.tc : Thread Cert.GradXIdeal.nD Cert.GradXIdeal.τ).loc Cert.GradXIdeal.main_arg7)
      ∧ m' ((c.tc : Thread Cert.GradXReferenceIdeal.nD Cert.GradXReferenceIdeal.τ).loc Cert.GradXReferenceIdeal.main_arg8) = m ((c.tc : Thread Cert.GradXIdeal.nD Cert.GradXIdeal.τ).loc Cert.GradXIdeal.main_arg8)) →
    ∃ (v0 : (c : Dev Cert.GradXIdeal.nD) → Buf (Elt Ideal) ((c.tc : Thread Cert.GradXIdeal.nD Cert.GradXIdeal.τ).loc Cert.GradXIdeal.main_v3_0)) (v1 : (c : Dev Cert.GradXIdeal.nD) → Buf (Elt Ideal) ((c.tc : Thread Cert.GradXIdeal.nD Cert.GradXIdeal.τ).loc Cert.GradXIdeal.main_v3_1)) (v2 : (c : Dev Cert.GradXIdeal.nD) → Buf (Elt Ideal) ((c.tc : Thread Cert.GradXIdeal.nD Cert.GradXIdeal.τ).loc Cert.GradXIdeal.main_v3_2)) (v3 : (c : Dev Cert.GradXIdeal.nD) → Buf (Elt Ideal) ((c.tc : Thread Cert.GradXIdeal.nD Cert.GradXIdeal.τ).loc Cert.GradXIdeal.main_v3_3)) (v4 : (c : Dev Cert.GradXIdeal.nD) → Buf (Elt Ideal) ((c.tc : Thread Cert.GradXIdeal.nD Cert.GradXIdeal.τ).loc Cert.GradXIdeal.main_v3_4)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v3_0) = v0 c
          ∧ r.2.mem ((c.tc : Thread Cert.GradXIdeal.nD Cert.GradXIdeal.τ).loc Cert.GradXIdeal.main_v3_1) = v1 c
          ∧ r.2.mem ((c.tc : Thread Cert.GradXIdeal.nD Cert.GradXIdeal.τ).loc Cert.GradXIdeal.main_v3_2) = v2 c
          ∧ r.2.mem ((c.tc : Thread Cert.GradXIdeal.nD Cert.GradXIdeal.τ).loc Cert.GradXIdeal.main_v3_3) = v3 c
          ∧ r.2.mem ((c.tc : Thread Cert.GradXIdeal.nD Cert.GradXIdeal.τ).loc Cert.GradXIdeal.main_v3_4) = v4 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
          ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4)
          ∧ r.2.mem ((c.tc : Thread Cert.GradXIdeal.nD Cert.GradXIdeal.τ).loc Cert.GradXIdeal.main_arg5) = m ((c.tc : Thread Cert.GradXIdeal.nD Cert.GradXIdeal.τ).loc Cert.GradXIdeal.main_arg5)
          ∧ r.2.mem ((c.tc : Thread Cert.GradXIdeal.nD Cert.GradXIdeal.τ).loc Cert.GradXIdeal.main_arg6) = m ((c.tc : Thread Cert.GradXIdeal.nD Cert.GradXIdeal.τ).loc Cert.GradXIdeal.main_arg6)
          ∧ r.2.mem ((c.tc : Thread Cert.GradXIdeal.nD Cert.GradXIdeal.τ).loc Cert.GradXIdeal.main_arg7) = m ((c.tc : Thread Cert.GradXIdeal.nD Cert.GradXIdeal.τ).loc Cert.GradXIdeal.main_arg7)
          ∧ r.2.mem ((c.tc : Thread Cert.GradXIdeal.nD Cert.GradXIdeal.τ).loc Cert.GradXIdeal.main_arg8) = m ((c.tc : Thread Cert.GradXIdeal.nD Cert.GradXIdeal.τ).loc Cert.GradXIdeal.main_arg8))
      ∧ θ_run (Cert.GradXReferenceIdeal.defs (F := Ideal)) (onTc (τ := Cert.GradXReferenceIdeal.τ) (Cert.GradXReferenceIdeal.main (F := Ideal))) ⟨m', fun _ => 0, g'⟩ (fun r => ∀ c : Dev Cert.GradXReferenceIdeal.nD,
          r.2.mem ((c.tc : Thread Cert.GradXReferenceIdeal.nD Cert.GradXReferenceIdeal.τ).loc Cert.GradXReferenceIdeal.main_v12) = v0 c
          ∧ r.2.mem ((c.tc : Thread Cert.GradXReferenceIdeal.nD Cert.GradXReferenceIdeal.τ).loc Cert.GradXReferenceIdeal.main_v15) = v1 c
          ∧ r.2.mem ((c.tc : Thread Cert.GradXReferenceIdeal.nD Cert.GradXReferenceIdeal.τ).loc Cert.GradXReferenceIdeal.main_v42) = v2 c
          ∧ r.2.mem ((c.tc : Thread Cert.GradXReferenceIdeal.nD Cert.GradXReferenceIdeal.τ).loc Cert.GradXReferenceIdeal.main_v23) = v3 c
          ∧ r.2.mem ((c.tc : Thread Cert.GradXReferenceIdeal.nD Cert.GradXReferenceIdeal.τ).loc Cert.GradXReferenceIdeal.main_v29) = v4 c
          ∧ r.2.mem ((c.tc : Thread Cert.GradXReferenceIdeal.nD Cert.GradXReferenceIdeal.τ).loc Cert.GradXReferenceIdeal.main_arg0) = m' ((c.tc : Thread Cert.GradXReferenceIdeal.nD Cert.GradXReferenceIdeal.τ).loc Cert.GradXReferenceIdeal.main_arg0)
          ∧ r.2.mem ((c.tc : Thread Cert.GradXReferenceIdeal.nD Cert.GradXReferenceIdeal.τ).loc Cert.GradXReferenceIdeal.main_arg1) = m' ((c.tc : Thread Cert.GradXReferenceIdeal.nD Cert.GradXReferenceIdeal.τ).loc Cert.GradXReferenceIdeal.main_arg1)
          ∧ r.2.mem ((c.tc : Thread Cert.GradXReferenceIdeal.nD Cert.GradXReferenceIdeal.τ).loc Cert.GradXReferenceIdeal.main_arg2) = m' ((c.tc : Thread Cert.GradXReferenceIdeal.nD Cert.GradXReferenceIdeal.τ).loc Cert.GradXReferenceIdeal.main_arg2)
          ∧ r.2.mem ((c.tc : Thread Cert.GradXReferenceIdeal.nD Cert.GradXReferenceIdeal.τ).loc Cert.GradXReferenceIdeal.main_arg3) = m' ((c.tc : Thread Cert.GradXReferenceIdeal.nD Cert.GradXReferenceIdeal.τ).loc Cert.GradXReferenceIdeal.main_arg3)
          ∧ r.2.mem ((c.tc : Thread Cert.GradXReferenceIdeal.nD Cert.GradXReferenceIdeal.τ).loc Cert.GradXReferenceIdeal.main_arg4) = m' ((c.tc : Thread Cert.GradXReferenceIdeal.nD Cert.GradXReferenceIdeal.τ).loc Cert.GradXReferenceIdeal.main_arg4)
          ∧ r.2.mem ((c.tc : Thread Cert.GradXReferenceIdeal.nD Cert.GradXReferenceIdeal.τ).loc Cert.GradXReferenceIdeal.main_arg5) = m' ((c.tc : Thread Cert.GradXReferenceIdeal.nD Cert.GradXReferenceIdeal.τ).loc Cert.GradXReferenceIdeal.main_arg5)
          ∧ r.2.mem ((c.tc : Thread Cert.GradXReferenceIdeal.nD Cert.GradXReferenceIdeal.τ).loc Cert.GradXReferenceIdeal.main_arg6) = m' ((c.tc : Thread Cert.GradXReferenceIdeal.nD Cert.GradXReferenceIdeal.τ).loc Cert.GradXReferenceIdeal.main_arg6)
          ∧ r.2.mem ((c.tc : Thread Cert.GradXReferenceIdeal.nD Cert.GradXReferenceIdeal.τ).loc Cert.GradXReferenceIdeal.main_arg7) = m' ((c.tc : Thread Cert.GradXReferenceIdeal.nD Cert.GradXReferenceIdeal.τ).loc Cert.GradXReferenceIdeal.main_arg7)
          ∧ r.2.mem ((c.tc : Thread Cert.GradXReferenceIdeal.nD Cert.GradXReferenceIdeal.τ).loc Cert.GradXReferenceIdeal.main_arg8) = m' ((c.tc : Thread Cert.GradXReferenceIdeal.nD Cert.GradXReferenceIdeal.τ).loc Cert.GradXReferenceIdeal.main_arg8))

def preserves_InStep_InStepIdeal : Prop :=
  True

def algebraic_InStepIdeal_InStepReferenceIdeal [hInStepIdeal : Cert.InStepIdeal.Facts] [hInStepReferenceIdeal : Cert.InStepReferenceIdeal.Facts] : Prop :=
  ∀ (m : (ℓ : Loc Cert.InStepIdeal.nD Cert.InStepIdeal.τ Cert.InStepIdeal.sig) → Buf (Elt Ideal) ℓ) (g : Dev Cert.InStepIdeal.nD → PrngReg)
    (m' : (ℓ : Loc Cert.InStepReferenceIdeal.nD Cert.InStepReferenceIdeal.τ Cert.InStepReferenceIdeal.sig) → Buf (Elt Ideal) ℓ) (g' : Dev Cert.InStepReferenceIdeal.nD → PrngReg), Pre_InStepIdeal m →
    (∀ c : Dev Cert.InStepIdeal.nD,
      m' ((c.tc : Thread Cert.InStepReferenceIdeal.nD Cert.InStepReferenceIdeal.τ).loc Cert.InStepReferenceIdeal.main_arg0) = m ((c.tc : Thread Cert.InStepIdeal.nD Cert.InStepIdeal.τ).loc Cert.InStepIdeal.main_arg0)
      ∧ m' ((c.tc : Thread Cert.InStepReferenceIdeal.nD Cert.InStepReferenceIdeal.τ).loc Cert.InStepReferenceIdeal.main_arg1) = m ((c.tc : Thread Cert.InStepIdeal.nD Cert.InStepIdeal.τ).loc Cert.InStepIdeal.main_arg1)
      ∧ m' ((c.tc : Thread Cert.InStepReferenceIdeal.nD Cert.InStepReferenceIdeal.τ).loc Cert.InStepReferenceIdeal.main_arg2) = m ((c.tc : Thread Cert.InStepIdeal.nD Cert.InStepIdeal.τ).loc Cert.InStepIdeal.main_arg2)
      ∧ m' ((c.tc : Thread Cert.InStepReferenceIdeal.nD Cert.InStepReferenceIdeal.τ).loc Cert.InStepReferenceIdeal.main_arg3) = m ((c.tc : Thread Cert.InStepIdeal.nD Cert.InStepIdeal.τ).loc Cert.InStepIdeal.main_arg3)
      ∧ m' ((c.tc : Thread Cert.InStepReferenceIdeal.nD Cert.InStepReferenceIdeal.τ).loc Cert.InStepReferenceIdeal.main_arg4) = m ((c.tc : Thread Cert.InStepIdeal.nD Cert.InStepIdeal.τ).loc Cert.InStepIdeal.main_arg4)
      ∧ m' ((c.tc : Thread Cert.InStepReferenceIdeal.nD Cert.InStepReferenceIdeal.τ).loc Cert.InStepReferenceIdeal.main_arg5) = m ((c.tc : Thread Cert.InStepIdeal.nD Cert.InStepIdeal.τ).loc Cert.InStepIdeal.main_arg5)
      ∧ m' ((c.tc : Thread Cert.InStepReferenceIdeal.nD Cert.InStepReferenceIdeal.τ).loc Cert.InStepReferenceIdeal.main_arg6) = m ((c.tc : Thread Cert.InStepIdeal.nD Cert.InStepIdeal.τ).loc Cert.InStepIdeal.main_arg6)) →
    ∃ (v0 : (c : Dev Cert.InStepIdeal.nD) → Buf (Elt Ideal) ((c.tc : Thread Cert.InStepIdeal.nD Cert.InStepIdeal.τ).loc Cert.InStepIdeal.main_v3_0)) (v1 : (c : Dev Cert.InStepIdeal.nD) → Buf (Elt Ideal) ((c.tc : Thread Cert.InStepIdeal.nD Cert.InStepIdeal.τ).loc Cert.InStepIdeal.main_v3_1)) (v2 : (c : Dev Cert.InStepIdeal.nD) → Buf (Elt Ideal) ((c.tc : Thread Cert.InStepIdeal.nD Cert.InStepIdeal.τ).loc Cert.InStepIdeal.main_v3_2)) (v3 : (c : Dev Cert.InStepIdeal.nD) → Buf (Elt Ideal) ((c.tc : Thread Cert.InStepIdeal.nD Cert.InStepIdeal.τ).loc Cert.InStepIdeal.main_v3_3)) (v4 : (c : Dev Cert.InStepIdeal.nD) → Buf (Elt Ideal) ((c.tc : Thread Cert.InStepIdeal.nD Cert.InStepIdeal.τ).loc Cert.InStepIdeal.main_v3_4)),
      θ_run (Cert.InStepIdeal.defs (F := Ideal)) (onTc (τ := Cert.InStepIdeal.τ) (Cert.InStepIdeal.main (F := Ideal))) ⟨m, fun _ => 0, g⟩ (fun r => ∀ c : Dev Cert.InStepIdeal.nD,
          r.2.mem ((c.tc : Thread Cert.InStepIdeal.nD Cert.InStepIdeal.τ).loc Cert.InStepIdeal.main_v3_0) = v0 c
          ∧ r.2.mem ((c.tc : Thread Cert.InStepIdeal.nD Cert.InStepIdeal.τ).loc Cert.InStepIdeal.main_v3_1) = v1 c
          ∧ r.2.mem ((c.tc : Thread Cert.InStepIdeal.nD Cert.InStepIdeal.τ).loc Cert.InStepIdeal.main_v3_2) = v2 c
          ∧ r.2.mem ((c.tc : Thread Cert.InStepIdeal.nD Cert.InStepIdeal.τ).loc Cert.InStepIdeal.main_v3_3) = v3 c
          ∧ r.2.mem ((c.tc : Thread Cert.InStepIdeal.nD Cert.InStepIdeal.τ).loc Cert.InStepIdeal.main_v3_4) = v4 c
          ∧ r.2.mem ((c.tc : Thread Cert.InStepIdeal.nD Cert.InStepIdeal.τ).loc Cert.InStepIdeal.main_arg0) = m ((c.tc : Thread Cert.InStepIdeal.nD Cert.InStepIdeal.τ).loc Cert.InStepIdeal.main_arg0)
          ∧ r.2.mem ((c.tc : Thread Cert.InStepIdeal.nD Cert.InStepIdeal.τ).loc Cert.InStepIdeal.main_arg1) = m ((c.tc : Thread Cert.InStepIdeal.nD Cert.InStepIdeal.τ).loc Cert.InStepIdeal.main_arg1)
          ∧ r.2.mem ((c.tc : Thread Cert.InStepIdeal.nD Cert.InStepIdeal.τ).loc Cert.InStepIdeal.main_arg2) = m ((c.tc : Thread Cert.InStepIdeal.nD Cert.InStepIdeal.τ).loc Cert.InStepIdeal.main_arg2)
          ∧ r.2.mem ((c.tc : Thread Cert.InStepIdeal.nD Cert.InStepIdeal.τ).loc Cert.InStepIdeal.main_arg3) = m ((c.tc : Thread Cert.InStepIdeal.nD Cert.InStepIdeal.τ).loc Cert.InStepIdeal.main_arg3)
          ∧ r.2.mem ((c.tc : Thread Cert.InStepIdeal.nD Cert.InStepIdeal.τ).loc Cert.InStepIdeal.main_arg4) = m ((c.tc : Thread Cert.InStepIdeal.nD Cert.InStepIdeal.τ).loc Cert.InStepIdeal.main_arg4)
          ∧ r.2.mem ((c.tc : Thread Cert.InStepIdeal.nD Cert.InStepIdeal.τ).loc Cert.InStepIdeal.main_arg5) = m ((c.tc : Thread Cert.InStepIdeal.nD Cert.InStepIdeal.τ).loc Cert.InStepIdeal.main_arg5)
          ∧ r.2.mem ((c.tc : Thread Cert.InStepIdeal.nD Cert.InStepIdeal.τ).loc Cert.InStepIdeal.main_arg6) = m ((c.tc : Thread Cert.InStepIdeal.nD Cert.InStepIdeal.τ).loc Cert.InStepIdeal.main_arg6))
      ∧ θ_run (Cert.InStepReferenceIdeal.defs (F := Ideal)) (onTc (τ := Cert.InStepReferenceIdeal.τ) (Cert.InStepReferenceIdeal.main (F := Ideal))) ⟨m', fun _ => 0, g'⟩ (fun r => ∀ c : Dev Cert.InStepReferenceIdeal.nD,
          r.2.mem ((c.tc : Thread Cert.InStepReferenceIdeal.nD Cert.InStepReferenceIdeal.τ).loc Cert.InStepReferenceIdeal.main_v13) = v0 c
          ∧ r.2.mem ((c.tc : Thread Cert.InStepReferenceIdeal.nD Cert.InStepReferenceIdeal.τ).loc Cert.InStepReferenceIdeal.main_v10) = v1 c
          ∧ r.2.mem ((c.tc : Thread Cert.InStepReferenceIdeal.nD Cert.InStepReferenceIdeal.τ).loc Cert.InStepReferenceIdeal.main_v40) = v2 c
          ∧ r.2.mem ((c.tc : Thread Cert.InStepReferenceIdeal.nD Cert.InStepReferenceIdeal.τ).loc Cert.InStepReferenceIdeal.main_v21) = v3 c
          ∧ r.2.mem ((c.tc : Thread Cert.InStepReferenceIdeal.nD Cert.InStepReferenceIdeal.τ).loc Cert.InStepReferenceIdeal.main_v27) = v4 c
          ∧ r.2.mem ((c.tc : Thread Cert.InStepReferenceIdeal.nD Cert.InStepReferenceIdeal.τ).loc Cert.InStepReferenceIdeal.main_arg0) = m' ((c.tc : Thread Cert.InStepReferenceIdeal.nD Cert.InStepReferenceIdeal.τ).loc Cert.InStepReferenceIdeal.main_arg0)
          ∧ r.2.mem ((c.tc : Thread Cert.InStepReferenceIdeal.nD Cert.InStepReferenceIdeal.τ).loc Cert.InStepReferenceIdeal.main_arg1) = m' ((c.tc : Thread Cert.InStepReferenceIdeal.nD Cert.InStepReferenceIdeal.τ).loc Cert.InStepReferenceIdeal.main_arg1)
          ∧ r.2.mem ((c.tc : Thread Cert.InStepReferenceIdeal.nD Cert.InStepReferenceIdeal.τ).loc Cert.InStepReferenceIdeal.main_arg2) = m' ((c.tc : Thread Cert.InStepReferenceIdeal.nD Cert.InStepReferenceIdeal.τ).loc Cert.InStepReferenceIdeal.main_arg2)
          ∧ r.2.mem ((c.tc : Thread Cert.InStepReferenceIdeal.nD Cert.InStepReferenceIdeal.τ).loc Cert.InStepReferenceIdeal.main_arg3) = m' ((c.tc : Thread Cert.InStepReferenceIdeal.nD Cert.InStepReferenceIdeal.τ).loc Cert.InStepReferenceIdeal.main_arg3)
          ∧ r.2.mem ((c.tc : Thread Cert.InStepReferenceIdeal.nD Cert.InStepReferenceIdeal.τ).loc Cert.InStepReferenceIdeal.main_arg4) = m' ((c.tc : Thread Cert.InStepReferenceIdeal.nD Cert.InStepReferenceIdeal.τ).loc Cert.InStepReferenceIdeal.main_arg4)
          ∧ r.2.mem ((c.tc : Thread Cert.InStepReferenceIdeal.nD Cert.InStepReferenceIdeal.τ).loc Cert.InStepReferenceIdeal.main_arg5) = m' ((c.tc : Thread Cert.InStepReferenceIdeal.nD Cert.InStepReferenceIdeal.τ).loc Cert.InStepReferenceIdeal.main_arg5)
          ∧ r.2.mem ((c.tc : Thread Cert.InStepReferenceIdeal.nD Cert.InStepReferenceIdeal.τ).loc Cert.InStepReferenceIdeal.main_arg6) = m' ((c.tc : Thread Cert.InStepReferenceIdeal.nD Cert.InStepReferenceIdeal.τ).loc Cert.InStepReferenceIdeal.main_arg6))

def preserves_MixDy_MixDyIdeal : Prop :=
  True

def algebraic_MixDyIdeal_MixDyReferenceIdeal [hMixDyIdeal : Cert.MixDyIdeal.Facts] [hMixDyReferenceIdeal : Cert.MixDyReferenceIdeal.Facts] : Prop :=
  ∀ (m : (ℓ : Loc Cert.MixDyIdeal.nD Cert.MixDyIdeal.τ Cert.MixDyIdeal.sig) → Buf (Elt Ideal) ℓ) (g : Dev Cert.MixDyIdeal.nD → PrngReg)
    (m' : (ℓ : Loc Cert.MixDyReferenceIdeal.nD Cert.MixDyReferenceIdeal.τ Cert.MixDyReferenceIdeal.sig) → Buf (Elt Ideal) ℓ) (g' : Dev Cert.MixDyReferenceIdeal.nD → PrngReg), Pre_MixDyIdeal m →
    (∀ c : Dev Cert.MixDyIdeal.nD,
      m' ((c.tc : Thread Cert.MixDyReferenceIdeal.nD Cert.MixDyReferenceIdeal.τ).loc Cert.MixDyReferenceIdeal.main_arg0) = m ((c.tc : Thread Cert.MixDyIdeal.nD Cert.MixDyIdeal.τ).loc Cert.MixDyIdeal.main_arg0)
      ∧ m' ((c.tc : Thread Cert.MixDyReferenceIdeal.nD Cert.MixDyReferenceIdeal.τ).loc Cert.MixDyReferenceIdeal.main_arg1) = m ((c.tc : Thread Cert.MixDyIdeal.nD Cert.MixDyIdeal.τ).loc Cert.MixDyIdeal.main_arg1)) →
    ∃ (v0 : (c : Dev Cert.MixDyIdeal.nD) → Buf (Elt Ideal) ((c.tc : Thread Cert.MixDyIdeal.nD Cert.MixDyIdeal.τ).loc Cert.MixDyIdeal.main_v0)),
      θ_run (Cert.MixDyIdeal.defs (F := Ideal)) (onTc (τ := Cert.MixDyIdeal.τ) (Cert.MixDyIdeal.main (F := Ideal))) ⟨m, fun _ => 0, g⟩ (fun r => ∀ c : Dev Cert.MixDyIdeal.nD,
          r.2.mem ((c.tc : Thread Cert.MixDyIdeal.nD Cert.MixDyIdeal.τ).loc Cert.MixDyIdeal.main_v0) = v0 c
          ∧ r.2.mem ((c.tc : Thread Cert.MixDyIdeal.nD Cert.MixDyIdeal.τ).loc Cert.MixDyIdeal.main_arg0) = m ((c.tc : Thread Cert.MixDyIdeal.nD Cert.MixDyIdeal.τ).loc Cert.MixDyIdeal.main_arg0)
          ∧ r.2.mem ((c.tc : Thread Cert.MixDyIdeal.nD Cert.MixDyIdeal.τ).loc Cert.MixDyIdeal.main_arg1) = m ((c.tc : Thread Cert.MixDyIdeal.nD Cert.MixDyIdeal.τ).loc Cert.MixDyIdeal.main_arg1))
      ∧ θ_run (Cert.MixDyReferenceIdeal.defs (F := Ideal)) (onTc (τ := Cert.MixDyReferenceIdeal.τ) (Cert.MixDyReferenceIdeal.main (F := Ideal))) ⟨m', fun _ => 0, g'⟩ (fun r => ∀ c : Dev Cert.MixDyReferenceIdeal.nD,
          r.2.mem ((c.tc : Thread Cert.MixDyReferenceIdeal.nD Cert.MixDyReferenceIdeal.τ).loc Cert.MixDyReferenceIdeal.main_v6) = v0 c
          ∧ r.2.mem ((c.tc : Thread Cert.MixDyReferenceIdeal.nD Cert.MixDyReferenceIdeal.τ).loc Cert.MixDyReferenceIdeal.main_arg0) = m' ((c.tc : Thread Cert.MixDyReferenceIdeal.nD Cert.MixDyReferenceIdeal.τ).loc Cert.MixDyReferenceIdeal.main_arg0)
          ∧ r.2.mem ((c.tc : Thread Cert.MixDyReferenceIdeal.nD Cert.MixDyReferenceIdeal.τ).loc Cert.MixDyReferenceIdeal.main_arg1) = m' ((c.tc : Thread Cert.MixDyReferenceIdeal.nD Cert.MixDyReferenceIdeal.τ).loc Cert.MixDyReferenceIdeal.main_arg1))

def preserves_GradOut_GradOutIdeal : Prop :=
  True

def algebraic_GradOutIdeal_GradOutReferenceIdeal [hGradOutIdeal : Cert.GradOutIdeal.Facts] [hGradOutReferenceIdeal : Cert.GradOutReferenceIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutReferenceIdeal.nD Cert.GradOutReferenceIdeal.τ Cert.GradOutReferenceIdeal.sig) → Buf (Elt Ideal) ℓ) (g' : Dev Cert.GradOutReferenceIdeal.nD → PrngReg), Pre_GradOutIdeal m →
    (∀ c : Dev Cert.GradOutIdeal.nD,
      m' ((c.tc : Thread Cert.GradOutReferenceIdeal.nD Cert.GradOutReferenceIdeal.τ).loc Cert.GradOutReferenceIdeal.main_arg0) = m ((c.tc : Thread Cert.GradOutIdeal.nD Cert.GradOutIdeal.τ).loc Cert.GradOutIdeal.main_arg0)
      ∧ m' ((c.tc : Thread Cert.GradOutReferenceIdeal.nD Cert.GradOutReferenceIdeal.τ).loc Cert.GradOutReferenceIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutReferenceIdeal.defs (F := Ideal)) (onTc (τ := Cert.GradOutReferenceIdeal.τ) (Cert.GradOutReferenceIdeal.main (F := Ideal))) ⟨m', fun _ => 0, g'⟩ (fun r => ∀ c : Dev Cert.GradOutReferenceIdeal.nD,
          r.2.mem ((c.tc : Thread Cert.GradOutReferenceIdeal.nD Cert.GradOutReferenceIdeal.τ).loc Cert.GradOutReferenceIdeal.main_v8) = v0 c
          ∧ r.2.mem ((c.tc : Thread Cert.GradOutReferenceIdeal.nD Cert.GradOutReferenceIdeal.τ).loc Cert.GradOutReferenceIdeal.main_arg0) = m' ((c.tc : Thread Cert.GradOutReferenceIdeal.nD Cert.GradOutReferenceIdeal.τ).loc Cert.GradOutReferenceIdeal.main_arg0)
          ∧ r.2.mem ((c.tc : Thread Cert.GradOutReferenceIdeal.nD Cert.GradOutReferenceIdeal.τ).loc Cert.GradOutReferenceIdeal.main_arg1) = m' ((c.tc : Thread Cert.GradOutReferenceIdeal.nD Cert.GradOutReferenceIdeal.τ).loc Cert.GradOutReferenceIdeal.main_arg1))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v6) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_AdamW1_AdamW1Ideal : Prop :=
  True

def algebraic_AdamW1Ideal_AdamW1ReferenceIdeal [hAdamW1Ideal : Cert.AdamW1Ideal.Facts] [hAdamW1ReferenceIdeal : Cert.AdamW1ReferenceIdeal.Facts] : Prop :=
  ∀ (m : (ℓ : Loc Cert.AdamW1Ideal.nD Cert.AdamW1Ideal.τ Cert.AdamW1Ideal.sig) → Buf (Elt Ideal) ℓ) (g : Dev Cert.AdamW1Ideal.nD → PrngReg)
    (m' : (ℓ : Loc Cert.AdamW1ReferenceIdeal.nD Cert.AdamW1ReferenceIdeal.τ Cert.AdamW1ReferenceIdeal.sig) → Buf (Elt Ideal) ℓ) (g' : Dev Cert.AdamW1ReferenceIdeal.nD → PrngReg), Pre_AdamW1Ideal m →
    (∀ c : Dev Cert.AdamW1Ideal.nD,
      m' ((c.tc : Thread Cert.AdamW1ReferenceIdeal.nD Cert.AdamW1ReferenceIdeal.τ).loc Cert.AdamW1ReferenceIdeal.main_arg0) = m ((c.tc : Thread Cert.AdamW1Ideal.nD Cert.AdamW1Ideal.τ).loc Cert.AdamW1Ideal.main_arg0)
      ∧ m' ((c.tc : Thread Cert.AdamW1ReferenceIdeal.nD Cert.AdamW1ReferenceIdeal.τ).loc Cert.AdamW1ReferenceIdeal.main_arg1) = m ((c.tc : Thread Cert.AdamW1Ideal.nD Cert.AdamW1Ideal.τ).loc Cert.AdamW1Ideal.main_arg1)
      ∧ m' ((c.tc : Thread Cert.AdamW1ReferenceIdeal.nD Cert.AdamW1ReferenceIdeal.τ).loc Cert.AdamW1ReferenceIdeal.main_arg2) = m ((c.tc : Thread Cert.AdamW1Ideal.nD Cert.AdamW1Ideal.τ).loc Cert.AdamW1Ideal.main_arg2)
      ∧ m' ((c.tc : Thread Cert.AdamW1ReferenceIdeal.nD Cert.AdamW1ReferenceIdeal.τ).loc Cert.AdamW1ReferenceIdeal.main_arg3) = m ((c.tc : Thread Cert.AdamW1Ideal.nD Cert.AdamW1Ideal.τ).loc Cert.AdamW1Ideal.main_arg3)
      ∧ m' ((c.tc : Thread Cert.AdamW1ReferenceIdeal.nD Cert.AdamW1ReferenceIdeal.τ).loc Cert.AdamW1ReferenceIdeal.main_arg4) = m ((c.tc : Thread Cert.AdamW1Ideal.nD Cert.AdamW1Ideal.τ).loc Cert.AdamW1Ideal.main_arg4)) →
    ∃ (v0 : (c : Dev Cert.AdamW1Ideal.nD) → Buf (Elt Ideal) ((c.tc : Thread Cert.AdamW1Ideal.nD Cert.AdamW1Ideal.τ).loc Cert.AdamW1Ideal.main_v3_0)) (v1 : (c : Dev Cert.AdamW1Ideal.nD) → Buf (Elt Ideal) ((c.tc : Thread Cert.AdamW1Ideal.nD Cert.AdamW1Ideal.τ).loc Cert.AdamW1Ideal.main_v3_1)) (v2 : (c : Dev Cert.AdamW1Ideal.nD) → Buf (Elt Ideal) ((c.tc : Thread Cert.AdamW1Ideal.nD Cert.AdamW1Ideal.τ).loc Cert.AdamW1Ideal.main_v3_2)) (v3 : (c : Dev Cert.AdamW1Ideal.nD) → Buf (Elt Ideal) ((c.tc : Thread Cert.AdamW1Ideal.nD Cert.AdamW1Ideal.τ).loc Cert.AdamW1Ideal.main_v3_3)),
      θ_run (Cert.AdamW1Ideal.defs (F := Ideal)) (onTc (τ := Cert.AdamW1Ideal.τ) (Cert.AdamW1Ideal.main (F := Ideal))) ⟨m, fun _ => 0, g⟩ (fun r => ∀ c : Dev Cert.AdamW1Ideal.nD,
          r.2.mem ((c.tc : Thread Cert.AdamW1Ideal.nD Cert.AdamW1Ideal.τ).loc Cert.AdamW1Ideal.main_v3_0) = v0 c
          ∧ r.2.mem ((c.tc : Thread Cert.AdamW1Ideal.nD Cert.AdamW1Ideal.τ).loc Cert.AdamW1Ideal.main_v3_1) = v1 c
          ∧ r.2.mem ((c.tc : Thread Cert.AdamW1Ideal.nD Cert.AdamW1Ideal.τ).loc Cert.AdamW1Ideal.main_v3_2) = v2 c
          ∧ r.2.mem ((c.tc : Thread Cert.AdamW1Ideal.nD Cert.AdamW1Ideal.τ).loc Cert.AdamW1Ideal.main_v3_3) = v3 c
          ∧ r.2.mem ((c.tc : Thread Cert.AdamW1Ideal.nD Cert.AdamW1Ideal.τ).loc Cert.AdamW1Ideal.main_arg0) = m ((c.tc : Thread Cert.AdamW1Ideal.nD Cert.AdamW1Ideal.τ).loc Cert.AdamW1Ideal.main_arg0)
          ∧ r.2.mem ((c.tc : Thread Cert.AdamW1Ideal.nD Cert.AdamW1Ideal.τ).loc Cert.AdamW1Ideal.main_arg1) = m ((c.tc : Thread Cert.AdamW1Ideal.nD Cert.AdamW1Ideal.τ).loc Cert.AdamW1Ideal.main_arg1)
          ∧ r.2.mem ((c.tc : Thread Cert.AdamW1Ideal.nD Cert.AdamW1Ideal.τ).loc Cert.AdamW1Ideal.main_arg2) = m ((c.tc : Thread Cert.AdamW1Ideal.nD Cert.AdamW1Ideal.τ).loc Cert.AdamW1Ideal.main_arg2)
          ∧ r.2.mem ((c.tc : Thread Cert.AdamW1Ideal.nD Cert.AdamW1Ideal.τ).loc Cert.AdamW1Ideal.main_arg3) = m ((c.tc : Thread Cert.AdamW1Ideal.nD Cert.AdamW1Ideal.τ).loc Cert.AdamW1Ideal.main_arg3)
          ∧ r.2.mem ((c.tc : Thread Cert.AdamW1Ideal.nD Cert.AdamW1Ideal.τ).loc Cert.AdamW1Ideal.main_arg4) = m ((c.tc : Thread Cert.AdamW1Ideal.nD Cert.AdamW1Ideal.τ).loc Cert.AdamW1Ideal.main_arg4))
      ∧ θ_run (Cert.AdamW1ReferenceIdeal.defs (F := Ideal)) (onTc (τ := Cert.AdamW1ReferenceIdeal.τ) (Cert.AdamW1ReferenceIdeal.main (F := Ideal))) ⟨m', fun _ => 0, g'⟩ (fun r => ∀ c : Dev Cert.AdamW1ReferenceIdeal.nD,
          r.2.mem ((c.tc : Thread Cert.AdamW1ReferenceIdeal.nD Cert.AdamW1ReferenceIdeal.τ).loc Cert.AdamW1ReferenceIdeal.main_v2) = v0 c
          ∧ r.2.mem ((c.tc : Thread Cert.AdamW1ReferenceIdeal.nD Cert.AdamW1ReferenceIdeal.τ).loc Cert.AdamW1ReferenceIdeal.main_v29) = v1 c
          ∧ r.2.mem ((c.tc : Thread Cert.AdamW1ReferenceIdeal.nD Cert.AdamW1ReferenceIdeal.τ).loc Cert.AdamW1ReferenceIdeal.main_v10) = v2 c
          ∧ r.2.mem ((c.tc : Thread Cert.AdamW1ReferenceIdeal.nD Cert.AdamW1ReferenceIdeal.τ).loc Cert.AdamW1ReferenceIdeal.main_v16) = v3 c
          ∧ r.2.mem ((c.tc : Thread Cert.AdamW1ReferenceIdeal.nD Cert.AdamW1ReferenceIdeal.τ).loc Cert.AdamW1ReferenceIdeal.main_arg0) = m' ((c.tc : Thread Cert.AdamW1ReferenceIdeal.nD Cert.AdamW1ReferenceIdeal.τ).loc Cert.AdamW1ReferenceIdeal.main_arg0)
          ∧ r.2.mem ((c.tc : Thread Cert.AdamW1ReferenceIdeal.nD Cert.AdamW1ReferenceIdeal.τ).loc Cert.AdamW1ReferenceIdeal.main_arg1) = m' ((c.tc : Thread Cert.AdamW1ReferenceIdeal.nD Cert.AdamW1ReferenceIdeal.τ).loc Cert.AdamW1ReferenceIdeal.main_arg1)
          ∧ r.2.mem ((c.tc : Thread Cert.AdamW1ReferenceIdeal.nD Cert.AdamW1ReferenceIdeal.τ).loc Cert.AdamW1ReferenceIdeal.main_arg2) = m' ((c.tc : Thread Cert.AdamW1ReferenceIdeal.nD Cert.AdamW1ReferenceIdeal.τ).loc Cert.AdamW1ReferenceIdeal.main_arg2)
          ∧ r.2.mem ((c.tc : Thread Cert.AdamW1ReferenceIdeal.nD Cert.AdamW1ReferenceIdeal.τ).loc Cert.AdamW1ReferenceIdeal.main_arg3) = m' ((c.tc : Thread Cert.AdamW1ReferenceIdeal.nD Cert.AdamW1ReferenceIdeal.τ).loc Cert.AdamW1ReferenceIdeal.main_arg3)
          ∧ r.2.mem ((c.tc : Thread Cert.AdamW1ReferenceIdeal.nD Cert.AdamW1ReferenceIdeal.τ).loc Cert.AdamW1ReferenceIdeal.main_arg4) = m' ((c.tc : Thread Cert.AdamW1ReferenceIdeal.nD Cert.AdamW1ReferenceIdeal.τ).loc Cert.AdamW1ReferenceIdeal.main_arg4))

def preserves_AdamWin_AdamWinIdeal : Prop :=
  True

def algebraic_AdamWinIdeal_AdamWinReferenceIdeal [hAdamWinIdeal : Cert.AdamWinIdeal.Facts] [hAdamWinReferenceIdeal : Cert.AdamWinReferenceIdeal.Facts] : Prop :=
  ∀ (m : (ℓ : Loc Cert.AdamWinIdeal.nD Cert.AdamWinIdeal.τ Cert.AdamWinIdeal.sig) → Buf (Elt Ideal) ℓ) (g : Dev Cert.AdamWinIdeal.nD → PrngReg)
    (m' : (ℓ : Loc Cert.AdamWinReferenceIdeal.nD Cert.AdamWinReferenceIdeal.τ Cert.AdamWinReferenceIdeal.sig) → Buf (Elt Ideal) ℓ) (g' : Dev Cert.AdamWinReferenceIdeal.nD → PrngReg), Pre_AdamWinIdeal m →
    (∀ c : Dev Cert.AdamWinIdeal.nD,
      m' ((c.tc : Thread Cert.AdamWinReferenceIdeal.nD Cert.AdamWinReferenceIdeal.τ).loc Cert.AdamWinReferenceIdeal.main_arg0) = m ((c.tc : Thread Cert.AdamWinIdeal.nD Cert.AdamWinIdeal.τ).loc Cert.AdamWinIdeal.main_arg0)
      ∧ m' ((c.tc : Thread Cert.AdamWinReferenceIdeal.nD Cert.AdamWinReferenceIdeal.τ).loc Cert.AdamWinReferenceIdeal.main_arg1) = m ((c.tc : Thread Cert.AdamWinIdeal.nD Cert.AdamWinIdeal.τ).loc Cert.AdamWinIdeal.main_arg1)
      ∧ m' ((c.tc : Thread Cert.AdamWinReferenceIdeal.nD Cert.AdamWinReferenceIdeal.τ).loc Cert.AdamWinReferenceIdeal.main_arg2) = m ((c.tc : Thread Cert.AdamWinIdeal.nD Cert.AdamWinIdeal.τ).loc Cert.AdamWinIdeal.main_arg2)
      ∧ m' ((c.tc : Thread Cert.AdamWinReferenceIdeal.nD Cert.AdamWinReferenceIdeal.τ).loc Cert.AdamWinReferenceIdeal.main_arg3) = m ((c.tc : Thread Cert.AdamWinIdeal.nD Cert.AdamWinIdeal.τ).loc Cert.AdamWinIdeal.main_arg3)
      ∧ m' ((c.tc : Thread Cert.AdamWinReferenceIdeal.nD Cert.AdamWinReferenceIdeal.τ).loc Cert.AdamWinReferenceIdeal.main_arg4) = m ((c.tc : Thread Cert.AdamWinIdeal.nD Cert.AdamWinIdeal.τ).loc Cert.AdamWinIdeal.main_arg4)) →
    ∃ (v0 : (c : Dev Cert.AdamWinIdeal.nD) → Buf (Elt Ideal) ((c.tc : Thread Cert.AdamWinIdeal.nD Cert.AdamWinIdeal.τ).loc Cert.AdamWinIdeal.main_v3_0)) (v1 : (c : Dev Cert.AdamWinIdeal.nD) → Buf (Elt Ideal) ((c.tc : Thread Cert.AdamWinIdeal.nD Cert.AdamWinIdeal.τ).loc Cert.AdamWinIdeal.main_v3_1)) (v2 : (c : Dev Cert.AdamWinIdeal.nD) → Buf (Elt Ideal) ((c.tc : Thread Cert.AdamWinIdeal.nD Cert.AdamWinIdeal.τ).loc Cert.AdamWinIdeal.main_v3_2)) (v3 : (c : Dev Cert.AdamWinIdeal.nD) → Buf (Elt Ideal) ((c.tc : Thread Cert.AdamWinIdeal.nD Cert.AdamWinIdeal.τ).loc Cert.AdamWinIdeal.main_v3_3)),
      θ_run (Cert.AdamWinIdeal.defs (F := Ideal)) (onTc (τ := Cert.AdamWinIdeal.τ) (Cert.AdamWinIdeal.main (F := Ideal))) ⟨m, fun _ => 0, g⟩ (fun r => ∀ c : Dev Cert.AdamWinIdeal.nD,
          r.2.mem ((c.tc : Thread Cert.AdamWinIdeal.nD Cert.AdamWinIdeal.τ).loc Cert.AdamWinIdeal.main_v3_0) = v0 c
          ∧ r.2.mem ((c.tc : Thread Cert.AdamWinIdeal.nD Cert.AdamWinIdeal.τ).loc Cert.AdamWinIdeal.main_v3_1) = v1 c
          ∧ r.2.mem ((c.tc : Thread Cert.AdamWinIdeal.nD Cert.AdamWinIdeal.τ).loc Cert.AdamWinIdeal.main_v3_2) = v2 c
          ∧ r.2.mem ((c.tc : Thread Cert.AdamWinIdeal.nD Cert.AdamWinIdeal.τ).loc Cert.AdamWinIdeal.main_v3_3) = v3 c
          ∧ r.2.mem ((c.tc : Thread Cert.AdamWinIdeal.nD Cert.AdamWinIdeal.τ).loc Cert.AdamWinIdeal.main_arg0) = m ((c.tc : Thread Cert.AdamWinIdeal.nD Cert.AdamWinIdeal.τ).loc Cert.AdamWinIdeal.main_arg0)
          ∧ r.2.mem ((c.tc : Thread Cert.AdamWinIdeal.nD Cert.AdamWinIdeal.τ).loc Cert.AdamWinIdeal.main_arg1) = m ((c.tc : Thread Cert.AdamWinIdeal.nD Cert.AdamWinIdeal.τ).loc Cert.AdamWinIdeal.main_arg1)
          ∧ r.2.mem ((c.tc : Thread Cert.AdamWinIdeal.nD Cert.AdamWinIdeal.τ).loc Cert.AdamWinIdeal.main_arg2) = m ((c.tc : Thread Cert.AdamWinIdeal.nD Cert.AdamWinIdeal.τ).loc Cert.AdamWinIdeal.main_arg2)
          ∧ r.2.mem ((c.tc : Thread Cert.AdamWinIdeal.nD Cert.AdamWinIdeal.τ).loc Cert.AdamWinIdeal.main_arg3) = m ((c.tc : Thread Cert.AdamWinIdeal.nD Cert.AdamWinIdeal.τ).loc Cert.AdamWinIdeal.main_arg3)
          ∧ r.2.mem ((c.tc : Thread Cert.AdamWinIdeal.nD Cert.AdamWinIdeal.τ).loc Cert.AdamWinIdeal.main_arg4) = m ((c.tc : Thread Cert.AdamWinIdeal.nD Cert.AdamWinIdeal.τ).loc Cert.AdamWinIdeal.main_arg4))
      ∧ θ_run (Cert.AdamWinReferenceIdeal.defs (F := Ideal)) (onTc (τ := Cert.AdamWinReferenceIdeal.τ) (Cert.AdamWinReferenceIdeal.main (F := Ideal))) ⟨m', fun _ => 0, g'⟩ (fun r => ∀ c : Dev Cert.AdamWinReferenceIdeal.nD,
          r.2.mem ((c.tc : Thread Cert.AdamWinReferenceIdeal.nD Cert.AdamWinReferenceIdeal.τ).loc Cert.AdamWinReferenceIdeal.main_v2) = v0 c
          ∧ r.2.mem ((c.tc : Thread Cert.AdamWinReferenceIdeal.nD Cert.AdamWinReferenceIdeal.τ).loc Cert.AdamWinReferenceIdeal.main_v29) = v1 c
          ∧ r.2.mem ((c.tc : Thread Cert.AdamWinReferenceIdeal.nD Cert.AdamWinReferenceIdeal.τ).loc Cert.AdamWinReferenceIdeal.main_v10) = v2 c
          ∧ r.2.mem ((c.tc : Thread Cert.AdamWinReferenceIdeal.nD Cert.AdamWinReferenceIdeal.τ).loc Cert.AdamWinReferenceIdeal.main_v16) = v3 c
          ∧ r.2.mem ((c.tc : Thread Cert.AdamWinReferenceIdeal.nD Cert.AdamWinReferenceIdeal.τ).loc Cert.AdamWinReferenceIdeal.main_arg0) = m' ((c.tc : Thread Cert.AdamWinReferenceIdeal.nD Cert.AdamWinReferenceIdeal.τ).loc Cert.AdamWinReferenceIdeal.main_arg0)
          ∧ r.2.mem ((c.tc : Thread Cert.AdamWinReferenceIdeal.nD Cert.AdamWinReferenceIdeal.τ).loc Cert.AdamWinReferenceIdeal.main_arg1) = m' ((c.tc : Thread Cert.AdamWinReferenceIdeal.nD Cert.AdamWinReferenceIdeal.τ).loc Cert.AdamWinReferenceIdeal.main_arg1)
          ∧ r.2.mem ((c.tc : Thread Cert.AdamWinReferenceIdeal.nD Cert.AdamWinReferenceIdeal.τ).loc Cert.AdamWinReferenceIdeal.main_arg2) = m' ((c.tc : Thread Cert.AdamWinReferenceIdeal.nD Cert.AdamWinReferenceIdeal.τ).loc Cert.AdamWinReferenceIdeal.main_arg2)
          ∧ r.2.mem ((c.tc : Thread Cert.AdamWinReferenceIdeal.nD Cert.AdamWinReferenceIdeal.τ).loc Cert.AdamWinReferenceIdeal.main_arg3) = m' ((c.tc : Thread Cert.AdamWinReferenceIdeal.nD Cert.AdamWinReferenceIdeal.τ).loc Cert.AdamWinReferenceIdeal.main_arg3)
          ∧ r.2.mem ((c.tc : Thread Cert.AdamWinReferenceIdeal.nD Cert.AdamWinReferenceIdeal.τ).loc Cert.AdamWinReferenceIdeal.main_arg4) = m' ((c.tc : Thread Cert.AdamWinReferenceIdeal.nD Cert.AdamWinReferenceIdeal.τ).loc Cert.AdamWinReferenceIdeal.main_arg4))

def preserves_AdamPool_AdamPoolIdeal : Prop :=
  True

def algebraic_AdamPoolIdeal_AdamPoolReferenceIdeal [hAdamPoolIdeal : Cert.AdamPoolIdeal.Facts] [hAdamPoolReferenceIdeal : Cert.AdamPoolReferenceIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolReferenceIdeal.nD Cert.AdamPoolReferenceIdeal.τ Cert.AdamPoolReferenceIdeal.sig) → Buf (Elt Ideal) ℓ) (g' : Dev Cert.AdamPoolReferenceIdeal.nD → PrngReg), Pre_AdamPoolIdeal m →
    (∀ c : Dev Cert.AdamPoolIdeal.nD,
      m' ((c.tc : Thread Cert.AdamPoolReferenceIdeal.nD Cert.AdamPoolReferenceIdeal.τ).loc Cert.AdamPoolReferenceIdeal.main_arg0) = m ((c.tc : Thread Cert.AdamPoolIdeal.nD Cert.AdamPoolIdeal.τ).loc Cert.AdamPoolIdeal.main_arg0)
      ∧ m' ((c.tc : Thread Cert.AdamPoolReferenceIdeal.nD Cert.AdamPoolReferenceIdeal.τ).loc Cert.AdamPoolReferenceIdeal.main_arg1) = m ((c.tc : Thread Cert.AdamPoolIdeal.nD Cert.AdamPoolIdeal.τ).loc Cert.AdamPoolIdeal.main_arg1)
      ∧ m' ((c.tc : Thread Cert.AdamPoolReferenceIdeal.nD Cert.AdamPoolReferenceIdeal.τ).loc Cert.AdamPoolReferenceIdeal.main_arg2) = m ((c.tc : Thread Cert.AdamPoolIdeal.nD Cert.AdamPoolIdeal.τ).loc Cert.AdamPoolIdeal.main_arg2)
      ∧ m' ((c.tc : Thread Cert.AdamPoolReferenceIdeal.nD Cert.AdamPoolReferenceIdeal.τ).loc Cert.AdamPoolReferenceIdeal.main_arg3) = m ((c.tc : Thread Cert.AdamPoolIdeal.nD Cert.AdamPoolIdeal.τ).loc Cert.AdamPoolIdeal.main_arg3)
      ∧ m' ((c.tc : Thread Cert.AdamPoolReferenceIdeal.nD Cert.AdamPoolReferenceIdeal.τ).loc Cert.AdamPoolReferenceIdeal.main_arg4) = m ((c.tc : Thread Cert.AdamPoolIdeal.nD Cert.AdamPoolIdeal.τ).loc Cert.AdamPoolIdeal.main_arg4)) →
    ∃ (v0 : (c : Dev Cert.AdamPoolIdeal.nD) → Buf (Elt Ideal) ((c.tc : Thread Cert.AdamPoolIdeal.nD Cert.AdamPoolIdeal.τ).loc Cert.AdamPoolIdeal.main_v3_0)) (v1 : (c : Dev Cert.AdamPoolIdeal.nD) → Buf (Elt Ideal) ((c.tc : Thread Cert.AdamPoolIdeal.nD Cert.AdamPoolIdeal.τ).loc Cert.AdamPoolIdeal.main_v3_1)) (v2 : (c : Dev Cert.AdamPoolIdeal.nD) → Buf (Elt Ideal) ((c.tc : Thread Cert.AdamPoolIdeal.nD Cert.AdamPoolIdeal.τ).loc Cert.AdamPoolIdeal.main_v3_2)) (v3 : (c : Dev Cert.AdamPoolIdeal.nD) → Buf (Elt Ideal) ((c.tc : Thread Cert.AdamPoolIdeal.nD Cert.AdamPoolIdeal.τ).loc Cert.AdamPoolIdeal.main_v3_3)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v3_0) = v0 c
          ∧ r.2.mem ((c.tc : Thread Cert.AdamPoolIdeal.nD Cert.AdamPoolIdeal.τ).loc Cert.AdamPoolIdeal.main_v3_1) = v1 c
          ∧ r.2.mem ((c.tc : Thread Cert.AdamPoolIdeal.nD Cert.AdamPoolIdeal.τ).loc Cert.AdamPoolIdeal.main_v3_2) = v2 c
          ∧ r.2.mem ((c.tc : Thread Cert.AdamPoolIdeal.nD Cert.AdamPoolIdeal.τ).loc Cert.AdamPoolIdeal.main_v3_3) = v3 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3)
          ∧ r.2.mem ((c.tc : Thread Cert.AdamPoolIdeal.nD Cert.AdamPoolIdeal.τ).loc Cert.AdamPoolIdeal.main_arg4) = m ((c.tc : Thread Cert.AdamPoolIdeal.nD Cert.AdamPoolIdeal.τ).loc Cert.AdamPoolIdeal.main_arg4))
      ∧ θ_run (Cert.AdamPoolReferenceIdeal.defs (F := Ideal)) (onTc (τ := Cert.AdamPoolReferenceIdeal.τ) (Cert.AdamPoolReferenceIdeal.main (F := Ideal))) ⟨m', fun _ => 0, g'⟩ (fun r => ∀ c : Dev Cert.AdamPoolReferenceIdeal.nD,
          r.2.mem ((c.tc : Thread Cert.AdamPoolReferenceIdeal.nD Cert.AdamPoolReferenceIdeal.τ).loc Cert.AdamPoolReferenceIdeal.main_v2) = v0 c
          ∧ r.2.mem ((c.tc : Thread Cert.AdamPoolReferenceIdeal.nD Cert.AdamPoolReferenceIdeal.τ).loc Cert.AdamPoolReferenceIdeal.main_v29) = v1 c
          ∧ r.2.mem ((c.tc : Thread Cert.AdamPoolReferenceIdeal.nD Cert.AdamPoolReferenceIdeal.τ).loc Cert.AdamPoolReferenceIdeal.main_v10) = v2 c
          ∧ r.2.mem ((c.tc : Thread Cert.AdamPoolReferenceIdeal.nD Cert.AdamPoolReferenceIdeal.τ).loc Cert.AdamPoolReferenceIdeal.main_v16) = v3 c
          ∧ r.2.mem ((c.tc : Thread Cert.AdamPoolReferenceIdeal.nD Cert.AdamPoolReferenceIdeal.τ).loc Cert.AdamPoolReferenceIdeal.main_arg0) = m' ((c.tc : Thread Cert.AdamPoolReferenceIdeal.nD Cert.AdamPoolReferenceIdeal.τ).loc Cert.AdamPoolReferenceIdeal.main_arg0)
          ∧ r.2.mem ((c.tc : Thread Cert.AdamPoolReferenceIdeal.nD Cert.AdamPoolReferenceIdeal.τ).loc Cert.AdamPoolReferenceIdeal.main_arg1) = m' ((c.tc : Thread Cert.AdamPoolReferenceIdeal.nD Cert.AdamPoolReferenceIdeal.τ).loc Cert.AdamPoolReferenceIdeal.main_arg1)
          ∧ r.2.mem ((c.tc : Thread Cert.AdamPoolReferenceIdeal.nD Cert.AdamPoolReferenceIdeal.τ).loc Cert.AdamPoolReferenceIdeal.main_arg2) = m' ((c.tc : Thread Cert.AdamPoolReferenceIdeal.nD Cert.AdamPoolReferenceIdeal.τ).loc Cert.AdamPoolReferenceIdeal.main_arg2)
          ∧ r.2.mem ((c.tc : Thread Cert.AdamPoolReferenceIdeal.nD Cert.AdamPoolReferenceIdeal.τ).loc Cert.AdamPoolReferenceIdeal.main_arg3) = m' ((c.tc : Thread Cert.AdamPoolReferenceIdeal.nD Cert.AdamPoolReferenceIdeal.τ).loc Cert.AdamPoolReferenceIdeal.main_arg3)
          ∧ r.2.mem ((c.tc : Thread Cert.AdamPoolReferenceIdeal.nD Cert.AdamPoolReferenceIdeal.τ).loc Cert.AdamPoolReferenceIdeal.main_arg4) = m' ((c.tc : Thread Cert.AdamPoolReferenceIdeal.nD Cert.AdamPoolReferenceIdeal.τ).loc Cert.AdamPoolReferenceIdeal.main_arg4))

def Claim : Prop :=
  ∃ (hKernel : Cert.Kernel.Facts) (hKernelIdeal : Cert.KernelIdeal.Facts) (hReferenceIdeal : Cert.ReferenceIdeal.Facts) (hHidden : Cert.Hidden.Facts) (hHiddenIdeal : Cert.HiddenIdeal.Facts) (hHiddenReferenceIdeal : Cert.HiddenReferenceIdeal.Facts) (hMlpOut : Cert.MlpOut.Facts) (hMlpOutIdeal : Cert.MlpOutIdeal.Facts) (hMlpOutReferenceIdeal : Cert.MlpOutReferenceIdeal.Facts) (hMlpDx : Cert.MlpDx.Facts) (hMlpDxIdeal : Cert.MlpDxIdeal.Facts) (hMlpDxReferenceIdeal : Cert.MlpDxReferenceIdeal.Facts) (hGradW : Cert.GradW.Facts) (hGradWIdeal : Cert.GradWIdeal.Facts) (hGradWReferenceIdeal : Cert.GradWReferenceIdeal.Facts) (hGradX : Cert.GradX.Facts) (hGradXIdeal : Cert.GradXIdeal.Facts) (hGradXReferenceIdeal : Cert.GradXReferenceIdeal.Facts) (hInStep : Cert.InStep.Facts) (hInStepIdeal : Cert.InStepIdeal.Facts) (hInStepReferenceIdeal : Cert.InStepReferenceIdeal.Facts) (hMixDy : Cert.MixDy.Facts) (hMixDyIdeal : Cert.MixDyIdeal.Facts) (hMixDyReferenceIdeal : Cert.MixDyReferenceIdeal.Facts) (hGradOut : Cert.GradOut.Facts) (hGradOutIdeal : Cert.GradOutIdeal.Facts) (hGradOutReferenceIdeal : Cert.GradOutReferenceIdeal.Facts) (hProj : Cert.Proj.Facts) (hProjIdeal : Cert.ProjIdeal.Facts) (hProjReferenceIdeal : Cert.ProjReferenceIdeal.Facts) (hAdamW1 : Cert.AdamW1.Facts) (hAdamW1Ideal : Cert.AdamW1Ideal.Facts) (hAdamW1ReferenceIdeal : Cert.AdamW1ReferenceIdeal.Facts) (hAdamWin : Cert.AdamWin.Facts) (hAdamWinIdeal : Cert.AdamWinIdeal.Facts) (hAdamWinReferenceIdeal : Cert.AdamWinReferenceIdeal.Facts) (hAdamPool : Cert.AdamPool.Facts) (hAdamPoolIdeal : Cert.AdamPoolIdeal.Facts) (hAdamPoolReferenceIdeal : Cert.AdamPoolReferenceIdeal.Facts) (hOn_pool_written : Cert.On_pool_written.Facts),
    quiescent_Kernel (hKernel := hKernel)
    ∧ quiescent_KernelIdeal (hKernelIdeal := hKernelIdeal)
    ∧ quiescent_ReferenceIdeal (hReferenceIdeal := hReferenceIdeal)
    ∧ quiescent_Hidden (hHidden := hHidden)
    ∧ quiescent_HiddenIdeal (hHiddenIdeal := hHiddenIdeal)
    ∧ quiescent_HiddenReferenceIdeal (hHiddenReferenceIdeal := hHiddenReferenceIdeal)
    ∧ quiescent_MlpOut (hMlpOut := hMlpOut)
    ∧ quiescent_MlpOutIdeal (hMlpOutIdeal := hMlpOutIdeal)
    ∧ quiescent_MlpOutReferenceIdeal (hMlpOutReferenceIdeal := hMlpOutReferenceIdeal)
    ∧ quiescent_MlpDx (hMlpDx := hMlpDx)
    ∧ quiescent_MlpDxIdeal (hMlpDxIdeal := hMlpDxIdeal)
    ∧ quiescent_MlpDxReferenceIdeal (hMlpDxReferenceIdeal := hMlpDxReferenceIdeal)
    ∧ quiescent_GradW (hGradW := hGradW)
    ∧ quiescent_GradWIdeal (hGradWIdeal := hGradWIdeal)
    ∧ quiescent_GradWReferenceIdeal (hGradWReferenceIdeal := hGradWReferenceIdeal)
    ∧ quiescent_GradX (hGradX := hGradX)
    ∧ quiescent_GradXIdeal (hGradXIdeal := hGradXIdeal)
    ∧ quiescent_GradXReferenceIdeal (hGradXReferenceIdeal := hGradXReferenceIdeal)
    ∧ quiescent_InStep (hInStep := hInStep)
    ∧ quiescent_InStepIdeal (hInStepIdeal := hInStepIdeal)
    ∧ quiescent_InStepReferenceIdeal (hInStepReferenceIdeal := hInStepReferenceIdeal)
    ∧ quiescent_MixDy (hMixDy := hMixDy)
    ∧ quiescent_MixDyIdeal (hMixDyIdeal := hMixDyIdeal)
    ∧ quiescent_MixDyReferenceIdeal (hMixDyReferenceIdeal := hMixDyReferenceIdeal)
    ∧ quiescent_GradOut (hGradOut := hGradOut)
    ∧ quiescent_GradOutIdeal (hGradOutIdeal := hGradOutIdeal)
    ∧ quiescent_GradOutReferenceIdeal (hGradOutReferenceIdeal := hGradOutReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_AdamW1 (hAdamW1 := hAdamW1)
    ∧ quiescent_AdamW1Ideal (hAdamW1Ideal := hAdamW1Ideal)
    ∧ quiescent_AdamW1ReferenceIdeal (hAdamW1ReferenceIdeal := hAdamW1ReferenceIdeal)
    ∧ quiescent_AdamWin (hAdamWin := hAdamWin)
    ∧ quiescent_AdamWinIdeal (hAdamWinIdeal := hAdamWinIdeal)
    ∧ quiescent_AdamWinReferenceIdeal (hAdamWinReferenceIdeal := hAdamWinReferenceIdeal)
    ∧ quiescent_AdamPool (hAdamPool := hAdamPool)
    ∧ quiescent_AdamPoolIdeal (hAdamPoolIdeal := hAdamPoolIdeal)
    ∧ quiescent_AdamPoolReferenceIdeal (hAdamPoolReferenceIdeal := hAdamPoolReferenceIdeal)
    ∧ preserves_Kernel_KernelIdeal
    ∧ algebraic_KernelIdeal_ReferenceIdeal_on_pool_written (hKernelIdeal := hKernelIdeal) (hReferenceIdeal := hReferenceIdeal) (hOn_pool_written := hOn_pool_written)
    ∧ preserves_Hidden_HiddenIdeal
    ∧ algebraic_HiddenIdeal_HiddenReferenceIdeal (hHiddenIdeal := hHiddenIdeal) (hHiddenReferenceIdeal := hHiddenReferenceIdeal)
    ∧ preserves_MlpOut_MlpOutIdeal
    ∧ algebraic_MlpOutIdeal_MlpOutReferenceIdeal (hMlpOutIdeal := hMlpOutIdeal) (hMlpOutReferenceIdeal := hMlpOutReferenceIdeal)
    ∧ preserves_MlpDx_MlpDxIdeal
    ∧ algebraic_MlpDxIdeal_MlpDxReferenceIdeal (hMlpDxIdeal := hMlpDxIdeal) (hMlpDxReferenceIdeal := hMlpDxReferenceIdeal)
    ∧ preserves_GradW_GradWIdeal
    ∧ algebraic_GradWIdeal_GradWReferenceIdeal (hGradWIdeal := hGradWIdeal) (hGradWReferenceIdeal := hGradWReferenceIdeal)
    ∧ preserves_GradX_GradXIdeal
    ∧ algebraic_GradXIdeal_GradXReferenceIdeal (hGradXIdeal := hGradXIdeal) (hGradXReferenceIdeal := hGradXReferenceIdeal)
    ∧ preserves_InStep_InStepIdeal
    ∧ algebraic_InStepIdeal_InStepReferenceIdeal (hInStepIdeal := hInStepIdeal) (hInStepReferenceIdeal := hInStepReferenceIdeal)
    ∧ preserves_MixDy_MixDyIdeal
    ∧ algebraic_MixDyIdeal_MixDyReferenceIdeal (hMixDyIdeal := hMixDyIdeal) (hMixDyReferenceIdeal := hMixDyReferenceIdeal)
    ∧ preserves_GradOut_GradOutIdeal
    ∧ algebraic_GradOutIdeal_GradOutReferenceIdeal (hGradOutIdeal := hGradOutIdeal) (hGradOutReferenceIdeal := hGradOutReferenceIdeal)
    ∧ preserves_Proj_ProjIdeal
    ∧ algebraic_ProjIdeal_ProjReferenceIdeal (hProjIdeal := hProjIdeal) (hProjReferenceIdeal := hProjReferenceIdeal)
    ∧ preserves_AdamW1_AdamW1Ideal
    ∧ algebraic_AdamW1Ideal_AdamW1ReferenceIdeal (hAdamW1Ideal := hAdamW1Ideal) (hAdamW1ReferenceIdeal := hAdamW1ReferenceIdeal)
    ∧ preserves_AdamWin_AdamWinIdeal
    ∧ algebraic_AdamWinIdeal_AdamWinReferenceIdeal (hAdamWinIdeal := hAdamWinIdeal) (hAdamWinReferenceIdeal := hAdamWinReferenceIdeal)
    ∧ preserves_AdamPool_AdamPoolIdeal
    ∧ algebraic_AdamPoolIdeal_AdamPoolReferenceIdeal (hAdamPoolIdeal := hAdamPoolIdeal) (hAdamPoolReferenceIdeal := hAdamPoolReferenceIdeal)
-- ==== On_pool_written.lean ====
abbrev S3x4096x1024 : Shape := ⟨3, ![3, 4096, 1024]⟩
abbrev S1x4x256x256 : Shape := ⟨4, ![1, 4, 256, 256]⟩
abbrev S1x1024 : Shape := ⟨2, ![1, 1024]⟩
abbrev S4096x2048 : Shape := ⟨2, ![4096, 2048]⟩
abbrev S8x128 : Shape := ⟨2, ![8, 128]⟩
abbrev S_ : Shape := ⟨0, ![]⟩
abbrev S4096x3072 : Shape := ⟨2, ![4096, 3072]⟩
abbrev S8x4x32x256 : Shape := ⟨4, ![8, 4, 32, 256]⟩

class Facts : Prop where
  bcast_S_S4096x2048 : S_.BroadcastsInDim S4096x2048 (![] : Fin 0 → Fin S4096x2048.rank)
  bcast_S_S4096x3072 : S_.BroadcastsInDim S4096x3072 (![] : Fin 0 → Fin S4096x3072.rank)
  bcast_S_S8x4x32x256 : S_.BroadcastsInDim S8x4x32x256 (![] : Fin 0 → Fin S8x4x32x256.rank)
  bcast_S_S1x1024 : S_.BroadcastsInDim S1x1024 (![] : Fin 0 → Fin S1x1024.rank)

variable [Facts]

def fn {F : FTy → Type} [FloatOps F] (main_arg0 : FVec F S3x4096x1024 .f32) (main_arg1 : FVec F S1x4x256x256 .f32) (main_arg2 : FVec F S1x1024 .f32) (main_arg3 : FVec F S4096x2048 .f32) (main_arg4 : FVec F S8x128 .f32) : IVec S4096x2048 1 × IVec S4096x3072 1 × IVec S8x4x32x256 1 × IVec S1x1024 1 :=
  let main_v0 : IVec S4096x2048 32 := iotaInDim S4096x2048 32 1
  let main_c : IVec S_ 32 := constantI S_ 32 1024#32
  let main_v1 : IVec S4096x2048 32 := broadcastInDim S4096x2048 ![] bcast_S_S4096x2048 main_c
  let main_v2 : IVec S4096x2048 1 := cmpi .slt main_v0 main_v1
  let main_v3 : IVec S4096x3072 32 := iotaInDim S4096x3072 32 1
  let main_c_0 : IVec S_ 32 := constantI S_ 32 1024#32
  let main_v4 : IVec S4096x3072 32 := broadcastInDim S4096x3072 ![] bcast_S_S4096x3072 main_c_0
  let main_v5 : IVec S4096x3072 1 := cmpi .slt main_v3 main_v4
  let main_v6 : IVec S8x4x32x256 32 := iotaInDim S8x4x32x256 32 1
  let main_c_1 : IVec S_ 32 := constantI S_ 32 4#32
  let main_v7 : IVec S8x4x32x256 32 := broadcastInDim S8x4x32x256 ![] bcast_S_S8x4x32x256 main_c_1
  let main_v8 : IVec S8x4x32x256 1 := cmpi .slt main_v6 main_v7
  let main_v9 : IVec S1x1024 32 := iotaInDim S1x1024 32 0
  let main_c_2 : IVec S_ 32 := constantI S_ 32 1#32
  let main_v10 : IVec S1x1024 32 := broadcastInDim S1x1024 ![] bcast_S_S1x1024 main_c_2
  let main_v11 : IVec S1x1024 1 := cmpi .slt main_v9 main_v10
  (main_v2, main_v5, main_v8, main_v11)
-- ==== Kernel.lean ====
abbrev S3x4096x1024 : Shape := ⟨3, ![3, 4096, 1024]⟩
abbrev S1x4x256x256 : Shape := ⟨4, ![1, 4, 256, 256]⟩
abbrev S1x1024 : Shape := ⟨2, ![1, 1024]⟩
abbrev S4096x2048 : Shape := ⟨2, ![4096, 2048]⟩
abbrev S8x128 : Shape := ⟨2, ![8, 128]⟩
abbrev S4x256x256 : Shape := ⟨3, ![4, 256, 256]⟩
abbrev S4096x1024 : Shape := ⟨2, ![4096, 1024]⟩
abbrev S1x4096x256 : Shape := ⟨3, ![1, 4096, 256]⟩
abbrev S1x256x256 : Shape := ⟨3, ![1, 256, 256]⟩
abbrev S1x256 : Shape := ⟨2, ![1, 256]⟩
abbrev S4096x256 : Shape := ⟨2, ![4096, 256]⟩
abbrev S4128x256 : Shape := ⟨2, ![4128, 256]⟩
abbrev S16x256 : Shape := ⟨2, ![16, 256]⟩
abbrev S1x512x256 : Shape := ⟨3, ![1, 512, 256]⟩
abbrev S512x256 : Shape := ⟨2, ![512, 256]⟩
abbrev S256x256 : Shape := ⟨2, ![256, 256]⟩
abbrev S544x256 : Shape := ⟨2, ![544, 256]⟩
abbrev S512x1 : Shape := ⟨2, ![512, 1]⟩
abbrev S4096x3072 : Shape := ⟨2, ![4096, 3072]⟩
abbrev S8x4x32x256 : Shape := ⟨4, ![8, 4, 32, 256]⟩
abbrev S8x1x32x256 : Shape := ⟨4, ![8, 1, 32, 256]⟩
abbrev S256 : Shape := ⟨1, ![256]⟩
abbrev S8x32x256 : Shape := ⟨3, ![8, 32, 256]⟩

abbrev nBuf : Space → Nat
  | .hbm => 12
  | .vmem => 29
  | .smem => 0
  | _ => 0

abbrev bufTy : (tb : Table) → Fin (tcTables nBuf tb) → BufTy
  | .hbm, ⟨0, _⟩ => ⟨S3x4096x1024, .f32⟩
  | .hbm, ⟨1, _⟩ => ⟨S1x4x256x256, .f32⟩
  | .hbm, ⟨2, _⟩ => ⟨S1x1024, .f32⟩
  | .hbm, ⟨3, _⟩ => ⟨S4096x2048, .f32⟩
  | .hbm, ⟨4, _⟩ => ⟨S8x128, .f32⟩
  | .hbm, ⟨5, _⟩ => ⟨S4x256x256, .f32⟩
  | .hbm, ⟨6, _⟩ => ⟨S4x256x256, .bf16⟩
  | .hbm, ⟨7, _⟩ => ⟨S4096x1024, .bf16⟩
  | .hbm, ⟨8, _⟩ => ⟨S4096x2048, .bf16⟩
  | .hbm, ⟨9, _⟩ => ⟨S4096x3072, .bf16⟩
  | .hbm, ⟨10, _⟩ => ⟨S8x4x32x256, .bf16⟩
  | .hbm, ⟨11, _⟩ => ⟨S1x1024, .f32⟩
  | .local _ .vmem, ⟨0, _⟩ => ⟨S1x4096x256, .f32⟩
  | .local _ .vmem, ⟨1, _⟩ => ⟨S1x4096x256, .f32⟩
  | .local _ .vmem, ⟨2, _⟩ => ⟨S1x256x256, .bf16⟩
  | .local _ .vmem, ⟨3, _⟩ => ⟨S1x256x256, .bf16⟩
  | .local _ .vmem, ⟨4, _⟩ => ⟨S1x256, .f32⟩
  | .local _ .vmem, ⟨5, _⟩ => ⟨S1x256, .f32⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4128x256, .f32⟩
  | .local _ .vmem, ⟨11, _⟩ => ⟨S4096x256, .bf16⟩
  | .local _ .vmem, ⟨12, _⟩ => ⟨S4096x256, .bf16⟩
  | .local _ .vmem, ⟨13, _⟩ => ⟨S4096x256, .f32⟩
  | .local _ .vmem, ⟨14, _⟩ => ⟨S4096x256, .f32⟩
  | .local _ .vmem, ⟨15, _⟩ => ⟨S1x256x256, .bf16⟩
  | .local _ .vmem, ⟨16, _⟩ => ⟨S1x256x256, .bf16⟩
  | .local _ .vmem, ⟨17, _⟩ => ⟨S1x256, .f32⟩
  | .local _ .vmem, ⟨18, _⟩ => ⟨S1x256, .f32⟩
  | .local _ .vmem, ⟨19, _⟩ => ⟨S8x128, .f32⟩
  | .local _ .vmem, ⟨20, _⟩ => ⟨S4096x256, .bf16⟩
  | .local _ .vmem, ⟨21, _⟩ => ⟨S4096x256, .bf16⟩
  | .local _ .vmem, ⟨22, _⟩ => ⟨S8x1x32x256, .bf16⟩
  | .local _ .vmem, ⟨23, _⟩ => ⟨S8x1x32x256, .bf16⟩
  | .local _ .vmem, ⟨24, _⟩ => ⟨S1x256, .f32⟩
  | .local _ .vmem, ⟨25, _⟩ => ⟨S1x256, .f32⟩
  | .local _ .vmem, ⟨26, _⟩ => ⟨S4128x256, .f32⟩
  | .local _ .vmem, ⟨27, _⟩ => ⟨S4096x256, .f32⟩
  | .local _ .vmem, ⟨28, _⟩ => ⟨S256x256, .f32⟩
  | _, _ => ⟨S3x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_scratch0 : Ref sig .tc := ⟨.vmem, 26, rfl⟩
abbrev cc1_scratch1 : Ref sig .tc := ⟨.vmem, 27, rfl⟩
abbrev cc1_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem5_1 : DmaSem sig := 20
abbrev cc1_sem6_0 : DmaSem sig := 21
abbrev cc1_sem6_1 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v7 : BitVec 32 := Scalar.addi c0_i32 c8_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v23 : BitVec 32 := Scalar.muli arg7 c512_i32
  v23
def k0_off1 (k0_t1 : Fin k0_t1_loop.trips) : Fin 3 → Nat :=
  let c0_14 : Index := 0#32
  let c0_i32 : BitVec 32 := 0#32
  let c1_i32 : BitVec 32 := 1#32
  let arg7 : BitVec 32 := Scf.iv c0_i32 c1_i32 k0_t1
  let c512_i32 : BitVec 32 := 512#32
  let v23 : BitVec 32 := Scalar.muli arg7 c512_i32
  let v24 : BitVec 32 := v23
  let v25 : Index := Scalar.indexCast v24
  let c0_15 : Index := 0#32
  ![0, v25.toNat, 0]
def k0_off2 (k0_t1 : Fin k0_t1_loop.trips) : Fin 2 → Nat :=
  let c16_i32 : BitVec 32 := 16#32
  let c0_i32 : BitVec 32 := 0#32
  let c1_i32 : BitVec 32 := 1#32
  let arg7 : BitVec 32 := Scf.iv c0_i32 c1_i32 k0_t1
  let c512_i32 : BitVec 32 := 512#32
  let v23 : BitVec 32 := Scalar.muli arg7 c512_i32
  let v24 : BitVec 32 := v23
  let v28 : BitVec 32 := Scalar.addi c16_i32 v24
  let v29 : Index := Scalar.indexCast v28
  let c0_16 : Index := 0#32
  ![v29.toNat, 0]
def k0_cond1 (i : grid0.Coords) : BitVec 1 :=
  let arg0 : BitVec 32 := BitVec.ofNat 32 (i 0).val
  let c0_i32_8 : BitVec 32 := 0#32
  let v11 : BitVec 1 := Scalar.cmpi .eq arg0 c0_i32_8
  let v12 : BitVec 32 := Scalar.extui v11
  let c0_i32_9 : BitVec 32 := 0#32
  let v13 : BitVec 1 := Scalar.cmpi .ne v12 c0_i32_9
  v13

@[reducible] def k0_t2_loop : Scf.Loop 32 :=
  let c0_i32_14 : BitVec 32 := 0#32
  let c8_i32_15 : BitVec 32 := 8#32
  let v23 : BitVec 32 := Scalar.addi c0_i32_14 c8_i32_15
  let c1_i32_16 : BitVec 32 := 1#32
  ⟨c0_i32_14, v23, c1_i32_16⟩
def k0_mult2 (k0_t2 : Fin k0_t2_loop.trips) : BitVec 32 :=
  let c0_i32_14 : BitVec 32 := 0#32
  let c1_i32_16 : BitVec 32 := 1#32
  let arg7 : BitVec 32 := Scf.iv c0_i32_14 c1_i32_16 k0_t2
  let c512_i32 : BitVec 32 := 512#32
  let v24 : BitVec 32 := Scalar.muli arg7 c512_i32
  v24
def k0_off3 (k0_t2 : Fin k0_t2_loop.trips) : Fin 2 → Nat :=
  let c0_i32_14 : BitVec 32 := 0#32
  let c1_i32_16 : BitVec 32 := 1#32
  let arg7 : BitVec 32 := Scf.iv c0_i32_14 c1_i32_16 k0_t2
  let c512_i32 : BitVec 32 := 512#32
  let v24 : BitVec 32 := Scalar.muli arg7 c512_i32
  let v25 : BitVec 32 := v24
  let v26 : Index := Scalar.indexCast v25
  let c0_18 : Index := 0#32
  ![v26.toNat, 0]
def k0_off4 (k0_t2 : Fin k0_t2_loop.trips) : Fin 2 → Nat :=
  let c0_i32_14 : BitVec 32 := 0#32
  let c1_i32_16 : BitVec 32 := 1#32
  let arg7 : BitVec 32 := Scf.iv c0_i32_14 c1_i32_16 k0_t2
  let c512_i32 : BitVec 32 := 512#32
  let v24 : BitVec 32 := Scalar.muli arg7 c512_i32
  let v25 : BitVec 32 := v24
  let v51 : Index := Scalar.indexCast v25
  let c0_24 : Index := 0#32
  ![v51.toNat, 0]
def k0_cond2 (i : grid0.Coords) : BitVec 1 :=
  let arg0 : BitVec 32 := BitVec.ofNat 32 (i 0).val
  let c1_i32_10 : BitVec 32 := 1#32
  let v14 : BitVec 1 := Scalar.cmpi .eq arg0 c1_i32_10
  let v15 : BitVec 32 := Scalar.extui v14
  let c0_i32_11 : BitVec 32 := 0#32
  let v16 : BitVec 1 := Scalar.cmpi .ne v15 c0_i32_11
  v16

@[reducible] def k0_t3_loop : Scf.Loop 32 :=
  let c0_i32_14 : BitVec 32 := 0#32
  let c8_i32_15 : BitVec 32 := 8#32
  let v23 : BitVec 32 := Scalar.addi c0_i32_14 c8_i32_15
  let c1_i32_16 : BitVec 32 := 1#32
  ⟨c0_i32_14, v23, c1_i32_16⟩
def k0_mult3 (k0_t3 : Fin k0_t3_loop.trips) : BitVec 32 :=
  let c0_i32_14 : BitVec 32 := 0#32
  let c1_i32_16 : BitVec 32 := 1#32
  let arg7 : BitVec 32 := Scf.iv c0_i32_14 c1_i32_16 k0_t3
  let c512_i32 : BitVec 32 := 512#32
  let v24 : BitVec 32 := Scalar.muli arg7 c512_i32
  v24
def k0_off5 (k0_t3 : Fin k0_t3_loop.trips) : Fin 2 → Nat :=
  let c0_i32_14 : BitVec 32 := 0#32
  let c1_i32_16 : BitVec 32 := 1#32
  let arg7 : BitVec 32 := Scf.iv c0_i32_14 c1_i32_16 k0_t3
  let c512_i32 : BitVec 32 := 512#32
  let v24 : BitVec 32 := Scalar.muli arg7 c512_i32
  let v25 : BitVec 32 := v24
  let v26 : Index := Scalar.indexCast v25
  let c0_18 : Index := 0#32
  ![v26.toNat, 0]
def k0_off6 (k0_t3 : Fin k0_t3_loop.trips) : Fin 2 → Nat :=
  let c0_i32_14 : BitVec 32 := 0#32
  let c1_i32_16 : BitVec 32 := 1#32
  let arg7 : BitVec 32 := Scf.iv c0_i32_14 c1_i32_16 k0_t3
  let c512_i32 : BitVec 32 := 512#32
  let v24 : BitVec 32 := Scalar.muli arg7 c512_i32
  let v25 : BitVec 32 := v24
  let v54 : Index := Scalar.indexCast v25
  let c0_25 : Index := 0#32
  ![v54.toNat, 0]
def k0_cond3 (i : grid0.Coords) : BitVec 1 :=
  let arg0 : BitVec 32 := BitVec.ofNat 32 (i 0).val
  let c2_i32 : BitVec 32 := 2#32
  let v17 : BitVec 1 := Scalar.cmpi .eq arg0 c2_i32
  let v18 : BitVec 32 := Scalar.extui v17
  let c0_i32_12 : BitVec 32 := 0#32
  let v19 : BitVec 1 := Scalar.cmpi .ne v18 c0_i32_12
  v19

@[reducible] def k0_t4_loop : Scf.Loop 32 :=
  let c0_i32_14 : BitVec 32 := 0#32
  let c8_i32_15 : BitVec 32 := 8#32
  let v23 : BitVec 32 := Scalar.addi c0_i32_14 c8_i32_15
  let c1_i32_16 : BitVec 32 := 1#32
  ⟨c0_i32_14, v23, c1_i32_16⟩
def k0_mult4 (k0_t4 : Fin k0_t4_loop.trips) : BitVec 32 :=
  let c0_i32_14 : BitVec 32 := 0#32
  let c1_i32_16 : BitVec 32 := 1#32
  let arg7 : BitVec 32 := Scf.iv c0_i32_14 c1_i32_16 k0_t4
  let c512_i32 : BitVec 32 := 512#32
  let v24 : BitVec 32 := Scalar.muli arg7 c512_i32
  v24
def k0_off7 (k0_t4 : Fin k0_t4_loop.trips) : Fin 2 → Nat :=
  let c0_i32_14 : BitVec 32 := 0#32
  let c1_i32_16 : BitVec 32 := 1#32
  let arg7 : BitVec 32 := Scf.iv c0_i32_14 c1_i32_16 k0_t4
  let c512_i32 : BitVec 32 := 512#32
  let v24 : BitVec 32 := Scalar.muli arg7 c512_i32
  let v25 : BitVec 32 := v24
  let v26 : Index := Scalar.indexCast v25
  let c0_18 : Index := 0#32
  ![v26.toNat, 0]
def k0_off8 (k0_t4 : Fin k0_t4_loop.trips) : Fin 2 → Nat :=
  let c0_i32_14 : BitVec 32 := 0#32
  let c1_i32_16 : BitVec 32 := 1#32
  let arg7 : BitVec 32 := Scf.iv c0_i32_14 c1_i32_16 k0_t4
  let c512_i32 : BitVec 32 := 512#32
  let v24 : BitVec 32 := Scalar.muli arg7 c512_i32
  let v25 : BitVec 32 := v24
  let v57 : Index := Scalar.indexCast v25
  let c0_25 : Index := 0#32
  ![v57.toNat, 0]
def k0_cond4 (i : grid0.Coords) : BitVec 1 :=
  let arg0 : BitVec 32 := BitVec.ofNat 32 (i 0).val
  let c3_i32 : BitVec 32 := 3#32
  let v20 : BitVec 1 := Scalar.cmpi .eq arg0 c3_i32
  let v21 : BitVec 32 := Scalar.extui v20
  let c0_i32_13 : BitVec 32 := 0#32
  let v22 : BitVec 1 := Scalar.cmpi .ne v21 c0_i32_13
  v22

@[reducible] def k0_t5_loop : Scf.Loop 32 :=
  let c0_i32_14 : BitVec 32 := 0#32
  let c8_i32_15 : BitVec 32 := 8#32
  let v23 : BitVec 32 := Scalar.addi c0_i32_14 c8_i32_15
  let c1_i32_16 : BitVec 32 := 1#32
  ⟨c0_i32_14, v23, c1_i32_16⟩
def k0_mult5 (k0_t5 : Fin k0_t5_loop.trips) : BitVec 32 :=
  let c0_i32_14 : BitVec 32 := 0#32
  let c1_i32_16 : BitVec 32 := 1#32
  let arg7 : BitVec 32 := Scf.iv c0_i32_14 c1_i32_16 k0_t5
  let c512_i32 : BitVec 32 := 512#32
  let v24 : BitVec 32 := Scalar.muli arg7 c512_i32
  v24
def k0_off9 (k0_t5 : Fin k0_t5_loop.trips) : Fin 2 → Nat :=
  let c0_i32_14 : BitVec 32 := 0#32
  let c1_i32_16 : BitVec 32 := 1#32
  let arg7 : BitVec 32 := Scf.iv c0_i32_14 c1_i32_16 k0_t5
  let c512_i32 : BitVec 32 := 512#32
  let v24 : BitVec 32 := Scalar.muli arg7 c512_i32
  let v25 : BitVec 32 := v24
  let v26 : Index := Scalar.indexCast v25
  let c0_18 : Index := 0#32
  ![v26.toNat, 0]
def k0_off10 (k0_t5 : Fin k0_t5_loop.trips) : Fin 2 → Nat :=
  let c0_i32_14 : BitVec 32 := 0#32
  let c1_i32_16 : BitVec 32 := 1#32
  let arg7 : BitVec 32 := Scf.iv c0_i32_14 c1_i32_16 k0_t5
  let c512_i32 : BitVec 32 := 512#32
  let v24 : BitVec 32 := Scalar.muli arg7 c512_i32
  let v25 : BitVec 32 := v24
  let v60 : Index := Scalar.indexCast v25
  let c0_26 : Index := 0#32
  ![v60.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def k1_cond1 (i : grid1.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_7 : BitVec 32 := 0#32
  let v12 : BitVec 1 := Scalar.cmpi .ne v11 c0_i32_7
  v12

@[reducible] def k1_t1_loop : Scf.Loop 32 :=
  let c0_i32_15 : BitVec 32 := 0#32
  let c4_i32 : BitVec 32 := 4#32
  let v27 : BitVec 32 := Scalar.addi c0_i32_15 c4_i32
  let c1_i32_16 : BitVec 32 := 1#32
  ⟨c0_i32_15, v27, c1_i32_16⟩
def k1_mult1 (k1_t1 : Fin k1_t1_loop.trips) : BitVec 32 :=
  let c2_i32_31 : BitVec 32 := 2#32
  let c0_i32_15 : BitVec 32 := 0#32
  let c1_i32_16 : BitVec 32 := 1#32
  let arg12 : BitVec 32 := Scf.iv c0_i32_15 c1_i32_16 k1_t1
  let v39 : BitVec 32 := Scalar.muli c2_i32_31 arg12
  let c512_i32 : BitVec 32 := 512#32
  let v40 : BitVec 32 := Scalar.muli v39 c512_i32
  v40
def k1_off1 (k1_t1 : Fin k1_t1_loop.trips) : Fin 2 → Nat :=
  let c2_i32_31 : BitVec 32 := 2#32
  let c0_i32_15 : BitVec 32 := 0#32
  let c1_i32_16 : BitVec 32 := 1#32
  let arg12 : BitVec 32 := Scf.iv c0_i32_15 c1_i32_16 k1_t1
  let v39 : BitVec 32 := Scalar.muli c2_i32_31 arg12
  let c512_i32 : BitVec 32 := 512#32
  let v40 : BitVec 32 := Scalar.muli v39 c512_i32
  let v41 : BitVec 32 := v40
  let v42 : Index := Scalar.indexCast v41
  let c0_32 : Index := 0#32
  ![v42.toNat, 0]
def k1_off2 (k1_t1 : Fin k1_t1_loop.trips) : Fin 2 → Nat :=
  let c16_i32 : BitVec 32 := 16#32
  let c2_i32_31 : BitVec 32 := 2#32
  let c0_i32_15 : BitVec 32 := 0#32
  let c1_i32_16 : BitVec 32 := 1#32
  let arg12 : BitVec 32 := Scf.iv c0_i32_15 c1_i32_16 k1_t1
  let v39 : BitVec 32 := Scalar.muli c2_i32_31 arg12
  let c512_i32 : BitVec 32 := 512#32
  let v40 : BitVec 32 := Scalar.muli v39 c512_i32
  let v41 : BitVec 32 := v40
  let v83 : BitVec 32 := Scalar.addi c16_i32 v41
  let v84 : Index := Scalar.indexCast v83
  let c0_47 : Index := 0#32
  ![v84.toNat, 0]
def k1_mult2 (k1_t1 : Fin k1_t1_loop.trips) : BitVec 32 :=
  let c2_i32_29 : BitVec 32 := 2#32
  let c0_i32_15 : BitVec 32 := 0#32
  let c1_i32_16 : BitVec 32 := 1#32
  let arg12 : BitVec 32 := Scf.iv c0_i32_15 c1_i32_16 k1_t1
  let v37 : BitVec 32 := Scalar.muli c2_i32_29 arg12
  let c1_i32_30 : BitVec 32 := 1#32
  let v38 : BitVec 32 := Scalar.addi v37 c1_i32_30
  let c512_i32_48 : BitVec 32 := 512#32
  let v88 : BitVec 32 := Scalar.muli v38 c512_i32_48
  v88
def k1_off3 (k1_t1 : Fin k1_t1_loop.trips) : Fin 2 → Nat :=
  let c2_i32_29 : BitVec 32 := 2#32
  let c0_i32_15 : BitVec 32 := 0#32
  let c1_i32_16 : BitVec 32 := 1#32
  let arg12 : BitVec 32 := Scf.iv c0_i32_15 c1_i32_16 k1_t1
  let v37 : BitVec 32 := Scalar.muli c2_i32_29 arg12
  let c1_i32_30 : BitVec 32 := 1#32
  let v38 : BitVec 32 := Scalar.addi v37 c1_i32_30
  let c512_i32_48 : BitVec 32 := 512#32
  let v88 : BitVec 32 := Scalar.muli v38 c512_i32_48
  let v89 : BitVec 32 := v88
  let v90 : Index := Scalar.indexCast v89
  let c0_49 : Index := 0#32
  ![v90.toNat, 0]
def k1_off4 (k1_t1 : Fin k1_t1_loop.trips) : Fin 2 → Nat :=
  let c16_i32_65 : BitVec 32 := 16#32
  let c2_i32_29 : BitVec 32 := 2#32
  let c0_i32_15 : BitVec 32 := 0#32
  let c1_i32_16 : BitVec 32 := 1#32
  let arg12 : BitVec 32 := Scf.iv c0_i32_15 c1_i32_16 k1_t1
  let v37 : BitVec 32 := Scalar.muli c2_i32_29 arg12
  let c1_i32_30 : BitVec 32 := 1#32
  let v38 : BitVec 32 := Scalar.addi v37 c1_i32_30
  let c512_i32_48 : BitVec 32 := 512#32
  let v88 : BitVec 32 := Scalar.muli v38 c512_i32_48
  let v89 : BitVec 32 := v88
  let v131 : BitVec 32 := Scalar.addi c16_i32_65 v89
  let v132 : Index := Scalar.indexCast v131
  let c0_66 : Index := 0#32
  ![v132.toNat, 0]
@[reducible] def k1_t2_loop : Scf.Loop 32 :=
  let c0_i32_26 : BitVec 32 := 0#32
  let c8_i32 : BitVec 32 := 8#32
  let v36 : BitVec 32 := Scalar.addi c0_i32_26 c8_i32
  let c1_i32_27 : BitVec 32 := 1#32
  ⟨c0_i32_26, v36, c1_i32_27⟩
def k1_mult3 (k1_t2 : Fin k1_t2_loop.trips) : BitVec 32 :=
  let c0_i32_26 : BitVec 32 := 0#32
  let c1_i32_27 : BitVec 32 := 1#32
  let arg12 : BitVec 32 := Scf.iv c0_i32_26 c1_i32_27 k1_t2
  let c512_i32 : BitVec 32 := 512#32
  let v37 : BitVec 32 := Scalar.muli arg12 c512_i32
  v37
def k1_off5 (k1_t2 : Fin k1_t2_loop.trips) : Fin 2 → Nat :=
  let c0_i32_26 : BitVec 32 := 0#32
  let c1_i32_27 : BitVec 32 := 1#32
  let arg12 : BitVec 32 := Scf.iv c0_i32_26 c1_i32_27 k1_t2
  let c512_i32 : BitVec 32 := 512#32
  let v37 : BitVec 32 := Scalar.muli arg12 c512_i32
  let v38 : BitVec 32 := v37
  let v39 : Index := Scalar.indexCast v38
  let c0_29 : Index := 0#32
  ![v39.toNat, 0]
def k1_off6 (k1_t2 : Fin k1_t2_loop.trips) : Fin 2 → Nat :=
  let c0_i32_26 : BitVec 32 := 0#32
  let c1_i32_27 : BitVec 32 := 1#32
  let arg12 : BitVec 32 := Scf.iv c0_i32_26 c1_i32_27 k1_t2
  let c512_i32 : BitVec 32 := 512#32
  let v37 : BitVec 32 := Scalar.muli arg12 c512_i32
  let v38 : BitVec 32 := v37
  let v45 : Index := Scalar.indexCast v38
  let c0_31 : Index := 0#32
  ![v45.toNat, 0]
def k1_cond2 (i : grid1.Coords) : BitVec 1 :=
  let arg0 : BitVec 32 := BitVec.ofNat 32 (i 0).val
  let c1_i32 : BitVec 32 := 1#32
  let v13 : BitVec 1 := Scalar.cmpi .eq arg0 c1_i32
  let v14 : BitVec 32 := Scalar.extui v13
  let c0_i32_8 : BitVec 32 := 0#32
  let v15 : BitVec 1 := Scalar.cmpi .ne v14 c0_i32_8
  v15

@[reducible] def k1_t3_loop : Scf.Loop 32 :=
  let c0_i32_15 : BitVec 32 := 0#32
  let c4_i32 : BitVec 32 := 4#32
  let v27 : BitVec 32 := Scalar.addi c0_i32_15 c4_i32
  let c1_i32_16 : BitVec 32 := 1#32
  ⟨c0_i32_15, v27, c1_i32_16⟩
def k1_mult4 (k1_t3 : Fin k1_t3_loop.trips) : BitVec 32 :=
  let c2_i32_31 : BitVec 32 := 2#32
  let c0_i32_15 : BitVec 32 := 0#32
  let c1_i32_16 : BitVec 32 := 1#32
  let arg12 : BitVec 32 := Scf.iv c0_i32_15 c1_i32_16 k1_t3
  let v39 : BitVec 32 := Scalar.muli c2_i32_31 arg12
  let c512_i32 : BitVec 32 := 512#32
  let v40 : BitVec 32 := Scalar.muli v39 c512_i32
  v40
def k1_off7 (k1_t3 : Fin k1_t3_loop.trips) : Fin 2 → Nat :=
  let c2_i32_31 : BitVec 32 := 2#32
  let c0_i32_15 : BitVec 32 := 0#32
  let c1_i32_16 : BitVec 32 := 1#32
  let arg12 : BitVec 32 := Scf.iv c0_i32_15 c1_i32_16 k1_t3
  let v39 : BitVec 32 := Scalar.muli c2_i32_31 arg12
  let c512_i32 : BitVec 32 := 512#32
  let v40 : BitVec 32 := Scalar.muli v39 c512_i32
  let v41 : BitVec 32 := v40
  let v42 : Index := Scalar.indexCast v41
  let c0_32 : Index := 0#32
  ![v42.toNat, 0]
def k1_off8 (k1_t3 : Fin k1_t3_loop.trips) : Fin 2 → Nat :=
  let c16_i32 : BitVec 32 := 16#32
  let c2_i32_31 : BitVec 32 := 2#32
  let c0_i32_15 : BitVec 32 := 0#32
  let c1_i32_16 : BitVec 32 := 1#32
  let arg12 : BitVec 32 := Scf.iv c0_i32_15 c1_i32_16 k1_t3
  let v39 : BitVec 32 := Scalar.muli c2_i32_31 arg12
  let c512_i32 : BitVec 32 := 512#32
  let v40 : BitVec 32 := Scalar.muli v39 c512_i32
  let v41 : BitVec 32 := v40
  let v83 : BitVec 32 := Scalar.addi c16_i32 v41
  let v84 : Index := Scalar.indexCast v83
  let c0_47 : Index := 0#32
  ![v84.toNat, 0]
def k1_mult5 (k1_t3 : Fin k1_t3_loop.trips) : BitVec 32 :=
  let c2_i32_29 : BitVec 32 := 2#32
  let c0_i32_15 : BitVec 32 := 0#32
  let c1_i32_16 : BitVec 32 := 1#32
  let arg12 : BitVec 32 := Scf.iv c0_i32_15 c1_i32_16 k1_t3
  let v37 : BitVec 32 := Scalar.muli c2_i32_29 arg12
  let c1_i32_30 : BitVec 32 := 1#32
  let v38 : BitVec 32 := Scalar.addi v37 c1_i32_30
  let c512_i32_48 : BitVec 32 := 512#32
  let v88 : BitVec 32 := Scalar.muli v38 c512_i32_48
  v88
def k1_off9 (k1_t3 : Fin k1_t3_loop.trips) : Fin 2 → Nat :=
  let c2_i32_29 : BitVec 32 := 2#32
  let c0_i32_15 : BitVec 32 := 0#32
  let c1_i32_16 : BitVec 32 := 1#32
  let arg12 : BitVec 32 := Scf.iv c0_i32_15 c1_i32_16 k1_t3
  let v37 : BitVec 32 := Scalar.muli c2_i32_29 arg12
  let c1_i32_30 : BitVec 32 := 1#32
  let v38 : BitVec 32 := Scalar.addi v37 c1_i32_30
  let c512_i32_48 : BitVec 32 := 512#32
  let v88 : BitVec 32 := Scalar.muli v38 c512_i32_48
  let v89 : BitVec 32 := v88
  let v90 : Index := Scalar.indexCast v89
  let c0_49 : Index := 0#32
  ![v90.toNat, 0]
def k1_off10 (k1_t3 : Fin k1_t3_loop.trips) : Fin 2 → Nat :=
  let c16_i32_65 : BitVec 32 := 16#32
  let c2_i32_29 : BitVec 32 := 2#32
  let c0_i32_15 : BitVec 32 := 0#32
  let c1_i32_16 : BitVec 32 := 1#32
  let arg12 : BitVec 32 := Scf.iv c0_i32_15 c1_i32_16 k1_t3
  let v37 : BitVec 32 := Scalar.muli c2_i32_29 arg12
  let c1_i32_30 : BitVec 32 := 1#32
  let v38 : BitVec 32 := Scalar.addi v37 c1_i32_30
  let c512_i32_48 : BitVec 32 := 512#32
  let v88 : BitVec 32 := Scalar.muli v38 c512_i32_48
  let v89 : BitVec 32 := v88
  let v131 : BitVec 32 := Scalar.addi c16_i32_65 v89
  let v132 : Index := Scalar.indexCast v131
  let c0_66 : Index := 0#32
  ![v132.toNat, 0]
@[reducible] def k1_t4_loop : Scf.Loop 32 :=
  let c0_i32_26 : BitVec 32 := 0#32
  let c8_i32 : BitVec 32 := 8#32
  let v36 : BitVec 32 := Scalar.addi c0_i32_26 c8_i32
  let c1_i32_27 : BitVec 32 := 1#32
  ⟨c0_i32_26, v36, c1_i32_27⟩
def k1_mult6 (k1_t4 : Fin k1_t4_loop.trips) : BitVec 32 :=
  let c0_i32_26 : BitVec 32 := 0#32
  let c1_i32_27 : BitVec 32 := 1#32
  let arg12 : BitVec 32 := Scf.iv c0_i32_26 c1_i32_27 k1_t4
  let c512_i32 : BitVec 32 := 512#32
  let v37 : BitVec 32 := Scalar.muli arg12 c512_i32
  v37
def k1_off11 (k1_t4 : Fin k1_t4_loop.trips) : Fin 2 → Nat :=
  let c0_i32_26 : BitVec 32 := 0#32
  let c1_i32_27 : BitVec 32 := 1#32
  let arg12 : BitVec 32 := Scf.iv c0_i32_26 c1_i32_27 k1_t4
  let c512_i32 : BitVec 32 := 512#32
  let v37 : BitVec 32 := Scalar.muli arg12 c512_i32
  let v38 : BitVec 32 := v37
  let v39 : Index := Scalar.indexCast v38
  let c0_29 : Index := 0#32
  ![v39.toNat, 0]
def k1_off12 (k1_t4 : Fin k1_t4_loop.trips) : Fin 2 → Nat :=
  let c0_i32_26 : BitVec 32 := 0#32
  let c1_i32_27 : BitVec 32 := 1#32
  let arg12 : BitVec 32 := Scf.iv c0_i32_26 c1_i32_27 k1_t4
  let c512_i32 : BitVec 32 := 512#32
  let v37 : BitVec 32 := Scalar.muli arg12 c512_i32
  let v38 : BitVec 32 := v37
  let v48 : Index := Scalar.indexCast v38
  let c0_33 : Index := 0#32
  ![v48.toNat, 0]
def k1_cond3 (i : grid1.Coords) : BitVec 1 :=
  let arg0 : BitVec 32 := BitVec.ofNat 32 (i 0).val
  let c2_i32 : BitVec 32 := 2#32
  let v16 : BitVec 1 := Scalar.cmpi .eq arg0 c2_i32
  let v17 : BitVec 32 := Scalar.extui v16
  let c0_i32_9 : BitVec 32 := 0#32
  let v18 : BitVec 1 := Scalar.cmpi .ne v17 c0_i32_9
  v18

@[reducible] def k1_t5_loop : Scf.Loop 32 :=
  let c0_i32_15 : BitVec 32 := 0#32
  let c4_i32 : BitVec 32 := 4#32
  let v27 : BitVec 32 := Scalar.addi c0_i32_15 c4_i32
  let c1_i32_16 : BitVec 32 := 1#32
  ⟨c0_i32_15, v27, c1_i32_16⟩
def k1_mult7 (k1_t5 : Fin k1_t5_loop.trips) : BitVec 32 :=
  let c2_i32_31 : BitVec 32 := 2#32
  let c0_i32_15 : BitVec 32 := 0#32
  let c1_i32_16 : BitVec 32 := 1#32
  let arg12 : BitVec 32 := Scf.iv c0_i32_15 c1_i32_16 k1_t5
  let v39 : BitVec 32 := Scalar.muli c2_i32_31 arg12
  let c512_i32 : BitVec 32 := 512#32
  let v40 : BitVec 32 := Scalar.muli v39 c512_i32
  v40
def k1_off13 (k1_t5 : Fin k1_t5_loop.trips) : Fin 2 → Nat :=
  let c2_i32_31 : BitVec 32 := 2#32
  let c0_i32_15 : BitVec 32 := 0#32
  let c1_i32_16 : BitVec 32 := 1#32
  let arg12 : BitVec 32 := Scf.iv c0_i32_15 c1_i32_16 k1_t5
  let v39 : BitVec 32 := Scalar.muli c2_i32_31 arg12
  let c512_i32 : BitVec 32 := 512#32
  let v40 : BitVec 32 := Scalar.muli v39 c512_i32
  let v41 : BitVec 32 := v40
  let v42 : Index := Scalar.indexCast v41
  let c0_32 : Index := 0#32
  ![v42.toNat, 0]
def k1_off14 (k1_t5 : Fin k1_t5_loop.trips) : Fin 2 → Nat :=
  let c16_i32 : BitVec 32 := 16#32
  let c2_i32_31 : BitVec 32 := 2#32
  let c0_i32_15 : BitVec 32 := 0#32
  let c1_i32_16 : BitVec 32 := 1#32
  let arg12 : BitVec 32 := Scf.iv c0_i32_15 c1_i32_16 k1_t5
  let v39 : BitVec 32 := Scalar.muli c2_i32_31 arg12
  let c512_i32 : BitVec 32 := 512#32
  let v40 : BitVec 32 := Scalar.muli v39 c512_i32
  let v41 : BitVec 32 := v40
  let v83 : BitVec 32 := Scalar.addi c16_i32 v41
  let v84 : Index := Scalar.indexCast v83
  let c0_47 : Index := 0#32
  ![v84.toNat, 0]
def k1_mult8 (k1_t5 : Fin k1_t5_loop.trips) : BitVec 32 :=
  let c2_i32_29 : BitVec 32 := 2#32
  let c0_i32_15 : BitVec 32 := 0#32
  let c1_i32_16 : BitVec 32 := 1#32
  let arg12 : BitVec 32 := Scf.iv c0_i32_15 c1_i32_16 k1_t5
  let v37 : BitVec 32 := Scalar.muli c2_i32_29 arg12
  let c1_i32_30 : BitVec 32 := 1#32
  let v38 : BitVec 32 := Scalar.addi v37 c1_i32_30
  let c512_i32_48 : BitVec 32 := 512#32
  let v88 : BitVec 32 := Scalar.muli v38 c512_i32_48
  v88
def k1_off15 (k1_t5 : Fin k1_t5_loop.trips) : Fin 2 → Nat :=
  let c2_i32_29 : BitVec 32 := 2#32
  let c0_i32_15 : BitVec 32 := 0#32
  let c1_i32_16 : BitVec 32 := 1#32
  let arg12 : BitVec 32 := Scf.iv c0_i32_15 c1_i32_16 k1_t5
  let v37 : BitVec 32 := Scalar.muli c2_i32_29 arg12
  let c1_i32_30 : BitVec 32 := 1#32
  let v38 : BitVec 32 := Scalar.addi v37 c1_i32_30
  let c512_i32_48 : BitVec 32 := 512#32
  let v88 : BitVec 32 := Scalar.muli v38 c512_i32_48
  let v89 : BitVec 32 := v88
  let v90 : Index := Scalar.indexCast v89
  let c0_49 : Index := 0#32
  ![v90.toNat, 0]
def k1_off16 (k1_t5 : Fin k1_t5_loop.trips) : Fin 2 → Nat :=
  let c16_i32_65 : BitVec 32 := 16#32
  let c2_i32_29 : BitVec 32 := 2#32
  let c0_i32_15 : BitVec 32 := 0#32
  let c1_i32_16 : BitVec 32 := 1#32
  let arg12 : BitVec 32 := Scf.iv c0_i32_15 c1_i32_16 k1_t5
  let v37 : BitVec 32 := Scalar.muli c2_i32_29 arg12
  let c1_i32_30 : BitVec 32 := 1#32
  let v38 : BitVec 32 := Scalar.addi v37 c1_i32_30
  let c512_i32_48 : BitVec 32 := 512#32
  let v88 : BitVec 32 := Scalar.muli v38 c512_i32_48
  let v89 : BitVec 32 := v88
  let v131 : BitVec 32 := Scalar.addi c16_i32_65 v89
  let v132 : Index := Scalar.indexCast v131
  let c0_66 : Index := 0#32
  ![v132.toNat, 0]
@[reducible] def k1_t6_loop : Scf.Loop 32 :=
  let c0_i32_26 : BitVec 32 := 0#32
  let c8_i32 : BitVec 32 := 8#32
  let v36 : BitVec 32 := Scalar.addi c0_i32_26 c8_i32
  let c1_i32_27 : BitVec 32 := 1#32
  ⟨c0_i32_26, v36, c1_i32_27⟩
def k1_mult9 (k1_t6 : Fin k1_t6_loop.trips) : BitVec 32 :=
  let c0_i32_26 : BitVec 32 := 0#32
  let c1_i32_27 : BitVec 32 := 1#32
  let arg12 : BitVec 32 := Scf.iv c0_i32_26 c1_i32_27 k1_t6
  let c512_i32 : BitVec 32 := 512#32
  let v37 : BitVec 32 := Scalar.muli arg12 c512_i32
  v37
def k1_off17 (k1_t6 : Fin k1_t6_loop.trips) : Fin 2 → Nat :=
  let c0_i32_26 : BitVec 32 := 0#32
  let c1_i32_27 : BitVec 32 := 1#32
  let arg12 : BitVec 32 := Scf.iv c0_i32_26 c1_i32_27 k1_t6
  let c512_i32 : BitVec 32 := 512#32
  let v37 : BitVec 32 := Scalar.muli arg12 c512_i32
  let v38 : BitVec 32 := v37
  let v39 : Index := Scalar.indexCast v38
  let c0_29 : Index := 0#32
  ![v39.toNat, 0]
def k1_off18 (k1_t6 : Fin k1_t6_loop.trips) : Fin 2 → Nat :=
  let c0_i32_26 : BitVec 32 := 0#32
  let c1_i32_27 : BitVec 32 := 1#32
  let arg12 : BitVec 32 := Scf.iv c0_i32_26 c1_i32_27 k1_t6
  let c512_i32 : BitVec 32 := 512#32
  let v37 : BitVec 32 := Scalar.muli arg12 c512_i32
  let v38 : BitVec 32 := v37
  let v51 : Index := Scalar.indexCast v38
  let c0_34 : Index := 0#32
  ![v51.toNat, 0]
def k1_cond4 (i : grid1.Coords) : BitVec 1 :=
  let arg0 : BitVec 32 := BitVec.ofNat 32 (i 0).val
  let c3_i32 : BitVec 32 := 3#32
  let v19 : BitVec 1 := Scalar.cmpi .eq arg0 c3_i32
  let v20 : BitVec 32 := Scalar.extui v19
  let c0_i32_10 : BitVec 32 := 0#32
  let v21 : BitVec 1 := Scalar.cmpi .ne v20 c0_i32_10
  v21

@[reducible] def k1_t7_loop : Scf.Loop 32 :=
  let c0_i32_15 : BitVec 32 := 0#32
  let c4_i32 : BitVec 32 := 4#32
  let v27 : BitVec 32 := Scalar.addi c0_i32_15 c4_i32
  let c1_i32_16 : BitVec 32 := 1#32
  ⟨c0_i32_15, v27, c1_i32_16⟩
def k1_mult10 (k1_t7 : Fin k1_t7_loop.trips) : BitVec 32 :=
  let c2_i32_31 : BitVec 32 := 2#32
  let c0_i32_15 : BitVec 32 := 0#32
  let c1_i32_16 : BitVec 32 := 1#32
  let arg12 : BitVec 32 := Scf.iv c0_i32_15 c1_i32_16 k1_t7
  let v39 : BitVec 32 := Scalar.muli c2_i32_31 arg12
  let c512_i32 : BitVec 32 := 512#32
  let v40 : BitVec 32 := Scalar.muli v39 c512_i32
  v40
def k1_off19 (k1_t7 : Fin k1_t7_loop.trips) : Fin 2 → Nat :=
  let c2_i32_31 : BitVec 32 := 2#32
  let c0_i32_15 : BitVec 32 := 0#32
  let c1_i32_16 : BitVec 32 := 1#32
  let arg12 : BitVec 32 := Scf.iv c0_i32_15 c1_i32_16 k1_t7
  let v39 : BitVec 32 := Scalar.muli c2_i32_31 arg12
  let c512_i32 : BitVec 32 := 512#32
  let v40 : BitVec 32 := Scalar.muli v39 c512_i32
  let v41 : BitVec 32 := v40
  let v42 : Index := Scalar.indexCast v41
  let c0_32 : Index := 0#32
  ![v42.toNat, 0]
def k1_off20 (k1_t7 : Fin k1_t7_loop.trips) : Fin 2 → Nat :=
  let c16_i32 : BitVec 32 := 16#32
  let c2_i32_31 : BitVec 32 := 2#32
  let c0_i32_15 : BitVec 32 := 0#32
  let c1_i32_16 : BitVec 32 := 1#32
  let arg12 : BitVec 32 := Scf.iv c0_i32_15 c1_i32_16 k1_t7
  let v39 : BitVec 32 := Scalar.muli c2_i32_31 arg12
  let c512_i32 : BitVec 32 := 512#32
  let v40 : BitVec 32 := Scalar.muli v39 c512_i32
  let v41 : BitVec 32 := v40
  let v83 : BitVec 32 := Scalar.addi c16_i32 v41
  let v84 : Index := Scalar.indexCast v83
  let c0_47 : Index := 0#32
  ![v84.toNat, 0]
def k1_mult11 (k1_t7 : Fin k1_t7_loop.trips) : BitVec 32 :=
  let c2_i32_29 : BitVec 32 := 2#32
  let c0_i32_15 : BitVec 32 := 0#32
  let c1_i32_16 : BitVec 32 := 1#32
  let arg12 : BitVec 32 := Scf.iv c0_i32_15 c1_i32_16 k1_t7
  let v37 : BitVec 32 := Scalar.muli c2_i32_29 arg12
  let c1_i32_30 : BitVec 32 := 1#32
  let v38 : BitVec 32 := Scalar.addi v37 c1_i32_30
  let c512_i32_48 : BitVec 32 := 512#32
  let v88 : BitVec 32 := Scalar.muli v38 c512_i32_48
  v88
def k1_off21 (k1_t7 : Fin k1_t7_loop.trips) : Fin 2 → Nat :=
  let c2_i32_29 : BitVec 32 := 2#32
  let c0_i32_15 : BitVec 32 := 0#32
  let c1_i32_16 : BitVec 32 := 1#32
  let arg12 : BitVec 32 := Scf.iv c0_i32_15 c1_i32_16 k1_t7
  let v37 : BitVec 32 := Scalar.muli c2_i32_29 arg12
  let c1_i32_30 : BitVec 32 := 1#32
  let v38 : BitVec 32 := Scalar.addi v37 c1_i32_30
  let c512_i32_48 : BitVec 32 := 512#32
  let v88 : BitVec 32 := Scalar.muli v38 c512_i32_48
  let v89 : BitVec 32 := v88
  let v90 : Index := Scalar.indexCast v89
  let c0_49 : Index := 0#32
  ![v90.toNat, 0]
def k1_off22 (k1_t7 : Fin k1_t7_loop.trips) : Fin 2 → Nat :=
  let c16_i32_65 : BitVec 32 := 16#32
  let c2_i32_29 : BitVec 32 := 2#32
  let c0_i32_15 : BitVec 32 := 0#32
  let c1_i32_16 : BitVec 32 := 1#32
  let arg12 : BitVec 32 := Scf.iv c0_i32_15 c1_i32_16 k1_t7
  let v37 : BitVec 32 := Scalar.muli c2_i32_29 arg12
  let c1_i32_30 : BitVec 32 := 1#32
  let v38 : BitVec 32 := Scalar.addi v37 c1_i32_30
  let c512_i32_48 : BitVec 32 := 512#32
  let v88 : BitVec 32 := Scalar.muli v38 c512_i32_48
  let v89 : BitVec 32 := v88
  let v131 : BitVec 32 := Scalar.addi c16_i32_65 v89
  let v132 : Index := Scalar.indexCast v131
  let c0_66 : Index := 0#32
  ![v132.toNat, 0]
@[reducible] def k1_t8_loop : Scf.Loop 32 :=
  let c0_i32_26 : BitVec 32 := 0#32
  let c8_i32 : BitVec 32 := 8#32
  let v36 : BitVec 32 := Scalar.addi c0_i32_26 c8_i32
  let c1_i32_27 : BitVec 32 := 1#32
  ⟨c0_i32_26, v36, c1_i32_27⟩
def k1_mult12 (k1_t8 : Fin k1_t8_loop.trips) : BitVec 32 :=
  let c0_i32_26 : BitVec 32 := 0#32
  let c1_i32_27 : BitVec 32 := 1#32
  let arg12 : BitVec 32 := Scf.iv c0_i32_26 c1_i32_27 k1_t8
  let c512_i32 : BitVec 32 := 512#32
  let v37 : BitVec 32 := Scalar.muli arg12 c512_i32
  v37
def k1_off23 (k1_t8 : Fin k1_t8_loop.trips) : Fin 2 → Nat :=
  let c0_i32_26 : BitVec 32 := 0#32
  let c1_i32_27 : BitVec 32 := 1#32
  let arg12 : BitVec 32 := Scf.iv c0_i32_26 c1_i32_27 k1_t8
  let c512_i32 : BitVec 32 := 512#32
  let v37 : BitVec 32 := Scalar.muli arg12 c512_i32
  let v38 : BitVec 32 := v37
  let v39 : Index := Scalar.indexCast v38
  let c0_29 : Index := 0#32
  ![v39.toNat, 0]
def k1_off24 (k1_t8 : Fin k1_t8_loop.trips) : Fin 2 → Nat :=
  let c0_i32_26 : BitVec 32 := 0#32
  let c1_i32_27 : BitVec 32 := 1#32
  let arg12 : BitVec 32 := Scf.iv c0_i32_26 c1_i32_27 k1_t8
  let c512_i32 : BitVec 32 := 512#32
  let v37 : BitVec 32 := Scalar.muli arg12 c512_i32
  let v38 : BitVec 32 := v37
  let v54 : Index := Scalar.indexCast v38
  let c0_35 : Index := 0#32
  ![v54.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x1x32x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S3x4096x1024 : Shape := ⟨3, ![3, 4096, 1024]⟩
abbrev S1x4x256x256 : Shape := ⟨4, ![1, 4, 256, 256]⟩
abbrev S1x1024 : Shape := ⟨2, ![1, 1024]⟩
abbrev S4096x2048 : Shape := ⟨2, ![4096, 2048]⟩
abbrev S8x128 : Shape := ⟨2, ![8, 128]⟩
abbrev S1x4096x1024 : Shape := ⟨3, ![1, 4096, 1024]⟩
abbrev S4x256x256 : Shape := ⟨3, ![4, 256, 256]⟩
abbrev S1024 : Shape := ⟨1, ![1024]⟩
abbrev S1x4096x4x256 : Shape := ⟨4, ![1, 4096, 4, 256]⟩
abbrev S1x4096x1x256 : Shape := ⟨4, ![1, 4096, 1, 256]⟩
abbrev S1x4096x256 : Shape := ⟨3, ![1, 4096, 256]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S1x256x4096 : Shape := ⟨3, ![1, 256, 4096]⟩
abbrev S1x4096x1 : Shape := ⟨3, ![1, 4096, 1]⟩
abbrev S4x256x1x4096 : Shape := ⟨4, ![4, 256, 1, 4096]⟩
abbrev S1x1x1024 : Shape := ⟨3, ![1, 1, 1024]⟩
abbrev S4096x1024 : Shape := ⟨2, ![4096, 1024]⟩
abbrev S4x1x4096x256 : Shape := ⟨4, ![4, 1, 4096, 256]⟩
abbrev S4096x3072 : Shape := ⟨2, ![4096, 3072]⟩
abbrev S4x8x32x256 : Shape := ⟨4, ![4, 8, 32, 256]⟩
abbrev S8x4x32x256 : Shape := ⟨4, ![8, 4, 32, 256]⟩

abbrev nBuf : Space → Nat
  | .hbm => 274
  | .vmem => 0
  | .smem => 0
  | _ => 0

abbrev hbmTy0_0 (i : Nat) : BufTy := match i % 128 with
  | 0 => ⟨S3x4096x1024, .f32⟩
  | 1 => ⟨S1x4x256x256, .f32⟩
  | 2 => ⟨S1x1024, .f32⟩
  | 3 => ⟨S4096x2048, .f32⟩
  | 4 => ⟨S8x128, .f32⟩
  | 5 => ⟨S1x4096x1024, .f32⟩
  | 6 => ⟨S4x256x256, .f32⟩
  | 7 => ⟨S1024, .f32⟩
  | 8 => ⟨S1x4096x4x256, .f32⟩
  | 9 => ⟨S1x4096x1x256, .f32⟩
  | 10 => ⟨S1x4096x256, .f32⟩
  | 11 => ⟨S4096, .i32⟩
  | 12 => ⟨S_, .i32⟩
  | 13 => ⟨S4096, .i32⟩
  | 14 => ⟨S4096, .i32⟩
  | 15 => ⟨S_, .i32⟩
  | 16 => ⟨S_, .i32⟩
  | 17 => ⟨S_, .i32⟩
  | 18 => ⟨S4096, .i32⟩
  | 19 => ⟨S4096, .i32⟩
  | 20 => ⟨S_, .i32⟩
  | 21 => ⟨S4096, .i32⟩
  | 22 => ⟨S4096, .i32⟩
  | 23 => ⟨S_, .i32⟩
  | 24 => ⟨S4096, .i32⟩
  | 25 => ⟨S4096, .i32⟩
  | 26 => ⟨S_, .i32⟩
  | 27 => ⟨S_, .i32⟩
  | 28 => ⟨S_, .i32⟩
  | 29 => ⟨S4096, .i32⟩
  | 30 => ⟨S4096, .i32⟩
  | 31 => ⟨S_, .i32⟩
  | 32 => ⟨S4096, .i32⟩
  | 33 => ⟨S4096, .i32⟩
  | 34 => ⟨S4096x1, .i32⟩
  | 35 => ⟨S1x4096, .i32⟩
  | 36 => ⟨S4096x4096, .i32⟩
  | 37 => ⟨S4096x4096, .i32⟩
  | 38 => ⟨S4096x4096, .i1⟩
  | 39 => ⟨S1x4096, .i32⟩
  | 40 => ⟨S4096x1, .i32⟩
  | 41 => ⟨S4096x4096, .i32⟩
  | 42 => ⟨S4096x4096, .i32⟩
  | 43 => ⟨S4096x4096, .i1⟩
  | 44 => ⟨S4096x4096, .i1⟩
  | 45 => ⟨S4096x4096, .f32⟩
  | 46 => ⟨S1x256x4096, .f32⟩
  | 47 => ⟨S1x4096x256, .f32⟩
  | 48 => ⟨S4096, .i32⟩
  | 49 => ⟨S4096, .f32⟩
  | 50 => ⟨S1x4096x1, .f32⟩
  | 51 => ⟨S1x4096x256, .f32⟩
  | 52 => ⟨S1x4096x256, .f32⟩
  | 53 => ⟨S1x4096x1x256, .f32⟩
  | 54 => ⟨S1x4096x256, .f32⟩
  | 55 => ⟨S4096, .i32⟩
  | 56 => ⟨S_, .i32⟩
  | 57 => ⟨S4096, .i32⟩
  | 58 => ⟨S4096, .i32⟩
  | 59 => ⟨S_, .i32⟩
  | 60 => ⟨S_, .i32⟩
  | 61 => ⟨S_, .i32⟩
  | 62 => ⟨S4096, .i32⟩
  | 63 => ⟨S4096, .i32⟩
  | 64 => ⟨S_, .i32⟩
  | 65 => ⟨S4096, .i32⟩
  | 66 => ⟨S4096, .i32⟩
  | 67 => ⟨S_, .i32⟩
  | 68 => ⟨S4096, .i32⟩
  | 69 => ⟨S4096, .i32⟩
  | 70 => ⟨S_, .i32⟩
  | 71 => ⟨S_, .i32⟩
  | 72 => ⟨S_, .i32⟩
  | 73 => ⟨S4096, .i32⟩
  | 74 => ⟨S4096, .i32⟩
  | 75 => ⟨S_, .i32⟩
  | 76 => ⟨S4096, .i32⟩
  | 77 => ⟨S4096, .i32⟩
  | 78 => ⟨S4096x1, .i32⟩
  | 79 => ⟨S1x4096, .i32⟩
  | 80 => ⟨S4096x4096, .i32⟩
  | 81 => ⟨S4096x4096, .i32⟩
  | 82 => ⟨S4096x4096, .i1⟩
  | 83 => ⟨S1x4096, .i32⟩
  | 84 => ⟨S4096x1, .i32⟩
  | 85 => ⟨S4096x4096, .i32⟩
  | 86 => ⟨S4096x4096, .i32⟩
  | 87 => ⟨S4096x4096, .i1⟩
  | 88 => ⟨S4096x4096, .i1⟩
  | 89 => ⟨S4096x4096, .f32⟩
  | 90 => ⟨S1x256x4096, .f32⟩
  | 91 => ⟨S1x4096x256, .f32⟩
  | 92 => ⟨S4096, .i32⟩
  | 93 => ⟨S4096, .f32⟩
  | 94 => ⟨S1x4096x1, .f32⟩
  | 95 => ⟨S1x4096x256, .f32⟩
  | 96 => ⟨S1x4096x256, .f32⟩
  | 97 => ⟨S1x4096x1x256, .f32⟩
  | 98 => ⟨S1x4096x256, .f32⟩
  | 99 => ⟨S4096, .i32⟩
  | 100 => ⟨S_, .i32⟩
  | 101 => ⟨S4096, .i32⟩
  | 102 => ⟨S4096, .i32⟩
  | 103 => ⟨S_, .i32⟩
  | 104 => ⟨S_, .i32⟩
  | 105 => ⟨S_, .i32⟩
  | 106 => ⟨S4096, .i32⟩
  | 107 => ⟨S4096, .i32⟩
  | 108 => ⟨S_, .i32⟩
  | 109 => ⟨S4096, .i32⟩
  | 110 => ⟨S4096, .i32⟩
  | 111 => ⟨S_, .i32⟩
  | 112 => ⟨S4096, .i32⟩
  | 113 => ⟨S4096, .i32⟩
  | 114 => ⟨S_, .i32⟩
  | 115 => ⟨S_, .i32⟩
  | 116 => ⟨S_, .i32⟩
  | 117 => ⟨S4096, .i32⟩
  | 118 => ⟨S4096, .i32⟩
  | 119 => ⟨S_, .i32⟩
  | 120 => ⟨S4096, .i32⟩
  | 121 => ⟨S4096, .i32⟩
  | 122 => ⟨S4096x1, .i32⟩
  | 123 => ⟨S1x4096, .i32⟩
  | 124 => ⟨S4096x4096, .i32⟩
  | 125 => ⟨S4096x4096, .i32⟩
  | 126 => ⟨S4096x4096, .i1⟩
  | 127 => ⟨S1x4096, .i32⟩
  | _ => ⟨S3x4096x1024, .f32⟩

abbrev hbmTy0_1 (i : Nat) : BufTy := match i % 128 with
  | 0 => ⟨S4096x1, .i32⟩
  | 1 => ⟨S4096x4096, .i32⟩
  | 2 => ⟨S4096x4096, .i32⟩
  | 3 => ⟨S4096x4096, .i1⟩
  | 4 => ⟨S4096x4096, .i1⟩
  | 5 => ⟨S4096x4096, .f32⟩
  | 6 => ⟨S1x256x4096, .f32⟩
  | 7 => ⟨S1x4096x256, .f32⟩
  | 8 => ⟨S4096, .i32⟩
  | 9 => ⟨S4096, .f32⟩
  | 10 => ⟨S1x4096x1, .f32⟩
  | 11 => ⟨S1x4096x256, .f32⟩
  | 12 => ⟨S1x4096x256, .f32⟩
  | 13 => ⟨S1x4096x1x256, .f32⟩
  | 14 => ⟨S1x4096x256, .f32⟩
  | 15 => ⟨S4096, .i32⟩
  | 16 => ⟨S_, .i32⟩
  | 17 => ⟨S4096, .i32⟩
  | 18 => ⟨S4096, .i32⟩
  | 19 => ⟨S_, .i32⟩
  | 20 => ⟨S_, .i32⟩
  | 21 => ⟨S_, .i32⟩
  | 22 => ⟨S4096, .i32⟩
  | 23 => ⟨S4096, .i32⟩
  | 24 => ⟨S_, .i32⟩
  | 25 => ⟨S4096, .i32⟩
  | 26 => ⟨S4096, .i32⟩
  | 27 => ⟨S_, .i32⟩
  | 28 => ⟨S4096, .i32⟩
  | 29 => ⟨S4096, .i32⟩
  | 30 => ⟨S_, .i32⟩
  | 31 => ⟨S_, .i32⟩
  | 32 => ⟨S_, .i32⟩
  | 33 => ⟨S4096, .i32⟩
  | 34 => ⟨S4096, .i32⟩
  | 35 => ⟨S_, .i32⟩
  | 36 => ⟨S4096, .i32⟩
  | 37 => ⟨S4096, .i32⟩
  | 38 => ⟨S4096x1, .i32⟩
  | 39 => ⟨S1x4096, .i32⟩
  | 40 => ⟨S4096x4096, .i32⟩
  | 41 => ⟨S4096x4096, .i32⟩
  | 42 => ⟨S4096x4096, .i1⟩
  | 43 => ⟨S1x4096, .i32⟩
  | 44 => ⟨S4096x1, .i32⟩
  | 45 => ⟨S4096x4096, .i32⟩
  | 46 => ⟨S4096x4096, .i32⟩
  | 47 => ⟨S4096x4096, .i1⟩
  | 48 => ⟨S4096x4096, .i1⟩
  | 49 => ⟨S4096x4096, .f32⟩
  | 50 => ⟨S1x256x4096, .f32⟩
  | 51 => ⟨S1x4096x256, .f32⟩
  | 52 => ⟨S4096, .i32⟩
  | 53 => ⟨S4096, .f32⟩
  | 54 => ⟨S1x4096x1, .f32⟩
  | 55 => ⟨S1x4096x256, .f32⟩
  | 56 => ⟨S1x4096x256, .f32⟩
  | 57 => ⟨S1x4096x1x256, .f32⟩
  | 58 => ⟨S1x4096x1x256, .f32⟩
  | 59 => ⟨S1x4096x1x256, .f32⟩
  | 60 => ⟨S1x4096x1x256, .f32⟩
  | 61 => ⟨S1x4096x4x256, .f32⟩
  | 62 => ⟨S1x4096x4x256, .f32⟩
  | 63 => ⟨S4x256x1x4096, .f32⟩
  | 64 => ⟨S1x4096x4x256, .f32⟩
  | 65 => ⟨S1x4096x1024, .f32⟩
  | 66 => ⟨S1x1x1024, .f32⟩
  | 67 => ⟨S1x4096x1024, .f32⟩
  | 68 => ⟨S1x4096x1024, .f32⟩
  | 69 => ⟨S4096x1024, .f32⟩
  | 70 => ⟨S1x4096x1024, .f32⟩
  | 71 => ⟨S1x4096x1024, .f32⟩
  | 72 => ⟨S_, .f32⟩
  | 73 => ⟨S1x1024, .f32⟩
  | 74 => ⟨S1x1x1024, .f32⟩
  | 75 => ⟨S1x4096x1024, .f32⟩
  | 76 => ⟨S1x4096x1024, .f32⟩
  | 77 => ⟨S_, .f32⟩
  | 78 => ⟨S1024, .f32⟩
  | 79 => ⟨S1x4096x4x256, .f32⟩
  | 80 => ⟨S4x256x1x4096, .f32⟩
  | 81 => ⟨S4x1x4096x256, .f32⟩
  | 82 => ⟨S1x4096x4x256, .f32⟩
  | 83 => ⟨S4x256x256, .f32⟩
  | 84 => ⟨S4x256x256, .f32⟩
  | 85 => ⟨S1x4096x4x256, .f32⟩
  | 86 => ⟨S1x4096x1x256, .f32⟩
  | 87 => ⟨S1x4096x256, .f32⟩
  | 88 => ⟨S1x4096x1x256, .f32⟩
  | 89 => ⟨S1x4096x256, .f32⟩
  | 90 => ⟨S1x4096x1x256, .f32⟩
  | 91 => ⟨S1x4096x256, .f32⟩
  | 92 => ⟨S1x4096x1x256, .f32⟩
  | 93 => ⟨S1x4096x256, .f32⟩
  | 94 => ⟨S1x4096x256, .f32⟩
  | 95 => ⟨S1x4096x256, .f32⟩
  | 96 => ⟨S1x256x4096, .f32⟩
  | 97 => ⟨S1x256x4096, .f32⟩
  | 98 => ⟨S1x4096x256, .f32⟩
  | 99 => ⟨S1x4096x1x256, .f32⟩
  | 100 => ⟨S_, .f32⟩
  | 101 => ⟨S1x4096x4x256, .f32⟩
  | 102 => ⟨S1x4096x4x256, .f32⟩
  | 103 => ⟨S1x4096x256, .f32⟩
  | 104 => ⟨S1x4096x256, .f32⟩
  | 105 => ⟨S1x256x4096, .f32⟩
  | 106 => ⟨S1x256x4096, .f32⟩
  | 107 => ⟨S1x4096x256, .f32⟩
  | 108 => ⟨S1x4096x1x256, .f32⟩
  | 109 => ⟨S_, .f32⟩
  | 110 => ⟨S1x4096x4x256, .f32⟩
  | 111 => ⟨S1x4096x4x256, .f32⟩
  | 112 => ⟨S1x4096x256, .f32⟩
  | 113 => ⟨S1x4096x256, .f32⟩
  | 114 => ⟨S1x256x4096, .f32⟩
  | 115 => ⟨S1x256x4096, .f32⟩
  | 116 => ⟨S1x4096x256, .f32⟩
  | 117 => ⟨S1x4096x1x256, .f32⟩
  | 118 => ⟨S_, .f32⟩
  | 119 => ⟨S1x4096x4x256, .f32⟩
  | 120 => ⟨S1x4096x4x256, .f32⟩
  | 121 => ⟨S1x4096x256, .f32⟩
  | 122 => ⟨S1x4096x256, .f32⟩
  | 123 => ⟨S1x256x4096, .f32⟩
  | 124 => ⟨S1x256x4096, .f32⟩
  | 125 => ⟨S1x4096x256, .f32⟩
  | 126 => ⟨S1x4096x1x256, .f32⟩
  | 127 => ⟨S_, .f32⟩
  | _ => ⟨S3x4096x1024, .f32⟩

abbrev hbmTy0_2 (i : Nat) : BufTy := match i % 128 with
  | 0 => ⟨S1x4096x4x256, .f32⟩
  | 1 => ⟨S1x4096x4x256, .f32⟩
  | 2 => ⟨S1x4096x1024, .f32⟩
  | 3 => ⟨S1x1024, .f32⟩
  | 4 => ⟨S1x4x256x256, .f32⟩
  | 5 => ⟨S4096x1024, .f32⟩
  | 6 => ⟨S4096x1024, .bf16⟩
  | 7 => ⟨S_, .i32⟩
  | 8 => ⟨S_, .bf16⟩
  | 9 => ⟨S4096x2048, .bf16⟩
  | 10 => ⟨S4096x1024, .f32⟩
  | 11 => ⟨S4096x1024, .bf16⟩
  | 12 => ⟨S_, .i32⟩
  | 13 => ⟨S_, .bf16⟩
  | 14 => ⟨S4096x3072, .bf16⟩
  | 15 => ⟨S4x8x32x256, .f32⟩
  | 16 => ⟨S8x4x32x256, .f32⟩
  | 17 => ⟨S8x4x32x256, .bf16⟩
  | _ => ⟨S3x4096x1024, .f32⟩

abbrev hbmTy (i : Nat) : BufTy := match i / 128 with
  | 0 => hbmTy0_0 i
  | 1 => hbmTy0_1 i
  | 2 => hbmTy0_2 i
  | _ => ⟨S3x4096x1024, .f32⟩

abbrev bufTy : (tb : Table) → Fin (tcTables nBuf tb) → BufTy
  | .hbm, ⟨i, _⟩ => hbmTy i
  | _, _ => ⟨S3x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_c_4 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_c_7 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v37 : Ref sig .tc := ⟨.hbm, 66, rfl⟩
abbrev main_c_8 : Ref sig .tc := ⟨.hbm, 67, rfl⟩
abbrev main_v38 : Ref sig .tc := ⟨.hbm, 68, rfl⟩
abbrev main_v39 : Ref sig .tc := ⟨.hbm, 69, rfl⟩
abbrev main_c_9 : Ref sig .tc := ⟨.hbm, 70, rfl⟩
abbrev main_c_10 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_c_11 : Ref sig .tc := ⟨.hbm, 100, rfl⟩
abbrev main_v63 : Ref sig .tc := ⟨.hbm, 101, rfl⟩
abbrev main_v64 : Ref sig .tc := ⟨.hbm, 102, rfl⟩
abbrev main_c_12 : Ref sig .tc := ⟨.hbm, 103, rfl⟩
abbrev main_c_13 : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_v65 : Ref sig .tc := ⟨.hbm, 110, rfl⟩
abbrev main_c_14 : Ref sig .tc := ⟨.hbm, 111, rfl⟩
abbrev main_v66 : Ref sig .tc := ⟨.hbm, 112, rfl⟩
abbrev main_v67 : Ref sig .tc := ⟨.hbm, 113, rfl⟩
abbrev main_c_15 : Ref sig .tc := ⟨.hbm, 114, rfl⟩
abbrev main_c_16 : Ref sig .tc := ⟨.hbm, 115, rfl⟩
abbrev main_call5_v0 : Ref sig .tc := ⟨.hbm, 116, rfl⟩
abbrev main_call5_v1 : Ref sig .tc := ⟨.hbm, 117, rfl⟩
abbrev main_call5_v2 : Ref sig .tc := ⟨.hbm, 118, rfl⟩
abbrev main_call5_v3 : Ref sig .tc := ⟨.hbm, 119, rfl⟩
abbrev main_call5_v4 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_c_17 : Ref sig .tc := ⟨.hbm, 144, rfl⟩
abbrev main_v91 : Ref sig .tc := ⟨.hbm, 145, rfl⟩
abbrev main_v92 : Ref sig .tc := ⟨.hbm, 146, rfl⟩
abbrev main_c_18 : Ref sig .tc := ⟨.hbm, 147, rfl⟩
abbrev main_c_19 : Ref sig .tc := ⟨.hbm, 148, rfl⟩
abbrev main_call6_v0 : Ref sig .tc := ⟨.hbm, 149, rfl⟩
abbrev main_call6_v1 : Ref sig .tc := ⟨.hbm, 150, rfl⟩
abbrev main_call6_v2 : Ref sig .tc := ⟨.hbm, 151, rfl⟩
abbrev main_call6_v3 : Ref sig .tc := ⟨.hbm, 152, rfl⟩
abbrev main_call6_v4 : Ref sig .tc := ⟨.hbm, 153, rfl⟩
abbrev main_v93 : Ref sig .tc := ⟨.hbm, 154, rfl⟩
abbrev main_c_20 : Ref sig .tc := ⟨.hbm, 155, rfl⟩
abbrev main_v94 : Ref sig .tc := ⟨.hbm, 156, rfl⟩
abbrev main_v95 : Ref sig .tc := ⟨.hbm, 157, rfl⟩
abbrev main_c_21 : Ref sig .tc := ⟨.hbm, 158, rfl⟩
abbrev main_c_22 : Ref sig .tc := ⟨.hbm, 159, rfl⟩
abbrev main_call7_v0 : Ref sig .tc := ⟨.hbm, 160, rfl⟩
abbrev main_call7_v1 : Ref sig .tc := ⟨.hbm, 161, rfl⟩
abbrev main_call7_v2 : Ref sig .tc := ⟨.hbm, 162, rfl⟩
abbrev main_call7_v3 : Ref sig .tc := ⟨.hbm, 163, rfl⟩
abbrev main_call7_v4 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_cst : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_cst_23 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_cst_24 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_cst_25 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_cst_26 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_cst_27 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_c_28 : Ref sig .tc := ⟨.hbm, 263, rfl⟩
abbrev main_call8_v0 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_c_29 : Ref sig .tc := ⟨.hbm, 268, rfl⟩
abbrev main_call9_v0 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩

abbrev nD : Nat := 1
abbrev τ : Topo := Topo.v7x

variable {F : FTy → Type} [FloatOps F]
-- ==== Hidden.lean ====
abbrev S4096x2048 : Shape := ⟨2, ![4096, 2048]⟩
abbrev S2048x8192 : Shape := ⟨2, ![2048, 8192]⟩
abbrev S8192x2048 : Shape := ⟨2, ![8192, 2048]⟩
abbrev S8x128 : Shape := ⟨2, ![8, 128]⟩
abbrev S4096x8192 : Shape := ⟨2, ![4096, 8192]⟩
abbrev S1024x2048 : Shape := ⟨2, ![1024, 2048]⟩
abbrev S2048x2048 : Shape := ⟨2, ![2048, 2048]⟩
abbrev S2048x512 : Shape := ⟨2, ![2048, 512]⟩
abbrev S1024x512 : Shape := ⟨2, ![1024, 512]⟩
abbrev S4096x512 : Shape := ⟨2, ![4096, 512]⟩
abbrev S512x2048 : Shape := ⟨2, ![512, 2048]⟩

abbrev nBuf : Space → Nat
  | .hbm => 9
  | .vmem => 22
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S8192x2048, .bf16⟩
  | .hbm, ⟨3, _⟩ => ⟨S4096x2048, .bf16⟩
  | .hbm, ⟨4, _⟩ => ⟨S8x128, .f32⟩
  | .hbm, ⟨5, _⟩ => ⟨S4096x8192, .bf16⟩
  | .hbm, ⟨6, _⟩ => ⟨S4096x8192, .bf16⟩
  | .hbm, ⟨7, _⟩ => ⟨S8192x2048, .bf16⟩
  | .hbm, ⟨8, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S4096x512, .bf16⟩
  | .local _ .vmem, ⟨9, _⟩ => ⟨S4096x512, .bf16⟩
  | .local _ .vmem, ⟨10, _⟩ => ⟨S4096x2048, .bf16⟩
  | .local _ .vmem, ⟨11, _⟩ => ⟨S512x2048, .bf16⟩
  | .local _ .vmem, ⟨12, _⟩ => ⟨S512x2048, .bf16⟩
  | .local _ .vmem, ⟨13, _⟩ => ⟨S1024x2048, .bf16⟩
  | .local _ .vmem, ⟨14, _⟩ => ⟨S1024x2048, .bf16⟩
  | .local _ .vmem, ⟨15, _⟩ => ⟨S2048x2048, .bf16⟩
  | .local _ .vmem, ⟨16, _⟩ => ⟨S2048x2048, .bf16⟩
  | .local _ .vmem, ⟨17, _⟩ => ⟨S1024x2048, .bf16⟩
  | .local _ .vmem, ⟨18, _⟩ => ⟨S1024x2048, .bf16⟩
  | .local _ .vmem, ⟨19, _⟩ => ⟨S8x128, .f32⟩
  | .local _ .vmem, ⟨20, _⟩ => ⟨S1024x2048, .bf16⟩
  | .local _ .vmem, ⟨21, _⟩ => ⟨S1024x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![16, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S4096x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 1 → Memref sig .tc .vmem S4096x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev grid2 : Pipeline.Grid := ⟨3, ![4, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, false]

abbrev stage2_1 : Fin 2 → Memref sig .tc .vmem S2048x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, false]

abbrev stage2_2 : Fin 2 → Memref sig .tc .vmem S1024x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 1 → Memref sig .tc .vmem S8x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false, false]

abbrev stage2_4 : Fin 2 → Memref sig .tc .vmem S1024x2048 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]
-- ==== HiddenReferenceIdeal.lean ====
abbrev S4096x2048 : Shape := ⟨2, ![4096, 2048]⟩
abbrev S2048x8192 : Shape := ⟨2, ![2048, 8192]⟩
abbrev S8192x2048 : Shape := ⟨2, ![8192, 2048]⟩
abbrev S8x128 : Shape := ⟨2, ![8, 128]⟩
abbrev S1x4096x2048 : Shape := ⟨3, ![1, 4096, 2048]⟩
abbrev S1x4096x8192 : Shape := ⟨3, ![1, 4096, 8192]⟩
abbrev S_ : Shape := ⟨0, ![]⟩
abbrev S4096x8192 : Shape := ⟨2, ![4096, 8192]⟩

abbrev nBuf : Space → Nat
  | .hbm => 41
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S8192x2048, .bf16⟩
  | .hbm, ⟨3, _⟩ => ⟨S4096x2048, .bf16⟩
  | .hbm, ⟨4, _⟩ => ⟨S8x128, .f32⟩
  | .hbm, ⟨5, _⟩ => ⟨S1x4096x2048, .bf16⟩
  | .hbm, ⟨6, _⟩ => ⟨S1x4096x2048, .f32⟩
  | .hbm, ⟨7, _⟩ => ⟨S2048x8192, .f32⟩
  | .hbm, ⟨8, _⟩ => ⟨S1x4096x8192, .f32⟩
  | .hbm, ⟨9, _⟩ => ⟨S8192x2048, .f32⟩
  | .hbm, ⟨10, _⟩ => ⟨S_, .f32⟩
  | .hbm, ⟨11, _⟩ => ⟨S1x4096x8192, .f32⟩
  | .hbm, ⟨12, _⟩ => ⟨S1x4096x8192, .f32⟩
  | .hbm, ⟨13, _⟩ => ⟨S_, .f32⟩
  | .hbm, ⟨14, _⟩ => ⟨S1x4096x8192, .f32⟩
  | .hbm, ⟨15, _⟩ => ⟨S1x4096x8192, .i1⟩
  | .hbm, ⟨16, _⟩ => ⟨S_, .f32⟩
  | .hbm, ⟨17, _⟩ => ⟨S1x4096x8192, .f32⟩
  | .hbm, ⟨18, _⟩ => ⟨S1x4096x8192, .f32⟩
  | .hbm, ⟨19, _⟩ => ⟨S_, .f32⟩
  | .hbm, ⟨20, _⟩ => ⟨S1x4096x8192, .f32⟩
  | .hbm, ⟨21, _⟩ => ⟨S1x4096x8192, .f32⟩
  | .hbm, ⟨22, _⟩ => ⟨S1x4096x2048, .f32⟩
  | .hbm, ⟨23, _⟩ => ⟨S1x4096x2048, .bf16⟩
  | .hbm, ⟨24, _⟩ => ⟨S1x4096x2048, .f32⟩
  | .hbm, ⟨25, _⟩ => ⟨S2048x8192, .f32⟩
  | .hbm, ⟨26, _⟩ => ⟨S8192x2048, .f32⟩
  | .hbm, ⟨27, _⟩ => ⟨S1x4096x8192, .f32⟩
  | .hbm, ⟨28, _⟩ => ⟨S1x4096x8192, .f32⟩
  | .hbm, ⟨29, _⟩ => ⟨S_, .f32⟩
  | .hbm, ⟨30, _⟩ => ⟨S1x4096x8192, .f32⟩
  | .hbm, ⟨31, _⟩ => ⟨S1x4096x8192, .f32⟩
  | .hbm, ⟨32, _⟩ => ⟨S_, .f32⟩
  | .hbm, ⟨33, _⟩ => ⟨S1x4096x8192, .f32⟩
  | .hbm, ⟨34, _⟩ => ⟨S1x4096x8192, .f32⟩
  | .hbm, ⟨35, _⟩ => ⟨S1x4096x8192, .f32⟩
  | .hbm, ⟨36, _⟩ => ⟨S4096x8192, .f32⟩
  | .hbm, ⟨37, _⟩ => ⟨S4096x8192, .bf16⟩
  | .hbm, ⟨38, _⟩ => ⟨S8192x2048, .bf16⟩
  | .hbm, ⟨39, _⟩ => ⟨S4096x8192, .f32⟩
  | .hbm, ⟨40, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_call1_cst : Ref sig .tc := ⟨.hbm, 32, rfl⟩
abbrev main_call1_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== MlpOut.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .f32⟩
  | .local _ .vmem, ⟨5, _⟩ => ⟨S1024x2048, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== MlpOutReferenceIdeal.lean ====
abbrev S4096x8192 : Shape := ⟨2, ![4096, 8192]⟩
abbrev S8192x2048 : Shape := ⟨2, ![8192, 2048]⟩
abbrev S1x4096x8192 : Shape := ⟨3, ![1, 4096, 8192]⟩
abbrev S1x4096x2048 : Shape := ⟨3, ![1, 4096, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S1x4096x8192, .bf16⟩
  | .hbm, ⟨3, _⟩ => ⟨S1x4096x8192, .f32⟩
  | .hbm, ⟨4, _⟩ => ⟨S8192x2048, .f32⟩
  | .hbm, ⟨5, _⟩ => ⟨S1x4096x2048, .f32⟩
  | .hbm, ⟨6, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MlpDx.lean ====
abbrev S4096x8192 : Shape := ⟨2, ![4096, 8192]⟩
abbrev S2048x8192 : Shape := ⟨2, ![2048, 8192]⟩
abbrev S8x128 : Shape := ⟨2, ![8, 128]⟩
abbrev S4096x2048 : Shape := ⟨2, ![4096, 2048]⟩
abbrev S1024x2048 : Shape := ⟨2, ![1024, 2048]⟩
abbrev S2048x2048 : Shape := ⟨2, ![2048, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S8x128, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S8x128, .f32⟩
  | .local _ .vmem, ⟨5, _⟩ => ⟨S1024x2048, .f32⟩
  | .local _ .vmem, ⟨6, _⟩ => ⟨S1024x2048, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== MlpDxReferenceIdeal.lean ====
abbrev S4096x8192 : Shape := ⟨2, ![4096, 8192]⟩
abbrev S2048x8192 : Shape := ⟨2, ![2048, 8192]⟩
abbrev S8x128 : Shape := ⟨2, ![8, 128]⟩
abbrev S_ : Shape := ⟨0, ![]⟩
abbrev S1x4096x2048 : Shape := ⟨3, ![1, 4096, 2048]⟩
abbrev S1x4096x8192 : Shape := ⟨3, ![1, 4096, 8192]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S8x128, .f32⟩
  | .hbm, ⟨3, _⟩ => ⟨S_, .f32⟩
  | .hbm, ⟨4, _⟩ => ⟨S1x4096x2048, .f32⟩
  | .hbm, ⟨5, _⟩ => ⟨S2048x8192, .f32⟩
  | .hbm, ⟨6, _⟩ => ⟨S1x4096x8192, .f32⟩
  | .hbm, ⟨7, _⟩ => ⟨S1x4096x8192, .bf16⟩
  | .hbm, ⟨8, _⟩ => ⟨S1x4096x8192, .f32⟩
  | .hbm, ⟨9, _⟩ => ⟨S1x4096x2048, .f32⟩
  | .hbm, ⟨10, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== GradW.lean ====
abbrev S4096x2048 : Shape := ⟨2, ![4096, 2048]⟩
abbrev S4096x8192 : Shape := ⟨2, ![4096, 8192]⟩
abbrev S1x2048 : Shape := ⟨2, ![1, 2048]⟩
abbrev S8x2048x1024 : Shape := ⟨3, ![8, 2048, 1024]⟩
abbrev S4096x512 : Shape := ⟨2, ![4096, 512]⟩
abbrev S4096x1024 : Shape := ⟨2, ![4096, 1024]⟩
abbrev S128x2048 : Shape := ⟨2, ![128, 2048]⟩
abbrev S1x512x1024 : Shape := ⟨3, ![1, 512, 1024]⟩
abbrev S128 : Shape := ⟨1, ![128]⟩
abbrev S128x1 : Shape := ⟨2, ![128, 1]⟩
abbrev S2048 : Shape := ⟨1, ![2048]⟩
abbrev S512x1024 : Shape := ⟨2, ![512, 1024]⟩

abbrev nBuf : Space → Nat
  | .hbm => 12
  | .vmem => 20
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .hbm, ⟨6, _⟩ => ⟨S1x2048, .f32⟩
  | .hbm, ⟨7, _⟩ => ⟨S8x2048x1024, .bf16⟩
  | .hbm, ⟨8, _⟩ => ⟨S4096x2048, .f32⟩
  | .hbm, ⟨9, _⟩ => ⟨S4096x2048, .bf16⟩
  | .hbm, ⟨10, _⟩ => ⟨S1x2048, .f32⟩
  | .hbm, ⟨11, _⟩ => ⟨S1x2048, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S1x2048, .f32⟩
  | .local _ .vmem, ⟨11, _⟩ => ⟨S1x2048, .f32⟩
  | .local _ .vmem, ⟨12, _⟩ => ⟨S1x512x1024, .bf16⟩
  | .local _ .vmem, ⟨13, _⟩ => ⟨S1x512x1024, .bf16⟩
  | .local _ .vmem, ⟨14, _⟩ => ⟨S128x2048, .f32⟩
  | .local _ .vmem, ⟨15, _⟩ => ⟨S128x2048, .f32⟩
  | .local _ .vmem, ⟨16, _⟩ => ⟨S128x2048, .bf16⟩
  | .local _ .vmem, ⟨17, _⟩ => ⟨S128x2048, .bf16⟩
  | .local _ .vmem, ⟨18, _⟩ => ⟨S1x2048, .f32⟩
  | .local _ .vmem, ⟨19, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨3, ![8, 4, 1], ![false, false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v51 : BitVec 1 := Scalar.cmpi .eq v1 c0_i32
  let v52 : BitVec 32 := Scalar.extui v51
  let c0_i32_22 : BitVec 32 := 0#32
  let v53 : BitVec 1 := Scalar.cmpi .ne v52 c0_i32_22
  v53

def k0_cond2 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v51 : BitVec 1 := Scalar.cmpi .eq v1 c0_i32
  let v_true : BitVec 1 := 1#1
  let v54 : BitVec 1 := Scalar.xori v51 v_true
  let v55 : BitVec 32 := Scalar.extui v54
  let c0_i32_23 : BitVec 32 := 0#32
  let v56 : BitVec 1 := Scalar.cmpi .ne v55 c0_i32_23
  v56

def k0_cond3 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_24 : BitVec 32 := 0#32
  let v57 : BitVec 1 := Scalar.cmpi .eq v1 c0_i32_24
  let v58 : BitVec 32 := Scalar.extui v57
  let c0_i32_25 : BitVec 32 := 0#32
  let v59 : BitVec 1 := Scalar.cmpi .ne v58 c0_i32_25
  v59

def k0_cond4 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_24 : BitVec 32 := 0#32
  let v57 : BitVec 1 := Scalar.cmpi .eq v1 c0_i32_24
  let true_26 : BitVec 1 := 1#1
  let v60 : BitVec 1 := Scalar.xori v57 true_26
  let v61 : BitVec 32 := Scalar.extui v60
  let c0_i32_27 : BitVec 32 := 0#32
  let v62 : BitVec 1 := Scalar.cmpi .ne v61 c0_i32_27
  v62

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]
-- ==== GradWReferenceIdeal.lean ====
abbrev S4096x2048 : Shape := ⟨2, ![4096, 2048]⟩
abbrev S4096x8192 : Shape := ⟨2, ![4096, 8192]⟩
abbrev S1x2048 : Shape := ⟨2, ![1, 2048]⟩
abbrev S_ : Shape := ⟨0, ![]⟩
abbrev S2048x8192 : Shape := ⟨2, ![2048, 8192]⟩
abbrev S1x4096x2048 : Shape := ⟨3, ![1, 4096, 2048]⟩
abbrev S1x4096x8192 : Shape := ⟨3, ![1, 4096, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S2048x8192, .f32⟩
  | .hbm, ⟨9, _⟩ => ⟨S1x4096x2048, .bf16⟩
  | .hbm, ⟨10, _⟩ => ⟨S1x4096x2048, .f32⟩
  | .hbm, ⟨11, _⟩ => ⟨S1x4096x8192, .f32⟩
  | .hbm, ⟨12, _⟩ => ⟨S1x4096x8192, .bf16⟩
  | .hbm, ⟨13, _⟩ => ⟨S1x4096x8192, .f32⟩
  | .hbm, ⟨14, _⟩ => ⟨S8192x2048, .f32⟩
  | .hbm, ⟨15, _⟩ => ⟨S2048x8192, .f32⟩
  | .hbm, ⟨16, _⟩ => ⟨S2048x8x1024, .f32⟩
  | .hbm, ⟨17, _⟩ => ⟨S8x2048x1024, .f32⟩
  | .hbm, ⟨18, _⟩ => ⟨S8x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== GradX.lean ====
abbrev S4096x3072 : Shape := ⟨2, ![4096, 3072]⟩
abbrev S2048x3072 : Shape := ⟨2, ![2048, 3072]⟩
abbrev S4096x2048 : Shape := ⟨2, ![4096, 2048]⟩
abbrev S256x2048 : Shape := ⟨2, ![256, 2048]⟩
abbrev S3x256x2048 : Shape := ⟨3, ![3, 256, 2048]⟩
abbrev S1x256x2048 : Shape := ⟨3, ![1, 256, 2048]⟩
abbrev S8x128 : Shape := ⟨2, ![8, 128]⟩
abbrev S512x3072 : Shape := ⟨2, ![512, 3072]⟩
abbrev S512x2048 : Shape := ⟨2, ![512, 2048]⟩
abbrev S32x2048 : Shape := ⟨2, ![32, 2048]⟩
abbrev S3x32x2048 : Shape := ⟨3, ![3, 32, 2048]⟩
abbrev S1x32x2048 : Shape := ⟨3, ![1, 32, 2048]⟩

abbrev nBuf : Space → Nat
  | .hbm => 17
  | .vmem => 26
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .bf16⟩
  | .hbm, ⟨2, _⟩ => ⟨S4096x2048, .f32⟩
  | .hbm, ⟨3, _⟩ => ⟨S256x2048, .f32⟩
  | .hbm, ⟨4, _⟩ => ⟨S3x256x2048, .bf16⟩
  | .hbm, ⟨5, _⟩ => ⟨S1x256x2048, .f32⟩
  | .hbm, ⟨6, _⟩ => ⟨S1x256x2048, .f32⟩
  | .hbm, ⟨7, _⟩ => ⟨S1x256x2048, .f32⟩
  | .hbm, ⟨8, _⟩ => ⟨S8x128, .f32⟩
  | .hbm, ⟨9, _⟩ => ⟨S256x2048, .f32⟩
  | .hbm, ⟨10, _⟩ => ⟨S256x2048, .f32⟩
  | .hbm, ⟨11, _⟩ => ⟨S256x2048, .f32⟩
  | .hbm, ⟨12, _⟩ => ⟨S4096x2048, .f32⟩
  | .hbm, ⟨13, _⟩ => ⟨S256x2048, .f32⟩
  | .hbm, ⟨14, _⟩ => ⟨S256x2048, .f32⟩
  | .hbm, ⟨15, _⟩ => ⟨S256x2048, .f32⟩
  | .hbm, ⟨16, _⟩ => ⟨S256x2048, .f32⟩
  | .local _ .vmem, ⟨0, _⟩ => ⟨S512x3072, .bf16⟩
  | .local _ .vmem, ⟨1, _⟩ => ⟨S512x3072, .bf16⟩
  | .local _ .vmem, ⟨2, _⟩ => ⟨S2048x3072, .bf16⟩
  | .local _ .vmem, ⟨3, _⟩ => ⟨S512x2048, .f32⟩
  | .local _ .vmem, ⟨4, _⟩ => ⟨S512x2048, .f32⟩
  | .local _ .vmem, ⟨5, _⟩ => ⟨S8x128, .f32⟩
  | .local _ .vmem, ⟨6, _⟩ => ⟨S32x2048, .f32⟩
  | .local _ .vmem, ⟨7, _⟩ => ⟨S32x2048, .f32⟩
  | .local _ .vmem, ⟨8, _⟩ => ⟨S3x32x2048, .bf16⟩
  | .local _ .vmem, ⟨9, _⟩ => ⟨S3x32x2048, .bf16⟩
  | .local _ .vmem, ⟨10, _⟩ => ⟨S32x2048, .f32⟩
  | .local _ .vmem, ⟨11, _⟩ => ⟨S32x2048, .f32⟩
  | .local _ .vmem, ⟨12, _⟩ => ⟨S32x2048, .f32⟩
  | .local _ .vmem, ⟨13, _⟩ => ⟨S32x2048, .f32⟩
  | .local _ .vmem, ⟨14, _⟩ => ⟨S32x2048, .f32⟩
  | .local _ .vmem, ⟨15, _⟩ => ⟨S32x2048, .f32⟩
  | .local _ .vmem, ⟨16, _⟩ => ⟨S512x2048, .f32⟩
  | .local _ .vmem, ⟨17, _⟩ => ⟨S512x2048, .f32⟩
  | .local _ .vmem, ⟨18, _⟩ => ⟨S32x2048, .f32⟩
  | .local _ .vmem, ⟨19, _⟩ => ⟨S32x2048, .f32⟩
  | .local _ .vmem, ⟨20, _⟩ => ⟨S32x2048, .f32⟩
  | .local _ .vmem, ⟨21, _⟩ => ⟨S32x2048, .f32⟩
  | .local _ .vmem, ⟨22, _⟩ => ⟨S32x2048, .f32⟩
  | .local _ .vmem, ⟨23, _⟩ => ⟨S32x2048, .f32⟩
  | .local _ .vmem, ⟨24, _⟩ => ⟨S32x2048, .f32⟩
  | .local _ .vmem, ⟨25, _⟩ => ⟨S32x2048, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S3x32x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S32x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S32x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S32x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S32x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S32x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S32x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== GradXReferenceIdeal.lean ====
abbrev S4096x3072 : Shape := ⟨2, ![4096, 3072]⟩
abbrev S2048x3072 : Shape := ⟨2, ![2048, 3072]⟩
abbrev S4096x2048 : Shape := ⟨2, ![4096, 2048]⟩
abbrev S256x2048 : Shape := ⟨2, ![256, 2048]⟩
abbrev S3x256x2048 : Shape := ⟨3, ![3, 256, 2048]⟩
abbrev S1x256x2048 : Shape := ⟨3, ![1, 256, 2048]⟩
abbrev S8x128 : Shape := ⟨2, ![8, 128]⟩
abbrev S_ : Shape := ⟨0, ![]⟩
abbrev S1x4096x2048 : Shape := ⟨3, ![1, 4096, 2048]⟩
abbrev S1x4096x3072 : Shape := ⟨3, ![1, 4096, 3072]⟩

abbrev nBuf : Space → Nat
  | .hbm => 65
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .bf16⟩
  | .hbm, ⟨2, _⟩ => ⟨S4096x2048, .f32⟩
  | .hbm, ⟨3, _⟩ => ⟨S256x2048, .f32⟩
  | .hbm, ⟨4, _⟩ => ⟨S3x256x2048, .bf16⟩
  | .hbm, ⟨5, _⟩ => ⟨S1x256x2048, .f32⟩
  | .hbm, ⟨6, _⟩ => ⟨S1x256x2048, .f32⟩
  | .hbm, ⟨7, _⟩ => ⟨S1x256x2048, .f32⟩
  | .hbm, ⟨8, _⟩ => ⟨S8x128, .f32⟩
  | .hbm, ⟨9, _⟩ => ⟨S_, .f32⟩
  | .hbm, ⟨10, _⟩ => ⟨S1x4096x2048, .f32⟩
  | .hbm, ⟨11, _⟩ => ⟨S_, .f32⟩
  | .hbm, ⟨12, _⟩ => ⟨S1x4096x2048, .f32⟩
  | .hbm, ⟨13, _⟩ => ⟨S1x4096x2048, .f32⟩
  | .hbm, ⟨14, _⟩ => ⟨S2048x3072, .f32⟩
  | .hbm, ⟨15, _⟩ => ⟨S1x4096x3072, .f32⟩
  | .hbm, ⟨16, _⟩ => ⟨S1x4096x2048, .f32⟩
  | .hbm, ⟨17, _⟩ => ⟨S1x4096x3072, .bf16⟩
  | .hbm, ⟨18, _⟩ => ⟨S1x4096x3072, .f32⟩
  | .hbm, ⟨19, _⟩ => ⟨S1x4096x2048, .f32⟩
  | .hbm, ⟨20, _⟩ => ⟨S_, .f32⟩
  | .hbm, ⟨21, _⟩ => ⟨S1x4096x2048, .f32⟩
  | .hbm, ⟨22, _⟩ => ⟨S1x4096x2048, .f32⟩
  | .hbm, ⟨23, _⟩ => ⟨S1x4096x2048, .f32⟩
  | .hbm, ⟨24, _⟩ => ⟨S4096x2048, .f32⟩
  | .hbm, ⟨25, _⟩ => ⟨S3x256x2048, .f32⟩
  | .hbm, ⟨26, _⟩ => ⟨S_, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S_, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S_, .f32⟩
  | .hbm, ⟨48, _⟩ => ⟨S256x2048, .f32⟩
  | .hbm, ⟨49, _⟩ => ⟨S256x2048, .f32⟩
  | .hbm, ⟨50, _⟩ => ⟨S_, .f32⟩
  | .hbm, ⟨51, _⟩ => ⟨S256x2048, .f32⟩
  | .hbm, ⟨52, _⟩ => ⟨S256x2048, .f32⟩
  | .hbm, ⟨53, _⟩ => ⟨S256x2048, .f32⟩
  | .hbm, ⟨54, _⟩ => ⟨S_, .f32⟩
  | .hbm, ⟨55, _⟩ => ⟨S256x2048, .f32⟩
  | .hbm, ⟨56, _⟩ => ⟨S256x2048, .f32⟩
  | .hbm, ⟨57, _⟩ => ⟨S256x2048, .f32⟩
  | .hbm, ⟨58, _⟩ => ⟨S_, .f32⟩
  | .hbm, ⟨59, _⟩ => ⟨S256x2048, .f32⟩
  | .hbm, ⟨60, _⟩ => ⟨S256x2048, .f32⟩
  | .hbm, ⟨61, _⟩ => ⟨S256x2048, .f32⟩
  | .hbm, ⟨62, _⟩ => ⟨S_, .f32⟩
  | .hbm, ⟨63, _⟩ => ⟨S256x2048, .f32⟩
  | .hbm, ⟨64, _⟩ => ⟨S256x2048, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_11 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]
-- ==== InStep.lean ====
abbrev S4096x2048 : Shape := ⟨2, ![4096, 2048]⟩
abbrev S4096x3072 : Shape := ⟨2, ![4096, 3072]⟩
abbrev S1024x2048 : Shape := ⟨2, ![1024, 2048]⟩
abbrev S3x1024x2048 : Shape := ⟨3, ![3, 1024, 2048]⟩
abbrev S1x1024x2048 : Shape := ⟨3, ![1, 1024, 2048]⟩
abbrev S8x2048x384 : Shape := ⟨3, ![8, 2048, 384]⟩
abbrev S4096x512 : Shape := ⟨2, ![4096, 512]⟩
abbrev S4096x768 : Shape := ⟨2, ![4096, 768]⟩
abbrev S64x2048 : Shape := ⟨2, ![64, 2048]⟩
abbrev S3x64x2048 : Shape := ⟨3, ![3, 64, 2048]⟩
abbrev S2x512x384 : Shape := ⟨3, ![2, 512, 384]⟩
abbrev S1x64x2048 : Shape := ⟨3, ![1, 64, 2048]⟩
abbrev S512x768 : Shape := ⟨2, ![512, 768]⟩
abbrev S512x384 : Shape := ⟨2, ![512, 384]⟩
abbrev S1x512x384 : Shape := ⟨3, ![1, 512, 384]⟩

abbrev nBuf : Space → Nat
  | .hbm => 15
  | .vmem => 24
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S1024x2048, .f32⟩
  | .hbm, ⟨3, _⟩ => ⟨S3x1024x2048, .bf16⟩
  | .hbm, ⟨4, _⟩ => ⟨S1x1024x2048, .f32⟩
  | .hbm, ⟨5, _⟩ => ⟨S1x1024x2048, .f32⟩
  | .hbm, ⟨6, _⟩ => ⟨S1x1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S8x2048x384, .bf16⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S1024x2048, .f32⟩
  | .local _ .vmem, ⟨0, _⟩ => ⟨S4096x512, .bf16⟩
  | .local _ .vmem, ⟨1, _⟩ => ⟨S4096x512, .bf16⟩
  | .local _ .vmem, ⟨2, _⟩ => ⟨S4096x768, .bf16⟩
  | .local _ .vmem, ⟨3, _⟩ => ⟨S4096x768, .bf16⟩
  | .local _ .vmem, ⟨4, _⟩ => ⟨S64x2048, .f32⟩
  | .local _ .vmem, ⟨5, _⟩ => ⟨S64x2048, .f32⟩
  | .local _ .vmem, ⟨6, _⟩ => ⟨S3x64x2048, .bf16⟩
  | .local _ .vmem, ⟨7, _⟩ => ⟨S3x64x2048, .bf16⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S2x512x384, .bf16⟩
  | .local _ .vmem, ⟨15, _⟩ => ⟨S2x512x384, .bf16⟩
  | .local _ .vmem, ⟨16, _⟩ => ⟨S64x2048, .f32⟩
  | .local _ .vmem, ⟨17, _⟩ => ⟨S64x2048, .f32⟩
  | .local _ .vmem, ⟨18, _⟩ => ⟨S64x2048, .f32⟩
  | .local _ .vmem, ⟨19, _⟩ => ⟨S64x2048, .f32⟩
  | .local _ .vmem, ⟨20, _⟩ => ⟨S64x2048, .f32⟩
  | .local _ .vmem, ⟨21, _⟩ => ⟨S64x2048, .f32⟩
  | .local _ .vmem, ⟨22, _⟩ => ⟨S64x2048, .f32⟩
  | .local _ .vmem, ⟨23, _⟩ => ⟨S64x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S3x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2x512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S64x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== InStepReferenceIdeal.lean ====
abbrev S4096x2048 : Shape := ⟨2, ![4096, 2048]⟩
abbrev S4096x3072 : Shape := ⟨2, ![4096, 3072]⟩
abbrev S1024x2048 : Shape := ⟨2, ![1024, 2048]⟩
abbrev S3x1024x2048 : Shape := ⟨3, ![3, 1024, 2048]⟩
abbrev S1x1024x2048 : Shape := ⟨3, ![1, 1024, 2048]⟩
abbrev S_ : Shape := ⟨0, ![]⟩
abbrev S2048x3072 : Shape := ⟨2, ![2048, 3072]⟩
abbrev S1x4096x2048 : Shape := ⟨3, ![1, 4096, 2048]⟩
abbrev S1x4096x3072 : Shape := ⟨3, ![1, 4096, 3072]⟩
abbrev S3072x2048 : Shape := ⟨2, ![3072, 2048]⟩
abbrev S2048x8x384 : Shape := ⟨3, ![2048, 8, 384]⟩
abbrev S8x2048x384 : Shape := ⟨3, ![8, 2048, 384]⟩

abbrev nBuf : Space → Nat
  | .hbm => 59
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S1024x2048, .f32⟩
  | .hbm, ⟨3, _⟩ => ⟨S3x1024x2048, .bf16⟩
  | .hbm, ⟨4, _⟩ => ⟨S1x1024x2048, .f32⟩
  | .hbm, ⟨5, _⟩ => ⟨S1x1024x2048, .f32⟩
  | .hbm, ⟨6, _⟩ => ⟨S1x1024x2048, .f32⟩
  | .hbm, ⟨7, _⟩ => ⟨S_, .f32⟩
  | .hbm, ⟨8, _⟩ => ⟨S2048x3072, .f32⟩
  | .hbm, ⟨9, _⟩ => ⟨S1x4096x2048, .bf16⟩
  | .hbm, ⟨10, _⟩ => ⟨S1x4096x2048, .f32⟩
  | .hbm, ⟨11, _⟩ => ⟨S1x4096x3072, .f32⟩
  | .hbm, ⟨12, _⟩ => ⟨S1x4096x3072, .bf16⟩
  | .hbm, ⟨13, _⟩ => ⟨S1x4096x3072, .f32⟩
  | .hbm, ⟨14, _⟩ => ⟨S3072x2048, .f32⟩
  | .hbm, ⟨15, _⟩ => ⟨S2048x3072, .f32⟩
  | .hbm, ⟨16, _⟩ => ⟨S3x1024x2048, .f32⟩
  | .hbm, ⟨17, _⟩ => ⟨S_, .f32⟩
  | .hbm, ⟨18, _⟩ => ⟨S1024x2048, .f32⟩
  | .hbm, ⟨19, _⟩ => ⟨S1024x2048, .f32⟩
  | .hbm, ⟨20, _⟩ => ⟨S2048x8x384, .f32⟩
  | .hbm, ⟨21, _⟩ => ⟨S8x2048x384, .f32⟩
  | .hbm, ⟨22, _⟩ => ⟨S8x2048x384, .bf16⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S_, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S_, .f32⟩
  | .hbm, ⟨34, _⟩ => ⟨S1024x2048, .f32⟩
  | .hbm, ⟨35, _⟩ => ⟨S1024x2048, .f32⟩
  | .hbm, ⟨36, _⟩ => ⟨S1024x2048, .f32⟩
  | .hbm, ⟨37, _⟩ => ⟨S_, .f32⟩
  | .hbm, ⟨38, _⟩ => ⟨S1024x2048, .f32⟩
  | .hbm, ⟨39, _⟩ => ⟨S1024x2048, .f32⟩
  | .hbm, ⟨40, _⟩ => ⟨S1024x2048, .f32⟩
  | .hbm, ⟨41, _⟩ => ⟨S_, .f32⟩
  | .hbm, ⟨42, _⟩ => ⟨S1024x2048, .f32⟩
  | .hbm, ⟨43, _⟩ => ⟨S1024x2048, .f32⟩
  | .hbm, ⟨44, _⟩ => ⟨S_, .f32⟩
  | .hbm, ⟨45, _⟩ => ⟨S1024x2048, .f32⟩
  | .hbm, ⟨46, _⟩ => ⟨S1024x2048, .f32⟩
  | .hbm, ⟨47, _⟩ => ⟨S1024x2048, .f32⟩
  | .hbm, ⟨48, _⟩ => ⟨S_, .f32⟩
  | .hbm, ⟨49, _⟩ => ⟨S1024x2048, .f32⟩
  | .hbm, ⟨50, _⟩ => ⟨S1024x2048, .f32⟩
  | .hbm, ⟨51, _⟩ => ⟨S1024x2048, .f32⟩
  | .hbm, ⟨52, _⟩ => ⟨S_, .f32⟩
  | .hbm, ⟨53, _⟩ => ⟨S1024x2048, .f32⟩
  | .hbm, ⟨54, _⟩ => ⟨S1024x2048, .f32⟩
  | .hbm, ⟨55, _⟩ => ⟨S1024x2048, .f32⟩
  | .hbm, ⟨56, _⟩ => ⟨S_, .f32⟩
  | .hbm, ⟨57, _⟩ => ⟨S1024x2048, .f32⟩
  | .hbm, ⟨58, _⟩ => ⟨S1024x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== MixDy.lean ====
abbrev S4096x2048 : Shape := ⟨2, ![4096, 2048]⟩
abbrev S2048x2048 : Shape := ⟨2, ![2048, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== MixDyReferenceIdeal.lean ====
abbrev S4096x2048 : Shape := ⟨2, ![4096, 2048]⟩
abbrev S2048x2048 : Shape := ⟨2, ![2048, 2048]⟩
abbrev S_ : Shape := ⟨0, ![]⟩
abbrev S1x4096x2048 : Shape := ⟨3, ![1, 4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S1x4096x2048, .f32⟩
  | .hbm, ⟨4, _⟩ => ⟨S2048x2048, .f32⟩
  | .hbm, ⟨5, _⟩ => ⟨S1x4096x2048, .f32⟩
  | .hbm, ⟨6, _⟩ => ⟨S1x4096x2048, .bf16⟩
  | .hbm, ⟨7, _⟩ => ⟨S1x4096x2048, .f32⟩
  | .hbm, ⟨8, _⟩ => ⟨S1x4096x2048, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradOut.lean ====
abbrev S4096x2048 : Shape := ⟨2, ![4096, 2048]⟩
abbrev S2048x2048 : Shape := ⟨2, ![2048, 2048]⟩
abbrev S4096x512 : Shape := ⟨2, ![4096, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x2048, .bf16⟩
  | .local _ .vmem, ⟨3, _⟩ => ⟨S512x2048, .bf16⟩
  | .local _ .vmem, ⟨4, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== GradOutReferenceIdeal.lean ====
abbrev S4096x2048 : Shape := ⟨2, ![4096, 2048]⟩
abbrev S_ : Shape := ⟨0, ![]⟩
abbrev S2048x2048 : Shape := ⟨2, ![2048, 2048]⟩
abbrev S1x4096x2048 : Shape := ⟨3, ![1, 4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S1x4096x2048, .bf16⟩
  | .hbm, ⟨5, _⟩ => ⟨S1x4096x2048, .f32⟩
  | .hbm, ⟨6, _⟩ => ⟨S1x4096x2048, .f32⟩
  | .hbm, ⟨7, _⟩ => ⟨S1x4096x2048, .bf16⟩
  | .hbm, ⟨8, _⟩ => ⟨S1x4096x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proj.lean ====
abbrev S4096x2048 : Shape := ⟨2, ![4096, 2048]⟩
abbrev S2048x3072 : Shape := ⟨2, ![2048, 3072]⟩
abbrev S3x4096x1024 : Shape := ⟨3, ![3, 4096, 1024]⟩
abbrev S1024x2048 : Shape := ⟨2, ![1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .bf16⟩
  | .hbm, ⟨2, _⟩ => ⟨S3x4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjReferenceIdeal.lean ====
abbrev S4096x2048 : Shape := ⟨2, ![4096, 2048]⟩
abbrev S2048x3072 : Shape := ⟨2, ![2048, 3072]⟩
abbrev S1x4096x2048 : Shape := ⟨3, ![1, 4096, 2048]⟩
abbrev S1x4096x3072 : Shape := ⟨3, ![1, 4096, 3072]⟩
abbrev S4096x3072 : Shape := ⟨2, ![4096, 3072]⟩
abbrev S4096x3x1024 : Shape := ⟨3, ![4096, 3, 1024]⟩
abbrev S3x4096x1024 : Shape := ⟨3, ![3, 4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .bf16⟩
  | .hbm, ⟨2, _⟩ => ⟨S1x4096x2048, .bf16⟩
  | .hbm, ⟨3, _⟩ => ⟨S1x4096x2048, .f32⟩
  | .hbm, ⟨4, _⟩ => ⟨S2048x3072, .f32⟩
  | .hbm, ⟨5, _⟩ => ⟨S1x4096x3072, .f32⟩
  | .hbm, ⟨6, _⟩ => ⟨S4096x3072, .f32⟩
  | .hbm, ⟨7, _⟩ => ⟨S4096x3x1024, .f32⟩
  | .hbm, ⟨8, _⟩ => ⟨S3x4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== AdamW1.lean ====
abbrev S2048x1024 : Shape := ⟨2, ![2048, 1024]⟩
abbrev S3x2048x1024 : Shape := ⟨3, ![3, 2048, 1024]⟩
abbrev S1x2048x1024 : Shape := ⟨3, ![1, 2048, 1024]⟩
abbrev S512x1024 : Shape := ⟨2, ![512, 1024]⟩
abbrev S3x512x1024 : Shape := ⟨3, ![3, 512, 1024]⟩
abbrev S1x512x1024 : Shape := ⟨3, ![1, 512, 1024]⟩

abbrev nBuf : Space → Nat
  | .hbm => 12
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S3x2048x1024, .bf16⟩
  | .hbm, ⟨2, _⟩ => ⟨S1x2048x1024, .f32⟩
  | .hbm, ⟨3, _⟩ => ⟨S1x2048x1024, .f32⟩
  | .hbm, ⟨4, _⟩ => ⟨S1x2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S3x512x1024, .bf16⟩
  | .local _ .vmem, ⟨3, _⟩ => ⟨S3x512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamW1ReferenceIdeal.lean ====
abbrev S2048x1024 : Shape := ⟨2, ![2048, 1024]⟩
abbrev S3x2048x1024 : Shape := ⟨3, ![3, 2048, 1024]⟩
abbrev S1x2048x1024 : Shape := ⟨3, ![1, 2048, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S3x2048x1024, .bf16⟩
  | .hbm, ⟨2, _⟩ => ⟨S1x2048x1024, .f32⟩
  | .hbm, ⟨3, _⟩ => ⟨S1x2048x1024, .f32⟩
  | .hbm, ⟨4, _⟩ => ⟨S1x2048x1024, .f32⟩
  | .hbm, ⟨5, _⟩ => ⟨S3x2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamWin.lean ====
abbrev S2048x384 : Shape := ⟨2, ![2048, 384]⟩
abbrev S3x2048x384 : Shape := ⟨3, ![3, 2048, 384]⟩
abbrev S1x2048x384 : Shape := ⟨3, ![1, 2048, 384]⟩
abbrev S1024x384 : Shape := ⟨2, ![1024, 384]⟩
abbrev S3x1024x384 : Shape := ⟨3, ![3, 1024, 384]⟩
abbrev S1x1024x384 : Shape := ⟨3, ![1, 1024, 384]⟩

abbrev nBuf : Space → Nat
  | .hbm => 12
  | .vmem => 18
  | .smem => 0
  | _ => 0

abbrev bufTy : (tb : Table) → Fin (tcTables nBuf tb) → BufTy
  | .hbm, ⟨0, _⟩ => ⟨S2048x384, .f32⟩
  | .hbm, ⟨1, _⟩ => ⟨S3x2048x384, .bf16⟩
  | .hbm, ⟨2, _⟩ => ⟨S1x2048x384, .f32⟩
  | .hbm, ⟨3, _⟩ => ⟨S1x2048x384, .f32⟩
  | .hbm, ⟨4, _⟩ => ⟨S1x2048x384, .f32⟩
  | .hbm, ⟨5, _⟩ => ⟨S2048x384, .f32⟩
  | .hbm, ⟨6, _⟩ => ⟨S2048x384, .f32⟩
  | .hbm, ⟨7, _⟩ => ⟨S2048x384, .f32⟩
  | .hbm, ⟨8, _⟩ => ⟨S2048x384, .f32⟩
  | .hbm, ⟨9, _⟩ => ⟨S2048x384, .f32⟩
  | .hbm, ⟨10, _⟩ => ⟨S2048x384, .f32⟩
  | .hbm, ⟨11, _⟩ => ⟨S2048x384, .f32⟩
  | .local _ .vmem, ⟨0, _⟩ => ⟨S1024x384, .f32⟩
  | .local _ .vmem, ⟨1, _⟩ => ⟨S1024x384, .f32⟩
  | .local _ .vmem, ⟨2, _⟩ => ⟨S3x1024x384, .bf16⟩
  | .local _ .vmem, ⟨3, _⟩ => ⟨S3x1024x384, .bf16⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | .local _ .vmem, ⟨7, _⟩ => ⟨S1024x384, .f32⟩
  | .local _ .vmem, ⟨8, _⟩ => ⟨S1024x384, .f32⟩
  | .local _ .vmem, ⟨9, _⟩ => ⟨S1024x384, .f32⟩
  | .local _ .vmem, ⟨10, _⟩ => ⟨S1024x384, .f32⟩
  | .local _ .vmem, ⟨11, _⟩ => ⟨S1024x384, .f32⟩
  | .local _ .vmem, ⟨12, _⟩ => ⟨S1024x384, .f32⟩
  | .local _ .vmem, ⟨13, _⟩ => ⟨S1024x384, .f32⟩
  | .local _ .vmem, ⟨14, _⟩ => ⟨S1024x384, .f32⟩
  | .local _ .vmem, ⟨15, _⟩ => ⟨S1024x384, .f32⟩
  | .local _ .vmem, ⟨16, _⟩ => ⟨S1024x384, .f32⟩
  | .local _ .vmem, ⟨17, _⟩ => ⟨S1024x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamWinReferenceIdeal.lean ====
abbrev S2048x384 : Shape := ⟨2, ![2048, 384]⟩
abbrev S3x2048x384 : Shape := ⟨3, ![3, 2048, 384]⟩
abbrev S1x2048x384 : Shape := ⟨3, ![1, 2048, 384]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S3x2048x384, .bf16⟩
  | .hbm, ⟨2, _⟩ => ⟨S1x2048x384, .f32⟩
  | .hbm, ⟨3, _⟩ => ⟨S1x2048x384, .f32⟩
  | .hbm, ⟨4, _⟩ => ⟨S1x2048x384, .f32⟩
  | .hbm, ⟨5, _⟩ => ⟨S3x2048x384, .f32⟩
  | .hbm, ⟨6, _⟩ => ⟨S_, .f32⟩
  | .hbm, ⟨7, _⟩ => ⟨S2048x384, .f32⟩
  | .hbm, ⟨8, _⟩ => ⟨S2048x384, .f32⟩
  | .hbm, ⟨9, _⟩ => ⟨S2048x384, .f32⟩
  | .hbm, ⟨10, _⟩ => ⟨S2048x384, .f32⟩
  | .hbm, ⟨11, _⟩ => ⟨S2048x384, .f32⟩
  | .hbm, ⟨12, _⟩ => ⟨S_, .f32⟩
  | .hbm, ⟨13, _⟩ => ⟨S2048x384, .f32⟩
  | .hbm, ⟨14, _⟩ => ⟨S2048x384, .f32⟩
  | .hbm, ⟨15, _⟩ => ⟨S_, .f32⟩
  | .hbm, ⟨16, _⟩ => ⟨S2048x384, .f32⟩
  | .hbm, ⟨17, _⟩ => ⟨S2048x384, .f32⟩
  | .hbm, ⟨18, _⟩ => ⟨S2048x384, .f32⟩
  | .hbm, ⟨19, _⟩ => ⟨S_, .f32⟩
  | .hbm, ⟨20, _⟩ => ⟨S2048x384, .f32⟩
  | .hbm, ⟨21, _⟩ => ⟨S2048x384, .f32⟩
  | .hbm, ⟨22, _⟩ => ⟨S2048x384, .f32⟩
  | .hbm, ⟨23, _⟩ => ⟨S_, .f32⟩
  | .hbm, ⟨24, _⟩ => ⟨S2048x384, .f32⟩
  | .hbm, ⟨25, _⟩ => ⟨S2048x384, .f32⟩
  | .hbm, ⟨26, _⟩ => ⟨S2048x384, .f32⟩
  | .hbm, ⟨27, _⟩ => ⟨S_, .f32⟩
  | .hbm, ⟨28, _⟩ => ⟨S2048x384, .f32⟩
  | .hbm, ⟨29, _⟩ => ⟨S2048x384, .f32⟩
  | .hbm, ⟨30, _⟩ => ⟨S_, .f32⟩
  | .hbm, ⟨31, _⟩ => ⟨S2048x384, .f32⟩
  | .hbm, ⟨32, _⟩ => ⟨S2048x384, .f32⟩
  | .hbm, ⟨33, _⟩ => ⟨S2048x384, .f32⟩
  | .hbm, ⟨34, _⟩ => ⟨S_, .f32⟩
  | .hbm, ⟨35, _⟩ => ⟨S2048x384, .f32⟩
  | .hbm, ⟨36, _⟩ => ⟨S2048x384, .f32⟩
  | .hbm, ⟨37, _⟩ => ⟨S2048x384, .f32⟩
  | .hbm, ⟨38, _⟩ => ⟨S_, .f32⟩
  | .hbm, ⟨39, _⟩ => ⟨S2048x384, .f32⟩
  | .hbm, ⟨40, _⟩ => ⟨S2048x384, .f32⟩
  | .hbm, ⟨41, _⟩ => ⟨S2048x384, .f32⟩
  | .hbm, ⟨42, _⟩ => ⟨S_, .f32⟩
  | .hbm, ⟨43, _⟩ => ⟨S2048x384, .f32⟩
  | .hbm, ⟨44, _⟩ => ⟨S2048x384, .f32⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamPool.lean ====
abbrev S128x256 : Shape := ⟨2, ![128, 256]⟩
abbrev S3x128x256 : Shape := ⟨3, ![3, 128, 256]⟩
abbrev S1x4x32x256 : Shape := ⟨4, ![1, 4, 32, 256]⟩
abbrev S1x128x256 : Shape := ⟨3, ![1, 128, 256]⟩

abbrev nBuf : Space → Nat
  | .hbm => 12
  | .vmem => 9
  | .smem => 0
  | _ => 0

abbrev bufTy : (tb : Table) → Fin (tcTables nBuf tb) → BufTy
  | .hbm, ⟨0, _⟩ => ⟨S128x256, .f32⟩
  | .hbm, ⟨1, _⟩ => ⟨S3x128x256, .bf16⟩
  | .hbm, ⟨2, _⟩ => ⟨S1x4x32x256, .f32⟩
  | .hbm, ⟨3, _⟩ => ⟨S1x4x32x256, .f32⟩
  | .hbm, ⟨4, _⟩ => ⟨S1x4x32x256, .f32⟩
  | .hbm, ⟨5, _⟩ => ⟨S128x256, .f32⟩
  | .hbm, ⟨6, _⟩ => ⟨S128x256, .f32⟩
  | .hbm, ⟨7, _⟩ => ⟨S128x256, .f32⟩
  | .hbm, ⟨8, _⟩ => ⟨S128x256, .f32⟩
  | .hbm, ⟨9, _⟩ => ⟨S128x256, .f32⟩
  | .hbm, ⟨10, _⟩ => ⟨S128x256, .f32⟩
  | .hbm, ⟨11, _⟩ => ⟨S128x256, .f32⟩
  | .local _ .vmem, ⟨0, _⟩ => ⟨S128x256, .f32⟩
  | .local _ .vmem, ⟨1, _⟩ => ⟨S3x128x256, .bf16⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamPoolReferenceIdeal.lean ====
abbrev S128x256 : Shape := ⟨2, ![128, 256]⟩
abbrev S3x128x256 : Shape := ⟨3, ![3, 128, 256]⟩
abbrev S1x4x32x256 : Shape := ⟨4, ![1, 4, 32, 256]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S128x256, .f32⟩
  | .hbm, ⟨1, _⟩ => ⟨S3x128x256, .bf16⟩
  | .hbm, ⟨2, _⟩ => ⟨S1x4x32x256, .f32⟩
  | .hbm, ⟨3, _⟩ => ⟨S1x4x32x256, .f32⟩
  | .hbm, ⟨4, _⟩ => ⟨S1x4x32x256, .f32⟩
  | .hbm, ⟨5, _⟩ => ⟨S3x128x256, .f32⟩
  | .hbm, ⟨6, _⟩ => ⟨S_, .f32⟩
  | .hbm, ⟨7, _⟩ => ⟨S128x256, .f32⟩
  | .hbm, ⟨8, _⟩ => ⟨S128x256, .f32⟩
  | .hbm, ⟨9, _⟩ => ⟨S128x256, .f32⟩
  | .hbm, ⟨10, _⟩ => ⟨S128x256, .f32⟩
  | .hbm, ⟨11, _⟩ => ⟨S128x256, .f32⟩
  | .hbm, ⟨12, _⟩ => ⟨S_, .f32⟩
  | .hbm, ⟨13, _⟩ => ⟨S128x256, .f32⟩
  | .hbm, ⟨14, _⟩ => ⟨S128x256, .f32⟩
  | .hbm, ⟨15, _⟩ => ⟨S_, .f32⟩
  | .hbm, ⟨16, _⟩ => ⟨S128x256, .f32⟩
  | .hbm, ⟨17, _⟩ => ⟨S128x256, .f32⟩
  | .hbm, ⟨18, _⟩ => ⟨S128x256, .f32⟩
  | .hbm, ⟨19, _⟩ => ⟨S_, .f32⟩
  | .hbm, ⟨20, _⟩ => ⟨S128x256, .f32⟩
  | .hbm, ⟨21, _⟩ => ⟨S128x256, .f32⟩
  | .hbm, ⟨22, _⟩ => ⟨S128x256, .f32⟩
  | .hbm, ⟨23, _⟩ => ⟨S_, .f32⟩
  | .hbm, ⟨24, _⟩ => ⟨S128x256, .f32⟩
  | .hbm, ⟨25, _⟩ => ⟨S128x256, .f32⟩
  | .hbm, ⟨26, _⟩ => ⟨S128x256, .f32⟩
  | .hbm, ⟨27, _⟩ => ⟨S_, .f32⟩
  | .hbm, ⟨28, _⟩ => ⟨S128x256, .f32⟩
  | .hbm, ⟨29, _⟩ => ⟨S128x256, .f32⟩
  | .hbm, ⟨30, _⟩ => ⟨S_, .f32⟩
  | .hbm, ⟨31, _⟩ => ⟨S128x256, .f32⟩
  | .hbm, ⟨32, _⟩ => ⟨S128x256, .f32⟩
  | .hbm, ⟨33, _⟩ => ⟨S128x256, .f32⟩
  | .hbm, ⟨34, _⟩ => ⟨S_, .f32⟩
  | .hbm, ⟨35, _⟩ => ⟨S128x256, .f32⟩
  | .hbm, ⟨36, _⟩ => ⟨S128x256, .f32⟩
  | .hbm, ⟨37, _⟩ => ⟨S128x256, .f32⟩
  | .hbm, ⟨38, _⟩ => ⟨S_, .f32⟩
  | .hbm, ⟨39, _⟩ => ⟨S128x256, .f32⟩
  | .hbm, ⟨40, _⟩ => ⟨S128x256, .f32⟩
  | .hbm, ⟨41, _⟩ => ⟨S128x256, .f32⟩
  | .hbm, ⟨42, _⟩ => ⟨S_, .f32⟩
  | .hbm, ⟨43, _⟩ => ⟨S128x256, .f32⟩
  | .hbm, ⟨44, _⟩ => ⟨S128x256, .f32⟩
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Proof.Scratch.lean ====
module
public import proofs.«01_k».proof.Proof.Gen.KernelIdeal.Loops
/-!
# What the scratch buffers hold does not depend on what they held

Both kernels fill their scratch buffers before they read them. So each buffer's contents after the
filling are its stores over arbitrary contents, and the loops' results do not depend on the contents
at the start.
-/
@[expose] public section
set_option maxRecDepth 16384
noncomputable section
namespace Cert.KernelIdeal.Val
open Idealize.ShloMosaic Idealize.ShloMosaic.Tactic Cert.KernelIdeal Cert.KernelIdeal.Gen
open Idealize.SL Idealize.SL.Sem
variable {F : FTy → Type} [FloatOps F]

/-- Eight chunks of 512 rows, the last one stored first in the list; `r` covers what comes after them. -/
def chunkCov (r : LoadRect.Cov) : LoadRect.Cov :=
  .split 0 512 (.leaf 7) (.split 0 512 (.leaf 6) (.split 0 512 (.leaf 5) (.split 0 512 (.leaf 4) (.split 0 512 (.leaf 3)
    (.split 0 512 (.leaf 2) (.split 0 512 (.leaf 1) r))))))

/-- Sixteen rows, eight chunks and sixteen rows. -/
def padCov : LoadRect.Cov := .split 0 16 (.leaf 9) (chunkCov (.split 0 512 (.leaf 0) (.leaf 8)))

/-- The forward kernel's scratch after its filling. -/
theorem fill_junk (𝒱 : Variants) (c : Dev nD) (bd : Option 𝒱.V) (i : grid0.Coords)
    (a1 : Memref sig .tc .vmem S1x4096x256 .f32) (h1 : a1.IsWhole) (a2 : Memref sig .tc .vmem S1x256x256 .bf16) (h2 : a2.IsWhole)
    (a3 : Memref sig .tc .vmem S1x256 .f32) (h3 : a3.IsWhole) (a4 : Memref sig .tc .vmem S4096x256 .bf16) (h4 : a4.IsWhole)
    (a5 : Memref sig .tc .vmem S4096x256 .bf16) (h5 : a5.IsWhole) (a6 : Memref sig .tc .vmem S4128x256 .f32) (h6 : a6.IsWhole)
    (X : BufTy.Contents (Elt F) a1.view.ty) (f : a6.view.ty.Contents (Elt F)) :
    a6.view.writes (Elt F) f (pb_k0_t1 (F := F) 𝒱 c bd i a1 h1 a2 h2 a3 h3 a4 h4 a5 h5 a6 h6 X (Scf.trips k0_t1_loop.lb k0_t1_loop.ub k0_t1_loop.st) ++
        [⟨Rect.unit ![4112, 0] S16x256.size inb_S4128x256_S16x256_4112_0, k0_pay3⟩,
          ⟨Rect.unit ![0, 0] S16x256.size inb_S4128x256_S16x256_0_0, k0_pay2⟩])
      = a6.view.writes (Elt F) a6.view.junk (pb_k0_t1 (F := F) 𝒱 c bd i a1 h1 a2 h2 a3 h3 a4 h4 a5 h5 a6 h6 X (Scf.trips k0_t1_loop.lb k0_t1_loop.ub k0_t1_loop.st) ++
        [⟨Rect.unit ![4112, 0] S16x256.size inb_S4128x256_S16x256_4112_0, k0_pay3⟩,
          ⟨Rect.unit ![0, 0] S16x256.size inb_S4128x256_S16x256_0_0, k0_pay2⟩]) :=
  Memref.writes_eq_junk_of_covChk h6 f _ padCov (by sl_kernel_rfl)

variable (𝒱 : Variants) (c : Dev nD) (bd : Option 𝒱.V) (i : grid1.Coords) (a1 : Memref sig .tc .vmem S4096x256 .bf16) (h1 : a1.IsWhole) (a2 : Memref sig .tc .vmem S4096x256 .f32)
    (h2 : a2.IsWhole) (a3 : Memref sig .tc .vmem S1x256x256 .bf16) (h3 : a3.IsWhole) (a4 : Memref sig .tc .vmem S1x256 .f32) (h4 : a4.IsWhole) (a5 : Memref sig .tc .vmem S8x128 .f32)
    (h5 : a5.IsWhole) (a6 : Memref sig .tc .vmem S4096x256 .bf16) (h6 : a6.IsWhole) (a7 : Memref sig .tc .vmem S8x1x32x256 .bf16) (h7 : a7.IsWhole) (a8 : Memref sig .tc .vmem S1x256 .f32)
    (h8 : a8.IsWhole) (a9 : Memref sig .tc .vmem S4128x256 .f32) (h9 : a9.IsWhole) (a10 : Memref sig .tc .vmem S4096x256 .f32) (h10 : a10.IsWhole) (a11 : Memref sig .tc .vmem S256x256 .f32)
    (h11 : a11.IsWhole) (v7 : Vec F S1x256x256 .bf16) (v9 : Vec F S1x256 .f32)

/-- A trip of that loop carries the same value over any contents of the buffers that it fills, -/
theorem trip_value_1 (hc : k1_cond1 i = 1#1)
    (X1 : BufTy.Contents (Elt F) a1.view.ty) (X2 : BufTy.Contents (Elt F) a2.view.ty) (k : Fin k1_t1_loop.trips) (acc : FVec F S1x256 .f32) (f9 g9 : BufTy.Contents (Elt F) a9.view.ty) (f10 g10 : BufTy.Contents (Elt F) a10.view.ty)
    (f11 : BufTy.Contents (Elt F) a11.view.ty) : tripR_k1_t1 (F := F) 𝒱 c bd i a1 h1 a2 h2 a3 h3 a4 h4 a5 h5 a6 h6 a7 h7 a8 h8 a9 h9 a10 h10 a11 h11 v7 v9 hc X1 X2 k acc f9 f10 f11 = tripR_k1_t1 (F := F) 𝒱 c bd i a1 h1 a2 h2 a3 h3 a4 h4 a5 h5 a6 h6 a7 h7 a8 h8 a9 h9 a10 h10 a11 h11 v7 v9 hc X1 X2 k acc g9 g10 f11 := by
  unfold tripR_k1_t1 trip_k1_t1
  rfl

/-- and stores the same. -/
theorem trip_stores_1 (hc : k1_cond1 i = 1#1)
    (X1 : BufTy.Contents (Elt F) a1.view.ty) (X2 : BufTy.Contents (Elt F) a2.view.ty) (k : Fin k1_t1_loop.trips) (acc : FVec F S1x256 .f32) (f9 g9 : BufTy.Contents (Elt F) a9.view.ty) (f10 g10 : BufTy.Contents (Elt F) a10.view.ty)
    (f11 : BufTy.Contents (Elt F) a11.view.ty) :
    tripL_k1_t1 (F := F) 𝒱 c bd i a1 h1 a2 h2 a3 h3 a4 h4 a5 h5 a6 h6 a7 h7 a8 h8 a9 h9 a10 h10 a11 h11 v7 v9 hc X1 X2 k acc f9 f10 f11 = tripL_k1_t1 (F := F) 𝒱 c bd i a1 h1 a2 h2 a3 h3 a4 h4 a5 h5 a6 h6 a7 h7 a8 h8 a9 h9 a10 h10 a11 h11 v7 v9 hc X1 X2 k acc g9 g10 f11 := by
  unfold tripL_k1_t1 trip_k1_t1
  rfl

/-- The first loop of case 1 writes the same over any contents of the buffers that it fills. -/
theorem state_base_1 (hc : k1_cond1 i = 1#1)
    (X1 : BufTy.Contents (Elt F) a1.view.ty) (X2 : BufTy.Contents (Elt F) a2.view.ty) (G9 : BufTy.Contents (Elt F) a9.view.ty) (G10 : BufTy.Contents (Elt F) a10.view.ty)
    (B9 : BufTy.Contents (Elt F) a9.view.ty) (B10 : BufTy.Contents (Elt F) a10.view.ty)
    (G11 : BufTy.Contents (Elt F) a11.view.ty) (init : FVec F S1x256 .f32) :
    ∀ n, n ≤ k1_t1_loop.trips → st_k1_t1 (F := F) 𝒱 c bd i a1 h1 a2 h2 a3 h3 a4 h4 a5 h5 a6 h6 a7 h7 a8 h8 a9 h9 a10 h10 a11 h11 v7 v9 hc X1 X2 G9 G10 G11 init n = st_k1_t1 (F := F) 𝒱 c bd i a1 h1 a2 h2 a3 h3 a4 h4 a5 h5 a6 h6 a7 h7 a8 h8 a9 h9 a10 h10 a11 h11 v7 v9 hc X1 X2 B9 B10 G11 init n
  | 0, _ => rfl
  | n + 1, hn => by
    have e1 := st_k1_t1_succ (F := F) 𝒱 c bd i a1 h1 a2 h2 a3 h3 a4 h4 a5 h5 a6 h6 a7 h7 a8 h8 a9 h9 a10 h10 a11 h11 v7 v9 hc X1 X2 G9 G10 G11 init ⟨n, hn⟩
    have e2 := st_k1_t1_succ (F := F) 𝒱 c bd i a1 h1 a2 h2 a3 h3 a4 h4 a5 h5 a6 h6 a7 h7 a8 h8 a9 h9 a10 h10 a11 h11 v7 v9 hc X1 X2 B9 B10 G11 init ⟨n, hn⟩
    have ih := state_base_1 hc X1 X2 G9 G10 B9 B10 G11 init n (by omega)
    refine e1.trans (Eq.trans ?_ e2.symm)
    rw [ih]
    rw [trip_value_1 𝒱 c bd i a1 h1 a2 h2 a3 h3 a4 h4 a5 h5 a6 h6 a7 h7 a8 h8 a9 h9 a10 h10 a11 h11 v7 v9 hc X1 X2 ⟨n, hn⟩ _ (a9.view.writes (Elt F) G9 _) (a9.view.writes (Elt F) B9 _) (a10.view.writes (Elt F) G10 _)
        (a10.view.writes (Elt F) B10 _) _,
      trip_stores_1 𝒱 c bd i a1 h1 a2 h2 a3 h3 a4 h4 a5 h5 a6 h6 a7 h7 a8 h8 a9 h9 a10 h10 a11 h11 v7 v9 hc X1 X2 ⟨n, hn⟩ _ (a9.view.writes (Elt F) G9 _) (a9.view.writes (Elt F) B9 _) (a10.view.writes (Elt F) G10 _)
        (a10.view.writes (Elt F) B10 _) _]

theorem share_junk_1 (hc : k1_cond1 i = 1#1)
    (X1 : BufTy.Contents (Elt F) a1.view.ty) (X2 : BufTy.Contents (Elt F) a2.view.ty) (G9 : BufTy.Contents (Elt F) a9.view.ty) (G10 : BufTy.Contents (Elt F) a10.view.ty)
    (G11 : BufTy.Contents (Elt F) a11.view.ty) (init : FVec F S1x256 .f32) (p q : Vec F S16x256 .f32) (f : a9.view.ty.Contents (Elt F)) :
    a9.view.writes (Elt F) f ((st_k1_t1 (F := F) 𝒱 c bd i a1 h1 a2 h2 a3 h3 a4 h4 a5 h5 a6 h6 a7 h7 a8 h8 a9 h9 a10 h10 a11 h11 v7 v9 hc X1 X2 G9 G10 G11 init (Scf.trips k1_t1_loop.lb k1_t1_loop.ub k1_t1_loop.st)).2.1 ++
        [⟨Rect.unit ![4112, 0] S16x256.size inb_S4128x256_S16x256_4112_0, p⟩,
          ⟨Rect.unit ![0, 0] S16x256.size inb_S4128x256_S16x256_0_0, q⟩])
      = a9.view.writes (Elt F) a9.view.junk ((st_k1_t1 (F := F) 𝒱 c bd i a1 h1 a2 h2 a3 h3 a4 h4 a5 h5 a6 h6 a7 h7 a8 h8 a9 h9 a10 h10 a11 h11 v7 v9 hc X1 X2 G9 G10 G11 init (Scf.trips k1_t1_loop.lb k1_t1_loop.ub k1_t1_loop.st)).2.1 ++
        [⟨Rect.unit ![4112, 0] S16x256.size inb_S4128x256_S16x256_4112_0, p⟩,
          ⟨Rect.unit ![0, 0] S16x256.size inb_S4128x256_S16x256_0_0, q⟩]) :=
  Memref.writes_eq_junk_of_covChk h9 f _ padCov (by sl_kernel_rfl)

theorem dev_junk_1 (hc : k1_cond1 i = 1#1)
    (X1 : BufTy.Contents (Elt F) a1.view.ty) (X2 : BufTy.Contents (Elt F) a2.view.ty) (G9 : BufTy.Contents (Elt F) a9.view.ty) (G10 : BufTy.Contents (Elt F) a10.view.ty)
    (G11 : BufTy.Contents (Elt F) a11.view.ty) (init : FVec F S1x256 .f32) (f : a10.view.ty.Contents (Elt F)) :
    a10.view.writes (Elt F) f (st_k1_t1 (F := F) 𝒱 c bd i a1 h1 a2 h2 a3 h3 a4 h4 a5 h5 a6 h6 a7 h7 a8 h8 a9 h9 a10 h10 a11 h11 v7 v9 hc X1 X2 G9 G10 G11 init (Scf.trips k1_t1_loop.lb k1_t1_loop.ub k1_t1_loop.st)).2.2.1
      = a10.view.writes (Elt F) a10.view.junk (st_k1_t1 (F := F) 𝒱 c bd i a1 h1 a2 h2 a3 h3 a4 h4 a5 h5 a6 h6 a7 h7 a8 h8 a9 h9 a10 h10 a11 h11 v7 v9 hc X1 X2 G9 G10 G11 init (Scf.trips k1_t1_loop.lb k1_t1_loop.ub k1_t1_loop.st)).2.2.1 :=
  Memref.writes_eq_junk_of_covChk h10 f _ (chunkCov (.leaf 0)) (by sl_kernel_rfl)

/-- A trip of that loop carries the same value over any contents of the buffers that it fills, -/
theorem trip_value_2 (hc : k1_cond2 i = 1#1)
    (X1 : BufTy.Contents (Elt F) a1.view.ty) (X2 : BufTy.Contents (Elt F) a2.view.ty) (k : Fin k1_t3_loop.trips) (acc : FVec F S1x256 .f32) (f9 g9 : BufTy.Contents (Elt F) a9.view.ty) (f10 g10 : BufTy.Contents (Elt F) a10.view.ty)
    (f11 : BufTy.Contents (Elt F) a11.view.ty) : tripR_k1_t3 (F := F) 𝒱 c bd i a1 h1 a2 h2 a3 h3 a4 h4 a5 h5 a6 h6 a7 h7 a8 h8 a9 h9 a10 h10 a11 h11 v7 v9 hc X1 X2 k acc f9 f10 f11 = tripR_k1_t3 (F := F) 𝒱 c bd i a1 h1 a2 h2 a3 h3 a4 h4 a5 h5 a6 h6 a7 h7 a8 h8 a9 h9 a10 h10 a11 h11 v7 v9 hc X1 X2 k acc g9 g10 f11 := by
  unfold tripR_k1_t3 trip_k1_t3
  rfl

/-- and stores the same. -/
theorem trip_stores_2 (hc : k1_cond2 i = 1#1)
    (X1 : BufTy.Contents (Elt F) a1.view.ty) (X2 : BufTy.Contents (Elt F) a2.view.ty) (k : Fin k1_t3_loop.trips) (acc : FVec F S1x256 .f32) (f9 g9 : BufTy.Contents (Elt F) a9.view.ty) (f10 g10 : BufTy.Contents (Elt F) a10.view.ty)
    (f11 : BufTy.Contents (Elt F) a11.view.ty) :
    tripL_k1_t3 (F := F) 𝒱 c bd i a1 h1 a2 h2 a3 h3 a4 h4 a5 h5 a6 h6 a7 h7 a8 h8 a9 h9 a10 h10 a11 h11 v7 v9 hc X1 X2 k acc f9 f10 f11 = tripL_k1_t3 (F := F) 𝒱 c bd i a1 h1 a2 h2 a3 h3 a4 h4 a5 h5 a6 h6 a7 h7 a8 h8 a9 h9 a10 h10 a11 h11 v7 v9 hc X1 X2 k acc g9 g10 f11 := by
  unfold tripL_k1_t3 trip_k1_t3
  rfl

/-- The first loop of case 2 writes the same over any contents of the buffers that it fills. -/
theorem state_base_2 (hc : k1_cond2 i = 1#1)
    (X1 : BufTy.Contents (Elt F) a1.view.ty) (X2 : BufTy.Contents (Elt F) a2.view.ty) (G9 : BufTy.Contents (Elt F) a9.view.ty) (G10 : BufTy.Contents (Elt F) a10.view.ty)
    (B9 : BufTy.Contents (Elt F) a9.view.ty) (B10 : BufTy.Contents (Elt F) a10.view.ty)
    (G11 : BufTy.Contents (Elt F) a11.view.ty) (init : FVec F S1x256 .f32) :
    ∀ n, n ≤ k1_t3_loop.trips → st_k1_t3 (F := F) 𝒱 c bd i a1 h1 a2 h2 a3 h3 a4 h4 a5 h5 a6 h6 a7 h7 a8 h8 a9 h9 a10 h10 a11 h11 v7 v9 hc X1 X2 G9 G10 G11 init n = st_k1_t3 (F := F) 𝒱 c bd i a1 h1 a2 h2 a3 h3 a4 h4 a5 h5 a6 h6 a7 h7 a8 h8 a9 h9 a10 h10 a11 h11 v7 v9 hc X1 X2 B9 B10 G11 init n
  | 0, _ => rfl
  | n + 1, hn => by
    have e1 := st_k1_t3_succ (F := F) 𝒱 c bd i a1 h1 a2 h2 a3 h3 a4 h4 a5 h5 a6 h6 a7 h7 a8 h8 a9 h9 a10 h10 a11 h11 v7 v9 hc X1 X2 G9 G10 G11 init ⟨n, hn⟩
    have e2 := st_k1_t3_succ (F := F) 𝒱 c bd i a1 h1 a2 h2 a3 h3 a4 h4 a5 h5 a6 h6 a7 h7 a8 h8 a9 h9 a10 h10 a11 h11 v7 v9 hc X1 X2 B9 B10 G11 init ⟨n, hn⟩
    have ih := state_base_2 hc X1 X2 G9 G10 B9 B10 G11 init n (by omega)
    refine e1.trans (Eq.trans ?_ e2.symm)
    rw [ih]
    rw [trip_value_2 𝒱 c bd i a1 h1 a2 h2 a3 h3 a4 h4 a5 h5 a6 h6 a7 h7 a8 h8 a9 h9 a10 h10 a11 h11 v7 v9 hc X1 X2 ⟨n, hn⟩ _ (a9.view.writes (Elt F) G9 _) (a9.view.writes (Elt F) B9 _) (a10.view.writes (Elt F) G10 _)
        (a10.view.writes (Elt F) B10 _) _,
      trip_stores_2 𝒱 c bd i a1 h1 a2 h2 a3 h3 a4 h4 a5 h5 a6 h6 a7 h7 a8 h8 a9 h9 a10 h10 a11 h11 v7 v9 hc X1 X2 ⟨n, hn⟩ _ (a9.view.writes (Elt F) G9 _) (a9.view.writes (Elt F) B9 _) (a10.view.writes (Elt F) G10 _)
        (a10.view.writes (Elt F) B10 _) _]

theorem share_junk_2 (hc : k1_cond2 i = 1#1)
    (X1 : BufTy.Contents (Elt F) a1.view.ty) (X2 : BufTy.Contents (Elt F) a2.view.ty) (G9 : BufTy.Contents (Elt F) a9.view.ty) (G10 : BufTy.Contents (Elt F) a10.view.ty)
    (G11 : BufTy.Contents (Elt F) a11.view.ty) (init : FVec F S1x256 .f32) (p q : Vec F S16x256 .f32) (f : a9.view.ty.Contents (Elt F)) :
    a9.view.writes (Elt F) f ((st_k1_t3 (F := F) 𝒱 c bd i a1 h1 a2 h2 a3 h3 a4 h4 a5 h5 a6 h6 a7 h7 a8 h8 a9 h9 a10 h10 a11 h11 v7 v9 hc X1 X2 G9 G10 G11 init (Scf.trips k1_t3_loop.lb k1_t3_loop.ub k1_t3_loop.st)).2.1 ++
        [⟨Rect.unit ![4112, 0] S16x256.size inb_S4128x256_S16x256_4112_0, p⟩,
          ⟨Rect.unit ![0, 0] S16x256.size inb_S4128x256_S16x256_0_0, q⟩])
      = a9.view.writes (Elt F) a9.view.junk ((st_k1_t3 (F := F) 𝒱 c bd i a1 h1 a2 h2 a3 h3 a4 h4 a5 h5 a6 h6 a7 h7 a8 h8 a9 h9 a10 h10 a11 h11 v7 v9 hc X1 X2 G9 G10 G11 init (Scf.trips k1_t3_loop.lb k1_t3_loop.ub k1_t3_loop.st)).2.1 ++
        [⟨Rect.unit ![4112, 0] S16x256.size inb_S4128x256_S16x256_4112_0, p⟩,
          ⟨Rect.unit ![0, 0] S16x256.size inb_S4128x256_S16x256_0_0, q⟩]) :=
  Memref.writes_eq_junk_of_covChk h9 f _ padCov (by sl_kernel_rfl)

theorem dev_junk_2 (hc : k1_cond2 i = 1#1)
    (X1 : BufTy.Contents (Elt F) a1.view.ty) (X2 : BufTy.Contents (Elt F) a2.view.ty) (G9 : BufTy.Contents (Elt F) a9.view.ty) (G10 : BufTy.Contents (Elt F) a10.view.ty)
    (G11 : BufTy.Contents (Elt F) a11.view.ty) (init : FVec F S1x256 .f32) (f : a10.view.ty.Contents (Elt F)) :
    a10.view.writes (Elt F) f (st_k1_t3 (F := F) 𝒱 c bd i a1 h1 a2 h2 a3 h3 a4 h4 a5 h5 a6 h6 a7 h7 a8 h8 a9 h9 a10 h10 a11 h11 v7 v9 hc X1 X2 G9 G10 G11 init (Scf.trips k1_t3_loop.lb k1_t3_loop.ub k1_t3_loop.st)).2.2.1
      = a10.view.writes (Elt F) a10.view.junk (st_k1_t3 (F := F) 𝒱 c bd i a1 h1 a2 h2 a3 h3 a4 h4 a5 h5 a6 h6 a7 h7 a8 h8 a9 h9 a10 h10 a11 h11 v7 v9 hc X1 X2 G9 G10 G11 init (Scf.trips k1_t3_loop.lb k1_t3_loop.ub k1_t3_loop.st)).2.2.1 :=
  Memref.writes_eq_junk_of_covChk h10 f _ (chunkCov (.leaf 0)) (by sl_kernel_rfl)

/-- A trip of that loop carries the same value over any contents of the buffers that it fills, -/
theorem trip_value_3 (hc : k1_cond3 i = 1#1)
    (X1 : BufTy.Contents (Elt F) a1.view.ty) (X2 : BufTy.Contents (Elt F) a2.view.ty) (k : Fin k1_t5_loop.trips) (acc : FVec F S1x256 .f32) (f9 g9 : BufTy.Contents (Elt F) a9.view.ty) (f10 g10 : BufTy.Contents (Elt F) a10.view.ty)
    (f11 : BufTy.Contents (Elt F) a11.view.ty) : tripR_k1_t5 (F := F) 𝒱 c bd i a1 h1 a2 h2 a3 h3 a4 h4 a5 h5 a6 h6 a7 h7 a8 h8 a9 h9 a10 h10 a11 h11 v7 v9 hc X1 X2 k acc f9 f10 f11 = tripR_k1_t5 (F := F) 𝒱 c bd i a1 h1 a2 h2 a3 h3 a4 h4 a5 h5 a6 h6 a7 h7 a8 h8 a9 h9 a10 h10 a11 h11 v7 v9 hc X1 X2 k acc g9 g10 f11 := by
  unfold tripR_k1_t5 trip_k1_t5
  rfl

/-- and stores the same. -/
theorem trip_stores_3 (hc : k1_cond3 i = 1#1)
    (X1 : BufTy.Contents (Elt F) a1.view.ty) (X2 : BufTy.Contents (Elt F) a2.view.ty) (k : Fin k1_t5_loop.trips) (acc : FVec F S1x256 .f32) (f9 g9 : BufTy.Contents (Elt F) a9.view.ty) (f10 g10 : BufTy.Contents (Elt F) a10.view.ty)
    (f11 : BufTy.Contents (Elt F) a11.view.ty) :
    tripL_k1_t5 (F := F) 𝒱 c bd i a1 h1 a2 h2 a3 h3 a4 h4 a5 h5 a6 h6 a7 h7 a8 h8 a9 h9 a10 h10 a11 h11 v7 v9 hc X1 X2 k acc f9 f10 f11 = tripL_k1_t5 (F := F) 𝒱 c bd i a1 h1 a2 h2 a3 h3 a4 h4 a5 h5 a6 h6 a7 h7 a8 h8 a9 h9 a10 h10 a11 h11 v7 v9 hc X1 X2 k acc g9 g10 f11 := by
  unfold tripL_k1_t5 trip_k1_t5
  rfl

/-- The first loop of case 3 writes the same over any contents of the buffers that it fills. -/
theorem state_base_3 (hc : k1_cond3 i = 1#1)
    (X1 : BufTy.Contents (Elt F) a1.view.ty) (X2 : BufTy.Contents (Elt F) a2.view.ty) (G9 : BufTy.Contents (Elt F) a9.view.ty) (G10 : BufTy.Contents (Elt F) a10.view.ty)
    (B9 : BufTy.Contents (Elt F) a9.view.ty) (B10 : BufTy.Contents (Elt F) a10.view.ty)
    (G11 : BufTy.Contents (Elt F) a11.view.ty) (init : FVec F S1x256 .f32) :
    ∀ n, n ≤ k1_t5_loop.trips → st_k1_t5 (F := F) 𝒱 c bd i a1 h1 a2 h2 a3 h3 a4 h4 a5 h5 a6 h6 a7 h7 a8 h8 a9 h9 a10 h10 a11 h11 v7 v9 hc X1 X2 G9 G10 G11 init n = st_k1_t5 (F := F) 𝒱 c bd i a1 h1 a2 h2 a3 h3 a4 h4 a5 h5 a6 h6 a7 h7 a8 h8 a9 h9 a10 h10 a11 h11 v7 v9 hc X1 X2 B9 B10 G11 init n
  | 0, _ => rfl
  | n + 1, hn => by
    have e1 := st_k1_t5_succ (F := F) 𝒱 c bd i a1 h1 a2 h2 a3 h3 a4 h4 a5 h5 a6 h6 a7 h7 a8 h8 a9 h9 a10 h10 a11 h11 v7 v9 hc X1 X2 G9 G10 G11 init ⟨n, hn⟩
    have e2 := st_k1_t5_succ (F := F) 𝒱 c bd i a1 h1 a2 h2 a3 h3 a4 h4 a5 h5 a6 h6 a7 h7 a8 h8 a9 h9 a10 h10 a11 h11 v7 v9 hc X1 X2 B9 B10 G11 init ⟨n, hn⟩
    have ih := state_base_3 hc X1 X2 G9 G10 B9 B10 G11 init n (by omega)
    refine e1.trans (Eq.trans ?_ e2.symm)
    rw [ih]
    rw [trip_value_3 𝒱 c bd i a1 h1 a2 h2 a3 h3 a4 h4 a5 h5 a6 h6 a7 h7 a8 h8 a9 h9 a10 h10 a11 h11 v7 v9 hc X1 X2 ⟨n, hn⟩ _ (a9.view.writes (Elt F) G9 _) (a9.view.writes (Elt F) B9 _) (a10.view.writes (Elt F) G10 _)
        (a10.view.writes (Elt F) B10 _) _,
      trip_stores_3 𝒱 c bd i a1 h1 a2 h2 a3 h3 a4 h4 a5 h5 a6 h6 a7 h7 a8 h8 a9 h9 a10 h10 a11 h11 v7 v9 hc X1 X2 ⟨n, hn⟩ _ (a9.view.writes (Elt F) G9 _) (a9.view.writes (Elt F) B9 _) (a10.view.writes (Elt F) G10 _)
        (a10.view.writes (Elt F) B10 _) _]

theorem share_junk_3 (hc : k1_cond3 i = 1#1)
    (X1 : BufTy.Contents (Elt F) a1.view.ty) (X2 : BufTy.Contents (Elt F) a2.view.ty) (G9 : BufTy.Contents (Elt F) a9.view.ty) (G10 : BufTy.Contents (Elt F) a10.view.ty)
    (G11 : BufTy.Contents (Elt F) a11.view.ty) (init : FVec F S1x256 .f32) (p q : Vec F S16x256 .f32) (f : a9.view.ty.Contents (Elt F)) :
    a9.view.writes (Elt F) f ((st_k1_t5 (F := F) 𝒱 c bd i a1 h1 a2 h2 a3 h3 a4 h4 a5 h5 a6 h6 a7 h7 a8 h8 a9 h9 a10 h10 a11 h11 v7 v9 hc X1 X2 G9 G10 G11 init (Scf.trips k1_t5_loop.lb k1_t5_loop.ub k1_t5_loop.st)).2.1 ++
        [⟨Rect.unit ![4112, 0] S16x256.size inb_S4128x256_S16x256_4112_0, p⟩,
          ⟨Rect.unit ![0, 0] S16x256.size inb_S4128x256_S16x256_0_0, q⟩])
      = a9.view.writes (Elt F) a9.view.junk ((st_k1_t5 (F := F) 𝒱 c bd i a1 h1 a2 h2 a3 h3 a4 h4 a5 h5 a6 h6 a7 h7 a8 h8 a9 h9 a10 h10 a11 h11 v7 v9 hc X1 X2 G9 G10 G11 init (Scf.trips k1_t5_loop.lb k1_t5_loop.ub k1_t5_loop.st)).2.1 ++
        [⟨Rect.unit ![4112, 0] S16x256.size inb_S4128x256_S16x256_4112_0, p⟩,
          ⟨Rect.unit ![0, 0] S16x256.size inb_S4128x256_S16x256_0_0, q⟩]) :=
  Memref.writes_eq_junk_of_covChk h9 f _ padCov (by sl_kernel_rfl)

theorem dev_junk_3 (hc : k1_cond3 i = 1#1)
    (X1 : BufTy.Contents (Elt F) a1.view.ty) (X2 : BufTy.Contents (Elt F) a2.view.ty) (G9 : BufTy.Contents (Elt F) a9.view.ty) (G10 : BufTy.Contents (Elt F) a10.view.ty)
    (G11 : BufTy.Contents (Elt F) a11.view.ty) (init : FVec F S1x256 .f32) (f : a10.view.ty.Contents (Elt F)) :
    a10.view.writes (Elt F) f (st_k1_t5 (F := F) 𝒱 c bd i a1 h1 a2 h2 a3 h3 a4 h4 a5 h5 a6 h6 a7 h7 a8 h8 a9 h9 a10 h10 a11 h11 v7 v9 hc X1 X2 G9 G10 G11 init (Scf.trips k1_t5_loop.lb k1_t5_loop.ub k1_t5_loop.st)).2.2.1
      = a10.view.writes (Elt F) a10.view.junk (st_k1_t5 (F := F) 𝒱 c bd i a1 h1 a2 h2 a3 h3 a4 h4 a5 h5 a6 h6 a7 h7 a8 h8 a9 h9 a10 h10 a11 h11 v7 v9 hc X1 X2 G9 G10 G11 init (Scf.trips k1_t5_loop.lb k1_t5_loop.ub k1_t5_loop.st)).2.2.1 :=
  Memref.writes_eq_junk_of_covChk h10 f _ (chunkCov (.leaf 0)) (by sl_kernel_rfl)

/-- A trip of that loop carries the same value over any contents of the buffers that it fills, -/
theorem trip_value_4 (hc : k1_cond4 i = 1#1)
    (X1 : BufTy.Contents (Elt F) a1.view.ty) (X2 : BufTy.Contents (Elt F) a2.view.ty) (k : Fin k1_t7_loop.trips) (acc : FVec F S1x256 .f32) (f9 g9 : BufTy.Contents (Elt F) a9.view.ty) (f10 g10 : BufTy.Contents (Elt F) a10.view.ty)
    (f11 : BufTy.Contents (Elt F) a11.view.ty) : tripR_k1_t7 (F := F) 𝒱 c bd i a1 h1 a2 h2 a3 h3 a4 h4 a5 h5 a6 h6 a7 h7 a8 h8 a9 h9 a10 h10 a11 h11 v7 v9 hc X1 X2 k acc f9 f10 f11 = tripR_k1_t7 (F := F) 𝒱 c bd i a1 h1 a2 h2 a3 h3 a4 h4 a5 h5 a6 h6 a7 h7 a8 h8 a9 h9 a10 h10 a11 h11 v7 v9 hc X1 X2 k acc g9 g10 f11 := by
  unfold tripR_k1_t7 trip_k1_t7
  rfl

/-- and stores the same. -/
theorem trip_stores_4 (hc : k1_cond4 i = 1#1)
    (X1 : BufTy.Contents (Elt F) a1.view.ty) (X2 : BufTy.Contents (Elt F) a2.view.ty) (k : Fin k1_t7_loop.trips) (acc : FVec F S1x256 .f32) (f9 g9 : BufTy.Contents (Elt F) a9.view.ty) (f10 g10 : BufTy.Contents (Elt F) a10.view.ty)
    (f11 : BufTy.Contents (Elt F) a11.view.ty) :
    tripL_k1_t7 (F := F) 𝒱 c bd i a1 h1 a2 h2 a3 h3 a4 h4 a5 h5 a6 h6 a7 h7 a8 h8 a9 h9 a10 h10 a11 h11 v7 v9 hc X1 X2 k acc f9 f10 f11 = tripL_k1_t7 (F := F) 𝒱 c bd i a1 h1 a2 h2 a3 h3 a4 h4 a5 h5 a6 h6 a7 h7 a8 h8 a9 h9 a10 h10 a11 h11 v7 v9 hc X1 X2 k acc g9 g10 f11 := by
  unfold tripL_k1_t7 trip_k1_t7
  rfl

/-- The first loop of case 4 writes the same over any contents of the buffers that it fills. -/
theorem state_base_4 (hc : k1_cond4 i = 1#1)
    (X1 : BufTy.Contents (Elt F) a1.view.ty) (X2 : BufTy.Contents (Elt F) a2.view.ty) (G9 : BufTy.Contents (Elt F) a9.view.ty) (G10 : BufTy.Contents (Elt F) a10.view.ty)
    (B9 : BufTy.Contents (Elt F) a9.view.ty) (B10 : BufTy.Contents (Elt F) a10.view.ty)
    (G11 : BufTy.Contents (Elt F) a11.view.ty) (init : FVec F S1x256 .f32) :
    ∀ n, n ≤ k1_t7_loop.trips → st_k1_t7 (F := F) 𝒱 c bd i a1 h1 a2 h2 a3 h3 a4 h4 a5 h5 a6 h6 a7 h7 a8 h8 a9 h9 a10 h10 a11 h11 v7 v9 hc X1 X2 G9 G10 G11 init n = st_k1_t7 (F := F) 𝒱 c bd i a1 h1 a2 h2 a3 h3 a4 h4 a5 h5 a6 h6 a7 h7 a8 h8 a9 h9 a10 h10 a11 h11 v7 v9 hc X1 X2 B9 B10 G11 init n
  | 0, _ => rfl
  | n + 1, hn => by
    have e1 := st_k1_t7_succ (F := F) 𝒱 c bd i a1 h1 a2 h2 a3 h3 a4 h4 a5 h5 a6 h6 a7 h7 a8 h8 a9 h9 a10 h10 a11 h11 v7 v9 hc X1 X2 G9 G10 G11 init ⟨n, hn⟩
    have e2 := st_k1_t7_succ (F := F) 𝒱 c bd i a1 h1 a2 h2 a3 h3 a4 h4 a5 h5 a6 h6 a7 h7 a8 h8 a9 h9 a10 h10 a11 h11 v7 v9 hc X1 X2 B9 B10 G11 init ⟨n, hn⟩
    have ih := state_base_4 hc X1 X2 G9 G10 B9 B10 G11 init n (by omega)
    refine e1.trans (Eq.trans ?_ e2.symm)
    rw [ih]
    rw [trip_value_4 𝒱 c bd i a1 h1 a2 h2 a3 h3 a4 h4 a5 h5 a6 h6 a7 h7 a8 h8 a9 h9 a10 h10 a11 h11 v7 v9 hc X1 X2 ⟨n, hn⟩ _ (a9.view.writes (Elt F) G9 _) (a9.view.writes (Elt F) B9 _) (a10.view.writes (Elt F) G10 _)
        (a10.view.writes (Elt F) B10 _) _,
      trip_stores_4 𝒱 c bd i a1 h1 a2 h2 a3 h3 a4 h4 a5 h5 a6 h6 a7 h7 a8 h8 a9 h9 a10 h10 a11 h11 v7 v9 hc X1 X2 ⟨n, hn⟩ _ (a9.view.writes (Elt F) G9 _) (a9.view.writes (Elt F) B9 _) (a10.view.writes (Elt F) G10 _)
        (a10.view.writes (Elt F) B10 _) _]

theorem share_junk_4 (hc : k1_cond4 i = 1#1)
    (X1 : BufTy.Contents (Elt F) a1.view.ty) (X2 : BufTy.Contents (Elt F) a2.view.ty) (G9 : BufTy.Contents (Elt F) a9.view.ty) (G10 : BufTy.Contents (Elt F) a10.view.ty)
    (G11 : BufTy.Contents (Elt F) a11.view.ty) (init : FVec F S1x256 .f32) (p q : Vec F S16x256 .f32) (f : a9.view.ty.Contents (Elt F)) :
    a9.view.writes (Elt F) f ((st_k1_t7 (F := F) 𝒱 c bd i a1 h1 a2 h2 a3 h3 a4 h4 a5 h5 a6 h6 a7 h7 a8 h8 a9 h9 a10 h10 a11 h11 v7 v9 hc X1 X2 G9 G10 G11 init (Scf.trips k1_t7_loop.lb k1_t7_loop.ub k1_t7_loop.st)).2.1 ++
        [⟨Rect.unit ![4112, 0] S16x256.size inb_S4128x256_S16x256_4112_0, p⟩,
          ⟨Rect.unit ![0, 0] S16x256.size inb_S4128x256_S16x256_0_0, q⟩])
      = a9.view.writes (Elt F) a9.view.junk ((st_k1_t7 (F := F) 𝒱 c bd i a1 h1 a2 h2 a3 h3 a4 h4 a5 h5 a6 h6 a7 h7 a8 h8 a9 h9 a10 h10 a11 h11 v7 v9 hc X1 X2 G9 G10 G11 init (Scf.trips k1_t7_loop.lb k1_t7_loop.ub k1_t7_loop.st)).2.1 ++
        [⟨Rect.unit ![4112, 0] S16x256.size inb_S4128x256_S16x256_4112_0, p⟩,
          ⟨Rect.unit ![0, 0] S16x256.size inb_S4128x256_S16x256_0_0, q⟩]) :=
  Memref.writes_eq_junk_of_covChk h9 f _ padCov (by sl_kernel_rfl)

theorem dev_junk_4 (hc : k1_cond4 i = 1#1)
    (X1 : BufTy.Contents (Elt F) a1.view.ty) (X2 : BufTy.Contents (Elt F) a2.view.ty) (G9 : BufTy.Contents (Elt F) a9.view.ty) (G10 : BufTy.Contents (Elt F) a10.view.ty)
    (G11 : BufTy.Contents (Elt F) a11.view.ty) (init : FVec F S1x256 .f32) (f : a10.view.ty.Contents (Elt F)) :
    a10.view.writes (Elt F) f (st_k1_t7 (F := F) 𝒱 c bd i a1 h1 a2 h2 a3 h3 a4 h4 a5 h5 a6 h6 a7 h7 a8 h8 a9 h9 a10 h10 a11 h11 v7 v9 hc X1 X2 G9 G10 G11 init (Scf.trips k1_t7_loop.lb k1_t7_loop.ub k1_t7_loop.st)).2.2.1
      = a10.view.writes (Elt F) a10.view.junk (st_k1_t7 (F := F) 𝒱 c bd i a1 h1 a2 h2 a3 h3 a4 h4 a5 h5 a6 h6 a7 h7 a8 h8 a9 h9 a10 h10 a11 h11 v7 v9 hc X1 X2 G9 G10 G11 init (Scf.trips k1_t7_loop.lb k1_t7_loop.ub k1_t7_loop.st)).2.2.1 :=
  Memref.writes_eq_junk_of_covChk h10 f _ (chunkCov (.leaf 0)) (by sl_kernel_rfl)

end Cert.KernelIdeal.Val
-- ==== Proof.Points1.lean ====
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Scratch
/-!
# The backward kernel's grid points

Which of the four cases a grid point takes, the blocks that it is given, and its buffers.
-/
@[expose] public section

set_option maxRecDepth 16384

noncomputable section

namespace Cert.KernelIdeal.Run

open Cert.KernelIdeal.Gen Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! # REGION 1 of @main: custom_call 1, `cc1_pool_bwd` (pipeline 1), at the entry contents `V` — class R -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The buffer of input 0 holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The buffer of input 1 holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The buffer of input 2 holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The buffer of input 3 holds its block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- The buffer of input 4 holds its block at every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The body's condition 0, from the grid coordinates. -/
abbrev cond1_0 (i : grid1.Coords) : Prop := k1_cond1 i = 1#1
/-- It holds at the first point only. -/
theorem hcond1_0 : ∀ t : Fin cfg1.N, cond1_0 (grid1.coords t) ↔ t.val % 4 = 0 :=
  (fun t => by
    have ht : t.val < 4 := Nat.lt_of_lt_of_eq t.isLt N_1
    have e0 : (grid1.coords t 0).val = t.val / 1 % 4 := Pipeline.Grid.coords_val t 0 (by decide) rfl
    simp only [cond1_0, k1_cond1, e0]
    word_cmp
   : ∀ t : Fin grid1.N, cond1_0 (grid1.coords t) ↔ t.val % 4 = 0)

/-- The body's condition 1, from the grid coordinates. -/
abbrev cond1_1 (i : grid1.Coords) : Prop := k1_cond2 i = 1#1
/-- It holds at point 1 only. -/
theorem hcond1_1 : ∀ t : Fin cfg1.N, cond1_1 (grid1.coords t) ↔ t.val % 4 = 1 :=
  (fun t => by
    have ht : t.val < 4 := Nat.lt_of_lt_of_eq t.isLt N_1
    have e0 : (grid1.coords t 0).val = t.val / 1 % 4 := Pipeline.Grid.coords_val t 0 (by decide) rfl
    simp only [cond1_1, k1_cond2, e0]
    word_cmp
   : ∀ t : Fin grid1.N, cond1_1 (grid1.coords t) ↔ t.val % 4 = 1)

/-- The body's condition 2, from the grid coordinates. -/
abbrev cond1_2 (i : grid1.Coords) : Prop := k1_cond3 i = 1#1
/-- It holds at point 2 only. -/
theorem hcond1_2 : ∀ t : Fin cfg1.N, cond1_2 (grid1.coords t) ↔ t.val % 4 = 2 :=
  (fun t => by
    have ht : t.val < 4 := Nat.lt_of_lt_of_eq t.isLt N_1
    have e0 : (grid1.coords t 0).val = t.val / 1 % 4 := Pipeline.Grid.coords_val t 0 (by decide) rfl
    simp only [cond1_2, k1_cond3, e0]
    word_cmp
   : ∀ t : Fin grid1.N, cond1_2 (grid1.coords t) ↔ t.val % 4 = 2)

/-- The body's condition 3, from the grid coordinates. -/
abbrev cond1_3 (i : grid1.Coords) : Prop := k1_cond4 i = 1#1
/-- It holds at the last point only. -/
theorem hcond1_3 : ∀ t : Fin cfg1.N, cond1_3 (grid1.coords t) ↔ t.val % 4 = 3 :=
  (fun t => by
    have ht : t.val < 4 := Nat.lt_of_lt_of_eq t.isLt N_1
    have e0 : (grid1.coords t 0).val = t.val / 1 % 4 := Pipeline.Grid.coords_val t 0 (by decide) rfl
    simp only [cond1_3, k1_cond4, e0]
    word_cmp
   : ∀ t : Fin grid1.N, cond1_3 (grid1.coords t) ↔ t.val % 4 = 3)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds1_A (i : grid1.Coords) : Prop := cond1_0 i ∧ ¬cond1_1 i ∧ ¬cond1_2 i ∧ ¬cond1_3 i
instance conds1_A.dec (i : grid1.Coords) : Decidable (conds1_A i) :=
  @instDecidableAnd _ _ inferInstance (@instDecidableAnd _ _ inferInstance (@instDecidableAnd _ _ inferInstance inferInstance))
/-- Case B's branch conditions on the grid, as one proposition. -/
abbrev conds1_B (i : grid1.Coords) : Prop := ¬cond1_0 i ∧ cond1_1 i ∧ ¬cond1_2 i ∧ ¬cond1_3 i
instance conds1_B.dec (i : grid1.Coords) : Decidable (conds1_B i) :=
  @instDecidableAnd _ _ inferInstance (@instDecidableAnd _ _ inferInstance (@instDecidableAnd _ _ inferInstance inferInstance))
/-- Case C's branch conditions on the grid, as one proposition. -/
abbrev conds1_C (i : grid1.Coords) : Prop := ¬cond1_0 i ∧ ¬cond1_1 i ∧ cond1_2 i ∧ ¬cond1_3 i
instance conds1_C.dec (i : grid1.Coords) : Decidable (conds1_C i) :=
  @instDecidableAnd _ _ inferInstance (@instDecidableAnd _ _ inferInstance (@instDecidableAnd _ _ inferInstance inferInstance))
/-- Case D's branch conditions on the grid, as one proposition. -/
abbrev conds1_D (i : grid1.Coords) : Prop := ¬cond1_0 i ∧ ¬cond1_1 i ∧ ¬cond1_2 i ∧ cond1_3 i
instance conds1_D.dec (i : grid1.Coords) : Decidable (conds1_D i) :=
  @instDecidableAnd _ _ inferInstance (@instDecidableAnd _ _ inferInstance (@instDecidableAnd _ _ inferInstance inferInstance))
/-- Case A stores into output 5. -/
theorem liveAt1_5_A : ∀ t : Fin cfg1.N, cond1_0 (grid1.coords t) → ¬cond1_1 (grid1.coords t) → ¬cond1_2 (grid1.coords t) → ¬cond1_3 (grid1.coords t) → cfg1.idle 5 (grid1.coords t) = false :=
  fun t h0 h1 h2 h3 => (by decide +kernel : ∀ t : Fin cfg1.N, conds1_A (grid1.coords t) → cfg1.idle 5 (grid1.coords t) = false) t ⟨h0, h1, h2, h3⟩
/-- Case B stores into output 5. -/
theorem liveAt1_5_B : ∀ t : Fin cfg1.N, ¬cond1_0 (grid1.coords t) → cond1_1 (grid1.coords t) → ¬cond1_2 (grid1.coords t) → ¬cond1_3 (grid1.coords t) → cfg1.idle 5 (grid1.coords t) = false :=
  fun t h0 h1 h2 h3 => (by decide +kernel : ∀ t : Fin cfg1.N, conds1_B (grid1.coords t) → cfg1.idle 5 (grid1.coords t) = false) t ⟨h0, h1, h2, h3⟩
/-- Case C stores into output 5. -/
theorem liveAt1_5_C : ∀ t : Fin cfg1.N, ¬cond1_0 (grid1.coords t) → ¬cond1_1 (grid1.coords t) → cond1_2 (grid1.coords t) → ¬cond1_3 (grid1.coords t) → cfg1.idle 5 (grid1.coords t) = false :=
  fun t h0 h1 h2 h3 => (by decide +kernel : ∀ t : Fin cfg1.N, conds1_C (grid1.coords t) → cfg1.idle 5 (grid1.coords t) = false) t ⟨h0, h1, h2, h3⟩
/-- Case D stores into output 5. -/
theorem liveAt1_5_D : ∀ t : Fin cfg1.N, ¬cond1_0 (grid1.coords t) → ¬cond1_1 (grid1.coords t) → ¬cond1_2 (grid1.coords t) → cond1_3 (grid1.coords t) → cfg1.idle 5 (grid1.coords t) = false :=
  fun t h0 h1 h2 h3 => (by decide +kernel : ∀ t : Fin cfg1.N, conds1_D (grid1.coords t) → cfg1.idle 5 (grid1.coords t) = false) t ⟨h0, h1, h2, h3⟩
/-- Case A stores into output 6. -/
theorem liveAt1_6_A : ∀ t : Fin cfg1.N, cond1_0 (grid1.coords t) → ¬cond1_1 (grid1.coords t) → ¬cond1_2 (grid1.coords t) → ¬cond1_3 (grid1.coords t) → cfg1.idle 6 (grid1.coords t) = false :=
  fun t h0 h1 h2 h3 => (by decide +kernel : ∀ t : Fin cfg1.N, conds1_A (grid1.coords t) → cfg1.idle 6 (grid1.coords t) = false) t ⟨h0, h1, h2, h3⟩
/-- Case B stores into output 6. -/
theorem liveAt1_6_B : ∀ t : Fin cfg1.N, ¬cond1_0 (grid1.coords t) → cond1_1 (grid1.coords t) → ¬cond1_2 (grid1.coords t) → ¬cond1_3 (grid1.coords t) → cfg1.idle 6 (grid1.coords t) = false :=
  fun t h0 h1 h2 h3 => (by decide +kernel : ∀ t : Fin cfg1.N, conds1_B (grid1.coords t) → cfg1.idle 6 (grid1.coords t) = false) t ⟨h0, h1, h2, h3⟩
/-- Case C stores into output 6. -/
theorem liveAt1_6_C : ∀ t : Fin cfg1.N, ¬cond1_0 (grid1.coords t) → ¬cond1_1 (grid1.coords t) → cond1_2 (grid1.coords t) → ¬cond1_3 (grid1.coords t) → cfg1.idle 6 (grid1.coords t) = false :=
  fun t h0 h1 h2 h3 => (by decide +kernel : ∀ t : Fin cfg1.N, conds1_C (grid1.coords t) → cfg1.idle 6 (grid1.coords t) = false) t ⟨h0, h1, h2, h3⟩
/-- Case D stores into output 6. -/
theorem liveAt1_6_D : ∀ t : Fin cfg1.N, ¬cond1_0 (grid1.coords t) → ¬cond1_1 (grid1.coords t) → ¬cond1_2 (grid1.coords t) → cond1_3 (grid1.coords t) → cfg1.idle 6 (grid1.coords t) = false :=
  fun t h0 h1 h2 h3 => (by decide +kernel : ∀ t : Fin cfg1.N, conds1_D (grid1.coords t) → cfg1.idle 6 (grid1.coords t) = false) t ⟨h0, h1, h2, h3⟩
/-- Case A stores into output 7. -/
theorem liveAt1_7_A : ∀ t : Fin cfg1.N, cond1_0 (grid1.coords t) → ¬cond1_1 (grid1.coords t) → ¬cond1_2 (grid1.coords t) → ¬cond1_3 (grid1.coords t) → cfg1.idle 7 (grid1.coords t) = false :=
  fun t h0 h1 h2 h3 => (by decide +kernel : ∀ t : Fin cfg1.N, conds1_A (grid1.coords t) → cfg1.idle 7 (grid1.coords t) = false) t ⟨h0, h1, h2, h3⟩
/-- Case B stores into output 7. -/
theorem liveAt1_7_B : ∀ t : Fin cfg1.N, ¬cond1_0 (grid1.coords t) → cond1_1 (grid1.coords t) → ¬cond1_2 (grid1.coords t) → ¬cond1_3 (grid1.coords t) → cfg1.idle 7 (grid1.coords t) = false :=
  fun t h0 h1 h2 h3 => (by decide +kernel : ∀ t : Fin cfg1.N, conds1_B (grid1.coords t) → cfg1.idle 7 (grid1.coords t) = false) t ⟨h0, h1, h2, h3⟩
/-- Case C stores into output 7. -/
theorem liveAt1_7_C : ∀ t : Fin cfg1.N, ¬cond1_0 (grid1.coords t) → ¬cond1_1 (grid1.coords t) → cond1_2 (grid1.coords t) → ¬cond1_3 (grid1.coords t) → cfg1.idle 7 (grid1.coords t) = false :=
  fun t h0 h1 h2 h3 => (by decide +kernel : ∀ t : Fin cfg1.N, conds1_C (grid1.coords t) → cfg1.idle 7 (grid1.coords t) = false) t ⟨h0, h1, h2, h3⟩
/-- Case D stores into output 7. -/
theorem liveAt1_7_D : ∀ t : Fin cfg1.N, ¬cond1_0 (grid1.coords t) → ¬cond1_1 (grid1.coords t) → ¬cond1_2 (grid1.coords t) → cond1_3 (grid1.coords t) → cfg1.idle 7 (grid1.coords t) = false :=
  fun t h0 h1 h2 h3 => (by decide +kernel : ∀ t : Fin cfg1.N, conds1_D (grid1.coords t) → cfg1.idle 7 (grid1.coords t) = false) t ⟨h0, h1, h2, h3⟩

/-! ## The kernel body on any staging memrefs: a subtype the run finds -/

/-- One buffer of output 5. -/
abbrev VO1_5 : View sig .tc .vmem S4096x256 .bf16 := (Memref.whole cc1_stg5_0 : Memref sig .tc .vmem S4096x256 .bf16).view
/-- One buffer of output 6. -/
abbrev VO1_6 : View sig .tc .vmem S8x1x32x256 .bf16 := (Memref.whole cc1_stg6_0 : Memref sig .tc .vmem S8x1x32x256 .bf16).view
/-- One buffer of output 7. -/
abbrev VO1_7 : View sig .tc .vmem S1x256 .f32 := (Memref.whole cc1_stg7_0 : Memref sig .tc .vmem S1x256 .f32).view
/-- Each window's buffer at point `t`. -/
abbrev ms1_0 (t : Fin cfg1.N) : Memref sig .tc .vmem S4096x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4096x256 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S8x1x32x256 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x256 .f32 := win1_7.stage (cfg1.slots t 7)
abbrev hs1_7 (t : Fin cfg1.N) : (ms1_7 t).IsWhole := hstage1_7 ((cfg1.slots t 7).cast nbuf1_7)
/-- The scratch buffers. -/
abbrev scM1_0 : Memref sig .tc .vmem S4128x256 .f32 := Memref.whole cc1_scratch0
abbrev scM1_1 : Memref sig .tc .vmem S4096x256 .f32 := Memref.whole cc1_scratch1
abbrev scM1_2 : Memref sig .tc .vmem S256x256 .f32 := Memref.whole cc1_scratch2

/-- The invariant, with the scratch buffers apart. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Regions

end Cert.KernelIdeal.Run

end
-- ==== Proof.Run1A.lean ====
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Scratch
public import proofs.«01_k».proof.Proof.Points1
/-!
# The backward kernel in case A

What the body stores in its three outputs, that the stores cover them, and that the body runs from its inputs to these
stores, whatever its scratch buffers held.
-/
@[expose] public section

set_option maxRecDepth 16384

noncomputable section

namespace Cert.KernelIdeal.Run

open Cert.KernelIdeal.Gen Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (i : grid1.Coords) (a1 : Memref sig .tc .vmem S4096x256 .bf16) (w1 : a1.IsWhole) (a2 : Memref sig .tc .vmem S4096x256 .f32) (w2 : a2.IsWhole)
    (a3 : Memref sig .tc .vmem S1x256x256 .bf16) (w3 : a3.IsWhole) (a4 : Memref sig .tc .vmem S1x256 .f32) (w4 : a4.IsWhole) (a5 : Memref sig .tc .vmem S8x128 .f32)
    (w5 : a5.IsWhole) (a6 : Memref sig .tc .vmem S4096x256 .bf16) (w6 : a6.IsWhole) (a7 : Memref sig .tc .vmem S8x1x32x256 .bf16) (w7 : a7.IsWhole)
    (a8 : Memref sig .tc .vmem S1x256 .f32) (w8 : a8.IsWhole) (a9 : Memref sig .tc .vmem S4128x256 .f32) (w9 : a9.IsWhole) (a10 : Memref sig .tc .vmem S4096x256 .f32)
    (w10 : a10.IsWhole) (a11 : Memref sig .tc .vmem S256x256 .f32) (w11 : a11.IsWhole) (hc0 : cond1_0 i) (hc1 : ¬cond1_1 i) (hc2 : ¬cond1_2 i) (hc3 : ¬cond1_3 i)
    (x0 : Vec F S4096x256 .bf16) (x1 : Vec F S4096x256 .f32) (x2 : Vec F S1x256x256 .bf16) (x3 : Vec F S1x256 .f32) (x4 : Vec F S8x128 .f32)

set_option maxHeartbeats 1000000 in
/-- Case A's stores in each output, and the body's run to them, whatever the outputs and the scratch held. -/
noncomputable def kernelRun1_A :
    Σ' (L5 : List (View.Piece (Elt F) S4096x256 .bf16)), Σ' (L6 : List (View.Piece (Elt F) S8x1x32x256 .bf16)), { L7 : List (View.Piece (Elt F) S1x256 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ f, a6.view.loc (c : Thread nD τ) ↦[a6.view.set]{fullShare} a6.view.writes (Elt F) f L5) ∗ (∃ f, a7.view.loc (c : Thread nD τ) ↦[a7.view.set]{fullShare} a7.view.writes (Elt F) f L6) ∗ (∃ f, a8.view.loc (c : Thread nD τ) ↦[a8.view.set]{fullShare} a8.view.writes (Elt F) f L7) ∗ (∃ d, owns (c : Thread nD τ) a9 fullShare d) ∗ (∃ d, owns (c : Thread nD τ) a10 fullShare d) ∗ (∃ d, owns (c : Thread nD τ) a11 fullShare d)) -∗ K ⟨⟩))
          ⊢ wp frame (wpE (defs₀ (F := F)) Variants.none c none) E (cc1_pool_bwd i a1 w1 a2 w2 a3 w3 a4 w4 a5 w5 a6 w6 a7 w7 a8 w8 a9 w9 a10 w10 a11 w11) K } := by
  refine ⟨?_, ?_, ?_, fun E K => ?run⟩
  case run =>
    simp only [cc1_pool_bwd_eq_skeleton]; unfold cc1_pool_bwd_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := w1.eq_unread hf0; obtain rfl := w2.eq_unread hf1; obtain rfl := w3.eq_unread hf2; obtain rfl := w4.eq_unread hf3; obtain rfl := w5.eq_unread hf4
    sl_exec (disch := first | sl_exact hc0 | sl_exact hc1 | sl_exact hc2 | sl_exact hc3)
    unfold kernelRun1_A.sl.H6_1 kernelRun1_A.sl.H7_1 kernelRun1_A.sl.v30
    rw [state_base_1 Variants.none c none i a1 w1 a2 w2 a3 w3 a4 w4 a5 w5 a6 w6 a7 w7 a8 w8 a9 w9 a10 w10 a11 w11 _ _ hc0 (w1.unread x0) (w2.unread x1) (a9.view.writes (Elt F) fs0 _) fs1 a9.view.junk a10.view.junk _ _ _ le_rfl,
      share_junk_1 Variants.none c none i a1 w1 a2 w2 a3 w3 a4 w4 a5 w5 a6 w6 a7 w7 a8 w8 a9 w9 a10 w10 a11 w11 _ _ hc0 (w1.unread x0) (w2.unread x1) _ _ _ _ _ _ fs0, dev_junk_1 Variants.none c none i a1 w1 a2 w2 a3 w3 a4 w4 a5 w5 a6 w6 a7 w7 a8 w8 a9 w9 a10 w10 a11 w11 _ _ hc0 (w1.unread x0) (w2.unread x1) _ _ _ _ fs1]
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]; · iexists _; iexact H5
    isplitl [H6]; · iexists _; iexact H6
    isplitl [H7]; · iexists _; iexact H7
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- Case A's stores cover output 5. -/
theorem cover1_A_5 (y : S4096x256.Idx) :
    ∃ pc ∈ (kernelRun1_A c i a1 w1 a2 w2 a3 w3 a4 w4 a5 w5 a6 w6 a7 w7 a8 w8 a9 w9 a10 w10 a11 w11 hc0 hc1 hc2 hc3 x0 x1 x2 x3 x4).1, y ∈ pc.1.set :=
  View.cover_of_tiledL (kernelRun1_A c i a1 w1 a2 w2 a3 w3 a4 w4 a5 w5 a6 w6 a7 w7 a8 w8 a9 w9 a10 w10 a11 w11 hc0 hc1 hc2 hc3 x0 x1 x2 x3 x4).1 S512x256.size (by sl_kernel_rfl) y

/-- What case A leaves in output 5. -/
def out1_A_5 : Vec F S4096x256 .bf16 :=
  VO1_5.read (Elt F) (VO1_5.writes (Elt F) VO1_5.junk (kernelRun1_A c i a1 w1 a2 w2 a3 w3 a4 w4 a5 w5 a6 w6 a7 w7 a8 w8 a9 w9 a10 w10 a11 w11 hc0 hc1 hc2 hc3 x0 x1 x2 x3 x4).1)

/-- Case A's stores cover output 6. -/
theorem cover1_A_6 (y : S8x1x32x256.Idx) :
    ∃ pc ∈ (kernelRun1_A c i a1 w1 a2 w2 a3 w3 a4 w4 a5 w5 a6 w6 a7 w7 a8 w8 a9 w9 a10 w10 a11 w11 hc0 hc1 hc2 hc3 x0 x1 x2 x3 x4).2.1, y ∈ pc.1.set :=
  View.cover_of_tiledL (kernelRun1_A c i a1 w1 a2 w2 a3 w3 a4 w4 a5 w5 a6 w6 a7 w7 a8 w8 a9 w9 a10 w10 a11 w11 hc0 hc1 hc2 hc3 x0 x1 x2 x3 x4).2.1 S8x1x32x256.size (by sl_kernel_rfl) y

/-- What case A leaves in output 6. -/
def out1_A_6 : Vec F S8x1x32x256 .bf16 :=
  VO1_6.read (Elt F) (VO1_6.writes (Elt F) VO1_6.junk (kernelRun1_A c i a1 w1 a2 w2 a3 w3 a4 w4 a5 w5 a6 w6 a7 w7 a8 w8 a9 w9 a10 w10 a11 w11 hc0 hc1 hc2 hc3 x0 x1 x2 x3 x4).2.1)

/-- Case A's stores cover output 7. -/
theorem cover1_A_7 (y : S1x256.Idx) :
    ∃ pc ∈ (kernelRun1_A c i a1 w1 a2 w2 a3 w3 a4 w4 a5 w5 a6 w6 a7 w7 a8 w8 a9 w9 a10 w10 a11 w11 hc0 hc1 hc2 hc3 x0 x1 x2 x3 x4).2.2.1, y ∈ pc.1.set :=
  View.cover_of_tiledL (kernelRun1_A c i a1 w1 a2 w2 a3 w3 a4 w4 a5 w5 a6 w6 a7 w7 a8 w8 a9 w9 a10 w10 a11 w11 hc0 hc1 hc2 hc3 x0 x1 x2 x3 x4).2.2.1 S1x256.size (by sl_kernel_rfl) y

/-- What case A leaves in output 7. -/
def out1_A_7 : Vec F S1x256 .f32 :=
  VO1_7.read (Elt F) (VO1_7.writes (Elt F) VO1_7.junk (kernelRun1_A c i a1 w1 a2 w2 a3 w3 a4 w4 a5 w5 a6 w6 a7 w7 a8 w8 a9 w9 a10 w10 a11 w11 hc0 hc1 hc2 hc3 x0 x1 x2 x3 x4).2.2.1)

end Cert.KernelIdeal.Run

end
-- ==== Proof.Run1B.lean ====
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Scratch
public import proofs.«01_k».proof.Proof.Points1
/-!
# The backward kernel in case B

What the body stores in its three outputs, that the stores cover them, and that the body runs from its inputs to these
stores, whatever its scratch buffers held.
-/
@[expose] public section

set_option maxRecDepth 16384

noncomputable section

namespace Cert.KernelIdeal.Run

open Cert.KernelIdeal.Gen Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (i : grid1.Coords) (a1 : Memref sig .tc .vmem S4096x256 .bf16) (w1 : a1.IsWhole) (a2 : Memref sig .tc .vmem S4096x256 .f32) (w2 : a2.IsWhole)
    (a3 : Memref sig .tc .vmem S1x256x256 .bf16) (w3 : a3.IsWhole) (a4 : Memref sig .tc .vmem S1x256 .f32) (w4 : a4.IsWhole) (a5 : Memref sig .tc .vmem S8x128 .f32)
    (w5 : a5.IsWhole) (a6 : Memref sig .tc .vmem S4096x256 .bf16) (w6 : a6.IsWhole) (a7 : Memref sig .tc .vmem S8x1x32x256 .bf16) (w7 : a7.IsWhole)
    (a8 : Memref sig .tc .vmem S1x256 .f32) (w8 : a8.IsWhole) (a9 : Memref sig .tc .vmem S4128x256 .f32) (w9 : a9.IsWhole) (a10 : Memref sig .tc .vmem S4096x256 .f32)
    (w10 : a10.IsWhole) (a11 : Memref sig .tc .vmem S256x256 .f32) (w11 : a11.IsWhole) (hc0 : ¬cond1_0 i) (hc1 : cond1_1 i) (hc2 : ¬cond1_2 i) (hc3 : ¬cond1_3 i)
    (x0 : Vec F S4096x256 .bf16) (x1 : Vec F S4096x256 .f32) (x2 : Vec F S1x256x256 .bf16) (x3 : Vec F S1x256 .f32) (x4 : Vec F S8x128 .f32)

set_option maxHeartbeats 1000000 in
/-- Case B's stores in each output, and the body's run to them, whatever the outputs and the scratch held. -/
noncomputable def kernelRun1_B :
    Σ' (L5 : List (View.Piece (Elt F) S4096x256 .bf16)), Σ' (L6 : List (View.Piece (Elt F) S8x1x32x256 .bf16)), { L7 : List (View.Piece (Elt F) S1x256 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ f, a6.view.loc (c : Thread nD τ) ↦[a6.view.set]{fullShare} a6.view.writes (Elt F) f L5) ∗ (∃ f, a7.view.loc (c : Thread nD τ) ↦[a7.view.set]{fullShare} a7.view.writes (Elt F) f L6) ∗ (∃ f, a8.view.loc (c : Thread nD τ) ↦[a8.view.set]{fullShare} a8.view.writes (Elt F) f L7) ∗ (∃ d, owns (c : Thread nD τ) a9 fullShare d) ∗ (∃ d, owns (c : Thread nD τ) a10 fullShare d) ∗ (∃ d, owns (c : Thread nD τ) a11 fullShare d)) -∗ K ⟨⟩))
          ⊢ wp frame (wpE (defs₀ (F := F)) Variants.none c none) E (cc1_pool_bwd i a1 w1 a2 w2 a3 w3 a4 w4 a5 w5 a6 w6 a7 w7 a8 w8 a9 w9 a10 w10 a11 w11) K } := by
  refine ⟨?_, ?_, ?_, fun E K => ?run⟩
  case run =>
    simp only [cc1_pool_bwd_eq_skeleton]; unfold cc1_pool_bwd_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := w1.eq_unread hf0; obtain rfl := w2.eq_unread hf1; obtain rfl := w3.eq_unread hf2; obtain rfl := w4.eq_unread hf3; obtain rfl := w5.eq_unread hf4
    sl_exec (disch := first | sl_exact hc0 | sl_exact hc1 | sl_exact hc2 | sl_exact hc3)
    unfold kernelRun1_B.sl.H6_1 kernelRun1_B.sl.H7_1 kernelRun1_B.sl.v30
    rw [state_base_2 Variants.none c none i a1 w1 a2 w2 a3 w3 a4 w4 a5 w5 a6 w6 a7 w7 a8 w8 a9 w9 a10 w10 a11 w11 _ _ hc1 (w1.unread x0) (w2.unread x1) (a9.view.writes (Elt F) fs0 _) fs1 a9.view.junk a10.view.junk _ _ _ le_rfl,
      share_junk_2 Variants.none c none i a1 w1 a2 w2 a3 w3 a4 w4 a5 w5 a6 w6 a7 w7 a8 w8 a9 w9 a10 w10 a11 w11 _ _ hc1 (w1.unread x0) (w2.unread x1) _ _ _ _ _ _ fs0, dev_junk_2 Variants.none c none i a1 w1 a2 w2 a3 w3 a4 w4 a5 w5 a6 w6 a7 w7 a8 w8 a9 w9 a10 w10 a11 w11 _ _ hc1 (w1.unread x0) (w2.unread x1) _ _ _ _ fs1]
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]; · iexists _; iexact H5
    isplitl [H6]; · iexists _; iexact H6
    isplitl [H7]; · iexists _; iexact H7
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- Case B's stores cover output 5. -/
theorem cover1_B_5 (y : S4096x256.Idx) :
    ∃ pc ∈ (kernelRun1_B c i a1 w1 a2 w2 a3 w3 a4 w4 a5 w5 a6 w6 a7 w7 a8 w8 a9 w9 a10 w10 a11 w11 hc0 hc1 hc2 hc3 x0 x1 x2 x3 x4).1, y ∈ pc.1.set :=
  View.cover_of_tiledL (kernelRun1_B c i a1 w1 a2 w2 a3 w3 a4 w4 a5 w5 a6 w6 a7 w7 a8 w8 a9 w9 a10 w10 a11 w11 hc0 hc1 hc2 hc3 x0 x1 x2 x3 x4).1 S512x256.size (by sl_kernel_rfl) y

/-- What case B leaves in output 5. -/
def out1_B_5 : Vec F S4096x256 .bf16 :=
  VO1_5.read (Elt F) (VO1_5.writes (Elt F) VO1_5.junk (kernelRun1_B c i a1 w1 a2 w2 a3 w3 a4 w4 a5 w5 a6 w6 a7 w7 a8 w8 a9 w9 a10 w10 a11 w11 hc0 hc1 hc2 hc3 x0 x1 x2 x3 x4).1)

/-- Case B's stores cover output 6. -/
theorem cover1_B_6 (y : S8x1x32x256.Idx) :
    ∃ pc ∈ (kernelRun1_B c i a1 w1 a2 w2 a3 w3 a4 w4 a5 w5 a6 w6 a7 w7 a8 w8 a9 w9 a10 w10 a11 w11 hc0 hc1 hc2 hc3 x0 x1 x2 x3 x4).2.1, y ∈ pc.1.set :=
  View.cover_of_tiledL (kernelRun1_B c i a1 w1 a2 w2 a3 w3 a4 w4 a5 w5 a6 w6 a7 w7 a8 w8 a9 w9 a10 w10 a11 w11 hc0 hc1 hc2 hc3 x0 x1 x2 x3 x4).2.1 S8x1x32x256.size (by sl_kernel_rfl) y

/-- What case B leaves in output 6. -/
def out1_B_6 : Vec F S8x1x32x256 .bf16 :=
  VO1_6.read (Elt F) (VO1_6.writes (Elt F) VO1_6.junk (kernelRun1_B c i a1 w1 a2 w2 a3 w3 a4 w4 a5 w5 a6 w6 a7 w7 a8 w8 a9 w9 a10 w10 a11 w11 hc0 hc1 hc2 hc3 x0 x1 x2 x3 x4).2.1)

/-- Case B's stores cover output 7. -/
theorem cover1_B_7 (y : S1x256.Idx) :
    ∃ pc ∈ (kernelRun1_B c i a1 w1 a2 w2 a3 w3 a4 w4 a5 w5 a6 w6 a7 w7 a8 w8 a9 w9 a10 w10 a11 w11 hc0 hc1 hc2 hc3 x0 x1 x2 x3 x4).2.2.1, y ∈ pc.1.set :=
  View.cover_of_tiledL (kernelRun1_B c i a1 w1 a2 w2 a3 w3 a4 w4 a5 w5 a6 w6 a7 w7 a8 w8 a9 w9 a10 w10 a11 w11 hc0 hc1 hc2 hc3 x0 x1 x2 x3 x4).2.2.1 S1x256.size (by sl_kernel_rfl) y

/-- What case B leaves in output 7. -/
def out1_B_7 : Vec F S1x256 .f32 :=
  VO1_7.read (Elt F) (VO1_7.writes (Elt F) VO1_7.junk (kernelRun1_B c i a1 w1 a2 w2 a3 w3 a4 w4 a5 w5 a6 w6 a7 w7 a8 w8 a9 w9 a10 w10 a11 w11 hc0 hc1 hc2 hc3 x0 x1 x2 x3 x4).2.2.1)

end Cert.KernelIdeal.Run

end
-- ==== Proof.Run1C.lean ====
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Scratch
public import proofs.«01_k».proof.Proof.Points1
/-!
# The backward kernel in case C

What the body stores in its three outputs, that the stores cover them, and that the body runs from its inputs to these
stores, whatever its scratch buffers held.
-/
@[expose] public section

set_option maxRecDepth 16384

noncomputable section

namespace Cert.KernelIdeal.Run

open Cert.KernelIdeal.Gen Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (i : grid1.Coords) (a1 : Memref sig .tc .vmem S4096x256 .bf16) (w1 : a1.IsWhole) (a2 : Memref sig .tc .vmem S4096x256 .f32) (w2 : a2.IsWhole)
    (a3 : Memref sig .tc .vmem S1x256x256 .bf16) (w3 : a3.IsWhole) (a4 : Memref sig .tc .vmem S1x256 .f32) (w4 : a4.IsWhole) (a5 : Memref sig .tc .vmem S8x128 .f32)
    (w5 : a5.IsWhole) (a6 : Memref sig .tc .vmem S4096x256 .bf16) (w6 : a6.IsWhole) (a7 : Memref sig .tc .vmem S8x1x32x256 .bf16) (w7 : a7.IsWhole)
    (a8 : Memref sig .tc .vmem S1x256 .f32) (w8 : a8.IsWhole) (a9 : Memref sig .tc .vmem S4128x256 .f32) (w9 : a9.IsWhole) (a10 : Memref sig .tc .vmem S4096x256 .f32)
    (w10 : a10.IsWhole) (a11 : Memref sig .tc .vmem S256x256 .f32) (w11 : a11.IsWhole) (hc0 : ¬cond1_0 i) (hc1 : ¬cond1_1 i) (hc2 : cond1_2 i) (hc3 : ¬cond1_3 i)
    (x0 : Vec F S4096x256 .bf16) (x1 : Vec F S4096x256 .f32) (x2 : Vec F S1x256x256 .bf16) (x3 : Vec F S1x256 .f32) (x4 : Vec F S8x128 .f32)

set_option maxHeartbeats 1000000 in
/-- Case C's stores in each output, and the body's run to them, whatever the outputs and the scratch held. -/
noncomputable def kernelRun1_C :
    Σ' (L5 : List (View.Piece (Elt F) S4096x256 .bf16)), Σ' (L6 : List (View.Piece (Elt F) S8x1x32x256 .bf16)), { L7 : List (View.Piece (Elt F) S1x256 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ f, a6.view.loc (c : Thread nD τ) ↦[a6.view.set]{fullShare} a6.view.writes (Elt F) f L5) ∗ (∃ f, a7.view.loc (c : Thread nD τ) ↦[a7.view.set]{fullShare} a7.view.writes (Elt F) f L6) ∗ (∃ f, a8.view.loc (c : Thread nD τ) ↦[a8.view.set]{fullShare} a8.view.writes (Elt F) f L7) ∗ (∃ d, owns (c : Thread nD τ) a9 fullShare d) ∗ (∃ d, owns (c : Thread nD τ) a10 fullShare d) ∗ (∃ d, owns (c : Thread nD τ) a11 fullShare d)) -∗ K ⟨⟩))
          ⊢ wp frame (wpE (defs₀ (F := F)) Variants.none c none) E (cc1_pool_bwd i a1 w1 a2 w2 a3 w3 a4 w4 a5 w5 a6 w6 a7 w7 a8 w8 a9 w9 a10 w10 a11 w11) K } := by
  refine ⟨?_, ?_, ?_, fun E K => ?run⟩
  case run =>
    simp only [cc1_pool_bwd_eq_skeleton]; unfold cc1_pool_bwd_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := w1.eq_unread hf0; obtain rfl := w2.eq_unread hf1; obtain rfl := w3.eq_unread hf2; obtain rfl := w4.eq_unread hf3; obtain rfl := w5.eq_unread hf4
    sl_exec (disch := first | sl_exact hc0 | sl_exact hc1 | sl_exact hc2 | sl_exact hc3)
    unfold kernelRun1_C.sl.H6_1 kernelRun1_C.sl.H7_1 kernelRun1_C.sl.v30
    rw [state_base_3 Variants.none c none i a1 w1 a2 w2 a3 w3 a4 w4 a5 w5 a6 w6 a7 w7 a8 w8 a9 w9 a10 w10 a11 w11 _ _ hc2 (w1.unread x0) (w2.unread x1) (a9.view.writes (Elt F) fs0 _) fs1 a9.view.junk a10.view.junk _ _ _ le_rfl,
      share_junk_3 Variants.none c none i a1 w1 a2 w2 a3 w3 a4 w4 a5 w5 a6 w6 a7 w7 a8 w8 a9 w9 a10 w10 a11 w11 _ _ hc2 (w1.unread x0) (w2.unread x1) _ _ _ _ _ _ fs0, dev_junk_3 Variants.none c none i a1 w1 a2 w2 a3 w3 a4 w4 a5 w5 a6 w6 a7 w7 a8 w8 a9 w9 a10 w10 a11 w11 _ _ hc2 (w1.unread x0) (w2.unread x1) _ _ _ _ fs1]
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]; · iexists _; iexact H5
    isplitl [H6]; · iexists _; iexact H6
    isplitl [H7]; · iexists _; iexact H7
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- Case C's stores cover output 5. -/
theorem cover1_C_5 (y : S4096x256.Idx) :
    ∃ pc ∈ (kernelRun1_C c i a1 w1 a2 w2 a3 w3 a4 w4 a5 w5 a6 w6 a7 w7 a8 w8 a9 w9 a10 w10 a11 w11 hc0 hc1 hc2 hc3 x0 x1 x2 x3 x4).1, y ∈ pc.1.set :=
  View.cover_of_tiledL (kernelRun1_C c i a1 w1 a2 w2 a3 w3 a4 w4 a5 w5 a6 w6 a7 w7 a8 w8 a9 w9 a10 w10 a11 w11 hc0 hc1 hc2 hc3 x0 x1 x2 x3 x4).1 S512x256.size (by sl_kernel_rfl) y

/-- What case C leaves in output 5. -/
def out1_C_5 : Vec F S4096x256 .bf16 :=
  VO1_5.read (Elt F) (VO1_5.writes (Elt F) VO1_5.junk (kernelRun1_C c i a1 w1 a2 w2 a3 w3 a4 w4 a5 w5 a6 w6 a7 w7 a8 w8 a9 w9 a10 w10 a11 w11 hc0 hc1 hc2 hc3 x0 x1 x2 x3 x4).1)

/-- Case C's stores cover output 6. -/
theorem cover1_C_6 (y : S8x1x32x256.Idx) :
    ∃ pc ∈ (kernelRun1_C c i a1 w1 a2 w2 a3 w3 a4 w4 a5 w5 a6 w6 a7 w7 a8 w8 a9 w9 a10 w10 a11 w11 hc0 hc1 hc2 hc3 x0 x1 x2 x3 x4).2.1, y ∈ pc.1.set :=
  View.cover_of_tiledL (kernelRun1_C c i a1 w1 a2 w2 a3 w3 a4 w4 a5 w5 a6 w6 a7 w7 a8 w8 a9 w9 a10 w10 a11 w11 hc0 hc1 hc2 hc3 x0 x1 x2 x3 x4).2.1 S8x1x32x256.size (by sl_kernel_rfl) y

/-- What case C leaves in output 6. -/
def out1_C_6 : Vec F S8x1x32x256 .bf16 :=
  VO1_6.read (Elt F) (VO1_6.writes (Elt F) VO1_6.junk (kernelRun1_C c i a1 w1 a2 w2 a3 w3 a4 w4 a5 w5 a6 w6 a7 w7 a8 w8 a9 w9 a10 w10 a11 w11 hc0 hc1 hc2 hc3 x0 x1 x2 x3 x4).2.1)

/-- Case C's stores cover output 7. -/
theorem cover1_C_7 (y : S1x256.Idx) :
    ∃ pc ∈ (kernelRun1_C c i a1 w1 a2 w2 a3 w3 a4 w4 a5 w5 a6 w6 a7 w7 a8 w8 a9 w9 a10 w10 a11 w11 hc0 hc1 hc2 hc3 x0 x1 x2 x3 x4).2.2.1, y ∈ pc.1.set :=
  View.cover_of_tiledL (kernelRun1_C c i a1 w1 a2 w2 a3 w3 a4 w4 a5 w5 a6 w6 a7 w7 a8 w8 a9 w9 a10 w10 a11 w11 hc0 hc1 hc2 hc3 x0 x1 x2 x3 x4).2.2.1 S1x256.size (by sl_kernel_rfl) y

/-- What case C leaves in output 7. -/
def out1_C_7 : Vec F S1x256 .f32 :=
  VO1_7.read (Elt F) (VO1_7.writes (Elt F) VO1_7.junk (kernelRun1_C c i a1 w1 a2 w2 a3 w3 a4 w4 a5 w5 a6 w6 a7 w7 a8 w8 a9 w9 a10 w10 a11 w11 hc0 hc1 hc2 hc3 x0 x1 x2 x3 x4).2.2.1)

end Cert.KernelIdeal.Run

end
-- ==== Proof.Run1D.lean ====
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Scratch
public import proofs.«01_k».proof.Proof.Points1
/-!
# The backward kernel in case D

What the body stores in its three outputs, that the stores cover them, and that the body runs from its inputs to these
stores, whatever its scratch buffers held.
-/
@[expose] public section

set_option maxRecDepth 16384

noncomputable section

namespace Cert.KernelIdeal.Run

open Cert.KernelIdeal.Gen Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (i : grid1.Coords) (a1 : Memref sig .tc .vmem S4096x256 .bf16) (w1 : a1.IsWhole) (a2 : Memref sig .tc .vmem S4096x256 .f32) (w2 : a2.IsWhole)
    (a3 : Memref sig .tc .vmem S1x256x256 .bf16) (w3 : a3.IsWhole) (a4 : Memref sig .tc .vmem S1x256 .f32) (w4 : a4.IsWhole) (a5 : Memref sig .tc .vmem S8x128 .f32)
    (w5 : a5.IsWhole) (a6 : Memref sig .tc .vmem S4096x256 .bf16) (w6 : a6.IsWhole) (a7 : Memref sig .tc .vmem S8x1x32x256 .bf16) (w7 : a7.IsWhole)
    (a8 : Memref sig .tc .vmem S1x256 .f32) (w8 : a8.IsWhole) (a9 : Memref sig .tc .vmem S4128x256 .f32) (w9 : a9.IsWhole) (a10 : Memref sig .tc .vmem S4096x256 .f32)
    (w10 : a10.IsWhole) (a11 : Memref sig .tc .vmem S256x256 .f32) (w11 : a11.IsWhole) (hc0 : ¬cond1_0 i) (hc1 : ¬cond1_1 i) (hc2 : ¬cond1_2 i) (hc3 : cond1_3 i)
    (x0 : Vec F S4096x256 .bf16) (x1 : Vec F S4096x256 .f32) (x2 : Vec F S1x256x256 .bf16) (x3 : Vec F S1x256 .f32) (x4 : Vec F S8x128 .f32)

set_option maxHeartbeats 1000000 in
/-- Case D's stores in each output, and the body's run to them, whatever the outputs and the scratch held. -/
noncomputable def kernelRun1_D :
    Σ' (L5 : List (View.Piece (Elt F) S4096x256 .bf16)), Σ' (L6 : List (View.Piece (Elt F) S8x1x32x256 .bf16)), { L7 : List (View.Piece (Elt F) S1x256 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ f, a6.view.loc (c : Thread nD τ) ↦[a6.view.set]{fullShare} a6.view.writes (Elt F) f L5) ∗ (∃ f, a7.view.loc (c : Thread nD τ) ↦[a7.view.set]{fullShare} a7.view.writes (Elt F) f L6) ∗ (∃ f, a8.view.loc (c : Thread nD τ) ↦[a8.view.set]{fullShare} a8.view.writes (Elt F) f L7) ∗ (∃ d, owns (c : Thread nD τ) a9 fullShare d) ∗ (∃ d, owns (c : Thread nD τ) a10 fullShare d) ∗ (∃ d, owns (c : Thread nD τ) a11 fullShare d)) -∗ K ⟨⟩))
          ⊢ wp frame (wpE (defs₀ (F := F)) Variants.none c none) E (cc1_pool_bwd i a1 w1 a2 w2 a3 w3 a4 w4 a5 w5 a6 w6 a7 w7 a8 w8 a9 w9 a10 w10 a11 w11) K } := by
  refine ⟨?_, ?_, ?_, fun E K => ?run⟩
  case run =>
    simp only [cc1_pool_bwd_eq_skeleton]; unfold cc1_pool_bwd_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := w1.eq_unread hf0; obtain rfl := w2.eq_unread hf1; obtain rfl := w3.eq_unread hf2; obtain rfl := w4.eq_unread hf3; obtain rfl := w5.eq_unread hf4
    sl_exec (disch := first | sl_exact hc0 | sl_exact hc1 | sl_exact hc2 | sl_exact hc3)
    unfold kernelRun1_D.sl.H6_1 kernelRun1_D.sl.H7_1 kernelRun1_D.sl.v30
    rw [state_base_4 Variants.none c none i a1 w1 a2 w2 a3 w3 a4 w4 a5 w5 a6 w6 a7 w7 a8 w8 a9 w9 a10 w10 a11 w11 _ _ hc3 (w1.unread x0) (w2.unread x1) (a9.view.writes (Elt F) fs0 _) fs1 a9.view.junk a10.view.junk _ _ _ le_rfl,
      share_junk_4 Variants.none c none i a1 w1 a2 w2 a3 w3 a4 w4 a5 w5 a6 w6 a7 w7 a8 w8 a9 w9 a10 w10 a11 w11 _ _ hc3 (w1.unread x0) (w2.unread x1) _ _ _ _ _ _ fs0, dev_junk_4 Variants.none c none i a1 w1 a2 w2 a3 w3 a4 w4 a5 w5 a6 w6 a7 w7 a8 w8 a9 w9 a10 w10 a11 w11 _ _ hc3 (w1.unread x0) (w2.unread x1) _ _ _ _ fs1]
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]; · iexists _; iexact H5
    isplitl [H6]; · iexists _; iexact H6
    isplitl [H7]; · iexists _; iexact H7
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- Case D's stores cover output 5. -/
theorem cover1_D_5 (y : S4096x256.Idx) :
    ∃ pc ∈ (kernelRun1_D c i a1 w1 a2 w2 a3 w3 a4 w4 a5 w5 a6 w6 a7 w7 a8 w8 a9 w9 a10 w10 a11 w11 hc0 hc1 hc2 hc3 x0 x1 x2 x3 x4).1, y ∈ pc.1.set :=
  View.cover_of_tiledL (kernelRun1_D c i a1 w1 a2 w2 a3 w3 a4 w4 a5 w5 a6 w6 a7 w7 a8 w8 a9 w9 a10 w10 a11 w11 hc0 hc1 hc2 hc3 x0 x1 x2 x3 x4).1 S512x256.size (by sl_kernel_rfl) y

/-- What case D leaves in output 5. -/
def out1_D_5 : Vec F S4096x256 .bf16 :=
  VO1_5.read (Elt F) (VO1_5.writes (Elt F) VO1_5.junk (kernelRun1_D c i a1 w1 a2 w2 a3 w3 a4 w4 a5 w5 a6 w6 a7 w7 a8 w8 a9 w9 a10 w10 a11 w11 hc0 hc1 hc2 hc3 x0 x1 x2 x3 x4).1)

/-- Case D's stores cover output 6. -/
theorem cover1_D_6 (y : S8x1x32x256.Idx) :
    ∃ pc ∈ (kernelRun1_D c i a1 w1 a2 w2 a3 w3 a4 w4 a5 w5 a6 w6 a7 w7 a8 w8 a9 w9 a10 w10 a11 w11 hc0 hc1 hc2 hc3 x0 x1 x2 x3 x4).2.1, y ∈ pc.1.set :=
  View.cover_of_tiledL (kernelRun1_D c i a1 w1 a2 w2 a3 w3 a4 w4 a5 w5 a6 w6 a7 w7 a8 w8 a9 w9 a10 w10 a11 w11 hc0 hc1 hc2 hc3 x0 x1 x2 x3 x4).2.1 S8x1x32x256.size (by sl_kernel_rfl) y

/-- What case D leaves in output 6. -/
def out1_D_6 : Vec F S8x1x32x256 .bf16 :=
  VO1_6.read (Elt F) (VO1_6.writes (Elt F) VO1_6.junk (kernelRun1_D c i a1 w1 a2 w2 a3 w3 a4 w4 a5 w5 a6 w6 a7 w7 a8 w8 a9 w9 a10 w10 a11 w11 hc0 hc1 hc2 hc3 x0 x1 x2 x3 x4).2.1)

/-- Case D's stores cover output 7. -/
theorem cover1_D_7 (y : S1x256.Idx) :
    ∃ pc ∈ (kernelRun1_D c i a1 w1 a2 w2 a3 w3 a4 w4 a5 w5 a6 w6 a7 w7 a8 w8 a9 w9 a10 w10 a11 w11 hc0 hc1 hc2 hc3 x0 x1 x2 x3 x4).2.2.1, y ∈ pc.1.set :=
  View.cover_of_tiledL (kernelRun1_D c i a1 w1 a2 w2 a3 w3 a4 w4 a5 w5 a6 w6 a7 w7 a8 w8 a9 w9 a10 w10 a11 w11 hc0 hc1 hc2 hc3 x0 x1 x2 x3 x4).2.2.1 S1x256.size (by sl_kernel_rfl) y

/-- What case D leaves in output 7. -/
def out1_D_7 : Vec F S1x256 .f32 :=
  VO1_7.read (Elt F) (VO1_7.writes (Elt F) VO1_7.junk (kernelRun1_D c i a1 w1 a2 w2 a3 w3 a4 w4 a5 w5 a6 w6 a7 w7 a8 w8 a9 w9 a10 w10 a11 w11 hc0 hc1 hc2 hc3 x0 x1 x2 x3 x4).2.2.1)

/-! ## What the outputs hold after each point -/

end Cert.KernelIdeal.Run

end
-- ==== Proof.Region0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Scratch

/-!
# The forward kernel at each grid point

Each of the four grid points takes one of four cases. For each case: what the body stores in its two outputs, that the
stores cover them, and that the body runs from its inputs to these stores, whatever its scratch buffer held.
-/

@[expose] public section

set_option maxRecDepth 16384

noncomputable section

namespace Cert.KernelIdeal.Run

open Cert.KernelIdeal.Gen Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! # REGION 0 of @main: custom_call 0, `cc0_pool_fwd` (pipeline 0), at the entry contents `V` — class R -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer of input 0 holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The buffer of input 1 holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The buffer of input 2 holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The body's condition 0, from the grid coordinates. -/
abbrev cond0_0 (i : grid0.Coords) : Prop := k0_cond1 i = 1#1
/-- It holds at the first point only. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, k0_cond1, e0]
    word_cmp
   : ∀ t : Fin grid0.N, cond0_0 (grid0.coords t) ↔ t.val % 4 = 0)

/-- The body's condition 1, from the grid coordinates. -/
abbrev cond0_1 (i : grid0.Coords) : Prop := k0_cond2 i = 1#1
/-- It holds at point 1 only. -/
theorem hcond0_1 : ∀ t : Fin cfg0.N, cond0_1 (grid0.coords t) ↔ t.val % 4 = 1 :=
  (fun t => by
    have ht : t.val < 4 := Nat.lt_of_lt_of_eq t.isLt N_0
    have e0 : (grid0.coords t 0).val = t.val / 1 % 4 := Pipeline.Grid.coords_val t 0 (by decide) rfl
    simp only [cond0_1, k0_cond2, e0]
    word_cmp
   : ∀ t : Fin grid0.N, cond0_1 (grid0.coords t) ↔ t.val % 4 = 1)

/-- The body's condition 2, from the grid coordinates. -/
abbrev cond0_2 (i : grid0.Coords) : Prop := k0_cond3 i = 1#1
/-- It holds at point 2 only. -/
theorem hcond0_2 : ∀ t : Fin cfg0.N, cond0_2 (grid0.coords t) ↔ t.val % 4 = 2 :=
  (fun t => by
    have ht : t.val < 4 := Nat.lt_of_lt_of_eq t.isLt N_0
    have e0 : (grid0.coords t 0).val = t.val / 1 % 4 := Pipeline.Grid.coords_val t 0 (by decide) rfl
    simp only [cond0_2, k0_cond3, e0]
    word_cmp
   : ∀ t : Fin grid0.N, cond0_2 (grid0.coords t) ↔ t.val % 4 = 2)

/-- The body's condition 3, from the grid coordinates. -/
abbrev cond0_3 (i : grid0.Coords) : Prop := k0_cond4 i = 1#1
/-- It holds at the last point only. -/
theorem hcond0_3 : ∀ t : Fin cfg0.N, cond0_3 (grid0.coords t) ↔ t.val % 4 = 3 :=
  (fun t => by
    have ht : t.val < 4 := Nat.lt_of_lt_of_eq t.isLt N_0
    have e0 : (grid0.coords t 0).val = t.val / 1 % 4 := Pipeline.Grid.coords_val t 0 (by decide) rfl
    simp only [cond0_3, k0_cond4, e0]
    word_cmp
   : ∀ t : Fin grid0.N, cond0_3 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ ¬cond0_1 i ∧ ¬cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ cond0_1 i ∧ ¬cond0_2 i ∧ ¬cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := ¬cond0_0 i ∧ ¬cond0_1 i ∧ cond0_2 i ∧ ¬cond0_3 i
instance conds0_C.dec (i : grid0.Coords) : Decidable (conds0_C i) :=
  @instDecidableAnd _ _ inferInstance (@instDecidableAnd _ _ inferInstance (@instDecidableAnd _ _ inferInstance inferInstance))
/-- Case D's branch conditions on the grid, as one proposition. -/
abbrev conds0_D (i : grid0.Coords) : Prop := ¬cond0_0 i ∧ ¬cond0_1 i ∧ ¬cond0_2 i ∧ cond0_3 i
instance conds0_D.dec (i : grid0.Coords) : Decidable (conds0_D i) :=
  @instDecidableAnd _ _ inferInstance (@instDecidableAnd _ _ inferInstance (@instDecidableAnd _ _ inferInstance inferInstance))
/-- Case A stores into output 3. -/
theorem liveAt0_3_A : ∀ t : Fin cfg0.N, cond0_0 (grid0.coords t) → ¬cond0_1 (grid0.coords t) → ¬cond0_2 (grid0.coords t) → ¬cond0_3 (grid0.coords t) → cfg0.idle 3 (grid0.coords t) = false :=
  fun t h0 h1 h2 h3 => (by decide +kernel : ∀ t : Fin cfg0.N, conds0_A (grid0.coords t) → cfg0.idle 3 (grid0.coords t) = false) t ⟨h0, h1, h2, h3⟩
/-- Case B stores into output 3. -/
theorem liveAt0_3_B : ∀ t : Fin cfg0.N, ¬cond0_0 (grid0.coords t) → cond0_1 (grid0.coords t) → ¬cond0_2 (grid0.coords t) → ¬cond0_3 (grid0.coords t) → cfg0.idle 3 (grid0.coords t) = false :=
  fun t h0 h1 h2 h3 => (by decide +kernel : ∀ t : Fin cfg0.N, conds0_B (grid0.coords t) → cfg0.idle 3 (grid0.coords t) = false) t ⟨h0, h1, h2, h3⟩
/-- Case C stores into output 3. -/
theorem liveAt0_3_C : ∀ t : Fin cfg0.N, ¬cond0_0 (grid0.coords t) → ¬cond0_1 (grid0.coords t) → cond0_2 (grid0.coords t) → ¬cond0_3 (grid0.coords t) → cfg0.idle 3 (grid0.coords t) = false :=
  fun t h0 h1 h2 h3 => (by decide +kernel : ∀ t : Fin cfg0.N, conds0_C (grid0.coords t) → cfg0.idle 3 (grid0.coords t) = false) t ⟨h0, h1, h2, h3⟩
/-- Case D stores into output 3. -/
theorem liveAt0_3_D : ∀ t : Fin cfg0.N, ¬cond0_0 (grid0.coords t) → ¬cond0_1 (grid0.coords t) → ¬cond0_2 (grid0.coords t) → cond0_3 (grid0.coords t) → cfg0.idle 3 (grid0.coords t) = false :=
  fun t h0 h1 h2 h3 => (by decide +kernel : ∀ t : Fin cfg0.N, conds0_D (grid0.coords t) → cfg0.idle 3 (grid0.coords t) = false) t ⟨h0, h1, h2, h3⟩
/-- Case A stores into output 4. -/
theorem liveAt0_4_A : ∀ t : Fin cfg0.N, cond0_0 (grid0.coords t) → ¬cond0_1 (grid0.coords t) → ¬cond0_2 (grid0.coords t) → ¬cond0_3 (grid0.coords t) → cfg0.idle 4 (grid0.coords t) = false :=
  fun t h0 h1 h2 h3 => (by decide +kernel : ∀ t : Fin cfg0.N, conds0_A (grid0.coords t) → cfg0.idle 4 (grid0.coords t) = false) t ⟨h0, h1, h2, h3⟩
/-- Case B stores into output 4. -/
theorem liveAt0_4_B : ∀ t : Fin cfg0.N, ¬cond0_0 (grid0.coords t) → cond0_1 (grid0.coords t) → ¬cond0_2 (grid0.coords t) → ¬cond0_3 (grid0.coords t) → cfg0.idle 4 (grid0.coords t) = false :=
  fun t h0 h1 h2 h3 => (by decide +kernel : ∀ t : Fin cfg0.N, conds0_B (grid0.coords t) → cfg0.idle 4 (grid0.coords t) = false) t ⟨h0, h1, h2, h3⟩
/-- Case C stores into output 4. -/
theorem liveAt0_4_C : ∀ t : Fin cfg0.N, ¬cond0_0 (grid0.coords t) → ¬cond0_1 (grid0.coords t) → cond0_2 (grid0.coords t) → ¬cond0_3 (grid0.coords t) → cfg0.idle 4 (grid0.coords t) = false :=
  fun t h0 h1 h2 h3 => (by decide +kernel : ∀ t : Fin cfg0.N, conds0_C (grid0.coords t) → cfg0.idle 4 (grid0.coords t) = false) t ⟨h0, h1, h2, h3⟩
/-- Case D stores into output 4. -/
theorem liveAt0_4_D : ∀ t : Fin cfg0.N, ¬cond0_0 (grid0.coords t) → ¬cond0_1 (grid0.coords t) → ¬cond0_2 (grid0.coords t) → cond0_3 (grid0.coords t) → cfg0.idle 4 (grid0.coords t) = false :=
  fun t h0 h1 h2 h3 => (by decide +kernel : ∀ t : Fin cfg0.N, conds0_D (grid0.coords t) → cfg0.idle 4 (grid0.coords t) = false) t ⟨h0, h1, h2, h3⟩

/-! ## The kernel body on any staging memrefs: a subtype the run finds -/

/-- One buffer of output 3. -/
abbrev VO0_3 : View sig .tc .vmem S4096x256 .bf16 := (Memref.whole cc0_stg3_0 : Memref sig .tc .vmem S4096x256 .bf16).view
/-- One buffer of output 4. -/
abbrev VO0_4 : View sig .tc .vmem S4096x256 .bf16 := (Memref.whole cc0_stg4_0 : Memref sig .tc .vmem S4096x256 .bf16).view
/-- Each window's buffer at point `t`. -/
abbrev ms0_0 (t : Fin cfg0.N) : Memref sig .tc .vmem S1x4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x256 .bf16 := win0_4.stage (cfg0.slots t 4)
abbrev hs0_4 (t : Fin cfg0.N) : (ms0_4 t).IsWhole := hstage0_4 ((cfg0.slots t 4).cast nbuf0_4)
/-- The scratch buffers. -/
abbrev scM0_0 : Memref sig .tc .vmem S4128x256 .f32 := Memref.whole cc0_scratch0

/-- The invariant, with the scratch buffers apart. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ (∃ r, prngReg c r)) := by
  unfold Pipeline.ΦA; rw [scopedRest0_eq]; simp only [scM0_0, owns_whole]; try rfl

variable (c : Dev nD) (i : grid0.Coords) (a1 : Memref sig .tc .vmem S1x4096x256 .f32) (w1 : a1.IsWhole) (a2 : Memref sig .tc .vmem S1x256x256 .bf16) (w2 : a2.IsWhole)
    (a3 : Memref sig .tc .vmem S1x256 .f32) (w3 : a3.IsWhole) (a4 : Memref sig .tc .vmem S4096x256 .bf16) (w4 : a4.IsWhole) (a5 : Memref sig .tc .vmem S4096x256 .bf16)
    (w5 : a5.IsWhole) (a6 : Memref sig .tc .vmem S4128x256 .f32) (w6 : a6.IsWhole)

set_option maxHeartbeats 1000000 in
/-- Case A's stores in each output, and the body's run to them, whatever the outputs and the scratch held. -/
noncomputable def kernelRun0_A (hc0 : cond0_0 i) (hc1 : ¬cond0_1 i) (hc2 : ¬cond0_2 i) (hc3 : ¬cond0_3 i)
    (x0 : Vec F S1x4096x256 .f32) (x1 : Vec F S1x256x256 .bf16) (x2 : Vec F S1x256 .f32) :
    Σ' (L3 : List (View.Piece (Elt F) S4096x256 .bf16)), { L4 : List (View.Piece (Elt F) S4096x256 .bf16) //
      ∀ (E : Set ℕ) (K : PUnit → sProp 𝕄),
        iprop(owns (c : Thread nD τ) a1 fullShare x0 ∗ owns (c : Thread nD τ) a2 fullShare x1 ∗ owns (c : Thread nD τ) a3 fullShare x2 ∗ (∃ d, owns (c : Thread nD τ) a4 fullShare d) ∗ (∃ d, owns (c : Thread nD τ) a5 fullShare d) ∗ (∃ d, owns (c : Thread nD τ) a6 fullShare d)
            ∗ (iprop(owns (c : Thread nD τ) a1 fullShare x0 ∗ owns (c : Thread nD τ) a2 fullShare x1 ∗ owns (c : Thread nD τ) a3 fullShare x2 ∗ (∃ f, a4.view.loc (c : Thread nD τ) ↦[a4.view.set]{fullShare} a4.view.writes (Elt F) f L3) ∗ (∃ f, a5.view.loc (c : Thread nD τ) ↦[a5.view.set]{fullShare} a5.view.writes (Elt F) f L4) ∗ (∃ d, owns (c : Thread nD τ) a6 fullShare d)) -∗ K ⟨⟩))
          ⊢ wp frame (wpE (defs₀ (F := F)) Variants.none c none) E (cc0_pool_fwd i a1 w1 a2 w2 a3 w3 a4 w4 a5 w5 a6 w6) K } := by
  refine ⟨?_, ?_, fun E K => ?run⟩
  case run =>
    simp only [cc0_pool_fwd_eq_skeleton]; unfold cc0_pool_fwd_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := w1.eq_unread hf0; obtain rfl := w2.eq_unread hf1; obtain rfl := w3.eq_unread hf2
    sl_exec (disch := first | sl_exact hc0 | sl_exact hc1 | sl_exact hc2 | sl_exact hc3)
    rw [fill_junk Variants.none c none i a1 w1 a2 w2 a3 w3 a4 w4 a5 w5 a6 w6 (w1.unread x0) fs0]
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]; · iexists _; iexact H3
    isplitl [H4]; · iexists _; iexact H4
    iexists _, _; isplitr; swap; · iexact HS0
    ipureintro; rfl

/-- Case A's stores cover output 3. -/
theorem cover0_A_3 (hc0 : cond0_0 i) (hc1 : ¬cond0_1 i) (hc2 : ¬cond0_2 i) (hc3 : ¬cond0_3 i)
    (x0 : Vec F S1x4096x256 .f32) (x1 : Vec F S1x256x256 .bf16) (x2 : Vec F S1x256 .f32) (y : S4096x256.Idx) :
    ∃ pc ∈ (kernelRun0_A c i a1 w1 a2 w2 a3 w3 a4 w4 a5 w5 a6 w6 hc0 hc1 hc2 hc3 x0 x1 x2).1, y ∈ pc.1.set :=
  View.cover_of_tiledL (kernelRun0_A c i a1 w1 a2 w2 a3 w3 a4 w4 a5 w5 a6 w6 hc0 hc1 hc2 hc3 x0 x1 x2).1 S512x256.size (by sl_kernel_rfl) y

/-- What case A leaves in output 3. -/
def out0_A_3 (hc0 : cond0_0 i) (hc1 : ¬cond0_1 i) (hc2 : ¬cond0_2 i) (hc3 : ¬cond0_3 i)
    (x0 : Vec F S1x4096x256 .f32) (x1 : Vec F S1x256x256 .bf16) (x2 : Vec F S1x256 .f32) : Vec F S4096x256 .bf16 :=
  VO0_3.read (Elt F) (VO0_3.writes (Elt F) VO0_3.junk (kernelRun0_A c i a1 w1 a2 w2 a3 w3 a4 w4 a5 w5 a6 w6 hc0 hc1 hc2 hc3 x0 x1 x2).1)

/-- Case A's stores cover output 4. -/
theorem cover0_A_4 (hc0 : cond0_0 i) (hc1 : ¬cond0_1 i) (hc2 : ¬cond0_2 i) (hc3 : ¬cond0_3 i)
    (x0 : Vec F S1x4096x256 .f32) (x1 : Vec F S1x256x256 .bf16) (x2 : Vec F S1x256 .f32) (y : S4096x256.Idx) :
    ∃ pc ∈ (kernelRun0_A c i a1 w1 a2 w2 a3 w3 a4 w4 a5 w5 a6 w6 hc0 hc1 hc2 hc3 x0 x1 x2).2.1, y ∈ pc.1.set :=
  View.cover_of_tiledL (kernelRun0_A c i a1 w1 a2 w2 a3 w3 a4 w4 a5 w5 a6 w6 hc0 hc1 hc2 hc3 x0 x1 x2).2.1 S512x256.size (by sl_kernel_rfl) y

/-- What case A leaves in output 4. -/
def out0_A_4 (hc0 : cond0_0 i) (hc1 : ¬cond0_1 i) (hc2 : ¬cond0_2 i) (hc3 : ¬cond0_3 i)
    (x0 : Vec F S1x4096x256 .f32) (x1 : Vec F S1x256x256 .bf16) (x2 : Vec F S1x256 .f32) : Vec F S4096x256 .bf16 :=
  VO0_4.read (Elt F) (VO0_4.writes (Elt F) VO0_4.junk (kernelRun0_A c i a1 w1 a2 w2 a3 w3 a4 w4 a5 w5 a6 w6 hc0 hc1 hc2 hc3 x0 x1 x2).2.1)

set_option maxHeartbeats 1000000 in
/-- Case B's stores in each output, and the body's run to them, whatever the outputs and the scratch held. -/
noncomputable def kernelRun0_B (hc0 : ¬cond0_0 i) (hc1 : cond0_1 i) (hc2 : ¬cond0_2 i) (hc3 : ¬cond0_3 i)
    (x0 : Vec F S1x4096x256 .f32) (x1 : Vec F S1x256x256 .bf16) (x2 : Vec F S1x256 .f32) :
    Σ' (L3 : List (View.Piece (Elt F) S4096x256 .bf16)), { L4 : List (View.Piece (Elt F) S4096x256 .bf16) //
      ∀ (E : Set ℕ) (K : PUnit → sProp 𝕄),
        iprop(owns (c : Thread nD τ) a1 fullShare x0 ∗ owns (c : Thread nD τ) a2 fullShare x1 ∗ owns (c : Thread nD τ) a3 fullShare x2 ∗ (∃ d, owns (c : Thread nD τ) a4 fullShare d) ∗ (∃ d, owns (c : Thread nD τ) a5 fullShare d) ∗ (∃ d, owns (c : Thread nD τ) a6 fullShare d)
            ∗ (iprop(owns (c : Thread nD τ) a1 fullShare x0 ∗ owns (c : Thread nD τ) a2 fullShare x1 ∗ owns (c : Thread nD τ) a3 fullShare x2 ∗ (∃ f, a4.view.loc (c : Thread nD τ) ↦[a4.view.set]{fullShare} a4.view.writes (Elt F) f L3) ∗ (∃ f, a5.view.loc (c : Thread nD τ) ↦[a5.view.set]{fullShare} a5.view.writes (Elt F) f L4) ∗ (∃ d, owns (c : Thread nD τ) a6 fullShare d)) -∗ K ⟨⟩))
          ⊢ wp frame (wpE (defs₀ (F := F)) Variants.none c none) E (cc0_pool_fwd i a1 w1 a2 w2 a3 w3 a4 w4 a5 w5 a6 w6) K } := by
  refine ⟨?_, ?_, fun E K => ?run⟩
  case run =>
    simp only [cc0_pool_fwd_eq_skeleton]; unfold cc0_pool_fwd_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := w1.eq_unread hf0; obtain rfl := w2.eq_unread hf1; obtain rfl := w3.eq_unread hf2
    sl_exec (disch := first | sl_exact hc0 | sl_exact hc1 | sl_exact hc2 | sl_exact hc3)
    rw [fill_junk Variants.none c none i a1 w1 a2 w2 a3 w3 a4 w4 a5 w5 a6 w6 (w1.unread x0) fs0]
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]; · iexists _; iexact H3
    isplitl [H4]; · iexists _; iexact H4
    iexists _, _; isplitr; swap; · iexact HS0
    ipureintro; rfl

/-- Case B's stores cover output 3. -/
theorem cover0_B_3 (hc0 : ¬cond0_0 i) (hc1 : cond0_1 i) (hc2 : ¬cond0_2 i) (hc3 : ¬cond0_3 i)
    (x0 : Vec F S1x4096x256 .f32) (x1 : Vec F S1x256x256 .bf16) (x2 : Vec F S1x256 .f32) (y : S4096x256.Idx) :
    ∃ pc ∈ (kernelRun0_B c i a1 w1 a2 w2 a3 w3 a4 w4 a5 w5 a6 w6 hc0 hc1 hc2 hc3 x0 x1 x2).1, y ∈ pc.1.set :=
  View.cover_of_tiledL (kernelRun0_B c i a1 w1 a2 w2 a3 w3 a4 w4 a5 w5 a6 w6 hc0 hc1 hc2 hc3 x0 x1 x2).1 S512x256.size (by sl_kernel_rfl) y

/-- What case B leaves in output 3. -/
def out0_B_3 (hc0 : ¬cond0_0 i) (hc1 : cond0_1 i) (hc2 : ¬cond0_2 i) (hc3 : ¬cond0_3 i)
    (x0 : Vec F S1x4096x256 .f32) (x1 : Vec F S1x256x256 .bf16) (x2 : Vec F S1x256 .f32) : Vec F S4096x256 .bf16 :=
  VO0_3.read (Elt F) (VO0_3.writes (Elt F) VO0_3.junk (kernelRun0_B c i a1 w1 a2 w2 a3 w3 a4 w4 a5 w5 a6 w6 hc0 hc1 hc2 hc3 x0 x1 x2).1)

/-- Case B's stores cover output 4. -/
theorem cover0_B_4 (hc0 : ¬cond0_0 i) (hc1 : cond0_1 i) (hc2 : ¬cond0_2 i) (hc3 : ¬cond0_3 i)
    (x0 : Vec F S1x4096x256 .f32) (x1 : Vec F S1x256x256 .bf16) (x2 : Vec F S1x256 .f32) (y : S4096x256.Idx) :
    ∃ pc ∈ (kernelRun0_B c i a1 w1 a2 w2 a3 w3 a4 w4 a5 w5 a6 w6 hc0 hc1 hc2 hc3 x0 x1 x2).2.1, y ∈ pc.1.set :=
  View.cover_of_tiledL (kernelRun0_B c i a1 w1 a2 w2 a3 w3 a4 w4 a5 w5 a6 w6 hc0 hc1 hc2 hc3 x0 x1 x2).2.1 S512x256.size (by sl_kernel_rfl) y

/-- What case B leaves in output 4. -/
def out0_B_4 (hc0 : ¬cond0_0 i) (hc1 : cond0_1 i) (hc2 : ¬cond0_2 i) (hc3 : ¬cond0_3 i)
    (x0 : Vec F S1x4096x256 .f32) (x1 : Vec F S1x256x256 .bf16) (x2 : Vec F S1x256 .f32) : Vec F S4096x256 .bf16 :=
  VO0_4.read (Elt F) (VO0_4.writes (Elt F) VO0_4.junk (kernelRun0_B c i a1 w1 a2 w2 a3 w3 a4 w4 a5 w5 a6 w6 hc0 hc1 hc2 hc3 x0 x1 x2).2.1)

set_option maxHeartbeats 1000000 in
/-- Case C's stores in each output, and the body's run to them, whatever the outputs and the scratch held. -/
noncomputable def kernelRun0_C (hc0 : ¬cond0_0 i) (hc1 : ¬cond0_1 i) (hc2 : cond0_2 i) (hc3 : ¬cond0_3 i)
    (x0 : Vec F S1x4096x256 .f32) (x1 : Vec F S1x256x256 .bf16) (x2 : Vec F S1x256 .f32) :
    Σ' (L3 : List (View.Piece (Elt F) S4096x256 .bf16)), { L4 : List (View.Piece (Elt F) S4096x256 .bf16) //
      ∀ (E : Set ℕ) (K : PUnit → sProp 𝕄),
        iprop(owns (c : Thread nD τ) a1 fullShare x0 ∗ owns (c : Thread nD τ) a2 fullShare x1 ∗ owns (c : Thread nD τ) a3 fullShare x2 ∗ (∃ d, owns (c : Thread nD τ) a4 fullShare d) ∗ (∃ d, owns (c : Thread nD τ) a5 fullShare d) ∗ (∃ d, owns (c : Thread nD τ) a6 fullShare d)
            ∗ (iprop(owns (c : Thread nD τ) a1 fullShare x0 ∗ owns (c : Thread nD τ) a2 fullShare x1 ∗ owns (c : Thread nD τ) a3 fullShare x2 ∗ (∃ f, a4.view.loc (c : Thread nD τ) ↦[a4.view.set]{fullShare} a4.view.writes (Elt F) f L3) ∗ (∃ f, a5.view.loc (c : Thread nD τ) ↦[a5.view.set]{fullShare} a5.view.writes (Elt F) f L4) ∗ (∃ d, owns (c : Thread nD τ) a6 fullShare d)) -∗ K ⟨⟩))
          ⊢ wp frame (wpE (defs₀ (F := F)) Variants.none c none) E (cc0_pool_fwd i a1 w1 a2 w2 a3 w3 a4 w4 a5 w5 a6 w6) K } := by
  refine ⟨?_, ?_, fun E K => ?run⟩
  case run =>
    simp only [cc0_pool_fwd_eq_skeleton]; unfold cc0_pool_fwd_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := w1.eq_unread hf0; obtain rfl := w2.eq_unread hf1; obtain rfl := w3.eq_unread hf2
    sl_exec (disch := first | sl_exact hc0 | sl_exact hc1 | sl_exact hc2 | sl_exact hc3)
    rw [fill_junk Variants.none c none i a1 w1 a2 w2 a3 w3 a4 w4 a5 w5 a6 w6 (w1.unread x0) fs0]
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]; · iexists _; iexact H3
    isplitl [H4]; · iexists _; iexact H4
    iexists _, _; isplitr; swap; · iexact HS0
    ipureintro; rfl

/-- Case C's stores cover output 3. -/
theorem cover0_C_3 (hc0 : ¬cond0_0 i) (hc1 : ¬cond0_1 i) (hc2 : cond0_2 i) (hc3 : ¬cond0_3 i)
    (x0 : Vec F S1x4096x256 .f32) (x1 : Vec F S1x256x256 .bf16) (x2 : Vec F S1x256 .f32) (y : S4096x256.Idx) :
    ∃ pc ∈ (kernelRun0_C c i a1 w1 a2 w2 a3 w3 a4 w4 a5 w5 a6 w6 hc0 hc1 hc2 hc3 x0 x1 x2).1, y ∈ pc.1.set :=
  View.cover_of_tiledL (kernelRun0_C c i a1 w1 a2 w2 a3 w3 a4 w4 a5 w5 a6 w6 hc0 hc1 hc2 hc3 x0 x1 x2).1 S512x256.size (by sl_kernel_rfl) y

/-- What case C leaves in output 3. -/
def out0_C_3 (hc0 : ¬cond0_0 i) (hc1 : ¬cond0_1 i) (hc2 : cond0_2 i) (hc3 : ¬cond0_3 i)
    (x0 : Vec F S1x4096x256 .f32) (x1 : Vec F S1x256x256 .bf16) (x2 : Vec F S1x256 .f32) : Vec F S4096x256 .bf16 :=
  VO0_3.read (Elt F) (VO0_3.writes (Elt F) VO0_3.junk (kernelRun0_C c i a1 w1 a2 w2 a3 w3 a4 w4 a5 w5 a6 w6 hc0 hc1 hc2 hc3 x0 x1 x2).1)

/-- Case C's stores cover output 4. -/
theorem cover0_C_4 (hc0 : ¬cond0_0 i) (hc1 : ¬cond0_1 i) (hc2 : cond0_2 i) (hc3 : ¬cond0_3 i)
    (x0 : Vec F S1x4096x256 .f32) (x1 : Vec F S1x256x256 .bf16) (x2 : Vec F S1x256 .f32) (y : S4096x256.Idx) :
    ∃ pc ∈ (kernelRun0_C c i a1 w1 a2 w2 a3 w3 a4 w4 a5 w5 a6 w6 hc0 hc1 hc2 hc3 x0 x1 x2).2.1, y ∈ pc.1.set :=
  View.cover_of_tiledL (kernelRun0_C c i a1 w1 a2 w2 a3 w3 a4 w4 a5 w5 a6 w6 hc0 hc1 hc2 hc3 x0 x1 x2).2.1 S512x256.size (by sl_kernel_rfl) y

/-- What case C leaves in output 4. -/
def out0_C_4 (hc0 : ¬cond0_0 i) (hc1 : ¬cond0_1 i) (hc2 : cond0_2 i) (hc3 : ¬cond0_3 i)
    (x0 : Vec F S1x4096x256 .f32) (x1 : Vec F S1x256x256 .bf16) (x2 : Vec F S1x256 .f32) : Vec F S4096x256 .bf16 :=
  VO0_4.read (Elt F) (VO0_4.writes (Elt F) VO0_4.junk (kernelRun0_C c i a1 w1 a2 w2 a3 w3 a4 w4 a5 w5 a6 w6 hc0 hc1 hc2 hc3 x0 x1 x2).2.1)

set_option maxHeartbeats 1000000 in
/-- Case D's stores in each output, and the body's run to them, whatever the outputs and the scratch held. -/
noncomputable def kernelRun0_D (hc0 : ¬cond0_0 i) (hc1 : ¬cond0_1 i) (hc2 : ¬cond0_2 i) (hc3 : cond0_3 i)
    (x0 : Vec F S1x4096x256 .f32) (x1 : Vec F S1x256x256 .bf16) (x2 : Vec F S1x256 .f32) :
    Σ' (L3 : List (View.Piece (Elt F) S4096x256 .bf16)), { L4 : List (View.Piece (Elt F) S4096x256 .bf16) //
      ∀ (E : Set ℕ) (K : PUnit → sProp 𝕄),
        iprop(owns (c : Thread nD τ) a1 fullShare x0 ∗ owns (c : Thread nD τ) a2 fullShare x1 ∗ owns (c : Thread nD τ) a3 fullShare x2 ∗ (∃ d, owns (c : Thread nD τ) a4 fullShare d) ∗ (∃ d, owns (c : Thread nD τ) a5 fullShare d) ∗ (∃ d, owns (c : Thread nD τ) a6 fullShare d)
            ∗ (iprop(owns (c : Thread nD τ) a1 fullShare x0 ∗ owns (c : Thread nD τ) a2 fullShare x1 ∗ owns (c : Thread nD τ) a3 fullShare x2 ∗ (∃ f, a4.view.loc (c : Thread nD τ) ↦[a4.view.set]{fullShare} a4.view.writes (Elt F) f L3) ∗ (∃ f, a5.view.loc (c : Thread nD τ) ↦[a5.view.set]{fullShare} a5.view.writes (Elt F) f L4) ∗ (∃ d, owns (c : Thread nD τ) a6 fullShare d)) -∗ K ⟨⟩))
          ⊢ wp frame (wpE (defs₀ (F := F)) Variants.none c none) E (cc0_pool_fwd i a1 w1 a2 w2 a3 w3 a4 w4 a5 w5 a6 w6) K } := by
  refine ⟨?_, ?_, fun E K => ?run⟩
  case run =>
    simp only [cc0_pool_fwd_eq_skeleton]; unfold cc0_pool_fwd_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := w1.eq_unread hf0; obtain rfl := w2.eq_unread hf1; obtain rfl := w3.eq_unread hf2
    sl_exec (disch := first | sl_exact hc0 | sl_exact hc1 | sl_exact hc2 | sl_exact hc3)
    rw [fill_junk Variants.none c none i a1 w1 a2 w2 a3 w3 a4 w4 a5 w5 a6 w6 (w1.unread x0) fs0]
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]; · iexists _; iexact H3
    isplitl [H4]; · iexists _; iexact H4
    iexists _, _; isplitr; swap; · iexact HS0
    ipureintro; rfl

/-- Case D's stores cover output 3. -/
theorem cover0_D_3 (hc0 : ¬cond0_0 i) (hc1 : ¬cond0_1 i) (hc2 : ¬cond0_2 i) (hc3 : cond0_3 i)
    (x0 : Vec F S1x4096x256 .f32) (x1 : Vec F S1x256x256 .bf16) (x2 : Vec F S1x256 .f32) (y : S4096x256.Idx) :
    ∃ pc ∈ (kernelRun0_D c i a1 w1 a2 w2 a3 w3 a4 w4 a5 w5 a6 w6 hc0 hc1 hc2 hc3 x0 x1 x2).1, y ∈ pc.1.set :=
  View.cover_of_tiledL (kernelRun0_D c i a1 w1 a2 w2 a3 w3 a4 w4 a5 w5 a6 w6 hc0 hc1 hc2 hc3 x0 x1 x2).1 S512x256.size (by sl_kernel_rfl) y

/-- What case D leaves in output 3. -/
def out0_D_3 (hc0 : ¬cond0_0 i) (hc1 : ¬cond0_1 i) (hc2 : ¬cond0_2 i) (hc3 : cond0_3 i)
    (x0 : Vec F S1x4096x256 .f32) (x1 : Vec F S1x256x256 .bf16) (x2 : Vec F S1x256 .f32) : Vec F S4096x256 .bf16 :=
  VO0_3.read (Elt F) (VO0_3.writes (Elt F) VO0_3.junk (kernelRun0_D c i a1 w1 a2 w2 a3 w3 a4 w4 a5 w5 a6 w6 hc0 hc1 hc2 hc3 x0 x1 x2).1)

/-- Case D's stores cover output 4. -/
theorem cover0_D_4 (hc0 : ¬cond0_0 i) (hc1 : ¬cond0_1 i) (hc2 : ¬cond0_2 i) (hc3 : cond0_3 i)
    (x0 : Vec F S1x4096x256 .f32) (x1 : Vec F S1x256x256 .bf16) (x2 : Vec F S1x256 .f32) (y : S4096x256.Idx) :
    ∃ pc ∈ (kernelRun0_D c i a1 w1 a2 w2 a3 w3 a4 w4 a5 w5 a6 w6 hc0 hc1 hc2 hc3 x0 x1 x2).2.1, y ∈ pc.1.set :=
  View.cover_of_tiledL (kernelRun0_D c i a1 w1 a2 w2 a3 w3 a4 w4 a5 w5 a6 w6 hc0 hc1 hc2 hc3 x0 x1 x2).2.1 S512x256.size (by sl_kernel_rfl) y

/-- What case D leaves in output 4. -/
def out0_D_4 (hc0 : ¬cond0_0 i) (hc1 : ¬cond0_1 i) (hc2 : ¬cond0_2 i) (hc3 : cond0_3 i)
    (x0 : Vec F S1x4096x256 .f32) (x1 : Vec F S1x256x256 .bf16) (x2 : Vec F S1x256 .f32) : Vec F S4096x256 .bf16 :=
  VO0_4.read (Elt F) (VO0_4.writes (Elt F) VO0_4.junk (kernelRun0_D c i a1 w1 a2 w2 a3 w3 a4 w4 a5 w5 a6 w6 hc0 hc1 hc2 hc3 x0 x1 x2).2.1)

/-! ## What the outputs hold after each point -/

/-- What the outputs hold after a point of case A. -/
abbrev case0_A (c : Dev nD) (t : Fin cfg0.N) (h0 : t.val % 4 = 0) (h1 : ¬t.val % 4 = 1) (h2 : ¬t.val % 4 = 2) (h3 : ¬t.val % 4 = 3) : Vec F S4096x256 .bf16 × Vec F S4096x256 .bf16 :=
  (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (fun h => h2 ((hcond0_2 t).mp h)) (fun h => h3 ((hcond0_3 t).mp h)) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (fun h => h2 ((hcond0_2 t).mp h)) (fun h => h3 ((hcond0_3 t).mp h)) (iblk0 V c 0 t) (iblk0 V c 1 t) (iblk0 V c 2 t))
/-- What the outputs hold after a point of case B. -/
abbrev case0_B (c : Dev nD) (t : Fin cfg0.N) (h0 : ¬t.val % 4 = 0) (h1 : t.val % 4 = 1) (h2 : ¬t.val % 4 = 2) (h3 : ¬t.val % 4 = 3) : Vec F S4096x256 .bf16 × Vec F S4096x256 .bf16 :=
  (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (fun h => h2 ((hcond0_2 t).mp h)) (fun h => h3 ((hcond0_3 t).mp h)) (iblk0 V c 0 t) (iblk0 V c 1 t) (iblk0 V c 2 t), out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (fun h => h2 ((hcond0_2 t).mp h)) (fun h => h3 ((hcond0_3 t).mp h)) (iblk0 V c 0 t) (iblk0 V c 1 t) (iblk0 V c 2 t))
/-- What the outputs hold after a point of case C. -/
abbrev case0_C (c : Dev nD) (t : Fin cfg0.N) (h0 : ¬t.val % 4 = 0) (h1 : ¬t.val % 4 = 1) (h2 : t.val % 4 = 2) (h3 : ¬t.val % 4 = 3) : Vec F S4096x256 .bf16 × Vec F S4096x256 .bf16 :=
  (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) ((hcond0_2 t).mpr h2) (fun h => h3 ((hcond0_3 t).mp h)) (iblk0 V c 0 t) (iblk0 V c 1 t) (iblk0 V c 2 t), out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) ((hcond0_2 t).mpr h2) (fun h => h3 ((hcond0_3 t).mp h)) (iblk0 V c 0 t) (iblk0 V c 1 t) (iblk0 V c 2 t))
/-- What the outputs hold after a point of case D. -/
abbrev case0_D (c : Dev nD) (t : Fin cfg0.N) (h0 : ¬t.val % 4 = 0) (h1 : ¬t.val % 4 = 1) (h2 : ¬t.val % 4 = 2) (h3 : t.val % 4 = 3) : Vec F S4096x256 .bf16 × Vec F S4096x256 .bf16 :=
  (out0_D_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (fun h => h2 ((hcond0_2 t).mp h)) ((hcond0_3 t).mpr h3) (iblk0 V c 0 t) (iblk0 V c 1 t) (iblk0 V c 2 t), out0_D_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (fun h => h2 ((hcond0_2 t).mp h)) ((hcond0_3 t).mpr h3) (iblk0 V c 0 t) (iblk0 V c 1 t) (iblk0 V c 2 t))
/-- What the outputs' buffers hold after the body at position `n`. -/
def outsAt0 (c : Dev nD) : (n : ℕ) → n < cfg0.N → Vec F S4096x256 .bf16 × Vec F S4096x256 .bf16
  | 0, hn => case0_A V c ⟨0, hn⟩ (Nat.zero_mod _) (fun h => by (try dsimp only at h); omega) (fun h => by (try dsimp only at h); omega) (fun h => by (try dsimp only at h); omega)
  | n + 1, hn =>
    if h0 : (n + 1) % 4 = 0 then
      if h1 : (n + 1) % 4 = 1 then
        False.elim (by have hN : n + 1 < 4 := lt_of_lt_of_eq hn (show cfg0.N = 4 from N_0); omega)
      else
        if h2 : (n + 1) % 4 = 2 then
          False.elim (by have hN : n + 1 < 4 := lt_of_lt_of_eq hn (show cfg0.N = 4 from N_0); omega)
        else
          if h3 : (n + 1) % 4 = 3 then
            False.elim (by have hN : n + 1 < 4 := lt_of_lt_of_eq hn (show cfg0.N = 4 from N_0); omega)
          else
            case0_A V c ⟨n + 1, hn⟩ h0 h1 h2 h3
    else
      if h1 : (n + 1) % 4 = 1 then
        if h2 : (n + 1) % 4 = 2 then
          False.elim (by have hN : n + 1 < 4 := lt_of_lt_of_eq hn (show cfg0.N = 4 from N_0); omega)
        else
          if h3 : (n + 1) % 4 = 3 then
            False.elim (by have hN : n + 1 < 4 := lt_of_lt_of_eq hn (show cfg0.N = 4 from N_0); omega)
          else
            case0_B V c ⟨n + 1, hn⟩ h0 h1 h2 h3
      else
        if h2 : (n + 1) % 4 = 2 then
          if h3 : (n + 1) % 4 = 3 then
            False.elim (by have hN : n + 1 < 4 := lt_of_lt_of_eq hn (show cfg0.N = 4 from N_0); omega)
          else
            case0_C V c ⟨n + 1, hn⟩ h0 h1 h2 h3
        else
          if h3 : (n + 1) % 4 = 3 then
            case0_D V c ⟨n + 1, hn⟩ h0 h1 h2 h3
          else
            False.elim (by have hN : n + 1 < 4 := lt_of_lt_of_eq hn (show cfg0.N = 4 from N_0); omega)

/-- `outsAt0` at a point of case A: that case's contents. -/
theorem outsAt0_A (c : Dev nD) (t : Fin cfg0.N) (h0 : t.val % 4 = 0) (h1 : ¬t.val % 4 = 1) (h2 : ¬t.val % 4 = 2) (h3 : ¬t.val % 4 = 3) :
    outsAt0 V c t.val t.isLt = case0_A V c t h0 h1 h2 h3 := by
  obtain ⟨n, hn⟩ := t
  cases n with
  | zero => exact rfl
  | succ n => exact (dif_pos h0).trans ((dif_neg h1).trans ((dif_neg h2).trans ((dif_neg h3).trans rfl)))

/-- `outsAt0` at a point of case B: that case's contents. -/
theorem outsAt0_B (c : Dev nD) (t : Fin cfg0.N) (h0 : ¬t.val % 4 = 0) (h1 : t.val % 4 = 1) (h2 : ¬t.val % 4 = 2) (h3 : ¬t.val % 4 = 3) :
    outsAt0 V c t.val t.isLt = case0_B V c t h0 h1 h2 h3 := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

/-- `outsAt0` at a point of case C: that case's contents. -/
theorem outsAt0_C (c : Dev nD) (t : Fin cfg0.N) (h0 : ¬t.val % 4 = 0) (h1 : ¬t.val % 4 = 1) (h2 : t.val % 4 = 2) (h3 : ¬t.val % 4 = 3) :
    outsAt0 V c t.val t.isLt = case0_C V c t h0 h1 h2 h3 := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt0` at a point of case D: that case's contents. -/
theorem outsAt0_D (c : Dev nD) (t : Fin cfg0.N) (h0 : ¬t.val % 4 = 0) (h1 : ¬t.val % 4 = 1) (h2 : ¬t.val % 4 = 2) (h3 : t.val % 4 = 3) :
    outsAt0 V c t.val t.isLt = case0_D V c t h0 h1 h2 h3 := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

/-! ## The pipeline's proof data -/

/-- The data of pipeline 0: the arrays as the call finds them, and the buffers after each point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2
  Φ _ := Pipeline.ΦA spec0 c
  q _ := fullShare
  owed _ := 0

/-- The data's arrays are those that the call finds. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2 := by dsimp only [dat0]

/-- Each input's buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 1600000 in
/-- The body at any point, by the point's case. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl]
  rw [show (dat0 V c).Φ t.castSucc = Pipeline.ΦA spec0 c from rfl, PhiA0_eq]
  have hN : t.val < 4 := lt_of_lt_of_eq t.isLt (show cfg0.N = 4 from N_0)
  by_cases h0 : t.val % 4 = 0
  · by_cases h1 : t.val % 4 = 1
    · exfalso; omega
    · by_cases h2 : t.val % 4 = 2
      · exfalso; omega
      · by_cases h3 : t.val % 4 = 3
        · exfalso; omega
        · rw [show (dat0 V c).leavesExact 0 t = owns (c : Thread nD τ) (ms0_0 t) fullShare ((dat0 V c).after 0 t) from by
      unfold Dat.leavesExact; rw [liveAt0_0 t], after0_0]
          rw [show (dat0 V c).leavesExact 1 t = owns (c : Thread nD τ) (ms0_1 t) fullShare ((dat0 V c).after 1 t) from by
      unfold Dat.leavesExact; rw [liveAt0_1 t], after0_1]
          rw [show (dat0 V c).leavesExact 2 t = owns (c : Thread nD τ) (ms0_2 t) fullShare ((dat0 V c).after 2 t) from by
      unfold Dat.leavesExact; rw [liveAt0_2 t], after0_2]
          rw [show (dat0 V c).leavesExact 3 t = owns (c : Thread nD τ) (ms0_3 t) fullShare ((dat0 V c).after 3 t) from by
      unfold Dat.leavesExact; rw [liveAt0_3_A t ((hcond0_0 t).mpr h0) (fun h => h1 ((hcond0_1 t).mp h)) (fun h => h2 ((hcond0_2 t).mp h)) (fun h => h3 ((hcond0_3 t).mp h))], after0_3]
          rw [show (dat0 V c).leavesExact 4 t = owns (c : Thread nD τ) (ms0_4 t) fullShare ((dat0 V c).after 4 t) from by
      unfold Dat.leavesExact; rw [liveAt0_4_A t ((hcond0_0 t).mpr h0) (fun h => h1 ((hcond0_1 t).mp h)) (fun h => h2 ((hcond0_2 t).mp h)) (fun h => h3 ((hcond0_3 t).mp h))], after0_4]
          rw [outsAt0_A V c t h0 h1 h2 h3, case0_A]
          unfold out0_A_3 out0_A_4; (try dsimp only)
          iintro ⟨⟨⟨HS0, HR1, HR2, HR3, HR4, HR5, HR6, HR7, HR8, HR9, HR10, HR11, HR12, HR13, HR14, HR15, HR16, HR17, HR18⟩, Hg⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ ((hcond0_0 t).mpr h0) (fun h => h1 ((hcond0_1 t).mp h)) (fun h => h2 ((hcond0_2 t).mp h)) (fun h => h3 ((hcond0_3 t).mp h)) (iblk0 V c 0 t) (iblk0 V c 1 t) (iblk0 V c 2 t)).2.2 Set.univ _)
          isplitl [H0]; · iexact H0
          isplitl [H1]; · iexact H1
          isplitl [H2]; · iexact H2
          isplitl [H3]; · iexists _; iexact H3
          isplitl [H4]; · iexists _; iexact H4
          isplitl [HS0]; · iexact HS0
          iintro ⟨H0, H1, H2, ⟨%e3, H3⟩, ⟨%e4, H4⟩, HS0⟩
          isplitl [HS0 HR1 HR2 HR3 HR4 HR5 HR6 HR7 HR8 HR9 HR10 HR11 HR12 HR13 HR14 HR15 HR16 HR17 HR18 Hg]
          · isplitl [HS0 HR1 HR2 HR3 HR4 HR5 HR6 HR7 HR8 HR9 HR10 HR11 HR12 HR13 HR14 HR15 HR16 HR17 HR18]
            · isplitl [HS0]
              · iexact HS0
              isplitl [HR1]
              · iexact HR1
              isplitl [HR2]
              · iexact HR2
              isplitl [HR3]
              · iexact HR3
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              isplitl [HR11]
              · iexact HR11
              isplitl [HR12]
              · iexact HR12
              isplitl [HR13]
              · iexact HR13
              isplitl [HR14]
              · iexact HR14
              isplitl [HR15]
              · iexact HR15
              isplitl [HR16]
              · iexact HR16
              isplitl [HR17]
              · iexact HR17
              iexact HR18
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_A_3 c _ _ _ _ _ _ _ _ _ _ _ _ _ _ _ _ _ _ _ _)
          unfold owns; iexists _; isplitr
          swap; · iexact H4
          ipureintro; exact View.read_writes_of_cover _ _ _ _ _ (cover0_A_4 c _ _ _ _ _ _ _ _ _ _ _ _ _ _ _ _ _ _ _ _)
  · by_cases h1 : t.val % 4 = 1
    · by_cases h2 : t.val % 4 = 2
      · exfalso; omega
      · by_cases h3 : t.val % 4 = 3
        · exfalso; omega
        · rw [show (dat0 V c).leavesExact 0 t = owns (c : Thread nD τ) (ms0_0 t) fullShare ((dat0 V c).after 0 t) from by
      unfold Dat.leavesExact; rw [liveAt0_0 t], after0_0]
          rw [show (dat0 V c).leavesExact 1 t = owns (c : Thread nD τ) (ms0_1 t) fullShare ((dat0 V c).after 1 t) from by
      unfold Dat.leavesExact; rw [liveAt0_1 t], after0_1]
          rw [show (dat0 V c).leavesExact 2 t = owns (c : Thread nD τ) (ms0_2 t) fullShare ((dat0 V c).after 2 t) from by
      unfold Dat.leavesExact; rw [liveAt0_2 t], after0_2]
          rw [show (dat0 V c).leavesExact 3 t = owns (c : Thread nD τ) (ms0_3 t) fullShare ((dat0 V c).after 3 t) from by
      unfold Dat.leavesExact; rw [liveAt0_3_B t (fun h => h0 ((hcond0_0 t).mp h)) ((hcond0_1 t).mpr h1) (fun h => h2 ((hcond0_2 t).mp h)) (fun h => h3 ((hcond0_3 t).mp h))], after0_3]
          rw [show (dat0 V c).leavesExact 4 t = owns (c : Thread nD τ) (ms0_4 t) fullShare ((dat0 V c).after 4 t) from by
      unfold Dat.leavesExact; rw [liveAt0_4_B t (fun h => h0 ((hcond0_0 t).mp h)) ((hcond0_1 t).mpr h1) (fun h => h2 ((hcond0_2 t).mp h)) (fun h => h3 ((hcond0_3 t).mp h))], after0_4]
          rw [outsAt0_B V c t h0 h1 h2 h3, case0_B]
          unfold out0_B_3 out0_B_4; (try dsimp only)
          iintro ⟨⟨⟨HS0, HR1, HR2, HR3, HR4, HR5, HR6, HR7, HR8, HR9, HR10, HR11, HR12, HR13, HR14, HR15, HR16, HR17, HR18⟩, Hg⟩, Ho, ⟨%d0, H0⟩, ⟨%d1, H1⟩, ⟨%d2, H2⟩, ⟨%d3, H3⟩, ⟨%d4, H4⟩⟩
          iapply ((kernelRun0_B c (grid0.coords t) _ _ _ _ _ _ _ _ _ _ _ _ (fun h => h0 ((hcond0_0 t).mp h)) ((hcond0_1 t).mpr h1) (fun h => h2 ((hcond0_2 t).mp h)) (fun h => h3 ((hcond0_3 t).mp h)) (iblk0 V c 0 t) (iblk0 V c 1 t) (iblk0 V c 2 t)).2.2 Set.univ _)
          isplitl [H0]; · iexact H0
          isplitl [H1]; · iexact H1
          isplitl [H2]; · iexact H2
          isplitl [H3]; · iexists _; iexact H3
          isplitl [H4]; · iexists _; iexact H4
          isplitl [HS0]; · iexact HS0
          iintro ⟨H0, H1, H2, ⟨%e3, H3⟩, ⟨%e4, H4⟩, HS0⟩
          isplitl [HS0 HR1 HR2 HR3 HR4 HR5 HR6 HR7 HR8 HR9 HR10 HR11 HR12 HR13 HR14 HR15 HR16 HR17 HR18 Hg]
          · isplitl [HS0 HR1 HR2 HR3 HR4 HR5 HR6 HR7 HR8 HR9 HR10 HR11 HR12 HR13 HR14 HR15 HR16 HR17 HR18]
            · isplitl [HS0]
              · iexact HS0
              isplitl [HR1]
              · iexact HR1
              isplitl [HR2]
              · iexact HR2
              isplitl [HR3]
              · iexact HR3
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              isplitl [HR11]
              · iexact HR11
              isplitl [HR12]
              · iexact HR12
              isplitl [HR13]
              · iexact HR13
              isplitl [HR14]
              · iexact HR14
              isplitl [HR15]
              · iexact HR15
              isplitl [HR16]
              · iexact HR16
              isplitl [HR17]
              · iexact HR17
              iexact HR18
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_B_3 c _ _ _ _ _ _ _ _ _ _ _ _ _ _ _ _ _ _ _ _)
          unfold owns; iexists _; isplitr
          swap; · iexact H4
          ipureintro; exact View.read_writes_of_cover _ _ _ _ _ (cover0_B_4 c _ _ _ _ _ _ _ _ _ _ _ _ _ _ _ _ _ _ _ _)
    · by_cases h2 : t.val % 4 = 2
      · by_cases h3 : t.val % 4 = 3
        · exfalso; omega
        · rw [show (dat0 V c).leavesExact 0 t = owns (c : Thread nD τ) (ms0_0 t) fullShare ((dat0 V c).after 0 t) from by
      unfold Dat.leavesExact; rw [liveAt0_0 t], after0_0]
          rw [show (dat0 V c).leavesExact 1 t = owns (c : Thread nD τ) (ms0_1 t) fullShare ((dat0 V c).after 1 t) from by
      unfold Dat.leavesExact; rw [liveAt0_1 t], after0_1]
          rw [show (dat0 V c).leavesExact 2 t = owns (c : Thread nD τ) (ms0_2 t) fullShare ((dat0 V c).after 2 t) from by
      unfold Dat.leavesExact; rw [liveAt0_2 t], after0_2]
          rw [show (dat0 V c).leavesExact 3 t = owns (c : Thread nD τ) (ms0_3 t) fullShare ((dat0 V c).after 3 t) from by
      unfold Dat.leavesExact; rw [liveAt0_3_C t (fun h => h0 ((hcond0_0 t).mp h)) (fun h => h1 ((hcond0_1 t).mp h)) ((hcond0_2 t).mpr h2) (fun h => h3 ((hcond0_3 t).mp h))], after0_3]
          rw [show (dat0 V c).leavesExact 4 t = owns (c : Thread nD τ) (ms0_4 t) fullShare ((dat0 V c).after 4 t) from by
      unfold Dat.leavesExact; rw [liveAt0_4_C t (fun h => h0 ((hcond0_0 t).mp h)) (fun h => h1 ((hcond0_1 t).mp h)) ((hcond0_2 t).mpr h2) (fun h => h3 ((hcond0_3 t).mp h))], after0_4]
          rw [outsAt0_C V c t h0 h1 h2 h3, case0_C]
          unfold out0_C_3 out0_C_4; (try dsimp only)
          iintro ⟨⟨⟨HS0, HR1, HR2, HR3, HR4, HR5, HR6, HR7, HR8, HR9, HR10, HR11, HR12, HR13, HR14, HR15, HR16, HR17, HR18⟩, Hg⟩, Ho, ⟨%d0, H0⟩, ⟨%d1, H1⟩, ⟨%d2, H2⟩, ⟨%d3, H3⟩, ⟨%d4, H4⟩⟩
          iapply ((kernelRun0_C c (grid0.coords t) _ _ _ _ _ _ _ _ _ _ _ _ (fun h => h0 ((hcond0_0 t).mp h)) (fun h => h1 ((hcond0_1 t).mp h)) ((hcond0_2 t).mpr h2) (fun h => h3 ((hcond0_3 t).mp h)) (iblk0 V c 0 t) (iblk0 V c 1 t) (iblk0 V c 2 t)).2.2 Set.univ _)
          isplitl [H0]; · iexact H0
          isplitl [H1]; · iexact H1
          isplitl [H2]; · iexact H2
          isplitl [H3]; · iexists _; iexact H3
          isplitl [H4]; · iexists _; iexact H4
          isplitl [HS0]; · iexact HS0
          iintro ⟨H0, H1, H2, ⟨%e3, H3⟩, ⟨%e4, H4⟩, HS0⟩
          isplitl [HS0 HR1 HR2 HR3 HR4 HR5 HR6 HR7 HR8 HR9 HR10 HR11 HR12 HR13 HR14 HR15 HR16 HR17 HR18 Hg]
          · isplitl [HS0 HR1 HR2 HR3 HR4 HR5 HR6 HR7 HR8 HR9 HR10 HR11 HR12 HR13 HR14 HR15 HR16 HR17 HR18]
            · isplitl [HS0]
              · iexact HS0
              isplitl [HR1]
              · iexact HR1
              isplitl [HR2]
              · iexact HR2
              isplitl [HR3]
              · iexact HR3
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              isplitl [HR11]
              · iexact HR11
              isplitl [HR12]
              · iexact HR12
              isplitl [HR13]
              · iexact HR13
              isplitl [HR14]
              · iexact HR14
              isplitl [HR15]
              · iexact HR15
              isplitl [HR16]
              · iexact HR16
              isplitl [HR17]
              · iexact HR17
              iexact HR18
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_C_3 c _ _ _ _ _ _ _ _ _ _ _ _ _ _ _ _ _ _ _ _)
          unfold owns; iexists _; isplitr
          swap; · iexact H4
          ipureintro; exact View.read_writes_of_cover _ _ _ _ _ (cover0_C_4 c _ _ _ _ _ _ _ _ _ _ _ _ _ _ _ _ _ _ _ _)
      · by_cases h3 : t.val % 4 = 3
        · rw [show (dat0 V c).leavesExact 0 t = owns (c : Thread nD τ) (ms0_0 t) fullShare ((dat0 V c).after 0 t) from by
      unfold Dat.leavesExact; rw [liveAt0_0 t], after0_0]
          rw [show (dat0 V c).leavesExact 1 t = owns (c : Thread nD τ) (ms0_1 t) fullShare ((dat0 V c).after 1 t) from by
      unfold Dat.leavesExact; rw [liveAt0_1 t], after0_1]
          rw [show (dat0 V c).leavesExact 2 t = owns (c : Thread nD τ) (ms0_2 t) fullShare ((dat0 V c).after 2 t) from by
      unfold Dat.leavesExact; rw [liveAt0_2 t], after0_2]
          rw [show (dat0 V c).leavesExact 3 t = owns (c : Thread nD τ) (ms0_3 t) fullShare ((dat0 V c).after 3 t) from by
      unfold Dat.leavesExact; rw [liveAt0_3_D t (fun h => h0 ((hcond0_0 t).mp h)) (fun h => h1 ((hcond0_1 t).mp h)) (fun h => h2 ((hcond0_2 t).mp h)) ((hcond0_3 t).mpr h3)], after0_3]
          rw [show (dat0 V c).leavesExact 4 t = owns (c : Thread nD τ) (ms0_4 t) fullShare ((dat0 V c).after 4 t) from by
      unfold Dat.leavesExact; rw [liveAt0_4_D t (fun h => h0 ((hcond0_0 t).mp h)) (fun h => h1 ((hcond0_1 t).mp h)) (fun h => h2 ((hcond0_2 t).mp h)) ((hcond0_3 t).mpr h3)], after0_4]
          rw [outsAt0_D V c t h0 h1 h2 h3, case0_D]
          unfold out0_D_3 out0_D_4; (try dsimp only)
          iintro ⟨⟨⟨HS0, HR1, HR2, HR3, HR4, HR5, HR6, HR7, HR8, HR9, HR10, HR11, HR12, HR13, HR14, HR15, HR16, HR17, HR18⟩, Hg⟩, Ho, ⟨%d0, H0⟩, ⟨%d1, H1⟩, ⟨%d2, H2⟩, ⟨%d3, H3⟩, ⟨%d4, H4⟩⟩
          iapply ((kernelRun0_D c (grid0.coords t) _ _ _ _ _ _ _ _ _ _ _ _ (fun h => h0 ((hcond0_0 t).mp h)) (fun h => h1 ((hcond0_1 t).mp h)) (fun h => h2 ((hcond0_2 t).mp h)) ((hcond0_3 t).mpr h3) (iblk0 V c 0 t) (iblk0 V c 1 t) (iblk0 V c 2 t)).2.2 Set.univ _)
          isplitl [H0]; · iexact H0
          isplitl [H1]; · iexact H1
          isplitl [H2]; · iexact H2
          isplitl [H3]; · iexists _; iexact H3
          isplitl [H4]; · iexists _; iexact H4
          isplitl [HS0]; · iexact HS0
          iintro ⟨H0, H1, H2, ⟨%e3, H3⟩, ⟨%e4, H4⟩, HS0⟩
          isplitl [HS0 HR1 HR2 HR3 HR4 HR5 HR6 HR7 HR8 HR9 HR10 HR11 HR12 HR13 HR14 HR15 HR16 HR17 HR18 Hg]
          · isplitl [HS0 HR1 HR2 HR3 HR4 HR5 HR6 HR7 HR8 HR9 HR10 HR11 HR12 HR13 HR14 HR15 HR16 HR17 HR18]
            · isplitl [HS0]
              · iexact HS0
              isplitl [HR1]
              · iexact HR1
              isplitl [HR2]
              · iexact HR2
              isplitl [HR3]
              · iexact HR3
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              isplitl [HR11]
              · iexact HR11
              isplitl [HR12]
              · iexact HR12
              isplitl [HR13]
              · iexact HR13
              isplitl [HR14]
              · iexact HR14
              isplitl [HR15]
              · iexact HR15
              isplitl [HR16]
              · iexact HR16
              isplitl [HR17]
              · iexact HR17
              iexact HR18
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_D_3 c _ _ _ _ _ _ _ _ _ _ _ _ _ _ _ _ _ _ _ _)
          unfold owns; iexists _; isplitr
          swap; · iexact H4
          ipureintro; exact View.read_writes_of_cover _ _ _ _ _ (cover0_D_4 c _ _ _ _ _ _ _ _ _ _ _ _ _ _ _ _ _ _ _ _)
        · exfalso; omega

/-- The body at point `t`'s buffers. -/
theorem defs₀_row0 (t : Fin cfg0.N) :
    defs₀ (F := F) .tc cfg0.body (cfg0.bodyArgs t (cfg0.slots t)) = bodyAt0 t := by
  unfold defs₀; rw [Defs.onTc_tc]

/-- The body's run at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Run

end
-- ==== Proof.Window.lean ====
module
public import proofs.«01_k».proof.Proof.Gen.KernelIdeal.Skeleton
public import Idealize.ShloMosaic.Lib.Pointwise
public import Idealize.ShloMosaic.Lib.KernelVsHost
/-!
# Sums over a window of rows

The kernel adds a window of 2, 4, 8 or 16 neighbouring rows of a 544-row extract by rotating the
extract and adding. Here each stage of that addition is read at an index as a sum of the extract's
rows over an interval.
-/
@[expose] public section
set_option maxRecDepth 16384
noncomputable section
namespace Cert.KernelIdeal.Val
open Idealize.ShloMosaic Cert.KernelIdeal Cert.KernelIdeal.Gen

/-- The rows of an extract of 544 rows and 256 columns. -/
abbrev Ext : Type := FVec Ideal S544x256 .f32

/-- The extract with its rows moved `s` places along, around the end. -/
def rot (s : BitVec 32) (x : Ext) : Ext := dynamicRotate 0 s none x rotates_S544x256_d0

/-- Each row and the row before it. -/
def win2 (x : Ext) : Ext := addf x (rot 1#32 x)
/-- Four rows: two pairs. -/
def win4 (x : Ext) : Ext := addf (rot 1#32 (win2 x)) (rot 543#32 (win2 x))
/-- Eight rows: two fours. -/
def win8 (x : Ext) : Ext := addf (rot 2#32 (win4 x)) (rot 542#32 (win4 x))
/-- Sixteen rows: two eights. -/
def win16 (x : Ext) : Ext := addf (rot 4#32 (win8 x)) (rot 540#32 (win8 x))

theorem rot_down (s : BitVec 32) (n : ℕ) (hs : s.toNat = n) (x : Ext) (i : Fin 544) (c : Fin 256)
    (h : n ≤ i.val) (hn : n < 544) : rot s x (ix2 i c) = x (ix2 ⟨i.val - n, by omega⟩ c) := by
  unfold rot
  refine dynamicRotate_apply _ _ _ _ _ _ fun b => ?_
  fin_cases b
  · show i.val - n = (i.val + 544 - s.toNat % 544) % 544
    rw [hs]; omega
  · rfl

theorem rot_up (s : BitVec 32) (n : ℕ) (hs : s.toNat = 544 - n) (x : Ext) (i : Fin 544) (c : Fin 256)
    (h : i.val + n < 544) (hn : 0 < n) : rot s x (ix2 i c) = x (ix2 ⟨i.val + n, h⟩ c) := by
  unfold rot
  refine dynamicRotate_apply _ _ _ _ _ _ fun b => ?_
  fin_cases b
  · show i.val + n = (i.val + 544 - s.toNat % 544) % 544
    rw [hs]; omega
  · rfl

/-- The rows of `x` from `lo` to `hi` are the sums of `X` over the rows from `a` before to `b` after. -/
def Sums (x : Ext) (X : ℕ → Fin 256 → EReal) (a b lo hi : ℕ) : Prop :=
  ∀ (i : Fin 544) (c : Fin 256), lo ≤ i.val → i.val < hi → x (ix2 i c) = ∑ j ∈ Finset.Ico (i.val - a) (i.val + b), X j c

variable {X : ℕ → Fin 256 → EReal} {x : FVec Ideal S544x256 .f32}

theorem sums_win2 (hx : ∀ (i : Fin 544) c, x (ix2 i c) = X i.val c) : Sums (win2 x) X 1 1 1 544 := by
  intro i c h1 h2
  have e : win2 x (ix2 i c) = x (ix2 i c) + rot 1#32 x (ix2 i c) := rfl
  rw [e, rot_down 1#32 1 rfl x i c h1 (by omega), hx, hx]
  obtain ⟨n, hn⟩ : ∃ n, i.val = n + 1 := ⟨i.val - 1, by omega⟩
  simp only [hn, Nat.add_sub_cancel]
  rw [Finset.sum_Ico_succ_top (by omega), Finset.sum_Ico_succ_top (by omega), Finset.Ico_self, Finset.sum_empty,
    zero_add, add_comm]

theorem sums_step (s1 s2 : BitVec 32) (n lo hi : ℕ) (hn : 0 < n) (hlo : n ≤ lo) (h1 : s1.toNat = n)
    (h2 : s2.toNat = 544 - n) (hhi : hi ≤ 544) (H : Sums x X n n lo hi) : Sums (addf (rot s1 x) (rot s2 x)) X (n + n) (n + n) (lo + n) (hi - n) := by
  intro i c hl hh
  have e : addf (rot s1 x) (rot s2 x) (ix2 i c) = rot s1 x (ix2 i c) + rot s2 x (ix2 i c) := rfl
  rw [e, rot_down s1 n h1 x i c (by omega) (by omega), rot_up s2 n h2 x i c (by omega) hn,
    H _ c (by show lo ≤ i.val - n; omega) (by show i.val - n < hi; omega),
    H _ c (by show lo ≤ i.val + n; omega) (by show i.val + n < hi; omega)]
  show ∑ j ∈ Finset.Ico (i.val - n - n) (i.val - n + n), X j c + ∑ j ∈ Finset.Ico (i.val + n - n) (i.val + n + n), X j c = _
  have e1 : i.val - n - n = i.val - (n + n) := by omega
  have e2 : i.val - n + n = i.val + n - n := by omega
  have e3 : i.val + n + n = i.val + (n + n) := by omega
  rw [e1, e2, e3, Finset.sum_Ico_consecutive _ (by omega) (by omega)]

theorem sums_win4 (hx : ∀ (i : Fin 544) c, x (ix2 i c) = X i.val c) : Sums (win4 x) X 2 2 2 543 :=
  sums_step 1#32 543#32 1 1 544 (by omega) (by omega) rfl rfl (by omega) (sums_win2 hx)

theorem sums_win8 (hx : ∀ (i : Fin 544) c, x (ix2 i c) = X i.val c) : Sums (win8 x) X 4 4 4 541 :=
  sums_step 2#32 542#32 2 2 543 (by omega) (by omega) rfl rfl (by omega) (sums_win4 hx)

theorem sums_win16 (hx : ∀ (i : Fin 544) c, x (ix2 i c) = X i.val c) : Sums (win16 x) X 8 8 8 537 :=
  sums_step 4#32 540#32 4 4 541 (by omega) (by omega) rfl rfl (by omega) (sums_win8 hx)

/-- The sums moved one row back: each window reaches one row further on. -/
theorem sums_next {a lo hi : ℕ} (H : Sums x X a a lo hi) (ha : 0 < a) (hlo : a ≤ lo) (hhi : hi ≤ 544) :
    Sums (rot 543#32 x) X (a - 1) (a + 1) lo (hi - 1) := by
  intro i c hl hh
  rw [rot_up 543#32 1 rfl x i c (by omega) (by omega), H _ c (by show lo ≤ i.val + 1; omega) (by show i.val + 1 < hi; omega)]
  show ∑ j ∈ Finset.Ico (i.val + 1 - a) (i.val + 1 + a), X j c = _
  have e1 : i.val + 1 - a = i.val - (a - 1) := by omega
  have e2 : i.val + 1 + a = i.val + (a + 1) := by omega
  rw [e1, e2]

end Cert.KernelIdeal.Val
-- ==== Proof.Spec.lean ====
module
public import Idealize.ShloMosaic.Lib.Pointwise
/-!
# The pool's quantities, entry by entry

The multiscale pool averages each channel over a window of rows, subtracts the channel and
multiplies by one matrix per group of 256 channels. The definitions here name these quantities for
one group, over the extended reals.
-/
@[expose] public section
set_option maxRecDepth 16384
noncomputable section
namespace Cert.PoolSpec
open Idealize.ShloMosaic

/-- The rows of `u` with sixteen rows of zeros before them and zeros after them. -/
def padded (u : Fin 4096 → Fin 256 → EReal) (i : ℕ) (c : Fin 256) : EReal :=
  if h : 16 ≤ i ∧ i < 4112 then u ⟨i - 16, by omega⟩ c else 0

/-- How many rows the window of half-width `h` around row `t` keeps. -/
def count (h t : ℕ) : ℕ := min (t + h) 4096 - (t - h)

/-- The reciprocal of the count. -/
def invCount (h t : ℕ) : EReal := Ideal.div 1 (((count h t : ℕ) : ℝ) : EReal)

/-- The mean over the window of half-width `h` around row `t`, less the row itself. -/
def dev (h : ℕ) (u : Fin 4096 → Fin 256 → EReal) (t : Fin 4096) (c : Fin 256) : EReal :=
  (∑ j ∈ Finset.Ico (16 + t.val - h) (16 + t.val + h), padded u j c) * invCount h t.val - u t c

theorem padded_mid (u : Fin 4096 → Fin 256 → EReal) (t : Fin 4096) (c : Fin 256) : padded u (16 + t.val) c = u t c := by
  unfold padded
  rw [dif_pos ⟨by omega, by omega⟩]
  congr 1
  exact Fin.ext (by show 16 + t.val - 16 = t.val; omega)

/-- The count as the words compute it. -/
theorem count_word1 : ∀ t : Fin 4096, IntOp.subi (IntOp.minsi (IntOp.addi (BitVec.ofNat 32 t.val) 1#32) 4096#32)
    (IntOp.maxsi (IntOp.subi (BitVec.ofNat 32 t.val) 1#32) 0#32) = BitVec.ofNat 32 (count 1 t.val) := by decide +kernel
theorem count_word2 : ∀ t : Fin 4096, IntOp.subi (IntOp.minsi (IntOp.addi (BitVec.ofNat 32 t.val) 2#32) 4096#32)
    (IntOp.maxsi (IntOp.subi (BitVec.ofNat 32 t.val) 2#32) 0#32) = BitVec.ofNat 32 (count 2 t.val) := by decide +kernel
theorem count_word4 : ∀ t : Fin 4096, IntOp.subi (IntOp.minsi (IntOp.addi (BitVec.ofNat 32 t.val) 4#32) 4096#32)
    (IntOp.maxsi (IntOp.subi (BitVec.ofNat 32 t.val) 4#32) 0#32) = BitVec.ofNat 32 (count 4 t.val) := by decide +kernel
theorem count_word8 : ∀ t : Fin 4096, IntOp.subi (IntOp.minsi (IntOp.addi (BitVec.ofNat 32 t.val) 8#32) 4096#32)
    (IntOp.maxsi (IntOp.subi (BitVec.ofNat 32 t.val) 8#32) 0#32) = BitVec.ofNat 32 (count 8 t.val) := by decide +kernel

theorem count_pos (h t : ℕ) (hh : 0 < h) (ht : t < 4096) : 0 < count h t := by unfold count; omega
theorem count_le (h t : ℕ) : count h t ≤ 4096 := by unfold count; omega

theorem sitofp_count (n : ℕ) (hn : n ≤ 4096) :
    FloatOps.sitofp (F := Ideal) .f32 (BitVec.ofNat 32 n) = ((n : ℝ) : EReal) := by
  show (((BitVec.ofNat 32 n).toInt : ℝ) : EReal) = _
  have : (BitVec.ofNat 32 n).toInt = (n : ℤ) := by
    rw [BitVec.toInt_eq_toNat_of_lt (by simp [BitVec.toNat_ofNat]; omega)]
    simp [BitVec.toNat_ofNat]; omega
  rw [this]; simp

end Cert.PoolSpec
-- ==== Proof.FwdRows.lean ====
module
public import proofs.«01_k».proof.Proof.Window
public import proofs.«01_k».proof.Proof.Spec
/-!
# The forward kernel's stored rows

Each of the forward kernel's four cases stores, for a chunk of 512 rows, the deviations from the
window's mean and their product with the group's matrix, scaled. Both are read here at an index.
-/
@[expose] public section
set_option maxRecDepth 16384
noncomputable section
namespace Cert.KernelIdeal.Val
open Idealize.ShloMosaic Cert.KernelIdeal Cert.KernelIdeal.Gen Cert.PoolSpec

/-- The word of a row: the chunk's first row and the row within it. -/
theorem row_word (w : BitVec 32) (b r : ℕ) (hw : w = BitVec.ofNat 32 b) :
    IntOp.addi w (BitVec.ofNat 32 r) = BitVec.ofNat 32 (b + r) := by
  subst hw
  show BitVec.ofNat 32 b + BitVec.ofNat 32 r = _
  rw [BitVec.ofNat_add]

theorem chunk_word : ∀ k : Fin 8, Scalar.muli (Scf.iv 0#32 1#32 k.val) 512#32 = BitVec.ofNat 32 (512 * k.val) := by
  decide +kernel

/-- A window's sum within a chunk's extract is the window's sum over all rows. -/
theorem sum_shift (u : Fin 4096 → Fin 256 → EReal) (b r h h' : ℕ) (hh : h ≤ 16) (c : Fin 256) :
    ∑ x ∈ Finset.Ico (16 + r - h) (16 + r + h'), padded u (b + x) c
      = ∑ j ∈ Finset.Ico (16 + (b + r) - h) (16 + (b + r) + h'), padded u j c := by
  rw [Finset.sum_Ico_add (fun j => padded u j c) (16 + r - h) (16 + r + h') b]
  have e1 : 16 + r - h + b = 16 + (b + r) - h := by omega
  have e2 : 16 + r + h' + b = 16 + (b + r) + h' := by omega
  rw [e1, e2]

/-- The product of the deviations with the group's matrix, scaled. -/
def outRow (d : Fin 4096 → Fin 256 → EReal) (w : Fin 256 → Fin 256 → EReal) (s : Fin 256 → EReal) (t : Fin 4096)
    (c : Fin 256) : EReal := (∑ e : Fin 256, d t e * w e c) * s c

/-- The reciprocals of the counts of a chunk's rows. -/
def invRows (hw b : BitVec 32) : FVec Ideal S512x256 .f32 :=
  broadcastTo S512x256
    (divf (broadcast S512x1 (Scalar.ofBits (F := Ideal) .f32 0x3F800000#32))
      (sitofp .f32 (subi (minsi (addi (addi (broadcast S512x1 b) (iota .tc S512x1 32 [0] iota_S512x1_d0_w32)) (broadcast S512x1 hw))
          (broadcast S512x1 4096#32))
        (maxsi (subi (addi (broadcast S512x1 b) (iota .tc S512x1 32 [0] iota_S512x1_d0_w32)) (broadcast S512x1 hw)) (broadcast S512x1 0#32)))))
    broadcasts_S512x1_S512x256

/-- A chunk's sums over the window, divided by the counts, less the chunk's own rows. -/
def centred (hw b : BitVec 32) (s x : FVec Ideal S544x256 .f32) : FVec Ideal S512x256 .bf16 :=
  truncf .bf16 (subf (mulf (extractStridedSlice S512x256 ![16, 0] s slices_S544x256_o16_0_S512x256) (invRows hw b))
    (extractStridedSlice S512x256 ![16, 0] x slices_S544x256_o16_0_S512x256)) bitsLt_bf16_f32

theorem invRows_apply (hw b : BitVec 32) (h bn : ℕ) (hb : b = BitVec.ofNat 32 bn) (r : Fin 512) (c : Fin 256)
    (H : IntOp.subi (IntOp.minsi (IntOp.addi (BitVec.ofNat 32 (bn + r.val)) hw) 4096#32)
      (IntOp.maxsi (IntOp.subi (BitVec.ofNat 32 (bn + r.val)) hw) 0#32) = BitVec.ofNat 32 (count h (bn + r.val))) :
    invRows hw b (ix2 r c) = invCount h (bn + r.val) := by
  pointwise [invRows]
  rw [row_word _ _ r.val hb, H, sitofp_count _ (count_le _ _)]
  rfl

theorem centred_apply (hw b : BitVec 32) (h bn : ℕ) (hh : h ≤ 16) (hbn : bn + 512 ≤ 4096) (hb : b = BitVec.ofNat 32 bn)
    (H : ∀ t : Fin 4096, IntOp.subi (IntOp.minsi (IntOp.addi (BitVec.ofNat 32 t.val) hw) 4096#32)
      (IntOp.maxsi (IntOp.subi (BitVec.ofNat 32 t.val) hw) 0#32) = BitVec.ofNat 32 (count h t.val))
    (s x : FVec Ideal S544x256 .f32) (u : Fin 4096 → Fin 256 → EReal)
    (hx : ∀ (i : Fin 544) c, x (ix2 i c) = padded u (bn + i.val) c) {lo hi : ℕ} (hlo : lo ≤ 16) (hhi : 528 ≤ hi)
    (hs : Sums s (fun i c => padded u (bn + i) c) h h lo hi) (r : Fin 512) (c : Fin 256) :
    centred hw b s x (ix2 r c) = dev h u ⟨bn + r.val, by omega⟩ c := by
  have e : centred hw b s x (ix2 r c) = s (ix2 ⟨16 + r.val, by omega⟩ c) * invRows hw b (ix2 r c) - x (ix2 ⟨16 + r.val, by omega⟩ c) := by
    pointwise [centred]
  rw [e, hs _ c (by show lo ≤ 16 + r.val; omega) (by show 16 + r.val < hi; omega), hx,
    invRows_apply hw b h bn hb r c (H ⟨bn + r.val, by omega⟩), sum_shift _ _ _ _ _ hh,
    show bn + (16 + r.val) = 16 + (bn + r.val) by omega, padded_mid u ⟨bn + r.val, by omega⟩ c]
  rfl

theorem k0_pay6_apply (k : Fin k0_t2_loop.trips) (kn : Fin 8) (hk : k.val = kn.val)
    (e : FVec Ideal S544x256 .f32) (u : Fin 4096 → Fin 256 → EReal)
    (he : ∀ (i : Fin 544) c, e (ix2 i c) = padded u (512 * kn.val + i.val) c) (r : Fin 512) (c : Fin 256) :
    k0_pay6 (F := Ideal)  k e (ix2 r c) = dev 1 u ⟨512 * kn.val + r.val, by omega⟩ c := by
  rw [show k0_pay6 (F := Ideal)  k e = centred 1#32 (Scalar.muli (Scf.iv 0#32 1#32 k.val) 512#32) (win2 e) e from rfl]
  exact centred_apply 1#32 _ 1 (512 * kn.val) (by omega) (by omega) (by rw [hk]; exact chunk_word kn) count_word1 _ e u he
    (by omega) (by omega) (sums_win2 (X := fun i c => padded u (512 * kn.val + i) c) he) r c

theorem k0_pay7_apply (w8 : Vec Ideal S1x256x256 .bf16) (s : Vec Ideal S1x256 .f32) (k : Fin k0_t2_loop.trips)
    (e : FVec Ideal S544x256 .f32) (d : Fin 512 → Fin 256 → EReal)
    (hd : ∀ r c, k0_pay6 (F := Ideal)  k e (ix2 r c) = d r c) (r : Fin 512) (c : Fin 256) :
    k0_pay7 (F := Ideal) w8 s  k e (ix2 r c) = (∑ e : Fin 256, d r e * w8 (ix3 0 e c)) * s (ix2 0 c) := by
  pointwise [k0_pay7, k0_pay5, hd]

theorem k0_pay8_apply (k : Fin k0_t3_loop.trips) (kn : Fin 8) (hk : k.val = kn.val)
    (e : FVec Ideal S544x256 .f32) (u : Fin 4096 → Fin 256 → EReal)
    (he : ∀ (i : Fin 544) c, e (ix2 i c) = padded u (512 * kn.val + i.val) c) (r : Fin 512) (c : Fin 256) :
    k0_pay8 (F := Ideal)  k e (ix2 r c) = dev 2 u ⟨512 * kn.val + r.val, by omega⟩ c := by
  rw [show k0_pay8 (F := Ideal)  k e = centred 2#32 (Scalar.muli (Scf.iv 0#32 1#32 k.val) 512#32) (win4 e) e from rfl]
  exact centred_apply 2#32 _ 2 (512 * kn.val) (by omega) (by omega) (by rw [hk]; exact chunk_word kn) count_word2 _ e u he
    (by omega) (by omega) (sums_win4 (X := fun i c => padded u (512 * kn.val + i) c) he) r c

theorem k0_pay9_apply (w8 : Vec Ideal S1x256x256 .bf16) (s : Vec Ideal S1x256 .f32) (k : Fin k0_t3_loop.trips)
    (e : FVec Ideal S544x256 .f32) (d : Fin 512 → Fin 256 → EReal)
    (hd : ∀ r c, k0_pay8 (F := Ideal)  k e (ix2 r c) = d r c) (r : Fin 512) (c : Fin 256) :
    k0_pay9 (F := Ideal) w8 s  k e (ix2 r c) = (∑ e : Fin 256, d r e * w8 (ix3 0 e c)) * s (ix2 0 c) := by
  pointwise [k0_pay9, k0_pay5, hd]

theorem k0_pay10_apply (k : Fin k0_t4_loop.trips) (kn : Fin 8) (hk : k.val = kn.val)
    (e : FVec Ideal S544x256 .f32) (u : Fin 4096 → Fin 256 → EReal)
    (he : ∀ (i : Fin 544) c, e (ix2 i c) = padded u (512 * kn.val + i.val) c) (r : Fin 512) (c : Fin 256) :
    k0_pay10 (F := Ideal)  k e (ix2 r c) = dev 4 u ⟨512 * kn.val + r.val, by omega⟩ c := by
  rw [show k0_pay10 (F := Ideal)  k e = centred 4#32 (Scalar.muli (Scf.iv 0#32 1#32 k.val) 512#32) (win8 e) e from rfl]
  exact centred_apply 4#32 _ 4 (512 * kn.val) (by omega) (by omega) (by rw [hk]; exact chunk_word kn) count_word4 _ e u he
    (by omega) (by omega) (sums_win8 (X := fun i c => padded u (512 * kn.val + i) c) he) r c

theorem k0_pay11_apply (w8 : Vec Ideal S1x256x256 .bf16) (s : Vec Ideal S1x256 .f32) (k : Fin k0_t4_loop.trips)
    (e : FVec Ideal S544x256 .f32) (d : Fin 512 → Fin 256 → EReal)
    (hd : ∀ r c, k0_pay10 (F := Ideal)  k e (ix2 r c) = d r c) (r : Fin 512) (c : Fin 256) :
    k0_pay11 (F := Ideal) w8 s  k e (ix2 r c) = (∑ e : Fin 256, d r e * w8 (ix3 0 e c)) * s (ix2 0 c) := by
  pointwise [k0_pay11, k0_pay5, hd]

theorem k0_pay12_apply (k : Fin k0_t5_loop.trips) (kn : Fin 8) (hk : k.val = kn.val)
    (e : FVec Ideal S544x256 .f32) (u : Fin 4096 → Fin 256 → EReal)
    (he : ∀ (i : Fin 544) c, e (ix2 i c) = padded u (512 * kn.val + i.val) c) (r : Fin 512) (c : Fin 256) :
    k0_pay12 (F := Ideal) 0#32 1#32 k e (ix2 r c) = dev 8 u ⟨512 * kn.val + r.val, by omega⟩ c := by
  rw [show k0_pay12 (F := Ideal) 0#32 1#32 k e = centred 8#32 (Scalar.muli (Scf.iv 0#32 1#32 k.val) 512#32) (win16 e) e from rfl]
  exact centred_apply 8#32 _ 8 (512 * kn.val) (by omega) (by omega) (by rw [hk]; exact chunk_word kn) count_word8 _ e u he
    (by omega) (by omega) (sums_win16 (X := fun i c => padded u (512 * kn.val + i) c) he) r c

theorem k0_pay13_apply (w8 : FVec Ideal S256x256 .bf16) (s : Vec Ideal S1x256 .f32) (k : Fin k0_t5_loop.trips)
    (e : FVec Ideal S544x256 .f32) (d : Fin 512 → Fin 256 → EReal)
    (hd : ∀ r c, k0_pay12 (F := Ideal) 0#32 1#32 k e (ix2 r c) = d r c) (r : Fin 512) (c : Fin 256) :
    k0_pay13 (F := Ideal) w8 s 0#32 1#32 k e (ix2 r c) = (∑ e : Fin 256, d r e * w8 (ix2  e c)) * s (ix2 0 c) := by
  pointwise [k0_pay13, k0_pay5, hd]

end Cert.KernelIdeal.Val
-- ==== Proof.Pieces.lean ====
module
public import Idealize.ShloMosaic.Lib.Pointwise
public import Idealize.ShloMosaic.Lib.Writes
/-!
# Stores that agree with one function

A buffer written piece by piece, every piece holding the values of one function at its own places,
reads as that function wherever some piece lies.
-/
@[expose] public section
set_option maxRecDepth 16384
noncomputable section
namespace Cert.Pieces
open Idealize.ShloMosaic

variable {s : Shape} {e : EltTy}

/-- Every piece of `L` holds the values of `G` at its own places. -/
def Agree (G : s.Idx → Elt Ideal e) (L : List (View.Piece (Elt Ideal) s e)) : Prop :=
  ∀ p ∈ L, ∀ x : p.1.shape.Idx, p.2 x = G (p.1.emb x)

/-- The place `y` lies in some piece of `L`. -/
def Covers (L : List (View.Piece (Elt Ideal) s e)) (y : s.Idx) : Prop := ∃ p ∈ L, y ∈ p.1.set

theorem Agree.nil (G : s.Idx → Elt Ideal e) : Agree G [] := fun _ h => absurd h List.not_mem_nil

theorem Agree.append {G : s.Idx → Elt Ideal e} {L M : List (View.Piece (Elt Ideal) s e)} (hL : Agree G L) (hM : Agree G M) :
    Agree G (L ++ M) := fun p hp => (List.mem_append.mp hp).elim (hL p) (hM p)

theorem Agree.cons {G : s.Idx → Elt Ideal e} {p : View.Piece (Elt Ideal) s e} {L : List (View.Piece (Elt Ideal) s e)}
    (hp : ∀ x : p.1.shape.Idx, p.2 x = G (p.1.emb x)) (hL : Agree G L) : Agree G (p :: L) :=
  fun q hq => (List.mem_cons.mp hq).elim (fun h => by subst h; exact hp) (hL q)

theorem Covers.left {L M : List (View.Piece (Elt Ideal) s e)} {y : s.Idx} (h : Covers L y) : Covers (L ++ M) y :=
  let ⟨p, hp, hy⟩ := h; ⟨p, List.mem_append_left _ hp, hy⟩

theorem Covers.right {L M : List (View.Piece (Elt Ideal) s e)} {y : s.Idx} (h : Covers M y) : Covers (L ++ M) y :=
  let ⟨p, hp, hy⟩ := h; ⟨p, List.mem_append_right _ hp, hy⟩

theorem Covers.head {p : View.Piece (Elt Ideal) s e} {L : List (View.Piece (Elt Ideal) s e)} {y : s.Idx} (h : y ∈ p.1.set) :
    Covers (p :: L) y := ⟨p, List.mem_cons_self, h⟩

theorem Covers.tail {p : View.Piece (Elt Ideal) s e} {L : List (View.Piece (Elt Ideal) s e)} {y : s.Idx} (h : Covers L y) :
    Covers (p :: L) y := let ⟨q, hq, hy⟩ := h; ⟨q, List.mem_cons_of_mem _ hq, hy⟩

/-- Wherever the pieces lie, the buffer reads as the function. -/
theorem read_of_agree {sig : _} {κ : _} {sp : _} (v : View sig κ sp s e) (f : v.ty.Contents (Elt Ideal)) {G : s.Idx → Elt Ideal e}
    {L : List (View.Piece (Elt Ideal) s e)} (hG : Agree G L) {y : s.Idx} (hy : Covers L y) :
    v.read (Elt Ideal) (v.writes (Elt Ideal) f L) y = G y :=
  View.read_writes_apply_of_pieces v f G L hG y hy

/-- Pieces made trip by trip agree when each trip's do. -/
theorem agree_trips {G : s.Idx → Elt Ideal e} (T : ℕ) (pb : ℕ → List (View.Piece (Elt Ideal) s e))
    (trip : Fin T → List (View.Piece (Elt Ideal) s e)) (h0 : pb 0 = []) (hs : ∀ k : Fin T, pb (k.val + 1) = trip k ++ pb k.val)
    (ht : ∀ k, Agree G (trip k)) : ∀ n, n ≤ T → Agree G (pb n)
  | 0, _ => by rw [h0]; exact Agree.nil G
  | n + 1, h => by rw [hs ⟨n, h⟩]; exact (ht _).append (agree_trips T pb trip h0 hs ht n (by omega))

/-- A place in trip `k`'s pieces is covered once the trip has run. -/
theorem covers_trips (T : ℕ) (pb : ℕ → List (View.Piece (Elt Ideal) s e)) (trip : Fin T → List (View.Piece (Elt Ideal) s e))
    (hs : ∀ k : Fin T, pb (k.val + 1) = trip k ++ pb k.val) {y : s.Idx} (k : Fin T) (hy : Covers (trip k) y) :
    ∀ n, k.val < n → n ≤ T → Covers (pb n) y
  | 0, h, _ => by omega
  | n + 1, h, hn => by
    rw [hs ⟨n, hn⟩]
    by_cases e : k.val = n
    · have : k = ⟨n, hn⟩ := Fin.ext e
      rw [← this]; exact hy.left
    · exact (covers_trips T pb trip hs k hy n (by omega) (by omega)).right

/-- A rectangle of unit steps takes the place `(a, b)` to its offsets plus `(a, b)`. -/
theorem unit_emb2 {m n p q o0 o1 : ℕ} {off : Fin 2 → ℕ} (ho : off = ![o0, o1])
    (inb : ∀ a, off a + (![p, q] : Fin 2 → ℕ) a ≤ (⟨2, ![m, n]⟩ : Shape).size a) (a : Fin p) (b : Fin q)
    (ha : o0 + a.val < m) (hb : o1 + b.val < n) :
    (Rect.unit (s := ⟨2, ![m, n]⟩) off ![p, q] inb).emb (ix2 a b) = ix2 ⟨o0 + a.val, ha⟩ ⟨o1 + b.val, hb⟩ := by
  subst ho
  funext d
  refine Fin.ext ?_
  fin_cases d
  · show o0 + 1 * a.val = o0 + a.val; omega
  · show o1 + 1 * b.val = o1 + b.val; omega

/-- The load of the same rectangle. -/
theorem unit_idx2 {m n p q o0 o1 : ℕ} {off : Fin 2 → ℕ} (ho : off = ![o0, o1])
    (inb : ∀ a, off a + (![p, q] : Fin 2 → ℕ) a ≤ (⟨2, ![m, n]⟩ : Shape).size a) (a : Fin p) (b : Fin q)
    (ha : o0 + a.val < m) (hb : o1 + b.val < n) :
    (Rect.unit (s := ⟨2, ![m, n]⟩) off ![p, q] inb).toLoadRect.idx (ix2 a b) = ix2 ⟨o0 + a.val, ha⟩ ⟨o1 + b.val, hb⟩ :=
  unit_emb2 ho inb a b ha hb

theorem unit_mem2 {m n p q o0 o1 : ℕ} {off : Fin 2 → ℕ} (ho : off = ![o0, o1])
    (inb : ∀ a, off a + (![p, q] : Fin 2 → ℕ) a ≤ (⟨2, ![m, n]⟩ : Shape).size a) (a : Fin m) (b : Fin n)
    (h0 : o0 ≤ a.val) (h1 : a.val < o0 + p) (h2 : o1 ≤ b.val) (h3 : b.val < o1 + q) :
    ix2 a b ∈ (Rect.unit (s := ⟨2, ![m, n]⟩) off ![p, q] inb).set := by
  subst ho
  rw [Rect.mem_set_unit]
  intro d
  fin_cases d
  · exact ⟨h0, h1⟩
  · exact ⟨h2, h3⟩

theorem unit_idx3 {l m n o p q o0 o1 o2 : ℕ} {off : Fin 3 → ℕ} (ho : off = ![o0, o1, o2])
    (inb : ∀ a, off a + (![o, p, q] : Fin 3 → ℕ) a ≤ (⟨3, ![l, m, n]⟩ : Shape).size a) (a : Fin o) (b : Fin p) (d : Fin q)
    (ha : o0 + a.val < l) (hb : o1 + b.val < m) (hd : o2 + d.val < n) :
    (Rect.unit (s := ⟨3, ![l, m, n]⟩) off ![o, p, q] inb).toLoadRect.idx (ix3 a b d)
      = ix3 ⟨o0 + a.val, ha⟩ ⟨o1 + b.val, hb⟩ ⟨o2 + d.val, hd⟩ := by
  subst ho
  funext e
  refine Fin.ext ?_
  fin_cases e
  · show o0 + 1 * a.val = o0 + a.val; omega
  · show o1 + 1 * b.val = o1 + b.val; omega
  · show o2 + 1 * d.val = o2 + d.val; omega

end Cert.Pieces
-- ==== Proof.FwdLoops.lean ====
module
public import proofs.«01_k».proof.Proof.FwdRows
public import proofs.«01_k».proof.Proof.Pieces
public import proofs.«01_k».proof.Proof.Gen.KernelIdeal.Loops
/-!
# The forward kernel's loops

The first loop copies a group's channels into a buffer with rows of zeros around them; the second
goes through it in chunks of 512 rows. The stores of both, trip by trip, agree with the pool's
quantities.
-/
@[expose] public section
set_option maxRecDepth 16384
noncomputable section
namespace Cert.KernelIdeal.Val
open Idealize.ShloMosaic Cert.KernelIdeal Cert.KernelIdeal.Gen Cert.PoolSpec Cert.Pieces
open Idealize.SL Idealize.SL.Sem

theorem pay5_apply (v8 : Vec Ideal S1x256x256 .bf16) (a b : Fin 256) : k0_pay5 (F := Ideal) v8 (ix2 a b) = v8 (ix3 0 a b) := by
  pointwise [k0_pay5]

/-- The fill loop's stores hold the channel's rows, sixteen rows down. -/
theorem fwd_fill_agree (𝒱) (c) (bd) (i) (a1 h1 a2 h2 a3 h3 a4 h4 a5 h5 a6 h6) (X : BufTy.Contents (Elt Ideal) a1.view.ty)
    (u : Fin 4096 → Fin 256 → EReal) (hu : ∀ t d, a1.view.read (Elt Ideal) X (ix3 0 t d) = u t d) (k) :
    Agree (fun y => padded u (y 0).val (y 1)) (tripL_k0_t1 (F := Ideal) 𝒱 c bd i a1 h1 a2 h2 a3 h3 a4 h4 a5 h5 a6 h6 X k) := by
  unfold tripL_k0_t1 trip_k0_t1
  dsimp only
  refine Agree.cons (fun x => ?_) (Agree.nil _)
  obtain ⟨r, d, rfl⟩ : ∃ (r : Fin 512) (d : Fin 256), x = ix2 r d := ⟨_, _, eq_ix2 x⟩
  have hk : k.val < 8 := Nat.lt_of_lt_of_le k.isLt k0_t1_abs.2.1
  dsimp only
  rw [unit_emb2 (m := 4128) (n := 256) (o0 := 512 * k.val + 16) (o1 := 0) (k0_off2_eq k) _ r d (by omega) (by omega)]
  pointwise [k0_pay4]
  rw [View.readAt_apply, unit_idx3 (l := 1) (m := 4096) (n := 256) (o0 := 0) (o1 := 512 * k.val) (o2 := 0) (k0_off1_eq k) _ 0 r d
    (by simp) (by omega) (by omega)]
  have e := hu ⟨512 * k.val + r.val, by omega⟩ d
  rw [← padded_mid u ⟨512 * k.val + r.val, by omega⟩ d] at e
  simpa [show 512 * k.val + 16 + r.val = 16 + (512 * k.val + r.val) by omega] using e

/-- The fill loop's stores reach every row of the channel's place. -/
theorem fwd_fill_covers (𝒱) (c) (bd) (i) (a1 h1 a2 h2 a3 h3 a4 h4 a5 h5 a6 h6) (X : BufTy.Contents (Elt Ideal) a1.view.ty)
    (t : Fin 4128) (d : Fin 256) (hl : 16 ≤ t.val) (hh : t.val < 4112) :
    Covers (pb_k0_t1 (F := Ideal) 𝒱 c bd i a1 h1 a2 h2 a3 h3 a4 h4 a5 h5 a6 h6 X k0_t1_loop.trips) (ix2 t d) := by
  have hT : k0_t1_loop.trips = 8 := by decide +kernel
  refine covers_trips k0_t1_loop.trips _ _ (pb_k0_t1_succ 𝒱 c bd i a1 h1 a2 h2 a3 h3 a4 h4 a5 h5 a6 h6 X)
    ⟨(t.val - 16) / 512, by rw [hT]; omega⟩ ?_ _ (show (t.val - 16) / 512 < k0_t1_loop.trips by rw [hT]; omega) le_rfl
  unfold tripL_k0_t1 trip_k0_t1
  dsimp only
  refine Covers.head (unit_mem2 (m := 4128) (n := 256) (o0 := 512 * ((t.val - 16) / 512) + 16) (o1 := 0) (k0_off2_eq _) (k0_off2_inb _) t d
    (by show 512 * ((t.val - 16) / 512) + 16 ≤ t.val; omega) (by show t.val < 512 * ((t.val - 16) / 512) + 16 + 512; omega)
    (by omega) (by omega))

theorem fwd_fill_agrees (𝒱) (c) (bd) (i) (a1 h1 a2 h2 a3 h3 a4 h4 a5 h5 a6 h6) (X : BufTy.Contents (Elt Ideal) a1.view.ty)
    (u : Fin 4096 → Fin 256 → EReal) (hu : ∀ t d, a1.view.read (Elt Ideal) X (ix3 0 t d) = u t d) :
    Agree (fun y => padded u (y 0).val (y 1))
      (pb_k0_t1 (F := Ideal) 𝒱 c bd i a1 h1 a2 h2 a3 h3 a4 h4 a5 h5 a6 h6 X k0_t1_loop.trips) :=
  agree_trips k0_t1_loop.trips _ _ rfl (pb_k0_t1_succ 𝒱 c bd i a1 h1 a2 h2 a3 h3 a4 h4 a5 h5 a6 h6 X)
    (fwd_fill_agree 𝒱 c bd i a1 h1 a2 h2 a3 h3 a4 h4 a5 h5 a6 h6 X u hu) _ le_rfl

/-- Each chunk's two stores of the case with half-width 1: the deviations, and their product with the matrix. -/
theorem fwd_agree_1 (𝒱) (c) (bd) (i) (a1 h1 a2 h2 a3 h3 a4 h4 a5 h5 a6 h6) (v8 v10 hc) (X : BufTy.Contents (Elt Ideal) a6.view.ty)
    (u : Fin 4096 → Fin 256 → EReal) (hu : ∀ t d, a6.view.read (Elt Ideal) X (ix2 t d) = padded u t.val d) (k) :
    Agree (fun y => dev 1 u (y 0) (y 1)) (tripL_k0_t2 (F := Ideal) 𝒱 c bd i a1 h1 a2 h2 a3 h3 a4 h4 a5 h5 a6 h6 v8 v10 hc X k).1
    ∧ Agree (fun y => outRow (dev 1 u) (fun a b => v8 (ix3 0 a b)) (fun b => v10 (ix2 0 b)) (y 0) (y 1))
      (tripL_k0_t2 (F := Ideal) 𝒱 c bd i a1 h1 a2 h2 a3 h3 a4 h4 a5 h5 a6 h6 v8 v10 hc X k).2 := by
  have hk : k.val < 8 := Nat.lt_of_lt_of_le k.isLt k0_t2_abs.2.1
  have he : ∀ (j : Fin 544) (d : Fin 256), View.readAt (Elt Ideal) a6.view
      (Rect.unit (s := S4128x256) (k0_off3 k) S544x256.size (k0_off3_inb i k hc)).toLoadRect X (ix2 j d) = padded u (512 * k.val + j.val) d := by
    intro j d
    rw [View.readAt_apply, unit_idx2 (m := 4128) (n := 256) (o0 := 512 * k.val) (o1 := 0) (k0_off3_eq k) _ j d (by omega) (by omega), hu]
    simp
  have hd := k0_pay6_apply k ⟨k.val, hk⟩ rfl _ u he
  unfold tripL_k0_t2 trip_k0_t2
  dsimp only
  refine ⟨Agree.cons (fun x => ?_) (Agree.nil _), Agree.cons (fun x => ?_) (Agree.nil _)⟩
  · obtain ⟨r, d, rfl⟩ : ∃ (r : Fin 512) (d : Fin 256), x = ix2 r d := ⟨_, _, eq_ix2 x⟩
    dsimp only
    rw [unit_emb2 (m := 4096) (n := 256) (o0 := 512 * k.val) (o1 := 0) (k0_off4_eq k) _ r d (by omega) (by omega)]
    refine (hd r d).trans ?_
    simp
  · obtain ⟨r, d, rfl⟩ : ∃ (r : Fin 512) (d : Fin 256), x = ix2 r d := ⟨_, _, eq_ix2 x⟩
    dsimp only
    rw [unit_emb2 (m := 4096) (n := 256) (o0 := 512 * k.val) (o1 := 0) (k0_off4_eq k) _ r d (by omega) (by omega)]
    refine (k0_pay7_apply _ _ k _ _ hd r d).trans ?_
    simp [outRow]

theorem fwd_agrees_1 (𝒱) (c) (bd) (i) (a1 h1 a2 h2 a3 h3 a4 h4 a5 h5 a6 h6) (v8 v10 hc) (X : BufTy.Contents (Elt Ideal) a6.view.ty)
    (u : Fin 4096 → Fin 256 → EReal) (hu : ∀ t d, a6.view.read (Elt Ideal) X (ix2 t d) = padded u t.val d) :
    Agree (fun y => dev 1 u (y 0) (y 1)) (pb_k0_t2 (F := Ideal) 𝒱 c bd i a1 h1 a2 h2 a3 h3 a4 h4 a5 h5 a6 h6 v8 v10 hc X k0_t2_loop.trips).1
    ∧ Agree (fun y => outRow (dev 1 u) (fun a b => v8 (ix3 0 a b)) (fun b => v10 (ix2 0 b)) (y 0) (y 1))
      (pb_k0_t2 (F := Ideal) 𝒱 c bd i a1 h1 a2 h2 a3 h3 a4 h4 a5 h5 a6 h6 v8 v10 hc X k0_t2_loop.trips).2 :=
  ⟨agree_trips k0_t2_loop.trips (fun n => (pb_k0_t2 (F := Ideal) 𝒱 c bd i a1 h1 a2 h2 a3 h3 a4 h4 a5 h5 a6 h6 v8 v10 hc X n).1) _ rfl
      (fun k => congrArg Prod.fst (pb_k0_t2_succ 𝒱 c bd i a1 h1 a2 h2 a3 h3 a4 h4 a5 h5 a6 h6 v8 v10 hc X k)) (fun k => (fwd_agree_1 𝒱 c bd i a1 h1 a2 h2 a3 h3 a4 h4 a5 h5 a6 h6 v8 v10 hc X u hu k).1) _ le_rfl,
    agree_trips k0_t2_loop.trips (fun n => (pb_k0_t2 (F := Ideal) 𝒱 c bd i a1 h1 a2 h2 a3 h3 a4 h4 a5 h5 a6 h6 v8 v10 hc X n).2) _ rfl
      (fun k => congrArg Prod.snd (pb_k0_t2_succ 𝒱 c bd i a1 h1 a2 h2 a3 h3 a4 h4 a5 h5 a6 h6 v8 v10 hc X k)) (fun k => (fwd_agree_1 𝒱 c bd i a1 h1 a2 h2 a3 h3 a4 h4 a5 h5 a6 h6 v8 v10 hc X u hu k).2) _ le_rfl⟩

/-- Each chunk's two stores of the case with half-width 2: the deviations, and their product with the matrix. -/
theorem fwd_agree_2 (𝒱) (c) (bd) (i) (a1 h1 a2 h2 a3 h3 a4 h4 a5 h5 a6 h6) (v8 v10 hc) (X : BufTy.Contents (Elt Ideal) a6.view.ty)
    (u : Fin 4096 → Fin 256 → EReal) (hu : ∀ t d, a6.view.read (Elt Ideal) X (ix2 t d) = padded u t.val d) (k) :
    Agree (fun y => dev 2 u (y 0) (y 1)) (tripL_k0_t3 (F := Ideal) 𝒱 c bd i a1 h1 a2 h2 a3 h3 a4 h4 a5 h5 a6 h6 v8 v10 hc X k).1
    ∧ Agree (fun y => outRow (dev 2 u) (fun a b => v8 (ix3 0 a b)) (fun b => v10 (ix2 0 b)) (y 0) (y 1))
      (tripL_k0_t3 (F := Ideal) 𝒱 c bd i a1 h1 a2 h2 a3 h3 a4 h4 a5 h5 a6 h6 v8 v10 hc X k).2 := by
  have hk : k.val < 8 := Nat.lt_of_lt_of_le k.isLt k0_t3_abs.2.1
  have he : ∀ (j : Fin 544) (d : Fin 256), View.readAt (Elt Ideal) a6.view
      (Rect.unit (s := S4128x256) (k0_off5 k) S544x256.size (k0_off5_inb i k hc)).toLoadRect X (ix2 j d) = padded u (512 * k.val + j.val) d := by
    intro j d
    rw [View.readAt_apply, unit_idx2 (m := 4128) (n := 256) (o0 := 512 * k.val) (o1 := 0) (k0_off5_eq k) _ j d (by omega) (by omega), hu]
    simp
  have hd := k0_pay8_apply k ⟨k.val, hk⟩ rfl _ u he
  unfold tripL_k0_t3 trip_k0_t3
  dsimp only
  refine ⟨Agree.cons (fun x => ?_) (Agree.nil _), Agree.cons (fun x => ?_) (Agree.nil _)⟩
  · obtain ⟨r, d, rfl⟩ : ∃ (r : Fin 512) (d : Fin 256), x = ix2 r d := ⟨_, _, eq_ix2 x⟩
    dsimp only
    rw [unit_emb2 (m := 4096) (n := 256) (o0 := 512 * k.val) (o1 := 0) (k0_off6_eq k) _ r d (by omega) (by omega)]
    refine (hd r d).trans ?_
    simp
  · obtain ⟨r, d, rfl⟩ : ∃ (r : Fin 512) (d : Fin 256), x = ix2 r d := ⟨_, _, eq_ix2 x⟩
    dsimp only
    rw [unit_emb2 (m := 4096) (n := 256) (o0 := 512 * k.val) (o1 := 0) (k0_off6_eq k) _ r d (by omega) (by omega)]
    refine (k0_pay9_apply _ _ k _ _ hd r d).trans ?_
    simp [outRow]

theorem fwd_agrees_2 (𝒱) (c) (bd) (i) (a1 h1 a2 h2 a3 h3 a4 h4 a5 h5 a6 h6) (v8 v10 hc) (X : BufTy.Contents (Elt Ideal) a6.view.ty)
    (u : Fin 4096 → Fin 256 → EReal) (hu : ∀ t d, a6.view.read (Elt Ideal) X (ix2 t d) = padded u t.val d) :
    Agree (fun y => dev 2 u (y 0) (y 1)) (pb_k0_t3 (F := Ideal) 𝒱 c bd i a1 h1 a2 h2 a3 h3 a4 h4 a5 h5 a6 h6 v8 v10 hc X k0_t3_loop.trips).1
    ∧ Agree (fun y => outRow (dev 2 u) (fun a b => v8 (ix3 0 a b)) (fun b => v10 (ix2 0 b)) (y 0) (y 1))
      (pb_k0_t3 (F := Ideal) 𝒱 c bd i a1 h1 a2 h2 a3 h3 a4 h4 a5 h5 a6 h6 v8 v10 hc X k0_t3_loop.trips).2 :=
  ⟨agree_trips k0_t3_loop.trips (fun n => (pb_k0_t3 (F := Ideal) 𝒱 c bd i a1 h1 a2 h2 a3 h3 a4 h4 a5 h5 a6 h6 v8 v10 hc X n).1) _ rfl
      (fun k => congrArg Prod.fst (pb_k0_t3_succ 𝒱 c bd i a1 h1 a2 h2 a3 h3 a4 h4 a5 h5 a6 h6 v8 v10 hc X k)) (fun k => (fwd_agree_2 𝒱 c bd i a1 h1 a2 h2 a3 h3 a4 h4 a5 h5 a6 h6 v8 v10 hc X u hu k).1) _ le_rfl,
    agree_trips k0_t3_loop.trips (fun n => (pb_k0_t3 (F := Ideal) 𝒱 c bd i a1 h1 a2 h2 a3 h3 a4 h4 a5 h5 a6 h6 v8 v10 hc X n).2) _ rfl
      (fun k => congrArg Prod.snd (pb_k0_t3_succ 𝒱 c bd i a1 h1 a2 h2 a3 h3 a4 h4 a5 h5 a6 h6 v8 v10 hc X k)) (fun k => (fwd_agree_2 𝒱 c bd i a1 h1 a2 h2 a3 h3 a4 h4 a5 h5 a6 h6 v8 v10 hc X u hu k).2) _ le_rfl⟩

/-- Each chunk's two stores of the case with half-width 4: the deviations, and their product with the matrix. -/
theorem fwd_agree_4 (𝒱) (c) (bd) (i) (a1 h1 a2 h2 a3 h3 a4 h4 a5 h5 a6 h6) (v8 v10 hc) (X : BufTy.Contents (Elt Ideal) a6.view.ty)
    (u : Fin 4096 → Fin 256 → EReal) (hu : ∀ t d, a6.view.read (Elt Ideal) X (ix2 t d) = padded u t.val d) (k) :
    Agree (fun y => dev 4 u (y 0) (y 1)) (tripL_k0_t4 (F := Ideal) 𝒱 c bd i a1 h1 a2 h2 a3 h3 a4 h4 a5 h5 a6 h6 v8 v10 hc X k).1
    ∧ Agree (fun y => outRow (dev 4 u) (fun a b => v8 (ix3 0 a b)) (fun b => v10 (ix2 0 b)) (y 0) (y 1))
      (tripL_k0_t4 (F := Ideal) 𝒱 c bd i a1 h1 a2 h2 a3 h3 a4 h4 a5 h5 a6 h6 v8 v10 hc X k).2 := by
  have hk : k.val < 8 := Nat.lt_of_lt_of_le k.isLt k0_t4_abs.2.1
  have he : ∀ (j : Fin 544) (d : Fin 256), View.readAt (Elt Ideal) a6.view
      (Rect.unit (s := S4128x256) (k0_off7 k) S544x256.size (k0_off7_inb i k hc)).toLoadRect X (ix2 j d) = padded u (512 * k.val + j.val) d := by
    intro j d
    rw [View.readAt_apply, unit_idx2 (m := 4128) (n := 256) (o0 := 512 * k.val) (o1 := 0) (k0_off7_eq k) _ j d (by omega) (by omega), hu]
    simp
  have hd := k0_pay10_apply k ⟨k.val, hk⟩ rfl _ u he
  unfold tripL_k0_t4 trip_k0_t4
  dsimp only
  refine ⟨Agree.cons (fun x => ?_) (Agree.nil _), Agree.cons (fun x => ?_) (Agree.nil _)⟩
  · obtain ⟨r, d, rfl⟩ : ∃ (r : Fin 512) (d : Fin 256), x = ix2 r d := ⟨_, _, eq_ix2 x⟩
    dsimp only
    rw [unit_emb2 (m := 4096) (n := 256) (o0 := 512 * k.val) (o1 := 0) (k0_off8_eq k) _ r d (by omega) (by omega)]
    refine (hd r d).trans ?_
    simp
  · obtain ⟨r, d, rfl⟩ : ∃ (r : Fin 512) (d : Fin 256), x = ix2 r d := ⟨_, _, eq_ix2 x⟩
    dsimp only
    rw [unit_emb2 (m := 4096) (n := 256) (o0 := 512 * k.val) (o1 := 0) (k0_off8_eq k) _ r d (by omega) (by omega)]
    refine (k0_pay11_apply _ _ k _ _ hd r d).trans ?_
    simp [outRow]

theorem fwd_agrees_4 (𝒱) (c) (bd) (i) (a1 h1 a2 h2 a3 h3 a4 h4 a5 h5 a6 h6) (v8 v10 hc) (X : BufTy.Contents (Elt Ideal) a6.view.ty)
    (u : Fin 4096 → Fin 256 → EReal) (hu : ∀ t d, a6.view.read (Elt Ideal) X (ix2 t d) = padded u t.val d) :
    Agree (fun y => dev 4 u (y 0) (y 1)) (pb_k0_t4 (F := Ideal) 𝒱 c bd i a1 h1 a2 h2 a3 h3 a4 h4 a5 h5 a6 h6 v8 v10 hc X k0_t4_loop.trips).1
    ∧ Agree (fun y => outRow (dev 4 u) (fun a b => v8 (ix3 0 a b)) (fun b => v10 (ix2 0 b)) (y 0) (y 1))
      (pb_k0_t4 (F := Ideal) 𝒱 c bd i a1 h1 a2 h2 a3 h3 a4 h4 a5 h5 a6 h6 v8 v10 hc X k0_t4_loop.trips).2 :=
  ⟨agree_trips k0_t4_loop.trips (fun n => (pb_k0_t4 (F := Ideal) 𝒱 c bd i a1 h1 a2 h2 a3 h3 a4 h4 a5 h5 a6 h6 v8 v10 hc X n).1) _ rfl
      (fun k => congrArg Prod.fst (pb_k0_t4_succ 𝒱 c bd i a1 h1 a2 h2 a3 h3 a4 h4 a5 h5 a6 h6 v8 v10 hc X k)) (fun k => (fwd_agree_4 𝒱 c bd i a1 h1 a2 h2 a3 h3 a4 h4 a5 h5 a6 h6 v8 v10 hc X u hu k).1) _ le_rfl,
    agree_trips k0_t4_loop.trips (fun n => (pb_k0_t4 (F := Ideal) 𝒱 c bd i a1 h1 a2 h2 a3 h3 a4 h4 a5 h5 a6 h6 v8 v10 hc X n).2) _ rfl
      (fun k => congrArg Prod.snd (pb_k0_t4_succ 𝒱 c bd i a1 h1 a2 h2 a3 h3 a4 h4 a5 h5 a6 h6 v8 v10 hc X k)) (fun k => (fwd_agree_4 𝒱 c bd i a1 h1 a2 h2 a3 h3 a4 h4 a5 h5 a6 h6 v8 v10 hc X u hu k).2) _ le_rfl⟩

/-- Each chunk's two stores of the case with half-width 8: the deviations, and their product with the matrix. -/
theorem fwd_agree_8 (𝒱) (c) (bd) (i) (a1 h1 a2 h2 a3 h3 a4 h4 a5 h5 a6 h6) (v8 v10 hc) (X : BufTy.Contents (Elt Ideal) a6.view.ty)
    (u : Fin 4096 → Fin 256 → EReal) (hu : ∀ t d, a6.view.read (Elt Ideal) X (ix2 t d) = padded u t.val d) (k) :
    Agree (fun y => dev 8 u (y 0) (y 1)) (tripL_k0_t5 (F := Ideal) 𝒱 c bd i a1 h1 a2 h2 a3 h3 a4 h4 a5 h5 a6 h6 v8 v10 hc X k).1
    ∧ Agree (fun y => outRow (dev 8 u) (fun a b => v8 (ix3 0 a b)) (fun b => v10 (ix2 0 b)) (y 0) (y 1))
      (tripL_k0_t5 (F := Ideal) 𝒱 c bd i a1 h1 a2 h2 a3 h3 a4 h4 a5 h5 a6 h6 v8 v10 hc X k).2 := by
  have hk : k.val < 8 := Nat.lt_of_lt_of_le k.isLt k0_t5_abs.2.1
  have he : ∀ (j : Fin 544) (d : Fin 256), View.readAt (Elt Ideal) a6.view
      (Rect.unit (s := S4128x256) (k0_off9 k) S544x256.size (k0_off9_inb i k hc)).toLoadRect X (ix2 j d) = padded u (512 * k.val + j.val) d := by
    intro j d
    rw [View.readAt_apply, unit_idx2 (m := 4128) (n := 256) (o0 := 512 * k.val) (o1 := 0) (k0_off9_eq k) _ j d (by omega) (by omega), hu]
    simp
  have hd := k0_pay12_apply k ⟨k.val, hk⟩ rfl _ u he
  unfold tripL_k0_t5 trip_k0_t5
  dsimp only
  refine ⟨Agree.cons (fun x => ?_) (Agree.nil _), Agree.cons (fun x => ?_) (Agree.nil _)⟩
  · obtain ⟨r, d, rfl⟩ : ∃ (r : Fin 512) (d : Fin 256), x = ix2 r d := ⟨_, _, eq_ix2 x⟩
    dsimp only
    rw [unit_emb2 (m := 4096) (n := 256) (o0 := 512 * k.val) (o1 := 0) (k0_off10_eq k) _ r d (by omega) (by omega)]
    refine (hd r d).trans ?_
    simp
  · obtain ⟨r, d, rfl⟩ : ∃ (r : Fin 512) (d : Fin 256), x = ix2 r d := ⟨_, _, eq_ix2 x⟩
    dsimp only
    rw [unit_emb2 (m := 4096) (n := 256) (o0 := 512 * k.val) (o1 := 0) (k0_off10_eq k) _ r d (by omega) (by omega)]
    refine (k0_pay13_apply _ _ k _ _ hd r d).trans ?_
    simp [outRow, pay5_apply]

theorem fwd_agrees_8 (𝒱) (c) (bd) (i) (a1 h1 a2 h2 a3 h3 a4 h4 a5 h5 a6 h6) (v8 v10 hc) (X : BufTy.Contents (Elt Ideal) a6.view.ty)
    (u : Fin 4096 → Fin 256 → EReal) (hu : ∀ t d, a6.view.read (Elt Ideal) X (ix2 t d) = padded u t.val d) :
    Agree (fun y => dev 8 u (y 0) (y 1)) (pb_k0_t5 (F := Ideal) 𝒱 c bd i a1 h1 a2 h2 a3 h3 a4 h4 a5 h5 a6 h6 v8 v10 hc X k0_t5_loop.trips).1
    ∧ Agree (fun y => outRow (dev 8 u) (fun a b => v8 (ix3 0 a b)) (fun b => v10 (ix2 0 b)) (y 0) (y 1))
      (pb_k0_t5 (F := Ideal) 𝒱 c bd i a1 h1 a2 h2 a3 h3 a4 h4 a5 h5 a6 h6 v8 v10 hc X k0_t5_loop.trips).2 :=
  ⟨agree_trips k0_t5_loop.trips (fun n => (pb_k0_t5 (F := Ideal) 𝒱 c bd i a1 h1 a2 h2 a3 h3 a4 h4 a5 h5 a6 h6 v8 v10 hc X n).1) _ rfl
      (fun k => congrArg Prod.fst (pb_k0_t5_succ 𝒱 c bd i a1 h1 a2 h2 a3 h3 a4 h4 a5 h5 a6 h6 v8 v10 hc X k)) (fun k => (fwd_agree_8 𝒱 c bd i a1 h1 a2 h2 a3 h3 a4 h4 a5 h5 a6 h6 v8 v10 hc X u hu k).1) _ le_rfl,
    agree_trips k0_t5_loop.trips (fun n => (pb_k0_t5 (F := Ideal) 𝒱 c bd i a1 h1 a2 h2 a3 h3 a4 h4 a5 h5 a6 h6 v8 v10 hc X n).2) _ rfl
      (fun k => congrArg Prod.snd (pb_k0_t5_succ 𝒱 c bd i a1 h1 a2 h2 a3 h3 a4 h4 a5 h5 a6 h6 v8 v10 hc X k)) (fun k => (fwd_agree_8 𝒱 c bd i a1 h1 a2 h2 a3 h3 a4 h4 a5 h5 a6 h6 v8 v10 hc X u hu k).2) _ le_rfl⟩

end Cert.KernelIdeal.Val
-- ==== Proof.Block0.lean ====
module
public import proofs.«01_k».proof.Proof.Region0
public import proofs.«01_k».proof.Proof.FwdLoops
/-!
# What one grid point of the forward kernel leaves

In each case the first output holds the deviations of the point's channels from their means, the
second their product with the group's matrix, scaled.
-/
@[expose] public section
set_option maxRecDepth 16384
noncomputable section
namespace Cert.KernelIdeal.Val
open Idealize.ShloMosaic Idealize.ShloMosaic.Tactic Cert.KernelIdeal Cert.KernelIdeal.Gen Cert.KernelIdeal.Run Cert.PoolSpec Cert.Pieces
open Idealize.SL Idealize.SL.Sem

/-- A whole memref holding `x` loads `x` back. -/
theorem load_whole {e : EltTy} {sp : Space} {s : Shape} (a : Memref sig .tc sp s e) (h : a.IsWhole) (x : Vec Ideal s e) {off : Fin s.rank → ℕ}
    (ho : ∀ b, off b = 0) (inb : ∀ b, off b + s.size b ≤ s.size b) (y : s.Idx) :
    a.view.readAt (Elt Ideal) (Rect.unit off s.size inb).toLoadRect (h.unread x) y = x y := by
  rw [View.readAt_apply, h.read_unread]
  congr 1
  funext b
  apply Fin.ext
  show off b + 1 * (y b).val = (y b).val
  rw [ho b]; omega

theorem padded_out (u : Fin 4096 → Fin 256 → EReal) (i : ℕ) (c : Fin 256) (h : i < 16 ∨ 4112 ≤ i) : padded u i c = 0 :=
  dif_neg (fun h' => h.elim (fun h => absurd h'.1 (Nat.not_le.mpr h)) (fun h => absurd h'.2 (Nat.not_lt.mpr h)))

/-- Zeros in the first and the last sixteen rows agree with the padded channels. -/
theorem pads_agree (u : Fin 4096 → Fin 256 → EReal) (p q : Vec Ideal S16x256 .f32) (hp : ∀ r d, p (ix2 r d) = 0) (hq : ∀ r d, q (ix2 r d) = 0) :
    Agree (s := S4128x256) (e := .f32) (fun y => padded u (y 0).val (y 1))
      [⟨Rect.unit ![4112, 0] S16x256.size inb_S4128x256_S16x256_4112_0, p⟩, ⟨Rect.unit ![0, 0] S16x256.size inb_S4128x256_S16x256_0_0, q⟩] := by
  refine Agree.cons (fun x => ?_) (Agree.cons (fun x => ?_) (Agree.nil _))
  · obtain ⟨r, d, rfl⟩ : ∃ (r : Fin 16) (d : Fin 256), x = ix2 r d := ⟨_, _, eq_ix2 x⟩
    dsimp only
    rw [unit_emb2 (m := 4128) (n := 256) (o0 := 4112) (o1 := 0) rfl _ r d (by omega) (by omega)]
    refine (hp r d).trans ?_
    exact (padded_out u _ _ (Or.inr (by show 4112 ≤ 4112 + r.val; omega))).symm
  · obtain ⟨r, d, rfl⟩ : ∃ (r : Fin 16) (d : Fin 256), x = ix2 r d := ⟨_, _, eq_ix2 x⟩
    dsimp only
    rw [unit_emb2 (m := 4128) (n := 256) (o0 := 0) (o1 := 0) rfl _ r d (by omega) (by omega)]
    refine (hq r d).trans ?_
    exact (padded_out u _ _ (Or.inl (by show 0 + r.val < 16; omega))).symm

theorem k0_pay2_apply (r : Fin 16) (d : Fin 256) : k0_pay2 (F := Ideal) (ix2 r d) = 0 := by
  pointwise [k0_pay2, k0_pay1]
theorem k0_pay3_apply (r : Fin 16) (d : Fin 256) : k0_pay3 (F := Ideal) (ix2 r d) = 0 := by
  pointwise [k0_pay3, k0_pay1]

/-- The scratch after its filling holds the channels between zeros. -/
theorem fill_read (𝒱 : Variants) (bd : Option 𝒱.V) (c : Dev nD) (i : grid0.Coords) (a1 : Memref sig .tc .vmem S1x4096x256 .f32) (w1 : a1.IsWhole) (a2 : Memref sig .tc .vmem S1x256x256 .bf16) (w2 : a2.IsWhole)
    (a3 : Memref sig .tc .vmem S1x256 .f32) (w3 : a3.IsWhole) (a4 : Memref sig .tc .vmem S4096x256 .bf16) (w4 : a4.IsWhole)
    (a5 : Memref sig .tc .vmem S4096x256 .bf16) (w5 : a5.IsWhole) (a6 : Memref sig .tc .vmem S4128x256 .f32) (w6 : a6.IsWhole)
    (x0 : Vec Ideal S1x4096x256 .f32) (f : a6.view.ty.Contents (Elt Ideal)) (t : Fin 4128) (d : Fin 256) :
    a6.view.read (Elt Ideal) (a6.view.writes (Elt Ideal) f
      (pb_k0_t1 (F := Ideal) 𝒱 c bd i a1 w1 a2 w2 a3 w3 a4 w4 a5 w5 a6 w6 (w1.unread x0) (Scf.trips k0_t1_loop.lb k0_t1_loop.ub k0_t1_loop.st) ++
        [⟨Rect.unit ![4112, 0] S16x256.size inb_S4128x256_S16x256_4112_0, k0_pay3 (F := Ideal)⟩,
          ⟨Rect.unit ![0, 0] S16x256.size inb_S4128x256_S16x256_0_0, k0_pay2 (F := Ideal)⟩])) (ix2 t d)
      = padded (fun t d => x0 (ix3 0 t d)) t.val d :=
  read_of_agree a6.view f (G := fun y => padded (fun t d => x0 (ix3 0 t d)) (y 0).val (y 1))
    (Agree.append (fwd_fill_agrees 𝒱 c bd i a1 w1 a2 w2 a3 w3 a4 w4 a5 w5 a6 w6 _ _
        (fun t d => congrFun (w1.read_unread x0) _))
      (pads_agree _ _ _ k0_pay3_apply k0_pay2_apply))
    (by
      have h := fun L hL => LoadRect.cover_of_covChk (Val := Elt Ideal) (e := .f32) L (LoadRect.whole S4128x256) padCov hL (ix2 t d)
      simp only [LoadRect.idx_whole] at h
      exact h _ (by sl_kernel_rfl))

/-- Half-width 1: the deviations. -/
theorem out0_A_3_apply (c : Dev nD) (i : grid0.Coords) (a1 : Memref sig .tc .vmem S1x4096x256 .f32) (w1 : a1.IsWhole) (a2 : Memref sig .tc .vmem S1x256x256 .bf16) (w2 : a2.IsWhole)
    (a3 : Memref sig .tc .vmem S1x256 .f32) (w3 : a3.IsWhole) (a4 : Memref sig .tc .vmem S4096x256 .bf16) (w4 : a4.IsWhole)
    (a5 : Memref sig .tc .vmem S4096x256 .bf16) (w5 : a5.IsWhole) (a6 : Memref sig .tc .vmem S4128x256 .f32) (w6 : a6.IsWhole)
    (hc0 : cond0_0 i) (hc1 : ¬cond0_1 i) (hc2 : ¬cond0_2 i) (hc3 : ¬cond0_3 i) (x0 : Vec Ideal S1x4096x256 .f32) (x1 : Vec Ideal S1x256x256 .bf16) (x2 : Vec Ideal S1x256 .f32) (t : Fin 4096) (e : Fin 256) :
    out0_A_3 c i a1 w1 a2 w2 a3 w3 a4 w4 a5 w5 a6 w6 hc0 hc1 hc2 hc3 x0 x1 x2 (ix2 t e) = dev 1 (fun t d => x0 (ix3 0 t d)) t e := by
  unfold out0_A_3
  refine read_of_agree VO0_3 VO0_3.junk (G := fun y => dev 1 (fun t d => x0 (ix3 0 t d)) (y 0) (y 1)) ?_
    (cover0_A_3 c i a1 w1 a2 w2 a3 w3 a4 w4 a5 w5 a6 w6 hc0 hc1 hc2 hc3 x0 x1 x2 (ix2 t e))
  unfold kernelRun0_A
  dsimp only
  exact (fwd_agrees_1 Variants.none c none i a1 w1 a2 w2 a3 w3 a4 w4 a5 w5 a6 w6 _ _ hc0 _ (fun t d => x0 (ix3 0 t d))
        (fun t d => fill_read Variants.none none c i a1 w1 a2 w2 a3 w3 a4 w4 a5 w5 a6 w6 x0 _ t d)).1

/-- Half-width 1: the product. -/
theorem out0_A_4_apply (c : Dev nD) (i : grid0.Coords) (a1 : Memref sig .tc .vmem S1x4096x256 .f32) (w1 : a1.IsWhole) (a2 : Memref sig .tc .vmem S1x256x256 .bf16) (w2 : a2.IsWhole)
    (a3 : Memref sig .tc .vmem S1x256 .f32) (w3 : a3.IsWhole) (a4 : Memref sig .tc .vmem S4096x256 .bf16) (w4 : a4.IsWhole)
    (a5 : Memref sig .tc .vmem S4096x256 .bf16) (w5 : a5.IsWhole) (a6 : Memref sig .tc .vmem S4128x256 .f32) (w6 : a6.IsWhole)
    (hc0 : cond0_0 i) (hc1 : ¬cond0_1 i) (hc2 : ¬cond0_2 i) (hc3 : ¬cond0_3 i) (x0 : Vec Ideal S1x4096x256 .f32) (x1 : Vec Ideal S1x256x256 .bf16) (x2 : Vec Ideal S1x256 .f32) (t : Fin 4096) (e : Fin 256) :
    out0_A_4 c i a1 w1 a2 w2 a3 w3 a4 w4 a5 w5 a6 w6 hc0 hc1 hc2 hc3 x0 x1 x2 (ix2 t e)
      = outRow (dev 1 (fun t d => x0 (ix3 0 t d))) (fun a b => x1 (ix3 0 a b)) (fun b => x2 (ix2 0 b)) t e := by
  unfold out0_A_4
  refine (read_of_agree VO0_4 VO0_4.junk (G := fun y => outRow (dev 1 (fun t d => x0 (ix3 0 t d)))
      (fun a b => a2.view.readAt (Elt Ideal) (Rect.unit ![0, 0, 0] S1x256x256.size inb_S1x256x256_S1x256x256_0_0_0).toLoadRect (w2.unread x1) (ix3 0 a b))
      (fun b => a3.view.readAt (Elt Ideal) (Rect.unit ![0, 0] S1x256.size inb_S1x256_S1x256_0_0).toLoadRect (w3.unread x2) (ix2 0 b)) (y 0) (y 1)) ?_
    (cover0_A_4 c i a1 w1 a2 w2 a3 w3 a4 w4 a5 w5 a6 w6 hc0 hc1 hc2 hc3 x0 x1 x2 (ix2 t e))).trans ?_
  · unfold kernelRun0_A
    dsimp only
    exact (fwd_agrees_1 Variants.none c none i a1 w1 a2 w2 a3 w3 a4 w4 a5 w5 a6 w6 _ _ hc0 _ (fun t d => x0 (ix3 0 t d))
        (fun t d => fill_read Variants.none none c i a1 w1 a2 w2 a3 w3 a4 w4 a5 w5 a6 w6 x0 _ t d)).2
  · unfold outRow
    simp only [load_whole _ w2 x1 (off := ![0, 0, 0]) (by decide), load_whole _ w3 x2 (off := ![0, 0]) (by decide)]
    rfl

/-- Half-width 2: the deviations. -/
theorem out0_B_3_apply (c : Dev nD) (i : grid0.Coords) (a1 : Memref sig .tc .vmem S1x4096x256 .f32) (w1 : a1.IsWhole) (a2 : Memref sig .tc .vmem S1x256x256 .bf16) (w2 : a2.IsWhole)
    (a3 : Memref sig .tc .vmem S1x256 .f32) (w3 : a3.IsWhole) (a4 : Memref sig .tc .vmem S4096x256 .bf16) (w4 : a4.IsWhole)
    (a5 : Memref sig .tc .vmem S4096x256 .bf16) (w5 : a5.IsWhole) (a6 : Memref sig .tc .vmem S4128x256 .f32) (w6 : a6.IsWhole)
    (hc0 : ¬cond0_0 i) (hc1 : cond0_1 i) (hc2 : ¬cond0_2 i) (hc3 : ¬cond0_3 i) (x0 : Vec Ideal S1x4096x256 .f32) (x1 : Vec Ideal S1x256x256 .bf16) (x2 : Vec Ideal S1x256 .f32) (t : Fin 4096) (e : Fin 256) :
    out0_B_3 c i a1 w1 a2 w2 a3 w3 a4 w4 a5 w5 a6 w6 hc0 hc1 hc2 hc3 x0 x1 x2 (ix2 t e) = dev 2 (fun t d => x0 (ix3 0 t d)) t e := by
  unfold out0_B_3
  refine read_of_agree VO0_3 VO0_3.junk (G := fun y => dev 2 (fun t d => x0 (ix3 0 t d)) (y 0) (y 1)) ?_
    (cover0_B_3 c i a1 w1 a2 w2 a3 w3 a4 w4 a5 w5 a6 w6 hc0 hc1 hc2 hc3 x0 x1 x2 (ix2 t e))
  unfold kernelRun0_B
  dsimp only
  exact (fwd_agrees_2 Variants.none c none i a1 w1 a2 w2 a3 w3 a4 w4 a5 w5 a6 w6 _ _ hc1 _ (fun t d => x0 (ix3 0 t d))
        (fun t d => fill_read Variants.none none c i a1 w1 a2 w2 a3 w3 a4 w4 a5 w5 a6 w6 x0 _ t d)).1

/-- Half-width 2: the product. -/
theorem out0_B_4_apply (c : Dev nD) (i : grid0.Coords) (a1 : Memref sig .tc .vmem S1x4096x256 .f32) (w1 : a1.IsWhole) (a2 : Memref sig .tc .vmem S1x256x256 .bf16) (w2 : a2.IsWhole)
    (a3 : Memref sig .tc .vmem S1x256 .f32) (w3 : a3.IsWhole) (a4 : Memref sig .tc .vmem S4096x256 .bf16) (w4 : a4.IsWhole)
    (a5 : Memref sig .tc .vmem S4096x256 .bf16) (w5 : a5.IsWhole) (a6 : Memref sig .tc .vmem S4128x256 .f32) (w6 : a6.IsWhole)
    (hc0 : ¬cond0_0 i) (hc1 : cond0_1 i) (hc2 : ¬cond0_2 i) (hc3 : ¬cond0_3 i) (x0 : Vec Ideal S1x4096x256 .f32) (x1 : Vec Ideal S1x256x256 .bf16) (x2 : Vec Ideal S1x256 .f32) (t : Fin 4096) (e : Fin 256) :
    out0_B_4 c i a1 w1 a2 w2 a3 w3 a4 w4 a5 w5 a6 w6 hc0 hc1 hc2 hc3 x0 x1 x2 (ix2 t e)
      = outRow (dev 2 (fun t d => x0 (ix3 0 t d))) (fun a b => x1 (ix3 0 a b)) (fun b => x2 (ix2 0 b)) t e := by
  unfold out0_B_4
  refine (read_of_agree VO0_4 VO0_4.junk (G := fun y => outRow (dev 2 (fun t d => x0 (ix3 0 t d)))
      (fun a b => a2.view.readAt (Elt Ideal) (Rect.unit ![0, 0, 0] S1x256x256.size inb_S1x256x256_S1x256x256_0_0_0).toLoadRect (w2.unread x1) (ix3 0 a b))
      (fun b => a3.view.readAt (Elt Ideal) (Rect.unit ![0, 0] S1x256.size inb_S1x256_S1x256_0_0).toLoadRect (w3.unread x2) (ix2 0 b)) (y 0) (y 1)) ?_
    (cover0_B_4 c i a1 w1 a2 w2 a3 w3 a4 w4 a5 w5 a6 w6 hc0 hc1 hc2 hc3 x0 x1 x2 (ix2 t e))).trans ?_
  · unfold kernelRun0_B
    dsimp only
    exact (fwd_agrees_2 Variants.none c none i a1 w1 a2 w2 a3 w3 a4 w4 a5 w5 a6 w6 _ _ hc1 _ (fun t d => x0 (ix3 0 t d))
        (fun t d => fill_read Variants.none none c i a1 w1 a2 w2 a3 w3 a4 w4 a5 w5 a6 w6 x0 _ t d)).2
  · unfold outRow
    simp only [load_whole _ w2 x1 (off := ![0, 0, 0]) (by decide), load_whole _ w3 x2 (off := ![0, 0]) (by decide)]
    rfl

/-- Half-width 4: the deviations. -/
theorem out0_C_3_apply (c : Dev nD) (i : grid0.Coords) (a1 : Memref sig .tc .vmem S1x4096x256 .f32) (w1 : a1.IsWhole) (a2 : Memref sig .tc .vmem S1x256x256 .bf16) (w2 : a2.IsWhole)
    (a3 : Memref sig .tc .vmem S1x256 .f32) (w3 : a3.IsWhole) (a4 : Memref sig .tc .vmem S4096x256 .bf16) (w4 : a4.IsWhole)
    (a5 : Memref sig .tc .vmem S4096x256 .bf16) (w5 : a5.IsWhole) (a6 : Memref sig .tc .vmem S4128x256 .f32) (w6 : a6.IsWhole)
    (hc0 : ¬cond0_0 i) (hc1 : ¬cond0_1 i) (hc2 : cond0_2 i) (hc3 : ¬cond0_3 i) (x0 : Vec Ideal S1x4096x256 .f32) (x1 : Vec Ideal S1x256x256 .bf16) (x2 : Vec Ideal S1x256 .f32) (t : Fin 4096) (e : Fin 256) :
    out0_C_3 c i a1 w1 a2 w2 a3 w3 a4 w4 a5 w5 a6 w6 hc0 hc1 hc2 hc3 x0 x1 x2 (ix2 t e) = dev 4 (fun t d => x0 (ix3 0 t d)) t e := by
  unfold out0_C_3
  refine read_of_agree VO0_3 VO0_3.junk (G := fun y => dev 4 (fun t d => x0 (ix3 0 t d)) (y 0) (y 1)) ?_
    (cover0_C_3 c i a1 w1 a2 w2 a3 w3 a4 w4 a5 w5 a6 w6 hc0 hc1 hc2 hc3 x0 x1 x2 (ix2 t e))
  unfold kernelRun0_C
  dsimp only
  exact (fwd_agrees_4 Variants.none c none i a1 w1 a2 w2 a3 w3 a4 w4 a5 w5 a6 w6 _ _ hc2 _ (fun t d => x0 (ix3 0 t d))
        (fun t d => fill_read Variants.none none c i a1 w1 a2 w2 a3 w3 a4 w4 a5 w5 a6 w6 x0 _ t d)).1

/-- Half-width 4: the product. -/
theorem out0_C_4_apply (c : Dev nD) (i : grid0.Coords) (a1 : Memref sig .tc .vmem S1x4096x256 .f32) (w1 : a1.IsWhole) (a2 : Memref sig .tc .vmem S1x256x256 .bf16) (w2 : a2.IsWhole)
    (a3 : Memref sig .tc .vmem S1x256 .f32) (w3 : a3.IsWhole) (a4 : Memref sig .tc .vmem S4096x256 .bf16) (w4 : a4.IsWhole)
    (a5 : Memref sig .tc .vmem S4096x256 .bf16) (w5 : a5.IsWhole) (a6 : Memref sig .tc .vmem S4128x256 .f32) (w6 : a6.IsWhole)
    (hc0 : ¬cond0_0 i) (hc1 : ¬cond0_1 i) (hc2 : cond0_2 i) (hc3 : ¬cond0_3 i) (x0 : Vec Ideal S1x4096x256 .f32) (x1 : Vec Ideal S1x256x256 .bf16) (x2 : Vec Ideal S1x256 .f32) (t : Fin 4096) (e : Fin 256) :
    out0_C_4 c i a1 w1 a2 w2 a3 w3 a4 w4 a5 w5 a6 w6 hc0 hc1 hc2 hc3 x0 x1 x2 (ix2 t e)
      = outRow (dev 4 (fun t d => x0 (ix3 0 t d))) (fun a b => x1 (ix3 0 a b)) (fun b => x2 (ix2 0 b)) t e := by
  unfold out0_C_4
  refine (read_of_agree VO0_4 VO0_4.junk (G := fun y => outRow (dev 4 (fun t d => x0 (ix3 0 t d)))
      (fun a b => a2.view.readAt (Elt Ideal) (Rect.unit ![0, 0, 0] S1x256x256.size inb_S1x256x256_S1x256x256_0_0_0).toLoadRect (w2.unread x1) (ix3 0 a b))
      (fun b => a3.view.readAt (Elt Ideal) (Rect.unit ![0, 0] S1x256.size inb_S1x256_S1x256_0_0).toLoadRect (w3.unread x2) (ix2 0 b)) (y 0) (y 1)) ?_
    (cover0_C_4 c i a1 w1 a2 w2 a3 w3 a4 w4 a5 w5 a6 w6 hc0 hc1 hc2 hc3 x0 x1 x2 (ix2 t e))).trans ?_
  · unfold kernelRun0_C
    dsimp only
    exact (fwd_agrees_4 Variants.none c none i a1 w1 a2 w2 a3 w3 a4 w4 a5 w5 a6 w6 _ _ hc2 _ (fun t d => x0 (ix3 0 t d))
        (fun t d => fill_read Variants.none none c i a1 w1 a2 w2 a3 w3 a4 w4 a5 w5 a6 w6 x0 _ t d)).2
  · unfold outRow
    simp only [load_whole _ w2 x1 (off := ![0, 0, 0]) (by decide), load_whole _ w3 x2 (off := ![0, 0]) (by decide)]
    rfl

/-- Half-width 8: the deviations. -/
theorem out0_D_3_apply (c : Dev nD) (i : grid0.Coords) (a1 : Memref sig .tc .vmem S1x4096x256 .f32) (w1 : a1.IsWhole) (a2 : Memref sig .tc .vmem S1x256x256 .bf16) (w2 : a2.IsWhole)
    (a3 : Memref sig .tc .vmem S1x256 .f32) (w3 : a3.IsWhole) (a4 : Memref sig .tc .vmem S4096x256 .bf16) (w4 : a4.IsWhole)
    (a5 : Memref sig .tc .vmem S4096x256 .bf16) (w5 : a5.IsWhole) (a6 : Memref sig .tc .vmem S4128x256 .f32) (w6 : a6.IsWhole)
    (hc0 : ¬cond0_0 i) (hc1 : ¬cond0_1 i) (hc2 : ¬cond0_2 i) (hc3 : cond0_3 i) (x0 : Vec Ideal S1x4096x256 .f32) (x1 : Vec Ideal S1x256x256 .bf16) (x2 : Vec Ideal S1x256 .f32) (t : Fin 4096) (e : Fin 256) :
    out0_D_3 c i a1 w1 a2 w2 a3 w3 a4 w4 a5 w5 a6 w6 hc0 hc1 hc2 hc3 x0 x1 x2 (ix2 t e) = dev 8 (fun t d => x0 (ix3 0 t d)) t e := by
  unfold out0_D_3
  refine read_of_agree VO0_3 VO0_3.junk (G := fun y => dev 8 (fun t d => x0 (ix3 0 t d)) (y 0) (y 1)) ?_
    (cover0_D_3 c i a1 w1 a2 w2 a3 w3 a4 w4 a5 w5 a6 w6 hc0 hc1 hc2 hc3 x0 x1 x2 (ix2 t e))
  unfold kernelRun0_D
  dsimp only
  exact (fwd_agrees_8 Variants.none c none i a1 w1 a2 w2 a3 w3 a4 w4 a5 w5 a6 w6 _ _ hc3 _ (fun t d => x0 (ix3 0 t d))
        (fun t d => fill_read Variants.none none c i a1 w1 a2 w2 a3 w3 a4 w4 a5 w5 a6 w6 x0 _ t d)).1

/-- Half-width 8: the product. -/
theorem out0_D_4_apply (c : Dev nD) (i : grid0.Coords) (a1 : Memref sig .tc .vmem S1x4096x256 .f32) (w1 : a1.IsWhole) (a2 : Memref sig .tc .vmem S1x256x256 .bf16) (w2 : a2.IsWhole)
    (a3 : Memref sig .tc .vmem S1x256 .f32) (w3 : a3.IsWhole) (a4 : Memref sig .tc .vmem S4096x256 .bf16) (w4 : a4.IsWhole)
    (a5 : Memref sig .tc .vmem S4096x256 .bf16) (w5 : a5.IsWhole) (a6 : Memref sig .tc .vmem S4128x256 .f32) (w6 : a6.IsWhole)
    (hc0 : ¬cond0_0 i) (hc1 : ¬cond0_1 i) (hc2 : ¬cond0_2 i) (hc3 : cond0_3 i) (x0 : Vec Ideal S1x4096x256 .f32) (x1 : Vec Ideal S1x256x256 .bf16) (x2 : Vec Ideal S1x256 .f32) (t : Fin 4096) (e : Fin 256) :
    out0_D_4 c i a1 w1 a2 w2 a3 w3 a4 w4 a5 w5 a6 w6 hc0 hc1 hc2 hc3 x0 x1 x2 (ix2 t e)
      = outRow (dev 8 (fun t d => x0 (ix3 0 t d))) (fun a b => x1 (ix3 0 a b)) (fun b => x2 (ix2 0 b)) t e := by
  unfold out0_D_4
  refine (read_of_agree VO0_4 VO0_4.junk (G := fun y => outRow (dev 8 (fun t d => x0 (ix3 0 t d)))
      (fun a b => a2.view.readAt (Elt Ideal) (Rect.unit ![0, 0, 0] S1x256x256.size inb_S1x256x256_S1x256x256_0_0_0).toLoadRect (w2.unread x1) (ix3 0 a b))
      (fun b => a3.view.readAt (Elt Ideal) (Rect.unit ![0, 0] S1x256.size inb_S1x256_S1x256_0_0).toLoadRect (w3.unread x2) (ix2 0 b)) (y 0) (y 1)) ?_
    (cover0_D_4 c i a1 w1 a2 w2 a3 w3 a4 w4 a5 w5 a6 w6 hc0 hc1 hc2 hc3 x0 x1 x2 (ix2 t e))).trans ?_
  · unfold kernelRun0_D
    dsimp only
    exact (fwd_agrees_8 Variants.none c none i a1 w1 a2 w2 a3 w3 a4 w4 a5 w5 a6 w6 _ _ hc3 _ (fun t d => x0 (ix3 0 t d))
        (fun t d => fill_read Variants.none none c i a1 w1 a2 w2 a3 w3 a4 w4 a5 w5 a6 w6 x0 _ t d)).2
  · unfold outRow
    simp only [load_whole _ w2 x1 (off := ![0, 0, 0]) (by decide), load_whole _ w3 x2 (off := ![0, 0]) (by decide)]
    rfl

end Cert.KernelIdeal.Val
-- ==== Proof.SpecBack.lean ====
module
public import proofs.«01_k».proof.Proof.Spec
/-!
# The pool's gradients, entry by entry

For one group of 256 channels: the gradient of the deviations, of the channels, of the matrix and of
the scale, over the extended reals, and sums over rows taken in chunks.
-/
@[expose] public section
set_option maxRecDepth 16384
noncomputable section
namespace Cert.PoolSpec
open Idealize.ShloMosaic

/-- The deviations' gradient: the scaled output gradient times the matrix transposed. -/
def devGrad (y : Fin 4096 → Fin 256 → EReal) (w : Fin 256 → Fin 256 → EReal) (s : Fin 256 → EReal) (t : Fin 4096)
    (c : Fin 256) : EReal := ∑ e : Fin 256, y t e * s e * w c e

/-- The channels' gradient: each row's share of the means it enters, less its own deviation's gradient. -/
def chanGrad (h : ℕ) (g : Fin 4096 → Fin 256 → EReal) (t : Fin 4096) (c : Fin 256) : EReal :=
  (∑ j ∈ Finset.Ico (16 + t.val - (h - 1)) (16 + t.val + (h + 1)), padded (fun t c => g t c * invCount h t.val) j c) - g t c

/-- The matrix's gradient, one row's share. -/
def matTerm (d y : Fin 4096 → Fin 256 → EReal) (s : Fin 256 → EReal) (a b : Fin 256) (t : Fin 4096) : EReal :=
  d t a * (y t b * s b)

/-- The scale's gradient, one row's share. -/
def scaleTerm (d y : Fin 4096 → Fin 256 → EReal) (w : Fin 256 → Fin 256 → EReal) (b : Fin 256) (t : Fin 4096) : EReal :=
  y t b * ∑ a : Fin 256, d t a * w a b

/-- The sum of the first `n` rows. -/
def upTo (f : Fin 4096 → EReal) (n : ℕ) : EReal := ∑ t ∈ Finset.range n, if h : t < 4096 then f ⟨t, h⟩ else 0

theorem upTo_zero (f : Fin 4096 → EReal) : upTo f 0 = 0 := rfl

theorem upTo_chunk (f : Fin 4096 → EReal) (b : ℕ) (hb : b + 512 ≤ 4096) :
    upTo f (b + 512) = upTo f b + ∑ r : Fin 512, f ⟨b + r.val, by omega⟩ := by
  unfold upTo
  rw [Finset.sum_range_add, Finset.sum_range (n := 512)]
  refine congrArg₂ _ rfl (Finset.sum_congr rfl fun r _ => ?_)
  rw [dif_pos (by omega)]

theorem upTo_all (f : Fin 4096 → EReal) : upTo f 4096 = ∑ t : Fin 4096, f t := by
  unfold upTo
  rw [Finset.sum_range]
  exact Finset.sum_congr rfl fun t _ => dif_pos t.isLt

end Cert.PoolSpec
-- ==== Proof.BwdRows.lean ====
module
public import proofs.«01_k».proof.Proof.FwdRows
public import proofs.«01_k».proof.Proof.SpecBack
/-!
# The backward kernel's stored rows

A chunk of 512 rows of the output's gradient gives the deviations' gradient, its shares of the means,
and additions to the matrix's and the scale's gradients. The four cases compute these by the same
operations.
-/
@[expose] public section
set_option maxRecDepth 16384
noncomputable section
namespace Cert.KernelIdeal.Val
open Idealize.ShloMosaic Cert.KernelIdeal Cert.KernelIdeal.Gen Cert.PoolSpec

variable (d y : Fin 4096 → Fin 256 → EReal) (bn : ℕ) (hbn : bn + 512 ≤ 4096)
include hbn

theorem dd_apply (v7 : Vec Ideal S1x256x256 .bf16) (v9 : Vec Ideal S1x256 .f32) (yc : Vec Ideal S512x256 .f32)
    (hy : ∀ (r : Fin 512) c, yc (ix2 r c) = y ⟨bn + r.val, by omega⟩ c) (r : Fin 512) (c : Fin 256) :
    k1_pay29 (F := Ideal) (k1_pay4 v7) v9 yc (ix2 r c)
      = devGrad y (fun a b => v7 (ix3 0 a b)) (fun b => v9 (ix2 0 b)) ⟨bn + r.val, by omega⟩ c := by
  pointwise [k1_pay29, k1_pay27, k1_pay4, hy]
  rfl

theorem dd_store_apply (v7 : Vec Ideal S1x256x256 .bf16) (v9 : Vec Ideal S1x256 .f32) (yc : Vec Ideal S512x256 .f32)
    (hy : ∀ (r : Fin 512) c, yc (ix2 r c) = y ⟨bn + r.val, by omega⟩ c) (r : Fin 512) (c : Fin 256) :
    k1_pay30 (F := Ideal) (k1_pay4 v7) v9 yc (ix2 r c)
      = devGrad y (fun a b => v7 (ix3 0 a b)) (fun b => v9 (ix2 0 b)) ⟨bn + r.val, by omega⟩ c := by
  rw [← dd_apply y bn hbn v7 v9 yc hy r c]
  pointwise [k1_pay30]

theorem share_apply (hw b : BitVec 32) (h : ℕ) (hb : b = BitVec.ofNat 32 bn)
    (H : ∀ t : Fin 4096, IntOp.subi (IntOp.minsi (IntOp.addi (BitVec.ofNat 32 t.val) hw) 4096#32)
      (IntOp.maxsi (IntOp.subi (BitVec.ofNat 32 t.val) hw) 0#32) = BitVec.ofNat 32 (count h t.val))
    (v7 : Vec Ideal S1x256x256 .bf16) (v9 : Vec Ideal S1x256 .f32) (yc : Vec Ideal S512x256 .f32)
    (hy : ∀ (r : Fin 512) c, yc (ix2 r c) = y ⟨bn + r.val, by omega⟩ c) (r : Fin 512) (c : Fin 256) :
    shapeCast S512x256 (mulf (k1_pay29 (F := Ideal) (k1_pay4 v7) v9 yc) (invRows hw b)) shapeCasts_S512x256_S512x256 (ix2 r c)
      = devGrad y (fun a b => v7 (ix3 0 a b)) (fun b => v9 (ix2 0 b)) ⟨bn + r.val, by omega⟩ c * invCount h (bn + r.val) := by
  rw [← dd_apply y bn hbn v7 v9 yc hy r c, ← invRows_apply hw b h bn hb r c (H ⟨bn + r.val, by omega⟩)]
  pointwise

theorem scale_apply (v7 : Vec Ideal S1x256x256 .bf16) (acc : FVec Ideal S1x256 .f32) (dc : Vec Ideal S512x256 .bf16)
    (yc : Vec Ideal S512x256 .f32) (hd : ∀ (r : Fin 512) c, dc (ix2 r c) = d ⟨bn + r.val, by omega⟩ c)
    (hy : ∀ (r : Fin 512) c, yc (ix2 r c) = y ⟨bn + r.val, by omega⟩ c) (b : Fin 256)
    (hacc : acc (ix2 0 b) = upTo (scaleTerm d y (fun a b => v7 (ix3 0 a b)) b) bn) :
    k1_pay26 (F := Ideal) (k1_pay4 v7) acc dc yc (ix2 0 b) = upTo (scaleTerm d y (fun a b => v7 (ix3 0 a b)) b) (bn + 512) := by
  rw [upTo_chunk _ bn hbn, ← hacc]
  pointwise [k1_pay26, k1_pay25, k1_pay4, hd, hy]
  rfl

theorem mat_apply (v9 : Vec Ideal S1x256 .f32) (acc : Vec Ideal S256x256 .f32) (dc : Vec Ideal S512x256 .bf16)
    (yc : Vec Ideal S512x256 .f32) (hd : ∀ (r : Fin 512) c, dc (ix2 r c) = d ⟨bn + r.val, by omega⟩ c)
    (hy : ∀ (r : Fin 512) c, yc (ix2 r c) = y ⟨bn + r.val, by omega⟩ c) (a b : Fin 256)
    (hacc : acc (ix2 a b) = upTo (matTerm d y (fun b => v9 (ix2 0 b)) a b) bn) :
    k1_pay28 (F := Ideal) v9 dc yc acc (ix2 a b) = upTo (matTerm d y (fun b => v9 (ix2 0 b)) a b) (bn + 512) := by
  rw [upTo_chunk _ bn hbn, ← hacc]
  pointwise [k1_pay28, k1_pay27, k1_pay25, hd, hy]
  rfl

/-- A chunk of the channels' gradient: the sums over the window of the shares, less the deviations' gradient. -/
def backRows (s : FVec Ideal S544x256 .f32) (g : Vec Ideal S512x256 .f32) : FVec Ideal S512x256 .bf16 :=
  truncf .bf16 (subf (extractStridedSlice S512x256 ![16, 0] (rot 543#32 s) slices_S544x256_o16_0_S512x256) g) bitsLt_bf16_f32

theorem backRows_apply (h : ℕ) (h0 : 0 < h) (hh : h ≤ 8) (g : Fin 4096 → Fin 256 → EReal) (s : FVec Ideal S544x256 .f32)
    (gc : Vec Ideal S512x256 .f32) (hg : ∀ (r : Fin 512) c, gc (ix2 r c) = g ⟨bn + r.val, by omega⟩ c)
    {lo hi : ℕ} (hl : h ≤ lo) (hlo : lo ≤ 16) (hhi : 529 ≤ hi) (hi5 : hi ≤ 544)
    (hs : Sums s (fun i c => padded (fun t c => g t c * invCount h t.val) (bn + i) c) h h lo hi) (r : Fin 512) (c : Fin 256) :
    backRows s gc (ix2 r c) = chanGrad h g ⟨bn + r.val, by omega⟩ c := by
  have e : backRows s gc (ix2 r c) = rot 543#32 s (ix2 ⟨16 + r.val, by omega⟩ c) - gc (ix2 r c) := by
    pointwise [backRows]
  rw [e, hg, sums_next hs h0 hl hi5 _ c (by show lo ≤ 16 + r.val; omega) (by show 16 + r.val < hi - 1; omega)]
  rw [sum_shift _ _ _ _ _ (by omega)]
  rfl

end Cert.KernelIdeal.Val
-- ==== Proof.BwdLoops.lean ====
module
public import proofs.«01_k».proof.Proof.BwdRows
public import proofs.«01_k».proof.Proof.Pieces
public import proofs.«01_k».proof.Proof.Gen.KernelIdeal.Loops
public import Idealize.ShloMosaic.Lib.VecWindow
/-!
# The backward kernel's loops

The first loop goes through the output's gradient in pairs of chunks of 512 rows: it stores the
deviations' gradient and its shares of the means, and adds to the matrix's gradient (in a buffer) and
to the scale's (carried). The second loop gathers the shares into the channels' gradient. Each of the
four cases is the same but for the width of its window.
-/
@[expose] public section
set_option maxRecDepth 16384
noncomputable section
namespace Cert.KernelIdeal.Val
open Idealize.ShloMosaic Cert.KernelIdeal Cert.KernelIdeal.Gen Cert.PoolSpec Cert.Pieces
open Idealize.SL Idealize.SL.Sem

theorem pair_word : ∀ k : Fin 4, Scalar.muli (Scalar.muli 2#32 (Scf.iv 0#32 1#32 k.val)) 512#32 = BitVec.ofNat 32 (1024 * k.val) := by
  decide +kernel

theorem pair_word' : ∀ k : Fin 4, Scalar.muli (Scalar.addi (Scalar.muli 2#32 (Scf.iv 0#32 1#32 k.val)) 1#32) 512#32
    = BitVec.ofNat 32 (1024 * k.val + 512) := by
  decide +kernel

/-- A load of a chunk reads the chunk's rows. -/
theorem chunk_read {e : EltTy} {sig : _} {κ : _} {sp : _} (v : View sig κ sp S4096x256 e) (X : v.ty.Contents (Elt Ideal))
    (f : Fin 4096 → Fin 256 → Elt Ideal e) (hf : ∀ t d, v.read (Elt Ideal) X (ix2 t d) = f t d) (b : ℕ) (hb : b + 512 ≤ 4096)
    {off : Fin 2 → ℕ} (ho : off = ![b, 0]) (inb : ∀ a, off a + S512x256.size a ≤ S4096x256.size a) (r : Fin 512) (d : Fin 256) :
    v.readAt (Elt Ideal) (Rect.unit (s := S4096x256) off S512x256.size inb).toLoadRect X (ix2 r d) = f ⟨b + r.val, by omega⟩ d := by
  rw [View.readAt_apply, unit_idx2 (m := 4096) (n := 256) (o0 := b) (o1 := 0) ho inb r d (by omega) (by omega), hf]
  simp

variable (𝒱 : Variants) (c : Dev nD) (bd : Option 𝒱.V) (i : grid1.Coords) (a1 : Memref sig .tc .vmem S4096x256 .bf16) (h1 : a1.IsWhole) (a2 : Memref sig .tc .vmem S4096x256 .f32)
    (h2 : a2.IsWhole) (a3 : Memref sig .tc .vmem S1x256x256 .bf16) (h3 : a3.IsWhole) (a4 : Memref sig .tc .vmem S1x256 .f32) (h4 : a4.IsWhole) (a5 : Memref sig .tc .vmem S8x128 .f32)
    (h5 : a5.IsWhole) (a6 : Memref sig .tc .vmem S4096x256 .bf16) (h6 : a6.IsWhole) (a7 : Memref sig .tc .vmem S8x1x32x256 .bf16) (h7 : a7.IsWhole) (a8 : Memref sig .tc .vmem S1x256 .f32)
    (h8 : a8.IsWhole) (a9 : Memref sig .tc .vmem S4128x256 .f32) (h9 : a9.IsWhole) (a10 : Memref sig .tc .vmem S4096x256 .f32) (h10 : a10.IsWhole) (a11 : Memref sig .tc .vmem S256x256 .f32)
    (h11 : a11.IsWhole)

/-- A trip's stores of the shares and of the deviations' gradient, half-width 1. -/
theorem bwd_trip_agree_1 (v7 : Vec Ideal S1x256x256 .bf16) (v9 : Vec Ideal S1x256 .f32) (hc : k1_cond1 i = 1#1)
    (X1 : BufTy.Contents (Elt Ideal) a1.view.ty) (X2 : BufTy.Contents (Elt Ideal) a2.view.ty) (y : Fin 4096 → Fin 256 → EReal)
    (hy : ∀ t d, a2.view.read (Elt Ideal) X2 (ix2 t d) = y t d) (k : Fin k1_t1_loop.trips) (acc : FVec Ideal S1x256 .f32)
    (f9 : BufTy.Contents (Elt Ideal) a9.view.ty) (f10 : BufTy.Contents (Elt Ideal) a10.view.ty) (f11 : BufTy.Contents (Elt Ideal) a11.view.ty) :
    Agree (fun q => padded (fun t c => devGrad y (fun a b => v7 (ix3 0 a b)) (fun b => v9 (ix2 0 b)) t c * invCount 1 t.val) (q 0).val (q 1)) (tripL_k1_t1 (F := Ideal) 𝒱 c bd i a1 h1 a2 h2 a3 h3 a4 h4 a5 h5 a6 h6 a7 h7 a8 h8 a9 h9 a10 h10 a11 h11 v7 v9 hc X1 X2 k acc f9 f10 f11).1
    ∧ Agree (fun q => devGrad y (fun a b => v7 (ix3 0 a b)) (fun b => v9 (ix2 0 b)) (q 0) (q 1)) (tripL_k1_t1 (F := Ideal) 𝒱 c bd i a1 h1 a2 h2 a3 h3 a4 h4 a5 h5 a6 h6 a7 h7 a8 h8 a9 h9 a10 h10 a11 h11 v7 v9 hc X1 X2 k acc f9 f10 f11).2.1 := by
  have hk : k.val < 4 := Nat.lt_of_lt_of_le k.isLt (by decide +kernel)
  unfold tripL_k1_t1 trip_k1_t1
  dsimp only
  refine ⟨Agree.cons (fun x => ?_) (Agree.cons (fun x => ?_) (Agree.nil _)), Agree.cons (fun x => ?_) (Agree.cons (fun x => ?_) (Agree.nil _))⟩
  · obtain ⟨r, e, rfl⟩ : ∃ (r : Fin 512) (e : Fin 256), x = ix2 r e := ⟨_, _, eq_ix2 x⟩
    dsimp only
    rw [unit_emb2 (m := 4128) (n := 256) (o0 := 1024 * k.val + 528) (o1 := 0) (k1_off4_eq k) _ r e (by omega) (by omega)]
    refine (share_apply y (1024 * k.val + 512) (by omega) 1#32 _ 1 (pair_word' ⟨k.val, hk⟩) count_word1 v7 v9 _ (chunk_read a2.view X2 y hy _ (by omega) (k1_off3_eq k) _) r e).trans ?_
    have e2 := padded_mid (fun t c => devGrad y (fun a b => v7 (ix3 0 a b)) (fun b => v9 (ix2 0 b)) t c * invCount 1 t.val) ⟨1024 * k.val + 512 + r.val, by omega⟩ e
    rw [← e2]
    simp [show 16 + (1024 * k.val + 512 + r.val) = 1024 * k.val + 528 + r.val by omega]
  · obtain ⟨r, e, rfl⟩ : ∃ (r : Fin 512) (e : Fin 256), x = ix2 r e := ⟨_, _, eq_ix2 x⟩
    dsimp only
    rw [unit_emb2 (m := 4128) (n := 256) (o0 := 1024 * k.val + 16) (o1 := 0) (k1_off2_eq k) _ r e (by omega) (by omega)]
    refine (share_apply y (1024 * k.val) (by omega) 1#32 _ 1 (pair_word ⟨k.val, hk⟩) count_word1 v7 v9 _ (chunk_read a2.view X2 y hy _ (by omega) (k1_off1_eq k) _) r e).trans ?_
    have e2 := padded_mid (fun t c => devGrad y (fun a b => v7 (ix3 0 a b)) (fun b => v9 (ix2 0 b)) t c * invCount 1 t.val) ⟨1024 * k.val + r.val, by omega⟩ e
    rw [← e2]
    simp [show 16 + (1024 * k.val + r.val) = 1024 * k.val + 16 + r.val by omega]
  · obtain ⟨r, e, rfl⟩ : ∃ (r : Fin 512) (e : Fin 256), x = ix2 r e := ⟨_, _, eq_ix2 x⟩
    dsimp only
    rw [unit_emb2 (m := 4096) (n := 256) (o0 := 1024 * k.val + 512) (o1 := 0) (k1_off3_eq k) _ r e (by omega) (by omega)]
    refine (dd_store_apply y (1024 * k.val + 512) (by omega) v7 v9 _ (chunk_read a2.view X2 y hy _ (by omega) (k1_off3_eq k) _) r e).trans ?_
    simp
  · obtain ⟨r, e, rfl⟩ : ∃ (r : Fin 512) (e : Fin 256), x = ix2 r e := ⟨_, _, eq_ix2 x⟩
    dsimp only
    rw [unit_emb2 (m := 4096) (n := 256) (o0 := 1024 * k.val) (o1 := 0) (k1_off1_eq k) _ r e (by omega) (by omega)]
    refine (dd_store_apply y (1024 * k.val) (by omega) v7 v9 _ (chunk_read a2.view X2 y hy _ (by omega) (k1_off1_eq k) _) r e).trans ?_
    simp

/-- A trip's new scale gradient, half-width 1. -/
theorem bwd_trip_scale_1 (v7 : Vec Ideal S1x256x256 .bf16) (v9 : Vec Ideal S1x256 .f32) (hc : k1_cond1 i = 1#1)
    (X1 : BufTy.Contents (Elt Ideal) a1.view.ty) (X2 : BufTy.Contents (Elt Ideal) a2.view.ty) (d y : Fin 4096 → Fin 256 → EReal)
    (hd : ∀ t e, a1.view.read (Elt Ideal) X1 (ix2 t e) = d t e) (hy : ∀ t e, a2.view.read (Elt Ideal) X2 (ix2 t e) = y t e) (k : Fin k1_t1_loop.trips) (acc : FVec Ideal S1x256 .f32)
    (f9 : BufTy.Contents (Elt Ideal) a9.view.ty) (f10 : BufTy.Contents (Elt Ideal) a10.view.ty) (f11 : BufTy.Contents (Elt Ideal) a11.view.ty)
    (b : Fin 256) (hacc : acc (ix2 0 b) = upTo (scaleTerm d y (fun a b => v7 (ix3 0 a b)) b) (1024 * k.val)) :
    tripR_k1_t1 (F := Ideal) 𝒱 c bd i a1 h1 a2 h2 a3 h3 a4 h4 a5 h5 a6 h6 a7 h7 a8 h8 a9 h9 a10 h10 a11 h11 v7 v9 hc X1 X2 k acc f9 f10 f11 (ix2 0 b) = upTo (scaleTerm d y (fun a b => v7 (ix3 0 a b)) b) (1024 * (k.val + 1)) := by
  have hk : k.val < 4 := Nat.lt_of_lt_of_le k.isLt (by decide +kernel)
  unfold tripR_k1_t1 trip_k1_t1
  dsimp only
  rw [show 1024 * (k.val + 1) = 1024 * k.val + 512 + 512 by omega]
  exact scale_apply d y (1024 * k.val + 512) (by omega) v7 _ _ _ (chunk_read a1.view X1 d hd _ (by omega) (k1_off3_eq k) _) (chunk_read a2.view X2 y hy _ (by omega) (k1_off3_eq k) _) b
    (scale_apply d y (1024 * k.val) (by omega) v7 _ _ _ (chunk_read a1.view X1 d hd _ (by omega) (k1_off1_eq k) _) (chunk_read a2.view X2 y hy _ (by omega) (k1_off1_eq k) _) b hacc)

/-- A trip's new matrix gradient, half-width 1. -/
theorem bwd_trip_mat_1 (v7 : Vec Ideal S1x256x256 .bf16) (v9 : Vec Ideal S1x256 .f32) (hc : k1_cond1 i = 1#1)
    (X1 : BufTy.Contents (Elt Ideal) a1.view.ty) (X2 : BufTy.Contents (Elt Ideal) a2.view.ty) (d y : Fin 4096 → Fin 256 → EReal)
    (hd : ∀ t e, a1.view.read (Elt Ideal) X1 (ix2 t e) = d t e) (hy : ∀ t e, a2.view.read (Elt Ideal) X2 (ix2 t e) = y t e) (k : Fin k1_t1_loop.trips) (acc : FVec Ideal S1x256 .f32)
    (f9 : BufTy.Contents (Elt Ideal) a9.view.ty) (f10 : BufTy.Contents (Elt Ideal) a10.view.ty) (f11 : BufTy.Contents (Elt Ideal) a11.view.ty)
    (a b : Fin 256) (hacc : a11.view.read (Elt Ideal) f11 (ix2 a b) = upTo (matTerm d y (fun b => v9 (ix2 0 b)) a b) (1024 * k.val)) (G prev) :
    a11.view.read (Elt Ideal) (a11.view.writes (Elt Ideal) G ((tripL_k1_t1 (F := Ideal) 𝒱 c bd i a1 h1 a2 h2 a3 h3 a4 h4 a5 h5 a6 h6 a7 h7 a8 h8 a9 h9 a10 h10 a11 h11 v7 v9 hc X1 X2 k acc f9 f10 f11).2.2 ++ prev)) (ix2 a b)
      = upTo (matTerm d y (fun b => v9 (ix2 0 b)) a b) (1024 * (k.val + 1)) := by
  have hk : k.val < 4 := Nat.lt_of_lt_of_le k.isLt (by decide +kernel)
  unfold tripL_k1_t1 trip_k1_t1
  dsimp only
  rw [show 1024 * (k.val + 1) = 1024 * k.val + 512 + 512 by omega]
  refine (congrFun (View.read_writes_full a11.view _ _ _ _) _).trans ?_
  refine mat_apply d y (1024 * k.val + 512) (by omega) v9 _ _ _ (chunk_read a1.view X1 d hd _ (by omega) (k1_off3_eq k) _) (chunk_read a2.view X2 y hy _ (by omega) (k1_off3_eq k) _) a b ?_
  refine (congrFun (View.readCov_full a11.view _ _ _ _) _).trans ?_
  refine mat_apply d y (1024 * k.val) (by omega) v9 _ _ _ (chunk_read a1.view X1 d hd _ (by omega) (k1_off1_eq k) _) (chunk_read a2.view X2 y hy _ (by omega) (k1_off1_eq k) _) a b ?_
  refine (congrFun (View.readAt_full a11.view _ _) _).trans hacc

/-- The first loop's state after `n` trips, half-width 1. -/
theorem bwd_state_1 (v7 : Vec Ideal S1x256x256 .bf16) (v9 : Vec Ideal S1x256 .f32) (hc : k1_cond1 i = 1#1)
    (X1 : BufTy.Contents (Elt Ideal) a1.view.ty) (X2 : BufTy.Contents (Elt Ideal) a2.view.ty) (d y : Fin 4096 → Fin 256 → EReal)
    (hd : ∀ t e, a1.view.read (Elt Ideal) X1 (ix2 t e) = d t e) (hy : ∀ t e, a2.view.read (Elt Ideal) X2 (ix2 t e) = y t e)
    (G9 : BufTy.Contents (Elt Ideal) a9.view.ty) (G10 : BufTy.Contents (Elt Ideal) a10.view.ty)
    (G11 : BufTy.Contents (Elt Ideal) a11.view.ty) (init : FVec Ideal S1x256 .f32) (hi : ∀ b, init (ix2 0 b) = 0) (h11' : ∀ a b, a11.view.read (Elt Ideal) G11 (ix2 a b) = 0) :
    ∀ n, n ≤ k1_t1_loop.trips →
      Agree (fun q => padded (fun t c => devGrad y (fun a b => v7 (ix3 0 a b)) (fun b => v9 (ix2 0 b)) t c * invCount 1 t.val) (q 0).val (q 1)) (st_k1_t1 (F := Ideal) 𝒱 c bd i a1 h1 a2 h2 a3 h3 a4 h4 a5 h5 a6 h6 a7 h7 a8 h8 a9 h9 a10 h10 a11 h11 v7 v9 hc X1 X2 G9 G10 G11 init n).2.1
      ∧ Agree (fun q => devGrad y (fun a b => v7 (ix3 0 a b)) (fun b => v9 (ix2 0 b)) (q 0) (q 1)) (st_k1_t1 (F := Ideal) 𝒱 c bd i a1 h1 a2 h2 a3 h3 a4 h4 a5 h5 a6 h6 a7 h7 a8 h8 a9 h9 a10 h10 a11 h11 v7 v9 hc X1 X2 G9 G10 G11 init n).2.2.1
      ∧ (∀ b, (st_k1_t1 (F := Ideal) 𝒱 c bd i a1 h1 a2 h2 a3 h3 a4 h4 a5 h5 a6 h6 a7 h7 a8 h8 a9 h9 a10 h10 a11 h11 v7 v9 hc X1 X2 G9 G10 G11 init n).1 (ix2 0 b) = upTo (scaleTerm d y (fun a b => v7 (ix3 0 a b)) b) (1024 * n))
      ∧ (∀ a b, a11.view.read (Elt Ideal) (a11.view.writes (Elt Ideal) G11 (st_k1_t1 (F := Ideal) 𝒱 c bd i a1 h1 a2 h2 a3 h3 a4 h4 a5 h5 a6 h6 a7 h7 a8 h8 a9 h9 a10 h10 a11 h11 v7 v9 hc X1 X2 G9 G10 G11 init n).2.2.2) (ix2 a b)
          = upTo (matTerm d y (fun b => v9 (ix2 0 b)) a b) (1024 * n))
  | 0, _ => ⟨Agree.nil _, Agree.nil _, fun b => (hi b).trans (upTo_zero _).symm, fun a b => (h11' a b).trans (upTo_zero _).symm⟩
  | n + 1, hn => by
    obtain ⟨i1, i2, i3, i4⟩ := bwd_state_1 v7 v9 hc X1 X2 d y hd hy G9 G10 G11 init hi h11' n (by omega)
    rw [st_k1_t1_succ 𝒱 c bd i a1 h1 a2 h2 a3 h3 a4 h4 a5 h5 a6 h6 a7 h7 a8 h8 a9 h9 a10 h10 a11 h11 v7 v9 hc X1 X2 G9 G10 G11 init ⟨n, hn⟩]
    have T := bwd_trip_agree_1 𝒱 c bd i a1 h1 a2 h2 a3 h3 a4 h4 a5 h5 a6 h6 a7 h7 a8 h8 a9 h9 a10 h10 a11 h11 v7 v9 hc X1 X2 y hy ⟨n, hn⟩
    exact ⟨(T _ _ _ _).1.append i1, (T _ _ _ _).2.append i2,
      fun b => bwd_trip_scale_1 𝒱 c bd i a1 h1 a2 h2 a3 h3 a4 h4 a5 h5 a6 h6 a7 h7 a8 h8 a9 h9 a10 h10 a11 h11 v7 v9 hc X1 X2 d y hd hy ⟨n, hn⟩ _ _ _ _ b (i3 b),
      fun a b => bwd_trip_mat_1 𝒱 c bd i a1 h1 a2 h2 a3 h3 a4 h4 a5 h5 a6 h6 a7 h7 a8 h8 a9 h9 a10 h10 a11 h11 v7 v9 hc X1 X2 d y hd hy ⟨n, hn⟩ _ _ _ _ a b (i4 a b) _ _⟩

/-- The first loop's stores of the shares reach every row of the middle, half-width 1. -/
theorem bwd_share_covers_1 (v7 : Vec Ideal S1x256x256 .bf16) (v9 : Vec Ideal S1x256 .f32) (hc : k1_cond1 i = 1#1)
    (X1 : BufTy.Contents (Elt Ideal) a1.view.ty) (X2 : BufTy.Contents (Elt Ideal) a2.view.ty) (G9 : BufTy.Contents (Elt Ideal) a9.view.ty) (G10 : BufTy.Contents (Elt Ideal) a10.view.ty)
    (G11 : BufTy.Contents (Elt Ideal) a11.view.ty) (init : FVec Ideal S1x256 .f32) (q : Fin 4128) (e : Fin 256) (hl : 16 ≤ q.val) (hh : q.val < 4112) :
    Covers (st_k1_t1 (F := Ideal) 𝒱 c bd i a1 h1 a2 h2 a3 h3 a4 h4 a5 h5 a6 h6 a7 h7 a8 h8 a9 h9 a10 h10 a11 h11 v7 v9 hc X1 X2 G9 G10 G11 init k1_t1_loop.trips).2.1 (ix2 q e) := by
  have hT : k1_t1_loop.trips = 4 := by decide +kernel
  have H := covers_trips k1_t1_loop.trips (fun n => (st_k1_t1 (F := Ideal) 𝒱 c bd i a1 h1 a2 h2 a3 h3 a4 h4 a5 h5 a6 h6 a7 h7 a8 h8 a9 h9 a10 h10 a11 h11 v7 v9 hc X1 X2 G9 G10 G11 init n).2.1) _
    (fun k => congrArg (fun z => z.2.1) (st_k1_t1_succ 𝒱 c bd i a1 h1 a2 h2 a3 h3 a4 h4 a5 h5 a6 h6 a7 h7 a8 h8 a9 h9 a10 h10 a11 h11 v7 v9 hc X1 X2 G9 G10 G11 init k)) (y := ix2 q e)
    ⟨(q.val - 16) / 1024, by rw [hT]; omega⟩ ?_ _ (show (q.val - 16) / 1024 < k1_t1_loop.trips by rw [hT]; omega) le_rfl
  · exact H
  unfold tripL_k1_t1 trip_k1_t1
  dsimp only
  by_cases hq : (q.val - 16) % 1024 < 512
  · refine Covers.tail (Covers.head (unit_mem2 (m := 4128) (n := 256) (o0 := 1024 * ((q.val - 16) / 1024) + 16) (o1 := 0) (k1_off2_eq _) (k1_off2_inb i _ hc) q e
      (by show 1024 * ((q.val - 16) / 1024) + 16 ≤ q.val; omega) (by show q.val < 1024 * ((q.val - 16) / 1024) + 16 + 512; omega) (by omega) (by omega)))
  · refine Covers.head (unit_mem2 (m := 4128) (n := 256) (o0 := 1024 * ((q.val - 16) / 1024) + 528) (o1 := 0) (k1_off4_eq _) (k1_off4_inb i _ hc) q e
      (by show 1024 * ((q.val - 16) / 1024) + 528 ≤ q.val; omega) (by show q.val < 1024 * ((q.val - 16) / 1024) + 528 + 512; omega) (by omega) (by omega))

/-- The first loop's stores of the deviations' gradient reach every row, half-width 1. -/
theorem bwd_dev_covers_1 (v7 : Vec Ideal S1x256x256 .bf16) (v9 : Vec Ideal S1x256 .f32) (hc : k1_cond1 i = 1#1)
    (X1 : BufTy.Contents (Elt Ideal) a1.view.ty) (X2 : BufTy.Contents (Elt Ideal) a2.view.ty) (G9 : BufTy.Contents (Elt Ideal) a9.view.ty) (G10 : BufTy.Contents (Elt Ideal) a10.view.ty)
    (G11 : BufTy.Contents (Elt Ideal) a11.view.ty) (init : FVec Ideal S1x256 .f32) (q : Fin 4096) (e : Fin 256) :
    Covers (st_k1_t1 (F := Ideal) 𝒱 c bd i a1 h1 a2 h2 a3 h3 a4 h4 a5 h5 a6 h6 a7 h7 a8 h8 a9 h9 a10 h10 a11 h11 v7 v9 hc X1 X2 G9 G10 G11 init k1_t1_loop.trips).2.2.1 (ix2 q e) := by
  have hT : k1_t1_loop.trips = 4 := by decide +kernel
  have H := covers_trips k1_t1_loop.trips (fun n => (st_k1_t1 (F := Ideal) 𝒱 c bd i a1 h1 a2 h2 a3 h3 a4 h4 a5 h5 a6 h6 a7 h7 a8 h8 a9 h9 a10 h10 a11 h11 v7 v9 hc X1 X2 G9 G10 G11 init n).2.2.1) _
    (fun k => congrArg (fun z => z.2.2.1) (st_k1_t1_succ 𝒱 c bd i a1 h1 a2 h2 a3 h3 a4 h4 a5 h5 a6 h6 a7 h7 a8 h8 a9 h9 a10 h10 a11 h11 v7 v9 hc X1 X2 G9 G10 G11 init k)) (y := ix2 q e)
    ⟨q.val / 1024, by rw [hT]; omega⟩ ?_ _ (show q.val / 1024 < k1_t1_loop.trips by rw [hT]; omega) le_rfl
  · exact H
  unfold tripL_k1_t1 trip_k1_t1
  dsimp only
  by_cases hq : q.val % 1024 < 512
  · refine Covers.tail (Covers.head (unit_mem2 (m := 4096) (n := 256) (o0 := 1024 * (q.val / 1024)) (o1 := 0) (k1_off1_eq _) (k1_off1_inb i _ hc) q e
      (by show 1024 * (q.val / 1024) ≤ q.val; omega) (by show q.val < 1024 * (q.val / 1024) + 512; omega) (by omega) (by omega)))
  · refine Covers.head (unit_mem2 (m := 4096) (n := 256) (o0 := 1024 * (q.val / 1024) + 512) (o1 := 0) (k1_off3_eq _) (k1_off3_inb i _ hc) q e
      (by show 1024 * (q.val / 1024) + 512 ≤ q.val; omega) (by show q.val < 1024 * (q.val / 1024) + 512 + 512; omega) (by omega) (by omega))

/-- The second loop's stores of the channels' gradient, half-width 1. -/
theorem bwd_agrees_1 (hc : k1_cond1 i = 1#1) (X9 : BufTy.Contents (Elt Ideal) a9.view.ty) (X10 : BufTy.Contents (Elt Ideal) a10.view.ty) (g : Fin 4096 → Fin 256 → EReal)
    (h9' : ∀ t e, a9.view.read (Elt Ideal) X9 (ix2 t e) = padded (fun t c => g t c * invCount 1 t.val) t.val e)
    (h10' : ∀ t e, a10.view.read (Elt Ideal) X10 (ix2 t e) = g t e) :
    Agree (fun q => chanGrad 1 g (q 0) (q 1)) (pb_k1_t2 (F := Ideal) 𝒱 c bd i a1 h1 a2 h2 a3 h3 a4 h4 a5 h5 a6 h6 a7 h7 a8 h8 a9 h9 a10 h10 a11 h11 hc X9 X10 k1_t2_loop.trips) := by
  refine agree_trips k1_t2_loop.trips _ _ rfl (pb_k1_t2_succ 𝒱 c bd i a1 h1 a2 h2 a3 h3 a4 h4 a5 h5 a6 h6 a7 h7 a8 h8 a9 h9 a10 h10 a11 h11 hc X9 X10) (fun k => ?_) _ le_rfl
  have hk : k.val < 8 := Nat.lt_of_lt_of_le k.isLt (by decide +kernel)
  have he : ∀ (j : Fin 544) (e : Fin 256), View.readAt (Elt Ideal) a9.view
      (Rect.unit (s := S4128x256) (k1_off5 k) S544x256.size (k1_off5_inb i k hc)).toLoadRect X9 (ix2 j e)
        = padded (fun t c => g t c * invCount 1 t.val) (512 * k.val + j.val) e := by
    intro j e
    rw [View.readAt_apply, unit_idx2 (m := 4128) (n := 256) (o0 := 512 * k.val) (o1 := 0) (k1_off5_eq k) _ j e (by omega) (by omega), h9']
    simp
  unfold tripL_k1_t2 trip_k1_t2
  dsimp only
  refine Agree.cons (fun x => ?_) (Agree.nil _)
  obtain ⟨r, e, rfl⟩ : ∃ (r : Fin 512) (e : Fin 256), x = ix2 r e := ⟨_, _, eq_ix2 x⟩
  dsimp only
  rw [unit_emb2 (m := 4096) (n := 256) (o0 := 512 * k.val) (o1 := 0) (k1_off6_eq k) _ r e (by omega) (by omega)]
  refine (backRows_apply (512 * k.val) (by omega) 1 (by omega) (by omega) g (win2 _) _
    (chunk_read a10.view X10 g h10' _ (by omega) (k1_off6_eq k) _) (lo := 1) (hi := 544) (by omega) (by omega) (by omega) (by omega)
    (sums_win2 (X := fun i c => padded (fun t c => g t c * invCount 1 t.val) (512 * k.val + i) c) he) r e).trans ?_
  simp

/-- A trip's stores of the shares and of the deviations' gradient, half-width 2. -/
theorem bwd_trip_agree_2 (v7 : Vec Ideal S1x256x256 .bf16) (v9 : Vec Ideal S1x256 .f32) (hc : k1_cond2 i = 1#1)
    (X1 : BufTy.Contents (Elt Ideal) a1.view.ty) (X2 : BufTy.Contents (Elt Ideal) a2.view.ty) (y : Fin 4096 → Fin 256 → EReal)
    (hy : ∀ t d, a2.view.read (Elt Ideal) X2 (ix2 t d) = y t d) (k : Fin k1_t3_loop.trips) (acc : FVec Ideal S1x256 .f32)
    (f9 : BufTy.Contents (Elt Ideal) a9.view.ty) (f10 : BufTy.Contents (Elt Ideal) a10.view.ty) (f11 : BufTy.Contents (Elt Ideal) a11.view.ty) :
    Agree (fun q => padded (fun t c => devGrad y (fun a b => v7 (ix3 0 a b)) (fun b => v9 (ix2 0 b)) t c * invCount 2 t.val) (q 0).val (q 1)) (tripL_k1_t3 (F := Ideal) 𝒱 c bd i a1 h1 a2 h2 a3 h3 a4 h4 a5 h5 a6 h6 a7 h7 a8 h8 a9 h9 a10 h10 a11 h11 v7 v9 hc X1 X2 k acc f9 f10 f11).1
    ∧ Agree (fun q => devGrad y (fun a b => v7 (ix3 0 a b)) (fun b => v9 (ix2 0 b)) (q 0) (q 1)) (tripL_k1_t3 (F := Ideal) 𝒱 c bd i a1 h1 a2 h2 a3 h3 a4 h4 a5 h5 a6 h6 a7 h7 a8 h8 a9 h9 a10 h10 a11 h11 v7 v9 hc X1 X2 k acc f9 f10 f11).2.1 := by
  have hk : k.val < 4 := Nat.lt_of_lt_of_le k.isLt (by decide +kernel)
  unfold tripL_k1_t3 trip_k1_t3
  dsimp only
  refine ⟨Agree.cons (fun x => ?_) (Agree.cons (fun x => ?_) (Agree.nil _)), Agree.cons (fun x => ?_) (Agree.cons (fun x => ?_) (Agree.nil _))⟩
  · obtain ⟨r, e, rfl⟩ : ∃ (r : Fin 512) (e : Fin 256), x = ix2 r e := ⟨_, _, eq_ix2 x⟩
    dsimp only
    rw [unit_emb2 (m := 4128) (n := 256) (o0 := 1024 * k.val + 528) (o1 := 0) (k1_off10_eq k) _ r e (by omega) (by omega)]
    refine (share_apply y (1024 * k.val + 512) (by omega) 2#32 _ 2 (pair_word' ⟨k.val, hk⟩) count_word2 v7 v9 _ (chunk_read a2.view X2 y hy _ (by omega) (k1_off9_eq k) _) r e).trans ?_
    have e2 := padded_mid (fun t c => devGrad y (fun a b => v7 (ix3 0 a b)) (fun b => v9 (ix2 0 b)) t c * invCount 2 t.val) ⟨1024 * k.val + 512 + r.val, by omega⟩ e
    rw [← e2]
    simp [show 16 + (1024 * k.val + 512 + r.val) = 1024 * k.val + 528 + r.val by omega]
  · obtain ⟨r, e, rfl⟩ : ∃ (r : Fin 512) (e : Fin 256), x = ix2 r e := ⟨_, _, eq_ix2 x⟩
    dsimp only
    rw [unit_emb2 (m := 4128) (n := 256) (o0 := 1024 * k.val + 16) (o1 := 0) (k1_off8_eq k) _ r e (by omega) (by omega)]
    refine (share_apply y (1024 * k.val) (by omega) 2#32 _ 2 (pair_word ⟨k.val, hk⟩) count_word2 v7 v9 _ (chunk_read a2.view X2 y hy _ (by omega) (k1_off7_eq k) _) r e).trans ?_
    have e2 := padded_mid (fun t c => devGrad y (fun a b => v7 (ix3 0 a b)) (fun b => v9 (ix2 0 b)) t c * invCount 2 t.val) ⟨1024 * k.val + r.val, by omega⟩ e
    rw [← e2]
    simp [show 16 + (1024 * k.val + r.val) = 1024 * k.val + 16 + r.val by omega]
  · obtain ⟨r, e, rfl⟩ : ∃ (r : Fin 512) (e : Fin 256), x = ix2 r e := ⟨_, _, eq_ix2 x⟩
    dsimp only
    rw [unit_emb2 (m := 4096) (n := 256) (o0 := 1024 * k.val + 512) (o1 := 0) (k1_off9_eq k) _ r e (by omega) (by omega)]
    refine (dd_store_apply y (1024 * k.val + 512) (by omega) v7 v9 _ (chunk_read a2.view X2 y hy _ (by omega) (k1_off9_eq k) _) r e).trans ?_
    simp
  · obtain ⟨r, e, rfl⟩ : ∃ (r : Fin 512) (e : Fin 256), x = ix2 r e := ⟨_, _, eq_ix2 x⟩
    dsimp only
    rw [unit_emb2 (m := 4096) (n := 256) (o0 := 1024 * k.val) (o1 := 0) (k1_off7_eq k) _ r e (by omega) (by omega)]
    refine (dd_store_apply y (1024 * k.val) (by omega) v7 v9 _ (chunk_read a2.view X2 y hy _ (by omega) (k1_off7_eq k) _) r e).trans ?_
    simp

/-- A trip's new scale gradient, half-width 2. -/
theorem bwd_trip_scale_2 (v7 : Vec Ideal S1x256x256 .bf16) (v9 : Vec Ideal S1x256 .f32) (hc : k1_cond2 i = 1#1)
    (X1 : BufTy.Contents (Elt Ideal) a1.view.ty) (X2 : BufTy.Contents (Elt Ideal) a2.view.ty) (d y : Fin 4096 → Fin 256 → EReal)
    (hd : ∀ t e, a1.view.read (Elt Ideal) X1 (ix2 t e) = d t e) (hy : ∀ t e, a2.view.read (Elt Ideal) X2 (ix2 t e) = y t e) (k : Fin k1_t3_loop.trips) (acc : FVec Ideal S1x256 .f32)
    (f9 : BufTy.Contents (Elt Ideal) a9.view.ty) (f10 : BufTy.Contents (Elt Ideal) a10.view.ty) (f11 : BufTy.Contents (Elt Ideal) a11.view.ty)
    (b : Fin 256) (hacc : acc (ix2 0 b) = upTo (scaleTerm d y (fun a b => v7 (ix3 0 a b)) b) (1024 * k.val)) :
    tripR_k1_t3 (F := Ideal) 𝒱 c bd i a1 h1 a2 h2 a3 h3 a4 h4 a5 h5 a6 h6 a7 h7 a8 h8 a9 h9 a10 h10 a11 h11 v7 v9 hc X1 X2 k acc f9 f10 f11 (ix2 0 b) = upTo (scaleTerm d y (fun a b => v7 (ix3 0 a b)) b) (1024 * (k.val + 1)) := by
  have hk : k.val < 4 := Nat.lt_of_lt_of_le k.isLt (by decide +kernel)
  unfold tripR_k1_t3 trip_k1_t3
  dsimp only
  rw [show 1024 * (k.val + 1) = 1024 * k.val + 512 + 512 by omega]
  exact scale_apply d y (1024 * k.val + 512) (by omega) v7 _ _ _ (chunk_read a1.view X1 d hd _ (by omega) (k1_off9_eq k) _) (chunk_read a2.view X2 y hy _ (by omega) (k1_off9_eq k) _) b
    (scale_apply d y (1024 * k.val) (by omega) v7 _ _ _ (chunk_read a1.view X1 d hd _ (by omega) (k1_off7_eq k) _) (chunk_read a2.view X2 y hy _ (by omega) (k1_off7_eq k) _) b hacc)

/-- A trip's new matrix gradient, half-width 2. -/
theorem bwd_trip_mat_2 (v7 : Vec Ideal S1x256x256 .bf16) (v9 : Vec Ideal S1x256 .f32) (hc : k1_cond2 i = 1#1)
    (X1 : BufTy.Contents (Elt Ideal) a1.view.ty) (X2 : BufTy.Contents (Elt Ideal) a2.view.ty) (d y : Fin 4096 → Fin 256 → EReal)
    (hd : ∀ t e, a1.view.read (Elt Ideal) X1 (ix2 t e) = d t e) (hy : ∀ t e, a2.view.read (Elt Ideal) X2 (ix2 t e) = y t e) (k : Fin k1_t3_loop.trips) (acc : FVec Ideal S1x256 .f32)
    (f9 : BufTy.Contents (Elt Ideal) a9.view.ty) (f10 : BufTy.Contents (Elt Ideal) a10.view.ty) (f11 : BufTy.Contents (Elt Ideal) a11.view.ty)
    (a b : Fin 256) (hacc : a11.view.read (Elt Ideal) f11 (ix2 a b) = upTo (matTerm d y (fun b => v9 (ix2 0 b)) a b) (1024 * k.val)) (G prev) :
    a11.view.read (Elt Ideal) (a11.view.writes (Elt Ideal) G ((tripL_k1_t3 (F := Ideal) 𝒱 c bd i a1 h1 a2 h2 a3 h3 a4 h4 a5 h5 a6 h6 a7 h7 a8 h8 a9 h9 a10 h10 a11 h11 v7 v9 hc X1 X2 k acc f9 f10 f11).2.2 ++ prev)) (ix2 a b)
      = upTo (matTerm d y (fun b => v9 (ix2 0 b)) a b) (1024 * (k.val + 1)) := by
  have hk : k.val < 4 := Nat.lt_of_lt_of_le k.isLt (by decide +kernel)
  unfold tripL_k1_t3 trip_k1_t3
  dsimp only
  rw [show 1024 * (k.val + 1) = 1024 * k.val + 512 + 512 by omega]
  refine (congrFun (View.read_writes_full a11.view _ _ _ _) _).trans ?_
  refine mat_apply d y (1024 * k.val + 512) (by omega) v9 _ _ _ (chunk_read a1.view X1 d hd _ (by omega) (k1_off9_eq k) _) (chunk_read a2.view X2 y hy _ (by omega) (k1_off9_eq k) _) a b ?_
  refine (congrFun (View.readCov_full a11.view _ _ _ _) _).trans ?_
  refine mat_apply d y (1024 * k.val) (by omega) v9 _ _ _ (chunk_read a1.view X1 d hd _ (by omega) (k1_off7_eq k) _) (chunk_read a2.view X2 y hy _ (by omega) (k1_off7_eq k) _) a b ?_
  refine (congrFun (View.readAt_full a11.view _ _) _).trans hacc

/-- The first loop's state after `n` trips, half-width 2. -/
theorem bwd_state_2 (v7 : Vec Ideal S1x256x256 .bf16) (v9 : Vec Ideal S1x256 .f32) (hc : k1_cond2 i = 1#1)
    (X1 : BufTy.Contents (Elt Ideal) a1.view.ty) (X2 : BufTy.Contents (Elt Ideal) a2.view.ty) (d y : Fin 4096 → Fin 256 → EReal)
    (hd : ∀ t e, a1.view.read (Elt Ideal) X1 (ix2 t e) = d t e) (hy : ∀ t e, a2.view.read (Elt Ideal) X2 (ix2 t e) = y t e)
    (G9 : BufTy.Contents (Elt Ideal) a9.view.ty) (G10 : BufTy.Contents (Elt Ideal) a10.view.ty)
    (G11 : BufTy.Contents (Elt Ideal) a11.view.ty) (init : FVec Ideal S1x256 .f32) (hi : ∀ b, init (ix2 0 b) = 0) (h11' : ∀ a b, a11.view.read (Elt Ideal) G11 (ix2 a b) = 0) :
    ∀ n, n ≤ k1_t3_loop.trips →
      Agree (fun q => padded (fun t c => devGrad y (fun a b => v7 (ix3 0 a b)) (fun b => v9 (ix2 0 b)) t c * invCount 2 t.val) (q 0).val (q 1)) (st_k1_t3 (F := Ideal) 𝒱 c bd i a1 h1 a2 h2 a3 h3 a4 h4 a5 h5 a6 h6 a7 h7 a8 h8 a9 h9 a10 h10 a11 h11 v7 v9 hc X1 X2 G9 G10 G11 init n).2.1
      ∧ Agree (fun q => devGrad y (fun a b => v7 (ix3 0 a b)) (fun b => v9 (ix2 0 b)) (q 0) (q 1)) (st_k1_t3 (F := Ideal) 𝒱 c bd i a1 h1 a2 h2 a3 h3 a4 h4 a5 h5 a6 h6 a7 h7 a8 h8 a9 h9 a10 h10 a11 h11 v7 v9 hc X1 X2 G9 G10 G11 init n).2.2.1
      ∧ (∀ b, (st_k1_t3 (F := Ideal) 𝒱 c bd i a1 h1 a2 h2 a3 h3 a4 h4 a5 h5 a6 h6 a7 h7 a8 h8 a9 h9 a10 h10 a11 h11 v7 v9 hc X1 X2 G9 G10 G11 init n).1 (ix2 0 b) = upTo (scaleTerm d y (fun a b => v7 (ix3 0 a b)) b) (1024 * n))
      ∧ (∀ a b, a11.view.read (Elt Ideal) (a11.view.writes (Elt Ideal) G11 (st_k1_t3 (F := Ideal) 𝒱 c bd i a1 h1 a2 h2 a3 h3 a4 h4 a5 h5 a6 h6 a7 h7 a8 h8 a9 h9 a10 h10 a11 h11 v7 v9 hc X1 X2 G9 G10 G11 init n).2.2.2) (ix2 a b)
          = upTo (matTerm d y (fun b => v9 (ix2 0 b)) a b) (1024 * n))
  | 0, _ => ⟨Agree.nil _, Agree.nil _, fun b => (hi b).trans (upTo_zero _).symm, fun a b => (h11' a b).trans (upTo_zero _).symm⟩
  | n + 1, hn => by
    obtain ⟨i1, i2, i3, i4⟩ := bwd_state_2 v7 v9 hc X1 X2 d y hd hy G9 G10 G11 init hi h11' n (by omega)
    rw [st_k1_t3_succ 𝒱 c bd i a1 h1 a2 h2 a3 h3 a4 h4 a5 h5 a6 h6 a7 h7 a8 h8 a9 h9 a10 h10 a11 h11 v7 v9 hc X1 X2 G9 G10 G11 init ⟨n, hn⟩]
    have T := bwd_trip_agree_2 𝒱 c bd i a1 h1 a2 h2 a3 h3 a4 h4 a5 h5 a6 h6 a7 h7 a8 h8 a9 h9 a10 h10 a11 h11 v7 v9 hc X1 X2 y hy ⟨n, hn⟩
    exact ⟨(T _ _ _ _).1.append i1, (T _ _ _ _).2.append i2,
      fun b => bwd_trip_scale_2 𝒱 c bd i a1 h1 a2 h2 a3 h3 a4 h4 a5 h5 a6 h6 a7 h7 a8 h8 a9 h9 a10 h10 a11 h11 v7 v9 hc X1 X2 d y hd hy ⟨n, hn⟩ _ _ _ _ b (i3 b),
      fun a b => bwd_trip_mat_2 𝒱 c bd i a1 h1 a2 h2 a3 h3 a4 h4 a5 h5 a6 h6 a7 h7 a8 h8 a9 h9 a10 h10 a11 h11 v7 v9 hc X1 X2 d y hd hy ⟨n, hn⟩ _ _ _ _ a b (i4 a b) _ _⟩

/-- The first loop's stores of the shares reach every row of the middle, half-width 2. -/
theorem bwd_share_covers_2 (v7 : Vec Ideal S1x256x256 .bf16) (v9 : Vec Ideal S1x256 .f32) (hc : k1_cond2 i = 1#1)
    (X1 : BufTy.Contents (Elt Ideal) a1.view.ty) (X2 : BufTy.Contents (Elt Ideal) a2.view.ty) (G9 : BufTy.Contents (Elt Ideal) a9.view.ty) (G10 : BufTy.Contents (Elt Ideal) a10.view.ty)
    (G11 : BufTy.Contents (Elt Ideal) a11.view.ty) (init : FVec Ideal S1x256 .f32) (q : Fin 4128) (e : Fin 256) (hl : 16 ≤ q.val) (hh : q.val < 4112) :
    Covers (st_k1_t3 (F := Ideal) 𝒱 c bd i a1 h1 a2 h2 a3 h3 a4 h4 a5 h5 a6 h6 a7 h7 a8 h8 a9 h9 a10 h10 a11 h11 v7 v9 hc X1 X2 G9 G10 G11 init k1_t3_loop.trips).2.1 (ix2 q e) := by
  have hT : k1_t3_loop.trips = 4 := by decide +kernel
  have H := covers_trips k1_t3_loop.trips (fun n => (st_k1_t3 (F := Ideal) 𝒱 c bd i a1 h1 a2 h2 a3 h3 a4 h4 a5 h5 a6 h6 a7 h7 a8 h8 a9 h9 a10 h10 a11 h11 v7 v9 hc X1 X2 G9 G10 G11 init n).2.1) _
    (fun k => congrArg (fun z => z.2.1) (st_k1_t3_succ 𝒱 c bd i a1 h1 a2 h2 a3 h3 a4 h4 a5 h5 a6 h6 a7 h7 a8 h8 a9 h9 a10 h10 a11 h11 v7 v9 hc X1 X2 G9 G10 G11 init k)) (y := ix2 q e)
    ⟨(q.val - 16) / 1024, by rw [hT]; omega⟩ ?_ _ (show (q.val - 16) / 1024 < k1_t3_loop.trips by rw [hT]; omega) le_rfl
  · exact H
  unfold tripL_k1_t3 trip_k1_t3
  dsimp only
  by_cases hq : (q.val - 16) % 1024 < 512
  · refine Covers.tail (Covers.head (unit_mem2 (m := 4128) (n := 256) (o0 := 1024 * ((q.val - 16) / 1024) + 16) (o1 := 0) (k1_off8_eq _) (k1_off8_inb i _ hc) q e
      (by show 1024 * ((q.val - 16) / 1024) + 16 ≤ q.val; omega) (by show q.val < 1024 * ((q.val - 16) / 1024) + 16 + 512; omega) (by omega) (by omega)))
  · refine Covers.head (unit_mem2 (m := 4128) (n := 256) (o0 := 1024 * ((q.val - 16) / 1024) + 528) (o1 := 0) (k1_off10_eq _) (k1_off10_inb i _ hc) q e
      (by show 1024 * ((q.val - 16) / 1024) + 528 ≤ q.val; omega) (by show q.val < 1024 * ((q.val - 16) / 1024) + 528 + 512; omega) (by omega) (by omega))

/-- The first loop's stores of the deviations' gradient reach every row, half-width 2. -/
theorem bwd_dev_covers_2 (v7 : Vec Ideal S1x256x256 .bf16) (v9 : Vec Ideal S1x256 .f32) (hc : k1_cond2 i = 1#1)
    (X1 : BufTy.Contents (Elt Ideal) a1.view.ty) (X2 : BufTy.Contents (Elt Ideal) a2.view.ty) (G9 : BufTy.Contents (Elt Ideal) a9.view.ty) (G10 : BufTy.Contents (Elt Ideal) a10.view.ty)
    (G11 : BufTy.Contents (Elt Ideal) a11.view.ty) (init : FVec Ideal S1x256 .f32) (q : Fin 4096) (e : Fin 256) :
    Covers (st_k1_t3 (F := Ideal) 𝒱 c bd i a1 h1 a2 h2 a3 h3 a4 h4 a5 h5 a6 h6 a7 h7 a8 h8 a9 h9 a10 h10 a11 h11 v7 v9 hc X1 X2 G9 G10 G11 init k1_t3_loop.trips).2.2.1 (ix2 q e) := by
  have hT : k1_t3_loop.trips = 4 := by decide +kernel
  have H := covers_trips k1_t3_loop.trips (fun n => (st_k1_t3 (F := Ideal) 𝒱 c bd i a1 h1 a2 h2 a3 h3 a4 h4 a5 h5 a6 h6 a7 h7 a8 h8 a9 h9 a10 h10 a11 h11 v7 v9 hc X1 X2 G9 G10 G11 init n).2.2.1) _
    (fun k => congrArg (fun z => z.2.2.1) (st_k1_t3_succ 𝒱 c bd i a1 h1 a2 h2 a3 h3 a4 h4 a5 h5 a6 h6 a7 h7 a8 h8 a9 h9 a10 h10 a11 h11 v7 v9 hc X1 X2 G9 G10 G11 init k)) (y := ix2 q e)
    ⟨q.val / 1024, by rw [hT]; omega⟩ ?_ _ (show q.val / 1024 < k1_t3_loop.trips by rw [hT]; omega) le_rfl
  · exact H
  unfold tripL_k1_t3 trip_k1_t3
  dsimp only
  by_cases hq : q.val % 1024 < 512
  · refine Covers.tail (Covers.head (unit_mem2 (m := 4096) (n := 256) (o0 := 1024 * (q.val / 1024)) (o1 := 0) (k1_off7_eq _) (k1_off7_inb i _ hc) q e
      (by show 1024 * (q.val / 1024) ≤ q.val; omega) (by show q.val < 1024 * (q.val / 1024) + 512; omega) (by omega) (by omega)))
  · refine Covers.head (unit_mem2 (m := 4096) (n := 256) (o0 := 1024 * (q.val / 1024) + 512) (o1 := 0) (k1_off9_eq _) (k1_off9_inb i _ hc) q e
      (by show 1024 * (q.val / 1024) + 512 ≤ q.val; omega) (by show q.val < 1024 * (q.val / 1024) + 512 + 512; omega) (by omega) (by omega))

/-- The second loop's stores of the channels' gradient, half-width 2. -/
theorem bwd_agrees_2 (hc : k1_cond2 i = 1#1) (X9 : BufTy.Contents (Elt Ideal) a9.view.ty) (X10 : BufTy.Contents (Elt Ideal) a10.view.ty) (g : Fin 4096 → Fin 256 → EReal)
    (h9' : ∀ t e, a9.view.read (Elt Ideal) X9 (ix2 t e) = padded (fun t c => g t c * invCount 2 t.val) t.val e)
    (h10' : ∀ t e, a10.view.read (Elt Ideal) X10 (ix2 t e) = g t e) :
    Agree (fun q => chanGrad 2 g (q 0) (q 1)) (pb_k1_t4 (F := Ideal) 𝒱 c bd i a1 h1 a2 h2 a3 h3 a4 h4 a5 h5 a6 h6 a7 h7 a8 h8 a9 h9 a10 h10 a11 h11 hc X9 X10 k1_t4_loop.trips) := by
  refine agree_trips k1_t4_loop.trips _ _ rfl (pb_k1_t4_succ 𝒱 c bd i a1 h1 a2 h2 a3 h3 a4 h4 a5 h5 a6 h6 a7 h7 a8 h8 a9 h9 a10 h10 a11 h11 hc X9 X10) (fun k => ?_) _ le_rfl
  have hk : k.val < 8 := Nat.lt_of_lt_of_le k.isLt (by decide +kernel)
  have he : ∀ (j : Fin 544) (e : Fin 256), View.readAt (Elt Ideal) a9.view
      (Rect.unit (s := S4128x256) (k1_off11 k) S544x256.size (k1_off11_inb i k hc)).toLoadRect X9 (ix2 j e)
        = padded (fun t c => g t c * invCount 2 t.val) (512 * k.val + j.val) e := by
    intro j e
    rw [View.readAt_apply, unit_idx2 (m := 4128) (n := 256) (o0 := 512 * k.val) (o1 := 0) (k1_off11_eq k) _ j e (by omega) (by omega), h9']
    simp
  unfold tripL_k1_t4 trip_k1_t4
  dsimp only
  refine Agree.cons (fun x => ?_) (Agree.nil _)
  obtain ⟨r, e, rfl⟩ : ∃ (r : Fin 512) (e : Fin 256), x = ix2 r e := ⟨_, _, eq_ix2 x⟩
  dsimp only
  rw [unit_emb2 (m := 4096) (n := 256) (o0 := 512 * k.val) (o1 := 0) (k1_off12_eq k) _ r e (by omega) (by omega)]
  refine (backRows_apply (512 * k.val) (by omega) 2 (by omega) (by omega) g (win4 _) _
    (chunk_read a10.view X10 g h10' _ (by omega) (k1_off12_eq k) _) (lo := 2) (hi := 543) (by omega) (by omega) (by omega) (by omega)
    (sums_win4 (X := fun i c => padded (fun t c => g t c * invCount 2 t.val) (512 * k.val + i) c) he) r e).trans ?_
  simp

/-- A trip's stores of the shares and of the deviations' gradient, half-width 4. -/
theorem bwd_trip_agree_4 (v7 : Vec Ideal S1x256x256 .bf16) (v9 : Vec Ideal S1x256 .f32) (hc : k1_cond3 i = 1#1)
    (X1 : BufTy.Contents (Elt Ideal) a1.view.ty) (X2 : BufTy.Contents (Elt Ideal) a2.view.ty) (y : Fin 4096 → Fin 256 → EReal)
    (hy : ∀ t d, a2.view.read (Elt Ideal) X2 (ix2 t d) = y t d) (k : Fin k1_t5_loop.trips) (acc : FVec Ideal S1x256 .f32)
    (f9 : BufTy.Contents (Elt Ideal) a9.view.ty) (f10 : BufTy.Contents (Elt Ideal) a10.view.ty) (f11 : BufTy.Contents (Elt Ideal) a11.view.ty) :
    Agree (fun q => padded (fun t c => devGrad y (fun a b => v7 (ix3 0 a b)) (fun b => v9 (ix2 0 b)) t c * invCount 4 t.val) (q 0).val (q 1)) (tripL_k1_t5 (F := Ideal) 𝒱 c bd i a1 h1 a2 h2 a3 h3 a4 h4 a5 h5 a6 h6 a7 h7 a8 h8 a9 h9 a10 h10 a11 h11 v7 v9 hc X1 X2 k acc f9 f10 f11).1
    ∧ Agree (fun q => devGrad y (fun a b => v7 (ix3 0 a b)) (fun b => v9 (ix2 0 b)) (q 0) (q 1)) (tripL_k1_t5 (F := Ideal) 𝒱 c bd i a1 h1 a2 h2 a3 h3 a4 h4 a5 h5 a6 h6 a7 h7 a8 h8 a9 h9 a10 h10 a11 h11 v7 v9 hc X1 X2 k acc f9 f10 f11).2.1 := by
  have hk : k.val < 4 := Nat.lt_of_lt_of_le k.isLt (by decide +kernel)
  unfold tripL_k1_t5 trip_k1_t5
  dsimp only
  refine ⟨Agree.cons (fun x => ?_) (Agree.cons (fun x => ?_) (Agree.nil _)), Agree.cons (fun x => ?_) (Agree.cons (fun x => ?_) (Agree.nil _))⟩
  · obtain ⟨r, e, rfl⟩ : ∃ (r : Fin 512) (e : Fin 256), x = ix2 r e := ⟨_, _, eq_ix2 x⟩
    dsimp only
    rw [unit_emb2 (m := 4128) (n := 256) (o0 := 1024 * k.val + 528) (o1 := 0) (k1_off16_eq k) _ r e (by omega) (by omega)]
    refine (share_apply y (1024 * k.val + 512) (by omega) 4#32 _ 4 (pair_word' ⟨k.val, hk⟩) count_word4 v7 v9 _ (chunk_read a2.view X2 y hy _ (by omega) (k1_off15_eq k) _) r e).trans ?_
    have e2 := padded_mid (fun t c => devGrad y (fun a b => v7 (ix3 0 a b)) (fun b => v9 (ix2 0 b)) t c * invCount 4 t.val) ⟨1024 * k.val + 512 + r.val, by omega⟩ e
    rw [← e2]
    simp [show 16 + (1024 * k.val + 512 + r.val) = 1024 * k.val + 528 + r.val by omega]
  · obtain ⟨r, e, rfl⟩ : ∃ (r : Fin 512) (e : Fin 256), x = ix2 r e := ⟨_, _, eq_ix2 x⟩
    dsimp only
    rw [unit_emb2 (m := 4128) (n := 256) (o0 := 1024 * k.val + 16) (o1 := 0) (k1_off14_eq k) _ r e (by omega) (by omega)]
    refine (share_apply y (1024 * k.val) (by omega) 4#32 _ 4 (pair_word ⟨k.val, hk⟩) count_word4 v7 v9 _ (chunk_read a2.view X2 y hy _ (by omega) (k1_off13_eq k) _) r e).trans ?_
    have e2 := padded_mid (fun t c => devGrad y (fun a b => v7 (ix3 0 a b)) (fun b => v9 (ix2 0 b)) t c * invCount 4 t.val) ⟨1024 * k.val + r.val, by omega⟩ e
    rw [← e2]
    simp [show 16 + (1024 * k.val + r.val) = 1024 * k.val + 16 + r.val by omega]
  · obtain ⟨r, e, rfl⟩ : ∃ (r : Fin 512) (e : Fin 256), x = ix2 r e := ⟨_, _, eq_ix2 x⟩
    dsimp only
    rw [unit_emb2 (m := 4096) (n := 256) (o0 := 1024 * k.val + 512) (o1 := 0) (k1_off15_eq k) _ r e (by omega) (by omega)]
    refine (dd_store_apply y (1024 * k.val + 512) (by omega) v7 v9 _ (chunk_read a2.view X2 y hy _ (by omega) (k1_off15_eq k) _) r e).trans ?_
    simp
  · obtain ⟨r, e, rfl⟩ : ∃ (r : Fin 512) (e : Fin 256), x = ix2 r e := ⟨_, _, eq_ix2 x⟩
    dsimp only
    rw [unit_emb2 (m := 4096) (n := 256) (o0 := 1024 * k.val) (o1 := 0) (k1_off13_eq k) _ r e (by omega) (by omega)]
    refine (dd_store_apply y (1024 * k.val) (by omega) v7 v9 _ (chunk_read a2.view X2 y hy _ (by omega) (k1_off13_eq k) _) r e).trans ?_
    simp

/-- A trip's new scale gradient, half-width 4. -/
theorem bwd_trip_scale_4 (v7 : Vec Ideal S1x256x256 .bf16) (v9 : Vec Ideal S1x256 .f32) (hc : k1_cond3 i = 1#1)
    (X1 : BufTy.Contents (Elt Ideal) a1.view.ty) (X2 : BufTy.Contents (Elt Ideal) a2.view.ty) (d y : Fin 4096 → Fin 256 → EReal)
    (hd : ∀ t e, a1.view.read (Elt Ideal) X1 (ix2 t e) = d t e) (hy : ∀ t e, a2.view.read (Elt Ideal) X2 (ix2 t e) = y t e) (k : Fin k1_t5_loop.trips) (acc : FVec Ideal S1x256 .f32)
    (f9 : BufTy.Contents (Elt Ideal) a9.view.ty) (f10 : BufTy.Contents (Elt Ideal) a10.view.ty) (f11 : BufTy.Contents (Elt Ideal) a11.view.ty)
    (b : Fin 256) (hacc : acc (ix2 0 b) = upTo (scaleTerm d y (fun a b => v7 (ix3 0 a b)) b) (1024 * k.val)) :
    tripR_k1_t5 (F := Ideal) 𝒱 c bd i a1 h1 a2 h2 a3 h3 a4 h4 a5 h5 a6 h6 a7 h7 a8 h8 a9 h9 a10 h10 a11 h11 v7 v9 hc X1 X2 k acc f9 f10 f11 (ix2 0 b) = upTo (scaleTerm d y (fun a b => v7 (ix3 0 a b)) b) (1024 * (k.val + 1)) := by
  have hk : k.val < 4 := Nat.lt_of_lt_of_le k.isLt (by decide +kernel)
  unfold tripR_k1_t5 trip_k1_t5
  dsimp only
  rw [show 1024 * (k.val + 1) = 1024 * k.val + 512 + 512 by omega]
  exact scale_apply d y (1024 * k.val + 512) (by omega) v7 _ _ _ (chunk_read a1.view X1 d hd _ (by omega) (k1_off15_eq k) _) (chunk_read a2.view X2 y hy _ (by omega) (k1_off15_eq k) _) b
    (scale_apply d y (1024 * k.val) (by omega) v7 _ _ _ (chunk_read a1.view X1 d hd _ (by omega) (k1_off13_eq k) _) (chunk_read a2.view X2 y hy _ (by omega) (k1_off13_eq k) _) b hacc)

/-- A trip's new matrix gradient, half-width 4. -/
theorem bwd_trip_mat_4 (v7 : Vec Ideal S1x256x256 .bf16) (v9 : Vec Ideal S1x256 .f32) (hc : k1_cond3 i = 1#1)
    (X1 : BufTy.Contents (Elt Ideal) a1.view.ty) (X2 : BufTy.Contents (Elt Ideal) a2.view.ty) (d y : Fin 4096 → Fin 256 → EReal)
    (hd : ∀ t e, a1.view.read (Elt Ideal) X1 (ix2 t e) = d t e) (hy : ∀ t e, a2.view.read (Elt Ideal) X2 (ix2 t e) = y t e) (k : Fin k1_t5_loop.trips) (acc : FVec Ideal S1x256 .f32)
    (f9 : BufTy.Contents (Elt Ideal) a9.view.ty) (f10 : BufTy.Contents (Elt Ideal) a10.view.ty) (f11 : BufTy.Contents (Elt Ideal) a11.view.ty)
    (a b : Fin 256) (hacc : a11.view.read (Elt Ideal) f11 (ix2 a b) = upTo (matTerm d y (fun b => v9 (ix2 0 b)) a b) (1024 * k.val)) (G prev) :
    a11.view.read (Elt Ideal) (a11.view.writes (Elt Ideal) G ((tripL_k1_t5 (F := Ideal) 𝒱 c bd i a1 h1 a2 h2 a3 h3 a4 h4 a5 h5 a6 h6 a7 h7 a8 h8 a9 h9 a10 h10 a11 h11 v7 v9 hc X1 X2 k acc f9 f10 f11).2.2 ++ prev)) (ix2 a b)
      = upTo (matTerm d y (fun b => v9 (ix2 0 b)) a b) (1024 * (k.val + 1)) := by
  have hk : k.val < 4 := Nat.lt_of_lt_of_le k.isLt (by decide +kernel)
  unfold tripL_k1_t5 trip_k1_t5
  dsimp only
  rw [show 1024 * (k.val + 1) = 1024 * k.val + 512 + 512 by omega]
  refine (congrFun (View.read_writes_full a11.view _ _ _ _) _).trans ?_
  refine mat_apply d y (1024 * k.val + 512) (by omega) v9 _ _ _ (chunk_read a1.view X1 d hd _ (by omega) (k1_off15_eq k) _) (chunk_read a2.view X2 y hy _ (by omega) (k1_off15_eq k) _) a b ?_
  refine (congrFun (View.readCov_full a11.view _ _ _ _) _).trans ?_
  refine mat_apply d y (1024 * k.val) (by omega) v9 _ _ _ (chunk_read a1.view X1 d hd _ (by omega) (k1_off13_eq k) _) (chunk_read a2.view X2 y hy _ (by omega) (k1_off13_eq k) _) a b ?_
  refine (congrFun (View.readAt_full a11.view _ _) _).trans hacc

/-- The first loop's state after `n` trips, half-width 4. -/
theorem bwd_state_4 (v7 : Vec Ideal S1x256x256 .bf16) (v9 : Vec Ideal S1x256 .f32) (hc : k1_cond3 i = 1#1)
    (X1 : BufTy.Contents (Elt Ideal) a1.view.ty) (X2 : BufTy.Contents (Elt Ideal) a2.view.ty) (d y : Fin 4096 → Fin 256 → EReal)
    (hd : ∀ t e, a1.view.read (Elt Ideal) X1 (ix2 t e) = d t e) (hy : ∀ t e, a2.view.read (Elt Ideal) X2 (ix2 t e) = y t e)
    (G9 : BufTy.Contents (Elt Ideal) a9.view.ty) (G10 : BufTy.Contents (Elt Ideal) a10.view.ty)
    (G11 : BufTy.Contents (Elt Ideal) a11.view.ty) (init : FVec Ideal S1x256 .f32) (hi : ∀ b, init (ix2 0 b) = 0) (h11' : ∀ a b, a11.view.read (Elt Ideal) G11 (ix2 a b) = 0) :
    ∀ n, n ≤ k1_t5_loop.trips →
      Agree (fun q => padded (fun t c => devGrad y (fun a b => v7 (ix3 0 a b)) (fun b => v9 (ix2 0 b)) t c * invCount 4 t.val) (q 0).val (q 1)) (st_k1_t5 (F := Ideal) 𝒱 c bd i a1 h1 a2 h2 a3 h3 a4 h4 a5 h5 a6 h6 a7 h7 a8 h8 a9 h9 a10 h10 a11 h11 v7 v9 hc X1 X2 G9 G10 G11 init n).2.1
      ∧ Agree (fun q => devGrad y (fun a b => v7 (ix3 0 a b)) (fun b => v9 (ix2 0 b)) (q 0) (q 1)) (st_k1_t5 (F := Ideal) 𝒱 c bd i a1 h1 a2 h2 a3 h3 a4 h4 a5 h5 a6 h6 a7 h7 a8 h8 a9 h9 a10 h10 a11 h11 v7 v9 hc X1 X2 G9 G10 G11 init n).2.2.1
      ∧ (∀ b, (st_k1_t5 (F := Ideal) 𝒱 c bd i a1 h1 a2 h2 a3 h3 a4 h4 a5 h5 a6 h6 a7 h7 a8 h8 a9 h9 a10 h10 a11 h11 v7 v9 hc X1 X2 G9 G10 G11 init n).1 (ix2 0 b) = upTo (scaleTerm d y (fun a b => v7 (ix3 0 a b)) b) (1024 * n))
      ∧ (∀ a b, a11.view.read (Elt Ideal) (a11.view.writes (Elt Ideal) G11 (st_k1_t5 (F := Ideal) 𝒱 c bd i a1 h1 a2 h2 a3 h3 a4 h4 a5 h5 a6 h6 a7 h7 a8 h8 a9 h9 a10 h10 a11 h11 v7 v9 hc X1 X2 G9 G10 G11 init n).2.2.2) (ix2 a b)
          = upTo (matTerm d y (fun b => v9 (ix2 0 b)) a b) (1024 * n))
  | 0, _ => ⟨Agree.nil _, Agree.nil _, fun b => (hi b).trans (upTo_zero _).symm, fun a b => (h11' a b).trans (upTo_zero _).symm⟩
  | n + 1, hn => by
    obtain ⟨i1, i2, i3, i4⟩ := bwd_state_4 v7 v9 hc X1 X2 d y hd hy G9 G10 G11 init hi h11' n (by omega)
    rw [st_k1_t5_succ 𝒱 c bd i a1 h1 a2 h2 a3 h3 a4 h4 a5 h5 a6 h6 a7 h7 a8 h8 a9 h9 a10 h10 a11 h11 v7 v9 hc X1 X2 G9 G10 G11 init ⟨n, hn⟩]
    have T := bwd_trip_agree_4 𝒱 c bd i a1 h1 a2 h2 a3 h3 a4 h4 a5 h5 a6 h6 a7 h7 a8 h8 a9 h9 a10 h10 a11 h11 v7 v9 hc X1 X2 y hy ⟨n, hn⟩
    exact ⟨(T _ _ _ _).1.append i1, (T _ _ _ _).2.append i2,
      fun b => bwd_trip_scale_4 𝒱 c bd i a1 h1 a2 h2 a3 h3 a4 h4 a5 h5 a6 h6 a7 h7 a8 h8 a9 h9 a10 h10 a11 h11 v7 v9 hc X1 X2 d y hd hy ⟨n, hn⟩ _ _ _ _ b (i3 b),
      fun a b => bwd_trip_mat_4 𝒱 c bd i a1 h1 a2 h2 a3 h3 a4 h4 a5 h5 a6 h6 a7 h7 a8 h8 a9 h9 a10 h10 a11 h11 v7 v9 hc X1 X2 d y hd hy ⟨n, hn⟩ _ _ _ _ a b (i4 a b) _ _⟩

/-- The first loop's stores of the shares reach every row of the middle, half-width 4. -/
theorem bwd_share_covers_4 (v7 : Vec Ideal S1x256x256 .bf16) (v9 : Vec Ideal S1x256 .f32) (hc : k1_cond3 i = 1#1)
    (X1 : BufTy.Contents (Elt Ideal) a1.view.ty) (X2 : BufTy.Contents (Elt Ideal) a2.view.ty) (G9 : BufTy.Contents (Elt Ideal) a9.view.ty) (G10 : BufTy.Contents (Elt Ideal) a10.view.ty)
    (G11 : BufTy.Contents (Elt Ideal) a11.view.ty) (init : FVec Ideal S1x256 .f32) (q : Fin 4128) (e : Fin 256) (hl : 16 ≤ q.val) (hh : q.val < 4112) :
    Covers (st_k1_t5 (F := Ideal) 𝒱 c bd i a1 h1 a2 h2 a3 h3 a4 h4 a5 h5 a6 h6 a7 h7 a8 h8 a9 h9 a10 h10 a11 h11 v7 v9 hc X1 X2 G9 G10 G11 init k1_t5_loop.trips).2.1 (ix2 q e) := by
  have hT : k1_t5_loop.trips = 4 := by decide +kernel
  have H := covers_trips k1_t5_loop.trips (fun n => (st_k1_t5 (F := Ideal) 𝒱 c bd i a1 h1 a2 h2 a3 h3 a4 h4 a5 h5 a6 h6 a7 h7 a8 h8 a9 h9 a10 h10 a11 h11 v7 v9 hc X1 X2 G9 G10 G11 init n).2.1) _
    (fun k => congrArg (fun z => z.2.1) (st_k1_t5_succ 𝒱 c bd i a1 h1 a2 h2 a3 h3 a4 h4 a5 h5 a6 h6 a7 h7 a8 h8 a9 h9 a10 h10 a11 h11 v7 v9 hc X1 X2 G9 G10 G11 init k)) (y := ix2 q e)
    ⟨(q.val - 16) / 1024, by rw [hT]; omega⟩ ?_ _ (show (q.val - 16) / 1024 < k1_t5_loop.trips by rw [hT]; omega) le_rfl
  · exact H
  unfold tripL_k1_t5 trip_k1_t5
  dsimp only
  by_cases hq : (q.val - 16) % 1024 < 512
  · refine Covers.tail (Covers.head (unit_mem2 (m := 4128) (n := 256) (o0 := 1024 * ((q.val - 16) / 1024) + 16) (o1 := 0) (k1_off14_eq _) (k1_off14_inb i _ hc) q e
      (by show 1024 * ((q.val - 16) / 1024) + 16 ≤ q.val; omega) (by show q.val < 1024 * ((q.val - 16) / 1024) + 16 + 512; omega) (by omega) (by omega)))
  · refine Covers.head (unit_mem2 (m := 4128) (n := 256) (o0 := 1024 * ((q.val - 16) / 1024) + 528) (o1 := 0) (k1_off16_eq _) (k1_off16_inb i _ hc) q e
      (by show 1024 * ((q.val - 16) / 1024) + 528 ≤ q.val; omega) (by show q.val < 1024 * ((q.val - 16) / 1024) + 528 + 512; omega) (by omega) (by omega))

/-- The first loop's stores of the deviations' gradient reach every row, half-width 4. -/
theorem bwd_dev_covers_4 (v7 : Vec Ideal S1x256x256 .bf16) (v9 : Vec Ideal S1x256 .f32) (hc : k1_cond3 i = 1#1)
    (X1 : BufTy.Contents (Elt Ideal) a1.view.ty) (X2 : BufTy.Contents (Elt Ideal) a2.view.ty) (G9 : BufTy.Contents (Elt Ideal) a9.view.ty) (G10 : BufTy.Contents (Elt Ideal) a10.view.ty)
    (G11 : BufTy.Contents (Elt Ideal) a11.view.ty) (init : FVec Ideal S1x256 .f32) (q : Fin 4096) (e : Fin 256) :
    Covers (st_k1_t5 (F := Ideal) 𝒱 c bd i a1 h1 a2 h2 a3 h3 a4 h4 a5 h5 a6 h6 a7 h7 a8 h8 a9 h9 a10 h10 a11 h11 v7 v9 hc X1 X2 G9 G10 G11 init k1_t5_loop.trips).2.2.1 (ix2 q e) := by
  have hT : k1_t5_loop.trips = 4 := by decide +kernel
  have H := covers_trips k1_t5_loop.trips (fun n => (st_k1_t5 (F := Ideal) 𝒱 c bd i a1 h1 a2 h2 a3 h3 a4 h4 a5 h5 a6 h6 a7 h7 a8 h8 a9 h9 a10 h10 a11 h11 v7 v9 hc X1 X2 G9 G10 G11 init n).2.2.1) _
    (fun k => congrArg (fun z => z.2.2.1) (st_k1_t5_succ 𝒱 c bd i a1 h1 a2 h2 a3 h3 a4 h4 a5 h5 a6 h6 a7 h7 a8 h8 a9 h9 a10 h10 a11 h11 v7 v9 hc X1 X2 G9 G10 G11 init k)) (y := ix2 q e)
    ⟨q.val / 1024, by rw [hT]; omega⟩ ?_ _ (show q.val / 1024 < k1_t5_loop.trips by rw [hT]; omega) le_rfl
  · exact H
  unfold tripL_k1_t5 trip_k1_t5
  dsimp only
  by_cases hq : q.val % 1024 < 512
  · refine Covers.tail (Covers.head (unit_mem2 (m := 4096) (n := 256) (o0 := 1024 * (q.val / 1024)) (o1 := 0) (k1_off13_eq _) (k1_off13_inb i _ hc) q e
      (by show 1024 * (q.val / 1024) ≤ q.val; omega) (by show q.val < 1024 * (q.val / 1024) + 512; omega) (by omega) (by omega)))
  · refine Covers.head (unit_mem2 (m := 4096) (n := 256) (o0 := 1024 * (q.val / 1024) + 512) (o1 := 0) (k1_off15_eq _) (k1_off15_inb i _ hc) q e
      (by show 1024 * (q.val / 1024) + 512 ≤ q.val; omega) (by show q.val < 1024 * (q.val / 1024) + 512 + 512; omega) (by omega) (by omega))

/-- The second loop's stores of the channels' gradient, half-width 4. -/
theorem bwd_agrees_4 (hc : k1_cond3 i = 1#1) (X9 : BufTy.Contents (Elt Ideal) a9.view.ty) (X10 : BufTy.Contents (Elt Ideal) a10.view.ty) (g : Fin 4096 → Fin 256 → EReal)
    (h9' : ∀ t e, a9.view.read (Elt Ideal) X9 (ix2 t e) = padded (fun t c => g t c * invCount 4 t.val) t.val e)
    (h10' : ∀ t e, a10.view.read (Elt Ideal) X10 (ix2 t e) = g t e) :
    Agree (fun q => chanGrad 4 g (q 0) (q 1)) (pb_k1_t6 (F := Ideal) 𝒱 c bd i a1 h1 a2 h2 a3 h3 a4 h4 a5 h5 a6 h6 a7 h7 a8 h8 a9 h9 a10 h10 a11 h11 hc X9 X10 k1_t6_loop.trips) := by
  refine agree_trips k1_t6_loop.trips _ _ rfl (pb_k1_t6_succ 𝒱 c bd i a1 h1 a2 h2 a3 h3 a4 h4 a5 h5 a6 h6 a7 h7 a8 h8 a9 h9 a10 h10 a11 h11 hc X9 X10) (fun k => ?_) _ le_rfl
  have hk : k.val < 8 := Nat.lt_of_lt_of_le k.isLt (by decide +kernel)
  have he : ∀ (j : Fin 544) (e : Fin 256), View.readAt (Elt Ideal) a9.view
      (Rect.unit (s := S4128x256) (k1_off17 k) S544x256.size (k1_off17_inb i k hc)).toLoadRect X9 (ix2 j e)
        = padded (fun t c => g t c * invCount 4 t.val) (512 * k.val + j.val) e := by
    intro j e
    rw [View.readAt_apply, unit_idx2 (m := 4128) (n := 256) (o0 := 512 * k.val) (o1 := 0) (k1_off17_eq k) _ j e (by omega) (by omega), h9']
    simp
  unfold tripL_k1_t6 trip_k1_t6
  dsimp only
  refine Agree.cons (fun x => ?_) (Agree.nil _)
  obtain ⟨r, e, rfl⟩ : ∃ (r : Fin 512) (e : Fin 256), x = ix2 r e := ⟨_, _, eq_ix2 x⟩
  dsimp only
  rw [unit_emb2 (m := 4096) (n := 256) (o0 := 512 * k.val) (o1 := 0) (k1_off18_eq k) _ r e (by omega) (by omega)]
  refine (backRows_apply (512 * k.val) (by omega) 4 (by omega) (by omega) g (win8 _) _
    (chunk_read a10.view X10 g h10' _ (by omega) (k1_off18_eq k) _) (lo := 4) (hi := 541) (by omega) (by omega) (by omega) (by omega)
    (sums_win8 (X := fun i c => padded (fun t c => g t c * invCount 4 t.val) (512 * k.val + i) c) he) r e).trans ?_
  simp

/-- A trip's stores of the shares and of the deviations' gradient, half-width 8. -/
theorem bwd_trip_agree_8 (v7 : Vec Ideal S1x256x256 .bf16) (v9 : Vec Ideal S1x256 .f32) (hc : k1_cond4 i = 1#1)
    (X1 : BufTy.Contents (Elt Ideal) a1.view.ty) (X2 : BufTy.Contents (Elt Ideal) a2.view.ty) (y : Fin 4096 → Fin 256 → EReal)
    (hy : ∀ t d, a2.view.read (Elt Ideal) X2 (ix2 t d) = y t d) (k : Fin k1_t7_loop.trips) (acc : FVec Ideal S1x256 .f32)
    (f9 : BufTy.Contents (Elt Ideal) a9.view.ty) (f10 : BufTy.Contents (Elt Ideal) a10.view.ty) (f11 : BufTy.Contents (Elt Ideal) a11.view.ty) :
    Agree (fun q => padded (fun t c => devGrad y (fun a b => v7 (ix3 0 a b)) (fun b => v9 (ix2 0 b)) t c * invCount 8 t.val) (q 0).val (q 1)) (tripL_k1_t7 (F := Ideal) 𝒱 c bd i a1 h1 a2 h2 a3 h3 a4 h4 a5 h5 a6 h6 a7 h7 a8 h8 a9 h9 a10 h10 a11 h11 v7 v9 hc X1 X2 k acc f9 f10 f11).1
    ∧ Agree (fun q => devGrad y (fun a b => v7 (ix3 0 a b)) (fun b => v9 (ix2 0 b)) (q 0) (q 1)) (tripL_k1_t7 (F := Ideal) 𝒱 c bd i a1 h1 a2 h2 a3 h3 a4 h4 a5 h5 a6 h6 a7 h7 a8 h8 a9 h9 a10 h10 a11 h11 v7 v9 hc X1 X2 k acc f9 f10 f11).2.1 := by
  have hk : k.val < 4 := Nat.lt_of_lt_of_le k.isLt (by decide +kernel)
  unfold tripL_k1_t7 trip_k1_t7
  dsimp only
  refine ⟨Agree.cons (fun x => ?_) (Agree.cons (fun x => ?_) (Agree.nil _)), Agree.cons (fun x => ?_) (Agree.cons (fun x => ?_) (Agree.nil _))⟩
  · obtain ⟨r, e, rfl⟩ : ∃ (r : Fin 512) (e : Fin 256), x = ix2 r e := ⟨_, _, eq_ix2 x⟩
    dsimp only
    rw [unit_emb2 (m := 4128) (n := 256) (o0 := 1024 * k.val + 528) (o1 := 0) (k1_off22_eq k) _ r e (by omega) (by omega)]
    refine (share_apply y (1024 * k.val + 512) (by omega) 8#32 _ 8 (pair_word' ⟨k.val, hk⟩) count_word8 v7 v9 _ (chunk_read a2.view X2 y hy _ (by omega) (k1_off21_eq k) _) r e).trans ?_
    have e2 := padded_mid (fun t c => devGrad y (fun a b => v7 (ix3 0 a b)) (fun b => v9 (ix2 0 b)) t c * invCount 8 t.val) ⟨1024 * k.val + 512 + r.val, by omega⟩ e
    rw [← e2]
    simp [show 16 + (1024 * k.val + 512 + r.val) = 1024 * k.val + 528 + r.val by omega]
  · obtain ⟨r, e, rfl⟩ : ∃ (r : Fin 512) (e : Fin 256), x = ix2 r e := ⟨_, _, eq_ix2 x⟩
    dsimp only
    rw [unit_emb2 (m := 4128) (n := 256) (o0 := 1024 * k.val + 16) (o1 := 0) (k1_off20_eq k) _ r e (by omega) (by omega)]
    refine (share_apply y (1024 * k.val) (by omega) 8#32 _ 8 (pair_word ⟨k.val, hk⟩) count_word8 v7 v9 _ (chunk_read a2.view X2 y hy _ (by omega) (k1_off19_eq k) _) r e).trans ?_
    have e2 := padded_mid (fun t c => devGrad y (fun a b => v7 (ix3 0 a b)) (fun b => v9 (ix2 0 b)) t c * invCount 8 t.val) ⟨1024 * k.val + r.val, by omega⟩ e
    rw [← e2]
    simp [show 16 + (1024 * k.val + r.val) = 1024 * k.val + 16 + r.val by omega]
  · obtain ⟨r, e, rfl⟩ : ∃ (r : Fin 512) (e : Fin 256), x = ix2 r e := ⟨_, _, eq_ix2 x⟩
    dsimp only
    rw [unit_emb2 (m := 4096) (n := 256) (o0 := 1024 * k.val + 512) (o1 := 0) (k1_off21_eq k) _ r e (by omega) (by omega)]
    refine (dd_store_apply y (1024 * k.val + 512) (by omega) v7 v9 _ (chunk_read a2.view X2 y hy _ (by omega) (k1_off21_eq k) _) r e).trans ?_
    simp
  · obtain ⟨r, e, rfl⟩ : ∃ (r : Fin 512) (e : Fin 256), x = ix2 r e := ⟨_, _, eq_ix2 x⟩
    dsimp only
    rw [unit_emb2 (m := 4096) (n := 256) (o0 := 1024 * k.val) (o1 := 0) (k1_off19_eq k) _ r e (by omega) (by omega)]
    refine (dd_store_apply y (1024 * k.val) (by omega) v7 v9 _ (chunk_read a2.view X2 y hy _ (by omega) (k1_off19_eq k) _) r e).trans ?_
    simp

/-- A trip's new scale gradient, half-width 8. -/
theorem bwd_trip_scale_8 (v7 : Vec Ideal S1x256x256 .bf16) (v9 : Vec Ideal S1x256 .f32) (hc : k1_cond4 i = 1#1)
    (X1 : BufTy.Contents (Elt Ideal) a1.view.ty) (X2 : BufTy.Contents (Elt Ideal) a2.view.ty) (d y : Fin 4096 → Fin 256 → EReal)
    (hd : ∀ t e, a1.view.read (Elt Ideal) X1 (ix2 t e) = d t e) (hy : ∀ t e, a2.view.read (Elt Ideal) X2 (ix2 t e) = y t e) (k : Fin k1_t7_loop.trips) (acc : FVec Ideal S1x256 .f32)
    (f9 : BufTy.Contents (Elt Ideal) a9.view.ty) (f10 : BufTy.Contents (Elt Ideal) a10.view.ty) (f11 : BufTy.Contents (Elt Ideal) a11.view.ty)
    (b : Fin 256) (hacc : acc (ix2 0 b) = upTo (scaleTerm d y (fun a b => v7 (ix3 0 a b)) b) (1024 * k.val)) :
    tripR_k1_t7 (F := Ideal) 𝒱 c bd i a1 h1 a2 h2 a3 h3 a4 h4 a5 h5 a6 h6 a7 h7 a8 h8 a9 h9 a10 h10 a11 h11 v7 v9 hc X1 X2 k acc f9 f10 f11 (ix2 0 b) = upTo (scaleTerm d y (fun a b => v7 (ix3 0 a b)) b) (1024 * (k.val + 1)) := by
  have hk : k.val < 4 := Nat.lt_of_lt_of_le k.isLt (by decide +kernel)
  unfold tripR_k1_t7 trip_k1_t7
  dsimp only
  rw [show 1024 * (k.val + 1) = 1024 * k.val + 512 + 512 by omega]
  exact scale_apply d y (1024 * k.val + 512) (by omega) v7 _ _ _ (chunk_read a1.view X1 d hd _ (by omega) (k1_off21_eq k) _) (chunk_read a2.view X2 y hy _ (by omega) (k1_off21_eq k) _) b
    (scale_apply d y (1024 * k.val) (by omega) v7 _ _ _ (chunk_read a1.view X1 d hd _ (by omega) (k1_off19_eq k) _) (chunk_read a2.view X2 y hy _ (by omega) (k1_off19_eq k) _) b hacc)

/-- A trip's new matrix gradient, half-width 8. -/
theorem bwd_trip_mat_8 (v7 : Vec Ideal S1x256x256 .bf16) (v9 : Vec Ideal S1x256 .f32) (hc : k1_cond4 i = 1#1)
    (X1 : BufTy.Contents (Elt Ideal) a1.view.ty) (X2 : BufTy.Contents (Elt Ideal) a2.view.ty) (d y : Fin 4096 → Fin 256 → EReal)
    (hd : ∀ t e, a1.view.read (Elt Ideal) X1 (ix2 t e) = d t e) (hy : ∀ t e, a2.view.read (Elt Ideal) X2 (ix2 t e) = y t e) (k : Fin k1_t7_loop.trips) (acc : FVec Ideal S1x256 .f32)
    (f9 : BufTy.Contents (Elt Ideal) a9.view.ty) (f10 : BufTy.Contents (Elt Ideal) a10.view.ty) (f11 : BufTy.Contents (Elt Ideal) a11.view.ty)
    (a b : Fin 256) (hacc : a11.view.read (Elt Ideal) f11 (ix2 a b) = upTo (matTerm d y (fun b => v9 (ix2 0 b)) a b) (1024 * k.val)) (G prev) :
    a11.view.read (Elt Ideal) (a11.view.writes (Elt Ideal) G ((tripL_k1_t7 (F := Ideal) 𝒱 c bd i a1 h1 a2 h2 a3 h3 a4 h4 a5 h5 a6 h6 a7 h7 a8 h8 a9 h9 a10 h10 a11 h11 v7 v9 hc X1 X2 k acc f9 f10 f11).2.2 ++ prev)) (ix2 a b)
      = upTo (matTerm d y (fun b => v9 (ix2 0 b)) a b) (1024 * (k.val + 1)) := by
  have hk : k.val < 4 := Nat.lt_of_lt_of_le k.isLt (by decide +kernel)
  unfold tripL_k1_t7 trip_k1_t7
  dsimp only
  rw [show 1024 * (k.val + 1) = 1024 * k.val + 512 + 512 by omega]
  refine (congrFun (View.read_writes_full a11.view _ _ _ _) _).trans ?_
  refine mat_apply d y (1024 * k.val + 512) (by omega) v9 _ _ _ (chunk_read a1.view X1 d hd _ (by omega) (k1_off21_eq k) _) (chunk_read a2.view X2 y hy _ (by omega) (k1_off21_eq k) _) a b ?_
  refine (congrFun (View.readCov_full a11.view _ _ _ _) _).trans ?_
  refine mat_apply d y (1024 * k.val) (by omega) v9 _ _ _ (chunk_read a1.view X1 d hd _ (by omega) (k1_off19_eq k) _) (chunk_read a2.view X2 y hy _ (by omega) (k1_off19_eq k) _) a b ?_
  refine (congrFun (View.readAt_full a11.view _ _) _).trans hacc

/-- The first loop's state after `n` trips, half-width 8. -/
theorem bwd_state_8 (v7 : Vec Ideal S1x256x256 .bf16) (v9 : Vec Ideal S1x256 .f32) (hc : k1_cond4 i = 1#1)
    (X1 : BufTy.Contents (Elt Ideal) a1.view.ty) (X2 : BufTy.Contents (Elt Ideal) a2.view.ty) (d y : Fin 4096 → Fin 256 → EReal)
    (hd : ∀ t e, a1.view.read (Elt Ideal) X1 (ix2 t e) = d t e) (hy : ∀ t e, a2.view.read (Elt Ideal) X2 (ix2 t e) = y t e)
    (G9 : BufTy.Contents (Elt Ideal) a9.view.ty) (G10 : BufTy.Contents (Elt Ideal) a10.view.ty)
    (G11 : BufTy.Contents (Elt Ideal) a11.view.ty) (init : FVec Ideal S1x256 .f32) (hi : ∀ b, init (ix2 0 b) = 0) (h11' : ∀ a b, a11.view.read (Elt Ideal) G11 (ix2 a b) = 0) :
    ∀ n, n ≤ k1_t7_loop.trips →
      Agree (fun q => padded (fun t c => devGrad y (fun a b => v7 (ix3 0 a b)) (fun b => v9 (ix2 0 b)) t c * invCount 8 t.val) (q 0).val (q 1)) (st_k1_t7 (F := Ideal) 𝒱 c bd i a1 h1 a2 h2 a3 h3 a4 h4 a5 h5 a6 h6 a7 h7 a8 h8 a9 h9 a10 h10 a11 h11 v7 v9 hc X1 X2 G9 G10 G11 init n).2.1
      ∧ Agree (fun q => devGrad y (fun a b => v7 (ix3 0 a b)) (fun b => v9 (ix2 0 b)) (q 0) (q 1)) (st_k1_t7 (F := Ideal) 𝒱 c bd i a1 h1 a2 h2 a3 h3 a4 h4 a5 h5 a6 h6 a7 h7 a8 h8 a9 h9 a10 h10 a11 h11 v7 v9 hc X1 X2 G9 G10 G11 init n).2.2.1
      ∧ (∀ b, (st_k1_t7 (F := Ideal) 𝒱 c bd i a1 h1 a2 h2 a3 h3 a4 h4 a5 h5 a6 h6 a7 h7 a8 h8 a9 h9 a10 h10 a11 h11 v7 v9 hc X1 X2 G9 G10 G11 init n).1 (ix2 0 b) = upTo (scaleTerm d y (fun a b => v7 (ix3 0 a b)) b) (1024 * n))
      ∧ (∀ a b, a11.view.read (Elt Ideal) (a11.view.writes (Elt Ideal) G11 (st_k1_t7 (F := Ideal) 𝒱 c bd i a1 h1 a2 h2 a3 h3 a4 h4 a5 h5 a6 h6 a7 h7 a8 h8 a9 h9 a10 h10 a11 h11 v7 v9 hc X1 X2 G9 G10 G11 init n).2.2.2) (ix2 a b)
          = upTo (matTerm d y (fun b => v9 (ix2 0 b)) a b) (1024 * n))
  | 0, _ => ⟨Agree.nil _, Agree.nil _, fun b => (hi b).trans (upTo_zero _).symm, fun a b => (h11' a b).trans (upTo_zero _).symm⟩
  | n + 1, hn => by
    obtain ⟨i1, i2, i3, i4⟩ := bwd_state_8 v7 v9 hc X1 X2 d y hd hy G9 G10 G11 init hi h11' n (by omega)
    rw [st_k1_t7_succ 𝒱 c bd i a1 h1 a2 h2 a3 h3 a4 h4 a5 h5 a6 h6 a7 h7 a8 h8 a9 h9 a10 h10 a11 h11 v7 v9 hc X1 X2 G9 G10 G11 init ⟨n, hn⟩]
    have T := bwd_trip_agree_8 𝒱 c bd i a1 h1 a2 h2 a3 h3 a4 h4 a5 h5 a6 h6 a7 h7 a8 h8 a9 h9 a10 h10 a11 h11 v7 v9 hc X1 X2 y hy ⟨n, hn⟩
    exact ⟨(T _ _ _ _).1.append i1, (T _ _ _ _).2.append i2,
      fun b => bwd_trip_scale_8 𝒱 c bd i a1 h1 a2 h2 a3 h3 a4 h4 a5 h5 a6 h6 a7 h7 a8 h8 a9 h9 a10 h10 a11 h11 v7 v9 hc X1 X2 d y hd hy ⟨n, hn⟩ _ _ _ _ b (i3 b),
      fun a b => bwd_trip_mat_8 𝒱 c bd i a1 h1 a2 h2 a3 h3 a4 h4 a5 h5 a6 h6 a7 h7 a8 h8 a9 h9 a10 h10 a11 h11 v7 v9 hc X1 X2 d y hd hy ⟨n, hn⟩ _ _ _ _ a b (i4 a b) _ _⟩

/-- The first loop's stores of the shares reach every row of the middle, half-width 8. -/
theorem bwd_share_covers_8 (v7 : Vec Ideal S1x256x256 .bf16) (v9 : Vec Ideal S1x256 .f32) (hc : k1_cond4 i = 1#1)
    (X1 : BufTy.Contents (Elt Ideal) a1.view.ty) (X2 : BufTy.Contents (Elt Ideal) a2.view.ty) (G9 : BufTy.Contents (Elt Ideal) a9.view.ty) (G10 : BufTy.Contents (Elt Ideal) a10.view.ty)
    (G11 : BufTy.Contents (Elt Ideal) a11.view.ty) (init : FVec Ideal S1x256 .f32) (q : Fin 4128) (e : Fin 256) (hl : 16 ≤ q.val) (hh : q.val < 4112) :
    Covers (st_k1_t7 (F := Ideal) 𝒱 c bd i a1 h1 a2 h2 a3 h3 a4 h4 a5 h5 a6 h6 a7 h7 a8 h8 a9 h9 a10 h10 a11 h11 v7 v9 hc X1 X2 G9 G10 G11 init k1_t7_loop.trips).2.1 (ix2 q e) := by
  have hT : k1_t7_loop.trips = 4 := by decide +kernel
  have H := covers_trips k1_t7_loop.trips (fun n => (st_k1_t7 (F := Ideal) 𝒱 c bd i a1 h1 a2 h2 a3 h3 a4 h4 a5 h5 a6 h6 a7 h7 a8 h8 a9 h9 a10 h10 a11 h11 v7 v9 hc X1 X2 G9 G10 G11 init n).2.1) _
    (fun k => congrArg (fun z => z.2.1) (st_k1_t7_succ 𝒱 c bd i a1 h1 a2 h2 a3 h3 a4 h4 a5 h5 a6 h6 a7 h7 a8 h8 a9 h9 a10 h10 a11 h11 v7 v9 hc X1 X2 G9 G10 G11 init k)) (y := ix2 q e)
    ⟨(q.val - 16) / 1024, by rw [hT]; omega⟩ ?_ _ (show (q.val - 16) / 1024 < k1_t7_loop.trips by rw [hT]; omega) le_rfl
  · exact H
  unfold tripL_k1_t7 trip_k1_t7
  dsimp only
  by_cases hq : (q.val - 16) % 1024 < 512
  · refine Covers.tail (Covers.head (unit_mem2 (m := 4128) (n := 256) (o0 := 1024 * ((q.val - 16) / 1024) + 16) (o1 := 0) (k1_off20_eq _) (k1_off20_inb i _ hc) q e
      (by show 1024 * ((q.val - 16) / 1024) + 16 ≤ q.val; omega) (by show q.val < 1024 * ((q.val - 16) / 1024) + 16 + 512; omega) (by omega) (by omega)))
  · refine Covers.head (unit_mem2 (m := 4128) (n := 256) (o0 := 1024 * ((q.val - 16) / 1024) + 528) (o1 := 0) (k1_off22_eq _) (k1_off22_inb i _ hc) q e
      (by show 1024 * ((q.val - 16) / 1024) + 528 ≤ q.val; omega) (by show q.val < 1024 * ((q.val - 16) / 1024) + 528 + 512; omega) (by omega) (by omega))

/-- The first loop's stores of the deviations' gradient reach every row, half-width 8. -/
theorem bwd_dev_covers_8 (v7 : Vec Ideal S1x256x256 .bf16) (v9 : Vec Ideal S1x256 .f32) (hc : k1_cond4 i = 1#1)
    (X1 : BufTy.Contents (Elt Ideal) a1.view.ty) (X2 : BufTy.Contents (Elt Ideal) a2.view.ty) (G9 : BufTy.Contents (Elt Ideal) a9.view.ty) (G10 : BufTy.Contents (Elt Ideal) a10.view.ty)
    (G11 : BufTy.Contents (Elt Ideal) a11.view.ty) (init : FVec Ideal S1x256 .f32) (q : Fin 4096) (e : Fin 256) :
    Covers (st_k1_t7 (F := Ideal) 𝒱 c bd i a1 h1 a2 h2 a3 h3 a4 h4 a5 h5 a6 h6 a7 h7 a8 h8 a9 h9 a10 h10 a11 h11 v7 v9 hc X1 X2 G9 G10 G11 init k1_t7_loop.trips).2.2.1 (ix2 q e) := by
  have hT : k1_t7_loop.trips = 4 := by decide +kernel
  have H := covers_trips k1_t7_loop.trips (fun n => (st_k1_t7 (F := Ideal) 𝒱 c bd i a1 h1 a2 h2 a3 h3 a4 h4 a5 h5 a6 h6 a7 h7 a8 h8 a9 h9 a10 h10 a11 h11 v7 v9 hc X1 X2 G9 G10 G11 init n).2.2.1) _
    (fun k => congrArg (fun z => z.2.2.1) (st_k1_t7_succ 𝒱 c bd i a1 h1 a2 h2 a3 h3 a4 h4 a5 h5 a6 h6 a7 h7 a8 h8 a9 h9 a10 h10 a11 h11 v7 v9 hc X1 X2 G9 G10 G11 init k)) (y := ix2 q e)
    ⟨q.val / 1024, by rw [hT]; omega⟩ ?_ _ (show q.val / 1024 < k1_t7_loop.trips by rw [hT]; omega) le_rfl
  · exact H
  unfold tripL_k1_t7 trip_k1_t7
  dsimp only
  by_cases hq : q.val % 1024 < 512
  · refine Covers.tail (Covers.head (unit_mem2 (m := 4096) (n := 256) (o0 := 1024 * (q.val / 1024)) (o1 := 0) (k1_off19_eq _) (k1_off19_inb i _ hc) q e
      (by show 1024 * (q.val / 1024) ≤ q.val; omega) (by show q.val < 1024 * (q.val / 1024) + 512; omega) (by omega) (by omega)))
  · refine Covers.head (unit_mem2 (m := 4096) (n := 256) (o0 := 1024 * (q.val / 1024) + 512) (o1 := 0) (k1_off21_eq _) (k1_off21_inb i _ hc) q e
      (by show 1024 * (q.val / 1024) + 512 ≤ q.val; omega) (by show q.val < 1024 * (q.val / 1024) + 512 + 512; omega) (by omega) (by omega))

/-- The second loop's stores of the channels' gradient, half-width 8. -/
theorem bwd_agrees_8 (hc : k1_cond4 i = 1#1) (X9 : BufTy.Contents (Elt Ideal) a9.view.ty) (X10 : BufTy.Contents (Elt Ideal) a10.view.ty) (g : Fin 4096 → Fin 256 → EReal)
    (h9' : ∀ t e, a9.view.read (Elt Ideal) X9 (ix2 t e) = padded (fun t c => g t c * invCount 8 t.val) t.val e)
    (h10' : ∀ t e, a10.view.read (Elt Ideal) X10 (ix2 t e) = g t e) :
    Agree (fun q => chanGrad 8 g (q 0) (q 1)) (pb_k1_t8 (F := Ideal) 𝒱 c bd i a1 h1 a2 h2 a3 h3 a4 h4 a5 h5 a6 h6 a7 h7 a8 h8 a9 h9 a10 h10 a11 h11 hc X9 X10 k1_t8_loop.trips) := by
  refine agree_trips k1_t8_loop.trips _ _ rfl (pb_k1_t8_succ 𝒱 c bd i a1 h1 a2 h2 a3 h3 a4 h4 a5 h5 a6 h6 a7 h7 a8 h8 a9 h9 a10 h10 a11 h11 hc X9 X10) (fun k => ?_) _ le_rfl
  have hk : k.val < 8 := Nat.lt_of_lt_of_le k.isLt (by decide +kernel)
  have he : ∀ (j : Fin 544) (e : Fin 256), View.readAt (Elt Ideal) a9.view
      (Rect.unit (s := S4128x256) (k1_off23 k) S544x256.size (k1_off23_inb i k hc)).toLoadRect X9 (ix2 j e)
        = padded (fun t c => g t c * invCount 8 t.val) (512 * k.val + j.val) e := by
    intro j e
    rw [View.readAt_apply, unit_idx2 (m := 4128) (n := 256) (o0 := 512 * k.val) (o1 := 0) (k1_off23_eq k) _ j e (by omega) (by omega), h9']
    simp
  unfold tripL_k1_t8 trip_k1_t8
  dsimp only
  refine Agree.cons (fun x => ?_) (Agree.nil _)
  obtain ⟨r, e, rfl⟩ : ∃ (r : Fin 512) (e : Fin 256), x = ix2 r e := ⟨_, _, eq_ix2 x⟩
  dsimp only
  rw [unit_emb2 (m := 4096) (n := 256) (o0 := 512 * k.val) (o1 := 0) (k1_off24_eq k) _ r e (by omega) (by omega)]
  refine (backRows_apply (512 * k.val) (by omega) 8 (by omega) (by omega) g (win16 _) _
    (chunk_read a10.view X10 g h10' _ (by omega) (k1_off24_eq k) _) (lo := 8) (hi := 537) (by omega) (by omega) (by omega) (by omega)
    (sums_win16 (X := fun i c => padded (fun t c => g t c * invCount 8 t.val) (512 * k.val + i) c) he) r e).trans ?_
  simp

end Cert.KernelIdeal.Val
-- ==== Proof.Block1.lean ====
module
public import proofs.«01_k».proof.Proof.Run1A
public import proofs.«01_k».proof.Proof.Run1B
public import proofs.«01_k».proof.Proof.Run1C
public import proofs.«01_k».proof.Proof.Run1D
public import proofs.«01_k».proof.Proof.Block0
public import proofs.«01_k».proof.Proof.BwdLoops
/-!
# What one grid point of the backward kernel leaves

In each case the outputs hold the gradient of the point's channels, of its group's matrix and of its
scales, over all the tokens.
-/
@[expose] public section
set_option maxRecDepth 16384
noncomputable section
namespace Cert.KernelIdeal.Val
open Idealize.ShloMosaic Idealize.ShloMosaic.Tactic Cert.KernelIdeal Cert.KernelIdeal.Gen Cert.KernelIdeal.Run Cert.PoolSpec Cert.Pieces
open Idealize.SL Idealize.SL.Sem

theorem k1_pay2_apply (r : Fin 16) (d : Fin 256) : k1_pay2 (F := Ideal) (ix2 r d) = 0 := by
  pointwise [k1_pay2, k1_pay1]
theorem k1_pay3_apply (r : Fin 16) (d : Fin 256) : k1_pay3 (F := Ideal) (ix2 r d) = 0 := by
  pointwise [k1_pay3, k1_pay1]

/-- One store of the whole of a memref reads back as what was stored. -/
theorem whole_store {e : EltTy} {sp : Space} {s : Shape} (a : Memref sig .tc sp s e) (f : a.view.ty.Contents (Elt Ideal)) (x : Vec Ideal s e)
    {off : Fin s.rank → ℕ} (ho : ∀ b, off b = 0) (inb : ∀ b, off b + s.size b ≤ s.size b) (y : s.Idx) :
    a.view.read (Elt Ideal) (a.view.writes (Elt Ideal) f [⟨Rect.unit off s.size inb, x⟩]) y = x y := by
  refine read_of_agree a.view f (G := x) (Agree.cons (fun z => ?_) (Agree.nil _)) ⟨_, List.mem_singleton_self _, ?_⟩
  · refine congrArg x ?_
    funext b
    apply Fin.ext
    show (z b).val = off b + 1 * (z b).val
    rw [ho b]; omega
  · rw [Rect.mem_set_unit]
    intro b
    have := (y b).isLt
    have := ho b
    exact ⟨by omega, by omega⟩

/-- A load of the whole of a memref, over anything. -/
theorem load_writes {e : EltTy} {sp : Space} {s : Shape} (a : Memref sig .tc sp s e) (f : a.view.ty.Contents (Elt Ideal))
    {off : Fin s.rank → ℕ} (ho : ∀ b, off b = 0) (inb : ∀ b, off b + s.size b ≤ s.size b) (y : s.Idx) :
    a.view.readAt (Elt Ideal) (Rect.unit off s.size inb).toLoadRect f y = a.view.read (Elt Ideal) f y := by
  rw [View.readAt_apply]
  congr 1
  funext b
  apply Fin.ext
  show off b + 1 * (y b).val = (y b).val
  rw [ho b]; omega

/-- The outputs' buffers, as the grid points see them. -/
abbrev cc1_m6 : Memref sig .tc .vmem S8x1x32x256 .bf16 := Memref.whole cc1_stg6_0
abbrev cc1_m7 : Memref sig .tc .vmem S1x256 .f32 := Memref.whole cc1_stg7_0

theorem k1_pay5_apply (a b : Fin 256) : k1_pay5 (F := Ideal) (ix2 a b) = 0 := by
  pointwise [k1_pay5]
theorem k1_pay6_apply (b : Fin 256) : k1_pay6 (F := Ideal) (ix2 0 b) = 0 := by
  pointwise [k1_pay6]
theorem k1_pay8_apply (v : Vec Ideal S256x256 .f32) (g : Fin 8) (r : Fin 32) (e : Fin 256) :
    k1_pay8 (F := Ideal) v (ix4 g 0 r e) = v (ix2 ⟨g.val * 32 + r.val, by omega⟩ e) := by
  pointwise [k1_pay8]

variable (c : Dev nD) (i : grid1.Coords) (a1 : Memref sig .tc .vmem S4096x256 .bf16) (w1 : a1.IsWhole) (a2 : Memref sig .tc .vmem S4096x256 .f32) (w2 : a2.IsWhole)
    (a3 : Memref sig .tc .vmem S1x256x256 .bf16) (w3 : a3.IsWhole) (a4 : Memref sig .tc .vmem S1x256 .f32) (w4 : a4.IsWhole) (a5 : Memref sig .tc .vmem S8x128 .f32)
    (w5 : a5.IsWhole) (a6 : Memref sig .tc .vmem S4096x256 .bf16) (w6 : a6.IsWhole) (a7 : Memref sig .tc .vmem S8x1x32x256 .bf16) (w7 : a7.IsWhole)
    (a8 : Memref sig .tc .vmem S1x256 .f32) (w8 : a8.IsWhole) (a9 : Memref sig .tc .vmem S4128x256 .f32) (w9 : a9.IsWhole) (a10 : Memref sig .tc .vmem S4096x256 .f32)
    (w10 : a10.IsWhole) (a11 : Memref sig .tc .vmem S256x256 .f32) (w11 : a11.IsWhole)

/-- Half-width 1: the buffers and the sums after the first loop. -/
theorem state_out_1
    (hc0 : cond1_0 i) (x0 : Vec Ideal S4096x256 .bf16) (x1 : Vec Ideal S4096x256 .f32) (x2 : Vec Ideal S1x256x256 .bf16) (x3 : Vec Ideal S1x256 .f32) (G9 : BufTy.Contents (Elt Ideal) a9.view.ty) (G10 : BufTy.Contents (Elt Ideal) a10.view.ty) :
    Agree (fun q => padded (fun t c => devGrad (fun t e => x1 (ix2 t e)) (fun a b => x2 (ix3 0 a b)) (fun b => x3 (ix2 0 b)) t c * invCount 1 t.val) (q 0).val (q 1))
        (st_k1_t1 (F := Ideal) Variants.none c none i a1 w1 a2 w2 a3 w3 a4 w4 a5 w5 a6 w6 a7 w7 a8 w8 a9 w9 a10 w10 a11 w11
          (a3.view.readAt (Elt Ideal) (Rect.unit ![0, 0, 0] S1x256x256.size inb_S1x256x256_S1x256x256_0_0_0).toLoadRect (w3.unread x2))
          (a4.view.readAt (Elt Ideal) (Rect.unit ![0, 0] S1x256.size inb_S1x256_S1x256_0_0).toLoadRect (w4.unread x3)) hc0 (w1.unread x0) (w2.unread x1) G9 G10
          (a11.view.writes (Elt Ideal) a11.view.junk [⟨Rect.unit ![0, 0] S256x256.size inb_S256x256_S256x256_0_0, k1_pay5 (F := Ideal)⟩]) k1_pay6 k1_t1_loop.trips).2.1
      ∧ Agree (fun q => devGrad (fun t e => x1 (ix2 t e)) (fun a b => x2 (ix3 0 a b)) (fun b => x3 (ix2 0 b)) (q 0) (q 1))
        (st_k1_t1 (F := Ideal) Variants.none c none i a1 w1 a2 w2 a3 w3 a4 w4 a5 w5 a6 w6 a7 w7 a8 w8 a9 w9 a10 w10 a11 w11
          (a3.view.readAt (Elt Ideal) (Rect.unit ![0, 0, 0] S1x256x256.size inb_S1x256x256_S1x256x256_0_0_0).toLoadRect (w3.unread x2))
          (a4.view.readAt (Elt Ideal) (Rect.unit ![0, 0] S1x256.size inb_S1x256_S1x256_0_0).toLoadRect (w4.unread x3)) hc0 (w1.unread x0) (w2.unread x1) G9 G10
          (a11.view.writes (Elt Ideal) a11.view.junk [⟨Rect.unit ![0, 0] S256x256.size inb_S256x256_S256x256_0_0, k1_pay5 (F := Ideal)⟩]) k1_pay6 k1_t1_loop.trips).2.2.1
      ∧ (∀ b, (st_k1_t1 (F := Ideal) Variants.none c none i a1 w1 a2 w2 a3 w3 a4 w4 a5 w5 a6 w6 a7 w7 a8 w8 a9 w9 a10 w10 a11 w11
          (a3.view.readAt (Elt Ideal) (Rect.unit ![0, 0, 0] S1x256x256.size inb_S1x256x256_S1x256x256_0_0_0).toLoadRect (w3.unread x2))
          (a4.view.readAt (Elt Ideal) (Rect.unit ![0, 0] S1x256.size inb_S1x256_S1x256_0_0).toLoadRect (w4.unread x3)) hc0 (w1.unread x0) (w2.unread x1) G9 G10
          (a11.view.writes (Elt Ideal) a11.view.junk [⟨Rect.unit ![0, 0] S256x256.size inb_S256x256_S256x256_0_0, k1_pay5 (F := Ideal)⟩]) k1_pay6 k1_t1_loop.trips).1 (ix2 0 b)
          = ∑ t, scaleTerm (fun t e => x0 (ix2 t e)) (fun t e => x1 (ix2 t e)) (fun a b => x2 (ix3 0 a b)) b t)
      ∧ (∀ a b, a11.view.read (Elt Ideal) (a11.view.writes (Elt Ideal) (a11.view.writes (Elt Ideal) a11.view.junk [⟨Rect.unit ![0, 0] S256x256.size inb_S256x256_S256x256_0_0, k1_pay5 (F := Ideal)⟩])
          (st_k1_t1 (F := Ideal) Variants.none c none i a1 w1 a2 w2 a3 w3 a4 w4 a5 w5 a6 w6 a7 w7 a8 w8 a9 w9 a10 w10 a11 w11
          (a3.view.readAt (Elt Ideal) (Rect.unit ![0, 0, 0] S1x256x256.size inb_S1x256x256_S1x256x256_0_0_0).toLoadRect (w3.unread x2))
          (a4.view.readAt (Elt Ideal) (Rect.unit ![0, 0] S1x256.size inb_S1x256_S1x256_0_0).toLoadRect (w4.unread x3)) hc0 (w1.unread x0) (w2.unread x1) G9 G10
          (a11.view.writes (Elt Ideal) a11.view.junk [⟨Rect.unit ![0, 0] S256x256.size inb_S256x256_S256x256_0_0, k1_pay5 (F := Ideal)⟩]) k1_pay6 k1_t1_loop.trips).2.2.2) (ix2 a b)
          = ∑ t, matTerm (fun t e => x0 (ix2 t e)) (fun t e => x1 (ix2 t e)) (fun b => x3 (ix2 0 b)) a b t) := by
  have hT : 1024 * k1_t1_loop.trips = 4096 := by decide +kernel
  have H := bwd_state_1 Variants.none c none i a1 w1 a2 w2 a3 w3 a4 w4 a5 w5 a6 w6 a7 w7 a8 w8 a9 w9 a10 w10 a11 w11
    (a3.view.readAt (Elt Ideal) (Rect.unit ![0, 0, 0] S1x256x256.size inb_S1x256x256_S1x256x256_0_0_0).toLoadRect (w3.unread x2))
    (a4.view.readAt (Elt Ideal) (Rect.unit ![0, 0] S1x256.size inb_S1x256_S1x256_0_0).toLoadRect (w4.unread x3)) hc0 (w1.unread x0) (w2.unread x1)
    (fun t e => x0 (ix2 t e)) (fun t e => x1 (ix2 t e)) (fun t e => congrFun (w1.read_unread x0) _) (fun t e => congrFun (w2.read_unread x1) _)
    G9 G10 (a11.view.writes (Elt Ideal) a11.view.junk [⟨Rect.unit ![0, 0] S256x256.size inb_S256x256_S256x256_0_0, k1_pay5 (F := Ideal)⟩]) k1_pay6 k1_pay6_apply
    (fun a b => (whole_store a11 a11.view.junk (k1_pay5 (F := Ideal)) (off := ![0, 0]) (by decide) inb_S256x256_S256x256_0_0 (ix2 a b)).trans (k1_pay5_apply a b))
    k1_t1_loop.trips le_rfl
  rw [hT] at H
  simp only [load_whole _ w3 x2 (off := ![0, 0, 0]) (by decide), load_whole _ w4 x3 (off := ![0, 0]) (by decide), upTo_all] at H
  exact H

/-- Half-width 1: the channels' gradient. -/
theorem out1_A_5_apply
    (hc0 : cond1_0 i) (hc1 : ¬cond1_1 i) (hc2 : ¬cond1_2 i) (hc3 : ¬cond1_3 i) (x0 : Vec Ideal S4096x256 .bf16) (x1 : Vec Ideal S4096x256 .f32) (x2 : Vec Ideal S1x256x256 .bf16) (x3 : Vec Ideal S1x256 .f32) (x4 : Vec Ideal S8x128 .f32) (t : Fin 4096) (e : Fin 256) :
    out1_A_5 c i a1 w1 a2 w2 a3 w3 a4 w4 a5 w5 a6 w6 a7 w7 a8 w8 a9 w9 a10 w10 a11 w11 hc0 hc1 hc2 hc3 x0 x1 x2 x3 x4 (ix2 t e) = chanGrad 1 (devGrad (fun t e => x1 (ix2 t e)) (fun a b => x2 (ix3 0 a b)) (fun b => x3 (ix2 0 b))) t e := by
  unfold out1_A_5
  refine read_of_agree VO1_5 VO1_5.junk (G := fun q => chanGrad 1 (devGrad (fun t e => x1 (ix2 t e)) (fun a b => x2 (ix3 0 a b)) (fun b => x3 (ix2 0 b))) (q 0) (q 1)) ?_
    (cover1_A_5 c i a1 w1 a2 w2 a3 w3 a4 w4 a5 w5 a6 w6 a7 w7 a8 w8 a9 w9 a10 w10 a11 w11 hc0 hc1 hc2 hc3 x0 x1 x2 x3 x4 (ix2 t e))
  unfold kernelRun1_A
  dsimp only
  refine bwd_agrees_1 Variants.none c none i a1 w1 a2 w2 a3 w3 a4 w4 a5 w5 a6 w6 a7 w7 a8 w8 a9 w9 a10 w10 a11 w11 hc0 _ _ (devGrad (fun t e => x1 (ix2 t e)) (fun a b => x2 (ix3 0 a b)) (fun b => x3 (ix2 0 b))) (fun t e => ?_) (fun t e => ?_)
  · refine read_of_agree a9.view _ (G := fun q => padded (fun t c => (devGrad (fun t e => x1 (ix2 t e)) (fun a b => x2 (ix3 0 a b)) (fun b => x3 (ix2 0 b))) t c * invCount 1 t.val) (q 0).val (q 1))
      (Agree.append (state_out_1 c i a1 w1 a2 w2 a3 w3 a4 w4 a5 w5 a6 w6 a7 w7 a8 w8 a9 w9 a10 w10 a11 w11 hc0 x0 x1 x2 x3 _ _).1 (pads_agree _ _ _ k1_pay3_apply k1_pay2_apply)) ?_
    have h := fun L hL => LoadRect.cover_of_covChk (Val := Elt Ideal) (e := .f32) L (LoadRect.whole S4128x256) padCov hL (ix2 t e)
    simp only [LoadRect.idx_whole] at h
    exact h _ (by sl_kernel_rfl)
  · exact read_of_agree a10.view _ (G := fun q => (devGrad (fun t e => x1 (ix2 t e)) (fun a b => x2 (ix3 0 a b)) (fun b => x3 (ix2 0 b))) (q 0) (q 1))
      (state_out_1 c i a1 w1 a2 w2 a3 w3 a4 w4 a5 w5 a6 w6 a7 w7 a8 w8 a9 w9 a10 w10 a11 w11 hc0 x0 x1 x2 x3 _ _).2.1 (bwd_dev_covers_1 Variants.none c none i a1 w1 a2 w2 a3 w3 a4 w4 a5 w5 a6 w6 a7 w7 a8 w8 a9 w9 a10 w10 a11 w11 _ _ hc0 _ _ _ _ _ _ _ _)

/-- Half-width 1: the matrix's gradient. -/
theorem out1_A_6_apply
    (hc0 : cond1_0 i) (hc1 : ¬cond1_1 i) (hc2 : ¬cond1_2 i) (hc3 : ¬cond1_3 i) (x0 : Vec Ideal S4096x256 .bf16) (x1 : Vec Ideal S4096x256 .f32) (x2 : Vec Ideal S1x256x256 .bf16) (x3 : Vec Ideal S1x256 .f32) (x4 : Vec Ideal S8x128 .f32) (g : Fin 8) (r : Fin 32) (e : Fin 256) :
    out1_A_6 c i a1 w1 a2 w2 a3 w3 a4 w4 a5 w5 a6 w6 a7 w7 a8 w8 a9 w9 a10 w10 a11 w11 hc0 hc1 hc2 hc3 x0 x1 x2 x3 x4 (ix4 g 0 r e)
      = ∑ t, matTerm (fun t e => x0 (ix2 t e)) (fun t e => x1 (ix2 t e)) (fun b => x3 (ix2 0 b)) ⟨g.val * 32 + r.val, by omega⟩ e t := by
  unfold out1_A_6 kernelRun1_A
  dsimp only
  refine (whole_store cc1_m6 _ _ (off := ![0, 0, 0, 0]) (by decide) _ (ix4 g 0 r e)).trans ?_
  refine (k1_pay8_apply _ g r e).trans ?_
  refine (load_writes a11 _ (off := ![0, 0]) (by decide) _ _).trans ?_
  rw [View.writes_append]
  exact (state_out_1 c i a1 w1 a2 w2 a3 w3 a4 w4 a5 w5 a6 w6 a7 w7 a8 w8 a9 w9 a10 w10 a11 w11 hc0 x0 x1 x2 x3 _ _).2.2.2 _ e

/-- Half-width 1: the scales' gradient. -/
theorem out1_A_7_apply
    (hc0 : cond1_0 i) (hc1 : ¬cond1_1 i) (hc2 : ¬cond1_2 i) (hc3 : ¬cond1_3 i) (x0 : Vec Ideal S4096x256 .bf16) (x1 : Vec Ideal S4096x256 .f32) (x2 : Vec Ideal S1x256x256 .bf16) (x3 : Vec Ideal S1x256 .f32) (x4 : Vec Ideal S8x128 .f32) (e : Fin 256) :
    out1_A_7 c i a1 w1 a2 w2 a3 w3 a4 w4 a5 w5 a6 w6 a7 w7 a8 w8 a9 w9 a10 w10 a11 w11 hc0 hc1 hc2 hc3 x0 x1 x2 x3 x4 (ix2 0 e) = ∑ t, scaleTerm (fun t e => x0 (ix2 t e)) (fun t e => x1 (ix2 t e)) (fun a b => x2 (ix3 0 a b)) e t := by
  unfold out1_A_7 kernelRun1_A
  dsimp only
  refine (whole_store cc1_m7 _ _ (off := ![0, 0]) (by decide) _ (ix2 0 e)).trans ?_
  exact (state_out_1 c i a1 w1 a2 w2 a3 w3 a4 w4 a5 w5 a6 w6 a7 w7 a8 w8 a9 w9 a10 w10 a11 w11 hc0 x0 x1 x2 x3 _ _).2.2.1 e

theorem k1_pay10_apply (a b : Fin 256) : k1_pay10 (F := Ideal) (ix2 a b) = 0 := by
  pointwise [k1_pay10]
theorem k1_pay11_apply (b : Fin 256) : k1_pay11 (F := Ideal) (ix2 0 b) = 0 := by
  pointwise [k1_pay11]
theorem k1_pay13_apply (v : Vec Ideal S256x256 .f32) (g : Fin 8) (r : Fin 32) (e : Fin 256) :
    k1_pay13 (F := Ideal) v (ix4 g 0 r e) = v (ix2 ⟨g.val * 32 + r.val, by omega⟩ e) := by
  pointwise [k1_pay13]

/-- Half-width 2: the buffers and the sums after the first loop. -/
theorem state_out_2
    (hc1 : cond1_1 i) (x0 : Vec Ideal S4096x256 .bf16) (x1 : Vec Ideal S4096x256 .f32) (x2 : Vec Ideal S1x256x256 .bf16) (x3 : Vec Ideal S1x256 .f32) (G9 : BufTy.Contents (Elt Ideal) a9.view.ty) (G10 : BufTy.Contents (Elt Ideal) a10.view.ty) :
    Agree (fun q => padded (fun t c => devGrad (fun t e => x1 (ix2 t e)) (fun a b => x2 (ix3 0 a b)) (fun b => x3 (ix2 0 b)) t c * invCount 2 t.val) (q 0).val (q 1))
        (st_k1_t3 (F := Ideal) Variants.none c none i a1 w1 a2 w2 a3 w3 a4 w4 a5 w5 a6 w6 a7 w7 a8 w8 a9 w9 a10 w10 a11 w11
          (a3.view.readAt (Elt Ideal) (Rect.unit ![0, 0, 0] S1x256x256.size inb_S1x256x256_S1x256x256_0_0_0).toLoadRect (w3.unread x2))
          (a4.view.readAt (Elt Ideal) (Rect.unit ![0, 0] S1x256.size inb_S1x256_S1x256_0_0).toLoadRect (w4.unread x3)) hc1 (w1.unread x0) (w2.unread x1) G9 G10
          (a11.view.writes (Elt Ideal) a11.view.junk [⟨Rect.unit ![0, 0] S256x256.size inb_S256x256_S256x256_0_0, k1_pay10 (F := Ideal)⟩]) k1_pay11 k1_t3_loop.trips).2.1
      ∧ Agree (fun q => devGrad (fun t e => x1 (ix2 t e)) (fun a b => x2 (ix3 0 a b)) (fun b => x3 (ix2 0 b)) (q 0) (q 1))
        (st_k1_t3 (F := Ideal) Variants.none c none i a1 w1 a2 w2 a3 w3 a4 w4 a5 w5 a6 w6 a7 w7 a8 w8 a9 w9 a10 w10 a11 w11
          (a3.view.readAt (Elt Ideal) (Rect.unit ![0, 0, 0] S1x256x256.size inb_S1x256x256_S1x256x256_0_0_0).toLoadRect (w3.unread x2))
          (a4.view.readAt (Elt Ideal) (Rect.unit ![0, 0] S1x256.size inb_S1x256_S1x256_0_0).toLoadRect (w4.unread x3)) hc1 (w1.unread x0) (w2.unread x1) G9 G10
          (a11.view.writes (Elt Ideal) a11.view.junk [⟨Rect.unit ![0, 0] S256x256.size inb_S256x256_S256x256_0_0, k1_pay10 (F := Ideal)⟩]) k1_pay11 k1_t3_loop.trips).2.2.1
      ∧ (∀ b, (st_k1_t3 (F := Ideal) Variants.none c none i a1 w1 a2 w2 a3 w3 a4 w4 a5 w5 a6 w6 a7 w7 a8 w8 a9 w9 a10 w10 a11 w11
          (a3.view.readAt (Elt Ideal) (Rect.unit ![0, 0, 0] S1x256x256.size inb_S1x256x256_S1x256x256_0_0_0).toLoadRect (w3.unread x2))
          (a4.view.readAt (Elt Ideal) (Rect.unit ![0, 0] S1x256.size inb_S1x256_S1x256_0_0).toLoadRect (w4.unread x3)) hc1 (w1.unread x0) (w2.unread x1) G9 G10
          (a11.view.writes (Elt Ideal) a11.view.junk [⟨Rect.unit ![0, 0] S256x256.size inb_S256x256_S256x256_0_0, k1_pay10 (F := Ideal)⟩]) k1_pay11 k1_t3_loop.trips).1 (ix2 0 b)
          = ∑ t, scaleTerm (fun t e => x0 (ix2 t e)) (fun t e => x1 (ix2 t e)) (fun a b => x2 (ix3 0 a b)) b t)
      ∧ (∀ a b, a11.view.read (Elt Ideal) (a11.view.writes (Elt Ideal) (a11.view.writes (Elt Ideal) a11.view.junk [⟨Rect.unit ![0, 0] S256x256.size inb_S256x256_S256x256_0_0, k1_pay10 (F := Ideal)⟩])
          (st_k1_t3 (F := Ideal) Variants.none c none i a1 w1 a2 w2 a3 w3 a4 w4 a5 w5 a6 w6 a7 w7 a8 w8 a9 w9 a10 w10 a11 w11
          (a3.view.readAt (Elt Ideal) (Rect.unit ![0, 0, 0] S1x256x256.size inb_S1x256x256_S1x256x256_0_0_0).toLoadRect (w3.unread x2))
          (a4.view.readAt (Elt Ideal) (Rect.unit ![0, 0] S1x256.size inb_S1x256_S1x256_0_0).toLoadRect (w4.unread x3)) hc1 (w1.unread x0) (w2.unread x1) G9 G10
          (a11.view.writes (Elt Ideal) a11.view.junk [⟨Rect.unit ![0, 0] S256x256.size inb_S256x256_S256x256_0_0, k1_pay10 (F := Ideal)⟩]) k1_pay11 k1_t3_loop.trips).2.2.2) (ix2 a b)
          = ∑ t, matTerm (fun t e => x0 (ix2 t e)) (fun t e => x1 (ix2 t e)) (fun b => x3 (ix2 0 b)) a b t) := by
  have hT : 1024 * k1_t3_loop.trips = 4096 := by decide +kernel
  have H := bwd_state_2 Variants.none c none i a1 w1 a2 w2 a3 w3 a4 w4 a5 w5 a6 w6 a7 w7 a8 w8 a9 w9 a10 w10 a11 w11
    (a3.view.readAt (Elt Ideal) (Rect.unit ![0, 0, 0] S1x256x256.size inb_S1x256x256_S1x256x256_0_0_0).toLoadRect (w3.unread x2))
    (a4.view.readAt (Elt Ideal) (Rect.unit ![0, 0] S1x256.size inb_S1x256_S1x256_0_0).toLoadRect (w4.unread x3)) hc1 (w1.unread x0) (w2.unread x1)
    (fun t e => x0 (ix2 t e)) (fun t e => x1 (ix2 t e)) (fun t e => congrFun (w1.read_unread x0) _) (fun t e => congrFun (w2.read_unread x1) _)
    G9 G10 (a11.view.writes (Elt Ideal) a11.view.junk [⟨Rect.unit ![0, 0] S256x256.size inb_S256x256_S256x256_0_0, k1_pay10 (F := Ideal)⟩]) k1_pay11 k1_pay11_apply
    (fun a b => (whole_store a11 a11.view.junk (k1_pay10 (F := Ideal)) (off := ![0, 0]) (by decide) inb_S256x256_S256x256_0_0 (ix2 a b)).trans (k1_pay10_apply a b))
    k1_t3_loop.trips le_rfl
  rw [hT] at H
  simp only [load_whole _ w3 x2 (off := ![0, 0, 0]) (by decide), load_whole _ w4 x3 (off := ![0, 0]) (by decide), upTo_all] at H
  exact H

/-- Half-width 2: the channels' gradient. -/
theorem out1_B_5_apply
    (hc0 : ¬cond1_0 i) (hc1 : cond1_1 i) (hc2 : ¬cond1_2 i) (hc3 : ¬cond1_3 i) (x0 : Vec Ideal S4096x256 .bf16) (x1 : Vec Ideal S4096x256 .f32) (x2 : Vec Ideal S1x256x256 .bf16) (x3 : Vec Ideal S1x256 .f32) (x4 : Vec Ideal S8x128 .f32) (t : Fin 4096) (e : Fin 256) :
    out1_B_5 c i a1 w1 a2 w2 a3 w3 a4 w4 a5 w5 a6 w6 a7 w7 a8 w8 a9 w9 a10 w10 a11 w11 hc0 hc1 hc2 hc3 x0 x1 x2 x3 x4 (ix2 t e) = chanGrad 2 (devGrad (fun t e => x1 (ix2 t e)) (fun a b => x2 (ix3 0 a b)) (fun b => x3 (ix2 0 b))) t e := by
  unfold out1_B_5
  refine read_of_agree VO1_5 VO1_5.junk (G := fun q => chanGrad 2 (devGrad (fun t e => x1 (ix2 t e)) (fun a b => x2 (ix3 0 a b)) (fun b => x3 (ix2 0 b))) (q 0) (q 1)) ?_
    (cover1_B_5 c i a1 w1 a2 w2 a3 w3 a4 w4 a5 w5 a6 w6 a7 w7 a8 w8 a9 w9 a10 w10 a11 w11 hc0 hc1 hc2 hc3 x0 x1 x2 x3 x4 (ix2 t e))
  unfold kernelRun1_B
  dsimp only
  refine bwd_agrees_2 Variants.none c none i a1 w1 a2 w2 a3 w3 a4 w4 a5 w5 a6 w6 a7 w7 a8 w8 a9 w9 a10 w10 a11 w11 hc1 _ _ (devGrad (fun t e => x1 (ix2 t e)) (fun a b => x2 (ix3 0 a b)) (fun b => x3 (ix2 0 b))) (fun t e => ?_) (fun t e => ?_)
  · refine read_of_agree a9.view _ (G := fun q => padded (fun t c => (devGrad (fun t e => x1 (ix2 t e)) (fun a b => x2 (ix3 0 a b)) (fun b => x3 (ix2 0 b))) t c * invCount 2 t.val) (q 0).val (q 1))
      (Agree.append (state_out_2 c i a1 w1 a2 w2 a3 w3 a4 w4 a5 w5 a6 w6 a7 w7 a8 w8 a9 w9 a10 w10 a11 w11 hc1 x0 x1 x2 x3 _ _).1 (pads_agree _ _ _ k1_pay3_apply k1_pay2_apply)) ?_
    have h := fun L hL => LoadRect.cover_of_covChk (Val := Elt Ideal) (e := .f32) L (LoadRect.whole S4128x256) padCov hL (ix2 t e)
    simp only [LoadRect.idx_whole] at h
    exact h _ (by sl_kernel_rfl)
  · exact read_of_agree a10.view _ (G := fun q => (devGrad (fun t e => x1 (ix2 t e)) (fun a b => x2 (ix3 0 a b)) (fun b => x3 (ix2 0 b))) (q 0) (q 1))
      (state_out_2 c i a1 w1 a2 w2 a3 w3 a4 w4 a5 w5 a6 w6 a7 w7 a8 w8 a9 w9 a10 w10 a11 w11 hc1 x0 x1 x2 x3 _ _).2.1 (bwd_dev_covers_2 Variants.none c none i a1 w1 a2 w2 a3 w3 a4 w4 a5 w5 a6 w6 a7 w7 a8 w8 a9 w9 a10 w10 a11 w11 _ _ hc1 _ _ _ _ _ _ _ _)

/-- Half-width 2: the matrix's gradient. -/
theorem out1_B_6_apply
    (hc0 : ¬cond1_0 i) (hc1 : cond1_1 i) (hc2 : ¬cond1_2 i) (hc3 : ¬cond1_3 i) (x0 : Vec Ideal S4096x256 .bf16) (x1 : Vec Ideal S4096x256 .f32) (x2 : Vec Ideal S1x256x256 .bf16) (x3 : Vec Ideal S1x256 .f32) (x4 : Vec Ideal S8x128 .f32) (g : Fin 8) (r : Fin 32) (e : Fin 256) :
    out1_B_6 c i a1 w1 a2 w2 a3 w3 a4 w4 a5 w5 a6 w6 a7 w7 a8 w8 a9 w9 a10 w10 a11 w11 hc0 hc1 hc2 hc3 x0 x1 x2 x3 x4 (ix4 g 0 r e)
      = ∑ t, matTerm (fun t e => x0 (ix2 t e)) (fun t e => x1 (ix2 t e)) (fun b => x3 (ix2 0 b)) ⟨g.val * 32 + r.val, by omega⟩ e t := by
  unfold out1_B_6 kernelRun1_B
  dsimp only
  refine (whole_store cc1_m6 _ _ (off := ![0, 0, 0, 0]) (by decide) _ (ix4 g 0 r e)).trans ?_
  refine (k1_pay13_apply _ g r e).trans ?_
  refine (load_writes a11 _ (off := ![0, 0]) (by decide) _ _).trans ?_
  rw [View.writes_append]
  exact (state_out_2 c i a1 w1 a2 w2 a3 w3 a4 w4 a5 w5 a6 w6 a7 w7 a8 w8 a9 w9 a10 w10 a11 w11 hc1 x0 x1 x2 x3 _ _).2.2.2 _ e

/-- Half-width 2: the scales' gradient. -/
theorem out1_B_7_apply
    (hc0 : ¬cond1_0 i) (hc1 : cond1_1 i) (hc2 : ¬cond1_2 i) (hc3 : ¬cond1_3 i) (x0 : Vec Ideal S4096x256 .bf16) (x1 : Vec Ideal S4096x256 .f32) (x2 : Vec Ideal S1x256x256 .bf16) (x3 : Vec Ideal S1x256 .f32) (x4 : Vec Ideal S8x128 .f32) (e : Fin 256) :
    out1_B_7 c i a1 w1 a2 w2 a3 w3 a4 w4 a5 w5 a6 w6 a7 w7 a8 w8 a9 w9 a10 w10 a11 w11 hc0 hc1 hc2 hc3 x0 x1 x2 x3 x4 (ix2 0 e) = ∑ t, scaleTerm (fun t e => x0 (ix2 t e)) (fun t e => x1 (ix2 t e)) (fun a b => x2 (ix3 0 a b)) e t := by
  unfold out1_B_7 kernelRun1_B
  dsimp only
  refine (whole_store cc1_m7 _ _ (off := ![0, 0]) (by decide) _ (ix2 0 e)).trans ?_
  exact (state_out_2 c i a1 w1 a2 w2 a3 w3 a4 w4 a5 w5 a6 w6 a7 w7 a8 w8 a9 w9 a10 w10 a11 w11 hc1 x0 x1 x2 x3 _ _).2.2.1 e

theorem k1_pay15_apply (a b : Fin 256) : k1_pay15 (F := Ideal) (ix2 a b) = 0 := by
  pointwise [k1_pay15]
theorem k1_pay16_apply (b : Fin 256) : k1_pay16 (F := Ideal) (ix2 0 b) = 0 := by
  pointwise [k1_pay16]
theorem k1_pay18_apply (v : Vec Ideal S256x256 .f32) (g : Fin 8) (r : Fin 32) (e : Fin 256) :
    k1_pay18 (F := Ideal) v (ix4 g 0 r e) = v (ix2 ⟨g.val * 32 + r.val, by omega⟩ e) := by
  pointwise [k1_pay18]

/-- Half-width 4: the buffers and the sums after the first loop. -/
theorem state_out_4
    (hc2 : cond1_2 i) (x0 : Vec Ideal S4096x256 .bf16) (x1 : Vec Ideal S4096x256 .f32) (x2 : Vec Ideal S1x256x256 .bf16) (x3 : Vec Ideal S1x256 .f32) (G9 : BufTy.Contents (Elt Ideal) a9.view.ty) (G10 : BufTy.Contents (Elt Ideal) a10.view.ty) :
    Agree (fun q => padded (fun t c => devGrad (fun t e => x1 (ix2 t e)) (fun a b => x2 (ix3 0 a b)) (fun b => x3 (ix2 0 b)) t c * invCount 4 t.val) (q 0).val (q 1))
        (st_k1_t5 (F := Ideal) Variants.none c none i a1 w1 a2 w2 a3 w3 a4 w4 a5 w5 a6 w6 a7 w7 a8 w8 a9 w9 a10 w10 a11 w11
          (a3.view.readAt (Elt Ideal) (Rect.unit ![0, 0, 0] S1x256x256.size inb_S1x256x256_S1x256x256_0_0_0).toLoadRect (w3.unread x2))
          (a4.view.readAt (Elt Ideal) (Rect.unit ![0, 0] S1x256.size inb_S1x256_S1x256_0_0).toLoadRect (w4.unread x3)) hc2 (w1.unread x0) (w2.unread x1) G9 G10
          (a11.view.writes (Elt Ideal) a11.view.junk [⟨Rect.unit ![0, 0] S256x256.size inb_S256x256_S256x256_0_0, k1_pay15 (F := Ideal)⟩]) k1_pay16 k1_t5_loop.trips).2.1
      ∧ Agree (fun q => devGrad (fun t e => x1 (ix2 t e)) (fun a b => x2 (ix3 0 a b)) (fun b => x3 (ix2 0 b)) (q 0) (q 1))
        (st_k1_t5 (F := Ideal) Variants.none c none i a1 w1 a2 w2 a3 w3 a4 w4 a5 w5 a6 w6 a7 w7 a8 w8 a9 w9 a10 w10 a11 w11
          (a3.view.readAt (Elt Ideal) (Rect.unit ![0, 0, 0] S1x256x256.size inb_S1x256x256_S1x256x256_0_0_0).toLoadRect (w3.unread x2))
          (a4.view.readAt (Elt Ideal) (Rect.unit ![0, 0] S1x256.size inb_S1x256_S1x256_0_0).toLoadRect (w4.unread x3)) hc2 (w1.unread x0) (w2.unread x1) G9 G10
          (a11.view.writes (Elt Ideal) a11.view.junk [⟨Rect.unit ![0, 0] S256x256.size inb_S256x256_S256x256_0_0, k1_pay15 (F := Ideal)⟩]) k1_pay16 k1_t5_loop.trips).2.2.1
      ∧ (∀ b, (st_k1_t5 (F := Ideal) Variants.none c none i a1 w1 a2 w2 a3 w3 a4 w4 a5 w5 a6 w6 a7 w7 a8 w8 a9 w9 a10 w10 a11 w11
          (a3.view.readAt (Elt Ideal) (Rect.unit ![0, 0, 0] S1x256x256.size inb_S1x256x256_S1x256x256_0_0_0).toLoadRect (w3.unread x2))
          (a4.view.readAt (Elt Ideal) (Rect.unit ![0, 0] S1x256.size inb_S1x256_S1x256_0_0).toLoadRect (w4.unread x3)) hc2 (w1.unread x0) (w2.unread x1) G9 G10
          (a11.view.writes (Elt Ideal) a11.view.junk [⟨Rect.unit ![0, 0] S256x256.size inb_S256x256_S256x256_0_0, k1_pay15 (F := Ideal)⟩]) k1_pay16 k1_t5_loop.trips).1 (ix2 0 b)
          = ∑ t, scaleTerm (fun t e => x0 (ix2 t e)) (fun t e => x1 (ix2 t e)) (fun a b => x2 (ix3 0 a b)) b t)
      ∧ (∀ a b, a11.view.read (Elt Ideal) (a11.view.writes (Elt Ideal) (a11.view.writes (Elt Ideal) a11.view.junk [⟨Rect.unit ![0, 0] S256x256.size inb_S256x256_S256x256_0_0, k1_pay15 (F := Ideal)⟩])
          (st_k1_t5 (F := Ideal) Variants.none c none i a1 w1 a2 w2 a3 w3 a4 w4 a5 w5 a6 w6 a7 w7 a8 w8 a9 w9 a10 w10 a11 w11
          (a3.view.readAt (Elt Ideal) (Rect.unit ![0, 0, 0] S1x256x256.size inb_S1x256x256_S1x256x256_0_0_0).toLoadRect (w3.unread x2))
          (a4.view.readAt (Elt Ideal) (Rect.unit ![0, 0] S1x256.size inb_S1x256_S1x256_0_0).toLoadRect (w4.unread x3)) hc2 (w1.unread x0) (w2.unread x1) G9 G10
          (a11.view.writes (Elt Ideal) a11.view.junk [⟨Rect.unit ![0, 0] S256x256.size inb_S256x256_S256x256_0_0, k1_pay15 (F := Ideal)⟩]) k1_pay16 k1_t5_loop.trips).2.2.2) (ix2 a b)
          = ∑ t, matTerm (fun t e => x0 (ix2 t e)) (fun t e => x1 (ix2 t e)) (fun b => x3 (ix2 0 b)) a b t) := by
  have hT : 1024 * k1_t5_loop.trips = 4096 := by decide +kernel
  have H := bwd_state_4 Variants.none c none i a1 w1 a2 w2 a3 w3 a4 w4 a5 w5 a6 w6 a7 w7 a8 w8 a9 w9 a10 w10 a11 w11
    (a3.view.readAt (Elt Ideal) (Rect.unit ![0, 0, 0] S1x256x256.size inb_S1x256x256_S1x256x256_0_0_0).toLoadRect (w3.unread x2))
    (a4.view.readAt (Elt Ideal) (Rect.unit ![0, 0] S1x256.size inb_S1x256_S1x256_0_0).toLoadRect (w4.unread x3)) hc2 (w1.unread x0) (w2.unread x1)
    (fun t e => x0 (ix2 t e)) (fun t e => x1 (ix2 t e)) (fun t e => congrFun (w1.read_unread x0) _) (fun t e => congrFun (w2.read_unread x1) _)
    G9 G10 (a11.view.writes (Elt Ideal) a11.view.junk [⟨Rect.unit ![0, 0] S256x256.size inb_S256x256_S256x256_0_0, k1_pay15 (F := Ideal)⟩]) k1_pay16 k1_pay16_apply
    (fun a b => (whole_store a11 a11.view.junk (k1_pay15 (F := Ideal)) (off := ![0, 0]) (by decide) inb_S256x256_S256x256_0_0 (ix2 a b)).trans (k1_pay15_apply a b))
    k1_t5_loop.trips le_rfl
  rw [hT] at H
  simp only [load_whole _ w3 x2 (off := ![0, 0, 0]) (by decide), load_whole _ w4 x3 (off := ![0, 0]) (by decide), upTo_all] at H
  exact H

/-- Half-width 4: the channels' gradient. -/
theorem out1_C_5_apply
    (hc0 : ¬cond1_0 i) (hc1 : ¬cond1_1 i) (hc2 : cond1_2 i) (hc3 : ¬cond1_3 i) (x0 : Vec Ideal S4096x256 .bf16) (x1 : Vec Ideal S4096x256 .f32) (x2 : Vec Ideal S1x256x256 .bf16) (x3 : Vec Ideal S1x256 .f32) (x4 : Vec Ideal S8x128 .f32) (t : Fin 4096) (e : Fin 256) :
    out1_C_5 c i a1 w1 a2 w2 a3 w3 a4 w4 a5 w5 a6 w6 a7 w7 a8 w8 a9 w9 a10 w10 a11 w11 hc0 hc1 hc2 hc3 x0 x1 x2 x3 x4 (ix2 t e) = chanGrad 4 (devGrad (fun t e => x1 (ix2 t e)) (fun a b => x2 (ix3 0 a b)) (fun b => x3 (ix2 0 b))) t e := by
  unfold out1_C_5
  refine read_of_agree VO1_5 VO1_5.junk (G := fun q => chanGrad 4 (devGrad (fun t e => x1 (ix2 t e)) (fun a b => x2 (ix3 0 a b)) (fun b => x3 (ix2 0 b))) (q 0) (q 1)) ?_
    (cover1_C_5 c i a1 w1 a2 w2 a3 w3 a4 w4 a5 w5 a6 w6 a7 w7 a8 w8 a9 w9 a10 w10 a11 w11 hc0 hc1 hc2 hc3 x0 x1 x2 x3 x4 (ix2 t e))
  unfold kernelRun1_C
  dsimp only
  refine bwd_agrees_4 Variants.none c none i a1 w1 a2 w2 a3 w3 a4 w4 a5 w5 a6 w6 a7 w7 a8 w8 a9 w9 a10 w10 a11 w11 hc2 _ _ (devGrad (fun t e => x1 (ix2 t e)) (fun a b => x2 (ix3 0 a b)) (fun b => x3 (ix2 0 b))) (fun t e => ?_) (fun t e => ?_)
  · refine read_of_agree a9.view _ (G := fun q => padded (fun t c => (devGrad (fun t e => x1 (ix2 t e)) (fun a b => x2 (ix3 0 a b)) (fun b => x3 (ix2 0 b))) t c * invCount 4 t.val) (q 0).val (q 1))
      (Agree.append (state_out_4 c i a1 w1 a2 w2 a3 w3 a4 w4 a5 w5 a6 w6 a7 w7 a8 w8 a9 w9 a10 w10 a11 w11 hc2 x0 x1 x2 x3 _ _).1 (pads_agree _ _ _ k1_pay3_apply k1_pay2_apply)) ?_
    have h := fun L hL => LoadRect.cover_of_covChk (Val := Elt Ideal) (e := .f32) L (LoadRect.whole S4128x256) padCov hL (ix2 t e)
    simp only [LoadRect.idx_whole] at h
    exact h _ (by sl_kernel_rfl)
  · exact read_of_agree a10.view _ (G := fun q => (devGrad (fun t e => x1 (ix2 t e)) (fun a b => x2 (ix3 0 a b)) (fun b => x3 (ix2 0 b))) (q 0) (q 1))
      (state_out_4 c i a1 w1 a2 w2 a3 w3 a4 w4 a5 w5 a6 w6 a7 w7 a8 w8 a9 w9 a10 w10 a11 w11 hc2 x0 x1 x2 x3 _ _).2.1 (bwd_dev_covers_4 Variants.none c none i a1 w1 a2 w2 a3 w3 a4 w4 a5 w5 a6 w6 a7 w7 a8 w8 a9 w9 a10 w10 a11 w11 _ _ hc2 _ _ _ _ _ _ _ _)

/-- Half-width 4: the matrix's gradient. -/
theorem out1_C_6_apply
    (hc0 : ¬cond1_0 i) (hc1 : ¬cond1_1 i) (hc2 : cond1_2 i) (hc3 : ¬cond1_3 i) (x0 : Vec Ideal S4096x256 .bf16) (x1 : Vec Ideal S4096x256 .f32) (x2 : Vec Ideal S1x256x256 .bf16) (x3 : Vec Ideal S1x256 .f32) (x4 : Vec Ideal S8x128 .f32) (g : Fin 8) (r : Fin 32) (e : Fin 256) :
    out1_C_6 c i a1 w1 a2 w2 a3 w3 a4 w4 a5 w5 a6 w6 a7 w7 a8 w8 a9 w9 a10 w10 a11 w11 hc0 hc1 hc2 hc3 x0 x1 x2 x3 x4 (ix4 g 0 r e)
      = ∑ t, matTerm (fun t e => x0 (ix2 t e)) (fun t e => x1 (ix2 t e)) (fun b => x3 (ix2 0 b)) ⟨g.val * 32 + r.val, by omega⟩ e t := by
  unfold out1_C_6 kernelRun1_C
  dsimp only
  refine (whole_store cc1_m6 _ _ (off := ![0, 0, 0, 0]) (by decide) _ (ix4 g 0 r e)).trans ?_
  refine (k1_pay18_apply _ g r e).trans ?_
  refine (load_writes a11 _ (off := ![0, 0]) (by decide) _ _).trans ?_
  rw [View.writes_append]
  exact (state_out_4 c i a1 w1 a2 w2 a3 w3 a4 w4 a5 w5 a6 w6 a7 w7 a8 w8 a9 w9 a10 w10 a11 w11 hc2 x0 x1 x2 x3 _ _).2.2.2 _ e

/-- Half-width 4: the scales' gradient. -/
theorem out1_C_7_apply
    (hc0 : ¬cond1_0 i) (hc1 : ¬cond1_1 i) (hc2 : cond1_2 i) (hc3 : ¬cond1_3 i) (x0 : Vec Ideal S4096x256 .bf16) (x1 : Vec Ideal S4096x256 .f32) (x2 : Vec Ideal S1x256x256 .bf16) (x3 : Vec Ideal S1x256 .f32) (x4 : Vec Ideal S8x128 .f32) (e : Fin 256) :
    out1_C_7 c i a1 w1 a2 w2 a3 w3 a4 w4 a5 w5 a6 w6 a7 w7 a8 w8 a9 w9 a10 w10 a11 w11 hc0 hc1 hc2 hc3 x0 x1 x2 x3 x4 (ix2 0 e) = ∑ t, scaleTerm (fun t e => x0 (ix2 t e)) (fun t e => x1 (ix2 t e)) (fun a b => x2 (ix3 0 a b)) e t := by
  unfold out1_C_7 kernelRun1_C
  dsimp only
  refine (whole_store cc1_m7 _ _ (off := ![0, 0]) (by decide) _ (ix2 0 e)).trans ?_
  exact (state_out_4 c i a1 w1 a2 w2 a3 w3 a4 w4 a5 w5 a6 w6 a7 w7 a8 w8 a9 w9 a10 w10 a11 w11 hc2 x0 x1 x2 x3 _ _).2.2.1 e

theorem k1_pay20_apply (a b : Fin 256) : k1_pay20 (F := Ideal) (ix2 a b) = 0 := by
  pointwise [k1_pay20]
theorem k1_pay21_apply (b : Fin 256) : k1_pay21 (F := Ideal) (ix2 0 b) = 0 := by
  pointwise [k1_pay21]
theorem k1_pay23_apply (v : Vec Ideal S256x256 .f32) (g : Fin 8) (r : Fin 32) (e : Fin 256) :
    k1_pay23 (F := Ideal) v (ix4 g 0 r e) = v (ix2 ⟨g.val * 32 + r.val, by omega⟩ e) := by
  pointwise [k1_pay23]

/-- Half-width 8: the buffers and the sums after the first loop. -/
theorem state_out_8
    (hc3 : cond1_3 i) (x0 : Vec Ideal S4096x256 .bf16) (x1 : Vec Ideal S4096x256 .f32) (x2 : Vec Ideal S1x256x256 .bf16) (x3 : Vec Ideal S1x256 .f32) (G9 : BufTy.Contents (Elt Ideal) a9.view.ty) (G10 : BufTy.Contents (Elt Ideal) a10.view.ty) :
    Agree (fun q => padded (fun t c => devGrad (fun t e => x1 (ix2 t e)) (fun a b => x2 (ix3 0 a b)) (fun b => x3 (ix2 0 b)) t c * invCount 8 t.val) (q 0).val (q 1))
        (st_k1_t7 (F := Ideal) Variants.none c none i a1 w1 a2 w2 a3 w3 a4 w4 a5 w5 a6 w6 a7 w7 a8 w8 a9 w9 a10 w10 a11 w11
          (a3.view.readAt (Elt Ideal) (Rect.unit ![0, 0, 0] S1x256x256.size inb_S1x256x256_S1x256x256_0_0_0).toLoadRect (w3.unread x2))
          (a4.view.readAt (Elt Ideal) (Rect.unit ![0, 0] S1x256.size inb_S1x256_S1x256_0_0).toLoadRect (w4.unread x3)) hc3 (w1.unread x0) (w2.unread x1) G9 G10
          (a11.view.writes (Elt Ideal) a11.view.junk [⟨Rect.unit ![0, 0] S256x256.size inb_S256x256_S256x256_0_0, k1_pay20 (F := Ideal)⟩]) k1_pay21 k1_t7_loop.trips).2.1
      ∧ Agree (fun q => devGrad (fun t e => x1 (ix2 t e)) (fun a b => x2 (ix3 0 a b)) (fun b => x3 (ix2 0 b)) (q 0) (q 1))
        (st_k1_t7 (F := Ideal) Variants.none c none i a1 w1 a2 w2 a3 w3 a4 w4 a5 w5 a6 w6 a7 w7 a8 w8 a9 w9 a10 w10 a11 w11
          (a3.view.readAt (Elt Ideal) (Rect.unit ![0, 0, 0] S1x256x256.size inb_S1x256x256_S1x256x256_0_0_0).toLoadRect (w3.unread x2))
          (a4.view.readAt (Elt Ideal) (Rect.unit ![0, 0] S1x256.size inb_S1x256_S1x256_0_0).toLoadRect (w4.unread x3)) hc3 (w1.unread x0) (w2.unread x1) G9 G10
          (a11.view.writes (Elt Ideal) a11.view.junk [⟨Rect.unit ![0, 0] S256x256.size inb_S256x256_S256x256_0_0, k1_pay20 (F := Ideal)⟩]) k1_pay21 k1_t7_loop.trips).2.2.1
      ∧ (∀ b, (st_k1_t7 (F := Ideal) Variants.none c none i a1 w1 a2 w2 a3 w3 a4 w4 a5 w5 a6 w6 a7 w7 a8 w8 a9 w9 a10 w10 a11 w11
          (a3.view.readAt (Elt Ideal) (Rect.unit ![0, 0, 0] S1x256x256.size inb_S1x256x256_S1x256x256_0_0_0).toLoadRect (w3.unread x2))
          (a4.view.readAt (Elt Ideal) (Rect.unit ![0, 0] S1x256.size inb_S1x256_S1x256_0_0).toLoadRect (w4.unread x3)) hc3 (w1.unread x0) (w2.unread x1) G9 G10
          (a11.view.writes (Elt Ideal) a11.view.junk [⟨Rect.unit ![0, 0] S256x256.size inb_S256x256_S256x256_0_0, k1_pay20 (F := Ideal)⟩]) k1_pay21 k1_t7_loop.trips).1 (ix2 0 b)
          = ∑ t, scaleTerm (fun t e => x0 (ix2 t e)) (fun t e => x1 (ix2 t e)) (fun a b => x2 (ix3 0 a b)) b t)
      ∧ (∀ a b, a11.view.read (Elt Ideal) (a11.view.writes (Elt Ideal) (a11.view.writes (Elt Ideal) a11.view.junk [⟨Rect.unit ![0, 0] S256x256.size inb_S256x256_S256x256_0_0, k1_pay20 (F := Ideal)⟩])
          (st_k1_t7 (F := Ideal) Variants.none c none i a1 w1 a2 w2 a3 w3 a4 w4 a5 w5 a6 w6 a7 w7 a8 w8 a9 w9 a10 w10 a11 w11
          (a3.view.readAt (Elt Ideal) (Rect.unit ![0, 0, 0] S1x256x256.size inb_S1x256x256_S1x256x256_0_0_0).toLoadRect (w3.unread x2))
          (a4.view.readAt (Elt Ideal) (Rect.unit ![0, 0] S1x256.size inb_S1x256_S1x256_0_0).toLoadRect (w4.unread x3)) hc3 (w1.unread x0) (w2.unread x1) G9 G10
          (a11.view.writes (Elt Ideal) a11.view.junk [⟨Rect.unit ![0, 0] S256x256.size inb_S256x256_S256x256_0_0, k1_pay20 (F := Ideal)⟩]) k1_pay21 k1_t7_loop.trips).2.2.2) (ix2 a b)
          = ∑ t, matTerm (fun t e => x0 (ix2 t e)) (fun t e => x1 (ix2 t e)) (fun b => x3 (ix2 0 b)) a b t) := by
  have hT : 1024 * k1_t7_loop.trips = 4096 := by decide +kernel
  have H := bwd_state_8 Variants.none c none i a1 w1 a2 w2 a3 w3 a4 w4 a5 w5 a6 w6 a7 w7 a8 w8 a9 w9 a10 w10 a11 w11
    (a3.view.readAt (Elt Ideal) (Rect.unit ![0, 0, 0] S1x256x256.size inb_S1x256x256_S1x256x256_0_0_0).toLoadRect (w3.unread x2))
    (a4.view.readAt (Elt Ideal) (Rect.unit ![0, 0] S1x256.size inb_S1x256_S1x256_0_0).toLoadRect (w4.unread x3)) hc3 (w1.unread x0) (w2.unread x1)
    (fun t e => x0 (ix2 t e)) (fun t e => x1 (ix2 t e)) (fun t e => congrFun (w1.read_unread x0) _) (fun t e => congrFun (w2.read_unread x1) _)
    G9 G10 (a11.view.writes (Elt Ideal) a11.view.junk [⟨Rect.unit ![0, 0] S256x256.size inb_S256x256_S256x256_0_0, k1_pay20 (F := Ideal)⟩]) k1_pay21 k1_pay21_apply
    (fun a b => (whole_store a11 a11.view.junk (k1_pay20 (F := Ideal)) (off := ![0, 0]) (by decide) inb_S256x256_S256x256_0_0 (ix2 a b)).trans (k1_pay20_apply a b))
    k1_t7_loop.trips le_rfl
  rw [hT] at H
  simp only [load_whole _ w3 x2 (off := ![0, 0, 0]) (by decide), load_whole _ w4 x3 (off := ![0, 0]) (by decide), upTo_all] at H
  exact H

/-- Half-width 8: the channels' gradient. -/
theorem out1_D_5_apply
    (hc0 : ¬cond1_0 i) (hc1 : ¬cond1_1 i) (hc2 : ¬cond1_2 i) (hc3 : cond1_3 i) (x0 : Vec Ideal S4096x256 .bf16) (x1 : Vec Ideal S4096x256 .f32) (x2 : Vec Ideal S1x256x256 .bf16) (x3 : Vec Ideal S1x256 .f32) (x4 : Vec Ideal S8x128 .f32) (t : Fin 4096) (e : Fin 256) :
    out1_D_5 c i a1 w1 a2 w2 a3 w3 a4 w4 a5 w5 a6 w6 a7 w7 a8 w8 a9 w9 a10 w10 a11 w11 hc0 hc1 hc2 hc3 x0 x1 x2 x3 x4 (ix2 t e) = chanGrad 8 (devGrad (fun t e => x1 (ix2 t e)) (fun a b => x2 (ix3 0 a b)) (fun b => x3 (ix2 0 b))) t e := by
  unfold out1_D_5
  refine read_of_agree VO1_5 VO1_5.junk (G := fun q => chanGrad 8 (devGrad (fun t e => x1 (ix2 t e)) (fun a b => x2 (ix3 0 a b)) (fun b => x3 (ix2 0 b))) (q 0) (q 1)) ?_
    (cover1_D_5 c i a1 w1 a2 w2 a3 w3 a4 w4 a5 w5 a6 w6 a7 w7 a8 w8 a9 w9 a10 w10 a11 w11 hc0 hc1 hc2 hc3 x0 x1 x2 x3 x4 (ix2 t e))
  unfold kernelRun1_D
  dsimp only
  refine bwd_agrees_8 Variants.none c none i a1 w1 a2 w2 a3 w3 a4 w4 a5 w5 a6 w6 a7 w7 a8 w8 a9 w9 a10 w10 a11 w11 hc3 _ _ (devGrad (fun t e => x1 (ix2 t e)) (fun a b => x2 (ix3 0 a b)) (fun b => x3 (ix2 0 b))) (fun t e => ?_) (fun t e => ?_)
  · refine read_of_agree a9.view _ (G := fun q => padded (fun t c => (devGrad (fun t e => x1 (ix2 t e)) (fun a b => x2 (ix3 0 a b)) (fun b => x3 (ix2 0 b))) t c * invCount 8 t.val) (q 0).val (q 1))
      (Agree.append (state_out_8 c i a1 w1 a2 w2 a3 w3 a4 w4 a5 w5 a6 w6 a7 w7 a8 w8 a9 w9 a10 w10 a11 w11 hc3 x0 x1 x2 x3 _ _).1 (pads_agree _ _ _ k1_pay3_apply k1_pay2_apply)) ?_
    have h := fun L hL => LoadRect.cover_of_covChk (Val := Elt Ideal) (e := .f32) L (LoadRect.whole S4128x256) padCov hL (ix2 t e)
    simp only [LoadRect.idx_whole] at h
    exact h _ (by sl_kernel_rfl)
  · exact read_of_agree a10.view _ (G := fun q => (devGrad (fun t e => x1 (ix2 t e)) (fun a b => x2 (ix3 0 a b)) (fun b => x3 (ix2 0 b))) (q 0) (q 1))
      (state_out_8 c i a1 w1 a2 w2 a3 w3 a4 w4 a5 w5 a6 w6 a7 w7 a8 w8 a9 w9 a10 w10 a11 w11 hc3 x0 x1 x2 x3 _ _).2.1 (bwd_dev_covers_8 Variants.none c none i a1 w1 a2 w2 a3 w3 a4 w4 a5 w5 a6 w6 a7 w7 a8 w8 a9 w9 a10 w10 a11 w11 _ _ hc3 _ _ _ _ _ _ _ _)

/-- Half-width 8: the matrix's gradient. -/
theorem out1_D_6_apply
    (hc0 : ¬cond1_0 i) (hc1 : ¬cond1_1 i) (hc2 : ¬cond1_2 i) (hc3 : cond1_3 i) (x0 : Vec Ideal S4096x256 .bf16) (x1 : Vec Ideal S4096x256 .f32) (x2 : Vec Ideal S1x256x256 .bf16) (x3 : Vec Ideal S1x256 .f32) (x4 : Vec Ideal S8x128 .f32) (g : Fin 8) (r : Fin 32) (e : Fin 256) :
    out1_D_6 c i a1 w1 a2 w2 a3 w3 a4 w4 a5 w5 a6 w6 a7 w7 a8 w8 a9 w9 a10 w10 a11 w11 hc0 hc1 hc2 hc3 x0 x1 x2 x3 x4 (ix4 g 0 r e)
      = ∑ t, matTerm (fun t e => x0 (ix2 t e)) (fun t e => x1 (ix2 t e)) (fun b => x3 (ix2 0 b)) ⟨g.val * 32 + r.val, by omega⟩ e t := by
  unfold out1_D_6 kernelRun1_D
  dsimp only
  refine (whole_store cc1_m6 _ _ (off := ![0, 0, 0, 0]) (by decide) _ (ix4 g 0 r e)).trans ?_
  refine (k1_pay23_apply _ g r e).trans ?_
  refine (load_writes a11 _ (off := ![0, 0]) (by decide) _ _).trans ?_
  rw [View.writes_append]
  exact (state_out_8 c i a1 w1 a2 w2 a3 w3 a4 w4 a5 w5 a6 w6 a7 w7 a8 w8 a9 w9 a10 w10 a11 w11 hc3 x0 x1 x2 x3 _ _).2.2.2 _ e

/-- Half-width 8: the scales' gradient. -/
theorem out1_D_7_apply
    (hc0 : ¬cond1_0 i) (hc1 : ¬cond1_1 i) (hc2 : ¬cond1_2 i) (hc3 : cond1_3 i) (x0 : Vec Ideal S4096x256 .bf16) (x1 : Vec Ideal S4096x256 .f32) (x2 : Vec Ideal S1x256x256 .bf16) (x3 : Vec Ideal S1x256 .f32) (x4 : Vec Ideal S8x128 .f32) (e : Fin 256) :
    out1_D_7 c i a1 w1 a2 w2 a3 w3 a4 w4 a5 w5 a6 w6 a7 w7 a8 w8 a9 w9 a10 w10 a11 w11 hc0 hc1 hc2 hc3 x0 x1 x2 x3 x4 (ix2 0 e) = ∑ t, scaleTerm (fun t e => x0 (ix2 t e)) (fun t e => x1 (ix2 t e)) (fun a b => x2 (ix3 0 a b)) e t := by
  unfold out1_D_7 kernelRun1_D
  dsimp only
  refine (whole_store cc1_m7 _ _ (off := ![0, 0]) (by decide) _ (ix2 0 e)).trans ?_
  exact (state_out_8 c i a1 w1 a2 w2 a3 w3 a4 w4 a5 w5 a6 w6 a7 w7 a8 w8 a9 w9 a10 w10 a11 w11 hc3 x0 x1 x2 x3 _ _).2.2.1 e

end Cert.KernelIdeal.Val
-- ==== Proof.Array0.lean ====
module
public import proofs.«01_k».proof.Proof.Block0
public import Idealize.ShloMosaic.Lib.Pipeline.ValueKit.Geometry
/-!
# What the forward kernel's arrays hold

Each grid point writes its own columns of the two outputs, so the arrays hold, column by column, what
the points leave.
-/
@[expose] public section
set_option maxRecDepth 16384
noncomputable section
namespace Cert.KernelIdeal.Val
open Idealize.ShloMosaic Idealize.ShloMosaic.TcCoe Idealize.ShloMosaic.Pipeline Cert.KernelIdeal Cert.KernelIdeal.Gen Cert.KernelIdeal.Run Cert.PoolSpec
open Idealize.SL Idealize.SL.Sem

/-- The grid point of group `g`. -/
def pt0 (g : Fin 4) : Fin cfg0.N := ⟨g.val, g.isLt.trans_eq N_0.symm⟩

/-- Column `e` of group `g`. -/
def col (g : Fin 4) (e : Fin 256) : Fin 1024 := ⟨256 * g.val + e.val, by omega⟩

theorem index0_0 : ∀ t : Fin cfg0.N, win0_0.index t 0 = 0 ∧ win0_0.index t 1 = 0 ∧ win0_0.index t 2 = t.val := by decide +kernel
theorem index0_1 : ∀ t : Fin cfg0.N, win0_1.index t 0 = t.val ∧ win0_1.index t 1 = 0 ∧ win0_1.index t 2 = 0 := by decide +kernel
theorem index0_2 : ∀ t : Fin cfg0.N, win0_2.index t 0 = 0 ∧ win0_2.index t 1 = t.val := by decide +kernel
theorem index0_3 : ∀ t : Fin cfg0.N, win0_3.index t 0 = 0 ∧ win0_3.index t 1 = t.val := by decide +kernel
theorem index0_4 : ∀ t : Fin cfg0.N, win0_4.index t 0 = 0 ∧ win0_4.index t 1 = t.val := by decide +kernel

variable (V : (c : Dev nD) → (b : Ref sig .tc) → Buf (Elt Ideal) ((c : Thread nD τ).loc b)) (c : Dev nD)

theorem iblk0_0_apply (g : Fin 4) (t : Fin 4096) (d : Fin 256) :
    (iblk0 V c 0 (pt0 g) : Vec Ideal S1x4096x256 .f32) (ix3 0 t d) = (V c main_arg0 : Vec Ideal S3x4096x1024 .f32) (ix3 0 t (col g d)) := by
  refine congrArg (V c main_arg0 : Vec Ideal S3x4096x1024 .f32) ?_
  funext a
  apply Fin.ext
  obtain ⟨h0, h1, h2⟩ := index0_0 (pt0 g)
  refine (Window.rect_emb_val win0_0 (pt0 g) (ix3 0 t d) a).trans ?_
  fin_cases a
  · show win0_0.index (pt0 g) 0 * 1 + 0 = 0
    rw [h0]
  · show win0_0.index (pt0 g) 1 * 4096 + t.val = t.val
    rw [h1]; omega
  · show win0_0.index (pt0 g) 2 * 256 + d.val = 256 * g.val + d.val
    rw [h2]; show g.val * 256 + d.val = _; omega

theorem iblk0_1_apply (g : Fin 4) (a b : Fin 256) :
    (iblk0 V c 1 (pt0 g) : Vec Ideal S1x256x256 .bf16) (ix3 0 a b) = (V c main_v1 : Vec Ideal S4x256x256 .bf16) (ix3 g a b) := by
  refine congrArg (V c main_v1 : Vec Ideal S4x256x256 .bf16) ?_
  funext i
  apply Fin.ext
  obtain ⟨h0, h1, h2⟩ := index0_1 (pt0 g)
  refine (Window.rect_emb_val win0_1 (pt0 g) (ix3 0 a b) i).trans ?_
  fin_cases i
  · show win0_1.index (pt0 g) 0 * 1 + 0 = g.val
    rw [h0]; show g.val * 1 + 0 = _; omega
  · show win0_1.index (pt0 g) 1 * 256 + a.val = a.val
    rw [h1]; omega
  · show win0_1.index (pt0 g) 2 * 256 + b.val = b.val
    rw [h2]; omega

theorem iblk0_2_apply (g : Fin 4) (b : Fin 256) :
    (iblk0 V c 2 (pt0 g) : Vec Ideal S1x256 .f32) (ix2 0 b) = (V c main_arg2 : Vec Ideal S1x1024 .f32) (ix2 0 (col g b)) := by
  refine congrArg (V c main_arg2 : Vec Ideal S1x1024 .f32) ?_
  funext i
  apply Fin.ext
  obtain ⟨h0, h1⟩ := index0_2 (pt0 g)
  refine (Window.rect_emb_val win0_2 (pt0 g) (ix2 0 b) i).trans ?_
  fin_cases i
  · show win0_2.index (pt0 g) 0 * 1 + 0 = 0
    rw [h0]
  · show win0_2.index (pt0 g) 1 * 256 + b.val = 256 * g.val + b.val
    rw [h1]; show g.val * 256 + b.val = _; omega

/-- What the points leave in the first output. -/
theorem outs0_3 : ∀ (g : Fin 4) (t : Fin 4096) (e : Fin 256),
    ((outsAt0 V c (pt0 g).val (pt0 g).isLt).1 : Vec Ideal S4096x256 .bf16) (ix2 t e)
      = dev (2 ^ g.val) (fun t d => (iblk0 V c 0 (pt0 g) : Vec Ideal S1x4096x256 .f32) (ix3 0 t d)) t e
  | 0, t, e => (congrFun (congrArg Prod.fst (outsAt0_A V c (pt0 0) (by decide) (by decide) (by decide) (by decide))) (ix2 t e)).trans
      (out0_A_3_apply ..)
  | 1, t, e => (congrFun (congrArg Prod.fst (outsAt0_B V c (pt0 1) (by decide) (by decide) (by decide) (by decide))) (ix2 t e)).trans
      (out0_B_3_apply ..)
  | 2, t, e => (congrFun (congrArg Prod.fst (outsAt0_C V c (pt0 2) (by decide) (by decide) (by decide) (by decide))) (ix2 t e)).trans
      (out0_C_3_apply ..)
  | 3, t, e => (congrFun (congrArg Prod.fst (outsAt0_D V c (pt0 3) (by decide) (by decide) (by decide) (by decide))) (ix2 t e)).trans
      (out0_D_3_apply ..)

/-- What the points leave in the second output. -/
theorem outs0_4 : ∀ (g : Fin 4) (t : Fin 4096) (e : Fin 256),
    ((outsAt0 V c (pt0 g).val (pt0 g).isLt).2 : Vec Ideal S4096x256 .bf16) (ix2 t e)
      = outRow (dev (2 ^ g.val) (fun t d => (iblk0 V c 0 (pt0 g) : Vec Ideal S1x4096x256 .f32) (ix3 0 t d)))
          (fun a b => (iblk0 V c 1 (pt0 g) : Vec Ideal S1x256x256 .bf16) (ix3 0 a b)) (fun b => (iblk0 V c 2 (pt0 g) : Vec Ideal S1x256 .f32) (ix2 0 b)) t e
  | 0, t, e => (congrFun (congrArg Prod.snd (outsAt0_A V c (pt0 0) (by decide) (by decide) (by decide) (by decide))) (ix2 t e)).trans
      (out0_A_4_apply ..)
  | 1, t, e => (congrFun (congrArg Prod.snd (outsAt0_B V c (pt0 1) (by decide) (by decide) (by decide) (by decide))) (ix2 t e)).trans
      (out0_B_4_apply ..)
  | 2, t, e => (congrFun (congrArg Prod.snd (outsAt0_C V c (pt0 2) (by decide) (by decide) (by decide) (by decide))) (ix2 t e)).trans
      (out0_C_4_apply ..)
  | 3, t, e => (congrFun (congrArg Prod.snd (outsAt0_D V c (pt0 3) (by decide) (by decide) (by decide) (by decide))) (ix2 t e)).trans
      (out0_D_4_apply ..)

/-- The first output's array. -/
theorem array0_3 (g : Fin 4) (t : Fin 4096) (e : Fin 256) :
    ((dat0 V c).arrAt 3 cfg0.N : Vec Ideal S4096x1024 .bf16) (ix2 t (col g e))
      = dev (2 ^ g.val) (fun t d => (V c main_arg0 : Vec Ideal S3x4096x1024 .f32) (ix3 0 t (col g d))) t e := by
  have hi : (((cfg0.win 3).blk (pt0 g)).view.emb (ix2 t e) : S4096x1024.Idx) = ix2 t (col g e) := by
    funext i
    apply Fin.ext
    obtain ⟨h0, h1⟩ := index0_3 (pt0 g)
    refine (Window.rect_emb_val win0_3 (pt0 g) (ix2 t e) i).trans ?_
    fin_cases i
    · show win0_3.index (pt0 g) 0 * 4096 + t.val = t.val
      rw [h0]; omega
    · show win0_3.index (pt0 g) 1 * 256 + e.val = 256 * g.val + e.val
      rw [h1]; show g.val * 256 + e.val = _; omega
  rw [← hi]
  refine ((dat0 V c).arrAt_emb_eq_flushed 3 (Window.hdisj_of_index_inj _ (by decide +kernel)) (pt0 g) (flush0_3 _) (ix2 t e)).trans ?_
  refine (congrFun (after0_3 V c (pt0 g)) (ix2 t e)).trans ((outs0_3 V c g t e).trans ?_)
  simp only [iblk0_0_apply]

/-- The second output's array. -/
theorem array0_4 (g : Fin 4) (t : Fin 4096) (e : Fin 256) :
    ((dat0 V c).arrAt 4 cfg0.N : Vec Ideal S4096x2048 .bf16) (ix2 t ⟨(col g e).val, by omega⟩)
      = outRow (dev (2 ^ g.val) (fun t d => (V c main_arg0 : Vec Ideal S3x4096x1024 .f32) (ix3 0 t (col g d))))
          (fun a b => (V c main_v1 : Vec Ideal S4x256x256 .bf16) (ix3 g a b)) (fun b => (V c main_arg2 : Vec Ideal S1x1024 .f32) (ix2 0 (col g b))) t e := by
  have hi : (((cfg0.win 4).blk (pt0 g)).view.emb (ix2 t e) : S4096x2048.Idx) = ix2 t ⟨(col g e).val, by omega⟩ := by
    funext i
    apply Fin.ext
    obtain ⟨h0, h1⟩ := index0_4 (pt0 g)
    refine (Window.rect_emb_val win0_4 (pt0 g) (ix2 t e) i).trans ?_
    fin_cases i
    · show win0_4.index (pt0 g) 0 * 4096 + t.val = t.val
      rw [h0]; omega
    · show win0_4.index (pt0 g) 1 * 256 + e.val = 256 * g.val + e.val
      rw [h1]; show g.val * 256 + e.val = _; omega
  rw [← hi]
  refine ((dat0 V c).arrAt_emb_eq_flushed 4 (Window.hdisj_of_index_inj _ (by decide +kernel)) (pt0 g) (flush0_4 _) (ix2 t e)).trans ?_
  refine (congrFun (after0_4 V c (pt0 g)) (ix2 t e)).trans ((outs0_4 V c g t e).trans ?_)
  simp only [iblk0_0_apply, iblk0_1_apply, iblk0_2_apply]

end Cert.KernelIdeal.Val
-- ==== Proof.Region1.lean ====
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Scratch
public import proofs.«01_k».proof.Proof.Run1A
public import proofs.«01_k».proof.Proof.Run1B
public import proofs.«01_k».proof.Proof.Run1C
public import proofs.«01_k».proof.Proof.Run1D
/-!
# The backward kernel at each grid point

The four cases put together: what each grid point leaves in the three outputs, and the body's obligation there.
-/
@[expose] public section

set_option maxRecDepth 16384

noncomputable section

namespace Cert.KernelIdeal.Run

open Cert.KernelIdeal.Gen Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))
/-- What the outputs hold after a point of case A. -/
abbrev case1_A (c : Dev nD) (t : Fin cfg1.N) (h0 : t.val % 4 = 0) (h1 : ¬t.val % 4 = 1) (h2 : ¬t.val % 4 = 2) (h3 : ¬t.val % 4 = 3) : Vec F S4096x256 .bf16 × Vec F S8x1x32x256 .bf16 × Vec F S1x256 .f32 :=
  (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (fun h => h1 ((hcond1_1 t).mp h)) (fun h => h2 ((hcond1_2 t).mp h)) (fun h => h3 ((hcond1_3 t).mp h)) (iblk1 V c 0 t) (iblk1 V c 1 t) (iblk1 V c 2 t) (iblk1 V c 3 t) (iblk1 V c 4 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (fun h => h1 ((hcond1_1 t).mp h)) (fun h => h2 ((hcond1_2 t).mp h)) (fun h => h3 ((hcond1_3 t).mp h)) (iblk1 V c 0 t) (iblk1 V c 1 t) (iblk1 V c 2 t) (iblk1 V c 3 t) (iblk1 V c 4 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (fun h => h1 ((hcond1_1 t).mp h)) (fun h => h2 ((hcond1_2 t).mp h)) (fun h => h3 ((hcond1_3 t).mp h)) (iblk1 V c 0 t) (iblk1 V c 1 t) (iblk1 V c 2 t) (iblk1 V c 3 t) (iblk1 V c 4 t))
/-- What the outputs hold after a point of case B. -/
abbrev case1_B (c : Dev nD) (t : Fin cfg1.N) (h0 : ¬t.val % 4 = 0) (h1 : t.val % 4 = 1) (h2 : ¬t.val % 4 = 2) (h3 : ¬t.val % 4 = 3) : Vec F S4096x256 .bf16 × Vec F S8x1x32x256 .bf16 × Vec F S1x256 .f32 :=
  (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (fun h => h3 ((hcond1_3 t).mp h)) (iblk1 V c 0 t) (iblk1 V c 1 t) (iblk1 V c 2 t) (iblk1 V c 3 t) (iblk1 V c 4 t), out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (fun h => h3 ((hcond1_3 t).mp h)) (iblk1 V c 0 t) (iblk1 V c 1 t) (iblk1 V c 2 t) (iblk1 V c 3 t) (iblk1 V c 4 t), out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (fun h => h3 ((hcond1_3 t).mp h)) (iblk1 V c 0 t) (iblk1 V c 1 t) (iblk1 V c 2 t) (iblk1 V c 3 t) (iblk1 V c 4 t))
/-- What the outputs hold after a point of case C. -/
abbrev case1_C (c : Dev nD) (t : Fin cfg1.N) (h0 : ¬t.val % 4 = 0) (h1 : ¬t.val % 4 = 1) (h2 : t.val % 4 = 2) (h3 : ¬t.val % 4 = 3) : Vec F S4096x256 .bf16 × Vec F S8x1x32x256 .bf16 × Vec F S1x256 .f32 :=
  (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (fun h => h3 ((hcond1_3 t).mp h)) (iblk1 V c 0 t) (iblk1 V c 1 t) (iblk1 V c 2 t) (iblk1 V c 3 t) (iblk1 V c 4 t), out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (fun h => h3 ((hcond1_3 t).mp h)) (iblk1 V c 0 t) (iblk1 V c 1 t) (iblk1 V c 2 t) (iblk1 V c 3 t) (iblk1 V c 4 t), out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (fun h => h3 ((hcond1_3 t).mp h)) (iblk1 V c 0 t) (iblk1 V c 1 t) (iblk1 V c 2 t) (iblk1 V c 3 t) (iblk1 V c 4 t))
/-- What the outputs hold after a point of case D. -/
abbrev case1_D (c : Dev nD) (t : Fin cfg1.N) (h0 : ¬t.val % 4 = 0) (h1 : ¬t.val % 4 = 1) (h2 : ¬t.val % 4 = 2) (h3 : t.val % 4 = 3) : Vec F S4096x256 .bf16 × Vec F S8x1x32x256 .bf16 × Vec F S1x256 .f32 :=
  (out1_D_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (fun h => h1 ((hcond1_1 t).mp h)) (fun h => h2 ((hcond1_2 t).mp h)) ((hcond1_3 t).mpr h3) (iblk1 V c 0 t) (iblk1 V c 1 t) (iblk1 V c 2 t) (iblk1 V c 3 t) (iblk1 V c 4 t), out1_D_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (fun h => h1 ((hcond1_1 t).mp h)) (fun h => h2 ((hcond1_2 t).mp h)) ((hcond1_3 t).mpr h3) (iblk1 V c 0 t) (iblk1 V c 1 t) (iblk1 V c 2 t) (iblk1 V c 3 t) (iblk1 V c 4 t), out1_D_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (fun h => h1 ((hcond1_1 t).mp h)) (fun h => h2 ((hcond1_2 t).mp h)) ((hcond1_3 t).mpr h3) (iblk1 V c 0 t) (iblk1 V c 1 t) (iblk1 V c 2 t) (iblk1 V c 3 t) (iblk1 V c 4 t))
/-- What the outputs' buffers hold after the body at position `n`. -/
def outsAt1 (c : Dev nD) : (n : ℕ) → n < cfg1.N → Vec F S4096x256 .bf16 × Vec F S8x1x32x256 .bf16 × Vec F S1x256 .f32
  | 0, hn => case1_A V c ⟨0, hn⟩ (Nat.zero_mod _) (fun h => by (try dsimp only at h); omega) (fun h => by (try dsimp only at h); omega) (fun h => by (try dsimp only at h); omega)
  | n + 1, hn =>
    if h0 : (n + 1) % 4 = 0 then
      if h1 : (n + 1) % 4 = 1 then
        False.elim (by have hN : n + 1 < 4 := lt_of_lt_of_eq hn (show cfg1.N = 4 from N_1); omega)
      else
        if h2 : (n + 1) % 4 = 2 then
          False.elim (by have hN : n + 1 < 4 := lt_of_lt_of_eq hn (show cfg1.N = 4 from N_1); omega)
        else
          if h3 : (n + 1) % 4 = 3 then
            False.elim (by have hN : n + 1 < 4 := lt_of_lt_of_eq hn (show cfg1.N = 4 from N_1); omega)
          else
            case1_A V c ⟨n + 1, hn⟩ h0 h1 h2 h3
    else
      if h1 : (n + 1) % 4 = 1 then
        if h2 : (n + 1) % 4 = 2 then
          False.elim (by have hN : n + 1 < 4 := lt_of_lt_of_eq hn (show cfg1.N = 4 from N_1); omega)
        else
          if h3 : (n + 1) % 4 = 3 then
            False.elim (by have hN : n + 1 < 4 := lt_of_lt_of_eq hn (show cfg1.N = 4 from N_1); omega)
          else
            case1_B V c ⟨n + 1, hn⟩ h0 h1 h2 h3
      else
        if h2 : (n + 1) % 4 = 2 then
          if h3 : (n + 1) % 4 = 3 then
            False.elim (by have hN : n + 1 < 4 := lt_of_lt_of_eq hn (show cfg1.N = 4 from N_1); omega)
          else
            case1_C V c ⟨n + 1, hn⟩ h0 h1 h2 h3
        else
          if h3 : (n + 1) % 4 = 3 then
            case1_D V c ⟨n + 1, hn⟩ h0 h1 h2 h3
          else
            False.elim (by have hN : n + 1 < 4 := lt_of_lt_of_eq hn (show cfg1.N = 4 from N_1); omega)

/-- `outsAt1` at a point of case A: that case's contents. -/
theorem outsAt1_A (c : Dev nD) (t : Fin cfg1.N) (h0 : t.val % 4 = 0) (h1 : ¬t.val % 4 = 1) (h2 : ¬t.val % 4 = 2) (h3 : ¬t.val % 4 = 3) :
    outsAt1 V c t.val t.isLt = case1_A V c t h0 h1 h2 h3 := by
  obtain ⟨n, hn⟩ := t
  cases n with
  | zero => exact rfl
  | succ n => exact (dif_pos h0).trans ((dif_neg h1).trans ((dif_neg h2).trans ((dif_neg h3).trans rfl)))

/-- `outsAt1` at a point of case B: that case's contents. -/
theorem outsAt1_B (c : Dev nD) (t : Fin cfg1.N) (h0 : ¬t.val % 4 = 0) (h1 : t.val % 4 = 1) (h2 : ¬t.val % 4 = 2) (h3 : ¬t.val % 4 = 3) :
    outsAt1 V c t.val t.isLt = case1_B V c t h0 h1 h2 h3 := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

/-- `outsAt1` at a point of case C: that case's contents. -/
theorem outsAt1_C (c : Dev nD) (t : Fin cfg1.N) (h0 : ¬t.val % 4 = 0) (h1 : ¬t.val % 4 = 1) (h2 : t.val % 4 = 2) (h3 : ¬t.val % 4 = 3) :
    outsAt1 V c t.val t.isLt = case1_C V c t h0 h1 h2 h3 := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt1` at a point of case D: that case's contents. -/
theorem outsAt1_D (c : Dev nD) (t : Fin cfg1.N) (h0 : ¬t.val % 4 = 0) (h1 : ¬t.val % 4 = 1) (h2 : ¬t.val % 4 = 2) (h3 : t.val % 4 = 3) :
    outsAt1 V c t.val t.isLt = case1_D V c t h0 h1 h2 h3 := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

/-! ## The pipeline's proof data -/

/-- The data of pipeline 1: the arrays as the call finds them, and the buffers after each point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
    | ⟨7, _⟩ => (outsAt1 V c t.val t.isLt).2.2
  Φ _ := Pipeline.ΦA spec1 c
  q _ := fullShare
  owed _ := 0

/-- The data's arrays are those that the call finds. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]
theorem after1_7 (c : Dev nD) (t : Fin cfg1.N) : (dat1 V c).after 7 t = (outsAt1 V c t.val t.isLt).2.2 := by dsimp only [dat1]

/-- Each input's buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 3200000 in
/-- The body at any point, by the point's case. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl]
  rw [show (dat1 V c).Φ t.castSucc = Pipeline.ΦA spec1 c from rfl, PhiA1_eq]
  have hN : t.val < 4 := lt_of_lt_of_eq t.isLt (show cfg1.N = 4 from N_1)
  by_cases h0 : t.val % 4 = 0
  · by_cases h1 : t.val % 4 = 1
    · exfalso; omega
    · by_cases h2 : t.val % 4 = 2
      · exfalso; omega
      · by_cases h3 : t.val % 4 = 3
        · exfalso; omega
        · rw [show (dat1 V c).leavesExact 0 t = owns (c : Thread nD τ) (ms1_0 t) fullShare ((dat1 V c).after 0 t) from by
      unfold Dat.leavesExact; rw [liveAt1_0 t], after1_0]
          rw [show (dat1 V c).leavesExact 1 t = owns (c : Thread nD τ) (ms1_1 t) fullShare ((dat1 V c).after 1 t) from by
      unfold Dat.leavesExact; rw [liveAt1_1 t], after1_1]
          rw [show (dat1 V c).leavesExact 2 t = owns (c : Thread nD τ) (ms1_2 t) fullShare ((dat1 V c).after 2 t) from by
      unfold Dat.leavesExact; rw [liveAt1_2 t], after1_2]
          rw [show (dat1 V c).leavesExact 3 t = owns (c : Thread nD τ) (ms1_3 t) fullShare ((dat1 V c).after 3 t) from by
      unfold Dat.leavesExact; rw [liveAt1_3 t], after1_3]
          rw [show (dat1 V c).leavesExact 4 t = owns (c : Thread nD τ) (ms1_4 t) fullShare ((dat1 V c).after 4 t) from by
      unfold Dat.leavesExact; rw [liveAt1_4 t], after1_4]
          rw [show (dat1 V c).leavesExact 5 t = owns (c : Thread nD τ) (ms1_5 t) fullShare ((dat1 V c).after 5 t) from by
      unfold Dat.leavesExact; rw [liveAt1_5_A t ((hcond1_0 t).mpr h0) (fun h => h1 ((hcond1_1 t).mp h)) (fun h => h2 ((hcond1_2 t).mp h)) (fun h => h3 ((hcond1_3 t).mp h))], after1_5]
          rw [show (dat1 V c).leavesExact 6 t = owns (c : Thread nD τ) (ms1_6 t) fullShare ((dat1 V c).after 6 t) from by
      unfold Dat.leavesExact; rw [liveAt1_6_A t ((hcond1_0 t).mpr h0) (fun h => h1 ((hcond1_1 t).mp h)) (fun h => h2 ((hcond1_2 t).mp h)) (fun h => h3 ((hcond1_3 t).mp h))], after1_6]
          rw [show (dat1 V c).leavesExact 7 t = owns (c : Thread nD τ) (ms1_7 t) fullShare ((dat1 V c).after 7 t) from by
      unfold Dat.leavesExact; rw [liveAt1_7_A t ((hcond1_0 t).mpr h0) (fun h => h1 ((hcond1_1 t).mp h)) (fun h => h2 ((hcond1_2 t).mp h)) (fun h => h3 ((hcond1_3 t).mp h))], after1_7]
          rw [outsAt1_A V c t h0 h1 h2 h3, case1_A]
          unfold out1_A_5 out1_A_6 out1_A_7; (try dsimp only)
          iintro ⟨⟨⟨HR0, HR1, HR2, HR3, HR4, HR5, HR6, HR7, HR8, HR9, HR10, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun1_A c (grid1.coords t) _ _ _ _ _ _ _ _ _ _ _ _ _ _ _ _ _ _ _ _ _ _ ((hcond1_0 t).mpr h0) (fun h => h1 ((hcond1_1 t).mp h)) (fun h => h2 ((hcond1_2 t).mp h)) (fun h => h3 ((hcond1_3 t).mp h)) (iblk1 V c 0 t) (iblk1 V c 1 t) (iblk1 V c 2 t) (iblk1 V c 3 t) (iblk1 V c 4 t)).2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [H7]; · iexists _; iexact H7
          isplitl [HS0]; · iexact HS0
          isplitl [HS1]; · iexact HS1
          isplitl [HS2]; · iexact HS2
          iintro ⟨H0, H1, H2, H3, H4, ⟨%e5, H5⟩, ⟨%e6, H6⟩, ⟨%e7, H7⟩, HS0, HS1, HS2⟩
          isplitl [HR0 HR1 HR2 HR3 HR4 HR5 HR6 HR7 HR8 HR9 HR10 HS0 HS1 HS2 Hg]
          · isplitl [HR0 HR1 HR2 HR3 HR4 HR5 HR6 HR7 HR8 HR9 HR10 HS0 HS1 HS2]
            · isplitl [HR0]
              · iexact HR0
              isplitl [HR1]
              · iexact HR1
              isplitl [HR2]
              · iexact HR2
              isplitl [HR3]
              · iexact HR3
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]
          · unfold owns; iexists _; isplitr
            swap; · iexact H5
            ipureintro; exact View.read_writes_of_cover _ _ _ _ _ (cover1_A_5 c _ _ _ _ _ _ _ _ _ _ _ _ _ _ _ _ _ _ _ _ _ _ _ _ _ _ _ _ _ _ _ _)
          isplitl [H6]
          · unfold owns; iexists _; isplitr
            swap; · iexact H6
            ipureintro; exact View.read_writes_of_cover _ _ _ _ _ (cover1_A_6 c _ _ _ _ _ _ _ _ _ _ _ _ _ _ _ _ _ _ _ _ _ _ _ _ _ _ _ _ _ _ _ _)
          unfold owns; iexists _; isplitr
          swap; · iexact H7
          ipureintro; exact View.read_writes_of_cover _ _ _ _ _ (cover1_A_7 c _ _ _ _ _ _ _ _ _ _ _ _ _ _ _ _ _ _ _ _ _ _ _ _ _ _ _ _ _ _ _ _)
  · by_cases h1 : t.val % 4 = 1
    · by_cases h2 : t.val % 4 = 2
      · exfalso; omega
      · by_cases h3 : t.val % 4 = 3
        · exfalso; omega
        · rw [show (dat1 V c).leavesExact 0 t = owns (c : Thread nD τ) (ms1_0 t) fullShare ((dat1 V c).after 0 t) from by
      unfold Dat.leavesExact; rw [liveAt1_0 t], after1_0]
          rw [show (dat1 V c).leavesExact 1 t = owns (c : Thread nD τ) (ms1_1 t) fullShare ((dat1 V c).after 1 t) from by
      unfold Dat.leavesExact; rw [liveAt1_1 t], after1_1]
          rw [show (dat1 V c).leavesExact 2 t = owns (c : Thread nD τ) (ms1_2 t) fullShare ((dat1 V c).after 2 t) from by
      unfold Dat.leavesExact; rw [liveAt1_2 t], after1_2]
          rw [show (dat1 V c).leavesExact 3 t = owns (c : Thread nD τ) (ms1_3 t) fullShare ((dat1 V c).after 3 t) from by
      unfold Dat.leavesExact; rw [liveAt1_3 t], after1_3]
          rw [show (dat1 V c).leavesExact 4 t = owns (c : Thread nD τ) (ms1_4 t) fullShare ((dat1 V c).after 4 t) from by
      unfold Dat.leavesExact; rw [liveAt1_4 t], after1_4]
          rw [show (dat1 V c).leavesExact 5 t = owns (c : Thread nD τ) (ms1_5 t) fullShare ((dat1 V c).after 5 t) from by
      unfold Dat.leavesExact; rw [liveAt1_5_B t (fun h => h0 ((hcond1_0 t).mp h)) ((hcond1_1 t).mpr h1) (fun h => h2 ((hcond1_2 t).mp h)) (fun h => h3 ((hcond1_3 t).mp h))], after1_5]
          rw [show (dat1 V c).leavesExact 6 t = owns (c : Thread nD τ) (ms1_6 t) fullShare ((dat1 V c).after 6 t) from by
      unfold Dat.leavesExact; rw [liveAt1_6_B t (fun h => h0 ((hcond1_0 t).mp h)) ((hcond1_1 t).mpr h1) (fun h => h2 ((hcond1_2 t).mp h)) (fun h => h3 ((hcond1_3 t).mp h))], after1_6]
          rw [show (dat1 V c).leavesExact 7 t = owns (c : Thread nD τ) (ms1_7 t) fullShare ((dat1 V c).after 7 t) from by
      unfold Dat.leavesExact; rw [liveAt1_7_B t (fun h => h0 ((hcond1_0 t).mp h)) ((hcond1_1 t).mpr h1) (fun h => h2 ((hcond1_2 t).mp h)) (fun h => h3 ((hcond1_3 t).mp h))], after1_7]
          rw [outsAt1_B V c t h0 h1 h2 h3, case1_B]
          unfold out1_B_5 out1_B_6 out1_B_7; (try dsimp only)
          iintro ⟨⟨⟨HR0, HR1, HR2, HR3, HR4, HR5, HR6, HR7, HR8, HR9, HR10, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun1_B c (grid1.coords t) _ _ _ _ _ _ _ _ _ _ _ _ _ _ _ _ _ _ _ _ _ _ (fun h => h0 ((hcond1_0 t).mp h)) ((hcond1_1 t).mpr h1) (fun h => h2 ((hcond1_2 t).mp h)) (fun h => h3 ((hcond1_3 t).mp h)) (iblk1 V c 0 t) (iblk1 V c 1 t) (iblk1 V c 2 t) (iblk1 V c 3 t) (iblk1 V c 4 t)).2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [H7]; · iexists _; iexact H7
          isplitl [HS0]; · iexact HS0
          isplitl [HS1]; · iexact HS1
          isplitl [HS2]; · iexact HS2
          iintro ⟨H0, H1, H2, H3, H4, ⟨%e5, H5⟩, ⟨%e6, H6⟩, ⟨%e7, H7⟩, HS0, HS1, HS2⟩
          isplitl [HR0 HR1 HR2 HR3 HR4 HR5 HR6 HR7 HR8 HR9 HR10 HS0 HS1 HS2 Hg]
          · isplitl [HR0 HR1 HR2 HR3 HR4 HR5 HR6 HR7 HR8 HR9 HR10 HS0 HS1 HS2]
            · isplitl [HR0]
              · iexact HR0
              isplitl [HR1]
              · iexact HR1
              isplitl [HR2]
              · iexact HR2
              isplitl [HR3]
              · iexact HR3
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]
          · unfold owns; iexists _; isplitr
            swap; · iexact H5
            ipureintro; exact View.read_writes_of_cover _ _ _ _ _ (cover1_B_5 c _ _ _ _ _ _ _ _ _ _ _ _ _ _ _ _ _ _ _ _ _ _ _ _ _ _ _ _ _ _ _ _)
          isplitl [H6]
          · unfold owns; iexists _; isplitr
            swap; · iexact H6
            ipureintro; exact View.read_writes_of_cover _ _ _ _ _ (cover1_B_6 c _ _ _ _ _ _ _ _ _ _ _ _ _ _ _ _ _ _ _ _ _ _ _ _ _ _ _ _ _ _ _ _)
          unfold owns; iexists _; isplitr
          swap; · iexact H7
          ipureintro; exact View.read_writes_of_cover _ _ _ _ _ (cover1_B_7 c _ _ _ _ _ _ _ _ _ _ _ _ _ _ _ _ _ _ _ _ _ _ _ _ _ _ _ _ _ _ _ _)
    · by_cases h2 : t.val % 4 = 2
      · by_cases h3 : t.val % 4 = 3
        · exfalso; omega
        · rw [show (dat1 V c).leavesExact 0 t = owns (c : Thread nD τ) (ms1_0 t) fullShare ((dat1 V c).after 0 t) from by
      unfold Dat.leavesExact; rw [liveAt1_0 t], after1_0]
          rw [show (dat1 V c).leavesExact 1 t = owns (c : Thread nD τ) (ms1_1 t) fullShare ((dat1 V c).after 1 t) from by
      unfold Dat.leavesExact; rw [liveAt1_1 t], after1_1]
          rw [show (dat1 V c).leavesExact 2 t = owns (c : Thread nD τ) (ms1_2 t) fullShare ((dat1 V c).after 2 t) from by
      unfold Dat.leavesExact; rw [liveAt1_2 t], after1_2]
          rw [show (dat1 V c).leavesExact 3 t = owns (c : Thread nD τ) (ms1_3 t) fullShare ((dat1 V c).after 3 t) from by
      unfold Dat.leavesExact; rw [liveAt1_3 t], after1_3]
          rw [show (dat1 V c).leavesExact 4 t = owns (c : Thread nD τ) (ms1_4 t) fullShare ((dat1 V c).after 4 t) from by
      unfold Dat.leavesExact; rw [liveAt1_4 t], after1_4]
          rw [show (dat1 V c).leavesExact 5 t = owns (c : Thread nD τ) (ms1_5 t) fullShare ((dat1 V c).after 5 t) from by
      unfold Dat.leavesExact; rw [liveAt1_5_C t (fun h => h0 ((hcond1_0 t).mp h)) (fun h => h1 ((hcond1_1 t).mp h)) ((hcond1_2 t).mpr h2) (fun h => h3 ((hcond1_3 t).mp h))], after1_5]
          rw [show (dat1 V c).leavesExact 6 t = owns (c : Thread nD τ) (ms1_6 t) fullShare ((dat1 V c).after 6 t) from by
      unfold Dat.leavesExact; rw [liveAt1_6_C t (fun h => h0 ((hcond1_0 t).mp h)) (fun h => h1 ((hcond1_1 t).mp h)) ((hcond1_2 t).mpr h2) (fun h => h3 ((hcond1_3 t).mp h))], after1_6]
          rw [show (dat1 V c).leavesExact 7 t = owns (c : Thread nD τ) (ms1_7 t) fullShare ((dat1 V c).after 7 t) from by
      unfold Dat.leavesExact; rw [liveAt1_7_C t (fun h => h0 ((hcond1_0 t).mp h)) (fun h => h1 ((hcond1_1 t).mp h)) ((hcond1_2 t).mpr h2) (fun h => h3 ((hcond1_3 t).mp h))], after1_7]
          rw [outsAt1_C V c t h0 h1 h2 h3, case1_C]
          unfold out1_C_5 out1_C_6 out1_C_7; (try dsimp only)
          iintro ⟨⟨⟨HR0, HR1, HR2, HR3, HR4, HR5, HR6, HR7, HR8, HR9, HR10, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun1_C c (grid1.coords t) _ _ _ _ _ _ _ _ _ _ _ _ _ _ _ _ _ _ _ _ _ _ (fun h => h0 ((hcond1_0 t).mp h)) (fun h => h1 ((hcond1_1 t).mp h)) ((hcond1_2 t).mpr h2) (fun h => h3 ((hcond1_3 t).mp h)) (iblk1 V c 0 t) (iblk1 V c 1 t) (iblk1 V c 2 t) (iblk1 V c 3 t) (iblk1 V c 4 t)).2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [H7]; · iexists _; iexact H7
          isplitl [HS0]; · iexact HS0
          isplitl [HS1]; · iexact HS1
          isplitl [HS2]; · iexact HS2
          iintro ⟨H0, H1, H2, H3, H4, ⟨%e5, H5⟩, ⟨%e6, H6⟩, ⟨%e7, H7⟩, HS0, HS1, HS2⟩
          isplitl [HR0 HR1 HR2 HR3 HR4 HR5 HR6 HR7 HR8 HR9 HR10 HS0 HS1 HS2 Hg]
          · isplitl [HR0 HR1 HR2 HR3 HR4 HR5 HR6 HR7 HR8 HR9 HR10 HS0 HS1 HS2]
            · isplitl [HR0]
              · iexact HR0
              isplitl [HR1]
              · iexact HR1
              isplitl [HR2]
              · iexact HR2
              isplitl [HR3]
              · iexact HR3
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]
          · unfold owns; iexists _; isplitr
            swap; · iexact H5
            ipureintro; exact View.read_writes_of_cover _ _ _ _ _ (cover1_C_5 c _ _ _ _ _ _ _ _ _ _ _ _ _ _ _ _ _ _ _ _ _ _ _ _ _ _ _ _ _ _ _ _)
          isplitl [H6]
          · unfold owns; iexists _; isplitr
            swap; · iexact H6
            ipureintro; exact View.read_writes_of_cover _ _ _ _ _ (cover1_C_6 c _ _ _ _ _ _ _ _ _ _ _ _ _ _ _ _ _ _ _ _ _ _ _ _ _ _ _ _ _ _ _ _)
          unfold owns; iexists _; isplitr
          swap; · iexact H7
          ipureintro; exact View.read_writes_of_cover _ _ _ _ _ (cover1_C_7 c _ _ _ _ _ _ _ _ _ _ _ _ _ _ _ _ _ _ _ _ _ _ _ _ _ _ _ _ _ _ _ _)
      · by_cases h3 : t.val % 4 = 3
        · rw [show (dat1 V c).leavesExact 0 t = owns (c : Thread nD τ) (ms1_0 t) fullShare ((dat1 V c).after 0 t) from by
      unfold Dat.leavesExact; rw [liveAt1_0 t], after1_0]
          rw [show (dat1 V c).leavesExact 1 t = owns (c : Thread nD τ) (ms1_1 t) fullShare ((dat1 V c).after 1 t) from by
      unfold Dat.leavesExact; rw [liveAt1_1 t], after1_1]
          rw [show (dat1 V c).leavesExact 2 t = owns (c : Thread nD τ) (ms1_2 t) fullShare ((dat1 V c).after 2 t) from by
      unfold Dat.leavesExact; rw [liveAt1_2 t], after1_2]
          rw [show (dat1 V c).leavesExact 3 t = owns (c : Thread nD τ) (ms1_3 t) fullShare ((dat1 V c).after 3 t) from by
      unfold Dat.leavesExact; rw [liveAt1_3 t], after1_3]
          rw [show (dat1 V c).leavesExact 4 t = owns (c : Thread nD τ) (ms1_4 t) fullShare ((dat1 V c).after 4 t) from by
      unfold Dat.leavesExact; rw [liveAt1_4 t], after1_4]
          rw [show (dat1 V c).leavesExact 5 t = owns (c : Thread nD τ) (ms1_5 t) fullShare ((dat1 V c).after 5 t) from by
      unfold Dat.leavesExact; rw [liveAt1_5_D t (fun h => h0 ((hcond1_0 t).mp h)) (fun h => h1 ((hcond1_1 t).mp h)) (fun h => h2 ((hcond1_2 t).mp h)) ((hcond1_3 t).mpr h3)], after1_5]
          rw [show (dat1 V c).leavesExact 6 t = owns (c : Thread nD τ) (ms1_6 t) fullShare ((dat1 V c).after 6 t) from by
      unfold Dat.leavesExact; rw [liveAt1_6_D t (fun h => h0 ((hcond1_0 t).mp h)) (fun h => h1 ((hcond1_1 t).mp h)) (fun h => h2 ((hcond1_2 t).mp h)) ((hcond1_3 t).mpr h3)], after1_6]
          rw [show (dat1 V c).leavesExact 7 t = owns (c : Thread nD τ) (ms1_7 t) fullShare ((dat1 V c).after 7 t) from by
      unfold Dat.leavesExact; rw [liveAt1_7_D t (fun h => h0 ((hcond1_0 t).mp h)) (fun h => h1 ((hcond1_1 t).mp h)) (fun h => h2 ((hcond1_2 t).mp h)) ((hcond1_3 t).mpr h3)], after1_7]
          rw [outsAt1_D V c t h0 h1 h2 h3, case1_D]
          unfold out1_D_5 out1_D_6 out1_D_7; (try dsimp only)
          iintro ⟨⟨⟨HR0, HR1, HR2, HR3, HR4, HR5, HR6, HR7, HR8, HR9, HR10, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun1_D c (grid1.coords t) _ _ _ _ _ _ _ _ _ _ _ _ _ _ _ _ _ _ _ _ _ _ (fun h => h0 ((hcond1_0 t).mp h)) (fun h => h1 ((hcond1_1 t).mp h)) (fun h => h2 ((hcond1_2 t).mp h)) ((hcond1_3 t).mpr h3) (iblk1 V c 0 t) (iblk1 V c 1 t) (iblk1 V c 2 t) (iblk1 V c 3 t) (iblk1 V c 4 t)).2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [H7]; · iexists _; iexact H7
          isplitl [HS0]; · iexact HS0
          isplitl [HS1]; · iexact HS1
          isplitl [HS2]; · iexact HS2
          iintro ⟨H0, H1, H2, H3, H4, ⟨%e5, H5⟩, ⟨%e6, H6⟩, ⟨%e7, H7⟩, HS0, HS1, HS2⟩
          isplitl [HR0 HR1 HR2 HR3 HR4 HR5 HR6 HR7 HR8 HR9 HR10 HS0 HS1 HS2 Hg]
          · isplitl [HR0 HR1 HR2 HR3 HR4 HR5 HR6 HR7 HR8 HR9 HR10 HS0 HS1 HS2]
            · isplitl [HR0]
              · iexact HR0
              isplitl [HR1]
              · iexact HR1
              isplitl [HR2]
              · iexact HR2
              isplitl [HR3]
              · iexact HR3
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]
          · unfold owns; iexists _; isplitr
            swap; · iexact H5
            ipureintro; exact View.read_writes_of_cover _ _ _ _ _ (cover1_D_5 c _ _ _ _ _ _ _ _ _ _ _ _ _ _ _ _ _ _ _ _ _ _ _ _ _ _ _ _ _ _ _ _)
          isplitl [H6]
          · unfold owns; iexists _; isplitr
            swap; · iexact H6
            ipureintro; exact View.read_writes_of_cover _ _ _ _ _ (cover1_D_6 c _ _ _ _ _ _ _ _ _ _ _ _ _ _ _ _ _ _ _ _ _ _ _ _ _ _ _ _ _ _ _ _)
          unfold owns; iexists _; isplitr
          swap; · iexact H7
          ipureintro; exact View.read_writes_of_cover _ _ _ _ _ (cover1_D_7 c _ _ _ _ _ _ _ _ _ _ _ _ _ _ _ _ _ _ _ _ _ _ _ _ _ _ _ _ _ _ _ _)
        · exfalso; omega

/-- The body at point `t`'s buffers. -/
theorem defs₀_row1 (t : Fin cfg1.N) :
    defs₀ (F := F) .tc cfg1.body (cfg1.bodyArgs t (cfg1.slots t)) = bodyAt1 t := by
  unfold defs₀; rw [Defs.onTc_tc]

/-- The body's run at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Run

end
-- ==== Proof.Array1.lean ====
module
public import proofs.«01_k».proof.Proof.Block1
public import proofs.«01_k».proof.Proof.Array0
public import proofs.«01_k».proof.Proof.Region1
/-!
# What the backward kernel's arrays hold

Each grid point writes its own channels, its own group's matrix and its own scales, so the arrays hold, group by group, what
the points leave.
-/
@[expose] public section
set_option maxRecDepth 16384
noncomputable section
namespace Cert.KernelIdeal.Val
open Idealize.ShloMosaic Idealize.ShloMosaic.TcCoe Idealize.ShloMosaic.Pipeline Cert.KernelIdeal Cert.KernelIdeal.Gen Cert.KernelIdeal.Run Cert.PoolSpec
open Idealize.SL Idealize.SL.Sem

/-- The grid point of group `g`. -/
def pt1 (g : Fin 4) : Fin cfg1.N := ⟨g.val, g.isLt.trans_eq N_1.symm⟩

theorem index1_0 : ∀ t : Fin cfg1.N, win1_0.index t 0 = 0 ∧ win1_0.index t 1 = t.val := by decide +kernel
theorem index1_1 : ∀ t : Fin cfg1.N, win1_1.index t 0 = 0 ∧ win1_1.index t 1 = t.val := by decide +kernel
theorem index1_2 : ∀ t : Fin cfg1.N, win1_2.index t 0 = t.val ∧ win1_2.index t 1 = 0 ∧ win1_2.index t 2 = 0 := by decide +kernel
theorem index1_3 : ∀ t : Fin cfg1.N, win1_3.index t 0 = 0 ∧ win1_3.index t 1 = t.val := by decide +kernel
theorem index1_5 : ∀ t : Fin cfg1.N, win1_5.index t 0 = 0 ∧ win1_5.index t 1 = t.val := by decide +kernel
theorem index1_6 : ∀ t : Fin cfg1.N, win1_6.index t 0 = 0 ∧ win1_6.index t 1 = t.val ∧ win1_6.index t 2 = 0 ∧ win1_6.index t 3 = 0 := by decide +kernel
theorem index1_7 : ∀ t : Fin cfg1.N, win1_7.index t 0 = 0 ∧ win1_7.index t 1 = t.val := by decide +kernel

variable (V : (c : Dev nD) → (b : Ref sig .tc) → Buf (Elt Ideal) ((c : Thread nD τ).loc b)) (c : Dev nD)

theorem iblk1_0_apply (g : Fin 4) (t : Fin 4096) (d : Fin 256) :
    (iblk1 V c 0 (pt1 g) : Vec Ideal S4096x256 .bf16) (ix2 t d) = (V c main_v2_0 : Vec Ideal S4096x1024 .bf16) (ix2 t (col g d)) := by
  refine congrArg (V c main_v2_0 : Vec Ideal S4096x1024 .bf16) ?_
  funext a
  apply Fin.ext
  obtain ⟨h0, h1⟩ := index1_0 (pt1 g)
  refine (Window.rect_emb_val win1_0 (pt1 g) (ix2 t d) a).trans ?_
  fin_cases a
  · show win1_0.index (pt1 g) 0 * 4096 + t.val = t.val
    rw [h0]; omega
  · show win1_0.index (pt1 g) 1 * 256 + d.val = 256 * g.val + d.val
    rw [h1]; show g.val * 256 + d.val = _; omega

theorem iblk1_1_apply (g : Fin 4) (t : Fin 4096) (d : Fin 256) :
    (iblk1 V c 1 (pt1 g) : Vec Ideal S4096x256 .f32) (ix2 t d) = (V c main_arg3 : Vec Ideal S4096x2048 .f32) (ix2 t ⟨(col g d).val, by omega⟩) := by
  refine congrArg (V c main_arg3 : Vec Ideal S4096x2048 .f32) ?_
  funext a
  apply Fin.ext
  obtain ⟨h0, h1⟩ := index1_1 (pt1 g)
  refine (Window.rect_emb_val win1_1 (pt1 g) (ix2 t d) a).trans ?_
  fin_cases a
  · show win1_1.index (pt1 g) 0 * 4096 + t.val = t.val
    rw [h0]; omega
  · show win1_1.index (pt1 g) 1 * 256 + d.val = 256 * g.val + d.val
    rw [h1]; show g.val * 256 + d.val = _; omega

theorem iblk1_2_apply (g : Fin 4) (a b : Fin 256) :
    (iblk1 V c 2 (pt1 g) : Vec Ideal S1x256x256 .bf16) (ix3 0 a b) = (V c main_v1 : Vec Ideal S4x256x256 .bf16) (ix3 g a b) := by
  refine congrArg (V c main_v1 : Vec Ideal S4x256x256 .bf16) ?_
  funext i
  apply Fin.ext
  obtain ⟨h0, h1, h2⟩ := index1_2 (pt1 g)
  refine (Window.rect_emb_val win1_2 (pt1 g) (ix3 0 a b) i).trans ?_
  fin_cases i
  · show win1_2.index (pt1 g) 0 * 1 + 0 = g.val
    rw [h0]; show g.val * 1 + 0 = _; omega
  · show win1_2.index (pt1 g) 1 * 256 + a.val = a.val
    rw [h1]; omega
  · show win1_2.index (pt1 g) 2 * 256 + b.val = b.val
    rw [h2]; omega

theorem iblk1_3_apply (g : Fin 4) (b : Fin 256) :
    (iblk1 V c 3 (pt1 g) : Vec Ideal S1x256 .f32) (ix2 0 b) = (V c main_arg2 : Vec Ideal S1x1024 .f32) (ix2 0 (col g b)) := by
  refine congrArg (V c main_arg2 : Vec Ideal S1x1024 .f32) ?_
  funext i
  apply Fin.ext
  obtain ⟨h0, h1⟩ := index1_3 (pt1 g)
  refine (Window.rect_emb_val win1_3 (pt1 g) (ix2 0 b) i).trans ?_
  fin_cases i
  · show win1_3.index (pt1 g) 0 * 1 + 0 = 0
    rw [h0]
  · show win1_3.index (pt1 g) 1 * 256 + b.val = 256 * g.val + b.val
    rw [h1]; show g.val * 256 + b.val = _; omega

attribute [local irreducible] out1_A_5 out1_A_6 out1_A_7 out1_B_5 out1_B_6 out1_B_7 out1_C_5 out1_C_6 out1_C_7 out1_D_5 out1_D_6 out1_D_7

/-- What the points leave in the channels' gradient. -/
theorem outs1_5 : ∀ (g : Fin 4) (t : Fin 4096) (e : Fin 256),
    ((outsAt1 V c (pt1 g).val (pt1 g).isLt).1 : Vec Ideal S4096x256 .bf16) (ix2 t e)
      = chanGrad (2 ^ g.val) (devGrad (fun t e => (iblk1 V c 1 (pt1 g) : Vec Ideal S4096x256 .f32) (ix2 t e))
          (fun a b => (iblk1 V c 2 (pt1 g) : Vec Ideal S1x256x256 .bf16) (ix3 0 a b)) (fun b => (iblk1 V c 3 (pt1 g) : Vec Ideal S1x256 .f32) (ix2 0 b))) t e
  | 0, t, e => (congrFun (congrArg Prod.fst (outsAt1_A V c (pt1 0) (by decide) (by decide) (by decide) (by decide))) (ix2 t e)).trans
      (out1_A_5_apply ..)
  | 1, t, e => (congrFun (congrArg Prod.fst (outsAt1_B V c (pt1 1) (by decide) (by decide) (by decide) (by decide))) (ix2 t e)).trans
      (out1_B_5_apply ..)
  | 2, t, e => (congrFun (congrArg Prod.fst (outsAt1_C V c (pt1 2) (by decide) (by decide) (by decide) (by decide))) (ix2 t e)).trans
      (out1_C_5_apply ..)
  | 3, t, e => (congrFun (congrArg Prod.fst (outsAt1_D V c (pt1 3) (by decide) (by decide) (by decide) (by decide))) (ix2 t e)).trans
      (out1_D_5_apply ..)

/-- What the points leave in the matrices' gradient. -/
theorem outs1_6 : ∀ (g : Fin 4) (b : Fin 8) (r : Fin 32) (e : Fin 256),
    ((outsAt1 V c (pt1 g).val (pt1 g).isLt).2.1 : Vec Ideal S8x1x32x256 .bf16) (ix4 b 0 r e)
      = ∑ t, matTerm (fun t e => (iblk1 V c 0 (pt1 g) : Vec Ideal S4096x256 .bf16) (ix2 t e)) (fun t e => (iblk1 V c 1 (pt1 g) : Vec Ideal S4096x256 .f32) (ix2 t e))
          (fun b => (iblk1 V c 3 (pt1 g) : Vec Ideal S1x256 .f32) (ix2 0 b)) ⟨b.val * 32 + r.val, by omega⟩ e t
  | 0, b, r, e => (congrFun (congrArg Prod.fst (congrArg Prod.snd (outsAt1_A V c (pt1 0) (by decide) (by decide) (by decide) (by decide)))) (ix4 b 0 r e)).trans
      (out1_A_6_apply ..)
  | 1, b, r, e => (congrFun (congrArg Prod.fst (congrArg Prod.snd (outsAt1_B V c (pt1 1) (by decide) (by decide) (by decide) (by decide)))) (ix4 b 0 r e)).trans
      (out1_B_6_apply ..)
  | 2, b, r, e => (congrFun (congrArg Prod.fst (congrArg Prod.snd (outsAt1_C V c (pt1 2) (by decide) (by decide) (by decide) (by decide)))) (ix4 b 0 r e)).trans
      (out1_C_6_apply ..)
  | 3, b, r, e => (congrFun (congrArg Prod.fst (congrArg Prod.snd (outsAt1_D V c (pt1 3) (by decide) (by decide) (by decide) (by decide)))) (ix4 b 0 r e)).trans
      (out1_D_6_apply ..)

/-- What the points leave in the scales' gradient. -/
theorem outs1_7 : ∀ (g : Fin 4) (e : Fin 256),
    ((outsAt1 V c (pt1 g).val (pt1 g).isLt).2.2 : Vec Ideal S1x256 .f32) (ix2 0 e)
      = ∑ t, scaleTerm (fun t e => (iblk1 V c 0 (pt1 g) : Vec Ideal S4096x256 .bf16) (ix2 t e)) (fun t e => (iblk1 V c 1 (pt1 g) : Vec Ideal S4096x256 .f32) (ix2 t e))
          (fun a b => (iblk1 V c 2 (pt1 g) : Vec Ideal S1x256x256 .bf16) (ix3 0 a b)) e t
  | 0, e => (congrFun (congrArg Prod.snd (congrArg Prod.snd (outsAt1_A V c (pt1 0) (by decide) (by decide) (by decide) (by decide)))) (ix2 0 e)).trans
      (out1_A_7_apply ..)
  | 1, e => (congrFun (congrArg Prod.snd (congrArg Prod.snd (outsAt1_B V c (pt1 1) (by decide) (by decide) (by decide) (by decide)))) (ix2 0 e)).trans
      (out1_B_7_apply ..)
  | 2, e => (congrFun (congrArg Prod.snd (congrArg Prod.snd (outsAt1_C V c (pt1 2) (by decide) (by decide) (by decide) (by decide)))) (ix2 0 e)).trans
      (out1_C_7_apply ..)
  | 3, e => (congrFun (congrArg Prod.snd (congrArg Prod.snd (outsAt1_D V c (pt1 3) (by decide) (by decide) (by decide) (by decide)))) (ix2 0 e)).trans
      (out1_D_7_apply ..)

/-- The channels' gradient. -/
theorem array1_5 (g : Fin 4) (t : Fin 4096) (e : Fin 256) :
    ((dat1 V c).arrAt 5 cfg1.N : Vec Ideal S4096x3072 .bf16) (ix2 t ⟨(col g e).val, by omega⟩)
      = chanGrad (2 ^ g.val) (devGrad (fun t d => (V c main_arg3 : Vec Ideal S4096x2048 .f32) (ix2 t ⟨(col g d).val, by omega⟩))
          (fun a b => (V c main_v1 : Vec Ideal S4x256x256 .bf16) (ix3 g a b)) (fun b => (V c main_arg2 : Vec Ideal S1x1024 .f32) (ix2 0 (col g b)))) t e := by
  have hi : (((cfg1.win 5).blk (pt1 g)).view.emb (ix2 t e) : S4096x3072.Idx) = ix2 t ⟨(col g e).val, by omega⟩ := by
    funext i
    apply Fin.ext
    obtain ⟨h0, h1⟩ := index1_5 (pt1 g)
    refine (Window.rect_emb_val win1_5 (pt1 g) (ix2 t e) i).trans ?_
    fin_cases i
    · show win1_5.index (pt1 g) 0 * 4096 + t.val = t.val
      rw [h0]; omega
    · show win1_5.index (pt1 g) 1 * 256 + e.val = 256 * g.val + e.val
      rw [h1]; show g.val * 256 + e.val = _; omega
  rw [← hi]
  refine ((dat1 V c).arrAt_emb_eq_flushed 5 (Window.hdisj_of_index_inj _ (by decide +kernel)) (pt1 g) (flush1_5 _) (ix2 t e)).trans ?_
  refine (congrFun (after1_5 V c (pt1 g)) (ix2 t e)).trans ((outs1_5 V c g t e).trans ?_)
  simp only [iblk1_1_apply, iblk1_2_apply, iblk1_3_apply]

/-- The matrices' gradient. -/
theorem array1_6 (g : Fin 4) (b : Fin 8) (r : Fin 32) (e : Fin 256) :
    ((dat1 V c).arrAt 6 cfg1.N : Vec Ideal S8x4x32x256 .bf16) (ix4 b g r e)
      = ∑ t, matTerm (fun t d => (V c main_v2_0 : Vec Ideal S4096x1024 .bf16) (ix2 t (col g d)))
          (fun t d => (V c main_arg3 : Vec Ideal S4096x2048 .f32) (ix2 t ⟨(col g d).val, by omega⟩))
          (fun b => (V c main_arg2 : Vec Ideal S1x1024 .f32) (ix2 0 (col g b))) ⟨b.val * 32 + r.val, by omega⟩ e t := by
  have hi : (((cfg1.win 6).blk (pt1 g)).view.emb (ix4 b 0 r e) : S8x4x32x256.Idx) = ix4 b g r e := by
    funext i
    apply Fin.ext
    obtain ⟨h0, h1, h2, h3⟩ := index1_6 (pt1 g)
    refine (Window.rect_emb_val win1_6 (pt1 g) (ix4 b 0 r e) i).trans ?_
    fin_cases i
    · show win1_6.index (pt1 g) 0 * 8 + b.val = b.val
      rw [h0]; omega
    · show win1_6.index (pt1 g) 1 * 1 + 0 = g.val
      rw [h1]; show g.val * 1 + 0 = _; omega
    · show win1_6.index (pt1 g) 2 * 32 + r.val = r.val
      rw [h2]; omega
    · show win1_6.index (pt1 g) 3 * 256 + e.val = e.val
      rw [h3]; omega
  rw [← hi]
  refine ((dat1 V c).arrAt_emb_eq_flushed 6 (Window.hdisj_of_index_inj _ (by decide +kernel)) (pt1 g) (flush1_6 _) (ix4 b 0 r e)).trans ?_
  refine (congrFun (after1_6 V c (pt1 g)) (ix4 b 0 r e)).trans ((outs1_6 V c g b r e).trans ?_)
  simp only [iblk1_0_apply, iblk1_1_apply, iblk1_3_apply]

/-- The scales' gradient. -/
theorem array1_7 (g : Fin 4) (e : Fin 256) :
    ((dat1 V c).arrAt 7 cfg1.N : Vec Ideal S1x1024 .f32) (ix2 0 (col g e))
      = ∑ t, scaleTerm (fun t d => (V c main_v2_0 : Vec Ideal S4096x1024 .bf16) (ix2 t (col g d)))
          (fun t d => (V c main_arg3 : Vec Ideal S4096x2048 .f32) (ix2 t ⟨(col g d).val, by omega⟩))
          (fun a b => (V c main_v1 : Vec Ideal S4x256x256 .bf16) (ix3 g a b)) e t := by
  have hi : (((cfg1.win 7).blk (pt1 g)).view.emb (ix2 0 e) : S1x1024.Idx) = ix2 0 (col g e) := by
    funext i
    apply Fin.ext
    obtain ⟨h0, h1⟩ := index1_7 (pt1 g)
    refine (Window.rect_emb_val win1_7 (pt1 g) (ix2 0 e) i).trans ?_
    fin_cases i
    · show win1_7.index (pt1 g) 0 * 1 + 0 = 0
      rw [h0]
    · show win1_7.index (pt1 g) 1 * 256 + e.val = 256 * g.val + e.val
      rw [h1]; show g.val * 256 + e.val = _; omega
  rw [← hi]
  refine ((dat1 V c).arrAt_emb_eq_flushed 7 (Window.hdisj_of_index_inj _ (by decide +kernel)) (pt1 g) (flush1_7 _) (ix2 0 e)).trans ?_
  refine (congrFun (after1_7 V c (pt1 g)) (ix2 0 e)).trans ((outs1_7 V c g e).trans ?_)
  simp only [iblk1_0_apply, iblk1_1_apply, iblk1_2_apply]

end Cert.KernelIdeal.Val
-- ==== Proof.Fold.lean ====
module

public import proofs.«01_k».proof.Proof.Region0
public import proofs.«01_k».proof.Proof.Region1
public import proofs.«01_k».proof.Proof.Gen.KernelIdeal.Frame.Hosts0

/-!
# The buffers from step to step

What the buffers hold after the host operations, after the forward kernel and after the backward kernel.
-/

@[expose] public section

set_option maxRecDepth 16384

noncomputable section

namespace Cert.KernelIdeal.Run

open Cert.KernelIdeal.Gen Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- After call 0: its arrays at what the pipeline leaves, the rest as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- What call 0 does not write stays. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- An argument among call 0's arrays is an input. -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- After call 0 each of its arrays holds what the pipeline leaves, and the rest what it held. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After call 1: its arrays at what the pipeline leaves, the rest as before. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- What call 1 does not write stays. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- An argument among call 1's arrays is an input. -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- After call 1 each of its arrays holds what the pipeline leaves, and the rest what it held. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)
theorem W3_main_arg3 (c : Dev nD) : W3 m ρ c (Proc.devRef .tc main_arg3) = m ((c : Thread nD τ).loc main_arg3) :=
  W3_args m ρ c main_arg3 (by decide)
theorem W3_main_arg4 (c : Dev nD) : W3 m ρ c (Proc.devRef .tc main_arg4) = m ((c : Thread nD τ).loc main_arg4) :=
  W3_args m ρ c main_arg4 (by decide)
end Cert.KernelIdeal.Run

end
-- ==== Proof.State.lean ====
module

public import proofs.«01_k».proof.Proof.Fold

/-!
# The state between the steps

The data of both pipelines, and what a device holds between two steps of the program.
-/

@[expose] public section

set_option maxRecDepth 16384

noncomputable section

namespace Cert.KernelIdeal.Run

open Cert.KernelIdeal.Gen Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

end Cert.KernelIdeal.Run

end
-- ==== Proof.Segment0.lean ====
module

public import proofs.«01_k».proof.Proof.State

/-!
# The forward kernel as a step

The forward kernel takes the buffers from their contents before it to their contents after it.
-/

@[expose] public section

set_option maxRecDepth 16384

noncomputable section

namespace Cert.KernelIdeal.Run

open Cert.KernelIdeal.Gen Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Segment1.lean ====
module

public import proofs.«01_k».proof.Proof.State

/-!
# The backward kernel as a step

The backward kernel takes the buffers from their contents before it to their contents after it.
-/

@[expose] public section

set_option maxRecDepth 16384

noncomputable section

namespace Cert.KernelIdeal.Run

open Cert.KernelIdeal.Gen Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Run

end
-- ==== Proof.Whole.lean ====
module

public import proofs.«01_k».proof.Proof.Segment0
public import proofs.«01_k».proof.Proof.Segment1

/-!
# The whole program

Every execution ends, without fault and with every counter at zero, with the buffers at the contents that the steps give.
-/

@[expose] public section

set_option maxRecDepth 16384

noncomputable section

namespace Cert.KernelIdeal.Run

open Cert.KernelIdeal.Gen Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments: `Gen.main_chain`, then the segments' run against that chain by the definitional
    check. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- Every execution ends without fault, every buffer at the contents after the last step and every counter at zero. -/
theorem whole : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- A buffer at the end. -/
theorem whole_buf {s : (ℓ : Loc nD τ sig) → Buf (Elt F) ℓ} (h : ∀ c : Dev nD, ∀ b ∈ Pipeline.ucRefs τ sig, s (((c : Thread nD τ)).1, b) = W3 m ρ c b)
    (c : Dev nD) (r : Ref sig .tc) (hr : ¬ (Proc.devRef .tc r : DevRef τ sig).isScoped) : s ((c : Thread nD τ).loc r) = W3 m ρ c (Proc.devRef .tc r) :=
  h c _ (mem_uc r hr)

/-- The arguments at the end. -/
theorem whole_args {s : (ℓ : Loc nD τ sig) → Buf (Elt F) ℓ} (h : ∀ c : Dev nD, ∀ b ∈ Pipeline.ucRefs τ sig, s (((c : Thread nD τ)).1, b) = W3 m ρ c b)
    (c : Dev nD) :
      s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3)
      ∧ s ((c.tc : Thread nD τ).loc main_arg4) = m ((c.tc : Thread nD τ).loc main_arg4) :=
  ⟨(h c _ (mem_uc main_arg0 (by decide))).trans (W3_main_arg0 m ρ c),
   (h c _ (mem_uc main_arg1 (by decide))).trans (W3_main_arg1 m ρ c),
   (h c _ (mem_uc main_arg2 (by decide))).trans (W3_main_arg2 m ρ c),
   (h c _ (mem_uc main_arg3 (by decide))).trans (W3_main_arg3 m ρ c),
   (h c _ (mem_uc main_arg4 (by decide))).trans (W3_main_arg4 m ρ c)⟩

end Cert.KernelIdeal.Run

end
-- ==== Proof.Result.lean ====
module
public import proofs.«01_k».proof.Proof.Array1
public import proofs.«01_k».proof.Proof.Whole
/-!
# The kernel's results

The four results at the end, in the arguments, group by group.
-/
@[expose] public section
set_option maxRecDepth 16384
noncomputable section
namespace Cert.KernelIdeal.Val
open Idealize.ShloMosaic Idealize.ShloMosaic.TcCoe Idealize.ShloMosaic.Pipeline Cert.KernelIdeal Cert.KernelIdeal.Gen Cert.KernelIdeal.Run Cert.PoolSpec
open Idealize.SL Idealize.SL.Sem

variable (m : (ℓ : Loc nD τ sig) → Buf (Elt Ideal) ℓ) (ρ : Dev nD → PrngReg) (c : Dev nD)

/-- The channels of group `g`. -/
def chan (g : Fin 4) (t : Fin 4096) (e : Fin 256) : EReal :=
  (m ((c.tc : Thread nD τ).loc main_arg0) : Vec Ideal S3x4096x1024 .f32) (ix3 0 t (col g e))
/-- The output gradient at group `g`. -/
def outGrad (g : Fin 4) (t : Fin 4096) (e : Fin 256) : EReal :=
  (m ((c.tc : Thread nD τ).loc main_arg3) : Vec Ideal S4096x2048 .f32) (ix2 t ⟨(col g e).val, by omega⟩)
/-- The matrix of group `g`. -/
def mat (g : Fin 4) (a b : Fin 256) : EReal :=
  (m ((c.tc : Thread nD τ).loc main_arg1) : Vec Ideal S1x4x256x256 .f32) (ix4 0 g a b)
/-- The scales of group `g`. -/
def scl (g : Fin 4) (b : Fin 256) : EReal :=
  (m ((c.tc : Thread nD τ).loc main_arg2) : Vec Ideal S1x1024 .f32) (ix2 0 (col g b))

theorem V1_arg0 : V1 m ρ c main_arg0 = m ((c.tc : Thread nD τ).loc main_arg0) := W1_args m ρ c main_arg0 (by decide)
theorem V1_arg2 : V1 m ρ c main_arg2 = m ((c.tc : Thread nD τ).loc main_arg2) := W1_args m ρ c main_arg2 (by decide)
theorem V2_arg2 : V2 m ρ c main_arg2 = m ((c.tc : Thread nD τ).loc main_arg2) := W2_args m ρ c main_arg2 (by decide)
theorem V2_arg3 : V2 m ρ c main_arg3 = m ((c.tc : Thread nD τ).loc main_arg3) := W2_args m ρ c main_arg3 (by decide)

theorem mat_read (x : Vec Ideal S1x4x256x256 .f32) (g : Fin 4) (a b : Fin 256) :
    truncf (F := Ideal) .bf16 (shapeCast S4x256x256 x shapeCasts_S1x4x256x256_S4x256x256) bitsLt_bf16_f32 (ix3 g a b) = x (ix4 0 g a b) := by
  pointwise

/-- The matrices as the kernels read them. -/
theorem V1_mat (g : Fin 4) : (fun a b => (V1 m ρ c main_v1 : Vec Ideal S4x256x256 .bf16) (ix3 g a b)) = mat m c g :=
  funext fun a => funext fun b => mat_read (m ((c.tc : Thread nD τ).loc main_arg1)) g a b
theorem V2_mat : V2 m ρ c main_v1 = V1 m ρ c main_v1 := W2_of m ρ c main_v1 (by decide)

/-- The deviations as the backward kernel reads them. -/
theorem V2_dev (g : Fin 4) :
    (fun t e => (V2 m ρ c main_v2_0 : Vec Ideal S4096x1024 .bf16) (ix2 t (col g e))) = dev (2 ^ g.val) (chan m c g) := by
  funext t e
  refine (congrFun (W2_arr m ρ c 3) (ix2 t (col g e))).trans ((array0_3 (V1 m ρ) c g t e).trans ?_)
  rw [V1_arg0]
  rfl

/-- The output. -/
theorem res_y (g : Fin 4) (t : Fin 4096) (e : Fin 256) :
    (W3 m ρ c (Proc.devRef .tc main_v2_1) : Vec Ideal S4096x2048 .bf16) (ix2 t ⟨(col g e).val, by omega⟩)
      = outRow (dev (2 ^ g.val) (chan m c g)) (mat m c g) (scl m c g) t e := by
  refine (congrFun (W3_of m ρ c main_v2_1 (by decide)) _).trans ((congrFun (W2_arr m ρ c 4) _).trans ((array0_4 (V1 m ρ) c g t e).trans ?_))
  rw [V1_arg0, V1_arg2]
  exact congrArg (fun w => outRow (dev (2 ^ g.val) (chan m c g)) w (scl m c g) t e) (V1_mat m ρ c g)

/-- The channels' gradient. -/
theorem res_du (g : Fin 4) (t : Fin 4096) (e : Fin 256) :
    (W3 m ρ c (Proc.devRef .tc main_v3_0) : Vec Ideal S4096x3072 .bf16) (ix2 t ⟨(col g e).val, by omega⟩)
      = chanGrad (2 ^ g.val) (devGrad (outGrad m c g) (mat m c g) (scl m c g)) t e := by
  refine (congrFun (W3_arr m ρ c 5) _).trans ((array1_5 (V2 m ρ) c g t e).trans ?_)
  rw [V2_arg2, V2_arg3, V2_mat]
  exact congrArg (fun w => chanGrad (2 ^ g.val) (devGrad (outGrad m c g) w (scl m c g)) t e) (V1_mat m ρ c g)

/-- The matrices' gradient. -/
theorem res_dw (g : Fin 4) (b : Fin 8) (r : Fin 32) (e : Fin 256) :
    (W3 m ρ c (Proc.devRef .tc main_v3_1) : Vec Ideal S8x4x32x256 .bf16) (ix4 b g r e)
      = ∑ t, matTerm (dev (2 ^ g.val) (chan m c g)) (outGrad m c g) (scl m c g) ⟨b.val * 32 + r.val, by omega⟩ e t := by
  refine (congrFun (W3_arr m ρ c 6) _).trans ((array1_6 (V2 m ρ) c g b r e).trans ?_)
  rw [V2_arg2, V2_arg3]
  exact congrArg (fun d => ∑ t, matTerm d (outGrad m c g) (scl m c g) ⟨b.val * 32 + r.val, by omega⟩ e t) (V2_dev m ρ c g)

/-- The scales' gradient. -/
theorem res_ds (g : Fin 4) (e : Fin 256) :
    (W3 m ρ c (Proc.devRef .tc main_v3_2) : Vec Ideal S1x1024 .f32) (ix2 0 (col g e))
      = ∑ t, scaleTerm (dev (2 ^ g.val) (chan m c g)) (outGrad m c g) (mat m c g) e t := by
  refine (congrFun (W3_arr m ρ c 7) _).trans ((array1_7 (V2 m ρ) c g e).trans ?_)
  rw [V2_arg3, V2_mat]
  exact congrArg₂ (fun d w => ∑ t, scaleTerm d (outGrad m c g) w e t) (V2_dev m ρ c g) (V1_mat m ρ c g)

end Cert.KernelIdeal.Val
-- ==== Proof.SpecMask.lean ====
module
public import proofs.«01_k».proof.Proof.SpecBack
/-!
# Windows as masks

A window's mean is written as a product with a matrix of zeros and ones; such a product is the sum over
the window.
-/
@[expose] public section
set_option maxRecDepth 16384
noncomputable section
namespace Cert.PoolSpec
open Idealize.ShloMosaic

/-- The window's first row, as the words compute it. -/
theorem low_word : ∀ g : Fin 4, ∀ t : Fin 4096, IntOp.minsi 4096#32 (IntOp.maxsi 0#32 (IntOp.subi (BitVec.ofNat 32 t.val) (BitVec.ofNat 32 (2 ^ g.val))))
    = BitVec.ofNat 32 (t.val - 2 ^ g.val) := by decide +kernel
/-- The row after the window's last, as the words compute it. -/
theorem high_word : ∀ g : Fin 4, ∀ t : Fin 4096, IntOp.minsi 4096#32 (IntOp.maxsi 0#32 (IntOp.addi (BitVec.ofNat 32 t.val) (BitVec.ofNat 32 (2 ^ g.val))))
    = BitVec.ofNat 32 (min (t.val + 2 ^ g.val) 4096) := by decide +kernel

theorem toInt_small (n : ℕ) (hn : n ≤ 4096) : (BitVec.ofNat 32 n).toInt = (n : ℤ) := by
  rw [BitVec.toInt_eq_toNat_of_lt (by simp [BitVec.toNat_ofNat]; omega)]
  simp [BitVec.toNat_ofNat]; omega

/-- A mask's entry. -/
theorem mask_word (a b s : ℕ) (ha : a ≤ 4096) (hb : b ≤ 4096) (hs : s ≤ 4096) :
    FloatOps.uitofp (F := Ideal) .f32 (IntOp.andi (IntOp.cmpi .sle (BitVec.ofNat 32 a) (BitVec.ofNat 32 s)) (IntOp.cmpi .slt (BitVec.ofNat 32 s) (BitVec.ofNat 32 b)))
      = (if a ≤ s ∧ s < b then (1 : EReal) else 0) := by
  have h1 : IntOp.cmpi .sle (BitVec.ofNat 32 a) (BitVec.ofNat 32 s) = BitVec.ofBool (decide (a ≤ s)) := by
    show BitVec.ofBool ((BitVec.ofNat 32 a).sle (BitVec.ofNat 32 s)) = _
    rw [BitVec.sle_eq_decide, toInt_small a ha, toInt_small s hs]; simp
  have h2 : IntOp.cmpi .slt (BitVec.ofNat 32 s) (BitVec.ofNat 32 b) = BitVec.ofBool (decide (s < b)) := by
    show BitVec.ofBool ((BitVec.ofNat 32 s).slt (BitVec.ofNat 32 b)) = _
    rw [BitVec.slt_eq_decide, toInt_small b hb, toInt_small s hs]; simp
  rw [h1, h2]
  by_cases p : a ≤ s <;> by_cases q : s < b <;> simp [p, q, IntOp.andi, FloatOps.uitofp]

/-- A count's entry. -/
theorem count_word (g : Fin 4) (t : Fin 4096) :
    FloatOps.sitofp (F := Ideal) .f32 (IntOp.subi (BitVec.ofNat 32 (min (t.val + 2 ^ g.val) 4096)) (BitVec.ofNat 32 (t.val - 2 ^ g.val)))
      = (((count (2 ^ g.val) t.val : ℕ) : ℝ) : EReal) := by
  rw [← sitofp_count _ (count_le _ _)]
  congr 1
  unfold count
  show BitVec.ofNat 32 _ - BitVec.ofNat 32 _ = _
  apply BitVec.eq_of_toNat_eq
  have hg : 0 < 2 ^ g.val := by positivity
  generalize 2 ^ g.val = h at hg
  simp only [BitVec.toNat_sub, BitVec.toNat_ofNat]
  omega

/-- Dividing by a count is multiplying by its reciprocal. -/
theorem div_count (x : EReal) (h t : ℕ) (hh : 0 < h) (ht : t < 4096) :
    Ideal.div x (((count h t : ℕ) : ℝ) : EReal) = x * invCount h t := by
  have hc : (((count h t : ℕ) : ℝ) : EReal) ≠ 0 := by
    have := count_pos h t hh ht
    exact_mod_cast this.ne'
  unfold invCount Ideal.div
  rw [if_neg hc, if_neg hc, one_mul]

/-- A product with a mask sums the rows the mask keeps. -/
theorem sum_mask (f : Fin 4096 → Fin 256 → EReal) (c : Fin 256) (P : Fin 4096 → Prop) [DecidablePred P] (a b : ℕ) (hb : b ≤ 4128)
    (hP : ∀ s : Fin 4096, P s ↔ a ≤ 16 + s.val ∧ 16 + s.val < b) :
    ∑ s, f s c * (if P s then (1 : EReal) else 0) = ∑ j ∈ Finset.Ico a b, padded f j c := by
  have e : Finset.Ico a b = (Finset.range 4128).filter (fun j => a ≤ j ∧ j < b) := by
    ext j; simp only [Finset.mem_Ico, Finset.mem_filter, Finset.mem_range]; omega
  rw [e, Finset.sum_filter, show 4128 = 16 + 4096 + 16 from rfl, Finset.sum_range_add, Finset.sum_range_add]
  have z1 : ∑ j ∈ Finset.range 16, (if a ≤ j ∧ j < b then padded f j c else 0) = 0 := by
    refine Finset.sum_eq_zero fun j hj => ?_
    have := Finset.mem_range.mp hj
    have : padded f j c = 0 := dif_neg (by omega)
    rw [this, ite_self]
  have z2 : ∑ j ∈ Finset.range 16, (if a ≤ 16 + 4096 + j ∧ 16 + 4096 + j < b then padded f (16 + 4096 + j) c else 0) = 0 := by
    refine Finset.sum_eq_zero fun j hj => ?_
    have : padded f (16 + 4096 + j) c = 0 := dif_neg (by omega)
    rw [this, ite_self]
  rw [z1, z2, zero_add, add_zero, Finset.sum_range]
  refine Finset.sum_congr rfl fun s _ => ?_
  rw [padded_mid, mul_ite, mul_one, mul_zero]
  exact if_congr (hP s) rfl rfl

/-- The mean over a window, less the row. -/
theorem dev_mask (f : Fin 4096 → Fin 256 → EReal) (g : Fin 4) (t : Fin 4096) (c : Fin 256) :
    Ideal.div (∑ s : Fin 4096, f s c * (if t.val - 2 ^ g.val ≤ s.val ∧ s.val < min (t.val + 2 ^ g.val) 4096 then (1 : EReal) else 0))
      (((count (2 ^ g.val) t.val : ℕ) : ℝ) : EReal) - f t c = dev (2 ^ g.val) f t c := by
  have h8 : 2 ^ g.val ≤ 8 := Nat.pow_le_pow_right (n := 2) (by omega) (by omega : g.val ≤ 3)
  have hg : 0 < 2 ^ g.val := by positivity
  rw [div_count _ _ _ hg t.isLt, sum_mask f c _ (16 + t.val - 2 ^ g.val) (16 + t.val + 2 ^ g.val) (by omega) (fun s => by omega)]
  rfl

/-- Each row's share of the means it enters. -/
theorem share_mask (f : Fin 4096 → Fin 256 → EReal) (g : Fin 4) (t : Fin 4096) (c : Fin 256) :
    ∑ s : Fin 4096, Ideal.div (f s c) (((count (2 ^ g.val) s.val : ℕ) : ℝ) : EReal)
        * (if s.val - 2 ^ g.val ≤ t.val ∧ t.val < min (s.val + 2 ^ g.val) 4096 then (1 : EReal) else 0) - f t c = chanGrad (2 ^ g.val) f t c := by
  have h8 : 2 ^ g.val ≤ 8 := Nat.pow_le_pow_right (n := 2) (by omega) (by omega : g.val ≤ 3)
  have hg : 0 < 2 ^ g.val := by positivity
  simp only [fun s : Fin 4096 => div_count (f s c) _ _ hg s.isLt]
  rw [sum_mask (fun s c => f s c * invCount (2 ^ g.val) s.val) c _ (16 + t.val - (2 ^ g.val - 1)) (16 + t.val + (2 ^ g.val + 1)) (by omega) (fun s => by omega)]
  rfl

end Cert.PoolSpec
-- ==== Proof.RefPool.lean ====
module
public import proofs.«01_k».proof.Proof.SpecMask
public import proofs.«01_k».proof.Proof.Gen.ReferenceIdeal.Run
/-!
# The reference's values, entry by entry

The reference forms each group's means by a product with the window's mask; its entries are the pool's
quantities of the group's channels.
-/
@[expose] public section
set_option maxRecDepth 16384
noncomputable section
namespace Cert.ReferenceIdeal.Pool
open Idealize.ShloMosaic Cert.ReferenceIdeal Cert.ReferenceIdeal.Gen Cert.ReferenceIdeal.Value Cert.PoolSpec

variable (V : Valuation τ sig (Elt Ideal))

/-- The channels of group `g`. -/
def chan (g : Fin 4) (t : Fin 4096) (c : Fin 256) : EReal :=
  (V (Proc.devRef .tc main_arg0) : Vec Ideal S3x4096x1024 .f32) (ix3 0 t ⟨g.val * 256 + c.val, by omega⟩)
/-- The output gradient at group `g`. -/
def outGrad (g : Fin 4) (t : Fin 4096) (c : Fin 256) : EReal :=
  (V (Proc.devRef .tc main_arg3) : Vec Ideal S4096x2048 .f32) (ix2 t ⟨g.val * 256 + c.val, by omega⟩)
/-- The matrix of group `g`. -/
def mat (g : Fin 4) (a b : Fin 256) : EReal :=
  (V (Proc.devRef .tc main_arg1) : Vec Ideal S1x4x256x256 .f32) (ix4 0 g a b)
/-- The scales of group `g`. -/
def scl (g : Fin 4) (b : Fin 256) : EReal :=
  (V (Proc.devRef .tc main_arg2) : Vec Ideal S1x1024 .f32) (ix2 0 ⟨g.val * 256 + b.val, by omega⟩)
/-- The deviations' gradient of group `g`. -/
abbrev dgrad (g : Fin 4) : Fin 4096 → Fin 256 → EReal := devGrad (outGrad V g) (mat V g) (scl V g)

/-- The masks' words. -/
theorem mask_words (g : Fin 4) (t s : Fin 4096) :
    FloatOps.uitofp (F := Ideal) .f32 (IntOp.andi
        (IntOp.cmpi .sle (IntOp.minsi 4096#32 (IntOp.maxsi 0#32 (IntOp.subi (BitVec.ofNat 32 t.val) (BitVec.ofNat 32 (2 ^ g.val))))) (BitVec.ofNat 32 s.val))
        (IntOp.cmpi .slt (BitVec.ofNat 32 s.val) (IntOp.minsi 4096#32 (IntOp.maxsi 0#32 (IntOp.addi (BitVec.ofNat 32 t.val) (BitVec.ofNat 32 (2 ^ g.val)))))))
      = (if t.val - 2 ^ g.val ≤ s.val ∧ s.val < min (t.val + 2 ^ g.val) 4096 then (1 : EReal) else 0) := by
  rw [low_word, high_word]
  exact mask_word _ _ _ ((Nat.sub_le _ _).trans t.isLt.le) (min_le_right _ _) s.isLt.le

/-- The counts' words. -/
theorem count_words (g : Fin 4) (t : Fin 4096) :
    FloatOps.sitofp (F := Ideal) .f32 (IntOp.subi
        (IntOp.minsi 4096#32 (IntOp.maxsi 0#32 (IntOp.addi (BitVec.ofNat 32 t.val) (BitVec.ofNat 32 (2 ^ g.val)))))
        (IntOp.minsi 4096#32 (IntOp.maxsi 0#32 (IntOp.subi (BitVec.ofNat 32 t.val) (BitVec.ofNat 32 (2 ^ g.val))))))
      = (((count (2 ^ g.val) t.val : ℕ) : ℝ) : EReal) := by
  rw [low_word, high_word]
  exact count_word g t

theorem v1_apply (g : Fin 4) (a b : Fin 256) : (res_main_v1 V : Vec Ideal S4x256x256 .f32) (ix3 g a b) = mat V g a b := by
  unfold mat
  pointwise [res_main_v1]
theorem v3_apply (g : Fin 4) (t : Fin 4096) (c : Fin 256) : (res_main_v3 V : Vec Ideal S1x4096x4x256 .f32) (ix4 0 t g c) = chan V g t c := by
  unfold chan
  pointwise [res_main_v3]
theorem v139_apply (g : Fin 4) (t : Fin 4096) (c : Fin 256) : (res_main_v139 V : Vec Ideal S1x4096x4x256 .f32) (ix4 0 t g c) = dgrad V g t c := by
  show _ = ∑ e : Fin 256, outGrad V g t e * scl V g e * mat V g c e
  unfold outGrad scl
  simp only [← v1_apply]
  pointwise [res_main_v139, res_main_v137, res_main_v129, res_main_v125]

theorem mask0 (t s : Fin 4096) : (res_main_v24 V : Vec Ideal S4096x4096 .f32) (ix2 t s)
    = (if t.val - 2 ^ (0 : Fin 4).val ≤ s.val ∧ s.val < min (t.val + 2 ^ (0 : Fin 4).val) 4096 then (1 : EReal) else 0) := by
  refine Eq.trans ?_ (mask_words 0 t s)
  pointwise [res_main_v24, res_main_v9, res_main_v12, res_main_v6]
  rfl
theorem cnt0 (t : Fin 4096) : (res_main_v29 V : Vec Ideal S1x4096x1 .f32) (ix3 0 t 0)
    = (((count (2 ^ (0 : Fin 4).val) t.val : ℕ) : ℝ) : EReal) := by
  refine Eq.trans ?_ (count_words 0 t)
  pointwise [res_main_v29, res_main_v9, res_main_v12, res_main_v6]
  rfl

theorem mask1 (t s : Fin 4096) : (res_main_v52 V : Vec Ideal S4096x4096 .f32) (ix2 t s)
    = (if t.val - 2 ^ (1 : Fin 4).val ≤ s.val ∧ s.val < min (t.val + 2 ^ (1 : Fin 4).val) 4096 then (1 : EReal) else 0) := by
  refine Eq.trans ?_ (mask_words 1 t s)
  pointwise [res_main_v52, res_main_v37, res_main_v40, res_main_v34]
  rfl
theorem cnt1 (t : Fin 4096) : (res_main_v57 V : Vec Ideal S1x4096x1 .f32) (ix3 0 t 0)
    = (((count (2 ^ (1 : Fin 4).val) t.val : ℕ) : ℝ) : EReal) := by
  refine Eq.trans ?_ (count_words 1 t)
  pointwise [res_main_v57, res_main_v37, res_main_v40, res_main_v34]
  rfl

theorem mask2 (t s : Fin 4096) : (res_main_v80 V : Vec Ideal S4096x4096 .f32) (ix2 t s)
    = (if t.val - 2 ^ (2 : Fin 4).val ≤ s.val ∧ s.val < min (t.val + 2 ^ (2 : Fin 4).val) 4096 then (1 : EReal) else 0) := by
  refine Eq.trans ?_ (mask_words 2 t s)
  pointwise [res_main_v80, res_main_v65, res_main_v68, res_main_v62]
  rfl
theorem cnt2 (t : Fin 4096) : (res_main_v85 V : Vec Ideal S1x4096x1 .f32) (ix3 0 t 0)
    = (((count (2 ^ (2 : Fin 4).val) t.val : ℕ) : ℝ) : EReal) := by
  refine Eq.trans ?_ (count_words 2 t)
  pointwise [res_main_v85, res_main_v65, res_main_v68, res_main_v62]
  rfl

theorem mask3 (t s : Fin 4096) : (res_main_v108 V : Vec Ideal S4096x4096 .f32) (ix2 t s)
    = (if t.val - 2 ^ (3 : Fin 4).val ≤ s.val ∧ s.val < min (t.val + 2 ^ (3 : Fin 4).val) 4096 then (1 : EReal) else 0) := by
  refine Eq.trans ?_ (mask_words 3 t s)
  pointwise [res_main_v108, res_main_v93, res_main_v96, res_main_v90]
  rfl
theorem cnt3 (t : Fin 4096) : (res_main_v113 V : Vec Ideal S1x4096x1 .f32) (ix3 0 t 0)
    = (((count (2 ^ (3 : Fin 4).val) t.val : ℕ) : ℝ) : EReal) := by
  refine Eq.trans ?_ (count_words 3 t)
  pointwise [res_main_v113, res_main_v93, res_main_v96, res_main_v90]
  rfl

/-- The deviations. -/
theorem v121_apply (t : Fin 4096) (c : Fin 256) : ∀ g : Fin 4, (res_main_v121 V : Vec Ideal S1x4096x4x256 .f32) (ix4 0 t g c) = dev (2 ^ g.val) (chan V g) t c
  | 0 => by
    rw [← dev_mask]
    simp only [← mask0 V, ← cnt0 V, ← v3_apply]
    pointwise [res_main_v121]
  | 1 => by
    rw [← dev_mask]
    simp only [← mask1 V, ← cnt1 V, ← v3_apply]
    pointwise [res_main_v121]
  | 2 => by
    rw [← dev_mask]
    simp only [← mask2 V, ← cnt2 V, ← v3_apply]
    pointwise [res_main_v121]
  | 3 => by
    rw [← dev_mask]
    simp only [← mask3 V, ← cnt3 V, ← v3_apply]
    pointwise [res_main_v121]

theorem v124_apply (g : Fin 4) (t : Fin 4096) (c : Fin 256) :
    (res_main_v124 V : Vec Ideal S1x4096x1024 .f32) (ix3 0 t ⟨g.val * 256 + c.val, by omega⟩) = ∑ x : Fin 256, mat V g x c * dev (2 ^ g.val) (chan V g) t x := by
  simp only [← v1_apply, ← v121_apply]
  pointwise [res_main_v124]

/-- A column of group `g` as its group and its place in it. -/
theorem group_of (g : Fin 4) (c : Fin 256) : (g.val * 256 + c.val) / 256 = g.val ∧ (g.val * 256 + c.val) % 256 = c.val := by omega

end Cert.ReferenceIdeal.Pool
-- ==== Proof.RefResult.lean ====
module
public import proofs.«01_k».proof.Proof.RefPool
/-!
# The reference's results

Where the masks select them, the reference's four results are the pool's output and its gradients, group by
group.
-/
@[expose] public section
set_option maxRecDepth 16384
noncomputable section
namespace Cert.ReferenceIdeal.Pool
open Idealize.ShloMosaic Idealize.ShloMosaic.StableHlo Cert.ReferenceIdeal Cert.ReferenceIdeal.Gen Cert.ReferenceIdeal.Value Cert.PoolSpec
open Idealize.SL.Sem

/-- The last sum runs over one entry. -/
theorem reduce_ones (v : S1x1x1024.Idx → EReal) (k : Fin 1024) :
    Ideal.hostReduceAdd reducesTo_S1x1x1024_S1024_d0_1 v 0 (ix1 k) = v (ix3 0 0 k) := by
  unfold Ideal.hostReduceAdd
  rw [zero_add]
  refine (Finset.sum_congr (s₂ := {ix3 0 0 k}) ?_ fun _ _ => rfl).trans (Finset.sum_singleton _ _)
  ext i
  rw [Finset.mem_filter, Finset.mem_singleton]
  constructor
  · rintro ⟨-, e⟩
    funext a; apply Fin.ext
    match a with
    | ⟨0, _⟩ => exact Nat.lt_one_iff.mp (i 0).isLt
    | ⟨1, _⟩ => exact Nat.lt_one_iff.mp (i 1).isLt
    | ⟨2, _⟩ => exact congrArg Fin.val (congrFun e 0)
  · rintro rfl
    refine ⟨Finset.mem_univ _, ?_⟩
    funext b; apply Fin.ext
    match b with
    | ⟨0, _⟩ => rfl

set_option maxHeartbeats 1000000 in
/-- Every execution of the reference ends with the results at these entries and the arguments unchanged. -/
theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (g : Fin 4) (t : Fin 4096) (e : Fin 256), (r.2.mem ((c.tc : Thread nD τ).loc main_v188) : Vec Ideal S4096x2048 .bf16) (ix2 t ⟨g.val * 256 + e.val, by omega⟩)
          = (∑ x : Fin 256, mat (launchContents m c) g x e * dev (2 ^ g.val) (chan (launchContents m c) g) t x) * scl (launchContents m c) g e)
      ∧ (∀ (g : Fin 4) (t : Fin 4096) (e : Fin 256), (r.2.mem ((c.tc : Thread nD τ).loc main_v191) : Vec Ideal S4096x3072 .bf16) (ix2 t ⟨g.val * 256 + e.val, by omega⟩)
          = chanGrad (2 ^ g.val) (dgrad (launchContents m c) g) t e)
      ∧ (∀ (g : Fin 4) (b : Fin 8) (a : Fin 32) (e : Fin 256), (r.2.mem ((c.tc : Thread nD τ).loc main_v194) : Vec Ideal S8x4x32x256 .bf16) (ix4 b g a e)
          = ∑ t : Fin 4096, outGrad (launchContents m c) g t e * scl (launchContents m c) g e * dev (2 ^ g.val) (chan (launchContents m c) g) t ⟨b.val * 32 + a.val, by omega⟩)
      ∧ (∀ (g : Fin 4) (e : Fin 256), (r.2.mem ((c.tc : Thread nD τ).loc main_v184) : Vec Ideal S1x1024 .f32) (ix2 0 ⟨g.val * 256 + e.val, by omega⟩)
          = ∑ t : Fin 4096, (∑ x : Fin 256, mat (launchContents m c) g x e * dev (2 ^ g.val) (chan (launchContents m c) g) t x) * outGrad (launchContents m c) g t e)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_) (run m ρ)
  obtain ⟨h0, h1, h2, h3, hargs⟩ := h c
  clear h
  refine ⟨fun g t e => ?_, fun g t e => ?_, fun g b a e => ?_, fun g e => ?_, hargs⟩
  · rw [h0]
    clear h0 h1 h2 h3 hargs
    simp only [← v124_apply]
    unfold scl
    pointwise [res_main_v125]
    exact dif_pos (by omega)
  · rw [h1]
    clear h0 h1 h2 h3 hargs
    rw [← share_mask]
    simp only [← v139_apply]
    revert t e
    match g with
    | 0 =>
      intro t e
      simp only [← mask0 (launchContents m c), ← cnt0 (launchContents m c)]
      pointwise
      split_ifs <;> first | omega | skip
      have hd : e.val / 256 = 0 := by omega
      have hm : e.val % 256 = e.val := by omega
      simp only [hd, hm, add_zero]
      exact @add_comm EReal _ _ _
    | 1 =>
      intro t e
      simp only [← mask1 (launchContents m c), ← cnt1 (launchContents m c)]
      pointwise
      split_ifs <;> first | omega | skip
      have hd : (256 + e.val) / 256 = 1 := by omega
      have hm : (256 + e.val) % 256 = e.val := by omega
      simp only [hd, hm, add_zero]
      exact @add_comm EReal _ _ _
    | 2 =>
      intro t e
      simp only [← mask2 (launchContents m c), ← cnt2 (launchContents m c)]
      pointwise
      split_ifs <;> first | omega | skip
      have hd : (512 + e.val) / 256 = 2 := by omega
      have hm : (512 + e.val) % 256 = e.val := by omega
      simp only [hd, hm, add_zero]
      exact @add_comm EReal _ _ _
    | 3 =>
      intro t e
      simp only [← mask3 (launchContents m c), ← cnt3 (launchContents m c)]
      pointwise
      split_ifs <;> first | omega | skip
      have hd : (768 + e.val) / 256 = 3 := by omega
      have hm : (768 + e.val) % 256 = e.val := by omega
      simp only [hd, hm, add_zero]
      exact @add_comm EReal _ _ _
  · rw [h2]
    clear h0 h1 h2 h3 hargs
    unfold outGrad scl
    simp only [← v121_apply]
    pointwise [res_main_v137, res_main_v129, res_main_v125]
    exact @Fin.sum_univ_one EReal _ _
  · rw [h3]
    clear h0 h1 h2 h3 hargs
    simp only [← v124_apply]
    unfold outGrad
    pointwise [res_main_v129, reduce_ones]

end Cert.ReferenceIdeal.Pool
-- ==== Proof.Equation.lean ====
module
public import proofs.«01_k».proof.Proof.Result
public import proofs.«01_k».proof.Proof.RefResult
public import proofs.«01_k».proof.Proof.Gen.On_pool_written
public import Idealize.ShloMosaic.Lib.WordCmp
/-!
# Kernel and reference agree

From the same arguments the results of both programs agree entry by entry, where the kernel writes them.
-/
@[expose] public section
set_option maxRecDepth 16384
noncomputable section
namespace Cert.PoolEq
open Idealize.ShloMosaic Idealize.ShloMosaic.TcCoe Idealize.ShloMosaic.StableHlo Cert.PoolSpec
open Idealize.SL.Sem

/-- An entry of the mask: the coordinate is below the bound. -/
theorem below {n k : ℕ} (hn : n < 2 ^ 31) (hk : k < 2 ^ 31) (h : IntOp.cmpi .slt (BitVec.ofNat 32 n) (BitVec.ofNat 32 k) = 1#1) : n < k :=
  (WordCmp.cmpi_slt_ofNat_eq_one_iff (w := 32) hn hk).mp h

/-- A column below 1024 is a group and a column within it. -/
theorem column {n : ℕ} (j : Fin n) (h : j.val < 1024) : ∃ (g : Fin 4) (e : Fin 256), j.val = g.val * 256 + e.val :=
  ⟨⟨j.val / 256, by omega⟩, ⟨j.val % 256, by omega⟩, by simp only; omega⟩

theorem idx2 {a b : ℕ} (i : (⟨2, ![a, b]⟩ : Shape).Idx) : i = ValueIdx.ix2 (i 0) (i 1) := by
  funext k
  match k with
  | ⟨0, _⟩ => rfl
  | ⟨1, _⟩ => rfl
theorem idx4 {a b c d : ℕ} (i : (⟨4, ![a, b, c, d]⟩ : Shape).Idx) : i = ValueIdx.ix4 (i 0) (i 1) (i 2) (i 3) := by
  funext k
  match k with
  | ⟨0, _⟩ => rfl
  | ⟨1, _⟩ => rfl
  | ⟨2, _⟩ => rfl
  | ⟨3, _⟩ => rfl

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (c : Dev KernelIdeal.nD)

theorem chan_eq (h : m' ((c.tc : Thread ReferenceIdeal.nD ReferenceIdeal.τ).loc ReferenceIdeal.main_arg0) = m ((c.tc : Thread KernelIdeal.nD KernelIdeal.τ).loc KernelIdeal.main_arg0))
    (g : Fin 4) : ReferenceIdeal.Pool.chan (launchContents m' c) g = KernelIdeal.Val.chan m c g := by
  funext t e
  refine (congrFun h _).trans ?_
  unfold KernelIdeal.Val.chan KernelIdeal.Val.col
  simp only [Nat.mul_comm]

theorem outGrad_eq (h : m' ((c.tc : Thread ReferenceIdeal.nD ReferenceIdeal.τ).loc ReferenceIdeal.main_arg3) = m ((c.tc : Thread KernelIdeal.nD KernelIdeal.τ).loc KernelIdeal.main_arg3))
    (g : Fin 4) : ReferenceIdeal.Pool.outGrad (launchContents m' c) g = KernelIdeal.Val.outGrad m c g := by
  funext t e
  refine (congrFun h _).trans ?_
  unfold KernelIdeal.Val.outGrad KernelIdeal.Val.col
  simp only [Nat.mul_comm]

theorem mat_eq (h : m' ((c.tc : Thread ReferenceIdeal.nD ReferenceIdeal.τ).loc ReferenceIdeal.main_arg1) = m ((c.tc : Thread KernelIdeal.nD KernelIdeal.τ).loc KernelIdeal.main_arg1))
    (g : Fin 4) : ReferenceIdeal.Pool.mat (launchContents m' c) g = KernelIdeal.Val.mat m c g := by
  funext a b
  exact congrFun h _

theorem scl_eq (h : m' ((c.tc : Thread ReferenceIdeal.nD ReferenceIdeal.τ).loc ReferenceIdeal.main_arg2) = m ((c.tc : Thread KernelIdeal.nD KernelIdeal.τ).loc KernelIdeal.main_arg2))
    (g : Fin 4) : ReferenceIdeal.Pool.scl (launchContents m' c) g = KernelIdeal.Val.scl m c g := by
  funext e
  refine (congrFun h _).trans ?_
  unfold KernelIdeal.Val.scl KernelIdeal.Val.col
  simp only [Nat.mul_comm]

/-- The reference's order of the factors. -/
theorem outRow_comm (d : Fin 4096 → Fin 256 → EReal) (w : Fin 256 → Fin 256 → EReal) (s : Fin 256 → EReal) (t : Fin 4096) (e : Fin 256) :
    KernelIdeal.Val.outRow d w s t e = (∑ x, w x e * d t x) * s e := by
  unfold KernelIdeal.Val.outRow
  exact congrArg (· * s e) (Finset.sum_congr rfl fun _ _ => mul_comm _ _)
theorem matTerm_comm (d y : Fin 4096 → Fin 256 → EReal) (s : Fin 256 → EReal) (a b : Fin 256) :
    ∑ t, matTerm d y s a b t = ∑ t, y t b * s b * d t a :=
  Finset.sum_congr rfl fun _ _ => mul_comm _ _
theorem scaleTerm_comm (d y : Fin 4096 → Fin 256 → EReal) (w : Fin 256 → Fin 256 → EReal) (b : Fin 256) :
    ∑ t, scaleTerm d y w b t = ∑ t, (∑ x, w x b * d t x) * y t b := by
  refine Finset.sum_congr rfl fun t _ => ?_
  unfold scaleTerm
  rw [mul_comm]
  exact congrArg (· * y t b) (Finset.sum_congr rfl fun _ _ => mul_comm _ _)

/-! ## Where the mask is set -/

variable (a0 : FVec Ideal On_pool_written.S3x4096x1024 .f32) (a1 : FVec Ideal On_pool_written.S1x4x256x256 .f32)
  (a2 : FVec Ideal On_pool_written.S1x1024 .f32) (a3 : FVec Ideal On_pool_written.S4096x2048 .f32) (a4 : FVec Ideal On_pool_written.S8x128 .f32)

theorem mask_y (i : (⟨2, ![4096, 2048]⟩ : Shape).Idx) (h : (On_pool_written.fn a0 a1 a2 a3 a4).1 i = 1#1) : (i 1).val < 1024 :=
  below (lt_of_lt_of_le (i 1).isLt (by decide)) (by decide) h
theorem mask_du (i : (⟨2, ![4096, 3072]⟩ : Shape).Idx) (h : (On_pool_written.fn a0 a1 a2 a3 a4).2.1 i = 1#1) : (i 1).val < 1024 :=
  below (lt_of_lt_of_le (i 1).isLt (by decide)) (by decide) h

/-! ## The four results -/

variable (ρ : Dev KernelIdeal.nD → PrngReg)

theorem eq_y (A : Vec Ideal ReferenceIdeal.S4096x2048 .bf16)
    (hA : ∀ (g : Fin 4) (t : Fin 4096) (e : Fin 256), A (ValueIdx.ix2 t ⟨g.val * 256 + e.val, by omega⟩)
      = (∑ x : Fin 256, KernelIdeal.Val.mat m c g x e * dev (2 ^ g.val) (KernelIdeal.Val.chan m c g) t x) * KernelIdeal.Val.scl m c g e)
    (i : (⟨2, ![4096, 2048]⟩ : Shape).Idx) (h : (i 1).val < 1024) :
    A i = (KernelIdeal.Run.W3 m ρ c (Proc.devRef .tc KernelIdeal.main_v2_1) : Vec Ideal KernelIdeal.S4096x2048 .bf16) i := by
  obtain ⟨g, e, he⟩ := column (i 1) h
  have hi : i = ValueIdx.ix2 (i 0) ⟨g.val * 256 + e.val, by omega⟩ := (idx2 i).trans (congrArg (ValueIdx.ix2 (i 0)) (Fin.ext he))
  have hk : (⟨g.val * 256 + e.val, by omega⟩ : Fin 2048) = ⟨(KernelIdeal.Val.col g e).val, by omega⟩ :=
    Fin.ext (congrArg (· + e.val) (Nat.mul_comm _ _))
  rw [hi]
  refine (hA g (i 0) e).trans (Eq.trans ?_ (congrArg (fun j => (KernelIdeal.Run.W3 m ρ c (Proc.devRef .tc KernelIdeal.main_v2_1) : Vec Ideal KernelIdeal.S4096x2048 .bf16) (ValueIdx.ix2 (i 0) j)) hk).symm)
  exact (outRow_comm _ _ _ _ _).symm.trans (KernelIdeal.Val.res_y m ρ c g (i 0) e).symm

theorem eq_du (A : Vec Ideal ReferenceIdeal.S4096x3072 .bf16)
    (hA : ∀ (g : Fin 4) (t : Fin 4096) (e : Fin 256), A (ValueIdx.ix2 t ⟨g.val * 256 + e.val, by omega⟩)
      = chanGrad (2 ^ g.val) (devGrad (KernelIdeal.Val.outGrad m c g) (KernelIdeal.Val.mat m c g) (KernelIdeal.Val.scl m c g)) t e)
    (i : (⟨2, ![4096, 3072]⟩ : Shape).Idx) (h : (i 1).val < 1024) :
    A i = (KernelIdeal.Run.W3 m ρ c (Proc.devRef .tc KernelIdeal.main_v3_0) : Vec Ideal KernelIdeal.S4096x3072 .bf16) i := by
  obtain ⟨g, e, he⟩ := column (i 1) h
  have hi : i = ValueIdx.ix2 (i 0) ⟨g.val * 256 + e.val, by omega⟩ := (idx2 i).trans (congrArg (ValueIdx.ix2 (i 0)) (Fin.ext he))
  have hk : (⟨g.val * 256 + e.val, by omega⟩ : Fin 3072) = ⟨(KernelIdeal.Val.col g e).val, by omega⟩ :=
    Fin.ext (congrArg (· + e.val) (Nat.mul_comm _ _))
  rw [hi]
  refine (hA g (i 0) e).trans (Eq.trans ?_ (congrArg (fun j => (KernelIdeal.Run.W3 m ρ c (Proc.devRef .tc KernelIdeal.main_v3_0) : Vec Ideal KernelIdeal.S4096x3072 .bf16) (ValueIdx.ix2 (i 0) j)) hk).symm)
  exact (KernelIdeal.Val.res_du m ρ c g (i 0) e).symm

theorem eq_dw (A : Vec Ideal ReferenceIdeal.S8x4x32x256 .bf16)
    (hA : ∀ (g : Fin 4) (b : Fin 8) (a : Fin 32) (e : Fin 256), A (ValueIdx.ix4 b g a e)
      = ∑ t : Fin 4096, KernelIdeal.Val.outGrad m c g t e * KernelIdeal.Val.scl m c g e * dev (2 ^ g.val) (KernelIdeal.Val.chan m c g) t ⟨b.val * 32 + a.val, by omega⟩)
    (i : (⟨4, ![8, 4, 32, 256]⟩ : Shape).Idx) :
    A i = (KernelIdeal.Run.W3 m ρ c (Proc.devRef .tc KernelIdeal.main_v3_1) : Vec Ideal KernelIdeal.S8x4x32x256 .bf16) i := by
  rw [idx4 i]
  exact (hA (i 1) (i 0) (i 2) (i 3)).trans ((matTerm_comm _ _ _ _ _).symm.trans (KernelIdeal.Val.res_dw m ρ c (i 1) (i 0) (i 2) (i 3)).symm)

theorem eq_ds (A : Vec Ideal ReferenceIdeal.S1x1024 .f32)
    (hA : ∀ (g : Fin 4) (e : Fin 256), A (ValueIdx.ix2 0 ⟨g.val * 256 + e.val, by omega⟩)
      = ∑ t : Fin 4096, (∑ x : Fin 256, KernelIdeal.Val.mat m c g x e * dev (2 ^ g.val) (KernelIdeal.Val.chan m c g) t x) * KernelIdeal.Val.outGrad m c g t e)
    (i : (⟨2, ![1, 1024]⟩ : Shape).Idx) :
    A i = (KernelIdeal.Run.W3 m ρ c (Proc.devRef .tc KernelIdeal.main_v3_2) : Vec Ideal KernelIdeal.S1x1024 .f32) i := by
  obtain ⟨g, e, he⟩ := column (i 1) (i 1).isLt
  have h0 : i 0 = (0 : Fin 1) := Fin.ext (Nat.lt_one_iff.mp (i 0).isLt)
  have hi : i = ValueIdx.ix2 0 ⟨g.val * 256 + e.val, by omega⟩ :=
    (idx2 i).trans ((congrArg (fun z : Fin 1 => ValueIdx.ix2 z (i 1)) h0).trans (congrArg (ValueIdx.ix2 0) (Fin.ext he)))
  have hk : (⟨g.val * 256 + e.val, by omega⟩ : Fin 1024) = KernelIdeal.Val.col g e :=
    Fin.ext (congrArg (· + e.val) (Nat.mul_comm _ _))
  rw [hi]
  refine (hA g e).trans (Eq.trans ?_ (congrArg (fun j => (KernelIdeal.Run.W3 m ρ c (Proc.devRef .tc KernelIdeal.main_v3_2) : Vec Ideal KernelIdeal.S1x1024 .f32) (ValueIdx.ix2 0 j)) hk).symm)
  exact (scaleTerm_comm _ _ _ _).symm.trans (KernelIdeal.Val.res_ds m ρ c g e).symm

end Cert.PoolEq
-- ==== Proof.Act.lean ====
module
public import proofs.«01_k».proof.Proof.Gen.HiddenIdeal.Frame
public import Idealize.ShloMosaic.Lib.Pipeline.ValueKit.Geometry
public import Idealize.ShloMosaic.Lib.Pointwise
/-!
# The hidden layer's blocks

Each grid point of the hidden layer's three kernels, as sums over the blocks it loads. The first and the
last kernel write four column blocks of their output one after another; every one is the same function of
the entry's place.
-/
@[expose] public section
set_option maxRecDepth 16384
noncomputable section
namespace Cert.HiddenIdeal.Val
open Idealize.ShloMosaic Idealize.ShloMosaic.TcCoe Idealize.ShloMosaic.Pipeline Cert.HiddenIdeal Cert.HiddenIdeal.Gen
open Idealize.SL Idealize.SL.Sem Idealize.ShloMosaic.ValueKit

theorem hz2 : (![0, 0] : Fin 2 → Nat) = fun _ => 0 := funext fun a => by fin_cases a <;> rfl

/-- The word of two. -/
def two : EReal := FloatOps.ofBits (F := Ideal) .f32 0x40000000#32
/-- The word of zero. -/
def zero : EReal := FloatOps.ofBits (F := Ideal) .f32 0x00000000#32

section payloads
variable (x : Vec Ideal S1024x2048 .bf16) (w : Vec Ideal S2048x512 .bf16) (v : Vec Ideal S512x2048 .bf16) (a : Vec Ideal S1024x512 .bf16)
  (r : Fin 1024) (e : Fin 512)

/-- An entry of a column block's product, cut at zero. -/
def cut : EReal := max (∑ k : Fin 2048, x (ix2 r k) * w (ix2 k e)) zero
/-- An entry of the second weights' product, times the activation's derivative. -/
def back : EReal := (∑ k : Fin 2048, x (ix2 r k) * v (ix2 e k)) * a (ix2 r e)

theorem pay2 : k0_pay2 x w (ix2 r e) = cut x w r e := by unfold cut zero; pointwise [k0_pay2]
theorem pay5 : k0_pay5 x w (ix2 r e) = cut x w r e := by unfold cut zero; pointwise [k0_pay5]
theorem pay8 : k0_pay8 x w (ix2 r e) = cut x w r e := by unfold cut zero; pointwise [k0_pay8]
theorem pay11 : k0_pay11 x w (ix2 r e) = cut x w r e := by unfold cut zero; pointwise [k0_pay11]
theorem pay3 : k0_pay3 x w (ix2 r e) = cut x w r e * cut x w r e := by rw [← pay2]; pointwise [k0_pay3]
theorem pay6 : k0_pay6 x w (ix2 r e) = cut x w r e * cut x w r e := by rw [← pay5]; pointwise [k0_pay6]
theorem pay9 : k0_pay9 x w (ix2 r e) = cut x w r e * cut x w r e := by rw [← pay8]; pointwise [k0_pay9]
theorem pay12 : k0_pay12 x w (ix2 r e) = cut x w r e * cut x w r e := by rw [← pay11]; pointwise [k0_pay12]
theorem pay4 : k0_pay4 x w (ix2 r e) = two * cut x w r e := by rw [← pay2]; unfold two; pointwise [k0_pay4]
theorem pay7 : k0_pay7 x w (ix2 r e) = two * cut x w r e := by rw [← pay5]; unfold two; pointwise [k0_pay7]
theorem pay10 : k0_pay10 x w (ix2 r e) = two * cut x w r e := by rw [← pay8]; unfold two; pointwise [k0_pay10]
theorem pay1 : k0_pay1 (k0_pay11 x w) (ix2 r e) = two * cut x w r e := by rw [← pay11]; unfold two; pointwise [k0_pay1]

theorem dpay2 : k2_pay2 x v a (ix2 r e) = back x v a r e := by unfold back; pointwise [k2_pay2]
theorem dpay3 : k2_pay3 x v a (ix2 r e) = back x v a r e := by unfold back; pointwise [k2_pay3]
theorem dpay4 : k2_pay4 x v a (ix2 r e) = back x v a r e := by unfold back; pointwise [k2_pay4]
theorem dpay1 : k2_pay1 (k2_pay5 x v) a (ix2 r e) = back x v a r e := by unfold back; pointwise [k2_pay1, k2_pay5]

end payloads

theorem wpay (h : Vec Ideal S4096x512 .bf16) (z : Vec Ideal S4096x2048 .bf16) (r : Fin 512) (d : Fin 2048) :
    k1_pay1 h z (ix2 r d) = ∑ t : Fin 4096, h (ix2 t r) * z (ix2 t d) := by
  pointwise [k1_pay1]

section blocks
variable (x0 : Vec Ideal S1024x2048 .bf16) (x1 : Vec Ideal S2048x2048 .bf16)

/-- The activation's entry of a block. -/
def act (r : Fin 1024) (q : Fin 2048) : EReal := max (∑ k : Fin 2048, x0 (ix2 r k) * x1 (ix2 k q)) zero
/-- The hidden gradient's entry of a block, before the activation's derivative. -/
def dact (r : Fin 1024) (q : Fin 2048) : EReal := ∑ k : Fin 2048, x0 (ix2 r k) * x1 (ix2 q k)

theorem ld_x (r : Fin 1024) (k : Fin 2048) : View.ld x0 r0_0 (ix2 r k) = x0 (ix2 r k) :=
  congrFun (View.ld_unit_zero (S := S1024x2048) hz2 _ x0) _

/-- A column block's cut product is the block's at the entry's place. -/
theorem cut_eq (off : Nat) (hw : ∀ a, ![0, off] a + S2048x512.size a ≤ S2048x2048.size a) (ho : ∀ a, ![0, off] a + S1024x512.size a ≤ S1024x2048.size a)
    (r : Fin 1024) (e : Fin 512) :
    cut (View.ld x0 r0_0) (View.ld x1 (Rect.unit (s := S2048x2048) ![0, off] S2048x512.size hw)) r e
      = act x0 x1 ((Rect.unit (s := S1024x2048) ![0, off] S1024x512.size ho).emb (ix2 r e) 0) ((Rect.unit (s := S1024x2048) ![0, off] S1024x512.size ho).emb (ix2 r e) 1) := by
  unfold cut act
  refine congrArg (fun s : EReal => max s zero) (Finset.sum_congr rfl fun k _ => congrArg₂ (fun a b : EReal => a * b) ((ld_x x0 r k).trans (congrArg x0 ?_)) (congrArg x1 ?_))
  · refine funext fun a => Fin.ext ?_
    fin_cases a
    · exact ((rect_emb_unit_val (s := S1024x2048) ![0, off] S1024x512.size ho (ix2 r e) 0).trans (Nat.zero_add _)).symm
    · rfl
  · refine funext fun a => Fin.ext ?_
    fin_cases a
    · exact (rect_emb_unit_val (s := S2048x2048) ![0, off] S2048x512.size hw (ix2 k e) 0).trans (Nat.zero_add _)
    · exact (rect_emb_unit_val (s := S2048x2048) ![0, off] S2048x512.size hw (ix2 k e) 1).trans (rect_emb_unit_val (s := S1024x2048) ![0, off] S1024x512.size ho (ix2 r e) 1).symm

/-- Likewise the gradient's, from a row block of the second weights and a column block of the derivative. -/
theorem back_eq (x2 : Vec Ideal S1024x2048 .bf16) (off : Nat) (hw : ∀ a, ![off, 0] a + S512x2048.size a ≤ S2048x2048.size a) (ho : ∀ a, ![0, off] a + S1024x512.size a ≤ S1024x2048.size a)
    (r : Fin 1024) (e : Fin 512) :
    back (View.ld x0 r2_0) (View.ld x1 (Rect.unit (s := S2048x2048) ![off, 0] S512x2048.size hw)) (View.ld x2 (Rect.unit (s := S1024x2048) ![0, off] S1024x512.size ho)) r e
      = dact x0 x1 ((Rect.unit (s := S1024x2048) ![0, off] S1024x512.size ho).emb (ix2 r e) 0) ((Rect.unit (s := S1024x2048) ![0, off] S1024x512.size ho).emb (ix2 r e) 1)
        * x2 ((Rect.unit (s := S1024x2048) ![0, off] S1024x512.size ho).emb (ix2 r e)) := by
  unfold back dact
  refine congrArg (fun s : EReal => s * _) (Finset.sum_congr rfl fun k _ => congrArg₂ (fun a b : EReal => a * b) ((ld_x x0 r k).trans (congrArg x0 ?_)) (congrArg x1 ?_))
  · refine funext fun a => Fin.ext ?_
    fin_cases a
    · exact ((rect_emb_unit_val (s := S1024x2048) ![0, off] S1024x512.size ho (ix2 r e) 0).trans (Nat.zero_add _)).symm
    · rfl
  · refine funext fun a => Fin.ext ?_
    fin_cases a
    · exact (rect_emb_unit_val (s := S2048x2048) ![off, 0] S512x2048.size hw (ix2 e k) 0).trans (rect_emb_unit_val (s := S1024x2048) ![0, off] S1024x512.size ho (ix2 r e) 1).symm
    · exact (rect_emb_unit_val (s := S2048x2048) ![off, 0] S512x2048.size hw (ix2 e k) 1).trans (Nat.zero_add _)

theorem out_hidden (r : Fin 1024) (q : Fin 2048) : out0_2 x0 x1 (ix2 r q) = act x0 x1 r q * act x0 x1 r q := by
  refine View.canon_apply_of_pieces (Val := Elt Ideal) (S := S1024x2048) (e := .bf16) (fun y => act x0 x1 (y 0) (y 1) * act x0 x1 (y 0) (y 1)) _ ?_ (ix2 r q) (cover0_2 _ _ _ _ _)
  intro p hp
  simp only [List.mem_cons, List.not_mem_nil, or_false] at hp
  have h (a b : EReal) (e : a = b) : a * a = b * b := congrArg (fun s : EReal => s * s) e
  rcases hp with rfl | rfl | rfl | rfl <;> refine fun x => ?_ <;> obtain ⟨a, b, rfl⟩ : ∃ (a : Fin 1024) (b : Fin 512), x = ix2 a b := ⟨_, _, ValueIdx.eq_ix2 x⟩
  · exact (pay3 _ _ _ _).trans (h _ _ (cut_eq x0 x1 1536 inb_S2048x2048_S2048x512_0_1536 inb_S1024x2048_S1024x512_0_1536 a b))
  · exact (pay12 _ _ _ _).trans (h _ _ (cut_eq x0 x1 1024 inb_S2048x2048_S2048x512_0_1024 inb_S1024x2048_S1024x512_0_1024 a b))
  · exact (pay9 _ _ _ _).trans (h _ _ (cut_eq x0 x1 512 inb_S2048x2048_S2048x512_0_512 inb_S1024x2048_S1024x512_0_512 a b))
  · exact (pay6 _ _ _ _).trans (h _ _ (cut_eq x0 x1 0 inb_S2048x2048_S2048x512_0_0 inb_S1024x2048_S1024x512_0_0 a b))

theorem out_deriv (r : Fin 1024) (q : Fin 2048) : out0_3 x0 x1 (ix2 r q) = two * act x0 x1 r q := by
  refine View.canon_apply_of_pieces (Val := Elt Ideal) (S := S1024x2048) (e := .bf16) (fun y => two * act x0 x1 (y 0) (y 1)) _ ?_ (ix2 r q) (cover0_3 _ _ _ _ _)
  intro p hp
  simp only [List.mem_cons, List.not_mem_nil, or_false] at hp
  have h (a b : EReal) (e : a = b) : two * a = two * b := congrArg (fun s : EReal => two * s) e
  rcases hp with rfl | rfl | rfl | rfl <;> refine fun x => ?_ <;> obtain ⟨a, b, rfl⟩ : ∃ (a : Fin 1024) (b : Fin 512), x = ix2 a b := ⟨_, _, ValueIdx.eq_ix2 x⟩
  · exact (pay4 _ _ _ _).trans (h _ _ (cut_eq x0 x1 1536 inb_S2048x2048_S2048x512_0_1536 inb_S1024x2048_S1024x512_0_1536 a b))
  · exact (pay1 _ _ _ _).trans (h _ _ (cut_eq x0 x1 1024 inb_S2048x2048_S2048x512_0_1024 inb_S1024x2048_S1024x512_0_1024 a b))
  · exact (pay10 _ _ _ _).trans (h _ _ (cut_eq x0 x1 512 inb_S2048x2048_S2048x512_0_512 inb_S1024x2048_S1024x512_0_512 a b))
  · exact (pay7 _ _ _ _).trans (h _ _ (cut_eq x0 x1 0 inb_S2048x2048_S2048x512_0_0 inb_S1024x2048_S1024x512_0_0 a b))

theorem out_back (x2 : Vec Ideal S1024x2048 .bf16) (x3 : Vec Ideal S8x128 .f32) (r : Fin 1024) (q : Fin 2048) :
    out2_4 x0 x1 x2 x3 (ix2 r q) = dact x0 x1 r q * x2 (ix2 r q) := by
  refine View.canon_apply_of_pieces (Val := Elt Ideal) (S := S1024x2048) (e := .bf16) (fun y => dact x0 x1 (y 0) (y 1) * x2 y) _ ?_ (ix2 r q) (cover2_4 _ _ _ _ _)
  intro p hp
  simp only [List.mem_cons, List.not_mem_nil, or_false] at hp
  rcases hp with rfl | rfl | rfl | rfl <;> refine fun x => ?_ <;> obtain ⟨a, b, rfl⟩ : ∃ (a : Fin 1024) (b : Fin 512), x = ix2 a b := ⟨_, _, ValueIdx.eq_ix2 x⟩
  · exact (dpay1 _ _ _ _ _).trans (back_eq x0 x1 x2 1536 _ _ _ _)
  · exact (dpay4 _ _ _ _ _).trans (back_eq x0 x1 x2 1024 _ _ _ _)
  · exact (dpay3 _ _ _ _ _).trans (back_eq x0 x1 x2 512 _ _ _ _)
  · exact (dpay2 _ _ _ _ _).trans (back_eq x0 x1 x2 0 _ _ _ _)

theorem out_weight (h : Vec Ideal S4096x512 .bf16) (z : Vec Ideal S4096x2048 .bf16) (r : Fin 512) (d : Fin 2048) :
    out1_2 h z (ix2 r d) = ∑ t : Fin 4096, h (ix2 t r) * z (ix2 t d) := by
  refine (congrFun (View.canon_unit_zero hz2 _ _) (ix2 r d)).trans ((wpay _ _ r d).trans ?_)
  rw [View.ld_unit_zero (S := S4096x512) hz2, View.ld_unit_zero (S := S4096x2048) hz2]

end blocks
end Cert.HiddenIdeal.Val
-- ==== Proof.ActArray.lean ====
module
public import proofs.«01_k».proof.Proof.Act
/-!
# The hidden layer's arrays

The arrays the three kernels leave, from the arrays at their entry: the squared activation and its
derivative, the gradient of the second weights, and the hidden gradient.
-/
@[expose] public section
set_option maxRecDepth 16384
noncomputable section
namespace Cert.HiddenIdeal.Val
open Idealize.ShloMosaic Idealize.ShloMosaic.TcCoe Idealize.ShloMosaic.Pipeline Cert.HiddenIdeal Cert.HiddenIdeal.Gen
open Idealize.SL Idealize.SL.Sem

/-- The point of column block `j` and row block `i`, in the first and in the last kernel. -/
def pt0 (j i : Fin 4) : Fin cfg0.N := ⟨4 * j.val + i.val, (by omega : 4 * j.val + i.val < 16).trans_eq N_0.symm⟩
def pt2 (j i : Fin 4) : Fin cfg2.N := ⟨4 * j.val + i.val, (by omega : 4 * j.val + i.val < 16).trans_eq N_2.symm⟩
/-- The point of column block `j` in the second kernel. -/
def pt1 (j : Fin 16) : Fin cfg1.N := ⟨j.val, (by omega : j.val < 16).trans_eq N_1.symm⟩

/-- Row `r` of row block `i`. -/
def row (i : Fin 4) (r : Fin 1024) : Fin 4096 := ⟨1024 * i.val + r.val, by omega⟩
/-- Column `q` of column block `j`. -/
def col (j : Fin 4) (q : Fin 2048) : Fin 8192 := ⟨2048 * j.val + q.val, by omega⟩
/-- Column `q` of the narrow column block `j`. -/
def nar (j : Fin 16) (q : Fin 512) : Fin 8192 := ⟨512 * j.val + q.val, by omega⟩

theorem at_blocks (t : Fin 4096) (f : Fin 8192) : ∃ (i j : Fin 4) (r : Fin 1024) (q : Fin 2048), t = row i r ∧ f = col j q :=
  ⟨⟨t.val / 1024, by omega⟩, ⟨f.val / 2048, by omega⟩, ⟨t.val % 1024, by omega⟩, ⟨f.val % 2048, by omega⟩,
    Fin.ext (by show t.val = 1024 * (t.val / 1024) + t.val % 1024; omega), Fin.ext (by show f.val = 2048 * (f.val / 2048) + f.val % 2048; omega)⟩

theorem index0_0 : ∀ t : Fin cfg0.N, win0_0.index t 0 = t.val % 4 ∧ win0_0.index t 1 = 0 := by decide +kernel
theorem index0_1 : ∀ t : Fin cfg0.N, win0_1.index t 0 = 0 ∧ win0_1.index t 1 = t.val / 4 := by decide +kernel
theorem index0_2 : ∀ t : Fin cfg0.N, win0_2.index t 0 = t.val % 4 ∧ win0_2.index t 1 = t.val / 4 := by decide +kernel
theorem index0_3 : ∀ t : Fin cfg0.N, win0_3.index t 0 = t.val % 4 ∧ win0_3.index t 1 = t.val / 4 := by decide +kernel
theorem index1_0 : ∀ t : Fin cfg1.N, win1_0.index t 0 = 0 ∧ win1_0.index t 1 = t.val := by decide +kernel
theorem index1_1 : ∀ t : Fin cfg1.N, win1_1.index t 0 = 0 ∧ win1_1.index t 1 = 0 := by decide +kernel
theorem index1_2 : ∀ t : Fin cfg1.N, win1_2.index t 0 = t.val ∧ win1_2.index t 1 = 0 := by decide +kernel
theorem index2_0 : ∀ t : Fin cfg2.N, win2_0.index t 0 = t.val % 4 ∧ win2_0.index t 1 = 0 := by decide +kernel
theorem index2_1 : ∀ t : Fin cfg2.N, win2_1.index t 0 = t.val / 4 ∧ win2_1.index t 1 = 0 := by decide +kernel
theorem index2_2 : ∀ t : Fin cfg2.N, win2_2.index t 0 = t.val % 4 ∧ win2_2.index t 1 = t.val / 4 := by decide +kernel
theorem index2_4 : ∀ t : Fin cfg2.N, win2_4.index t 0 = t.val % 4 ∧ win2_4.index t 1 = t.val / 4 := by decide +kernel

/-- A block's entry of a matrix, from the block's index. -/
theorem at_ix {n0 n1 : ℕ} (y : (⟨2, ![n0, n1]⟩ : Shape).Idx) (a : Fin n0) (b : Fin n1) (ha : (y 0 : ℕ) = a.val) (hb : (y 1 : ℕ) = b.val) : y = ix2 a b :=
  (ValueIdx.eq_ix2 y).trans (congrArg₂ ix2 (Fin.ext ha) (Fin.ext hb))

variable (V : (c : Dev nD) → (b : Ref sig .tc) → Buf (Elt Ideal) ((c : Thread nD τ).loc b)) (c : Dev nD)

/-- The arrays at the kernels' entry. -/
def inp (t : Fin 4096) (k : Fin 2048) : EReal := (V c main_arg0 : Vec Ideal S4096x2048 .bf16) (ix2 t k)
def wgt1 (k : Fin 2048) (f : Fin 8192) : EReal := (V c main_arg1 : Vec Ideal S2048x8192 .bf16) (ix2 k f)
def wgt2 (f : Fin 8192) (k : Fin 2048) : EReal := (V c main_arg2 : Vec Ideal S8192x2048 .bf16) (ix2 f k)
def grd (t : Fin 4096) (k : Fin 2048) : EReal := (V c main_arg3 : Vec Ideal S4096x2048 .bf16) (ix2 t k)
def hid (t : Fin 4096) (f : Fin 8192) : EReal := (V c main_v0_0 : Vec Ideal S4096x8192 .bf16) (ix2 t f)
def der (t : Fin 4096) (f : Fin 8192) : EReal := (V c main_v0_1 : Vec Ideal S4096x8192 .bf16) (ix2 t f)

theorem div4 (j i : Fin 4) : (4 * j.val + i.val) / 4 = j.val := by omega
theorem mod4 (j i : Fin 4) : (4 * j.val + i.val) % 4 = i.val := by omega

theorem blk0_0 (j i : Fin 4) (r : Fin 1024) (k : Fin 2048) : (iblk0 V c 0 (pt0 j i) : Vec Ideal S1024x2048 .bf16) (ix2 r k) = inp V c (row i r) k := by
  obtain ⟨h0, h1⟩ := index0_0 (pt0 j i)
  refine congrArg (V c main_arg0 : Vec Ideal S4096x2048 .bf16) (at_ix _ _ _ ((Window.rect_emb_val win0_0 (pt0 j i) (ix2 r k) 0).trans ?_) ((Window.rect_emb_val win0_0 (pt0 j i) (ix2 r k) 1).trans ?_))
  · show win0_0.index (pt0 j i) 0 * 1024 + r.val = 1024 * i.val + r.val
    rw [h0]; show (4 * j.val + i.val) % 4 * 1024 + _ = _; omega
  · show win0_0.index (pt0 j i) 1 * 2048 + k.val = k.val
    rw [h1]; omega
theorem blk0_1 (j i : Fin 4) (k q : Fin 2048) : (iblk0 V c 1 (pt0 j i) : Vec Ideal S2048x2048 .bf16) (ix2 k q) = wgt1 V c k (col j q) := by
  obtain ⟨h0, h1⟩ := index0_1 (pt0 j i)
  refine congrArg (V c main_arg1 : Vec Ideal S2048x8192 .bf16) (at_ix _ _ _ ((Window.rect_emb_val win0_1 (pt0 j i) (ix2 k q) 0).trans ?_) ((Window.rect_emb_val win0_1 (pt0 j i) (ix2 k q) 1).trans ?_))
  · show win0_1.index (pt0 j i) 0 * 2048 + k.val = k.val
    rw [h0]; omega
  · show win0_1.index (pt0 j i) 1 * 2048 + q.val = 2048 * j.val + q.val
    rw [h1]; show (4 * j.val + i.val) / 4 * 2048 + _ = _; omega
theorem blk1_0 (j : Fin 16) (t : Fin 4096) (q : Fin 512) : (iblk1 V c 0 (pt1 j) : Vec Ideal S4096x512 .bf16) (ix2 t q) = hid V c t (nar j q) := by
  obtain ⟨h0, h1⟩ := index1_0 (pt1 j)
  refine congrArg (V c main_v0_0 : Vec Ideal S4096x8192 .bf16) (at_ix _ _ _ ((Window.rect_emb_val win1_0 (pt1 j) (ix2 t q) 0).trans ?_) ((Window.rect_emb_val win1_0 (pt1 j) (ix2 t q) 1).trans ?_))
  · show win1_0.index (pt1 j) 0 * 4096 + t.val = t.val
    rw [h0]; omega
  · show win1_0.index (pt1 j) 1 * 512 + q.val = 512 * j.val + q.val
    rw [h1]; show j.val * 512 + _ = _; omega
theorem blk1_1 (j : Fin 16) (t : Fin 4096) (d : Fin 2048) : (iblk1 V c 1 (pt1 j) : Vec Ideal S4096x2048 .bf16) (ix2 t d) = grd V c t d := by
  obtain ⟨h0, h1⟩ := index1_1 (pt1 j)
  refine congrArg (V c main_arg3 : Vec Ideal S4096x2048 .bf16) (at_ix _ _ _ ((Window.rect_emb_val win1_1 (pt1 j) (ix2 t d) 0).trans ?_) ((Window.rect_emb_val win1_1 (pt1 j) (ix2 t d) 1).trans ?_))
  · show win1_1.index (pt1 j) 0 * 4096 + t.val = t.val
    rw [h0]; omega
  · show win1_1.index (pt1 j) 1 * 2048 + d.val = d.val
    rw [h1]; omega
theorem blk2_0 (j i : Fin 4) (r : Fin 1024) (k : Fin 2048) : (iblk2 V c 0 (pt2 j i) : Vec Ideal S1024x2048 .bf16) (ix2 r k) = grd V c (row i r) k := by
  obtain ⟨h0, h1⟩ := index2_0 (pt2 j i)
  refine congrArg (V c main_arg3 : Vec Ideal S4096x2048 .bf16) (at_ix _ _ _ ((Window.rect_emb_val win2_0 (pt2 j i) (ix2 r k) 0).trans ?_) ((Window.rect_emb_val win2_0 (pt2 j i) (ix2 r k) 1).trans ?_))
  · show win2_0.index (pt2 j i) 0 * 1024 + r.val = 1024 * i.val + r.val
    rw [h0]; show (4 * j.val + i.val) % 4 * 1024 + _ = _; omega
  · show win2_0.index (pt2 j i) 1 * 2048 + k.val = k.val
    rw [h1]; omega
theorem blk2_1 (j i : Fin 4) (q k : Fin 2048) : (iblk2 V c 1 (pt2 j i) : Vec Ideal S2048x2048 .bf16) (ix2 q k) = wgt2 V c (col j q) k := by
  obtain ⟨h0, h1⟩ := index2_1 (pt2 j i)
  refine congrArg (V c main_arg2 : Vec Ideal S8192x2048 .bf16) (at_ix _ _ _ ((Window.rect_emb_val win2_1 (pt2 j i) (ix2 q k) 0).trans ?_) ((Window.rect_emb_val win2_1 (pt2 j i) (ix2 q k) 1).trans ?_))
  · show win2_1.index (pt2 j i) 0 * 2048 + q.val = 2048 * j.val + q.val
    rw [h0]; show (4 * j.val + i.val) / 4 * 2048 + _ = _; omega
  · show win2_1.index (pt2 j i) 1 * 2048 + k.val = k.val
    rw [h1]; omega
theorem blk2_2 (j i : Fin 4) (r : Fin 1024) (q : Fin 2048) : (iblk2 V c 2 (pt2 j i) : Vec Ideal S1024x2048 .bf16) (ix2 r q) = der V c (row i r) (col j q) := by
  obtain ⟨h0, h1⟩ := index2_2 (pt2 j i)
  refine congrArg (V c main_v0_1 : Vec Ideal S4096x8192 .bf16) (at_ix _ _ _ ((Window.rect_emb_val win2_2 (pt2 j i) (ix2 r q) 0).trans ?_) ((Window.rect_emb_val win2_2 (pt2 j i) (ix2 r q) 1).trans ?_))
  · show win2_2.index (pt2 j i) 0 * 1024 + r.val = 1024 * i.val + r.val
    rw [h0]; show (4 * j.val + i.val) % 4 * 1024 + _ = _; omega
  · show win2_2.index (pt2 j i) 1 * 2048 + q.val = 2048 * j.val + q.val
    rw [h1]; show (4 * j.val + i.val) / 4 * 2048 + _ = _; omega

/-- The first product cut at zero. -/
def relu (t : Fin 4096) (f : Fin 8192) : EReal := max (∑ k : Fin 2048, inp V c t k * wgt1 V c k f) zero

theorem act_blk (j i : Fin 4) (r : Fin 1024) (q : Fin 2048) : act (iblk0 V c 0 (pt0 j i)) (iblk0 V c 1 (pt0 j i)) r q = relu V c (row i r) (col j q) :=
  congrArg (fun s : EReal => max s zero) (Finset.sum_congr rfl fun k _ => congrArg₂ (fun a b : EReal => a * b) (blk0_0 V c j i r k) (blk0_1 V c j i k q))

/-- The squared activation. -/
theorem array_hid (t : Fin 4096) (f : Fin 8192) : ((dat0 V c).arrAt 2 cfg0.N : Vec Ideal S4096x8192 .bf16) (ix2 t f) = relu V c t f * relu V c t f := by
  obtain ⟨i, j, r, q, rfl, rfl⟩ := at_blocks t f
  have hi : (((cfg0.win 2).blk (pt0 j i)).view.emb (ix2 r q) : S4096x8192.Idx) = ix2 (row i r) (col j q) := by
    obtain ⟨h0, h1⟩ := index0_2 (pt0 j i)
    refine at_ix _ _ _ ((Window.rect_emb_val win0_2 (pt0 j i) (ix2 r q) 0).trans ?_) ((Window.rect_emb_val win0_2 (pt0 j i) (ix2 r q) 1).trans ?_)
    · show win0_2.index (pt0 j i) 0 * 1024 + r.val = 1024 * i.val + r.val
      rw [h0]; show (4 * j.val + i.val) % 4 * 1024 + _ = _; omega
    · show win0_2.index (pt0 j i) 1 * 2048 + q.val = 2048 * j.val + q.val
      rw [h1]; show (4 * j.val + i.val) / 4 * 2048 + _ = _; omega
  rw [← hi]
  refine ((dat0 V c).arrAt_emb_eq_flushed 2 (Window.hdisj_of_index_inj _ (by decide +kernel)) (pt0 j i) (flush0_2 _) (ix2 r q)).trans ?_
  exact (congrFun (after0_2 V c (pt0 j i)) (ix2 r q)).trans ((out_hidden _ _ r q).trans (congrArg (fun s : EReal => s * s) (act_blk V c j i r q)))

/-- The activation's derivative. -/
theorem array_der (t : Fin 4096) (f : Fin 8192) : ((dat0 V c).arrAt 3 cfg0.N : Vec Ideal S4096x8192 .bf16) (ix2 t f) = two * relu V c t f := by
  obtain ⟨i, j, r, q, rfl, rfl⟩ := at_blocks t f
  have hi : (((cfg0.win 3).blk (pt0 j i)).view.emb (ix2 r q) : S4096x8192.Idx) = ix2 (row i r) (col j q) := by
    obtain ⟨h0, h1⟩ := index0_3 (pt0 j i)
    refine at_ix _ _ _ ((Window.rect_emb_val win0_3 (pt0 j i) (ix2 r q) 0).trans ?_) ((Window.rect_emb_val win0_3 (pt0 j i) (ix2 r q) 1).trans ?_)
    · show win0_3.index (pt0 j i) 0 * 1024 + r.val = 1024 * i.val + r.val
      rw [h0]; show (4 * j.val + i.val) % 4 * 1024 + _ = _; omega
    · show win0_3.index (pt0 j i) 1 * 2048 + q.val = 2048 * j.val + q.val
      rw [h1]; show (4 * j.val + i.val) / 4 * 2048 + _ = _; omega
  rw [← hi]
  refine ((dat0 V c).arrAt_emb_eq_flushed 3 (Window.hdisj_of_index_inj _ (by decide +kernel)) (pt0 j i) (flush0_3 _) (ix2 r q)).trans ?_
  exact (congrFun (after0_3 V c (pt0 j i)) (ix2 r q)).trans ((out_deriv _ _ r q).trans (congrArg (fun s : EReal => two * s) (act_blk V c j i r q)))

/-- The gradient of the second weights, from the activation at the kernel's entry. -/
theorem array_wgt (f : Fin 8192) (d : Fin 2048) : ((dat1 V c).arrAt 2 cfg1.N : Vec Ideal S8192x2048 .bf16) (ix2 f d) = ∑ t : Fin 4096, hid V c t f * grd V c t d := by
  obtain ⟨j, q, rfl⟩ : ∃ (j : Fin 16) (q : Fin 512), f = nar j q :=
    ⟨⟨f.val / 512, by omega⟩, ⟨f.val % 512, by omega⟩, Fin.ext (by show f.val = 512 * (f.val / 512) + f.val % 512; omega)⟩
  have hi : (((cfg1.win 2).blk (pt1 j)).view.emb (ix2 q d) : S8192x2048.Idx) = ix2 (nar j q) d := by
    obtain ⟨h0, h1⟩ := index1_2 (pt1 j)
    refine at_ix _ _ _ ((Window.rect_emb_val win1_2 (pt1 j) (ix2 q d) 0).trans ?_) ((Window.rect_emb_val win1_2 (pt1 j) (ix2 q d) 1).trans ?_)
    · show win1_2.index (pt1 j) 0 * 512 + q.val = 512 * j.val + q.val
      rw [h0]; show j.val * 512 + _ = _; omega
    · show win1_2.index (pt1 j) 1 * 2048 + d.val = d.val
      rw [h1]; omega
  rw [← hi]
  refine ((dat1 V c).arrAt_emb_eq_flushed 2 (Window.hdisj_of_index_inj _ (by decide +kernel)) (pt1 j) (flush1_2 _) (ix2 q d)).trans ?_
  refine (congrFun (after1_2 V c (pt1 j)) (ix2 q d)).trans ((out_weight _ _ q d).trans ?_)
  exact Finset.sum_congr rfl fun t _ => congrArg₂ (fun a b : EReal => a * b) (blk1_0 V c j t q) (blk1_1 V c j t d)

/-- The hidden gradient, from the derivative at the kernel's entry. -/
theorem array_back (t : Fin 4096) (f : Fin 8192) :
    ((dat2 V c).arrAt 4 cfg2.N : Vec Ideal S4096x8192 .bf16) (ix2 t f) = (∑ k : Fin 2048, grd V c t k * wgt2 V c f k) * der V c t f := by
  obtain ⟨i, j, r, q, rfl, rfl⟩ := at_blocks t f
  have hi : (((cfg2.win 4).blk (pt2 j i)).view.emb (ix2 r q) : S4096x8192.Idx) = ix2 (row i r) (col j q) := by
    obtain ⟨h0, h1⟩ := index2_4 (pt2 j i)
    refine at_ix _ _ _ ((Window.rect_emb_val win2_4 (pt2 j i) (ix2 r q) 0).trans ?_) ((Window.rect_emb_val win2_4 (pt2 j i) (ix2 r q) 1).trans ?_)
    · show win2_4.index (pt2 j i) 0 * 1024 + r.val = 1024 * i.val + r.val
      rw [h0]; show (4 * j.val + i.val) % 4 * 1024 + _ = _; omega
    · show win2_4.index (pt2 j i) 1 * 2048 + q.val = 2048 * j.val + q.val
      rw [h1]; show (4 * j.val + i.val) / 4 * 2048 + _ = _; omega
  rw [← hi]
  refine ((dat2 V c).arrAt_emb_eq_flushed 4 (Window.hdisj_of_index_inj _ (by decide +kernel)) (pt2 j i) (flush2_4 _) (ix2 r q)).trans ?_
  refine (congrFun (after2_4 V c (pt2 j i)) (ix2 r q)).trans ((out_back _ _ _ _ r q).trans ?_)
  exact congrArg₂ (fun a b : EReal => a * b) (Finset.sum_congr rfl fun k _ => congrArg₂ (fun a b : EReal => a * b) (blk2_0 V c j i r k) (blk2_1 V c j i q k)) (blk2_2 V c j i r q)

end Cert.HiddenIdeal.Val
-- ==== Proof.ActRun.lean ====
module
public import proofs.«01_k».proof.Proof.ActArray
/-!
# The hidden layer's run

Every execution of the three kernels ends with the buffers at the contents that the steps give; the results
are read back to the arguments.
-/
@[expose] public section
set_option maxRecDepth 16384
noncomputable section
namespace Cert.HiddenIdeal.Val
open Cert.HiddenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends without fault, every buffer at the contents after the last step and every counter at zero. -/
theorem whole : θ_run defs (onTc (τ := τ) (main (F := Ideal))) ⟨m, fun _ => 0, ρ⟩ (fun r =>
      (∀ c : Dev nD, ∀ b ∈ Pipeline.ucRefs τ sig, r.2.mem (((c : Thread nD τ)).1, b) = W3 m ρ c b) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- The results and the arguments at the end. -/
theorem run_bufs : θ_run defs (onTc (τ := τ) (main (F := Ideal))) ⟨m, fun _ => 0, ρ⟩ (fun r => ∀ c : Dev nD,
      r.2.mem ((c.tc : Thread nD τ).loc main_v0_0) = W3 m ρ c (Proc.devRef .tc main_v0_0)
      ∧ r.2.mem ((c.tc : Thread nD τ).loc main_v1) = W3 m ρ c (Proc.devRef .tc main_v1)
      ∧ r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h.1 c _ (mem_uc main_v0_0 (by decide)), h.1 c _ (mem_uc main_v1 (by decide)), h.1 c _ (mem_uc main_v2 (by decide)),
     (h.1 c _ (mem_uc main_arg0 (by decide))).trans (W3_main_arg0 m ρ c),
     (h.1 c _ (mem_uc main_arg1 (by decide))).trans (W3_main_arg1 m ρ c),
     (h.1 c _ (mem_uc main_arg2 (by decide))).trans (W3_main_arg2 m ρ c),
     (h.1 c _ (mem_uc main_arg3 (by decide))).trans (W3_main_arg3 m ρ c),
     (h.1 c _ (mem_uc main_arg4 (by decide))).trans (W3_main_arg4 m ρ c)⟩) (whole m ρ)

variable (c : Dev nD)

/-- The squared activation after the first kernel, -/
theorem at_hid : W1 m ρ c (Proc.devRef .tc main_v0_0) = (dat0 (V0 m ρ) c).arrAt 2 cfg0.N := W1_arr m ρ c 2
/-- and its derivative, which the second kernel leaves. -/
theorem at_der : W2 m ρ c (Proc.devRef .tc main_v0_1) = (dat0 (V0 m ρ) c).arrAt 3 cfg0.N :=
  (W2_of m ρ c main_v0_1 (by decide)).trans (W1_arr m ρ c 3)

/-- The first result. -/
theorem res_hid (t : Fin 4096) (f : Fin 8192) :
    (W3 m ρ c (Proc.devRef .tc main_v0_0) : Vec Ideal S4096x8192 .bf16) (ix2 t f) = relu (V0 m ρ) c t f * relu (V0 m ρ) c t f :=
  (congrFun ((W3_of m ρ c main_v0_0 (by decide)).trans ((W2_of m ρ c main_v0_0 (by decide)).trans (at_hid m ρ c))) (ix2 t f)).trans (array_hid (V0 m ρ) c t f)

/-- The second result. -/
theorem res_wgt (f : Fin 8192) (d : Fin 2048) :
    (W3 m ρ c (Proc.devRef .tc main_v1) : Vec Ideal S8192x2048 .bf16) (ix2 f d)
      = ∑ t : Fin 4096, relu (V0 m ρ) c t f * relu (V0 m ρ) c t f * grd (V0 m ρ) c t d := by
  have hs : (∑ t : Fin 4096, hid (V1 m ρ) c t f * grd (V1 m ρ) c t d) = ∑ t : Fin 4096, relu (V0 m ρ) c t f * relu (V0 m ρ) c t f * grd (V0 m ρ) c t d :=
    Finset.sum_congr rfl fun t _ => congrArg₂ (fun a b : EReal => a * b) ((congrFun (at_hid m ρ c) (ix2 t f)).trans (array_hid (V0 m ρ) c t f))
      (congrFun (W1_args m ρ c main_arg3 (by decide)) (ix2 t d))
  exact (congrFun ((W3_of m ρ c main_v1 (by decide)).trans (W2_arr m ρ c 2)) (ix2 f d)).trans ((array_wgt (V1 m ρ) c f d).trans hs)

/-- The third result. -/
theorem res_back (t : Fin 4096) (f : Fin 8192) :
    (W3 m ρ c (Proc.devRef .tc main_v2) : Vec Ideal S4096x8192 .bf16) (ix2 t f)
      = (∑ k : Fin 2048, grd (V0 m ρ) c t k * wgt2 (V0 m ρ) c f k) * (two * relu (V0 m ρ) c t f) := by
  have hs : (∑ k : Fin 2048, grd (V2 m ρ) c t k * wgt2 (V2 m ρ) c f k) = ∑ k : Fin 2048, grd (V0 m ρ) c t k * wgt2 (V0 m ρ) c f k :=
    Finset.sum_congr rfl fun k _ => congrArg₂ (fun a b : EReal => a * b) (congrFun (W2_args m ρ c main_arg3 (by decide)) (ix2 t k))
      (congrFun (W2_args m ρ c main_arg2 (by decide)) (ix2 f k))
  have hd : der (V2 m ρ) c t f = two * relu (V0 m ρ) c t f := (congrFun (at_der m ρ c) (ix2 t f)).trans (array_der (V0 m ρ) c t f)
  exact (congrFun (W3_arr m ρ c 4) (ix2 t f)).trans ((array_back (V2 m ρ) c t f).trans (congrArg₂ (fun a b : EReal => a * b) hs hd))

end Cert.HiddenIdeal.Val
-- ==== Proof.ActRef.lean ====
module
public import proofs.«01_k».proof.Proof.Gen.HiddenReferenceIdeal.Run
public import proofs.«01_k».proof.Proof.Gen.MlpOutReferenceIdeal.Run
public import proofs.«01_k».proof.Proof.Gen.MlpDxReferenceIdeal.Run
public import proofs.«01_k».proof.Proof.Gen.GradWReferenceIdeal.Run
public import Idealize.ShloMosaic.Lib.Pointwise
/-!
# The layer's references, entry by entry
-/
@[expose] public section
set_option maxRecDepth 16384
noncomputable section
open Idealize.ShloMosaic Idealize.ShloMosaic.StableHlo

namespace Cert.MlpOutReferenceIdeal.Val
open Cert.MlpOutReferenceIdeal Cert.MlpOutReferenceIdeal.Gen
/-- The layer's output. -/
def out (h : FVec Ideal S4096x8192 .bf16) (w : FVec Ideal S8192x2048 .bf16) : FVec Ideal S4096x2048 .f32 :=
  shapeCast _ (Host.dotGeneral dot_S1x4096x8192_S8192x2048_S1x4096x2048_2_0_01_1_n_n none (extf .f32 (broadcastInDim S1x4096x8192 ![1, 2] bcast_S4096x8192_S1x4096x8192_1_2 h) bitsLt_bf16_f32) (extf .f32 w bitsLt_bf16_f32)) shapeCasts_S1x4096x2048_S4096x2048
theorem out_apply (h : Vec Ideal S4096x8192 .bf16) (w : Vec Ideal S8192x2048 .bf16) (t : Fin 4096) (d : Fin 2048) :
    (out h w : Vec Ideal S4096x2048 .f32) (ix2 t d) = ∑ f : Fin 8192, h (ix2 t f) * w (ix2 f d) := by
  pointwise [out]
end Cert.MlpOutReferenceIdeal.Val

namespace Cert.MlpDxReferenceIdeal.Val
open Cert.MlpDxReferenceIdeal Cert.MlpDxReferenceIdeal.Gen
/-- The input's gradient. -/
def out (h : FVec Ideal S4096x8192 .bf16) (w : FVec Ideal S2048x8192 .bf16) : FVec Ideal S4096x2048 .f32 :=
  shapeCast _ (Host.dotGeneral dot_S1x4096x8192_S2048x8192_S1x4096x2048_2_1_01_0_n_n none (extf .f32 (broadcastInDim S1x4096x8192 ![1, 2] bcast_S4096x8192_S1x4096x8192_1_2 h) bitsLt_bf16_f32) (extf .f32 w bitsLt_bf16_f32)) shapeCasts_S1x4096x2048_S4096x2048
theorem out_apply (h : Vec Ideal S4096x8192 .bf16) (w : Vec Ideal S2048x8192 .bf16) (t : Fin 4096) (d : Fin 2048) :
    (out h w : Vec Ideal S4096x2048 .f32) (ix2 t d) = ∑ f : Fin 8192, h (ix2 t f) * w (ix2 d f) := by
  pointwise [out]
end Cert.MlpDxReferenceIdeal.Val

namespace Cert.GradWReferenceIdeal.Val
open Cert.GradWReferenceIdeal Cert.GradWReferenceIdeal.Gen
/-- The product over the rows. -/
def dot (x : FVec Ideal S4096x2048 .bf16) (g : FVec Ideal S4096x8192 .bf16) : FVec Ideal S8192x2048 .f32 :=
  Host.dotGeneral dot_S1x4096x8192_S1x4096x2048_S8192x2048_01_01_2_2_n_n none (extf .f32 (broadcastInDim S1x4096x8192 ![1, 2] bcast_S4096x8192_S1x4096x8192_1_2 g) bitsLt_bf16_f32) (extf .f32 (broadcastInDim S1x4096x2048 ![1, 2] bcast_S4096x2048_S1x4096x2048_1_2 x) bitsLt_bf16_f32)
/-- The weights' gradient in slots. -/
def out (x : FVec Ideal S4096x2048 .bf16) (g : FVec Ideal S4096x8192 .bf16) : FVec Ideal S8x2048x1024 .bf16 :=
  truncf .bf16 (transpose S8x2048x1024 [1, 0, 2] (shapeCast _ (transpose S2048x8192 [1, 0] (dot x g) transposes_S8192x2048_S2048x8192_1_0) shapeCasts_S2048x8192_S2048x8x1024) transposes_S2048x8x1024_S8x2048x1024_1_0_2) bitsLt_bf16_f32
theorem dot_apply (x : Vec Ideal S4096x2048 .bf16) (g : Vec Ideal S4096x8192 .bf16) (f : Fin 8192) (d : Fin 2048) :
    (dot x g : Vec Ideal S8192x2048 .f32) (ix2 f d) = ∑ t : Fin 4096, g (ix2 t f) * x (ix2 t d) := by
  pointwise [dot]
  exact Fin.sum_univ_one _
theorem out_apply (x : Vec Ideal S4096x2048 .bf16) (g : Vec Ideal S4096x8192 .bf16) (j : Fin 8) (d : Fin 2048) (e : Fin 1024) :
    (out x g : Vec Ideal S8x2048x1024 .bf16) (ix3 j d e) = ∑ t : Fin 4096, g (ix2 t ⟨1024 * j.val + e.val, by omega⟩) * x (ix2 t d) := by
  refine Eq.trans ?_ (dot_apply x g ⟨1024 * j.val + e.val, by omega⟩ d)
  pointwise [out]
  exact congrArg (fun k : Fin 8192 => (dot x g : Vec Ideal S8192x2048 .f32) (ix2 k d)) (Fin.ext (by show j.val * 1024 + e.val = 1024 * j.val + e.val; omega))
end Cert.GradWReferenceIdeal.Val

namespace Cert.HiddenReferenceIdeal.Val
open Cert.HiddenReferenceIdeal Cert.HiddenReferenceIdeal.Gen
variable (x : Vec Ideal S4096x2048 .bf16) (w : Vec Ideal S2048x8192 .bf16) (v : Vec Ideal S8192x2048 .bf16) (z : Vec Ideal S4096x2048 .bf16)
/-- The first product, -/
def pre : FVec Ideal S1x4096x8192 .f32 :=
  Host.dotGeneral dot_S1x4096x2048_S2048x8192_S1x4096x8192_2_0_01_1_n_n none (extf .f32 (broadcastInDim S1x4096x2048 ![1, 2] bcast_S4096x2048_S1x4096x2048_1_2 x) bitsLt_bf16_f32) (extf .f32 w bitsLt_bf16_f32)
/-- the zeros, -/
def zeros : FVec Ideal S1x4096x8192 .f32 := broadcastInDim S1x4096x8192 ![] bcast_S_S1x4096x8192 (constant S_ .f32 0x00000000#32)
/-- the product cut at zero, -/
def relu : FVec Ideal S1x4096x8192 .f32 := maximumf (pre x w) zeros
/-- the activation, -/
def hid : FVec Ideal S4096x8192 .bf16 := truncf .bf16 (shapeCast _ (mulf (relu x w) (relu x w)) shapeCasts_S1x4096x8192_S4096x8192) bitsLt_bf16_f32
/-- the second weights' gradient, -/
def wgt : FVec Ideal S8192x2048 .bf16 :=
  truncf .bf16 (transpose S8192x2048 [1, 0] (Host.dotGeneral dot_S1x4096x2048_S1x4096x8192_S2048x8192_01_01_2_2_n_n none (extf .f32 (broadcastInDim S1x4096x2048 ![1, 2] bcast_S4096x2048_S1x4096x2048_1_2 z) bitsLt_bf16_f32) (mulf (relu x w) (relu x w))) transposes_S2048x8192_S8192x2048_1_0) bitsLt_bf16_f32
/-- the activation's gradient, -/
def gact : FVec Ideal S1x4096x8192 .f32 :=
  Host.dotGeneral dot_S1x4096x2048_S8192x2048_S1x4096x8192_2_1_01_0_n_n none (extf .f32 (broadcastInDim S1x4096x2048 ![1, 2] bcast_S4096x2048_S1x4096x2048_1_2 z) bitsLt_bf16_f32) (extf .f32 v bitsLt_bf16_f32)
/-- and the hidden gradient. -/
def back : FVec Ideal S4096x8192 .bf16 :=
  truncf .bf16 (shapeCast _ (select (cmpf .ogt (pre x w) zeros) (mulf (gact v z) (mulf (broadcastInDim S1x4096x8192 ![] bcast_S_S1x4096x8192 (constant S_ .f32 0x40000000#32)) (relu x w))) zeros) shapeCasts_S1x4096x8192_S4096x8192) bitsLt_bf16_f32

/-- The words of zero and of two. -/
def zero : EReal := FloatOps.ofBits (F := Ideal) .f32 0x00000000#32
def two : EReal := FloatOps.ofBits (F := Ideal) .f32 0x40000000#32

theorem pre_apply (t : Fin 4096) (f : Fin 8192) : (pre x w : Vec Ideal S1x4096x8192 .f32) (ix3 0 t f) = ∑ k : Fin 2048, x (ix2 t k) * w (ix2 k f) := by
  pointwise [pre]
theorem gact_apply (t : Fin 4096) (f : Fin 8192) : (gact v z : Vec Ideal S1x4096x8192 .f32) (ix3 0 t f) = ∑ k : Fin 2048, z (ix2 t k) * v (ix2 f k) := by
  pointwise [gact]
theorem relu_apply (t : Fin 4096) (f : Fin 8192) : (relu x w : Vec Ideal S1x4096x8192 .f32) (ix3 0 t f) = max (∑ k : Fin 2048, x (ix2 t k) * w (ix2 k f)) zero := by
  rw [← pre_apply]
  unfold zero
  pointwise [relu, zeros]
theorem hid_apply (t : Fin 4096) (f : Fin 8192) : (hid x w : Vec Ideal S4096x8192 .bf16) (ix2 t f) = (relu x w : Vec Ideal S1x4096x8192 .f32) (ix3 0 t f) * (relu x w : Vec Ideal S1x4096x8192 .f32) (ix3 0 t f) := by
  pointwise [hid]
theorem wgt_apply (f : Fin 8192) (d : Fin 2048) : (wgt x w z : Vec Ideal S8192x2048 .bf16) (ix2 f d) = ∑ t : Fin 4096, z (ix2 t d) * ((relu x w : Vec Ideal S1x4096x8192 .f32) (ix3 0 t f) * (relu x w : Vec Ideal S1x4096x8192 .f32) (ix3 0 t f)) := by
  pointwise [wgt]
  exact Fin.sum_univ_one _
theorem back_apply (t : Fin 4096) (f : Fin 8192) :
    (back x w v z : Vec Ideal S4096x8192 .bf16) (ix2 t f) = if zero < (pre x w : Vec Ideal S1x4096x8192 .f32) (ix3 0 t f) then (gact v z : Vec Ideal S1x4096x8192 .f32) (ix3 0 t f) * (two * (relu x w : Vec Ideal S1x4096x8192 .f32) (ix3 0 t f)) else zero := by
  unfold zero two
  pointwise [back, zeros]

end Cert.HiddenReferenceIdeal.Val
-- ==== Proof.Dx.lean ====
module
public import proofs.«01_k».proof.Proof.Gen.MlpDxIdeal.Value
public import Idealize.ShloMosaic.Lib.Pipeline.ValueKit.Geometry
public import Idealize.ShloMosaic.Lib.Pointwise
/-!
# The gradient of the layer's input

The kernel adds, block by block of the hidden axis, the products of the hidden gradient with the
weights; the last block's point writes the sum back.
-/
@[expose] public section
set_option maxRecDepth 16384
noncomputable section
namespace Cert.MlpDxIdeal.Val
open Idealize.ShloMosaic Idealize.ShloMosaic.TcCoe Idealize.ShloMosaic.Pipeline Cert.MlpDxIdeal Cert.MlpDxIdeal.Gen
open Idealize.SL Idealize.SL.Sem

theorem hz : (![0, 0] : Fin 2 → Nat) = fun _ => 0 := funext fun a => by fin_cases a <;> rfl

/-- One block's product. -/
theorem pay1_apply (x : Vec Ideal S1024x2048 .bf16) (w : Vec Ideal S2048x2048 .bf16) (r : Fin 1024) (d : Fin 2048) :
    k0_pay1 x w (ix2 r d) = ∑ f : Fin 2048, x (ix2 r f) * w (ix2 d f) := by
  pointwise [k0_pay1]

theorem pay2_apply (x : Vec Ideal S1024x2048 .bf16) (w : Vec Ideal S2048x2048 .bf16) (y : Vec Ideal S1024x2048 .f32) (r : Fin 1024) (d : Fin 2048) :
    k0_pay2 x w y (ix2 r d) = y (ix2 r d) + k0_pay1 x w (ix2 r d) := by
  pointwise [k0_pay2]

variable (c : Dev nD) (i : grid0.Coords) (a3 : Memref sig .tc .vmem S1024x2048 .bf16) (h3 : a3.IsWhole) (a4 : Memref sig .tc .vmem S2048x2048 .bf16) (h4 : a4.IsWhole)
  (a5 : Memref sig .tc .vmem S8x128 .f32) (h5 : a5.IsWhole) (a6 : Memref sig .tc .vmem S1024x2048 .f32) (h6 : a6.IsWhole)
  (x : Vec Ideal S1024x2048 .bf16) (w : Vec Ideal S2048x2048 .bf16) (z : Vec Ideal S8x128 .f32) (y : Vec Ideal S1024x2048 .f32)

/-- The first point of a row block stores its product. -/
theorem out_A (hc0 : cond0_0 i) (hc1 : ¬cond0_1 i) :
    out0_A_3 c i a3 h3 a4 h4 a5 h5 a6 h6 hc0 hc1 x w z = k0_pay1 x w := by
  unfold out0_A_3
  rw [View.read_writes_eq_canon _ _ _ (cover0_A_3 c i a3 h3 a4 h4 a5 h5 a6 h6 hc0 hc1 x w z)]
  unfold kernelRun0_A
  dsimp only
  rw [View.canon_unit_zero hz]
  simp only [View.readAt_eq_ld, h3.read_unread, h4.read_unread, View.ld_unit_zero (S := S1024x2048) hz, View.ld_unit_zero (S := S2048x2048) hz]

/-- Each later one adds its own. -/
theorem out_B (hc0 : ¬cond0_0 i) (hc1 : cond0_1 i) :
    out0_B_3 c i a3 h3 a4 h4 a5 h5 a6 h6 hc0 hc1 x w z y = k0_pay2 x w y := by
  unfold out0_B_3
  rw [View.read_writes_eq_canon _ _ _ (cover0_B_3 c i a3 h3 a4 h4 a5 h5 a6 h6 hc0 hc1 x w z y)]
  unfold kernelRun0_B
  dsimp only
  rw [View.canon_unit_zero hz]
  simp only [View.readAt_eq_ld, h3.read_unread, h4.read_unread, h6.read_unread, View.ld_unit_zero (S := S1024x2048) hz, View.ld_unit_zero (S := S2048x2048) hz]

/-- The point of row block `i` and hidden block `k`. -/
def pt (i k : Fin 4) : Fin cfg0.N := ⟨4 * i.val + k.val, (by omega : 4 * i.val + k.val < 16).trans_eq N_0.symm⟩

/-- Row `r` of row block `i`. -/
def row (i : Fin 4) (r : Fin 1024) : Fin 4096 := ⟨1024 * i.val + r.val, by omega⟩

theorem index0_0 : ∀ t : Fin cfg0.N, win0_0.index t 0 = t.val / 4 ∧ win0_0.index t 1 = t.val % 4 := by decide +kernel
theorem index0_1 : ∀ t : Fin cfg0.N, win0_1.index t 0 = 0 ∧ win0_1.index t 1 = t.val % 4 := by decide +kernel
theorem index0_3 : ∀ t : Fin cfg0.N, win0_3.index t 0 = t.val / 4 ∧ win0_3.index t 1 = 0 := by decide +kernel

theorem pt_div (i k : Fin 4) : (pt i k).val / 4 = i.val := by show (4 * i.val + k.val) / 4 = _; omega
theorem pt_mod (i k : Fin 4) : (pt i k).val % 4 = k.val := by show (4 * i.val + k.val) % 4 = _; omega

variable (m : (ℓ : Loc nD τ sig) → Buf (Elt Ideal) ℓ)

/-- The hidden gradient. -/
def lhs (t : Fin 4096) (f : Fin 8192) : EReal := (m ((c : Thread nD τ).loc main_arg0) : Vec Ideal S4096x8192 .bf16) (ix2 t f)
/-- The weights. -/
def rhs (d : Fin 2048) (f : Fin 8192) : EReal := (m ((c : Thread nD τ).loc main_arg1) : Vec Ideal S2048x8192 .bf16) (ix2 d f)

theorem iblk_0 (i k : Fin 4) (r : Fin 1024) (f : Fin 2048) :
    (iblk m c 0 (pt i k) : Vec Ideal S1024x2048 .bf16) (ix2 r f)
      = lhs c m (row i r) ⟨k.val * 2048 + f.val, by omega⟩ := by
  refine (congrArg (V m c main_arg0 : Vec Ideal S4096x8192 .bf16) ?_).trans (congrFun (V_main_arg0 m c) _)
  funext a
  apply Fin.ext
  obtain ⟨h0, h1⟩ := index0_0 (pt i k)
  refine (Window.rect_emb_val win0_0 (pt i k) (ix2 r f) a).trans ?_
  fin_cases a
  · show win0_0.index (pt i k) 0 * 1024 + r.val = 1024 * i.val + r.val
    rw [h0, pt_div]; omega
  · show win0_0.index (pt i k) 1 * 2048 + f.val = k.val * 2048 + f.val
    rw [h1, pt_mod]

theorem iblk_1 (i k : Fin 4) (d f : Fin 2048) :
    (iblk m c 1 (pt i k) : Vec Ideal S2048x2048 .bf16) (ix2 d f)
      = rhs c m d ⟨k.val * 2048 + f.val, by omega⟩ := by
  refine (congrArg (V m c main_arg1 : Vec Ideal S2048x8192 .bf16) ?_).trans (congrFun (V_main_arg1 m c) _)
  funext a
  apply Fin.ext
  obtain ⟨h0, h1⟩ := index0_1 (pt i k)
  refine (Window.rect_emb_val win0_1 (pt i k) (ix2 d f) a).trans ?_
  fin_cases a
  · show win0_1.index (pt i k) 0 * 2048 + d.val = d.val
    rw [h0]; omega
  · show win0_1.index (pt i k) 1 * 2048 + f.val = k.val * 2048 + f.val
    rw [h1, pt_mod]

/-- What a point adds, over the whole arrays. -/
def term (i k : Fin 4) (r : Fin 1024) (d : Fin 2048) : EReal :=
  ∑ f : Fin 2048, lhs c m (row i r) ⟨k.val * 2048 + f.val, by omega⟩ * rhs c m d ⟨k.val * 2048 + f.val, by omega⟩

theorem pay1_term (i k : Fin 4) (r : Fin 1024) (d : Fin 2048) :
    k0_pay1 (iblk m c 0 (pt i k)) (iblk m c 1 (pt i k)) (ix2 r d) = term c m i k r d :=
  (pay1_apply _ _ r d).trans (Finset.sum_congr rfl fun f _ => congrArg₂ (fun a b : EReal => a * b) (iblk_0 c m i k r f) (iblk_1 c m i k d f))

/-- The first point of a row block. -/
theorem outs_zero (i : Fin 4) (r : Fin 1024) (d : Fin 2048) :
    outsAt0 m c (pt i 0).val (pt i 0).isLt (ix2 r d) = term c m i 0 r d :=
  (congrFun ((outsAt0_A m c (pt i 0) (pt_mod i 0) (by rw [pt_mod]; decide)).trans (out_A ..)) (ix2 r d)).trans (pay1_term c m i 0 r d)

/-- A later point. -/
theorem outs_succ (i k k' : Fin 4) (h : k'.val = k.val + 1) (r : Fin 1024) (d : Fin 2048) :
    outsAt0 m c (pt i k').val (pt i k').isLt (ix2 r d)
      = (outsAt0 m c (pt i k).val (pt i k).isLt (ix2 r d) : EReal) + term c m i k' r d := by
  refine (congrFun ((outsAt0_B m c (pt i k') (by rw [pt_mod]; omega) (by rw [pt_mod]; omega)).trans (out_B ..)) (ix2 r d)).trans
    ((pay2_apply _ _ _ r d).trans ?_)
  rw [pay1_term]
  have e : (pt i k').val - 1 = (pt i k).val := by show 4 * i.val + k'.val - 1 = 4 * i.val + k.val; omega
  simp only [e]

/-- The last point holds the whole sum. -/
theorem outs_last (i : Fin 4) (r : Fin 1024) (d : Fin 2048) :
    outsAt0 m c (pt i 3).val (pt i 3).isLt (ix2 r d)
      = ∑ f : Fin 8192, lhs c m (row i r) f * rhs c m d f := by
  refine Eq.trans ?_ (Fin.sum_univ_tiles 4 2048 rfl _).symm
  rw [outs_succ c m i 2 3 rfl, outs_succ c m i 1 2 rfl, outs_succ c m i 0 1 rfl, outs_zero]
  exact (Fin.sum_univ_four (fun k : Fin 4 => term c m i k r d)).symm

/-- The array the kernel leaves. -/
theorem array (t : Fin 4096) (d : Fin 2048) :
    ((dats m 0 c).arrAt 3 cfg0.N : Vec Ideal S4096x2048 .f32) (ix2 t d)
      = ∑ f : Fin 8192, lhs c m t f * rhs c m d f := by
  obtain ⟨i, r, rfl⟩ : ∃ (i : Fin 4) (r : Fin 1024), t = row i r :=
    ⟨⟨t.val / 1024, by omega⟩, ⟨t.val % 1024, by omega⟩, Fin.ext (by show t.val = 1024 * (t.val / 1024) + t.val % 1024; omega)⟩
  have hi : (((cfg0.win 3).blk (pt i 3)).view.emb (ix2 r d) : S4096x2048.Idx) = ix2 (row i r) d := by
    funext a
    apply Fin.ext
    obtain ⟨h0, h1⟩ := index0_3 (pt i 3)
    refine (Window.rect_emb_val win0_3 (pt i 3) (ix2 r d) a).trans ?_
    fin_cases a
    · show win0_3.index (pt i 3) 0 * 1024 + r.val = 1024 * i.val + r.val
      rw [h0, pt_div]; omega
    · show win0_3.index (pt i 3) 1 * 2048 + d.val = d.val
      rw [h1]; omega
  rw [← hi]
  refine ((dats m 0 c).arrAt_emb_eq_flushed 3 (Window.hdisj_of_index_inj _ (by decide +kernel)) (pt i 3) ((flush0_3 _).mpr (pt_mod i 3)) (ix2 r d)).trans ?_
  exact (congrFun (after0_3 m c (pt i 3)) (ix2 r d)).trans (outs_last c m i r d)

end Cert.MlpDxIdeal.Val
-- ==== Proof.Out.lean ====
module
public import proofs.«01_k».proof.Proof.Gen.MlpOutIdeal.Value
public import Idealize.ShloMosaic.Lib.Pipeline.ValueKit.Geometry
public import Idealize.ShloMosaic.Lib.Pointwise
/-!
# The layer's output

The kernel adds, block by block of the hidden axis, the products of the hidden values with the second
weights; the last block's point writes the sum back.
-/
@[expose] public section
set_option maxRecDepth 16384
noncomputable section
namespace Cert.MlpOutIdeal.Val
open Idealize.ShloMosaic Idealize.ShloMosaic.TcCoe Idealize.ShloMosaic.Pipeline Cert.MlpOutIdeal Cert.MlpOutIdeal.Gen
open Idealize.SL Idealize.SL.Sem

theorem hz : (![0, 0] : Fin 2 → Nat) = fun _ => 0 := funext fun a => by fin_cases a <;> rfl

/-- One block's product. -/
theorem pay1_apply (x : Vec Ideal S1024x2048 .bf16) (w : Vec Ideal S2048x2048 .bf16) (r : Fin 1024) (d : Fin 2048) :
    k0_pay1 x w (ix2 r d) = ∑ f : Fin 2048, x (ix2 r f) * w (ix2 f d) := by
  pointwise [k0_pay1]

theorem pay2_apply (x : Vec Ideal S1024x2048 .bf16) (w : Vec Ideal S2048x2048 .bf16) (y : Vec Ideal S1024x2048 .f32) (r : Fin 1024) (d : Fin 2048) :
    k0_pay2 x w y (ix2 r d) = y (ix2 r d) + k0_pay1 x w (ix2 r d) := by
  pointwise [k0_pay2]

variable (c : Dev nD) (i : grid0.Coords) (a3 : Memref sig .tc .vmem S1024x2048 .bf16) (h3 : a3.IsWhole) (a4 : Memref sig .tc .vmem S2048x2048 .bf16) (h4 : a4.IsWhole)
  (a5 : Memref sig .tc .vmem S1024x2048 .f32) (h5 : a5.IsWhole)
  (x : Vec Ideal S1024x2048 .bf16) (w : Vec Ideal S2048x2048 .bf16) (y : Vec Ideal S1024x2048 .f32)

/-- The first point of a row block stores its product. -/
theorem out_A (hc0 : cond0_0 i) (hc1 : ¬cond0_1 i) :
    out0_A_2 c i a3 h3 a4 h4 a5 h5 hc0 hc1 x w = k0_pay1 x w := by
  unfold out0_A_2
  rw [View.read_writes_eq_canon _ _ _ (cover0_A_2 c i a3 h3 a4 h4 a5 h5 hc0 hc1 x w)]
  unfold kernelRun0_A
  dsimp only
  rw [View.canon_unit_zero hz]
  simp only [View.readAt_eq_ld, h3.read_unread, h4.read_unread, View.ld_unit_zero (S := S1024x2048) hz, View.ld_unit_zero (S := S2048x2048) hz]

/-- Each later one adds its own. -/
theorem out_B (hc0 : ¬cond0_0 i) (hc1 : cond0_1 i) :
    out0_B_2 c i a3 h3 a4 h4 a5 h5 hc0 hc1 x w y = k0_pay2 x w y := by
  unfold out0_B_2
  rw [View.read_writes_eq_canon _ _ _ (cover0_B_2 c i a3 h3 a4 h4 a5 h5 hc0 hc1 x w y)]
  unfold kernelRun0_B
  dsimp only
  rw [View.canon_unit_zero hz]
  simp only [View.readAt_eq_ld, h3.read_unread, h4.read_unread, h5.read_unread, View.ld_unit_zero (S := S1024x2048) hz, View.ld_unit_zero (S := S2048x2048) hz]

/-- The point of row block `i` and hidden block `k`. -/
def pt (i k : Fin 4) : Fin cfg0.N := ⟨4 * i.val + k.val, (by omega : 4 * i.val + k.val < 16).trans_eq N_0.symm⟩

/-- Row `r` of row block `i`. -/
def row (i : Fin 4) (r : Fin 1024) : Fin 4096 := ⟨1024 * i.val + r.val, by omega⟩

theorem index0_0 : ∀ t : Fin cfg0.N, win0_0.index t 0 = t.val / 4 ∧ win0_0.index t 1 = t.val % 4 := by decide +kernel
theorem index0_1 : ∀ t : Fin cfg0.N, win0_1.index t 0 = t.val % 4 ∧ win0_1.index t 1 = 0 := by decide +kernel
theorem index0_2 : ∀ t : Fin cfg0.N, win0_2.index t 0 = t.val / 4 ∧ win0_2.index t 1 = 0 := by decide +kernel

theorem pt_div (i k : Fin 4) : (pt i k).val / 4 = i.val := by show (4 * i.val + k.val) / 4 = _; omega
theorem pt_mod (i k : Fin 4) : (pt i k).val % 4 = k.val := by show (4 * i.val + k.val) % 4 = _; omega

variable (m : (ℓ : Loc nD τ sig) → Buf (Elt Ideal) ℓ)

/-- The hidden values. -/
def lhs (t : Fin 4096) (f : Fin 8192) : EReal := (m ((c : Thread nD τ).loc main_arg0) : Vec Ideal S4096x8192 .bf16) (ix2 t f)
/-- The weights. -/
def rhs (f : Fin 8192) (d : Fin 2048) : EReal := (m ((c : Thread nD τ).loc main_arg1) : Vec Ideal S8192x2048 .bf16) (ix2 f d)

theorem iblk_0 (i k : Fin 4) (r : Fin 1024) (f : Fin 2048) :
    (iblk m c 0 (pt i k) : Vec Ideal S1024x2048 .bf16) (ix2 r f)
      = lhs c m (row i r) ⟨k.val * 2048 + f.val, by omega⟩ := by
  refine (congrArg (V m c main_arg0 : Vec Ideal S4096x8192 .bf16) ?_).trans (congrFun (V_main_arg0 m c) _)
  funext a
  apply Fin.ext
  obtain ⟨h0, h1⟩ := index0_0 (pt i k)
  refine (Window.rect_emb_val win0_0 (pt i k) (ix2 r f) a).trans ?_
  fin_cases a
  · show win0_0.index (pt i k) 0 * 1024 + r.val = 1024 * i.val + r.val
    rw [h0, pt_div]; omega
  · show win0_0.index (pt i k) 1 * 2048 + f.val = k.val * 2048 + f.val
    rw [h1, pt_mod]

theorem iblk_1 (i k : Fin 4) (f d : Fin 2048) :
    (iblk m c 1 (pt i k) : Vec Ideal S2048x2048 .bf16) (ix2 f d)
      = rhs c m ⟨k.val * 2048 + f.val, by omega⟩ d := by
  refine (congrArg (V m c main_arg1 : Vec Ideal S8192x2048 .bf16) ?_).trans (congrFun (V_main_arg1 m c) _)
  funext a
  apply Fin.ext
  obtain ⟨h0, h1⟩ := index0_1 (pt i k)
  refine (Window.rect_emb_val win0_1 (pt i k) (ix2 f d) a).trans ?_
  fin_cases a
  · show win0_1.index (pt i k) 0 * 2048 + f.val = k.val * 2048 + f.val
    rw [h0, pt_mod]
  · show win0_1.index (pt i k) 1 * 2048 + d.val = d.val
    rw [h1]; omega

/-- What a point adds, over the whole arrays. -/
def term (i k : Fin 4) (r : Fin 1024) (d : Fin 2048) : EReal :=
  ∑ f : Fin 2048, lhs c m (row i r) ⟨k.val * 2048 + f.val, by omega⟩ * rhs c m ⟨k.val * 2048 + f.val, by omega⟩ d

theorem pay1_term (i k : Fin 4) (r : Fin 1024) (d : Fin 2048) :
    k0_pay1 (iblk m c 0 (pt i k)) (iblk m c 1 (pt i k)) (ix2 r d) = term c m i k r d :=
  (pay1_apply _ _ r d).trans (Finset.sum_congr rfl fun f _ => congrArg₂ (fun a b : EReal => a * b) (iblk_0 c m i k r f) (iblk_1 c m i k f d))

/-- The first point of a row block. -/
theorem outs_zero (i : Fin 4) (r : Fin 1024) (d : Fin 2048) :
    outsAt0 m c (pt i 0).val (pt i 0).isLt (ix2 r d) = term c m i 0 r d :=
  (congrFun ((outsAt0_A m c (pt i 0) (pt_mod i 0) (by rw [pt_mod]; decide)).trans (out_A ..)) (ix2 r d)).trans (pay1_term c m i 0 r d)

/-- A later point. -/
theorem outs_succ (i k k' : Fin 4) (h : k'.val = k.val + 1) (r : Fin 1024) (d : Fin 2048) :
    outsAt0 m c (pt i k').val (pt i k').isLt (ix2 r d)
      = (outsAt0 m c (pt i k).val (pt i k).isLt (ix2 r d) : EReal) + term c m i k' r d := by
  refine (congrFun ((outsAt0_B m c (pt i k') (by rw [pt_mod]; omega) (by rw [pt_mod]; omega)).trans (out_B ..)) (ix2 r d)).trans
    ((pay2_apply _ _ _ r d).trans ?_)
  rw [pay1_term]
  have e : (pt i k').val - 1 = (pt i k).val := by show 4 * i.val + k'.val - 1 = 4 * i.val + k.val; omega
  simp only [e]

/-- The last point holds the whole sum. -/
theorem outs_last (i : Fin 4) (r : Fin 1024) (d : Fin 2048) :
    outsAt0 m c (pt i 3).val (pt i 3).isLt (ix2 r d)
      = ∑ f : Fin 8192, lhs c m (row i r) f * rhs c m f d := by
  refine Eq.trans ?_ (Fin.sum_univ_tiles 4 2048 rfl _).symm
  rw [outs_succ c m i 2 3 rfl, outs_succ c m i 1 2 rfl, outs_succ c m i 0 1 rfl, outs_zero]
  exact (Fin.sum_univ_four (fun k : Fin 4 => term c m i k r d)).symm

/-- The array the kernel leaves. -/
theorem array (t : Fin 4096) (d : Fin 2048) :
    ((dats m 0 c).arrAt 2 cfg0.N : Vec Ideal S4096x2048 .f32) (ix2 t d)
      = ∑ f : Fin 8192, lhs c m t f * rhs c m f d := by
  obtain ⟨i, r, rfl⟩ : ∃ (i : Fin 4) (r : Fin 1024), t = row i r :=
    ⟨⟨t.val / 1024, by omega⟩, ⟨t.val % 1024, by omega⟩, Fin.ext (by show t.val = 1024 * (t.val / 1024) + t.val % 1024; omega)⟩
  have hi : (((cfg0.win 2).blk (pt i 3)).view.emb (ix2 r d) : S4096x2048.Idx) = ix2 (row i r) d := by
    funext a
    apply Fin.ext
    obtain ⟨h0, h1⟩ := index0_2 (pt i 3)
    refine (Window.rect_emb_val win0_2 (pt i 3) (ix2 r d) a).trans ?_
    fin_cases a
    · show win0_2.index (pt i 3) 0 * 1024 + r.val = 1024 * i.val + r.val
      rw [h0, pt_div]; omega
    · show win0_2.index (pt i 3) 1 * 2048 + d.val = d.val
      rw [h1]; omega
  rw [← hi]
  refine ((dats m 0 c).arrAt_emb_eq_flushed 2 (Window.hdisj_of_index_inj _ (by decide +kernel)) (pt i 3) ((flush0_2 _).mpr (pt_mod i 3)) (ix2 r d)).trans ?_
  exact (congrFun (after0_2 m c (pt i 3)) (ix2 r d)).trans (outs_last c m i r d)

end Cert.MlpOutIdeal.Val
-- ==== Proof.Weight.lean ====
module
public import proofs.«01_k».proof.Proof.Gen.GradWIdeal.Value
public import Idealize.ShloMosaic.Lib.Pipeline.ValueKit.Geometry
public import Idealize.ShloMosaic.Lib.Pointwise
/-!
# The gradient of the first weights

Each grid point multiplies a block of the input's columns with a slot of the hidden gradient's columns
and writes the product to its own block of the slot.
-/
@[expose] public section
set_option maxRecDepth 16384
noncomputable section
namespace Cert.GradWIdeal.Val
open Idealize.ShloMosaic Idealize.ShloMosaic.TcCoe Idealize.ShloMosaic.Pipeline Cert.GradWIdeal Cert.GradWIdeal.Gen
open Idealize.SL Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- One block's product. -/
theorem pay_apply (x : Vec Ideal S4096x512 .bf16) (y : Vec Ideal S4096x1024 .bf16) (r : Fin 512) (e : Fin 1024) :
    k0_pay14 x y (ix3 0 r e) = ∑ t : Fin 4096, x (ix2 t r) * y (ix2 t e) := by
  pointwise [k0_pay14]

variable (c : Dev nD) (m : (ℓ : Loc nD τ sig) → Buf (Elt Ideal) ℓ)

/-- What a point leaves in the result's buffer. -/
theorem outs (t : Fin cfg0.N) : (outsAt0 m c t.val t.isLt).1 = k0_pay14 (iblk m c 0 t) (iblk m c 1 t) := by
  have hN : t.val < 32 := t.isLt.trans_eq N_0
  by_cases h : t.val = 0
  · refine (congrArg Prod.fst (outsAt0_A m c t (by omega) (by omega) (by omega) (by omega))).trans ?_
    dsimp only
    unfold out0_A_7
    refine (View.read_writes_eq_canon _ _ _ (fun y => ?_)).trans ?_
    · exact cover0_A_7 ..
    unfold kernelRun0_A
    dsimp only
    refine (View.canon_unit_zero hz3 _ _).trans ?_
    sl_unfold_words
    simp only [View.readAt_eq_ld, (hs0_0 t).read_unread, (hs0_1 t).read_unread, View.ld_unit_zero (S := S4096x512) hz2, View.ld_unit_zero (S := S4096x1024) hz2]
  · refine (congrArg Prod.fst (outsAt0_B m c t (by omega) (by omega) (by omega) (by omega))).trans ?_
    dsimp only
    unfold out0_B_7
    refine (View.read_writes_eq_canon _ _ _ (fun y => ?_)).trans ?_
    · exact cover0_B_7 ..
    unfold kernelRun0_B
    dsimp only
    refine (View.canon_unit_zero hz3 _ _).trans ?_
    sl_unfold_words
    simp only [View.readAt_eq_ld, (hs0_0 t).read_unread, (hs0_1 t).read_unread, View.ld_unit_zero (S := S4096x512) hz2, View.ld_unit_zero (S := S4096x1024) hz2]

/-- The point of slot `j` and column block `i`. -/
def pt (j : Fin 8) (i : Fin 4) : Fin cfg0.N := ⟨4 * j.val + i.val, (by omega : 4 * j.val + i.val < 32).trans_eq N_0.symm⟩

/-- Column `r` of column block `i`. -/
def col (i : Fin 4) (r : Fin 512) : Fin 2048 := ⟨512 * i.val + r.val, by omega⟩
/-- Column `e` of slot `j`. -/
def slot (j : Fin 8) (e : Fin 1024) : Fin 8192 := ⟨1024 * j.val + e.val, by omega⟩

theorem index0_0 : ∀ t : Fin cfg0.N, win0_0.index t 0 = 0 ∧ win0_0.index t 1 = t.val % 4 := by decide +kernel
theorem index0_1 : ∀ t : Fin cfg0.N, win0_1.index t 0 = 0 ∧ win0_1.index t 1 = t.val / 4 := by decide +kernel
theorem index0_7 : ∀ t : Fin cfg0.N, win0_7.index t 0 = t.val / 4 ∧ win0_7.index t 1 = t.val % 4 ∧ win0_7.index t 2 = 0 := by decide +kernel

theorem pt_div (j : Fin 8) (i : Fin 4) : (pt j i).val / 4 = j.val := by show (4 * j.val + i.val) / 4 = _; omega
theorem pt_mod (j : Fin 8) (i : Fin 4) : (pt j i).val % 4 = i.val := by show (4 * j.val + i.val) % 4 = _; omega

/-- The layer's input. -/
def lhs (t : Fin 4096) (d : Fin 2048) : EReal := (m ((c : Thread nD τ).loc main_arg0) : Vec Ideal S4096x2048 .bf16) (ix2 t d)
/-- The hidden gradient. -/
def rhs (t : Fin 4096) (f : Fin 8192) : EReal := (m ((c : Thread nD τ).loc main_arg1) : Vec Ideal S4096x8192 .bf16) (ix2 t f)

theorem iblk_0 (j : Fin 8) (i : Fin 4) (t : Fin 4096) (r : Fin 512) :
    (iblk m c 0 (pt j i) : Vec Ideal S4096x512 .bf16) (ix2 t r) = lhs c m t (col i r) := by
  refine (congrArg (V m c main_arg0 : Vec Ideal S4096x2048 .bf16) ?_).trans (congrFun (V_main_arg0 m c) _)
  funext a
  apply Fin.ext
  obtain ⟨h0, h1⟩ := index0_0 (pt j i)
  refine (Window.rect_emb_val win0_0 (pt j i) (ix2 t r) a).trans ?_
  fin_cases a
  · show win0_0.index (pt j i) 0 * 4096 + t.val = t.val
    rw [h0]; omega
  · show win0_0.index (pt j i) 1 * 512 + r.val = 512 * i.val + r.val
    rw [h1, pt_mod]; omega

theorem iblk_1 (j : Fin 8) (i : Fin 4) (t : Fin 4096) (e : Fin 1024) :
    (iblk m c 1 (pt j i) : Vec Ideal S4096x1024 .bf16) (ix2 t e) = rhs c m t (slot j e) := by
  refine (congrArg (V m c main_arg1 : Vec Ideal S4096x8192 .bf16) ?_).trans (congrFun (V_main_arg1 m c) _)
  funext a
  apply Fin.ext
  obtain ⟨h0, h1⟩ := index0_1 (pt j i)
  refine (Window.rect_emb_val win0_1 (pt j i) (ix2 t e) a).trans ?_
  fin_cases a
  · show win0_1.index (pt j i) 0 * 4096 + t.val = t.val
    rw [h0]; omega
  · show win0_1.index (pt j i) 1 * 1024 + e.val = 1024 * j.val + e.val
    rw [h1, pt_div]; omega

/-- The array the kernel leaves. -/
theorem array (j : Fin 8) (d : Fin 2048) (e : Fin 1024) :
    ((dats m 0 c).arrAt 7 cfg0.N : Vec Ideal S8x2048x1024 .bf16) (ix3 j d e) = ∑ t : Fin 4096, lhs c m t d * rhs c m t (slot j e) := by
  obtain ⟨i, r, rfl⟩ : ∃ (i : Fin 4) (r : Fin 512), d = col i r :=
    ⟨⟨d.val / 512, by omega⟩, ⟨d.val % 512, by omega⟩, Fin.ext (by show d.val = 512 * (d.val / 512) + d.val % 512; omega)⟩
  have hi : (((cfg0.win 7).blk (pt j i)).view.emb (ix3 0 r e) : S8x2048x1024.Idx) = ix3 j (col i r) e := by
    funext a
    apply Fin.ext
    obtain ⟨h0, h1, h2⟩ := index0_7 (pt j i)
    refine (Window.rect_emb_val win0_7 (pt j i) (ix3 0 r e) a).trans ?_
    fin_cases a
    · show win0_7.index (pt j i) 0 * 1 + 0 = j.val
      rw [h0, pt_div]; omega
    · show win0_7.index (pt j i) 1 * 512 + r.val = 512 * i.val + r.val
      rw [h1, pt_mod]; omega
    · show win0_7.index (pt j i) 2 * 1024 + e.val = e.val
      rw [h2]; omega
  rw [← hi]
  refine ((dats m 0 c).arrAt_emb_eq_flushed 7 (Window.hdisj_of_index_inj _ (by decide +kernel)) (pt j i) (flush0_7 _) (ix3 0 r e)).trans ?_
  refine ((congrFun (after0_7 m c (pt j i)) (ix3 0 r e)).trans (congrFun (outs c m (pt j i)) (ix3 0 r e))).trans ((pay_apply _ _ r e).trans ?_)
  exact Finset.sum_congr rfl fun t _ => congrArg₂ (fun a b : EReal => a * b) (iblk_0 c m j i t r) (iblk_1 c m j i t e)

end Cert.GradWIdeal.Val
-- ==== Proof.ActEquation.lean ====
module
public import proofs.«01_k».proof.Defs
public import proofs.«01_k».proof.Proof.Gen.Hidden
public import proofs.«01_k».proof.Proof.Gen.MlpOut
public import proofs.«01_k».proof.Proof.Gen.MlpDx
public import proofs.«01_k».proof.Proof.Gen.GradW
public import proofs.«01_k».proof.Proof.ActRun
public import proofs.«01_k».proof.Proof.ActRef
public import proofs.«01_k».proof.Proof.Dx
public import proofs.«01_k».proof.Proof.Out
public import proofs.«01_k».proof.Proof.Weight
/-!
# The layer's kernels and references agree

Each program's frames, and the equality of its results with the reference's from the same arguments.
-/
@[expose] public section
set_option maxRecDepth 65536
noncomputable section
namespace Cert.LayerEq
open Idealize.ShloMosaic Idealize.ShloMosaic.TcCoe Idealize.ShloMosaic.StableHlo Idealize.SL.Sem

/-! ## The output -/

theorem out_defs₀ : Cert.MlpOut.defs₀ (F := Bits) = Cert.MlpOutIdeal.defs₀ (F := Bits) :=
  congrArg (Defs.onTc (nD := Cert.MlpOut.nD) (τ := Cert.MlpOut.τ) (sig := Cert.MlpOut.sig) (Val := Elt Bits) (Λ := Cert.MlpOut.Λ₀))
    (funext fun l => funext fun a => match l, a with
      | 0, (_, _) => rfl)
theorem out_defs : Cert.MlpOut.defs (F := Bits) = Cert.MlpOutIdeal.defs (F := Bits) :=
  congrArg (Idealize.ShloMosaic.Pipeline.defs Cert.MlpOut.pcfgs) out_defs₀
theorem out_kernel : Cert.quiescent_MlpOut := by
  intro m ρ _
  have h := Cert.MlpOutIdeal.Gen.frame (F := Bits) m ρ
  rw [out_defs]
  exact h
theorem out_reference : Cert.quiescent_MlpOutReferenceIdeal := fun m ρ _ =>
  (θ_run Cert.MlpOutReferenceIdeal.defs _ _).mono (fun r h => ⟨fun c => (h c).2, sem_eq_zero_of_no_sems (by decide) r.2⟩)
    (Cert.MlpOutReferenceIdeal.Value.run m ρ)
theorem out_agree : Cert.algebraic_MlpOutIdeal_MlpOutReferenceIdeal := by
  intro m ρ m' ρ' _ hargs
  refine ⟨fun c => (Cert.MlpOutIdeal.Gen.dats m 0 c).arrAt 2 Cert.MlpOutIdeal.cfg0.N, Cert.MlpOutIdeal.Value.run_blocks m ρ, ?_⟩
  refine (θ_run Cert.MlpOutReferenceIdeal.defs _ _).mono (fun r h c => ⟨(h c).1.trans ?_, (h c).2⟩) (Cert.MlpOutReferenceIdeal.Value.run m' ρ')
  obtain ⟨e0, e1⟩ := hargs c
  funext i
  rw [ValueIdx.eq_ix2 i]
  refine (Cert.MlpOutReferenceIdeal.Val.out_apply _ _ (i 0) (i 1)).trans (Eq.trans ?_ (Cert.MlpOutIdeal.Val.array c m (i 0) (i 1)).symm)
  exact Finset.sum_congr rfl fun f _ => congrArg₂ (fun a b : EReal => a * b) (congrFun e0 _) (congrFun e1 _)

/-! ## The input's gradient -/

theorem dx_defs₀ : Cert.MlpDx.defs₀ (F := Bits) = Cert.MlpDxIdeal.defs₀ (F := Bits) :=
  congrArg (Defs.onTc (nD := Cert.MlpDx.nD) (τ := Cert.MlpDx.τ) (sig := Cert.MlpDx.sig) (Val := Elt Bits) (Λ := Cert.MlpDx.Λ₀))
    (funext fun l => funext fun a => match l, a with
      | 0, (_, _) => rfl)
theorem dx_defs : Cert.MlpDx.defs (F := Bits) = Cert.MlpDxIdeal.defs (F := Bits) :=
  congrArg (Idealize.ShloMosaic.Pipeline.defs Cert.MlpDx.pcfgs) dx_defs₀
theorem dx_kernel : Cert.quiescent_MlpDx := by
  intro m ρ _
  have h := Cert.MlpDxIdeal.Gen.frame (F := Bits) m ρ
  rw [dx_defs]
  exact h
theorem dx_reference : Cert.quiescent_MlpDxReferenceIdeal := fun m ρ _ =>
  (θ_run Cert.MlpDxReferenceIdeal.defs _ _).mono (fun r h => ⟨fun c => (h c).2, sem_eq_zero_of_no_sems (by decide) r.2⟩)
    (Cert.MlpDxReferenceIdeal.Value.run m ρ)
theorem dx_agree : Cert.algebraic_MlpDxIdeal_MlpDxReferenceIdeal := by
  intro m ρ m' ρ' _ hargs
  refine ⟨fun c => (Cert.MlpDxIdeal.Gen.dats m 0 c).arrAt 3 Cert.MlpDxIdeal.cfg0.N, Cert.MlpDxIdeal.Value.run_blocks m ρ, ?_⟩
  refine (θ_run Cert.MlpDxReferenceIdeal.defs _ _).mono (fun r h c => ⟨(h c).1.trans ?_, (h c).2⟩) (Cert.MlpDxReferenceIdeal.Value.run m' ρ')
  obtain ⟨e0, e1, -⟩ := hargs c
  funext i
  rw [ValueIdx.eq_ix2 i]
  refine (Cert.MlpDxReferenceIdeal.Val.out_apply _ _ (i 0) (i 1)).trans (Eq.trans ?_ (Cert.MlpDxIdeal.Val.array c m (i 0) (i 1)).symm)
  exact Finset.sum_congr rfl fun f _ => congrArg₂ (fun a b : EReal => a * b) (congrFun e0 _) (congrFun e1 _)

/-! ## The first weights' gradient -/

theorem gw_defs₀ : Cert.GradW.defs₀ (F := Bits) = Cert.GradWIdeal.defs₀ (F := Bits) :=
  congrArg (Defs.onTc (nD := Cert.GradW.nD) (τ := Cert.GradW.τ) (sig := Cert.GradW.sig) (Val := Elt Bits) (Λ := Cert.GradW.Λ₀))
    (funext fun l => funext fun a => match l, a with
      | 0, (_, _) => rfl)
theorem gw_defs : Cert.GradW.defs (F := Bits) = Cert.GradWIdeal.defs (F := Bits) :=
  congrArg (Idealize.ShloMosaic.Pipeline.defs Cert.GradW.pcfgs) gw_defs₀
theorem gw_kernel : Cert.quiescent_GradW := by
  intro m ρ _
  have h := Cert.GradWIdeal.Gen.frame (F := Bits) m ρ
  rw [gw_defs]
  exact h
theorem gw_reference : Cert.quiescent_GradWReferenceIdeal := fun m ρ _ =>
  (θ_run Cert.GradWReferenceIdeal.defs _ _).mono (fun r h => ⟨fun c => (h c).2, sem_eq_zero_of_no_sems (by decide) r.2⟩)
    (Cert.GradWReferenceIdeal.Value.run m ρ)
theorem gw_agree : Cert.algebraic_GradWIdeal_GradWReferenceIdeal := by
  intro m ρ m' ρ' _ hargs
  refine ⟨fun c => (Cert.GradWIdeal.Gen.dats m 0 c).arrAt 7 Cert.GradWIdeal.cfg0.N, ?_, ?_⟩
  · exact (θ_run Cert.GradWIdeal.defs _ _).mono (fun r h c => ⟨(h c).1, (h c).2.2.2.2.2⟩) (Cert.GradWIdeal.Value.run_blocks m ρ)
  refine (θ_run Cert.GradWReferenceIdeal.defs _ _).mono (fun r h c => ⟨(h c).1.trans ?_, (h c).2⟩) (Cert.GradWReferenceIdeal.Value.run m' ρ')
  obtain ⟨e0, e1, -⟩ := hargs c
  funext i
  rw [ValueIdx.eq_ix3 i]
  refine (Cert.GradWReferenceIdeal.Val.out_apply _ _ (i 0) (i 1) (i 2)).trans (Eq.trans ?_ (Cert.GradWIdeal.Val.array c m (i 0) (i 1) (i 2)).symm)
  exact Finset.sum_congr rfl fun t _ => (@mul_comm EReal _ _ _).trans (congrArg₂ (fun a b : EReal => a * b) (congrFun e0 _) (congrFun e1 _))

/-! ## The hidden layer -/

theorem hid_defs₀ : Cert.Hidden.defs₀ (F := Bits) = Cert.HiddenIdeal.defs₀ (F := Bits) :=
  congrArg (Defs.onTc (nD := Cert.Hidden.nD) (τ := Cert.Hidden.τ) (sig := Cert.Hidden.sig) (Val := Elt Bits) (Λ := Cert.Hidden.Λ₀))
    (funext fun l => funext fun a => match l, a with
      | 0, (_, _) => rfl
      | 1, (_, _) => rfl
      | 2, (_, _) => rfl)
theorem hid_defs : Cert.Hidden.defs (F := Bits) = Cert.HiddenIdeal.defs (F := Bits) :=
  congrArg (Idealize.ShloMosaic.Pipeline.defs Cert.Hidden.pcfgs) hid_defs₀
theorem hid_kernel : Cert.quiescent_Hidden := by
  intro m ρ _
  have h := Cert.HiddenIdeal.Gen.frame (F := Bits) m ρ
  rw [hid_defs]
  exact h
theorem hid_reference : Cert.quiescent_HiddenReferenceIdeal := fun m ρ _ =>
  (θ_run Cert.HiddenReferenceIdeal.defs _ _).mono (fun r h => ⟨fun c => (h c).2.2.2, sem_eq_zero_of_no_sems (by decide) r.2⟩)
    (Cert.HiddenReferenceIdeal.Value.run m ρ)

theorem zero_eq : Cert.HiddenReferenceIdeal.Val.zero = 0 := by
  unfold Cert.HiddenReferenceIdeal.Val.zero
  pointwise

/-- Where the first product is not positive the activation's derivative is zero. -/
theorem cut_mul (s g a : EReal) : (if 0 < s then g * (a * max s 0) else 0) = g * (a * max s 0) := by
  by_cases h : 0 < s
  · rw [if_pos h]
  · rw [if_neg h, max_eq_right (not_lt.mp h), mul_zero, mul_zero]

theorem hid_agree : Cert.algebraic_HiddenIdeal_HiddenReferenceIdeal := by
  intro m ρ m' ρ' _ hargs
  refine ⟨fun c => Cert.HiddenIdeal.Gen.W3 m ρ c (Proc.devRef .tc Cert.HiddenIdeal.main_v0_0),
    fun c => Cert.HiddenIdeal.Gen.W3 m ρ c (Proc.devRef .tc Cert.HiddenIdeal.main_v1),
    fun c => Cert.HiddenIdeal.Gen.W3 m ρ c (Proc.devRef .tc Cert.HiddenIdeal.main_v2), Cert.HiddenIdeal.Val.run_bufs m ρ, ?_⟩
  refine (θ_run Cert.HiddenReferenceIdeal.defs _ _).mono (fun r h c => ?_) (Cert.HiddenReferenceIdeal.Value.run m' ρ')
  obtain ⟨h0, h1, h2, ha⟩ := h c
  obtain ⟨e0, e1, e2, e3, -⟩ := hargs c
  have hr (t : Fin 4096) (f : Fin 8192) : (Cert.HiddenReferenceIdeal.Val.relu (m' ((c.tc : Thread Cert.HiddenReferenceIdeal.nD Cert.HiddenReferenceIdeal.τ).loc Cert.HiddenReferenceIdeal.main_arg0))
        (m' ((c.tc : Thread Cert.HiddenReferenceIdeal.nD Cert.HiddenReferenceIdeal.τ).loc Cert.HiddenReferenceIdeal.main_arg1)) : Vec Ideal Cert.HiddenReferenceIdeal.S1x4096x8192 .f32) (ix3 0 t f)
      = Cert.HiddenIdeal.Val.relu (Cert.HiddenIdeal.Gen.V0 m ρ) c t f := by
    refine (Cert.HiddenReferenceIdeal.Val.relu_apply _ _ t f).trans (congrArg (fun s : EReal => max s Cert.HiddenReferenceIdeal.Val.zero) (Finset.sum_congr rfl fun k _ => ?_))
    exact congrArg₂ (fun a b : EReal => a * b) (congrFun e0 _) (congrFun e1 _)
  refine ⟨h0.trans ?_, h1.trans ?_, h2.trans ?_, ha⟩
  · funext i
    obtain ⟨t, f, rfl⟩ : ∃ (t : Fin 4096) (f : Fin 8192), i = ix2 t f := ⟨_, _, ValueIdx.eq_ix2 i⟩
    refine (Cert.HiddenReferenceIdeal.Val.hid_apply _ _ t f).trans (Eq.trans ?_ (Cert.HiddenIdeal.Val.res_hid m ρ c t f).symm)
    exact congrArg (fun s : EReal => s * s) (hr t f)
  · funext i
    obtain ⟨f, d, rfl⟩ : ∃ (f : Fin 8192) (d : Fin 2048), i = ix2 f d := ⟨_, _, ValueIdx.eq_ix2 i⟩
    refine (Cert.HiddenReferenceIdeal.Val.wgt_apply _ _ _ f d).trans (Eq.trans ?_ (Cert.HiddenIdeal.Val.res_wgt m ρ c f d).symm)
    exact Finset.sum_congr rfl fun t _ => (@mul_comm EReal _ _ _).trans (congrArg₂ (fun a b : EReal => a * b) (congrArg (fun s : EReal => s * s) (hr t f)) (congrFun e3 _))
  · funext i
    obtain ⟨t, f, rfl⟩ : ∃ (t : Fin 4096) (f : Fin 8192), i = ix2 t f := ⟨_, _, ValueIdx.eq_ix2 i⟩
    refine (Cert.HiddenReferenceIdeal.Val.back_apply _ _ _ _ t f).trans (Eq.trans ?_ (Cert.HiddenIdeal.Val.res_back m ρ c t f).symm)
    rw [← hr t f, Cert.HiddenReferenceIdeal.Val.relu_apply, Cert.HiddenReferenceIdeal.Val.pre_apply, Cert.HiddenReferenceIdeal.Val.gact_apply, zero_eq]
    refine (cut_mul _ _ _).trans (congrArg (fun s : EReal => s * _) (Finset.sum_congr rfl fun k _ => ?_))
    exact congrArg₂ (fun a b : EReal => a * b) (congrFun e3 _) (congrFun e2 _)

end Cert.LayerEq
-- ==== Proof.Adam.lean ====
module
public import Idealize.ShloMosaic.PureOps
public import Idealize.ShloMosaic.Lib.IdealHost
public import Idealize.ShloMosaic.Lib.Pointwise
public import Idealize.ShloMosaic.Lib.Pipeline.ValueKit.Geometry
/-!
# One entry of the optimizer's step

The gradient summed over the devices, the two moments and the change of the weight, entry by entry.
-/
@[expose] public section
noncomputable section
namespace Cert.Adam
open Idealize.ShloMosaic

/-- One entry of an array of numbers. -/
abbrev Num := Ideal .f32

/-- A constant of the programs. -/
def lit (w : BitVec 32) : Num := Scalar.ofBits .f32 w

/-- The gradient: the device's own part and the three that arrived. -/
def grad (o p0 p1 p2 : Num) : Num := FloatOps.addf (FloatOps.addf (FloatOps.addf o p0) p1) p2

/-- The first moment. -/
def mom (x g : Num) : Num := FloatOps.addf (FloatOps.mulf (lit 0x3F666666#32) x) (FloatOps.mulf (lit 0x3DCCCCCD#32) g)

/-- The second moment. -/
def vel (x g : Num) : Num := FloatOps.addf (FloatOps.mulf (lit 0x3F7FBE77#32) x) (FloatOps.mulf (lit 0x3A83126F#32) (FloatOps.mulf g g))

/-- The change of the weight, from the weight and its moments. -/
def step (w x y : Num) : Num :=
  FloatOps.mulf (lit 0xBA83126F#32) (FloatOps.addf (FloatOps.divf (FloatOps.divf x (lit 0x3F26BD02#32))
    (FloatOps.addf (FloatOps.sqrt (FloatOps.divf y (lit 0x3C231ACC#32))) (lit 0x322BCC77#32))) (FloatOps.mulf (lit 0x3C23D70A#32) w))

theorem grad_eq (o p0 p1 p2 : EReal) : grad o p0 p1 p2 = (o + (p0 + p1 + p2) : EReal) := by
  show (o + p0 + p1 + p2 : EReal) = _
  rw [add_assoc, add_assoc, add_assoc]

/-- An entry of a matrix, or of a stack of matrices, from its coordinates. -/
theorem at_ix2 {n0 n1 : ℕ} (y : (⟨2, ![n0, n1]⟩ : Shape).Idx) (a : Fin n0) (b : Fin n1) (ha : (y 0 : ℕ) = a.val) (hb : (y 1 : ℕ) = b.val) : y = ix2 a b :=
  (ValueIdx.eq_ix2 y).trans (congrArg₂ ix2 (Fin.ext ha) (Fin.ext hb))
theorem at_ix3 {n0 n1 n2 : ℕ} (y : (⟨3, ![n0, n1, n2]⟩ : Shape).Idx) (a : Fin n0) (b : Fin n1) (d : Fin n2)
    (ha : (y 0 : ℕ) = a.val) (hb : (y 1 : ℕ) = b.val) (hd : (y 2 : ℕ) = d.val) : y = ix3 a b d := by
  obtain ⟨p, q, s, rfl⟩ : ∃ p q s, y = ix3 p q s := ⟨_, _, _, ValueIdx.eq_ix3 y⟩
  obtain rfl : p = a := Fin.ext ha
  obtain rfl : q = b := Fin.ext hb
  obtain rfl : s = d := Fin.ext hd
  rfl

end Cert.Adam
-- ==== Proof.Products.lean ====
module
public import proofs.«01_k».proof.Proof.Gen.MixDyIdeal.Value
public import proofs.«01_k».proof.Proof.Gen.GradOutIdeal.Value
public import proofs.«01_k».proof.Proof.Gen.ProjIdeal.Value
public import proofs.«01_k».proof.Proof.Adam
/-!
# The products of the mixer's projections

The gradient of the mixer's output, the gradient of its output weights, and the projection of the input.
-/
@[expose] public section
set_option maxRecDepth 16384
noncomputable section
open Idealize.ShloMosaic Idealize.ShloMosaic.TcCoe Idealize.ShloMosaic.Pipeline Cert.Adam
open Idealize.SL Idealize.SL.Sem

namespace Cert.Block
theorem hz2 : (![0, 0] : Fin 2 → Nat) = fun _ => 0 := funext fun a => by fin_cases a <;> rfl
theorem hz3 : (![0, 0, 0] : Fin 3 → Nat) = fun _ => 0 := funext fun a => by fin_cases a <;> rfl

/-- An entry of a block, from the block's index. -/
theorem at_block {n0 n1 k0 k1 i j t u r d : ℕ} (y : (⟨2, ![n0, n1]⟩ : Shape).Idx) (a : Fin n0) (b : Fin n1)
    (h0 : (y 0 : ℕ) = i * k0 + r) (h1 : (y 1 : ℕ) = j * k1 + d) (h : i = t ∧ j = u) (ha : a.val = k0 * t + r) (hb : b.val = k1 * u + d) : y = ix2 a b := by
  obtain ⟨rfl, rfl⟩ := h
  exact at_ix2 y a b (by rw [h0, ha, Nat.mul_comm]) (by rw [h1, hb, Nat.mul_comm])
/-- The same without an offset. -/
theorem at_zero (k d : ℕ) : d = k * 0 + d := by omega
end Cert.Block

namespace Cert.MixDyIdeal.Val
open Cert.MixDyIdeal Cert.MixDyIdeal.Gen Cert.Block
theorem pay_apply (x : Vec Ideal S1024x2048 .bf16) (w : Vec Ideal S2048x2048 .bf16) (r : Fin 1024) (e : Fin 2048) :
    k0_pay1 x w (ix2 r e) = ∑ k : Fin 2048, x (ix2 r k) * w (ix2 e k) := by
  pointwise [k0_pay1]
theorem out_apply (x : Vec Ideal S1024x2048 .bf16) (w : Vec Ideal S2048x2048 .bf16) (r : Fin 1024) (e : Fin 2048) : out0_2 x w (ix2 r e) = ∑ k : Fin 2048, x (ix2 r k) * w (ix2 e k) := by
  unfold out0_2
  rw [View.canon_unit_zero hz2, View.ld_unit_zero (S := S1024x2048) hz2, View.ld_unit_zero (S := S2048x2048) hz2, pay_apply]

variable (c : Dev nD) (m : (ℓ : Loc nD τ sig) → Buf (Elt Ideal) ℓ) (t : Fin cfg0.N)
def lhs (t : Fin 4096) (k : Fin 2048) : EReal := (m ((c : Thread nD τ).loc main_arg0) : Vec Ideal S4096x2048 .bf16) (ix2 t k)
def rhs (e : Fin 2048) (k : Fin 2048) : EReal := (m ((c : Thread nD τ).loc main_arg1) : Vec Ideal S2048x2048 .bf16) (ix2 e k)
/-- Row `r` of point `t`. -/
def row (r : Fin 1024) : Fin 4096 := ⟨1024 * t.val + r.val, by have := t.isLt.trans_eq N_0; omega⟩
theorem index : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) := by decide +kernel

theorem iblk_0 (r : Fin 1024) (k : Fin 2048) : (iblk m c 0 t : Vec Ideal S1024x2048 .bf16) (ix2 r k) = lhs c m (row t r) k :=
  (congrArg (V m c main_arg0 : Vec Ideal S4096x2048 .bf16) (at_block _ _ _ (Window.rect_emb_val win0_0 t (ix2 r k) 0) (Window.rect_emb_val win0_0 t (ix2 r k) 1) (index t).1 rfl (at_zero _ _))).trans
    (congrFun (V_main_arg0 m c) _)
theorem iblk_1 (e : Fin 2048) (k : Fin 2048) : (iblk m c 1 t : Vec Ideal S2048x2048 .bf16) (ix2 e k) = rhs c m e k :=
  (congrArg (V m c main_arg1 : Vec Ideal S2048x2048 .bf16) (at_block _ _ _ (Window.rect_emb_val win0_1 t (ix2 e k) 0) (Window.rect_emb_val win0_1 t (ix2 e k) 1) (index t).2.1 (at_zero _ _) (at_zero _ _))).trans
    (congrFun (V_main_arg1 m c) _)

/-- The array the kernel leaves. -/
theorem array (T : Fin 4096) (e : Fin 2048) : ((dats m 0 c).arrAt 2 cfg0.N : Vec Ideal S4096x2048 .f32) (ix2 T e) = ∑ k : Fin 2048, lhs c m T k * rhs c m e k := by
  obtain ⟨t, r, rfl⟩ : ∃ (t : Fin cfg0.N) (r : Fin 1024), T = row t r :=
    ⟨⟨T.val / 1024, (by omega : T.val / 1024 < 4).trans_eq N_0.symm⟩, ⟨T.val % 1024, by omega⟩, Fin.ext (by show T.val = 1024 * (T.val / 1024) + T.val % 1024; omega)⟩
  have hi : (((cfg0.win 2).blk t).view.emb (ix2 r e) : S4096x2048.Idx) = ix2 (row t r) e :=
    at_block _ _ _ (Window.rect_emb_val win0_2 t (ix2 r e) 0) (Window.rect_emb_val win0_2 t (ix2 r e) 1) (index t).2.2 rfl (at_zero _ _)
  rw [← hi]
  refine ((dats m 0 c).arrAt_emb_eq_flushed 2 (Window.hdisj_of_index_inj _ (by decide +kernel)) t (flush0_2 t) (ix2 r e)).trans ?_
  refine (congrFun (after0_2 m c t) (ix2 r e)).trans ((out_apply ..).trans ?_)
  exact Finset.sum_congr rfl fun k _ => congrArg₂ (fun a b : EReal => a * b) (iblk_0 c m t r k) (iblk_1 c m t e k)
end Cert.MixDyIdeal.Val

namespace Cert.GradOutIdeal.Val
open Cert.GradOutIdeal Cert.GradOutIdeal.Gen Cert.Block
theorem pay_apply (x : Vec Ideal S4096x512 .bf16) (y : Vec Ideal S4096x2048 .bf16) (r : Fin 512) (d : Fin 2048) :
    k0_pay1 x y (ix2 r d) = ∑ t : Fin 4096, x (ix2 t r) * y (ix2 t d) := by
  pointwise [k0_pay1]
theorem out_apply (x : Vec Ideal S4096x512 .bf16) (y : Vec Ideal S4096x2048 .bf16) (r : Fin 512) (d : Fin 2048) : out0_2 x y (ix2 r d) = ∑ t : Fin 4096, x (ix2 t r) * y (ix2 t d) := by
  unfold out0_2
  rw [View.canon_unit_zero hz2, View.ld_unit_zero (S := S4096x512) hz2, View.ld_unit_zero (S := S4096x2048) hz2, pay_apply]

variable (c : Dev nD) (m : (ℓ : Loc nD τ sig) → Buf (Elt Ideal) ℓ) (t : Fin cfg0.N)
def lhs (t : Fin 4096) (e : Fin 2048) : EReal := (m ((c : Thread nD τ).loc main_arg0) : Vec Ideal S4096x2048 .bf16) (ix2 t e)
def rhs (t : Fin 4096) (d : Fin 2048) : EReal := (m ((c : Thread nD τ).loc main_arg1) : Vec Ideal S4096x2048 .bf16) (ix2 t d)
/-- Column `r` of point `t`. -/
def col (r : Fin 512) : Fin 2048 := ⟨512 * t.val + r.val, by have := t.isLt.trans_eq N_0; omega⟩
theorem index : ∀ t : Fin cfg0.N, (win0_0.index t 0 = 0 ∧ win0_0.index t 1 = t.val) ∧ (win0_1.index t 0 = 0 ∧ win0_1.index t 1 = 0)
    ∧ (win0_2.index t 0 = t.val ∧ win0_2.index t 1 = 0) := by decide +kernel

theorem iblk_0 (s : Fin 4096) (r : Fin 512) : (iblk m c 0 t : Vec Ideal S4096x512 .bf16) (ix2 s r) = lhs c m s (col t r) :=
  (congrArg (V m c main_arg0 : Vec Ideal S4096x2048 .bf16) (at_block _ _ _ (Window.rect_emb_val win0_0 t (ix2 s r) 0) (Window.rect_emb_val win0_0 t (ix2 s r) 1) (index t).1 (at_zero _ _) rfl)).trans
    (congrFun (V_main_arg0 m c) _)
theorem iblk_1 (s : Fin 4096) (d : Fin 2048) : (iblk m c 1 t : Vec Ideal S4096x2048 .bf16) (ix2 s d) = rhs c m s d :=
  (congrArg (V m c main_arg1 : Vec Ideal S4096x2048 .bf16) (at_block _ _ _ (Window.rect_emb_val win0_1 t (ix2 s d) 0) (Window.rect_emb_val win0_1 t (ix2 s d) 1) (index t).2.1 (at_zero _ _) (at_zero _ _))).trans
    (congrFun (V_main_arg1 m c) _)

/-- The array the kernel leaves. -/
theorem array (e d : Fin 2048) : ((dats m 0 c).arrAt 2 cfg0.N : Vec Ideal S2048x2048 .bf16) (ix2 e d) = ∑ t : Fin 4096, lhs c m t e * rhs c m t d := by
  obtain ⟨t, r, rfl⟩ : ∃ (t : Fin cfg0.N) (r : Fin 512), e = col t r :=
    ⟨⟨e.val / 512, (by omega : e.val / 512 < 4).trans_eq N_0.symm⟩, ⟨e.val % 512, by omega⟩, Fin.ext (by show e.val = 512 * (e.val / 512) + e.val % 512; omega)⟩
  have hi : (((cfg0.win 2).blk t).view.emb (ix2 r d) : S2048x2048.Idx) = ix2 (col t r) d :=
    at_block _ _ _ (Window.rect_emb_val win0_2 t (ix2 r d) 0) (Window.rect_emb_val win0_2 t (ix2 r d) 1) (index t).2.2 rfl (at_zero _ _)
  rw [← hi]
  refine ((dats m 0 c).arrAt_emb_eq_flushed 2 (Window.hdisj_of_index_inj _ (by decide +kernel)) t (flush0_2 t) (ix2 r d)).trans ?_
  refine (congrFun (after0_2 m c t) (ix2 r d)).trans ((out_apply ..).trans ?_)
  exact Finset.sum_congr rfl fun s _ => congrArg₂ (fun a b : EReal => a * b) (iblk_0 c m t s r) (iblk_1 c m t s d)
end Cert.GradOutIdeal.Val

namespace Cert.ProjIdeal.Val
open Cert.ProjIdeal Cert.ProjIdeal.Gen Cert.Block
theorem pay_apply (x : Vec Ideal S1024x2048 .bf16) (w : Vec Ideal S2048x1024 .bf16) (r e : Fin 1024) :
    k0_pay1 x w (ix3 0 r e) = ∑ k : Fin 2048, x (ix2 r k) * w (ix2 k e) := by
  pointwise [k0_pay1]
theorem out_apply (x : Vec Ideal S1024x2048 .bf16) (w : Vec Ideal S2048x1024 .bf16) (r e : Fin 1024) : out0_2 x w (ix3 0 r e) = ∑ k : Fin 2048, x (ix2 r k) * w (ix2 k e) := by
  unfold out0_2
  rw [View.canon_unit_zero hz3, View.ld_unit_zero (S := S1024x2048) hz2, View.ld_unit_zero (S := S2048x1024) hz2, pay_apply]

variable (c : Dev nD) (m : (ℓ : Loc nD τ sig) → Buf (Elt Ideal) ℓ) (i : Fin 4) (j : Fin 3)
def lhs (t : Fin 4096) (k : Fin 2048) : EReal := (m ((c : Thread nD τ).loc main_arg0) : Vec Ideal S4096x2048 .bf16) (ix2 t k)
def rhs (k : Fin 2048) (e : Fin 3072) : EReal := (m ((c : Thread nD τ).loc main_arg1) : Vec Ideal S2048x3072 .bf16) (ix2 k e)
/-- The point of row block `i` and third `j`. -/
def pt : Fin cfg0.N := ⟨3 * i.val + j.val, (by omega : 3 * i.val + j.val < 12).trans_eq N_0.symm⟩
def row (r : Fin 1024) : Fin 4096 := ⟨1024 * i.val + r.val, by omega⟩
def col (e : Fin 1024) : Fin 3072 := ⟨1024 * j.val + e.val, by omega⟩
theorem index : ∀ t : Fin cfg0.N, (win0_0.index t 0 = t.val / 3 ∧ win0_0.index t 1 = 0) ∧ (win0_1.index t 0 = 0 ∧ win0_1.index t 1 = t.val % 3)
    ∧ (win0_2.index t 0 = t.val % 3 ∧ win0_2.index t 1 = t.val / 3 ∧ win0_2.index t 2 = 0) := by decide +kernel
theorem pt_div : (pt i j).val / 3 = i.val := by show (3 * i.val + j.val) / 3 = _; omega
theorem pt_mod : (pt i j).val % 3 = j.val := by show (3 * i.val + j.val) % 3 = _; omega

theorem iblk_0 (r : Fin 1024) (k : Fin 2048) : (iblk m c 0 (pt i j) : Vec Ideal S1024x2048 .bf16) (ix2 r k) = lhs c m (row i r) k :=
  (congrArg (V m c main_arg0 : Vec Ideal S4096x2048 .bf16) (at_block _ _ _ (Window.rect_emb_val win0_0 (pt i j) (ix2 r k) 0) (Window.rect_emb_val win0_0 (pt i j) (ix2 r k) 1) (pt_div i j ▸ (index (pt i j)).1) rfl (at_zero _ _))).trans
    (congrFun (V_main_arg0 m c) _)
theorem iblk_1 (k : Fin 2048) (e : Fin 1024) : (iblk m c 1 (pt i j) : Vec Ideal S2048x1024 .bf16) (ix2 k e) = rhs c m k (col j e) :=
  (congrArg (V m c main_arg1 : Vec Ideal S2048x3072 .bf16) (at_block _ _ _ (Window.rect_emb_val win0_1 (pt i j) (ix2 k e) 0) (Window.rect_emb_val win0_1 (pt i j) (ix2 k e) 1) (pt_mod i j ▸ (index (pt i j)).2.1) (at_zero _ _) rfl)).trans
    (congrFun (V_main_arg1 m c) _)

/-- The array the kernel leaves. -/
theorem array (T : Fin 4096) (e : Fin 1024) : ((dats m 0 c).arrAt 2 cfg0.N : Vec Ideal S3x4096x1024 .f32) (ix3 j T e) = ∑ k : Fin 2048, lhs c m T k * rhs c m k (col j e) := by
  obtain ⟨i, r, rfl⟩ : ∃ (i : Fin 4) (r : Fin 1024), T = row i r :=
    ⟨⟨T.val / 1024, by omega⟩, ⟨T.val % 1024, by omega⟩, Fin.ext (by show T.val = 1024 * (T.val / 1024) + T.val % 1024; omega)⟩
  obtain ⟨h0, h1, h2⟩ := (index (pt i j)).2.2
  have hi : (((cfg0.win 2).blk (pt i j)).view.emb (ix3 0 r e) : S3x4096x1024.Idx) = ix3 j (row i r) e := by
    refine at_ix3 _ _ _ _ ((Window.rect_emb_val win0_2 (pt i j) (ix3 0 r e) 0).trans ?_) ((Window.rect_emb_val win0_2 (pt i j) (ix3 0 r e) 1).trans ?_)
      ((Window.rect_emb_val win0_2 (pt i j) (ix3 0 r e) 2).trans ?_)
    · show win0_2.index (pt i j) 0 * 1 + 0 = j.val
      rw [h0, pt_mod]; omega
    · show win0_2.index (pt i j) 1 * 1024 + r.val = 1024 * i.val + r.val
      rw [h1, pt_div]; omega
    · show win0_2.index (pt i j) 2 * 1024 + e.val = e.val
      rw [h2]; omega
  rw [← hi]
  refine ((dats m 0 c).arrAt_emb_eq_flushed 2 (Window.hdisj_of_index_inj _ (by decide +kernel)) (pt i j) (flush0_2 _) (ix3 0 r e)).trans ?_
  refine (congrFun (after0_2 m c (pt i j)) (ix3 0 r e)).trans ((out_apply ..).trans ?_)
  exact Finset.sum_congr rfl fun k _ => congrArg₂ (fun a b : EReal => a * b) (iblk_0 c m i j r k) (iblk_1 c m i j k e)
end Cert.ProjIdeal.Val
-- ==== Proof.AdamBlock.lean ====
module
public import proofs.«01_k».proof.Proof.Products
/-!
# The optimizer's step on a block of rows

One statement for every size of block: what a call leaves at an entry, from its five blocks.
-/
@[expose] public section
noncomputable section
namespace Cert.AdamBlock
open Idealize.ShloMosaic Idealize.ShloMosaic.Pipeline Cert.Adam Cert.Block

/-- A matrix, a stack of three and a stack of one. -/
abbrev M (n k : ℕ) : Shape := ⟨2, ![n, k]⟩
abbrev P (n k : ℕ) : Shape := ⟨3, ![3, n, k]⟩
abbrev Q (n k : ℕ) : Shape := ⟨3, ![1, n, k]⟩

variable {n k : ℕ}

/-- The gradient at an entry. -/
def gsum (o : Vec Ideal (M n k) .f32) (p : Vec Ideal (P n k) .bf16) (r : Fin n) (d : Fin k) : Num :=
  grad (o (ix2 r d)) (p (ix3 0 r d)) (p (ix3 1 r d)) (p (ix3 2 r d))

/-- One device's rows of what arrived. -/
theorem part_apply (p : Vec Ideal (P n k) .bf16) (j : Fin 3) (inb : ∀ a, (![j.val, 0, 0] : Fin 3 → ℕ) a + (Q n k).size a ≤ (P n k).size a) (h : (Q n k).ShapeCasts (M n k))
    (r : Fin n) (d : Fin k) : shapeCast (M n k) (View.ld p (Rect.unit (s := P n k) ![j.val, 0, 0] (Q n k).size inb) : Vec Ideal (Q n k) .bf16) h (ix2 r d) = p (ix3 j r d) := by
  refine (shapeCast_dropUnit_apply ![n, k] _ h (ix2 r d)).trans ?_
  exact congrArg p (at_ix3 _ _ _ _ (by show j.val + 1 * 0 = j.val; omega) (by show 0 + 1 * r.val = r.val; omega) (by show 0 + 1 * d.val = d.val; omega))

section
variable (o : Vec Ideal (M n k) .f32) (p : Vec Ideal (P n k) .bf16) (w x y : Vec Ideal (M n k) .f32)
  (i0 : ∀ a, (![0, 0, 0] : Fin 3 → ℕ) a + (Q n k).size a ≤ (P n k).size a) (i1 : ∀ a, (![1, 0, 0] : Fin 3 → ℕ) a + (Q n k).size a ≤ (P n k).size a)
  (i2 : ∀ a, (![2, 0, 0] : Fin 3 → ℕ) a + (Q n k).size a ≤ (P n k).size a) (h : (Q n k).ShapeCasts (M n k)) (h' : (M n k).ShapeCasts (M n k))
  (hb : FTy.bits .bf16 < FTy.bits .f32) (r : Fin n) (d : Fin k)

/-- The call's sum, -/
def sumOf : FVec Ideal (M n k) .f32 :=
  addf (addf (addf o (extf .f32 (shapeCast (M n k) (View.ld p (Rect.unit (s := P n k) ![0, 0, 0] (Q n k).size i0)) h) hb))
    (extf .f32 (shapeCast (M n k) (View.ld p (Rect.unit (s := P n k) ![1, 0, 0] (Q n k).size i1)) h) hb))
    (extf .f32 (shapeCast (M n k) (View.ld p (Rect.unit (s := P n k) ![2, 0, 0] (Q n k).size i2)) h) hb)
theorem sumOf_apply : sumOf o p i0 i1 i2 h hb (ix2 r d) = gsum o p r d := by
  unfold gsum
  refine Eq.trans ?_ (congr (congrArg₂ (grad _) (part_apply p 0 i0 h r d) (part_apply p 1 i1 h r d)) (part_apply p 2 i2 h r d))
  rfl
/-- its moments, -/
def momOf : FVec Ideal (M n k) .f32 :=
  addf (mulf (broadcast (M n k) (Scalar.ofBits .f32 0x3F666666#32)) (shapeCast (M n k) x h')) (mulf (broadcast (M n k) (Scalar.ofBits .f32 0x3DCCCCCD#32)) (sumOf o p i0 i1 i2 h hb))
theorem momOf_apply : momOf o p x i0 i1 i2 h h' hb (ix2 r d) = mom (x (ix2 r d)) (gsum o p r d) := by
  rw [← sumOf_apply o p i0 i1 i2 h hb, momOf, shapeCast_self x h']
  rfl
def velOf : FVec Ideal (M n k) .f32 :=
  addf (mulf (broadcast (M n k) (Scalar.ofBits .f32 0x3F7FBE77#32)) (shapeCast (M n k) y h'))
    (mulf (broadcast (M n k) (Scalar.ofBits .f32 0x3A83126F#32)) (mulf (sumOf o p i0 i1 i2 h hb) (sumOf o p i0 i1 i2 h hb)))
theorem velOf_apply : velOf o p y i0 i1 i2 h h' hb (ix2 r d) = vel (y (ix2 r d)) (gsum o p r d) := by
  rw [← sumOf_apply o p i0 i1 i2 h hb, velOf, shapeCast_self y h']
  rfl
/-- and the weight's change. -/
def stepOf : FVec Ideal (M n k) .f32 :=
  mulf (broadcast (M n k) (Scalar.ofBits .f32 0xBA83126F#32)) (addf (divf (divf (momOf o p x i0 i1 i2 h h' hb) (broadcast (M n k) (Scalar.ofBits .f32 0x3F26BD02#32)))
    (addf (sqrt (divf (velOf o p y i0 i1 i2 h h' hb) (broadcast (M n k) (Scalar.ofBits .f32 0x3C231ACC#32)))) (broadcast (M n k) (Scalar.ofBits .f32 0x322BCC77#32))))
    (mulf (broadcast (M n k) (Scalar.ofBits .f32 0x3C23D70A#32)) (shapeCast (M n k) w h')))
theorem stepOf_apply : stepOf o p w x y i0 i1 i2 h h' hb (ix2 r d) = step (w (ix2 r d)) (mom (x (ix2 r d)) (gsum o p r d)) (vel (y (ix2 r d)) (gsum o p r d)) := by
  rw [← momOf_apply o p x i0 i1 i2 h h' hb, ← velOf_apply o p y i0 i1 i2 h h' hb, stepOf, shapeCast_self w h']
  rfl
end

/-- An entry of a block of rows of a stack. -/
theorem at_stack {a b e k t j r d i0 i1 i2 : ℕ} (y : (⟨3, ![a, b, e]⟩ : Shape).Idx) (J : Fin a) (R : Fin b) (D : Fin e) (h0 : (y 0 : ℕ) = i0 * a + j) (h1 : (y 1 : ℕ) = i1 * k + r)
    (h2 : (y 2 : ℕ) = i2 * e + d) (h : i0 = 0 ∧ i1 = t ∧ i2 = 0) (hr : R.val = k * t + r) (hj : J.val = j := by rfl) (hd : D.val = d := by rfl) : y = ix3 J R D := by
  obtain ⟨rfl, rfl, rfl⟩ := h
  exact at_ix3 y J R D (by omega) (by rw [h1, hr, Nat.mul_comm]) (by omega)
theorem gsum_congr {n k n' : ℕ} {o : Vec Ideal (M n k) .f32} {p : Vec Ideal (P n k) .bf16} {o' : Vec Ideal (M n' k) .f32} {p' : Vec Ideal (P n' k) .bf16} {r : Fin n} {r' : Fin n'} {d : Fin k}
    (h : o (ix2 r d) = o' (ix2 r' d)) (h' : ∀ j, p (ix3 j r d) = p' (ix3 j r' d)) : gsum o p r d = gsum o' p' r' d := by
  unfold gsum
  rw [h, h', h', h']
/-- The reference's gradient. -/
theorem ref_apply {n k : ℕ} (hb : FTy.bits .bf16 < FTy.bits .f32) (hr : (P n k).ReducesTo [0] (M n k)) (hs : 0 < (⟨0, ![]⟩ : Shape).numel) (o : FVec Ideal (M n k) .f32) (p : FVec Ideal (P n k) .bf16) (r : Fin n) (d : Fin k) :
    (addf o (Host.reduceAdd (extf .f32 p hb) (constant (⟨0, ![]⟩ : Shape) .f32 0x00000000#32) hr hs)) (ix2 r d) = gsum o p r d := by
  unfold gsum
  refine Eq.trans ?_ (grad_eq _ _ _ _).symm
  pointwise
  rw [Fin.sum_univ_three]
end Cert.AdamBlock
-- ==== Proof.StepX.lean ====
module
public import proofs.«01_k».proof.Proof.Gen.GradXIdeal.Value
public import proofs.«01_k».proof.Proof.AdamBlock
/-!
# The layer input's gradient and the output weights' step

Eight points, each with 512 rows of the gradient and 32 rows of the weights' step.
-/
@[expose] public section
set_option maxRecDepth 16384
noncomputable section
namespace Cert.GradXIdeal.Val
open Idealize.ShloMosaic Idealize.ShloMosaic.TcCoe Idealize.ShloMosaic.Pipeline Cert.GradXIdeal Cert.GradXIdeal.Gen Cert.Adam Cert.Block Cert.AdamBlock
open Idealize.SL Idealize.SL.Sem

/-! ## A point's values -/

/-- The scale of the gradient that bypasses the layer. -/
def alpha : EReal := lit 0x3F9837F0#32

theorem pay2_apply (x : Vec Ideal S512x3072 .bf16) (w : Vec Ideal S2048x3072 .bf16) (y : Vec Ideal S512x2048 .f32) (r : Fin 512) (d : Fin 2048) :
    k0_pay2 x w y (ix2 r d) = alpha * y (ix2 r d) + ∑ k : Fin 3072, x (ix2 r k) * w (ix2 d k) := by
  unfold alpha lit
  pointwise [k0_pay2]

variable (x0 : Vec Ideal S512x3072 .bf16) (x1 : Vec Ideal S2048x3072 .bf16) (x2 : Vec Ideal S512x2048 .f32) (x3 : Vec Ideal S8x128 .f32)
  (x4 : Vec Ideal S32x2048 .f32) (x5 : Vec Ideal S3x32x2048 .bf16) (x6 x7 x8 : Vec Ideal S32x2048 .f32) (r : Fin 32) (d : Fin 2048)

theorem out9_apply (r : Fin 512) : out0_9 x0 x1 x2 x3 x4 x5 x6 x7 x8 (ix2 r d) = alpha * x2 (ix2 r d) + ∑ k : Fin 3072, x0 (ix2 r k) * x1 (ix2 d k) := by
  unfold out0_9
  rw [View.canon_unit_zero hz2, View.ld_unit_zero (S := S512x3072) hz2, View.ld_unit_zero (S := S2048x3072) hz2, View.ld_unit_zero (S := S512x2048) hz2, pay2_apply]
theorem out10_apply : out0_10 x0 x1 x2 x3 x4 x5 x6 x7 x8 (ix2 r d) = gsum x4 x5 r d := by
  unfold out0_10
  rw [View.canon_unit_zero hz2]
  simp only [View.ld_unit_zero (S := S32x2048) hz2]
  exact sumOf_apply ..
theorem out12_apply : out0_12 x0 x1 x2 x3 x4 x5 x6 x7 x8 (ix2 r d) = mom (x7 (ix2 r d)) (gsum x4 x5 r d) := by
  unfold out0_12
  rw [View.canon_unit_zero hz2]
  simp only [View.ld_unit_zero (S := S32x2048) hz2]
  exact momOf_apply ..
theorem out13_apply : out0_13 x0 x1 x2 x3 x4 x5 x6 x7 x8 (ix2 r d) = vel (x8 (ix2 r d)) (gsum x4 x5 r d) := by
  unfold out0_13
  rw [View.canon_unit_zero hz2]
  simp only [View.ld_unit_zero (S := S32x2048) hz2]
  exact velOf_apply ..
theorem out11_apply : out0_11 x0 x1 x2 x3 x4 x5 x6 x7 x8 (ix2 r d) = step (x6 (ix2 r d)) (mom (x7 (ix2 r d)) (gsum x4 x5 r d)) (vel (x8 (ix2 r d)) (gsum x4 x5 r d)) := by
  unfold out0_11
  rw [View.canon_unit_zero hz2]
  simp only [View.ld_unit_zero (S := S32x2048) hz2]
  exact stepOf_apply ..

/-! ## The arrays -/

/-- Row `r` of point `t`'s rows of the gradient and of the weights. -/
def big (t : Fin cfg0.N) (r : Fin 512) : Fin 4096 := ⟨512 * t.val + r.val, by have := t.isLt.trans_eq N_0; omega⟩
def row (t : Fin cfg0.N) (r : Fin 32) : Fin 256 := ⟨32 * t.val + r.val, by have := t.isLt.trans_eq N_0; omega⟩

theorem index0 : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_9.index t 0 = t.val ∧ win0_9.index t 1 = 0)
    ∧ (win0_5.index t 0 = 0 ∧ win0_5.index t 1 = t.val ∧ win0_5.index t 2 = 0) := by decide +kernel
theorem index1 : ∀ t : Fin cfg0.N, (win0_4.index t 0 = t.val ∧ win0_4.index t 1 = 0) ∧ (win0_6.index t 0 = t.val ∧ win0_6.index t 1 = 0)
    ∧ (win0_7.index t 0 = t.val ∧ win0_7.index t 1 = 0) ∧ (win0_8.index t 0 = t.val ∧ win0_8.index t 1 = 0)
    ∧ (win0_10.index t 0 = t.val ∧ win0_10.index t 1 = 0) ∧ (win0_11.index t 0 = t.val ∧ win0_11.index t 1 = 0)
    ∧ (win0_12.index t 0 = t.val ∧ win0_12.index t 1 = 0) ∧ (win0_13.index t 0 = t.val ∧ win0_13.index t 1 = 0) := by decide +kernel

/-- An entry of a block of whole rows, from the block's index. -/
theorem at_rows {n0 n1 : ℕ} {k : ℕ} (y : (⟨2, ![n0, n1]⟩ : Shape).Idx) (i j t r : ℕ) (d : Fin n1) (a : Fin n0)
    (h0 : (y 0 : ℕ) = i * k + r) (h1 : (y 1 : ℕ) = j * n1 + d.val) (h : i = t ∧ j = 0) (ha : a.val = k * t + r) : y = ix2 a d := by
  obtain ⟨rfl, rfl⟩ := h
  exact at_ix2 y a d (by rw [h0, ha, Nat.mul_comm]) (by rw [h1]; omega)

variable (c : Dev nD) (m : (ℓ : Loc nD τ sig) → Buf (Elt Ideal) ℓ) (t : Fin cfg0.N)

/-- The projection's gradient, its weights and the gradient that bypasses the layer. -/
def inp (t : Fin 4096) (k : Fin 3072) : EReal := (m ((c : Thread nD τ).loc main_arg0) : Vec Ideal S4096x3072 .bf16) (ix2 t k)
def wgt (d : Fin 2048) (k : Fin 3072) : EReal := (m ((c : Thread nD τ).loc main_arg1) : Vec Ideal S2048x3072 .bf16) (ix2 d k)
def byp (t : Fin 4096) (d : Fin 2048) : EReal := (m ((c : Thread nD τ).loc main_arg2) : Vec Ideal S4096x2048 .f32) (ix2 t d)

theorem iblk_0 (r : Fin 512) (k : Fin 3072) : (iblk m c 0 t : Vec Ideal S512x3072 .bf16) (ix2 r k) = inp c m (big t r) k :=
  (congrArg (V m c main_arg0 : Vec Ideal S4096x3072 .bf16) (at_rows _ _ _ _ _ _ _ (Window.rect_emb_val win0_0 t (ix2 r k) 0) (Window.rect_emb_val win0_0 t (ix2 r k) 1) (index0 t).1 rfl)).trans
    (congrFun (V_main_arg0 m c) _)
theorem iblk_1 (d : Fin 2048) (k : Fin 3072) : (iblk m c 1 t : Vec Ideal S2048x3072 .bf16) (ix2 d k) = wgt c m d k :=
  (congrArg (V m c main_arg1 : Vec Ideal S2048x3072 .bf16) (at_rows _ _ _ _ _ _ _ (Window.rect_emb_val win0_1 t (ix2 d k) 0) (Window.rect_emb_val win0_1 t (ix2 d k) 1) (index0 t).2.1 (by show d.val = 2048 * 0 + d.val; omega))).trans
    (congrFun (V_main_arg1 m c) _)
theorem iblk_2 (r : Fin 512) (d : Fin 2048) : (iblk m c 2 t : Vec Ideal S512x2048 .f32) (ix2 r d) = byp c m (big t r) d :=
  (congrArg (V m c main_arg2 : Vec Ideal S4096x2048 .f32) (at_rows _ _ _ _ _ _ _ (Window.rect_emb_val win0_2 t (ix2 r d) 0) (Window.rect_emb_val win0_2 t (ix2 r d) 1) (index0 t).2.2.1 rfl)).trans
    (congrFun (V_main_arg2 m c) _)
theorem iblk_4 : (iblk m c 4 t : Vec Ideal S32x2048 .f32) (ix2 r d) = (m ((c : Thread nD τ).loc main_arg3) : Vec Ideal S256x2048 .f32) (ix2 (row t r) d) :=
  (congrArg (V m c main_arg3 : Vec Ideal S256x2048 .f32) (at_rows _ _ _ _ _ _ _ (Window.rect_emb_val win0_4 t (ix2 r d) 0) (Window.rect_emb_val win0_4 t (ix2 r d) 1) (index1 t).1 rfl)).trans
    (congrFun (V_main_arg3 m c) _)
theorem iblk_5 (j : Fin 3) : (iblk m c 5 t : Vec Ideal S3x32x2048 .bf16) (ix3 j r d) = (m ((c : Thread nD τ).loc main_arg4) : Vec Ideal S3x256x2048 .bf16) (ix3 j (row t r) d) :=
  (congrArg (V m c main_arg4 : Vec Ideal S3x256x2048 .bf16) (at_stack _ _ _ _ (Window.rect_emb_val win0_5 t (ix3 j r d) 0) (Window.rect_emb_val win0_5 t (ix3 j r d) 1)
    (Window.rect_emb_val win0_5 t (ix3 j r d) 2) (index0 t).2.2.2.2 rfl)).trans (congrFun (V_main_arg4 m c) _)

/-- The weights and their moments without their leading axis. -/
def flat (x : Vec Ideal S1x256x2048 .f32) : Vec Ideal S256x2048 .f32 := shapeCast S256x2048 x shapeCasts_S1x256x2048_S256x2048

def wt (r : Fin 256) (d : Fin 2048) : Num := flat (m ((c : Thread nD τ).loc main_arg5)) (ix2 r d)
def m1 (r : Fin 256) (d : Fin 2048) : Num := flat (m ((c : Thread nD τ).loc main_arg6)) (ix2 r d)
def m2 (r : Fin 256) (d : Fin 2048) : Num := flat (m ((c : Thread nD τ).loc main_arg7)) (ix2 r d)

theorem iblk_6 : (iblk m c 6 t : Vec Ideal S32x2048 .f32) (ix2 r d) = wt c m (row t r) d :=
  congrArg (V m c main_v0 : Vec Ideal S256x2048 .f32) (at_rows _ _ _ _ _ _ _ (Window.rect_emb_val win0_6 t (ix2 r d) 0) (Window.rect_emb_val win0_6 t (ix2 r d) 1) (index1 t).2.1 rfl)
theorem iblk_7 : (iblk m c 7 t : Vec Ideal S32x2048 .f32) (ix2 r d) = m1 c m (row t r) d :=
  congrArg (V m c main_v1 : Vec Ideal S256x2048 .f32) (at_rows _ _ _ _ _ _ _ (Window.rect_emb_val win0_7 t (ix2 r d) 0) (Window.rect_emb_val win0_7 t (ix2 r d) 1) (index1 t).2.2.1 rfl)
theorem iblk_8 : (iblk m c 8 t : Vec Ideal S32x2048 .f32) (ix2 r d) = m2 c m (row t r) d :=
  congrArg (V m c main_v2 : Vec Ideal S256x2048 .f32) (at_rows _ _ _ _ _ _ _ (Window.rect_emb_val win0_8 t (ix2 r d) 0) (Window.rect_emb_val win0_8 t (ix2 r d) 1) (index1 t).2.2.2.1 rfl)

/-- The gradient of the weights, over the whole arrays. -/
def gw (r : Fin 256) (d : Fin 2048) : Num :=
  gsum (m ((c : Thread nD τ).loc main_arg3) : Vec Ideal S256x2048 .f32) (m ((c : Thread nD τ).loc main_arg4) : Vec Ideal S3x256x2048 .bf16) r d

theorem gsum_block : gsum (iblk m c 4 t) (iblk m c 5 t) r d = gw c m (row t r) d :=
  gsum_congr (iblk_4 r d c m t) (iblk_5 r d c m t)

theorem at_point (R : Fin 256) : ∃ (t : Fin cfg0.N) (r : Fin 32), R = row t r :=
  ⟨⟨R.val / 32, (by omega : R.val / 32 < 8).trans_eq N_0.symm⟩, ⟨R.val % 32, by omega⟩, Fin.ext (by show R.val = 32 * (R.val / 32) + R.val % 32; omega)⟩

theorem array9 (T : Fin 4096) : ((dats m 0 c).arrAt 9 cfg0.N : Vec Ideal S4096x2048 .f32) (ix2 T d)
    = alpha * byp c m T d + ∑ k : Fin 3072, inp c m T k * wgt c m d k := by
  obtain ⟨t, r, rfl⟩ : ∃ (t : Fin cfg0.N) (r : Fin 512), T = big t r :=
    ⟨⟨T.val / 512, (by omega : T.val / 512 < 8).trans_eq N_0.symm⟩, ⟨T.val % 512, by omega⟩, Fin.ext (by show T.val = 512 * (T.val / 512) + T.val % 512; omega)⟩
  have hi : (((cfg0.win 9).blk t).view.emb (ix2 r d) : S4096x2048.Idx) = ix2 (big t r) d :=
    at_rows _ _ _ _ _ _ _ (Window.rect_emb_val win0_9 t (ix2 r d) 0) (Window.rect_emb_val win0_9 t (ix2 r d) 1) (index0 t).2.2.2.1 rfl
  rw [← hi]
  refine ((dats m 0 c).arrAt_emb_eq_flushed 9 (Window.hdisj_of_index_inj _ (by decide +kernel)) t (flush0_9 t) (ix2 r d)).trans ?_
  refine (congrFun (after0_9 m c t) (ix2 r d)).trans ((out9_apply ..).trans ?_)
  rw [iblk_2]
  exact congrArg (fun s : EReal => _ + s) (Finset.sum_congr rfl fun k _ => congrArg₂ (fun a b : EReal => a * b) (iblk_0 c m t r k) (iblk_1 c m t d k))

theorem array10 (R : Fin 256) : ((dats m 0 c).arrAt 10 cfg0.N : Vec Ideal S256x2048 .f32) (ix2 R d) = gw c m R d := by
  obtain ⟨t, r, rfl⟩ := at_point R
  have hi : (((cfg0.win 10).blk t).view.emb (ix2 r d) : S256x2048.Idx) = ix2 (row t r) d :=
    at_rows _ _ _ _ _ _ _ (Window.rect_emb_val win0_10 t (ix2 r d) 0) (Window.rect_emb_val win0_10 t (ix2 r d) 1) (index1 t).2.2.2.2.1 rfl
  rw [← hi]
  refine ((dats m 0 c).arrAt_emb_eq_flushed 10 (Window.hdisj_of_index_inj _ (by decide +kernel)) t (flush0_10 t) (ix2 r d)).trans ?_
  exact (congrFun (after0_10 m c t) (ix2 r d)).trans ((out10_apply ..).trans (gsum_block ..))

theorem array11 (R : Fin 256) : ((dats m 0 c).arrAt 11 cfg0.N : Vec Ideal S256x2048 .f32) (ix2 R d)
    = step (wt c m R d) (mom (m1 c m R d) (gw c m R d))
        (vel (m2 c m R d) (gw c m R d)) := by
  obtain ⟨t, r, rfl⟩ := at_point R
  have hi : (((cfg0.win 11).blk t).view.emb (ix2 r d) : S256x2048.Idx) = ix2 (row t r) d :=
    at_rows _ _ _ _ _ _ _ (Window.rect_emb_val win0_11 t (ix2 r d) 0) (Window.rect_emb_val win0_11 t (ix2 r d) 1) (index1 t).2.2.2.2.2.1 rfl
  rw [← hi]
  refine ((dats m 0 c).arrAt_emb_eq_flushed 11 (Window.hdisj_of_index_inj _ (by decide +kernel)) t (flush0_11 t) (ix2 r d)).trans ?_
  refine (congrFun (after0_11 m c t) (ix2 r d)).trans ((out11_apply ..).trans ?_)
  rw [gsum_block, iblk_6, iblk_7, iblk_8]

theorem array12 (R : Fin 256) : ((dats m 0 c).arrAt 12 cfg0.N : Vec Ideal S256x2048 .f32) (ix2 R d)
    = mom (m1 c m R d) (gw c m R d) := by
  obtain ⟨t, r, rfl⟩ := at_point R
  have hi : (((cfg0.win 12).blk t).view.emb (ix2 r d) : S256x2048.Idx) = ix2 (row t r) d :=
    at_rows _ _ _ _ _ _ _ (Window.rect_emb_val win0_12 t (ix2 r d) 0) (Window.rect_emb_val win0_12 t (ix2 r d) 1) (index1 t).2.2.2.2.2.2.1 rfl
  rw [← hi]
  refine ((dats m 0 c).arrAt_emb_eq_flushed 12 (Window.hdisj_of_index_inj _ (by decide +kernel)) t (flush0_12 t) (ix2 r d)).trans ?_
  refine (congrFun (after0_12 m c t) (ix2 r d)).trans ((out12_apply ..).trans ?_)
  rw [gsum_block, iblk_7]

theorem array13 (R : Fin 256) : ((dats m 0 c).arrAt 13 cfg0.N : Vec Ideal S256x2048 .f32) (ix2 R d)
    = vel (m2 c m R d) (gw c m R d) := by
  obtain ⟨t, r, rfl⟩ := at_point R
  have hi : (((cfg0.win 13).blk t).view.emb (ix2 r d) : S256x2048.Idx) = ix2 (row t r) d :=
    at_rows _ _ _ _ _ _ _ (Window.rect_emb_val win0_13 t (ix2 r d) 0) (Window.rect_emb_val win0_13 t (ix2 r d) 1) (index1 t).2.2.2.2.2.2.2 rfl
  rw [← hi]
  refine ((dats m 0 c).arrAt_emb_eq_flushed 13 (Window.hdisj_of_index_inj _ (by decide +kernel)) t (flush0_13 t) (ix2 r d)).trans ?_
  refine (congrFun (after0_13 m c t) (ix2 r d)).trans ((out13_apply ..).trans ?_)
  rw [gsum_block, iblk_8]

end Cert.GradXIdeal.Val
-- ==== Proof.StepXEquation.lean ====
module
public import proofs.«01_k».proof.Defs
public import proofs.«01_k».proof.Proof.Gen.GradX
public import proofs.«01_k».proof.Proof.Gen.GradXReferenceIdeal.Run
public import proofs.«01_k».proof.Proof.StepX
/-!
# The layer input's gradient and the output weights' step: kernel and reference agree
-/
@[expose] public section
set_option maxRecDepth 65536
noncomputable section
open Idealize.ShloMosaic Idealize.ShloMosaic.TcCoe Idealize.ShloMosaic.StableHlo Idealize.SL.Sem Cert.Adam

namespace Cert.GradXReferenceIdeal.Val
open Cert.GradXReferenceIdeal Cert.GradXReferenceIdeal.Gen
/-- The input's gradient. -/
def dx (x : FVec Ideal S4096x3072 .bf16) (w : FVec Ideal S2048x3072 .bf16) (y : FVec Ideal S4096x2048 .f32) : FVec Ideal S4096x2048 .f32 :=
  shapeCast _ (addf (Host.dotGeneral dot_S1x4096x3072_S2048x3072_S1x4096x2048_2_1_01_0_n_n none (extf .f32 (broadcastInDim S1x4096x3072 ![1, 2] bcast_S4096x3072_S1x4096x3072_1_2 x) bitsLt_bf16_f32) (extf .f32 w bitsLt_bf16_f32)) (mulf (broadcastInDim S1x4096x2048 ![] bcast_S_S1x4096x2048 (constant S_ .f32 0x3F9837F0#32)) (broadcastInDim S1x4096x2048 ![1, 2] bcast_S4096x2048_S1x4096x2048_1_2 y))) shapeCasts_S1x4096x2048_S4096x2048
theorem dx_apply (x : Vec Ideal S4096x3072 .bf16) (w : Vec Ideal S2048x3072 .bf16) (y : Vec Ideal S4096x2048 .f32) (t : Fin 4096) (d : Fin 2048) :
    (dx x w y : Vec Ideal S4096x2048 .f32) (ix2 t d) = (∑ k : Fin 3072, x (ix2 t k) * w (ix2 d k)) + Cert.GradXIdeal.Val.alpha * y (ix2 t d) := by
  unfold Cert.GradXIdeal.Val.alpha lit
  pointwise [dx]
end Cert.GradXReferenceIdeal.Val

namespace Cert.StepXEq
theorem defs₀ : Cert.GradX.defs₀ (F := Bits) = Cert.GradXIdeal.defs₀ (F := Bits) :=
  congrArg (Defs.onTc (nD := Cert.GradX.nD) (τ := Cert.GradX.τ) (sig := Cert.GradX.sig) (Val := Elt Bits) (Λ := Cert.GradX.Λ₀))
    (funext fun l => funext fun a => match l, a with
      | 0, (_, _) => rfl)
theorem defs : Cert.GradX.defs (F := Bits) = Cert.GradXIdeal.defs (F := Bits) :=
  congrArg (Idealize.ShloMosaic.Pipeline.defs Cert.GradX.pcfgs) defs₀
theorem kernel : Cert.quiescent_GradX := by
  intro m ρ _
  have h := Cert.GradXIdeal.Gen.frame (F := Bits) m ρ
  rw [defs]
  exact h
theorem reference : Cert.quiescent_GradXReferenceIdeal := fun m ρ _ =>
  (θ_run Cert.GradXReferenceIdeal.defs _ _).mono (fun r h => ⟨fun c => (h c).2.2.2.2.2, sem_eq_zero_of_no_sems (by decide) r.2⟩)
    (Cert.GradXReferenceIdeal.Value.run m ρ)

theorem agree : Cert.algebraic_GradXIdeal_GradXReferenceIdeal := by
  intro m ρ m' ρ' _ hargs
  refine ⟨fun c => (Cert.GradXIdeal.Gen.dats m 0 c).arrAt 9 Cert.GradXIdeal.cfg0.N, fun c => (Cert.GradXIdeal.Gen.dats m 0 c).arrAt 10 Cert.GradXIdeal.cfg0.N,
    fun c => (Cert.GradXIdeal.Gen.dats m 0 c).arrAt 11 Cert.GradXIdeal.cfg0.N, fun c => (Cert.GradXIdeal.Gen.dats m 0 c).arrAt 12 Cert.GradXIdeal.cfg0.N,
    fun c => (Cert.GradXIdeal.Gen.dats m 0 c).arrAt 13 Cert.GradXIdeal.cfg0.N, Cert.GradXIdeal.Value.run_blocks m ρ, ?_⟩
  refine (θ_run Cert.GradXReferenceIdeal.defs _ _).mono (fun r h c => ?_) (Cert.GradXReferenceIdeal.Value.run m' ρ')
  obtain ⟨h0, h1, h2, h3, h4, ha⟩ := h c
  obtain ⟨e0, e1, e2, e3, e4, e5, e6, e7, -⟩ := hargs c
  rw [e0, e1, e2] at h0
  rw [e3, e4] at h1
  rw [e3, e4, e5, e6, e7] at h2
  rw [e3, e4, e6] at h3
  rw [e3, e4, e7] at h4
  have hg (r : Fin 256) (d : Fin 2048) := Cert.AdamBlock.ref_apply Cert.GradXReferenceIdeal.Gen.bitsLt_bf16_f32 Cert.GradXReferenceIdeal.Gen.reducesTo_S3x256x2048_S256x2048_d0 Cert.GradXReferenceIdeal.Gen.h_S_ (m ((c.tc : Thread Cert.GradXIdeal.nD Cert.GradXIdeal.τ).loc Cert.GradXIdeal.main_arg3)) (m ((c.tc : Thread Cert.GradXIdeal.nD Cert.GradXIdeal.τ).loc Cert.GradXIdeal.main_arg4)) r d
  refine ⟨h0.trans ?_, h1.trans ?_, h2.trans ?_, h3.trans ?_, h4.trans ?_, ha⟩
  · funext i
    obtain ⟨t, d, rfl⟩ : ∃ (t : Fin 4096) (d : Fin 2048), i = ix2 t d := ⟨_, _, ValueIdx.eq_ix2 i⟩
    exact (Cert.GradXReferenceIdeal.Val.dx_apply _ _ _ t d).trans ((@add_comm EReal _ _ _).trans (Cert.GradXIdeal.Val.array9 d c m t).symm)
  · funext i
    obtain ⟨r, d, rfl⟩ : ∃ (r : Fin 256) (d : Fin 2048), i = ix2 r d := ⟨_, _, ValueIdx.eq_ix2 i⟩
    exact (hg r d).trans (Cert.GradXIdeal.Val.array10 d c m r).symm
  · funext i
    obtain ⟨r, d, rfl⟩ : ∃ (r : Fin 256) (d : Fin 2048), i = ix2 r d := ⟨_, _, ValueIdx.eq_ix2 i⟩
    refine Eq.trans ?_ (Cert.GradXIdeal.Val.array11 d c m r).symm
    exact congrArg (fun g : Num => step (Cert.GradXIdeal.Val.wt c m r d) (mom (Cert.GradXIdeal.Val.m1 c m r d) g) (vel (Cert.GradXIdeal.Val.m2 c m r d) g)) (hg r d)
  · funext i
    obtain ⟨r, d, rfl⟩ : ∃ (r : Fin 256) (d : Fin 2048), i = ix2 r d := ⟨_, _, ValueIdx.eq_ix2 i⟩
    refine Eq.trans ?_ (Cert.GradXIdeal.Val.array12 d c m r).symm
    exact congrArg (fun g : Num => mom (Cert.GradXIdeal.Val.m1 c m r d) g) (hg r d)
  · funext i
    obtain ⟨r, d, rfl⟩ : ∃ (r : Fin 256) (d : Fin 2048), i = ix2 r d := ⟨_, _, ValueIdx.eq_ix2 i⟩
    refine Eq.trans ?_ (Cert.GradXIdeal.Val.array13 d c m r).symm
    exact congrArg (fun g : Num => vel (Cert.GradXIdeal.Val.m2 c m r d) g) (hg r d)

end Cert.StepXEq
-- ==== Proof.StepIn.lean ====
module
public import proofs.«01_k».proof.Proof.Gen.InStepIdeal.Value
public import proofs.«01_k».proof.Proof.AdamBlock
/-!
# The projection weights' gradient and the second weights' step

Sixteen points, each with a block of two slots of the gradient and 64 rows of the weights' step.
-/
@[expose] public section
set_option maxRecDepth 16384
noncomputable section
namespace Cert.InStepIdeal.Val
open Idealize.ShloMosaic Idealize.ShloMosaic.TcCoe Idealize.ShloMosaic.Pipeline Cert.InStepIdeal Cert.InStepIdeal.Gen Cert.Adam Cert.Block Cert.AdamBlock
open Idealize.SL Idealize.SL.Sem

/-! ## A point's values -/

theorem pay2_apply (x : Vec Ideal S4096x512 .bf16) (y : Vec Ideal S4096x768 .bf16) (r : Fin 512) (e : Fin 768) :
    k0_pay2 x y (ix2 r e) = ∑ t : Fin 4096, x (ix2 t r) * y (ix2 t e) := by
  pointwise [k0_pay2]

variable (x0 : Vec Ideal S4096x512 .bf16) (x1 : Vec Ideal S4096x768 .bf16) (x2 : Vec Ideal S64x2048 .f32) (x3 : Vec Ideal S3x64x2048 .bf16)
  (x4 x5 x6 : Vec Ideal S64x2048 .f32) (r : Fin 64) (d : Fin 2048)

theorem out7_apply (b : Fin 2) (r : Fin 512) (e : Fin 384) :
    out0_7 x0 x1 x2 x3 x4 x5 x6 (ix3 b r e) = ∑ t : Fin 4096, x0 (ix2 t r) * x1 (ix2 t (⟨384 * b.val + e.val, by omega⟩ : Fin 768)) := by
  unfold out0_7
  refine (Cert.InStepIdeal.Value.canon7_eq _ _ _).trans ?_
  rw [View.ld_unit_zero (S := S4096x512) hz2, View.ld_unit_zero (S := S4096x768) hz2]
  refine Eq.trans ?_ (pay2_apply x0 x1 r ⟨384 * b.val + e.val, by omega⟩)
  exact congrArg (k0_pay2 x0 x1) (at_ix2 _ r (⟨384 * b.val + e.val, by omega⟩ : Fin 768) rfl (by show b.val * 384 + e.val = 384 * b.val + e.val; omega))
theorem out8_apply : out0_8 x0 x1 x2 x3 x4 x5 x6 (ix2 r d) = gsum x2 x3 r d := by
  unfold out0_8
  rw [View.canon_unit_zero hz2]
  simp only [View.ld_unit_zero (S := S64x2048) hz2]
  exact sumOf_apply ..
theorem out10_apply : out0_10 x0 x1 x2 x3 x4 x5 x6 (ix2 r d) = mom (x5 (ix2 r d)) (gsum x2 x3 r d) := by
  unfold out0_10
  rw [View.canon_unit_zero hz2]
  simp only [View.ld_unit_zero (S := S64x2048) hz2]
  exact momOf_apply ..
theorem out11_apply : out0_11 x0 x1 x2 x3 x4 x5 x6 (ix2 r d) = vel (x6 (ix2 r d)) (gsum x2 x3 r d) := by
  unfold out0_11
  rw [View.canon_unit_zero hz2]
  simp only [View.ld_unit_zero (S := S64x2048) hz2]
  exact velOf_apply ..
theorem out9_apply : out0_9 x0 x1 x2 x3 x4 x5 x6 (ix2 r d) = step (x4 (ix2 r d)) (mom (x5 (ix2 r d)) (gsum x2 x3 r d)) (vel (x6 (ix2 r d)) (gsum x2 x3 r d)) := by
  unfold out0_9
  rw [View.canon_unit_zero hz2]
  simp only [View.ld_unit_zero (S := S64x2048) hz2]
  exact stepOf_apply ..

/-! ## The arrays -/

/-- The point of column block `i` and pair of slots `j`. -/
def pt (i j : Fin 4) : Fin cfg0.N := ⟨4 * i.val + j.val, (by omega : 4 * i.val + j.val < 16).trans_eq N_0.symm⟩
def col (i : Fin 4) (r : Fin 512) : Fin 2048 := ⟨512 * i.val + r.val, by omega⟩
/-- Column `e` of slot `J`. -/
def slot (J : Fin 8) (e : Fin 384) : Fin 3072 := ⟨384 * J.val + e.val, by omega⟩
/-- Row `r` of point `t`'s rows of the weights. -/
def row (t : Fin cfg0.N) (r : Fin 64) : Fin 1024 := ⟨64 * t.val + r.val, by have := t.isLt.trans_eq N_0; omega⟩
theorem pt_div (i j : Fin 4) : (pt i j).val / 4 = i.val := by show (4 * i.val + j.val) / 4 = _; omega
theorem pt_mod (i j : Fin 4) : (pt i j).val % 4 = j.val := by show (4 * i.val + j.val) % 4 = _; omega

theorem index0 : ∀ t : Fin cfg0.N, (win0_0.index t 0 = 0 ∧ win0_0.index t 1 = t.val / 4) ∧ (win0_1.index t 0 = 0 ∧ win0_1.index t 1 = t.val % 4)
    ∧ (win0_7.index t 0 = t.val % 4 ∧ win0_7.index t 1 = t.val / 4 ∧ win0_7.index t 2 = 0)
    ∧ (win0_3.index t 0 = 0 ∧ win0_3.index t 1 = t.val ∧ win0_3.index t 2 = 0) := by decide +kernel
theorem index1 : ∀ t : Fin cfg0.N, (win0_2.index t 0 = t.val ∧ win0_2.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_8.index t 0 = t.val ∧ win0_8.index t 1 = 0) ∧ (win0_9.index t 0 = t.val ∧ win0_9.index t 1 = 0)
    ∧ (win0_10.index t 0 = t.val ∧ win0_10.index t 1 = 0) ∧ (win0_11.index t 0 = t.val ∧ win0_11.index t 1 = 0) := by decide +kernel

variable (c : Dev nD) (m : (ℓ : Loc nD τ sig) → Buf (Elt Ideal) ℓ) (t : Fin cfg0.N)

/-- The step's input and the projection's gradient. -/
def lhs (t : Fin 4096) (k : Fin 2048) : EReal := (m ((c : Thread nD τ).loc main_arg0) : Vec Ideal S4096x2048 .bf16) (ix2 t k)
def rhs (t : Fin 4096) (e : Fin 3072) : EReal := (m ((c : Thread nD τ).loc main_arg1) : Vec Ideal S4096x3072 .bf16) (ix2 t e)

theorem iblk_0 (i j : Fin 4) (s : Fin 4096) (r : Fin 512) : (iblk m c 0 (pt i j) : Vec Ideal S4096x512 .bf16) (ix2 s r) = lhs c m s (col i r) :=
  (congrArg (V m c main_arg0 : Vec Ideal S4096x2048 .bf16) (at_block _ _ _ (Window.rect_emb_val win0_0 (pt i j) (ix2 s r) 0) (Window.rect_emb_val win0_0 (pt i j) (ix2 s r) 1) (pt_div i j ▸ (index0 (pt i j)).1) (at_zero _ _) rfl)).trans
    (congrFun (V_main_arg0 m c) _)
theorem iblk_1 (i j : Fin 4) (b : Fin 2) (J : Fin 8) (hJ : J.val = 2 * j.val + b.val) (s : Fin 4096) (e : Fin 384) :
    (iblk m c 1 (pt i j) : Vec Ideal S4096x768 .bf16) (ix2 s (⟨384 * b.val + e.val, by omega⟩ : Fin 768)) = rhs c m s (slot J e) :=
  (congrArg (V m c main_arg1 : Vec Ideal S4096x3072 .bf16) (at_block _ _ _ (Window.rect_emb_val win0_1 (pt i j) (ix2 s (⟨384 * b.val + e.val, by omega⟩ : Fin 768)) 0)
    (Window.rect_emb_val win0_1 (pt i j) (ix2 s (⟨384 * b.val + e.val, by omega⟩ : Fin 768)) 1) (pt_mod i j ▸ (index0 (pt i j)).2.1) (at_zero _ _)
      (by show 384 * J.val + e.val = 768 * j.val + (384 * b.val + e.val); omega))).trans
    (congrFun (V_main_arg1 m c) _)
theorem iblk_2 : (iblk m c 2 t : Vec Ideal S64x2048 .f32) (ix2 r d) = (m ((c : Thread nD τ).loc main_arg2) : Vec Ideal S1024x2048 .f32) (ix2 (row t r) d) :=
  (congrArg (V m c main_arg2 : Vec Ideal S1024x2048 .f32) (at_block _ _ _ (Window.rect_emb_val win0_2 t (ix2 r d) 0) (Window.rect_emb_val win0_2 t (ix2 r d) 1) (index1 t).1 rfl (at_zero _ _))).trans
    (congrFun (V_main_arg2 m c) _)
theorem iblk_3 (j : Fin 3) : (iblk m c 3 t : Vec Ideal S3x64x2048 .bf16) (ix3 j r d) = (m ((c : Thread nD τ).loc main_arg3) : Vec Ideal S3x1024x2048 .bf16) (ix3 j (row t r) d) :=
  (congrArg (V m c main_arg3 : Vec Ideal S3x1024x2048 .bf16) (at_stack _ _ _ _ (Window.rect_emb_val win0_3 t (ix3 j r d) 0) (Window.rect_emb_val win0_3 t (ix3 j r d) 1)
    (Window.rect_emb_val win0_3 t (ix3 j r d) 2) (index0 t).2.2.2 rfl)).trans (congrFun (V_main_arg3 m c) _)

/-- The weights and their moments without their leading axis. -/
def flat (x : Vec Ideal S1x1024x2048 .f32) : Vec Ideal S1024x2048 .f32 := shapeCast S1024x2048 x shapeCasts_S1x1024x2048_S1024x2048

def wt (r : Fin 1024) (d : Fin 2048) : Num := flat (m ((c : Thread nD τ).loc main_arg4)) (ix2 r d)
def m1 (r : Fin 1024) (d : Fin 2048) : Num := flat (m ((c : Thread nD τ).loc main_arg5)) (ix2 r d)
def m2 (r : Fin 1024) (d : Fin 2048) : Num := flat (m ((c : Thread nD τ).loc main_arg6)) (ix2 r d)

theorem iblk_4 : (iblk m c 4 t : Vec Ideal S64x2048 .f32) (ix2 r d) = wt c m (row t r) d :=
  congrArg (V m c main_v0 : Vec Ideal S1024x2048 .f32) (at_block _ _ _ (Window.rect_emb_val win0_4 t (ix2 r d) 0) (Window.rect_emb_val win0_4 t (ix2 r d) 1) (index1 t).2.1 rfl (at_zero _ _))
theorem iblk_5 : (iblk m c 5 t : Vec Ideal S64x2048 .f32) (ix2 r d) = m1 c m (row t r) d :=
  congrArg (V m c main_v1 : Vec Ideal S1024x2048 .f32) (at_block _ _ _ (Window.rect_emb_val win0_5 t (ix2 r d) 0) (Window.rect_emb_val win0_5 t (ix2 r d) 1) (index1 t).2.2.1 rfl (at_zero _ _))
theorem iblk_6 : (iblk m c 6 t : Vec Ideal S64x2048 .f32) (ix2 r d) = m2 c m (row t r) d :=
  congrArg (V m c main_v2 : Vec Ideal S1024x2048 .f32) (at_block _ _ _ (Window.rect_emb_val win0_6 t (ix2 r d) 0) (Window.rect_emb_val win0_6 t (ix2 r d) 1) (index1 t).2.2.2.1 rfl (at_zero _ _))

/-- The gradient of the weights, over the whole arrays. -/
def gw (r : Fin 1024) (d : Fin 2048) : Num :=
  gsum (m ((c : Thread nD τ).loc main_arg2) : Vec Ideal S1024x2048 .f32) (m ((c : Thread nD τ).loc main_arg3) : Vec Ideal S3x1024x2048 .bf16) r d

theorem gsum_block : gsum (iblk m c 2 t) (iblk m c 3 t) r d = gw c m (row t r) d :=
  gsum_congr (iblk_2 r d c m t) (iblk_3 r d c m t)

theorem at_point (R : Fin 1024) : ∃ (t : Fin cfg0.N) (r : Fin 64), R = row t r :=
  ⟨⟨R.val / 64, (by omega : R.val / 64 < 16).trans_eq N_0.symm⟩, ⟨R.val % 64, by omega⟩, Fin.ext (by show R.val = 64 * (R.val / 64) + R.val % 64; omega)⟩

theorem array7 (J : Fin 8) (D : Fin 2048) (e : Fin 384) : ((dats m 0 c).arrAt 7 cfg0.N : Vec Ideal S8x2048x384 .bf16) (ix3 J D e)
    = ∑ s : Fin 4096, lhs c m s D * rhs c m s (slot J e) := by
  obtain ⟨i, r, rfl⟩ : ∃ (i : Fin 4) (r : Fin 512), D = col i r :=
    ⟨⟨D.val / 512, by omega⟩, ⟨D.val % 512, by omega⟩, Fin.ext (by show D.val = 512 * (D.val / 512) + D.val % 512; omega)⟩
  obtain ⟨j, b, hJ⟩ : ∃ (j : Fin 4) (b : Fin 2), J.val = 2 * j.val + b.val := ⟨⟨J.val / 2, by omega⟩, ⟨J.val % 2, by omega⟩, by show J.val = 2 * (J.val / 2) + J.val % 2; omega⟩
  obtain ⟨h0, h1, h2⟩ := (index0 (pt i j)).2.2.1
  have hi : (((cfg0.win 7).blk (pt i j)).view.emb (ix3 b r e) : S8x2048x384.Idx) = ix3 J (col i r) e := by
    refine at_ix3 _ _ _ _ ((Window.rect_emb_val win0_7 (pt i j) (ix3 b r e) 0).trans ?_) ((Window.rect_emb_val win0_7 (pt i j) (ix3 b r e) 1).trans ?_)
      ((Window.rect_emb_val win0_7 (pt i j) (ix3 b r e) 2).trans ?_)
    · show win0_7.index (pt i j) 0 * 2 + b.val = J.val
      rw [h0, pt_mod]; omega
    · show win0_7.index (pt i j) 1 * 512 + r.val = 512 * i.val + r.val
      rw [h1, pt_div]; omega
    · show win0_7.index (pt i j) 2 * 384 + e.val = e.val
      rw [h2]; omega
  rw [← hi]
  refine ((dats m 0 c).arrAt_emb_eq_flushed 7 (Window.hdisj_of_index_inj _ (by decide +kernel)) (pt i j) (flush0_7 _) (ix3 b r e)).trans ?_
  refine (congrFun (after0_7 m c (pt i j)) (ix3 b r e)).trans ((out7_apply ..).trans ?_)
  exact Finset.sum_congr rfl fun s _ => congrArg₂ (fun a b : EReal => a * b) (iblk_0 c m i j s r) (iblk_1 c m i j b J hJ s e)

theorem array8 (R : Fin 1024) : ((dats m 0 c).arrAt 8 cfg0.N : Vec Ideal S1024x2048 .f32) (ix2 R d) = gw c m R d := by
  obtain ⟨t, r, rfl⟩ := at_point R
  have hi : (((cfg0.win 8).blk t).view.emb (ix2 r d) : S1024x2048.Idx) = ix2 (row t r) d :=
    at_block _ _ _ (Window.rect_emb_val win0_8 t (ix2 r d) 0) (Window.rect_emb_val win0_8 t (ix2 r d) 1) (index1 t).2.2.2.2.1 rfl (at_zero _ _)
  rw [← hi]
  refine ((dats m 0 c).arrAt_emb_eq_flushed 8 (Window.hdisj_of_index_inj _ (by decide +kernel)) t (flush0_8 t) (ix2 r d)).trans ?_
  exact (congrFun (after0_8 m c t) (ix2 r d)).trans ((out8_apply ..).trans (gsum_block ..))

theorem array9 (R : Fin 1024) : ((dats m 0 c).arrAt 9 cfg0.N : Vec Ideal S1024x2048 .f32) (ix2 R d)
    = step (wt c m R d) (mom (m1 c m R d) (gw c m R d)) (vel (m2 c m R d) (gw c m R d)) := by
  obtain ⟨t, r, rfl⟩ := at_point R
  have hi : (((cfg0.win 9).blk t).view.emb (ix2 r d) : S1024x2048.Idx) = ix2 (row t r) d :=
    at_block _ _ _ (Window.rect_emb_val win0_9 t (ix2 r d) 0) (Window.rect_emb_val win0_9 t (ix2 r d) 1) (index1 t).2.2.2.2.2.1 rfl (at_zero _ _)
  rw [← hi]
  refine ((dats m 0 c).arrAt_emb_eq_flushed 9 (Window.hdisj_of_index_inj _ (by decide +kernel)) t (flush0_9 t) (ix2 r d)).trans ?_
  refine (congrFun (after0_9 m c t) (ix2 r d)).trans ((out9_apply ..).trans ?_)
  rw [gsum_block, iblk_4, iblk_5, iblk_6]

theorem array10 (R : Fin 1024) : ((dats m 0 c).arrAt 10 cfg0.N : Vec Ideal S1024x2048 .f32) (ix2 R d) = mom (m1 c m R d) (gw c m R d) := by
  obtain ⟨t, r, rfl⟩ := at_point R
  have hi : (((cfg0.win 10).blk t).view.emb (ix2 r d) : S1024x2048.Idx) = ix2 (row t r) d :=
    at_block _ _ _ (Window.rect_emb_val win0_10 t (ix2 r d) 0) (Window.rect_emb_val win0_10 t (ix2 r d) 1) (index1 t).2.2.2.2.2.2.1 rfl (at_zero _ _)
  rw [← hi]
  refine ((dats m 0 c).arrAt_emb_eq_flushed 10 (Window.hdisj_of_index_inj _ (by decide +kernel)) t (flush0_10 t) (ix2 r d)).trans ?_
  refine (congrFun (after0_10 m c t) (ix2 r d)).trans ((out10_apply ..).trans ?_)
  rw [gsum_block, iblk_5]

theorem array11 (R : Fin 1024) : ((dats m 0 c).arrAt 11 cfg0.N : Vec Ideal S1024x2048 .f32) (ix2 R d) = vel (m2 c m R d) (gw c m R d) := by
  obtain ⟨t, r, rfl⟩ := at_point R
  have hi : (((cfg0.win 11).blk t).view.emb (ix2 r d) : S1024x2048.Idx) = ix2 (row t r) d :=
    at_block _ _ _ (Window.rect_emb_val win0_11 t (ix2 r d) 0) (Window.rect_emb_val win0_11 t (ix2 r d) 1) (index1 t).2.2.2.2.2.2.2 rfl (at_zero _ _)
  rw [← hi]
  refine ((dats m 0 c).arrAt_emb_eq_flushed 11 (Window.hdisj_of_index_inj _ (by decide +kernel)) t (flush0_11 t) (ix2 r d)).trans ?_
  refine (congrFun (after0_11 m c t) (ix2 r d)).trans ((out11_apply ..).trans ?_)
  rw [gsum_block, iblk_6]

end Cert.InStepIdeal.Val
-- ==== Proof.StepInEquation.lean ====
module
public import proofs.«01_k».proof.Defs
public import proofs.«01_k».proof.Proof.Gen.InStep
public import proofs.«01_k».proof.Proof.Gen.InStepReferenceIdeal.Run
public import proofs.«01_k».proof.Proof.StepIn
/-!
# The projection weights' gradient and the second weights' step: kernel and reference agree
-/
@[expose] public section
set_option maxRecDepth 65536
noncomputable section
open Idealize.ShloMosaic Idealize.ShloMosaic.TcCoe Idealize.ShloMosaic.StableHlo Idealize.SL.Sem Cert.Adam

namespace Cert.InStepReferenceIdeal.Val
open Cert.InStepReferenceIdeal Cert.InStepReferenceIdeal.Gen
/-- The projection weights' gradient, by columns, and laid out in slots. -/
def dot (x : FVec Ideal S4096x2048 .bf16) (y : FVec Ideal S4096x3072 .bf16) : FVec Ideal S3072x2048 .f32 :=
  Host.dotGeneral dot_S1x4096x3072_S1x4096x2048_S3072x2048_01_01_2_2_n_n none (extf .f32 (broadcastInDim S1x4096x3072 ![1, 2] bcast_S4096x3072_S1x4096x3072_1_2 y) bitsLt_bf16_f32) (extf .f32 (broadcastInDim S1x4096x2048 ![1, 2] bcast_S4096x2048_S1x4096x2048_1_2 x) bitsLt_bf16_f32)
def out (x : FVec Ideal S4096x2048 .bf16) (y : FVec Ideal S4096x3072 .bf16) : FVec Ideal S8x2048x384 .bf16 :=
  truncf .bf16 (transpose S8x2048x384 [1, 0, 2] (shapeCast _ (transpose S2048x3072 [1, 0] (dot x y) transposes_S3072x2048_S2048x3072_1_0) shapeCasts_S2048x3072_S2048x8x384) transposes_S2048x8x384_S8x2048x384_1_0_2) bitsLt_bf16_f32
theorem dot_apply (x : Vec Ideal S4096x2048 .bf16) (y : Vec Ideal S4096x3072 .bf16) (f : Fin 3072) (d : Fin 2048) :
    (dot x y : Vec Ideal S3072x2048 .f32) (ix2 f d) = ∑ t : Fin 4096, y (ix2 t f) * x (ix2 t d) := by
  pointwise [dot]
  exact Fin.sum_univ_one _
theorem out_apply (x : Vec Ideal S4096x2048 .bf16) (y : Vec Ideal S4096x3072 .bf16) (j : Fin 8) (d : Fin 2048) (e : Fin 384) :
    (out x y : Vec Ideal S8x2048x384 .bf16) (ix3 j d e) = ∑ t : Fin 4096, y (ix2 t (Cert.InStepIdeal.Val.slot j e)) * x (ix2 t d) := by
  refine Eq.trans ?_ (dot_apply x y (Cert.InStepIdeal.Val.slot j e) d)
  pointwise [out]
  exact congrArg (fun k : Fin 3072 => (dot x y : Vec Ideal S3072x2048 .f32) (ix2 k d)) (Fin.ext (by show j.val * 384 + e.val = 384 * j.val + e.val; omega))
end Cert.InStepReferenceIdeal.Val

namespace Cert.StepInEq
open Cert.InStepIdeal.Val
theorem defs₀ : Cert.InStep.defs₀ (F := Bits) = Cert.InStepIdeal.defs₀ (F := Bits) :=
  congrArg (Defs.onTc (nD := Cert.InStep.nD) (τ := Cert.InStep.τ) (sig := Cert.InStep.sig) (Val := Elt Bits) (Λ := Cert.InStep.Λ₀))
    (funext fun l => funext fun a => match l, a with
      | 0, (_, _) => rfl)
theorem kernel : Cert.quiescent_InStep := by
  intro m ρ _
  have h := Cert.InStepIdeal.Gen.frame (F := Bits) m ρ
  rw [show Cert.InStep.defs (F := Bits) = Cert.InStepIdeal.defs (F := Bits) from congrArg (Idealize.ShloMosaic.Pipeline.defs Cert.InStep.pcfgs) defs₀]
  exact h
theorem reference : Cert.quiescent_InStepReferenceIdeal := fun m ρ _ =>
  (θ_run Cert.InStepReferenceIdeal.defs _ _).mono (fun r h => ⟨fun c => (h c).2.2.2.2.2, sem_eq_zero_of_no_sems (by decide) r.2⟩)
    (Cert.InStepReferenceIdeal.Value.run m ρ)

theorem agree : Cert.algebraic_InStepIdeal_InStepReferenceIdeal := by
  intro m ρ m' ρ' _ hargs
  refine ⟨_, _, _, _, _, Cert.InStepIdeal.Value.run_blocks m ρ, ?_⟩
  refine (θ_run Cert.InStepReferenceIdeal.defs _ _).mono (fun r h c => ?_) (Cert.InStepReferenceIdeal.Value.run m' ρ')
  obtain ⟨h0, h1, h2, h3, h4, ha⟩ := h c
  obtain ⟨e0, e1, e2, e3, e4, e5, e6⟩ := hargs c
  rw [e0, e1] at h0
  rw [e2, e3] at h1
  rw [e2, e3, e4, e5, e6] at h2
  rw [e2, e3, e5] at h3
  rw [e2, e3, e6] at h4
  have hg (r : Fin 1024) (d : Fin 2048) := Cert.AdamBlock.ref_apply Cert.InStepReferenceIdeal.Gen.bitsLt_bf16_f32 Cert.InStepReferenceIdeal.Gen.reducesTo_S3x1024x2048_S1024x2048_d0 Cert.InStepReferenceIdeal.Gen.h_S_ (m ((c.tc : Thread Cert.InStepIdeal.nD Cert.InStepIdeal.τ).loc Cert.InStepIdeal.main_arg2)) (m ((c.tc : Thread Cert.InStepIdeal.nD Cert.InStepIdeal.τ).loc Cert.InStepIdeal.main_arg3)) r d
  refine ⟨h0.trans ?_, h1.trans ?_, h2.trans ?_, h3.trans ?_, h4.trans ?_, ha⟩
  · funext i
    obtain ⟨j, d, e, rfl⟩ : ∃ (j : Fin 8) (d : Fin 2048) (e : Fin 384), i = ix3 j d e := ⟨_, _, _, ValueIdx.eq_ix3 i⟩
    refine (Cert.InStepReferenceIdeal.Val.out_apply _ _ j d e).trans (Eq.trans ?_ (array7 c m j d e).symm)
    exact Finset.sum_congr rfl fun s _ => @mul_comm EReal _ _ _
  all_goals
    funext i
    obtain ⟨r, d, rfl⟩ : ∃ (r : Fin 1024) (d : Fin 2048), i = ix2 r d := ⟨_, _, ValueIdx.eq_ix2 i⟩
  · exact (hg r d).trans (array8 d c m r).symm
  · exact (congrArg (fun g : Num => step (wt c m r d) (mom (m1 c m r d) g) (vel (m2 c m r d) g)) (hg r d)).trans (array9 d c m r).symm
  · exact (congrArg (fun g : Num => mom (m1 c m r d) g) (hg r d)).trans (array10 d c m r).symm
  · exact (congrArg (fun g : Num => vel (m2 c m r d) g) (hg r d)).trans (array11 d c m r).symm

end Cert.StepInEq
-- ==== Proof.AdamW1.lean ====
module
public import proofs.«01_k».proof.Defs
public import proofs.«01_k».proof.Proof.Gen.AdamW1
public import proofs.«01_k».proof.Proof.Gen.AdamW1Ideal.Value
public import proofs.«01_k».proof.Proof.Gen.AdamW1ReferenceIdeal.Run
public import proofs.«01_k».proof.Proof.AdamBlock
/-!
# The step of the first weights
-/
@[expose] public section
set_option maxRecDepth 65536
noncomputable section
open Idealize.ShloMosaic Idealize.ShloMosaic.TcCoe Idealize.ShloMosaic.Pipeline Idealize.SL Idealize.SL.Sem Cert.Adam Cert.Block Cert.AdamBlock

namespace Cert.AdamW1Ideal.Val
open Cert.AdamW1Ideal Cert.AdamW1Ideal.Gen

/-- Row `r` of point `t`. -/
def row (t : Fin cfg0.N) (r : Fin 512) : Fin 2048 := ⟨512 * t.val + r.val, by have := t.isLt.trans_eq N_0; omega⟩
theorem at_point (R : Fin 2048) : ∃ (t : Fin cfg0.N) (r : Fin 512), R = row t r :=
  ⟨⟨R.val / 512, (by omega : R.val / 512 < 4).trans_eq N_0.symm⟩, ⟨R.val % 512, by omega⟩, Fin.ext (by show R.val = 512 * (R.val / 512) + R.val % 512; omega)⟩
theorem index0 : ∀ t : Fin cfg0.N, (win0_0.index t 0 = t.val ∧ win0_0.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) ∧ (win0_8.index t 0 = t.val ∧ win0_8.index t 1 = 0)
    ∧ (win0_1.index t 0 = 0 ∧ win0_1.index t 1 = t.val ∧ win0_1.index t 2 = 0) := by decide +kernel

variable (c : Dev nD) (m : (ℓ : Loc nD τ sig) → Buf (Elt Ideal) ℓ) (t : Fin cfg0.N) (r : Fin 512) (d : Fin 1024)

theorem iblk_0 : (iblk m c 0 t : Vec Ideal S512x1024 .f32) (ix2 r d) = (m ((c : Thread nD τ).loc main_arg0) : Vec Ideal S2048x1024 .f32) (ix2 (row t r) d) :=
  (congrArg (V m c main_arg0 : Vec Ideal S2048x1024 .f32) (at_block _ _ _ (Window.rect_emb_val win0_0 t (ix2 r d) 0) (Window.rect_emb_val win0_0 t (ix2 r d) 1) (index0 t).1 rfl (at_zero _ _))).trans
    (congrFun (V_main_arg0 m c) _)
theorem iblk_1 (j : Fin 3) : (iblk m c 1 t : Vec Ideal S3x512x1024 .bf16) (ix3 j r d) = (m ((c : Thread nD τ).loc main_arg1) : Vec Ideal S3x2048x1024 .bf16) (ix3 j (row t r) d) :=
  (congrArg (V m c main_arg1 : Vec Ideal S3x2048x1024 .bf16) (at_stack _ _ _ _ (Window.rect_emb_val win0_1 t (ix3 j r d) 0) (Window.rect_emb_val win0_1 t (ix3 j r d) 1)
    (Window.rect_emb_val win0_1 t (ix3 j r d) 2) (index0 t).2.2.2.2.2.2.2.2 rfl)).trans (congrFun (V_main_arg1 m c) _)

/-- The weights and their moments without their leading axis. -/
def flat (x : Vec Ideal S1x2048x1024 .f32) : Vec Ideal S2048x1024 .f32 := shapeCast S2048x1024 x shapeCasts_S1x2048x1024_S2048x1024
def wt (r : Fin 2048) (d : Fin 1024) : Num := flat (m ((c : Thread nD τ).loc main_arg2)) (ix2 r d)
def m1 (r : Fin 2048) (d : Fin 1024) : Num := flat (m ((c : Thread nD τ).loc main_arg3)) (ix2 r d)
def m2 (r : Fin 2048) (d : Fin 1024) : Num := flat (m ((c : Thread nD τ).loc main_arg4)) (ix2 r d)
theorem iblk_2 : (iblk m c 2 t : Vec Ideal S512x1024 .f32) (ix2 r d) = wt c m (row t r) d :=
  congrArg (V m c main_v0 : Vec Ideal S2048x1024 .f32) (at_block _ _ _ (Window.rect_emb_val win0_2 t (ix2 r d) 0) (Window.rect_emb_val win0_2 t (ix2 r d) 1) (index0 t).2.1 rfl (at_zero _ _))
theorem iblk_3 : (iblk m c 3 t : Vec Ideal S512x1024 .f32) (ix2 r d) = m1 c m (row t r) d :=
  congrArg (V m c main_v1 : Vec Ideal S2048x1024 .f32) (at_block _ _ _ (Window.rect_emb_val win0_3 t (ix2 r d) 0) (Window.rect_emb_val win0_3 t (ix2 r d) 1) (index0 t).2.2.1 rfl (at_zero _ _))
theorem iblk_4 : (iblk m c 4 t : Vec Ideal S512x1024 .f32) (ix2 r d) = m2 c m (row t r) d :=
  congrArg (V m c main_v2 : Vec Ideal S2048x1024 .f32) (at_block _ _ _ (Window.rect_emb_val win0_4 t (ix2 r d) 0) (Window.rect_emb_val win0_4 t (ix2 r d) 1) (index0 t).2.2.2.1 rfl (at_zero _ _))

/-- The gradient over the whole arrays. -/
def gw (r : Fin 2048) (d : Fin 1024) : Num :=
  gsum (m ((c : Thread nD τ).loc main_arg0) : Vec Ideal S2048x1024 .f32) (m ((c : Thread nD τ).loc main_arg1) : Vec Ideal S3x2048x1024 .bf16) r d
theorem gsum_block : gsum (iblk m c 0 t) (iblk m c 1 t) r d = gw c m (row t r) d :=
  gsum_congr (iblk_0 c m t r d) (iblk_1 c m t r d)

theorem array5 (R : Fin 2048) : ((dats m 0 c).arrAt 5 cfg0.N : Vec Ideal S2048x1024 .f32) (ix2 R d) = gw c m R d := by
  obtain ⟨t, r, rfl⟩ := at_point R
  have hi : (((cfg0.win 5).blk t).view.emb (ix2 r d) : S2048x1024.Idx) = ix2 (row t r) d :=
    at_block _ _ _ (Window.rect_emb_val win0_5 t (ix2 r d) 0) (Window.rect_emb_val win0_5 t (ix2 r d) 1) (index0 t).2.2.2.2.1 rfl (at_zero _ _)
  rw [← hi]
  refine ((dats m 0 c).arrAt_emb_eq_flushed 5 (Window.hdisj_of_index_inj _ (by decide +kernel)) t (flush0_5 t) (ix2 r d)).trans ?_
  refine (congrFun (after0_5 m c t) (ix2 r d)).trans ?_
  unfold out0_5
  rw [View.canon_unit_zero hz2, View.ld_unit_zero (S := S512x1024) hz2]
  exact (sumOf_apply ..).trans (gsum_block ..)
theorem array6 (R : Fin 2048) : ((dats m 0 c).arrAt 6 cfg0.N : Vec Ideal S2048x1024 .f32) (ix2 R d) = step (wt c m R d) (mom (m1 c m R d) (gw c m R d)) (vel (m2 c m R d) (gw c m R d)) := by
  obtain ⟨t, r, rfl⟩ := at_point R
  have hi : (((cfg0.win 6).blk t).view.emb (ix2 r d) : S2048x1024.Idx) = ix2 (row t r) d :=
    at_block _ _ _ (Window.rect_emb_val win0_6 t (ix2 r d) 0) (Window.rect_emb_val win0_6 t (ix2 r d) 1) (index0 t).2.2.2.2.2.1 rfl (at_zero _ _)
  rw [← hi]
  refine ((dats m 0 c).arrAt_emb_eq_flushed 6 (Window.hdisj_of_index_inj _ (by decide +kernel)) t (flush0_6 t) (ix2 r d)).trans ?_
  refine (congrFun (after0_6 m c t) (ix2 r d)).trans ?_
  unfold out0_6
  rw [View.canon_unit_zero hz2]
  simp only [View.ld_unit_zero (S := S512x1024) hz2]
  refine (stepOf_apply ..).trans ?_
  rw [gsum_block, iblk_2, iblk_3, iblk_4]
theorem array7 (R : Fin 2048) : ((dats m 0 c).arrAt 7 cfg0.N : Vec Ideal S2048x1024 .f32) (ix2 R d) = mom (m1 c m R d) (gw c m R d) := by
  obtain ⟨t, r, rfl⟩ := at_point R
  have hi : (((cfg0.win 7).blk t).view.emb (ix2 r d) : S2048x1024.Idx) = ix2 (row t r) d :=
    at_block _ _ _ (Window.rect_emb_val win0_7 t (ix2 r d) 0) (Window.rect_emb_val win0_7 t (ix2 r d) 1) (index0 t).2.2.2.2.2.2.1 rfl (at_zero _ _)
  rw [← hi]
  refine ((dats m 0 c).arrAt_emb_eq_flushed 7 (Window.hdisj_of_index_inj _ (by decide +kernel)) t (flush0_7 t) (ix2 r d)).trans ?_
  refine (congrFun (after0_7 m c t) (ix2 r d)).trans ?_
  unfold out0_7
  rw [View.canon_unit_zero hz2]
  simp only [View.ld_unit_zero (S := S512x1024) hz2]
  refine (momOf_apply ..).trans ?_
  rw [gsum_block, iblk_3]
theorem array8 (R : Fin 2048) : ((dats m 0 c).arrAt 8 cfg0.N : Vec Ideal S2048x1024 .f32) (ix2 R d) = vel (m2 c m R d) (gw c m R d) := by
  obtain ⟨t, r, rfl⟩ := at_point R
  have hi : (((cfg0.win 8).blk t).view.emb (ix2 r d) : S2048x1024.Idx) = ix2 (row t r) d :=
    at_block _ _ _ (Window.rect_emb_val win0_8 t (ix2 r d) 0) (Window.rect_emb_val win0_8 t (ix2 r d) 1) (index0 t).2.2.2.2.2.2.2.1 rfl (at_zero _ _)
  rw [← hi]
  refine ((dats m 0 c).arrAt_emb_eq_flushed 8 (Window.hdisj_of_index_inj _ (by decide +kernel)) t (flush0_8 t) (ix2 r d)).trans ?_
  refine (congrFun (after0_8 m c t) (ix2 r d)).trans ?_
  unfold out0_8
  rw [View.canon_unit_zero hz2]
  simp only [View.ld_unit_zero (S := S512x1024) hz2]
  refine (velOf_apply ..).trans ?_
  rw [gsum_block, iblk_4]

theorem defs₀ : Cert.AdamW1.defs₀ (F := Bits) = Cert.AdamW1Ideal.defs₀ (F := Bits) :=
  congrArg (Defs.onTc (nD := Cert.AdamW1.nD) (τ := Cert.AdamW1.τ) (sig := Cert.AdamW1.sig) (Val := Elt Bits) (Λ := Cert.AdamW1.Λ₀))
    (funext fun l => funext fun a => match l, a with
      | 0, (_, _) => rfl)
theorem kernel : Cert.quiescent_AdamW1 := by
  intro m ρ _
  have h := Cert.AdamW1Ideal.Gen.frame (F := Bits) m ρ
  rw [show Cert.AdamW1.defs (F := Bits) = Cert.AdamW1Ideal.defs (F := Bits) from congrArg (Idealize.ShloMosaic.Pipeline.defs Cert.AdamW1.pcfgs) defs₀]
  exact h
theorem reference : Cert.quiescent_AdamW1ReferenceIdeal := fun m ρ _ =>
  (θ_run Cert.AdamW1ReferenceIdeal.defs _ _).mono (fun r h => ⟨fun c => (h c).2.2.2.2, sem_eq_zero_of_no_sems (by decide) r.2⟩)
    (Cert.AdamW1ReferenceIdeal.Value.run m ρ)
theorem agree : Cert.algebraic_AdamW1Ideal_AdamW1ReferenceIdeal := by
  intro m ρ m' ρ' _ hargs
  have hg (c : Dev nD) (r : Fin 2048) (d : Fin 1024) := ref_apply bitsLt_bf16_f32 Cert.AdamW1ReferenceIdeal.Gen.reducesTo_S3x2048x1024_S2048x1024_d0 Cert.AdamW1ReferenceIdeal.Gen.h_S_ (m ((c.tc : Thread nD τ).loc main_arg0)) (m ((c.tc : Thread nD τ).loc main_arg1)) r d
  refine ⟨_, _, _, _, Cert.AdamW1Ideal.Value.run_blocks m ρ, ?_⟩
  refine (θ_run Cert.AdamW1ReferenceIdeal.defs _ _).mono (fun r h c => ?_) (Cert.AdamW1ReferenceIdeal.Value.run m' ρ')
  obtain ⟨h0, h1, h2, h3, ha⟩ := h c
  obtain ⟨e0, e1, e2, e3, e4⟩ := hargs c
  rw [e0, e1] at h0
  rw [e0, e1, e2, e3, e4] at h1
  rw [e0, e1, e3] at h2
  rw [e0, e1, e4] at h3
  refine ⟨h0.trans ?_, h1.trans ?_, h2.trans ?_, h3.trans ?_, ha⟩
  all_goals
    funext i
    obtain ⟨r, d, rfl⟩ : ∃ (r : Fin 2048) (d : Fin 1024), i = ix2 r d := ⟨_, _, ValueIdx.eq_ix2 i⟩
  · exact (hg c r d).trans (array5 c m d r).symm
  · exact (congrArg (fun g : Num => step (wt c m r d) (mom (m1 c m r d) g) (vel (m2 c m r d) g)) (hg c r d)).trans (array6 c m d r).symm
  · exact (congrArg (fun g : Num => mom (m1 c m r d) g) (hg c r d)).trans (array7 c m d r).symm
  · exact (congrArg (fun g : Num => vel (m2 c m r d) g) (hg c r d)).trans (array8 c m d r).symm
end Cert.AdamW1Ideal.Val
-- ==== Proof.AdamWin.lean ====
module
public import proofs.«01_k».proof.Defs
public import proofs.«01_k».proof.Proof.Gen.AdamWin
public import proofs.«01_k».proof.Proof.Gen.AdamWinIdeal.Value
public import proofs.«01_k».proof.Proof.Gen.AdamWinReferenceIdeal.Run
public import proofs.«01_k».proof.Proof.AdamBlock
/-!
# The step of the projection's weights
-/
@[expose] public section
set_option maxRecDepth 65536
noncomputable section
open Idealize.ShloMosaic Idealize.ShloMosaic.TcCoe Idealize.ShloMosaic.Pipeline Idealize.SL Idealize.SL.Sem Cert.Adam Cert.Block Cert.AdamBlock

namespace Cert.AdamWinIdeal.Val
open Cert.AdamWinIdeal Cert.AdamWinIdeal.Gen

/-- Row `r` of point `t`. -/
def row (t : Fin cfg0.N) (r : Fin 1024) : Fin 2048 := ⟨1024 * t.val + r.val, by have := t.isLt.trans_eq N_0; omega⟩
theorem at_point (R : Fin 2048) : ∃ (t : Fin cfg0.N) (r : Fin 1024), R = row t r :=
  ⟨⟨R.val / 1024, (by omega : R.val / 1024 < 2).trans_eq N_0.symm⟩, ⟨R.val % 1024, by omega⟩, Fin.ext (by show R.val = 1024 * (R.val / 1024) + R.val % 1024; omega)⟩
theorem index0 : ∀ t : Fin cfg0.N, (win0_0.index t 0 = t.val ∧ win0_0.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) ∧ (win0_8.index t 0 = t.val ∧ win0_8.index t 1 = 0)
    ∧ (win0_1.index t 0 = 0 ∧ win0_1.index t 1 = t.val ∧ win0_1.index t 2 = 0) := by decide +kernel

variable (c : Dev nD) (m : (ℓ : Loc nD τ sig) → Buf (Elt Ideal) ℓ) (t : Fin cfg0.N) (r : Fin 1024) (d : Fin 384)

theorem iblk_0 : (iblk m c 0 t : Vec Ideal S1024x384 .f32) (ix2 r d) = (m ((c : Thread nD τ).loc main_arg0) : Vec Ideal S2048x384 .f32) (ix2 (row t r) d) :=
  (congrArg (V m c main_arg0 : Vec Ideal S2048x384 .f32) (at_block _ _ _ (Window.rect_emb_val win0_0 t (ix2 r d) 0) (Window.rect_emb_val win0_0 t (ix2 r d) 1) (index0 t).1 rfl (at_zero _ _))).trans
    (congrFun (V_main_arg0 m c) _)
theorem iblk_1 (j : Fin 3) : (iblk m c 1 t : Vec Ideal S3x1024x384 .bf16) (ix3 j r d) = (m ((c : Thread nD τ).loc main_arg1) : Vec Ideal S3x2048x384 .bf16) (ix3 j (row t r) d) :=
  (congrArg (V m c main_arg1 : Vec Ideal S3x2048x384 .bf16) (at_stack _ _ _ _ (Window.rect_emb_val win0_1 t (ix3 j r d) 0) (Window.rect_emb_val win0_1 t (ix3 j r d) 1)
    (Window.rect_emb_val win0_1 t (ix3 j r d) 2) (index0 t).2.2.2.2.2.2.2.2 rfl)).trans (congrFun (V_main_arg1 m c) _)

/-- The weights and their moments without their leading axis. -/
def flat (x : Vec Ideal S1x2048x384 .f32) : Vec Ideal S2048x384 .f32 := shapeCast S2048x384 x shapeCasts_S1x2048x384_S2048x384
def wt (r : Fin 2048) (d : Fin 384) : Num := flat (m ((c : Thread nD τ).loc main_arg2)) (ix2 r d)
def m1 (r : Fin 2048) (d : Fin 384) : Num := flat (m ((c : Thread nD τ).loc main_arg3)) (ix2 r d)
def m2 (r : Fin 2048) (d : Fin 384) : Num := flat (m ((c : Thread nD τ).loc main_arg4)) (ix2 r d)
theorem iblk_2 : (iblk m c 2 t : Vec Ideal S1024x384 .f32) (ix2 r d) = wt c m (row t r) d :=
  congrArg (V m c main_v0 : Vec Ideal S2048x384 .f32) (at_block _ _ _ (Window.rect_emb_val win0_2 t (ix2 r d) 0) (Window.rect_emb_val win0_2 t (ix2 r d) 1) (index0 t).2.1 rfl (at_zero _ _))
theorem iblk_3 : (iblk m c 3 t : Vec Ideal S1024x384 .f32) (ix2 r d) = m1 c m (row t r) d :=
  congrArg (V m c main_v1 : Vec Ideal S2048x384 .f32) (at_block _ _ _ (Window.rect_emb_val win0_3 t (ix2 r d) 0) (Window.rect_emb_val win0_3 t (ix2 r d) 1) (index0 t).2.2.1 rfl (at_zero _ _))
theorem iblk_4 : (iblk m c 4 t : Vec Ideal S1024x384 .f32) (ix2 r d) = m2 c m (row t r) d :=
  congrArg (V m c main_v2 : Vec Ideal S2048x384 .f32) (at_block _ _ _ (Window.rect_emb_val win0_4 t (ix2 r d) 0) (Window.rect_emb_val win0_4 t (ix2 r d) 1) (index0 t).2.2.2.1 rfl (at_zero _ _))

/-- The gradient over the whole arrays. -/
def gw (r : Fin 2048) (d : Fin 384) : Num :=
  gsum (m ((c : Thread nD τ).loc main_arg0) : Vec Ideal S2048x384 .f32) (m ((c : Thread nD τ).loc main_arg1) : Vec Ideal S3x2048x384 .bf16) r d
theorem gsum_block : gsum (iblk m c 0 t) (iblk m c 1 t) r d = gw c m (row t r) d :=
  gsum_congr (iblk_0 c m t r d) (iblk_1 c m t r d)

theorem array5 (R : Fin 2048) : ((dats m 0 c).arrAt 5 cfg0.N : Vec Ideal S2048x384 .f32) (ix2 R d) = gw c m R d := by
  obtain ⟨t, r, rfl⟩ := at_point R
  have hi : (((cfg0.win 5).blk t).view.emb (ix2 r d) : S2048x384.Idx) = ix2 (row t r) d :=
    at_block _ _ _ (Window.rect_emb_val win0_5 t (ix2 r d) 0) (Window.rect_emb_val win0_5 t (ix2 r d) 1) (index0 t).2.2.2.2.1 rfl (at_zero _ _)
  rw [← hi]
  refine ((dats m 0 c).arrAt_emb_eq_flushed 5 (Window.hdisj_of_index_inj _ (by decide +kernel)) t (flush0_5 t) (ix2 r d)).trans ?_
  refine (congrFun (after0_5 m c t) (ix2 r d)).trans ?_
  unfold out0_5
  rw [View.canon_unit_zero hz2, View.ld_unit_zero (S := S1024x384) hz2]
  exact (sumOf_apply ..).trans (gsum_block ..)
theorem array6 (R : Fin 2048) : ((dats m 0 c).arrAt 6 cfg0.N : Vec Ideal S2048x384 .f32) (ix2 R d) = step (wt c m R d) (mom (m1 c m R d) (gw c m R d)) (vel (m2 c m R d) (gw c m R d)) := by
  obtain ⟨t, r, rfl⟩ := at_point R
  have hi : (((cfg0.win 6).blk t).view.emb (ix2 r d) : S2048x384.Idx) = ix2 (row t r) d :=
    at_block _ _ _ (Window.rect_emb_val win0_6 t (ix2 r d) 0) (Window.rect_emb_val win0_6 t (ix2 r d) 1) (index0 t).2.2.2.2.2.1 rfl (at_zero _ _)
  rw [← hi]
  refine ((dats m 0 c).arrAt_emb_eq_flushed 6 (Window.hdisj_of_index_inj _ (by decide +kernel)) t (flush0_6 t) (ix2 r d)).trans ?_
  refine (congrFun (after0_6 m c t) (ix2 r d)).trans ?_
  unfold out0_6
  rw [View.canon_unit_zero hz2]
  simp only [View.ld_unit_zero (S := S1024x384) hz2]
  refine (stepOf_apply ..).trans ?_
  rw [gsum_block, iblk_2, iblk_3, iblk_4]
theorem array7 (R : Fin 2048) : ((dats m 0 c).arrAt 7 cfg0.N : Vec Ideal S2048x384 .f32) (ix2 R d) = mom (m1 c m R d) (gw c m R d) := by
  obtain ⟨t, r, rfl⟩ := at_point R
  have hi : (((cfg0.win 7).blk t).view.emb (ix2 r d) : S2048x384.Idx) = ix2 (row t r) d :=
    at_block _ _ _ (Window.rect_emb_val win0_7 t (ix2 r d) 0) (Window.rect_emb_val win0_7 t (ix2 r d) 1) (index0 t).2.2.2.2.2.2.1 rfl (at_zero _ _)
  rw [← hi]
  refine ((dats m 0 c).arrAt_emb_eq_flushed 7 (Window.hdisj_of_index_inj _ (by decide +kernel)) t (flush0_7 t) (ix2 r d)).trans ?_
  refine (congrFun (after0_7 m c t) (ix2 r d)).trans ?_
  unfold out0_7
  rw [View.canon_unit_zero hz2]
  simp only [View.ld_unit_zero (S := S1024x384) hz2]
  refine (momOf_apply ..).trans ?_
  rw [gsum_block, iblk_3]
theorem array8 (R : Fin 2048) : ((dats m 0 c).arrAt 8 cfg0.N : Vec Ideal S2048x384 .f32) (ix2 R d) = vel (m2 c m R d) (gw c m R d) := by
  obtain ⟨t, r, rfl⟩ := at_point R
  have hi : (((cfg0.win 8).blk t).view.emb (ix2 r d) : S2048x384.Idx) = ix2 (row t r) d :=
    at_block _ _ _ (Window.rect_emb_val win0_8 t (ix2 r d) 0) (Window.rect_emb_val win0_8 t (ix2 r d) 1) (index0 t).2.2.2.2.2.2.2.1 rfl (at_zero _ _)
  rw [← hi]
  refine ((dats m 0 c).arrAt_emb_eq_flushed 8 (Window.hdisj_of_index_inj _ (by decide +kernel)) t (flush0_8 t) (ix2 r d)).trans ?_
  refine (congrFun (after0_8 m c t) (ix2 r d)).trans ?_
  unfold out0_8
  rw [View.canon_unit_zero hz2]
  simp only [View.ld_unit_zero (S := S1024x384) hz2]
  refine (velOf_apply ..).trans ?_
  rw [gsum_block, iblk_4]

theorem defs₀ : Cert.AdamWin.defs₀ (F := Bits) = Cert.AdamWinIdeal.defs₀ (F := Bits) :=
  congrArg (Defs.onTc (nD := Cert.AdamWin.nD) (τ := Cert.AdamWin.τ) (sig := Cert.AdamWin.sig) (Val := Elt Bits) (Λ := Cert.AdamWin.Λ₀))
    (funext fun l => funext fun a => match l, a with
      | 0, (_, _) => rfl)
theorem kernel : Cert.quiescent_AdamWin := by
  intro m ρ _
  have h := Cert.AdamWinIdeal.Gen.frame (F := Bits) m ρ
  rw [show Cert.AdamWin.defs (F := Bits) = Cert.AdamWinIdeal.defs (F := Bits) from congrArg (Idealize.ShloMosaic.Pipeline.defs Cert.AdamWin.pcfgs) defs₀]
  exact h
theorem reference : Cert.quiescent_AdamWinReferenceIdeal := fun m ρ _ =>
  (θ_run Cert.AdamWinReferenceIdeal.defs _ _).mono (fun r h => ⟨fun c => (h c).2.2.2.2, sem_eq_zero_of_no_sems (by decide) r.2⟩)
    (Cert.AdamWinReferenceIdeal.Value.run m ρ)
theorem agree : Cert.algebraic_AdamWinIdeal_AdamWinReferenceIdeal := by
  intro m ρ m' ρ' _ hargs
  have hg (c : Dev nD) (r : Fin 2048) (d : Fin 384) := ref_apply bitsLt_bf16_f32 Cert.AdamWinReferenceIdeal.Gen.reducesTo_S3x2048x384_S2048x384_d0 Cert.AdamWinReferenceIdeal.Gen.h_S_ (m ((c.tc : Thread nD τ).loc main_arg0)) (m ((c.tc : Thread nD τ).loc main_arg1)) r d
  refine ⟨_, _, _, _, Cert.AdamWinIdeal.Value.run_blocks m ρ, ?_⟩
  refine (θ_run Cert.AdamWinReferenceIdeal.defs _ _).mono (fun r h c => ?_) (Cert.AdamWinReferenceIdeal.Value.run m' ρ')
  obtain ⟨h0, h1, h2, h3, ha⟩ := h c
  obtain ⟨e0, e1, e2, e3, e4⟩ := hargs c
  rw [e0, e1] at h0
  rw [e0, e1, e2, e3, e4] at h1
  rw [e0, e1, e3] at h2
  rw [e0, e1, e4] at h3
  refine ⟨h0.trans ?_, h1.trans ?_, h2.trans ?_, h3.trans ?_, ha⟩
  all_goals
    funext i
    obtain ⟨r, d, rfl⟩ : ∃ (r : Fin 2048) (d : Fin 384), i = ix2 r d := ⟨_, _, ValueIdx.eq_ix2 i⟩
  · exact (hg c r d).trans (array5 c m d r).symm
  · exact (congrArg (fun g : Num => step (wt c m r d) (mom (m1 c m r d) g) (vel (m2 c m r d) g)) (hg c r d)).trans (array6 c m d r).symm
  · exact (congrArg (fun g : Num => mom (m1 c m r d) g) (hg c r d)).trans (array7 c m d r).symm
  · exact (congrArg (fun g : Num => vel (m2 c m r d) g) (hg c r d)).trans (array8 c m d r).symm
end Cert.AdamWinIdeal.Val
-- ==== Proof.AdamPool.lean ====
module
public import proofs.«01_k».proof.Defs
public import proofs.«01_k».proof.Proof.Gen.AdamPool
public import proofs.«01_k».proof.Proof.Gen.AdamPoolIdeal.Value
public import proofs.«01_k».proof.Proof.Gen.AdamPoolReferenceIdeal.Run
public import proofs.«01_k».proof.Proof.AdamBlock
/-!
# The step of the pool's weights
-/
@[expose] public section
set_option maxRecDepth 65536
noncomputable section
open Idealize.ShloMosaic Idealize.ShloMosaic.TcCoe Idealize.ShloMosaic.Pipeline Idealize.SL Idealize.SL.Sem Cert.Adam Cert.Block Cert.AdamBlock

namespace Cert.AdamPoolIdeal.Val
open Cert.AdamPoolIdeal Cert.AdamPoolIdeal.Gen

/-- Row `r` of point `t`. -/
def row (t : Fin cfg0.N) (r : Fin 128) : Fin 128 := ⟨128 * t.val + r.val, by have := t.isLt.trans_eq N_0; omega⟩
theorem at_point (R : Fin 128) : ∃ (t : Fin cfg0.N) (r : Fin 128), R = row t r :=
  ⟨⟨R.val / 128, (by omega : R.val / 128 < 1).trans_eq N_0.symm⟩, ⟨R.val % 128, by omega⟩, Fin.ext (by show R.val = 128 * (R.val / 128) + R.val % 128; omega)⟩
theorem index0 : ∀ t : Fin cfg0.N, (win0_0.index t 0 = t.val ∧ win0_0.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) ∧ (win0_8.index t 0 = t.val ∧ win0_8.index t 1 = 0)
    ∧ (win0_1.index t 0 = 0 ∧ win0_1.index t 1 = t.val ∧ win0_1.index t 2 = 0) := by decide +kernel

variable (c : Dev nD) (m : (ℓ : Loc nD τ sig) → Buf (Elt Ideal) ℓ) (t : Fin cfg0.N) (r : Fin 128) (d : Fin 256)

theorem iblk_0 : (iblk m c 0 t : Vec Ideal S128x256 .f32) (ix2 r d) = (m ((c : Thread nD τ).loc main_arg0) : Vec Ideal S128x256 .f32) (ix2 (row t r) d) :=
  (congrArg (V m c main_arg0 : Vec Ideal S128x256 .f32) (at_block _ _ _ (Window.rect_emb_val win0_0 t (ix2 r d) 0) (Window.rect_emb_val win0_0 t (ix2 r d) 1) (index0 t).1 rfl (at_zero _ _))).trans
    (congrFun (V_main_arg0 m c) _)
theorem iblk_1 (j : Fin 3) : (iblk m c 1 t : Vec Ideal S3x128x256 .bf16) (ix3 j r d) = (m ((c : Thread nD τ).loc main_arg1) : Vec Ideal S3x128x256 .bf16) (ix3 j (row t r) d) :=
  (congrArg (V m c main_arg1 : Vec Ideal S3x128x256 .bf16) (at_stack _ _ _ _ (Window.rect_emb_val win0_1 t (ix3 j r d) 0) (Window.rect_emb_val win0_1 t (ix3 j r d) 1)
    (Window.rect_emb_val win0_1 t (ix3 j r d) 2) (index0 t).2.2.2.2.2.2.2.2 rfl)).trans (congrFun (V_main_arg1 m c) _)

/-- The weights and their moments without their leading axis. -/
def flat (x : Vec Ideal S1x4x32x256 .f32) : Vec Ideal S128x256 .f32 := shapeCast S128x256 x shapeCasts_S1x4x32x256_S128x256
def wt (r : Fin 128) (d : Fin 256) : Num := flat (m ((c : Thread nD τ).loc main_arg2)) (ix2 r d)
def m1 (r : Fin 128) (d : Fin 256) : Num := flat (m ((c : Thread nD τ).loc main_arg3)) (ix2 r d)
def m2 (r : Fin 128) (d : Fin 256) : Num := flat (m ((c : Thread nD τ).loc main_arg4)) (ix2 r d)
theorem iblk_2 : (iblk m c 2 t : Vec Ideal S128x256 .f32) (ix2 r d) = wt c m (row t r) d :=
  congrArg (V m c main_v0 : Vec Ideal S128x256 .f32) (at_block _ _ _ (Window.rect_emb_val win0_2 t (ix2 r d) 0) (Window.rect_emb_val win0_2 t (ix2 r d) 1) (index0 t).2.1 rfl (at_zero _ _))
theorem iblk_3 : (iblk m c 3 t : Vec Ideal S128x256 .f32) (ix2 r d) = m1 c m (row t r) d :=
  congrArg (V m c main_v1 : Vec Ideal S128x256 .f32) (at_block _ _ _ (Window.rect_emb_val win0_3 t (ix2 r d) 0) (Window.rect_emb_val win0_3 t (ix2 r d) 1) (index0 t).2.2.1 rfl (at_zero _ _))
theorem iblk_4 : (iblk m c 4 t : Vec Ideal S128x256 .f32) (ix2 r d) = m2 c m (row t r) d :=
  congrArg (V m c main_v2 : Vec Ideal S128x256 .f32) (at_block _ _ _ (Window.rect_emb_val win0_4 t (ix2 r d) 0) (Window.rect_emb_val win0_4 t (ix2 r d) 1) (index0 t).2.2.2.1 rfl (at_zero _ _))

/-- The gradient over the whole arrays. -/
def gw (r : Fin 128) (d : Fin 256) : Num :=
  gsum (m ((c : Thread nD τ).loc main_arg0) : Vec Ideal S128x256 .f32) (m ((c : Thread nD τ).loc main_arg1) : Vec Ideal S3x128x256 .bf16) r d
theorem gsum_block : gsum (iblk m c 0 t) (iblk m c 1 t) r d = gw c m (row t r) d :=
  gsum_congr (iblk_0 c m t r d) (iblk_1 c m t r d)

theorem array5 (R : Fin 128) : ((dats m 0 c).arrAt 5 cfg0.N : Vec Ideal S128x256 .f32) (ix2 R d) = gw c m R d := by
  obtain ⟨t, r, rfl⟩ := at_point R
  have hi : (((cfg0.win 5).blk t).view.emb (ix2 r d) : S128x256.Idx) = ix2 (row t r) d :=
    at_block _ _ _ (Window.rect_emb_val win0_5 t (ix2 r d) 0) (Window.rect_emb_val win0_5 t (ix2 r d) 1) (index0 t).2.2.2.2.1 rfl (at_zero _ _)
  rw [← hi]
  refine ((dats m 0 c).arrAt_emb_eq_flushed 5 (Window.hdisj_of_index_inj _ (by decide +kernel)) t (flush0_5 t) (ix2 r d)).trans ?_
  refine (congrFun (after0_5 m c t) (ix2 r d)).trans ?_
  unfold out0_5
  rw [View.canon_unit_zero hz2, View.ld_unit_zero (S := S128x256) hz2]
  exact (sumOf_apply ..).trans (gsum_block ..)
theorem array6 (R : Fin 128) : ((dats m 0 c).arrAt 6 cfg0.N : Vec Ideal S128x256 .f32) (ix2 R d) = step (wt c m R d) (mom (m1 c m R d) (gw c m R d)) (vel (m2 c m R d) (gw c m R d)) := by
  obtain ⟨t, r, rfl⟩ := at_point R
  have hi : (((cfg0.win 6).blk t).view.emb (ix2 r d) : S128x256.Idx) = ix2 (row t r) d :=
    at_block _ _ _ (Window.rect_emb_val win0_6 t (ix2 r d) 0) (Window.rect_emb_val win0_6 t (ix2 r d) 1) (index0 t).2.2.2.2.2.1 rfl (at_zero _ _)
  rw [← hi]
  refine ((dats m 0 c).arrAt_emb_eq_flushed 6 (Window.hdisj_of_index_inj _ (by decide +kernel)) t (flush0_6 t) (ix2 r d)).trans ?_
  refine (congrFun (after0_6 m c t) (ix2 r d)).trans ?_
  unfold out0_6
  rw [View.canon_unit_zero hz2]
  simp only [View.ld_unit_zero (S := S128x256) hz2]
  refine (stepOf_apply ..).trans ?_
  rw [gsum_block, iblk_2, iblk_3, iblk_4]
theorem array7 (R : Fin 128) : ((dats m 0 c).arrAt 7 cfg0.N : Vec Ideal S128x256 .f32) (ix2 R d) = mom (m1 c m R d) (gw c m R d) := by
  obtain ⟨t, r, rfl⟩ := at_point R
  have hi : (((cfg0.win 7).blk t).view.emb (ix2 r d) : S128x256.Idx) = ix2 (row t r) d :=
    at_block _ _ _ (Window.rect_emb_val win0_7 t (ix2 r d) 0) (Window.rect_emb_val win0_7 t (ix2 r d) 1) (index0 t).2.2.2.2.2.2.1 rfl (at_zero _ _)
  rw [← hi]
  refine ((dats m 0 c).arrAt_emb_eq_flushed 7 (Window.hdisj_of_index_inj _ (by decide +kernel)) t (flush0_7 t) (ix2 r d)).trans ?_
  refine (congrFun (after0_7 m c t) (ix2 r d)).trans ?_
  unfold out0_7
  rw [View.canon_unit_zero hz2]
  simp only [View.ld_unit_zero (S := S128x256) hz2]
  refine (momOf_apply ..).trans ?_
  rw [gsum_block, iblk_3]
theorem array8 (R : Fin 128) : ((dats m 0 c).arrAt 8 cfg0.N : Vec Ideal S128x256 .f32) (ix2 R d) = vel (m2 c m R d) (gw c m R d) := by
  obtain ⟨t, r, rfl⟩ := at_point R
  have hi : (((cfg0.win 8).blk t).view.emb (ix2 r d) : S128x256.Idx) = ix2 (row t r) d :=
    at_block _ _ _ (Window.rect_emb_val win0_8 t (ix2 r d) 0) (Window.rect_emb_val win0_8 t (ix2 r d) 1) (index0 t).2.2.2.2.2.2.2.1 rfl (at_zero _ _)
  rw [← hi]
  refine ((dats m 0 c).arrAt_emb_eq_flushed 8 (Window.hdisj_of_index_inj _ (by decide +kernel)) t (flush0_8 t) (ix2 r d)).trans ?_
  refine (congrFun (after0_8 m c t) (ix2 r d)).trans ?_
  unfold out0_8
  rw [View.canon_unit_zero hz2]
  simp only [View.ld_unit_zero (S := S128x256) hz2]
  refine (velOf_apply ..).trans ?_
  rw [gsum_block, iblk_4]

theorem defs₀ : Cert.AdamPool.defs₀ (F := Bits) = Cert.AdamPoolIdeal.defs₀ (F := Bits) :=
  congrArg (Defs.onTc (nD := Cert.AdamPool.nD) (τ := Cert.AdamPool.τ) (sig := Cert.AdamPool.sig) (Val := Elt Bits) (Λ := Cert.AdamPool.Λ₀))
    (funext fun l => funext fun a => match l, a with
      | 0, (_, _) => rfl)
theorem kernel : Cert.quiescent_AdamPool := by
  intro m ρ _
  have h := Cert.AdamPoolIdeal.Gen.frame (F := Bits) m ρ
  rw [show Cert.AdamPool.defs (F := Bits) = Cert.AdamPoolIdeal.defs (F := Bits) from congrArg (Idealize.ShloMosaic.Pipeline.defs Cert.AdamPool.pcfgs) defs₀]
  exact h
theorem reference : Cert.quiescent_AdamPoolReferenceIdeal := fun m ρ _ =>
  (θ_run Cert.AdamPoolReferenceIdeal.defs _ _).mono (fun r h => ⟨fun c => (h c).2.2.2.2, sem_eq_zero_of_no_sems (by decide) r.2⟩)
    (Cert.AdamPoolReferenceIdeal.Value.run m ρ)
theorem agree : Cert.algebraic_AdamPoolIdeal_AdamPoolReferenceIdeal := by
  intro m ρ m' ρ' _ hargs
  have hg (c : Dev nD) (r : Fin 128) (d : Fin 256) := ref_apply bitsLt_bf16_f32 Cert.AdamPoolReferenceIdeal.Gen.reducesTo_S3x128x256_S128x256_d0 Cert.AdamPoolReferenceIdeal.Gen.h_S_ (m ((c.tc : Thread nD τ).loc main_arg0)) (m ((c.tc : Thread nD τ).loc main_arg1)) r d
  refine ⟨_, _, _, _, Cert.AdamPoolIdeal.Value.run_blocks m ρ, ?_⟩
  refine (θ_run Cert.AdamPoolReferenceIdeal.defs _ _).mono (fun r h c => ?_) (Cert.AdamPoolReferenceIdeal.Value.run m' ρ')
  obtain ⟨h0, h1, h2, h3, ha⟩ := h c
  obtain ⟨e0, e1, e2, e3, e4⟩ := hargs c
  rw [e0, e1] at h0
  rw [e0, e1, e2, e3, e4] at h1
  rw [e0, e1, e3] at h2
  rw [e0, e1, e4] at h3
  refine ⟨h0.trans ?_, h1.trans ?_, h2.trans ?_, h3.trans ?_, ha⟩
  all_goals
    funext i
    obtain ⟨r, d, rfl⟩ : ∃ (r : Fin 128) (d : Fin 256), i = ix2 r d := ⟨_, _, ValueIdx.eq_ix2 i⟩
  · exact (hg c r d).trans (array5 c m d r).symm
  · exact (congrArg (fun g : Num => step (wt c m r d) (mom (m1 c m r d) g) (vel (m2 c m r d) g)) (hg c r d)).trans (array6 c m d r).symm
  · exact (congrArg (fun g : Num => mom (m1 c m r d) g) (hg c r d)).trans (array7 c m d r).symm
  · exact (congrArg (fun g : Num => vel (m2 c m r d) g) (hg c r d)).trans (array8 c m d r).symm
end Cert.AdamPoolIdeal.Val
-- ==== Proof.ProductsEquation.lean ====
module
public import proofs.«01_k».proof.Defs
public import proofs.«01_k».proof.Proof.Gen.MixDy
public import proofs.«01_k».proof.Proof.Gen.GradOut
public import proofs.«01_k».proof.Proof.Gen.Proj
public import proofs.«01_k».proof.Proof.Gen.MixDyReferenceIdeal.Run
public import proofs.«01_k».proof.Proof.Gen.GradOutReferenceIdeal.Run
public import proofs.«01_k».proof.Proof.Gen.ProjReferenceIdeal.Run
public import proofs.«01_k».proof.Proof.Products
/-!
# The projections' products: kernels and references agree
-/
@[expose] public section
set_option maxRecDepth 65536
noncomputable section
open Idealize.ShloMosaic Idealize.ShloMosaic.TcCoe Idealize.ShloMosaic.StableHlo Idealize.SL.Sem

namespace Cert.MixDyReferenceIdeal.Val
open Cert.MixDyReferenceIdeal Cert.MixDyReferenceIdeal.Gen
/-- The gradient of the mixer's output. -/
def out (x : FVec Ideal S4096x2048 .bf16) (w : FVec Ideal S2048x2048 .bf16) : FVec Ideal S4096x2048 .f32 :=
  shapeCast _ (Host.dotGeneral dot_S1x4096x2048_S2048x2048_S1x4096x2048_2_1_01_0_n_n none (extf .f32 (broadcastInDim S1x4096x2048 ![1, 2] bcast_S4096x2048_S1x4096x2048_1_2 x) bitsLt_bf16_f32) (extf .f32 w bitsLt_bf16_f32)) shapeCasts_S1x4096x2048_S4096x2048
theorem out_apply (x : Vec Ideal S4096x2048 .bf16) (w : Vec Ideal S2048x2048 .bf16) (t : Fin 4096) (e : Fin 2048) :
    (out x w : Vec Ideal S4096x2048 .f32) (ix2 t e) = ∑ k : Fin 2048, x (ix2 t k) * w (ix2 e k) := by
  pointwise [out]
end Cert.MixDyReferenceIdeal.Val

namespace Cert.GradOutReferenceIdeal.Val
open Cert.GradOutReferenceIdeal Cert.GradOutReferenceIdeal.Gen
/-- The product over the rows. -/
def dot (y g : FVec Ideal S4096x2048 .bf16) : FVec Ideal S2048x2048 .f32 :=
  Host.dotGeneral dot_S1x4096x2048_S1x4096x2048_S2048x2048_01_01_2_2_n_n none (extf .f32 (broadcastInDim S1x4096x2048 ![1, 2] bcast_S4096x2048_S1x4096x2048_1_2 g) bitsLt_bf16_f32) (extf .f32 (broadcastInDim S1x4096x2048 ![1, 2] bcast_S4096x2048_S1x4096x2048_1_2 y) bitsLt_bf16_f32)
/-- The weights' gradient. -/
def out (y g : FVec Ideal S4096x2048 .bf16) : FVec Ideal S2048x2048 .bf16 :=
  truncf .bf16 (transpose S2048x2048 [1, 0] (dot y g) transposes_S2048x2048_S2048x2048_1_0) bitsLt_bf16_f32
theorem dot_apply (y g : Vec Ideal S4096x2048 .bf16) (d e : Fin 2048) :
    (dot y g : Vec Ideal S2048x2048 .f32) (ix2 d e) = ∑ t : Fin 4096, g (ix2 t d) * y (ix2 t e) := by
  pointwise [dot]
  exact Fin.sum_univ_one _
theorem out_apply (y g : Vec Ideal S4096x2048 .bf16) (e d : Fin 2048) :
    (out y g : Vec Ideal S2048x2048 .bf16) (ix2 e d) = ∑ t : Fin 4096, g (ix2 t d) * y (ix2 t e) := by
  refine Eq.trans ?_ (dot_apply y g d e)
  pointwise [out]
end Cert.GradOutReferenceIdeal.Val

namespace Cert.ProjReferenceIdeal.Val
open Cert.ProjReferenceIdeal Cert.ProjReferenceIdeal.Gen
/-- The projection. -/
def dot (x : FVec Ideal S4096x2048 .bf16) (w : FVec Ideal S2048x3072 .bf16) : FVec Ideal S4096x3072 .f32 :=
  shapeCast _ (Host.dotGeneral dot_S1x4096x2048_S2048x3072_S1x4096x3072_2_0_01_1_n_n none (extf .f32 (broadcastInDim S1x4096x2048 ![1, 2] bcast_S4096x2048_S1x4096x2048_1_2 x) bitsLt_bf16_f32) (extf .f32 w bitsLt_bf16_f32)) shapeCasts_S1x4096x3072_S4096x3072
/-- The projection in thirds. -/
def out (x : FVec Ideal S4096x2048 .bf16) (w : FVec Ideal S2048x3072 .bf16) : FVec Ideal S3x4096x1024 .f32 :=
  transpose S3x4096x1024 [1, 0, 2] (shapeCast _ (dot x w) shapeCasts_S4096x3072_S4096x3x1024) transposes_S4096x3x1024_S3x4096x1024_1_0_2
theorem dot_apply (x : Vec Ideal S4096x2048 .bf16) (w : Vec Ideal S2048x3072 .bf16) (t : Fin 4096) (e : Fin 3072) :
    (dot x w : Vec Ideal S4096x3072 .f32) (ix2 t e) = ∑ k : Fin 2048, x (ix2 t k) * w (ix2 k e) := by
  pointwise [dot]
theorem out_apply (x : Vec Ideal S4096x2048 .bf16) (w : Vec Ideal S2048x3072 .bf16) (j : Fin 3) (t : Fin 4096) (e : Fin 1024) :
    (out x w : Vec Ideal S3x4096x1024 .f32) (ix3 j t e) = ∑ k : Fin 2048, x (ix2 t k) * w (ix2 k (Cert.ProjIdeal.Val.col j e)) := by
  refine Eq.trans ?_ (dot_apply x w t (Cert.ProjIdeal.Val.col j e))
  pointwise [out]
  exact congrArg (fun k : Fin 3072 => (dot x w : Vec Ideal S4096x3072 .f32) (ix2 t k)) (Fin.ext (by show j.val * 1024 + e.val = 1024 * j.val + e.val; omega))
end Cert.ProjReferenceIdeal.Val

namespace Cert.ProductsEq

/-! ## The gradient of the mixer's output -/

theorem dy_defs₀ : Cert.MixDy.defs₀ (F := Bits) = Cert.MixDyIdeal.defs₀ (F := Bits) :=
  congrArg (Defs.onTc (nD := Cert.MixDy.nD) (τ := Cert.MixDy.τ) (sig := Cert.MixDy.sig) (Val := Elt Bits) (Λ := Cert.MixDy.Λ₀))
    (funext fun l => funext fun a => match l, a with
      | 0, (_, _) => rfl)
theorem dy_defs : Cert.MixDy.defs (F := Bits) = Cert.MixDyIdeal.defs (F := Bits) :=
  congrArg (Idealize.ShloMosaic.Pipeline.defs Cert.MixDy.pcfgs) dy_defs₀
theorem dy_kernel : Cert.quiescent_MixDy := by
  intro m ρ _
  have h := Cert.MixDyIdeal.Gen.frame (F := Bits) m ρ
  rw [dy_defs]
  exact h
theorem dy_reference : Cert.quiescent_MixDyReferenceIdeal := fun m ρ _ =>
  (θ_run Cert.MixDyReferenceIdeal.defs _ _).mono (fun r h => ⟨fun c => (h c).2, sem_eq_zero_of_no_sems (by decide) r.2⟩)
    (Cert.MixDyReferenceIdeal.Value.run m ρ)
theorem dy_agree : Cert.algebraic_MixDyIdeal_MixDyReferenceIdeal := by
  intro m ρ m' ρ' _ hargs
  refine ⟨fun c => (Cert.MixDyIdeal.Gen.dats m 0 c).arrAt 2 Cert.MixDyIdeal.cfg0.N, Cert.MixDyIdeal.Value.run_blocks m ρ, ?_⟩
  refine (θ_run Cert.MixDyReferenceIdeal.defs _ _).mono (fun r h c => ⟨(h c).1.trans ?_, (h c).2⟩) (Cert.MixDyReferenceIdeal.Value.run m' ρ')
  obtain ⟨e0, e1⟩ := hargs c
  funext i
  rw [ValueIdx.eq_ix2 i]
  refine (Cert.MixDyReferenceIdeal.Val.out_apply _ _ (i 0) (i 1)).trans (Eq.trans ?_ (Cert.MixDyIdeal.Val.array c m (i 0) (i 1)).symm)
  exact Finset.sum_congr rfl fun k _ => congrArg₂ (fun a b : EReal => a * b) (congrFun e0 _) (congrFun e1 _)

/-! ## The gradient of the output weights -/

theorem gw_defs₀ : Cert.GradOut.defs₀ (F := Bits) = Cert.GradOutIdeal.defs₀ (F := Bits) :=
  congrArg (Defs.onTc (nD := Cert.GradOut.nD) (τ := Cert.GradOut.τ) (sig := Cert.GradOut.sig) (Val := Elt Bits) (Λ := Cert.GradOut.Λ₀))
    (funext fun l => funext fun a => match l, a with
      | 0, (_, _) => rfl)
theorem gw_defs : Cert.GradOut.defs (F := Bits) = Cert.GradOutIdeal.defs (F := Bits) :=
  congrArg (Idealize.ShloMosaic.Pipeline.defs Cert.GradOut.pcfgs) gw_defs₀
theorem gw_kernel : Cert.quiescent_GradOut := by
  intro m ρ _
  have h := Cert.GradOutIdeal.Gen.frame (F := Bits) m ρ
  rw [gw_defs]
  exact h
theorem gw_reference : Cert.quiescent_GradOutReferenceIdeal := fun m ρ _ =>
  (θ_run Cert.GradOutReferenceIdeal.defs _ _).mono (fun r h => ⟨fun c => (h c).2, sem_eq_zero_of_no_sems (by decide) r.2⟩)
    (Cert.GradOutReferenceIdeal.Value.run m ρ)
theorem gw_agree : Cert.algebraic_GradOutIdeal_GradOutReferenceIdeal := by
  intro m ρ m' ρ' _ hargs
  refine ⟨fun c => (Cert.GradOutIdeal.Gen.dats m 0 c).arrAt 2 Cert.GradOutIdeal.cfg0.N, Cert.GradOutIdeal.Value.run_blocks m ρ, ?_⟩
  refine (θ_run Cert.GradOutReferenceIdeal.defs _ _).mono (fun r h c => ⟨(h c).1.trans ?_, (h c).2⟩) (Cert.GradOutReferenceIdeal.Value.run m' ρ')
  obtain ⟨e0, e1⟩ := hargs c
  funext i
  rw [ValueIdx.eq_ix2 i]
  refine (Cert.GradOutReferenceIdeal.Val.out_apply _ _ (i 0) (i 1)).trans (Eq.trans ?_ (Cert.GradOutIdeal.Val.array c m (i 0) (i 1)).symm)
  exact Finset.sum_congr rfl fun t _ => (@mul_comm EReal _ _ _).trans (congrArg₂ (fun a b : EReal => a * b) (congrFun e0 _) (congrFun e1 _))

/-! ## The projection -/

theorem proj_defs₀ : Cert.Proj.defs₀ (F := Bits) = Cert.ProjIdeal.defs₀ (F := Bits) :=
  congrArg (Defs.onTc (nD := Cert.Proj.nD) (τ := Cert.Proj.τ) (sig := Cert.Proj.sig) (Val := Elt Bits) (Λ := Cert.Proj.Λ₀))
    (funext fun l => funext fun a => match l, a with
      | 0, (_, _) => rfl)
theorem proj_defs : Cert.Proj.defs (F := Bits) = Cert.ProjIdeal.defs (F := Bits) :=
  congrArg (Idealize.ShloMosaic.Pipeline.defs Cert.Proj.pcfgs) proj_defs₀
theorem proj_kernel : Cert.quiescent_Proj := by
  intro m ρ _
  have h := Cert.ProjIdeal.Gen.frame (F := Bits) m ρ
  rw [proj_defs]
  exact h
theorem proj_reference : Cert.quiescent_ProjReferenceIdeal := fun m ρ _ =>
  (θ_run Cert.ProjReferenceIdeal.defs _ _).mono (fun r h => ⟨fun c => (h c).2, sem_eq_zero_of_no_sems (by decide) r.2⟩)
    (Cert.ProjReferenceIdeal.Value.run m ρ)
theorem proj_agree : Cert.algebraic_ProjIdeal_ProjReferenceIdeal := by
  intro m ρ m' ρ' _ hargs
  refine ⟨fun c => (Cert.ProjIdeal.Gen.dats m 0 c).arrAt 2 Cert.ProjIdeal.cfg0.N, Cert.ProjIdeal.Value.run_blocks m ρ, ?_⟩
  refine (θ_run Cert.ProjReferenceIdeal.defs _ _).mono (fun r h c => ⟨(h c).1.trans ?_, (h c).2⟩) (Cert.ProjReferenceIdeal.Value.run m' ρ')
  obtain ⟨e0, e1⟩ := hargs c
  funext i
  rw [ValueIdx.eq_ix3 i]
  refine (Cert.ProjReferenceIdeal.Val.out_apply _ _ (i 0) (i 1) (i 2)).trans (Eq.trans ?_ (Cert.ProjIdeal.Val.array c m (i 0) (i 1) (i 2)).symm)
  exact Finset.sum_congr rfl fun k _ => congrArg₂ (fun a b : EReal => a * b) (congrFun e0 _) (congrFun e1 _)

end Cert.ProductsEq
-- ==== Proof.lean ====
/-
  The certificate: each program and its reference run as claimed, and agree over the extended reals (the pool's where its
  kernels write). A program's run is written once, over any float values; both frames are it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.On_pool_written
public import proofs.«01_k».proof.Proof.Gen.ReferenceIdeal.Run
public import proofs.«01_k».proof.Proof.Equation
public import proofs.«01_k».proof.Proof.ActEquation
public import proofs.«01_k».proof.Proof.StepXEquation
public import proofs.«01_k».proof.Proof.StepInEquation
public import proofs.«01_k».proof.Proof.AdamW1
public import proofs.«01_k».proof.Proof.AdamWin
public import proofs.«01_k».proof.Proof.AdamPool
public import proofs.«01_k».proof.Proof.ProductsEquation

@[expose] public section

noncomputable section

namespace Cert.Proof

open Idealize.ShloMosaic Idealize.ShloMosaic.StableHlo Idealize.SL.Sem

/-- The program ends with the arguments unchanged and the counters at zero. -/
theorem frame_ideal : Cert.quiescent_KernelIdeal := fun m ρ _ =>
  (θ_run Cert.KernelIdeal.defs _ _).mono (fun _ h => ⟨Cert.KernelIdeal.Run.whole_args m ρ h.1, h.2⟩) (Cert.KernelIdeal.Run.whole (F := Ideal) m ρ)

set_option maxRecDepth 65536 in
/-- The two programs have the same kernels. -/
theorem defs₀_eq : Cert.Kernel.defs₀ (F := Bits) = Cert.KernelIdeal.defs₀ (F := Bits) :=
  congrArg (Defs.onTc (nD := Cert.Kernel.nD) (τ := Cert.Kernel.τ) (sig := Cert.Kernel.sig) (Val := Elt Bits) (Λ := Cert.Kernel.Λ₀))
    (funext fun l => funext fun a => match l, a with
      | 0, (_, _) => rfl
      | 1, (_, _) => rfl)

set_option maxRecDepth 65536 in
/-- The two programs have the same procedures. -/
theorem defs_eq : Cert.Kernel.defs (F := Bits) = Cert.KernelIdeal.defs (F := Bits) :=
  congrArg (Idealize.ShloMosaic.Pipeline.defs Cert.Kernel.pcfgs) defs₀_eq

set_option maxRecDepth 65536 in
/-- The same at the machine's floats. -/
theorem frame_kernel : Cert.quiescent_Kernel := by
  intro m ρ _
  have h := (θ_run Cert.KernelIdeal.defs _ _).mono (fun r h => (⟨Cert.KernelIdeal.Run.whole_args m ρ h.1, h.2⟩ :
    (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0))
    (Cert.KernelIdeal.Run.whole (F := Bits) m ρ)
  rw [defs_eq]
  exact h

/-- The reference ends with the arguments unchanged; it has no counters. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Pool.result m ρ)

/-- Kernel and reference agree where the kernels write. -/
theorem agree : Cert.algebraic_KernelIdeal_ReferenceIdeal_on_pool_written := by
  intro m ρ m' ρ' _ hargs
  refine ⟨fun c => Cert.KernelIdeal.Run.W3 m ρ c (Proc.devRef .tc Cert.KernelIdeal.main_v2_1),
    fun c => Cert.KernelIdeal.Run.W3 m ρ c (Proc.devRef .tc Cert.KernelIdeal.main_v3_0),
    fun c => Cert.KernelIdeal.Run.W3 m ρ c (Proc.devRef .tc Cert.KernelIdeal.main_v3_1),
    fun c => Cert.KernelIdeal.Run.W3 m ρ c (Proc.devRef .tc Cert.KernelIdeal.main_v3_2), ?_, ?_⟩
  · refine (θ_run Cert.KernelIdeal.defs _ _).mono (fun r h c => ?_) (Cert.KernelIdeal.Run.whole (F := Ideal) m ρ)
    exact ⟨fun i _ => congrFun (Cert.KernelIdeal.Run.whole_buf m ρ h.1 c Cert.KernelIdeal.main_v2_1 (by decide)) i,
      fun i _ => congrFun (Cert.KernelIdeal.Run.whole_buf m ρ h.1 c Cert.KernelIdeal.main_v3_0 (by decide)) i,
      fun i _ => congrFun (Cert.KernelIdeal.Run.whole_buf m ρ h.1 c Cert.KernelIdeal.main_v3_1 (by decide)) i,
      fun i _ => congrFun (Cert.KernelIdeal.Run.whole_buf m ρ h.1 c Cert.KernelIdeal.main_v3_2 (by decide)) i,
      Cert.KernelIdeal.Run.whole_args m ρ h.1 c⟩
  · refine (θ_run Cert.ReferenceIdeal.defs _ _).mono (fun r h c => ?_) (Cert.ReferenceIdeal.Pool.result m' ρ')
    obtain ⟨h0, h1, h2, h3, ha⟩ := h c
    obtain ⟨e0, e1, e2, e3, -⟩ := hargs c
    simp only [ReferenceIdeal.Pool.dgrad, PoolEq.chan_eq m m' c e0, PoolEq.mat_eq m m' c e1, PoolEq.scl_eq m m' c e2, PoolEq.outGrad_eq m m' c e3] at h0 h1 h2 h3
    exact ⟨fun i hi => PoolEq.eq_y m c ρ _ h0 i (PoolEq.mask_y _ _ _ _ _ i hi),
      fun i hi => PoolEq.eq_du m c ρ _ h1 i (PoolEq.mask_du _ _ _ _ _ i hi),
      fun i _ => PoolEq.eq_dw m c ρ _ h2 i,
      fun i _ => PoolEq.eq_ds m c ρ _ h3 i, ha⟩

theorem claim : Cert.Claim := ⟨Cert.Kernel.Gen.facts, Cert.KernelIdeal.Gen.facts, Cert.ReferenceIdeal.Gen.facts,
  Cert.Hidden.Gen.facts, Cert.HiddenIdeal.Gen.facts, Cert.HiddenReferenceIdeal.Gen.facts,
  Cert.MlpOut.Gen.facts, Cert.MlpOutIdeal.Gen.facts, Cert.MlpOutReferenceIdeal.Gen.facts,
  Cert.MlpDx.Gen.facts, Cert.MlpDxIdeal.Gen.facts, Cert.MlpDxReferenceIdeal.Gen.facts,
  Cert.GradW.Gen.facts, Cert.GradWIdeal.Gen.facts, Cert.GradWReferenceIdeal.Gen.facts,
  Cert.GradX.Gen.facts, Cert.GradXIdeal.Gen.facts, Cert.GradXReferenceIdeal.Gen.facts,
  Cert.InStep.Gen.facts, Cert.InStepIdeal.Gen.facts, Cert.InStepReferenceIdeal.Gen.facts,
  Cert.MixDy.Gen.facts, Cert.MixDyIdeal.Gen.facts, Cert.MixDyReferenceIdeal.Gen.facts,
  Cert.GradOut.Gen.facts, Cert.GradOutIdeal.Gen.facts, Cert.GradOutReferenceIdeal.Gen.facts,
  Cert.Proj.Gen.facts, Cert.ProjIdeal.Gen.facts, Cert.ProjReferenceIdeal.Gen.facts,
  Cert.AdamW1.Gen.facts, Cert.AdamW1Ideal.Gen.facts, Cert.AdamW1ReferenceIdeal.Gen.facts,
  Cert.AdamWin.Gen.facts, Cert.AdamWinIdeal.Gen.facts, Cert.AdamWinReferenceIdeal.Gen.facts,
  Cert.AdamPool.Gen.facts, Cert.AdamPoolIdeal.Gen.facts, Cert.AdamPoolReferenceIdeal.Gen.facts,
  Cert.On_pool_written.Gen.facts,
  frame_kernel, frame_ideal, frame_reference,
  Cert.LayerEq.hid_kernel, fun m ρ _ => Cert.HiddenIdeal.Gen.frame m ρ, Cert.LayerEq.hid_reference,
  Cert.LayerEq.out_kernel, fun m ρ _ => Cert.MlpOutIdeal.Gen.frame m ρ, Cert.LayerEq.out_reference,
  Cert.LayerEq.dx_kernel, fun m ρ _ => Cert.MlpDxIdeal.Gen.frame m ρ, Cert.LayerEq.dx_reference,
  Cert.LayerEq.gw_kernel, fun m ρ _ => Cert.GradWIdeal.Gen.frame m ρ, Cert.LayerEq.gw_reference,
  Cert.StepXEq.kernel, fun m ρ _ => Cert.GradXIdeal.Gen.frame m ρ, Cert.StepXEq.reference,
  Cert.StepInEq.kernel, fun m ρ _ => Cert.InStepIdeal.Gen.frame m ρ, Cert.StepInEq.reference,
  Cert.ProductsEq.dy_kernel, fun m ρ _ => Cert.MixDyIdeal.Gen.frame m ρ, Cert.ProductsEq.dy_reference,
  Cert.ProductsEq.gw_kernel, fun m ρ _ => Cert.GradOutIdeal.Gen.frame m ρ, Cert.ProductsEq.gw_reference,
  Cert.ProductsEq.proj_kernel, fun m ρ _ => Cert.ProjIdeal.Gen.frame m ρ, Cert.ProductsEq.proj_reference,
  Cert.AdamW1Ideal.Val.kernel, fun m ρ _ => Cert.AdamW1Ideal.Gen.frame m ρ, Cert.AdamW1Ideal.Val.reference,
  Cert.AdamWinIdeal.Val.kernel, fun m ρ _ => Cert.AdamWinIdeal.Gen.frame m ρ, Cert.AdamWinIdeal.Val.reference,
  Cert.AdamPoolIdeal.Val.kernel, fun m ρ _ => Cert.AdamPoolIdeal.Gen.frame m ρ, Cert.AdamPoolIdeal.Val.reference,
  trivial, agree, trivial, Cert.LayerEq.hid_agree, trivial, Cert.LayerEq.out_agree, trivial, Cert.LayerEq.dx_agree,
  trivial, Cert.LayerEq.gw_agree, trivial, Cert.StepXEq.agree,
  trivial, Cert.StepInEq.agree, trivial, Cert.ProductsEq.dy_agree, trivial, Cert.ProductsEq.gw_agree, trivial, Cert.ProductsEq.proj_agree,
  trivial, Cert.AdamW1Ideal.Val.agree, trivial, Cert.AdamWinIdeal.Val.agree, trivial, Cert.AdamPoolIdeal.Val.agree⟩

end Cert.Proof

end
